-- ==== Defs.lean ====
def Pre_KernelFirst (m : (ℓ : Loc Cert.KernelFirst.nD Cert.KernelFirst.τ Cert.KernelFirst.sig) → Buf (Elt Bits) ℓ) : Prop :=
  True

def Pre_KernelFirstIdeal (m : (ℓ : Loc Cert.KernelFirstIdeal.nD Cert.KernelFirstIdeal.τ Cert.KernelFirstIdeal.sig) → Buf (Elt Ideal) ℓ) : Prop :=
  True

def Pre_RefFirstIdeal (m : (ℓ : Loc Cert.RefFirstIdeal.nD Cert.RefFirstIdeal.τ Cert.RefFirstIdeal.sig) → Buf (Elt Ideal) ℓ) : Prop :=
  True

def Pre_KernelAtt (m : (ℓ : Loc Cert.KernelAtt.nD Cert.KernelAtt.τ Cert.KernelAtt.sig) → Buf (Elt Bits) ℓ) : Prop :=
  True

def Pre_KernelAttIdeal (m : (ℓ : Loc Cert.KernelAttIdeal.nD Cert.KernelAttIdeal.τ Cert.KernelAttIdeal.sig) → Buf (Elt Ideal) ℓ) : Prop :=
  True

def Pre_KernelAttIdeal_scores_finite [hPre_scores_finite : Cert.Pre_scores_finite.Facts] (m : (ℓ : Loc Cert.KernelAttIdeal.nD Cert.KernelAttIdeal.τ Cert.KernelAttIdeal.sig) → Buf (Elt Ideal) ℓ) : Prop :=
  ∀ c : Dev Cert.KernelAttIdeal.nD,
    (Cert.Pre_scores_finite.fn (F := Ideal) (m ((c.tc : Thread Cert.KernelAttIdeal.nD Cert.KernelAttIdeal.τ).loc Cert.KernelAttIdeal.main_arg0)) (m ((c.tc : Thread Cert.KernelAttIdeal.nD Cert.KernelAttIdeal.τ).loc Cert.KernelAttIdeal.main_arg1)) (m ((c.tc : Thread Cert.KernelAttIdeal.nD Cert.KernelAttIdeal.τ).loc Cert.KernelAttIdeal.main_arg2))).1 = (fun _ => 1#1)
    ∧ (Cert.Pre_scores_finite.fn (F := Ideal) (m ((c.tc : Thread Cert.KernelAttIdeal.nD Cert.KernelAttIdeal.τ).loc Cert.KernelAttIdeal.main_arg0)) (m ((c.tc : Thread Cert.KernelAttIdeal.nD Cert.KernelAttIdeal.τ).loc Cert.KernelAttIdeal.main_arg1)) (m ((c.tc : Thread Cert.KernelAttIdeal.nD Cert.KernelAttIdeal.τ).loc Cert.KernelAttIdeal.main_arg2))).2 = (fun _ => 1#1)

def Pre_RefAttIdeal (m : (ℓ : Loc Cert.RefAttIdeal.nD Cert.RefAttIdeal.τ Cert.RefAttIdeal.sig) → Buf (Elt Ideal) ℓ) : Prop :=
  True

def Pre_RefAttIdeal_scores_finite [hPre_scores_finite : Cert.Pre_scores_finite.Facts] (m : (ℓ : Loc Cert.RefAttIdeal.nD Cert.RefAttIdeal.τ Cert.RefAttIdeal.sig) → Buf (Elt Ideal) ℓ) : Prop :=
  ∀ c : Dev Cert.RefAttIdeal.nD,
    (Cert.Pre_scores_finite.fn (F := Ideal) (m ((c.tc : Thread Cert.RefAttIdeal.nD Cert.RefAttIdeal.τ).loc Cert.RefAttIdeal.main_arg0)) (m ((c.tc : Thread Cert.RefAttIdeal.nD Cert.RefAttIdeal.τ).loc Cert.RefAttIdeal.main_arg1)) (m ((c.tc : Thread Cert.RefAttIdeal.nD Cert.RefAttIdeal.τ).loc Cert.RefAttIdeal.main_arg2))).1 = (fun _ => 1#1)
    ∧ (Cert.Pre_scores_finite.fn (F := Ideal) (m ((c.tc : Thread Cert.RefAttIdeal.nD Cert.RefAttIdeal.τ).loc Cert.RefAttIdeal.main_arg0)) (m ((c.tc : Thread Cert.RefAttIdeal.nD Cert.RefAttIdeal.τ).loc Cert.RefAttIdeal.main_arg1)) (m ((c.tc : Thread Cert.RefAttIdeal.nD Cert.RefAttIdeal.τ).loc Cert.RefAttIdeal.main_arg2))).2 = (fun _ => 1#1)

def Pre_KernelEpi (m : (ℓ : Loc Cert.KernelEpi.nD Cert.KernelEpi.τ Cert.KernelEpi.sig) → Buf (Elt Bits) ℓ) : Prop :=
  True

def Pre_KernelEpiIdeal (m : (ℓ : Loc Cert.KernelEpiIdeal.nD Cert.KernelEpiIdeal.τ Cert.KernelEpiIdeal.sig) → Buf (Elt Ideal) ℓ) : Prop :=
  True

def Pre_RefEpiIdeal (m : (ℓ : Loc Cert.RefEpiIdeal.nD Cert.RefEpiIdeal.τ Cert.RefEpiIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_RefAdaIdeal (m : (ℓ : Loc Cert.RefAdaIdeal.nD Cert.RefAdaIdeal.τ Cert.RefAdaIdeal.sig) → Buf (Elt Ideal) ℓ) : Prop :=
  True

def Pre_KernelRel (m : (ℓ : Loc Cert.KernelRel.nD Cert.KernelRel.τ Cert.KernelRel.sig) → Buf (Elt Bits) ℓ) : Prop :=
  True

def Pre_KernelRelIdeal (m : (ℓ : Loc Cert.KernelRelIdeal.nD Cert.KernelRelIdeal.τ Cert.KernelRelIdeal.sig) → Buf (Elt Ideal) ℓ) : Prop :=
  True

def Pre_RefRelIdeal (m : (ℓ : Loc Cert.RefRelIdeal.nD Cert.RefRelIdeal.τ Cert.RefRelIdeal.sig) → Buf (Elt Ideal) ℓ) : Prop :=
  True

def Pre_KernelHead (m : (ℓ : Loc Cert.KernelHead.nD Cert.KernelHead.τ Cert.KernelHead.sig) → Buf (Elt Bits) ℓ) : Prop :=
  True

def Pre_KernelHeadIdeal (m : (ℓ : Loc Cert.KernelHeadIdeal.nD Cert.KernelHeadIdeal.τ Cert.KernelHeadIdeal.sig) → Buf (Elt Ideal) ℓ) : Prop :=
  True

def Pre_KernelHeadIdeal_head_finite [hPre_head_finite : Cert.Pre_head_finite.Facts] (m : (ℓ : Loc Cert.KernelHeadIdeal.nD Cert.KernelHeadIdeal.τ Cert.KernelHeadIdeal.sig) → Buf (Elt Ideal) ℓ) : Prop :=
  ∀ c : Dev Cert.KernelHeadIdeal.nD,
    (Cert.Pre_head_finite.fn (F := Ideal) (m ((c.tc : Thread Cert.KernelHeadIdeal.nD Cert.KernelHeadIdeal.τ).loc Cert.KernelHeadIdeal.main_arg0)) (m ((c.tc : Thread Cert.KernelHeadIdeal.nD Cert.KernelHeadIdeal.τ).loc Cert.KernelHeadIdeal.main_arg1)) (m ((c.tc : Thread Cert.KernelHeadIdeal.nD Cert.KernelHeadIdeal.τ).loc Cert.KernelHeadIdeal.main_arg2)) (m ((c.tc : Thread Cert.KernelHeadIdeal.nD Cert.KernelHeadIdeal.τ).loc Cert.KernelHeadIdeal.main_arg3)) (m ((c.tc : Thread Cert.KernelHeadIdeal.nD Cert.KernelHeadIdeal.τ).loc Cert.KernelHeadIdeal.main_arg4)) (m ((c.tc : Thread Cert.KernelHeadIdeal.nD Cert.KernelHeadIdeal.τ).loc Cert.KernelHeadIdeal.main_arg5))).1 = (fun _ => 1#1)
    ∧ (Cert.Pre_head_finite.fn (F := Ideal) (m ((c.tc : Thread Cert.KernelHeadIdeal.nD Cert.KernelHeadIdeal.τ).loc Cert.KernelHeadIdeal.main_arg0)) (m ((c.tc : Thread Cert.KernelHeadIdeal.nD Cert.KernelHeadIdeal.τ).loc Cert.KernelHeadIdeal.main_arg1)) (m ((c.tc : Thread Cert.KernelHeadIdeal.nD Cert.KernelHeadIdeal.τ).loc Cert.KernelHeadIdeal.main_arg2)) (m ((c.tc : Thread Cert.KernelHeadIdeal.nD Cert.KernelHeadIdeal.τ).loc Cert.KernelHeadIdeal.main_arg3)) (m ((c.tc : Thread Cert.KernelHeadIdeal.nD Cert.KernelHeadIdeal.τ).loc Cert.KernelHeadIdeal.main_arg4)) (m ((c.tc : Thread Cert.KernelHeadIdeal.nD Cert.KernelHeadIdeal.τ).loc Cert.KernelHeadIdeal.main_arg5))).2.1 = (fun _ => 1#1)
    ∧ (Cert.Pre_head_finite.fn (F := Ideal) (m ((c.tc : Thread Cert.KernelHeadIdeal.nD Cert.KernelHeadIdeal.τ).loc Cert.KernelHeadIdeal.main_arg0)) (m ((c.tc : Thread Cert.KernelHeadIdeal.nD Cert.KernelHeadIdeal.τ).loc Cert.KernelHeadIdeal.main_arg1)) (m ((c.tc : Thread Cert.KernelHeadIdeal.nD Cert.KernelHeadIdeal.τ).loc Cert.KernelHeadIdeal.main_arg2)) (m ((c.tc : Thread Cert.KernelHeadIdeal.nD Cert.KernelHeadIdeal.τ).loc Cert.KernelHeadIdeal.main_arg3)) (m ((c.tc : Thread Cert.KernelHeadIdeal.nD Cert.KernelHeadIdeal.τ).loc Cert.KernelHeadIdeal.main_arg4)) (m ((c.tc : Thread Cert.KernelHeadIdeal.nD Cert.KernelHeadIdeal.τ).loc Cert.KernelHeadIdeal.main_arg5))).2.2.1 = (fun _ => 1#1)
    ∧ (Cert.Pre_head_finite.fn (F := Ideal) (m ((c.tc : Thread Cert.KernelHeadIdeal.nD Cert.KernelHeadIdeal.τ).loc Cert.KernelHeadIdeal.main_arg0)) (m ((c.tc : Thread Cert.KernelHeadIdeal.nD Cert.KernelHeadIdeal.τ).loc Cert.KernelHeadIdeal.main_arg1)) (m ((c.tc : Thread Cert.KernelHeadIdeal.nD Cert.KernelHeadIdeal.τ).loc Cert.KernelHeadIdeal.main_arg2)) (m ((c.tc : Thread Cert.KernelHeadIdeal.nD Cert.KernelHeadIdeal.τ).loc Cert.KernelHeadIdeal.main_arg3)) (m ((c.tc : Thread Cert.KernelHeadIdeal.nD Cert.KernelHeadIdeal.τ).loc Cert.KernelHeadIdeal.main_arg4)) (m ((c.tc : Thread Cert.KernelHeadIdeal.nD Cert.KernelHeadIdeal.τ).loc Cert.KernelHeadIdeal.main_arg5))).2.2.2.1 = (fun _ => 1#1)
    ∧ (Cert.Pre_head_finite.fn (F := Ideal) (m ((c.tc : Thread Cert.KernelHeadIdeal.nD Cert.KernelHeadIdeal.τ).loc Cert.KernelHeadIdeal.main_arg0)) (m ((c.tc : Thread Cert.KernelHeadIdeal.nD Cert.KernelHeadIdeal.τ).loc Cert.KernelHeadIdeal.main_arg1)) (m ((c.tc : Thread Cert.KernelHeadIdeal.nD Cert.KernelHeadIdeal.τ).loc Cert.KernelHeadIdeal.main_arg2)) (m ((c.tc : Thread Cert.KernelHeadIdeal.nD Cert.KernelHeadIdeal.τ).loc Cert.KernelHeadIdeal.main_arg3)) (m ((c.tc : Thread Cert.KernelHeadIdeal.nD Cert.KernelHeadIdeal.τ).loc Cert.KernelHeadIdeal.main_arg4)) (m ((c.tc : Thread Cert.KernelHeadIdeal.nD Cert.KernelHeadIdeal.τ).loc Cert.KernelHeadIdeal.main_arg5))).2.2.2.2.1 = (fun _ => 1#1)
    ∧ (Cert.Pre_head_finite.fn (F := Ideal) (m ((c.tc : Thread Cert.KernelHeadIdeal.nD Cert.KernelHeadIdeal.τ).loc Cert.KernelHeadIdeal.main_arg0)) (m ((c.tc : Thread Cert.KernelHeadIdeal.nD Cert.KernelHeadIdeal.τ).loc Cert.KernelHeadIdeal.main_arg1)) (m ((c.tc : Thread Cert.KernelHeadIdeal.nD Cert.KernelHeadIdeal.τ).loc Cert.KernelHeadIdeal.main_arg2)) (m ((c.tc : Thread Cert.KernelHeadIdeal.nD Cert.KernelHeadIdeal.τ).loc Cert.KernelHeadIdeal.main_arg3)) (m ((c.tc : Thread Cert.KernelHeadIdeal.nD Cert.KernelHeadIdeal.τ).loc Cert.KernelHeadIdeal.main_arg4)) (m ((c.tc : Thread Cert.KernelHeadIdeal.nD Cert.KernelHeadIdeal.τ).loc Cert.KernelHeadIdeal.main_arg5))).2.2.2.2.2 = (fun _ => 1#1)

def Pre_RefHeadIdeal (m : (ℓ : Loc Cert.RefHeadIdeal.nD Cert.RefHeadIdeal.τ Cert.RefHeadIdeal.sig) → Buf (Elt Ideal) ℓ) : Prop :=
  True

def Pre_RefHeadIdeal_head_finite [hPre_head_finite : Cert.Pre_head_finite.Facts] (m : (ℓ : Loc Cert.RefHeadIdeal.nD Cert.RefHeadIdeal.τ Cert.RefHeadIdeal.sig) → Buf (Elt Ideal) ℓ) : Prop :=
  ∀ c : Dev Cert.RefHeadIdeal.nD,
    (Cert.Pre_head_finite.fn (F := Ideal) (m ((c.tc : Thread Cert.RefHeadIdeal.nD Cert.RefHeadIdeal.τ).loc Cert.RefHeadIdeal.main_arg0)) (m ((c.tc : Thread Cert.RefHeadIdeal.nD Cert.RefHeadIdeal.τ).loc Cert.RefHeadIdeal.main_arg1)) (m ((c.tc : Thread Cert.RefHeadIdeal.nD Cert.RefHeadIdeal.τ).loc Cert.RefHeadIdeal.main_arg2)) (m ((c.tc : Thread Cert.RefHeadIdeal.nD Cert.RefHeadIdeal.τ).loc Cert.RefHeadIdeal.main_arg3)) (m ((c.tc : Thread Cert.RefHeadIdeal.nD Cert.RefHeadIdeal.τ).loc Cert.RefHeadIdeal.main_arg4)) (m ((c.tc : Thread Cert.RefHeadIdeal.nD Cert.RefHeadIdeal.τ).loc Cert.RefHeadIdeal.main_arg5))).1 = (fun _ => 1#1)
    ∧ (Cert.Pre_head_finite.fn (F := Ideal) (m ((c.tc : Thread Cert.RefHeadIdeal.nD Cert.RefHeadIdeal.τ).loc Cert.RefHeadIdeal.main_arg0)) (m ((c.tc : Thread Cert.RefHeadIdeal.nD Cert.RefHeadIdeal.τ).loc Cert.RefHeadIdeal.main_arg1)) (m ((c.tc : Thread Cert.RefHeadIdeal.nD Cert.RefHeadIdeal.τ).loc Cert.RefHeadIdeal.main_arg2)) (m ((c.tc : Thread Cert.RefHeadIdeal.nD Cert.RefHeadIdeal.τ).loc Cert.RefHeadIdeal.main_arg3)) (m ((c.tc : Thread Cert.RefHeadIdeal.nD Cert.RefHeadIdeal.τ).loc Cert.RefHeadIdeal.main_arg4)) (m ((c.tc : Thread Cert.RefHeadIdeal.nD Cert.RefHeadIdeal.τ).loc Cert.RefHeadIdeal.main_arg5))).2.1 = (fun _ => 1#1)
    ∧ (Cert.Pre_head_finite.fn (F := Ideal) (m ((c.tc : Thread Cert.RefHeadIdeal.nD Cert.RefHeadIdeal.τ).loc Cert.RefHeadIdeal.main_arg0)) (m ((c.tc : Thread Cert.RefHeadIdeal.nD Cert.RefHeadIdeal.τ).loc Cert.RefHeadIdeal.main_arg1)) (m ((c.tc : Thread Cert.RefHeadIdeal.nD Cert.RefHeadIdeal.τ).loc Cert.RefHeadIdeal.main_arg2)) (m ((c.tc : Thread Cert.RefHeadIdeal.nD Cert.RefHeadIdeal.τ).loc Cert.RefHeadIdeal.main_arg3)) (m ((c.tc : Thread Cert.RefHeadIdeal.nD Cert.RefHeadIdeal.τ).loc Cert.RefHeadIdeal.main_arg4)) (m ((c.tc : Thread Cert.RefHeadIdeal.nD Cert.RefHeadIdeal.τ).loc Cert.RefHeadIdeal.main_arg5))).2.2.1 = (fun _ => 1#1)
    ∧ (Cert.Pre_head_finite.fn (F := Ideal) (m ((c.tc : Thread Cert.RefHeadIdeal.nD Cert.RefHeadIdeal.τ).loc Cert.RefHeadIdeal.main_arg0)) (m ((c.tc : Thread Cert.RefHeadIdeal.nD Cert.RefHeadIdeal.τ).loc Cert.RefHeadIdeal.main_arg1)) (m ((c.tc : Thread Cert.RefHeadIdeal.nD Cert.RefHeadIdeal.τ).loc Cert.RefHeadIdeal.main_arg2)) (m ((c.tc : Thread Cert.RefHeadIdeal.nD Cert.RefHeadIdeal.τ).loc Cert.RefHeadIdeal.main_arg3)) (m ((c.tc : Thread Cert.RefHeadIdeal.nD Cert.RefHeadIdeal.τ).loc Cert.RefHeadIdeal.main_arg4)) (m ((c.tc : Thread Cert.RefHeadIdeal.nD Cert.RefHeadIdeal.τ).loc Cert.RefHeadIdeal.main_arg5))).2.2.2.1 = (fun _ => 1#1)
    ∧ (Cert.Pre_head_finite.fn (F := Ideal) (m ((c.tc : Thread Cert.RefHeadIdeal.nD Cert.RefHeadIdeal.τ).loc Cert.RefHeadIdeal.main_arg0)) (m ((c.tc : Thread Cert.RefHeadIdeal.nD Cert.RefHeadIdeal.τ).loc Cert.RefHeadIdeal.main_arg1)) (m ((c.tc : Thread Cert.RefHeadIdeal.nD Cert.RefHeadIdeal.τ).loc Cert.RefHeadIdeal.main_arg2)) (m ((c.tc : Thread Cert.RefHeadIdeal.nD Cert.RefHeadIdeal.τ).loc Cert.RefHeadIdeal.main_arg3)) (m ((c.tc : Thread Cert.RefHeadIdeal.nD Cert.RefHeadIdeal.τ).loc Cert.RefHeadIdeal.main_arg4)) (m ((c.tc : Thread Cert.RefHeadIdeal.nD Cert.RefHeadIdeal.τ).loc Cert.RefHeadIdeal.main_arg5))).2.2.2.2.1 = (fun _ => 1#1)
    ∧ (Cert.Pre_head_finite.fn (F := Ideal) (m ((c.tc : Thread Cert.RefHeadIdeal.nD Cert.RefHeadIdeal.τ).loc Cert.RefHeadIdeal.main_arg0)) (m ((c.tc : Thread Cert.RefHeadIdeal.nD Cert.RefHeadIdeal.τ).loc Cert.RefHeadIdeal.main_arg1)) (m ((c.tc : Thread Cert.RefHeadIdeal.nD Cert.RefHeadIdeal.τ).loc Cert.RefHeadIdeal.main_arg2)) (m ((c.tc : Thread Cert.RefHeadIdeal.nD Cert.RefHeadIdeal.τ).loc Cert.RefHeadIdeal.main_arg3)) (m ((c.tc : Thread Cert.RefHeadIdeal.nD Cert.RefHeadIdeal.τ).loc Cert.RefHeadIdeal.main_arg4)) (m ((c.tc : Thread Cert.RefHeadIdeal.nD Cert.RefHeadIdeal.τ).loc Cert.RefHeadIdeal.main_arg5))).2.2.2.2.2 = (fun _ => 1#1)

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_KernelMidIdeal_mid_finite [hPre_mid_finite : Cert.Pre_mid_finite.Facts] (m : (ℓ : Loc Cert.KernelMidIdeal.nD Cert.KernelMidIdeal.τ Cert.KernelMidIdeal.sig) → Buf (Elt Ideal) ℓ) : Prop :=
  ∀ c : Dev Cert.KernelMidIdeal.nD,
    (Cert.Pre_mid_finite.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7))).1 = (fun _ => 1#1)
    ∧ (Cert.Pre_mid_finite.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7))).2.1 = (fun _ => 1#1)
    ∧ (Cert.Pre_mid_finite.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7))).2.2.1 = (fun _ => 1#1)
    ∧ (Cert.Pre_mid_finite.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7))).2.2.2.1 = (fun _ => 1#1)
    ∧ (Cert.Pre_mid_finite.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7))).2.2.2.2.1 = (fun _ => 1#1)
    ∧ (Cert.Pre_mid_finite.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7))).2.2.2.2.2.1 = (fun _ => 1#1)
    ∧ (Cert.Pre_mid_finite.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7))).2.2.2.2.2.2 = (fun _ => 1#1)

def Pre_RefMidIdeal (m : (ℓ : Loc Cert.RefMidIdeal.nD Cert.RefMidIdeal.τ Cert.RefMidIdeal.sig) → Buf (Elt Ideal) ℓ) : Prop :=
  True

def Pre_RefMidIdeal_mid_finite [hPre_mid_finite : Cert.Pre_mid_finite.Facts] (m : (ℓ : Loc Cert.RefMidIdeal.nD Cert.RefMidIdeal.τ Cert.RefMidIdeal.sig) → Buf (Elt Ideal) ℓ) : Prop :=
  ∀ c : Dev Cert.RefMidIdeal.nD,
    (Cert.Pre_mid_finite.fn (F := Ideal) (m ((c.tc : Thread Cert.RefMidIdeal.nD Cert.RefMidIdeal.τ).loc Cert.RefMidIdeal.main_arg0)) (m ((c.tc : Thread Cert.RefMidIdeal.nD Cert.RefMidIdeal.τ).loc Cert.RefMidIdeal.main_arg1)) (m ((c.tc : Thread Cert.RefMidIdeal.nD Cert.RefMidIdeal.τ).loc Cert.RefMidIdeal.main_arg2)) (m ((c.tc : Thread Cert.RefMidIdeal.nD Cert.RefMidIdeal.τ).loc Cert.RefMidIdeal.main_arg3)) (m ((c.tc : Thread Cert.RefMidIdeal.nD Cert.RefMidIdeal.τ).loc Cert.RefMidIdeal.main_arg4)) (m ((c.tc : Thread Cert.RefMidIdeal.nD Cert.RefMidIdeal.τ).loc Cert.RefMidIdeal.main_arg5)) (m ((c.tc : Thread Cert.RefMidIdeal.nD Cert.RefMidIdeal.τ).loc Cert.RefMidIdeal.main_arg6)) (m ((c.tc : Thread Cert.RefMidIdeal.nD Cert.RefMidIdeal.τ).loc Cert.RefMidIdeal.main_arg7))).1 = (fun _ => 1#1)
    ∧ (Cert.Pre_mid_finite.fn (F := Ideal) (m ((c.tc : Thread Cert.RefMidIdeal.nD Cert.RefMidIdeal.τ).loc Cert.RefMidIdeal.main_arg0)) (m ((c.tc : Thread Cert.RefMidIdeal.nD Cert.RefMidIdeal.τ).loc Cert.RefMidIdeal.main_arg1)) (m ((c.tc : Thread Cert.RefMidIdeal.nD Cert.RefMidIdeal.τ).loc Cert.RefMidIdeal.main_arg2)) (m ((c.tc : Thread Cert.RefMidIdeal.nD Cert.RefMidIdeal.τ).loc Cert.RefMidIdeal.main_arg3)) (m ((c.tc : Thread Cert.RefMidIdeal.nD Cert.RefMidIdeal.τ).loc Cert.RefMidIdeal.main_arg4)) (m ((c.tc : Thread Cert.RefMidIdeal.nD Cert.RefMidIdeal.τ).loc Cert.RefMidIdeal.main_arg5)) (m ((c.tc : Thread Cert.RefMidIdeal.nD Cert.RefMidIdeal.τ).loc Cert.RefMidIdeal.main_arg6)) (m ((c.tc : Thread Cert.RefMidIdeal.nD Cert.RefMidIdeal.τ).loc Cert.RefMidIdeal.main_arg7))).2.1 = (fun _ => 1#1)
    ∧ (Cert.Pre_mid_finite.fn (F := Ideal) (m ((c.tc : Thread Cert.RefMidIdeal.nD Cert.RefMidIdeal.τ).loc Cert.RefMidIdeal.main_arg0)) (m ((c.tc : Thread Cert.RefMidIdeal.nD Cert.RefMidIdeal.τ).loc Cert.RefMidIdeal.main_arg1)) (m ((c.tc : Thread Cert.RefMidIdeal.nD Cert.RefMidIdeal.τ).loc Cert.RefMidIdeal.main_arg2)) (m ((c.tc : Thread Cert.RefMidIdeal.nD Cert.RefMidIdeal.τ).loc Cert.RefMidIdeal.main_arg3)) (m ((c.tc : Thread Cert.RefMidIdeal.nD Cert.RefMidIdeal.τ).loc Cert.RefMidIdeal.main_arg4)) (m ((c.tc : Thread Cert.RefMidIdeal.nD Cert.RefMidIdeal.τ).loc Cert.RefMidIdeal.main_arg5)) (m ((c.tc : Thread Cert.RefMidIdeal.nD Cert.RefMidIdeal.τ).loc Cert.RefMidIdeal.main_arg6)) (m ((c.tc : Thread Cert.RefMidIdeal.nD Cert.RefMidIdeal.τ).loc Cert.RefMidIdeal.main_arg7))).2.2.1 = (fun _ => 1#1)
    ∧ (Cert.Pre_mid_finite.fn (F := Ideal) (m ((c.tc : Thread Cert.RefMidIdeal.nD Cert.RefMidIdeal.τ).loc Cert.RefMidIdeal.main_arg0)) (m ((c.tc : Thread Cert.RefMidIdeal.nD Cert.RefMidIdeal.τ).loc Cert.RefMidIdeal.main_arg1)) (m ((c.tc : Thread Cert.RefMidIdeal.nD Cert.RefMidIdeal.τ).loc Cert.RefMidIdeal.main_arg2)) (m ((c.tc : Thread Cert.RefMidIdeal.nD Cert.RefMidIdeal.τ).loc Cert.RefMidIdeal.main_arg3)) (m ((c.tc : Thread Cert.RefMidIdeal.nD Cert.RefMidIdeal.τ).loc Cert.RefMidIdeal.main_arg4)) (m ((c.tc : Thread Cert.RefMidIdeal.nD Cert.RefMidIdeal.τ).loc Cert.RefMidIdeal.main_arg5)) (m ((c.tc : Thread Cert.RefMidIdeal.nD Cert.RefMidIdeal.τ).loc Cert.RefMidIdeal.main_arg6)) (m ((c.tc : Thread Cert.RefMidIdeal.nD Cert.RefMidIdeal.τ).loc Cert.RefMidIdeal.main_arg7))).2.2.2.1 = (fun _ => 1#1)
    ∧ (Cert.Pre_mid_finite.fn (F := Ideal) (m ((c.tc : Thread Cert.RefMidIdeal.nD Cert.RefMidIdeal.τ).loc Cert.RefMidIdeal.main_arg0)) (m ((c.tc : Thread Cert.RefMidIdeal.nD Cert.RefMidIdeal.τ).loc Cert.RefMidIdeal.main_arg1)) (m ((c.tc : Thread Cert.RefMidIdeal.nD Cert.RefMidIdeal.τ).loc Cert.RefMidIdeal.main_arg2)) (m ((c.tc : Thread Cert.RefMidIdeal.nD Cert.RefMidIdeal.τ).loc Cert.RefMidIdeal.main_arg3)) (m ((c.tc : Thread Cert.RefMidIdeal.nD Cert.RefMidIdeal.τ).loc Cert.RefMidIdeal.main_arg4)) (m ((c.tc : Thread Cert.RefMidIdeal.nD Cert.RefMidIdeal.τ).loc Cert.RefMidIdeal.main_arg5)) (m ((c.tc : Thread Cert.RefMidIdeal.nD Cert.RefMidIdeal.τ).loc Cert.RefMidIdeal.main_arg6)) (m ((c.tc : Thread Cert.RefMidIdeal.nD Cert.RefMidIdeal.τ).loc Cert.RefMidIdeal.main_arg7))).2.2.2.2.1 = (fun _ => 1#1)
    ∧ (Cert.Pre_mid_finite.fn (F := Ideal) (m ((c.tc : Thread Cert.RefMidIdeal.nD Cert.RefMidIdeal.τ).loc Cert.RefMidIdeal.main_arg0)) (m ((c.tc : Thread Cert.RefMidIdeal.nD Cert.RefMidIdeal.τ).loc Cert.RefMidIdeal.main_arg1)) (m ((c.tc : Thread Cert.RefMidIdeal.nD Cert.RefMidIdeal.τ).loc Cert.RefMidIdeal.main_arg2)) (m ((c.tc : Thread Cert.RefMidIdeal.nD Cert.RefMidIdeal.τ).loc Cert.RefMidIdeal.main_arg3)) (m ((c.tc : Thread Cert.RefMidIdeal.nD Cert.RefMidIdeal.τ).loc Cert.RefMidIdeal.main_arg4)) (m ((c.tc : Thread Cert.RefMidIdeal.nD Cert.RefMidIdeal.τ).loc Cert.RefMidIdeal.main_arg5)) (m ((c.tc : Thread Cert.RefMidIdeal.nD Cert.RefMidIdeal.τ).loc Cert.RefMidIdeal.main_arg6)) (m ((c.tc : Thread Cert.RefMidIdeal.nD Cert.RefMidIdeal.τ).loc Cert.RefMidIdeal.main_arg7))).2.2.2.2.2.1 = (fun _ => 1#1)
    ∧ (Cert.Pre_mid_finite.fn (F := Ideal) (m ((c.tc : Thread Cert.RefMidIdeal.nD Cert.RefMidIdeal.τ).loc Cert.RefMidIdeal.main_arg0)) (m ((c.tc : Thread Cert.RefMidIdeal.nD Cert.RefMidIdeal.τ).loc Cert.RefMidIdeal.main_arg1)) (m ((c.tc : Thread Cert.RefMidIdeal.nD Cert.RefMidIdeal.τ).loc Cert.RefMidIdeal.main_arg2)) (m ((c.tc : Thread Cert.RefMidIdeal.nD Cert.RefMidIdeal.τ).loc Cert.RefMidIdeal.main_arg3)) (m ((c.tc : Thread Cert.RefMidIdeal.nD Cert.RefMidIdeal.τ).loc Cert.RefMidIdeal.main_arg4)) (m ((c.tc : Thread Cert.RefMidIdeal.nD Cert.RefMidIdeal.τ).loc Cert.RefMidIdeal.main_arg5)) (m ((c.tc : Thread Cert.RefMidIdeal.nD Cert.RefMidIdeal.τ).loc Cert.RefMidIdeal.main_arg6)) (m ((c.tc : Thread Cert.RefMidIdeal.nD Cert.RefMidIdeal.τ).loc Cert.RefMidIdeal.main_arg7))).2.2.2.2.2.2 = (fun _ => 1#1)

def Pre_KernelAtf (m : (ℓ : Loc Cert.KernelAtf.nD Cert.KernelAtf.τ Cert.KernelAtf.sig) → Buf (Elt Bits) ℓ) : Prop :=
  True

def Pre_KernelAtfIdeal (m : (ℓ : Loc Cert.KernelAtfIdeal.nD Cert.KernelAtfIdeal.τ Cert.KernelAtfIdeal.sig) → Buf (Elt Ideal) ℓ) : Prop :=
  True

def Pre_KernelAtfIdeal_queries_finite [hPre_queries_finite : Cert.Pre_queries_finite.Facts] (m : (ℓ : Loc Cert.KernelAtfIdeal.nD Cert.KernelAtfIdeal.τ Cert.KernelAtfIdeal.sig) → Buf (Elt Ideal) ℓ) : Prop :=
  ∀ c : Dev Cert.KernelAtfIdeal.nD,
    (Cert.Pre_queries_finite.fn (F := Ideal) (m ((c.tc : Thread Cert.KernelAtfIdeal.nD Cert.KernelAtfIdeal.τ).loc Cert.KernelAtfIdeal.main_arg0)) (m ((c.tc : Thread Cert.KernelAtfIdeal.nD Cert.KernelAtfIdeal.τ).loc Cert.KernelAtfIdeal.main_arg1))).1 = (fun _ => 1#1)
    ∧ (Cert.Pre_queries_finite.fn (F := Ideal) (m ((c.tc : Thread Cert.KernelAtfIdeal.nD Cert.KernelAtfIdeal.τ).loc Cert.KernelAtfIdeal.main_arg0)) (m ((c.tc : Thread Cert.KernelAtfIdeal.nD Cert.KernelAtfIdeal.τ).loc Cert.KernelAtfIdeal.main_arg1))).2 = (fun _ => 1#1)

def Pre_RefAtfIdeal (m : (ℓ : Loc Cert.RefAtfIdeal.nD Cert.RefAtfIdeal.τ Cert.RefAtfIdeal.sig) → Buf (Elt Ideal) ℓ) : Prop :=
  True

def Pre_RefAtfIdeal_queries_finite [hPre_queries_finite : Cert.Pre_queries_finite.Facts] (m : (ℓ : Loc Cert.RefAtfIdeal.nD Cert.RefAtfIdeal.τ Cert.RefAtfIdeal.sig) → Buf (Elt Ideal) ℓ) : Prop :=
  ∀ c : Dev Cert.RefAtfIdeal.nD,
    (Cert.Pre_queries_finite.fn (F := Ideal) (m ((c.tc : Thread Cert.RefAtfIdeal.nD Cert.RefAtfIdeal.τ).loc Cert.RefAtfIdeal.main_arg0)) (m ((c.tc : Thread Cert.RefAtfIdeal.nD Cert.RefAtfIdeal.τ).loc Cert.RefAtfIdeal.main_arg1))).1 = (fun _ => 1#1)
    ∧ (Cert.Pre_queries_finite.fn (F := Ideal) (m ((c.tc : Thread Cert.RefAtfIdeal.nD Cert.RefAtfIdeal.τ).loc Cert.RefAtfIdeal.main_arg0)) (m ((c.tc : Thread Cert.RefAtfIdeal.nD Cert.RefAtfIdeal.τ).loc Cert.RefAtfIdeal.main_arg1))).2 = (fun _ => 1#1)

def Pre_KernelLnf (m : (ℓ : Loc Cert.KernelLnf.nD Cert.KernelLnf.τ Cert.KernelLnf.sig) → Buf (Elt Bits) ℓ) : Prop :=
  True

def Pre_KernelLnfIdeal (m : (ℓ : Loc Cert.KernelLnfIdeal.nD Cert.KernelLnfIdeal.τ Cert.KernelLnfIdeal.sig) → Buf (Elt Ideal) ℓ) : Prop :=
  True

def Pre_RefLnfIdeal (m : (ℓ : Loc Cert.RefLnfIdeal.nD Cert.RefLnfIdeal.τ Cert.RefLnfIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_RefModIdeal (m : (ℓ : Loc Cert.RefModIdeal.nD Cert.RefModIdeal.τ Cert.RefModIdeal.sig) → Buf (Elt Ideal) ℓ) : Prop :=
  True

def Pre_KernelFfd (m : (ℓ : Loc Cert.KernelFfd.nD Cert.KernelFfd.τ Cert.KernelFfd.sig) → Buf (Elt Bits) ℓ) : Prop :=
  True

def Pre_KernelFfdIdeal (m : (ℓ : Loc Cert.KernelFfdIdeal.nD Cert.KernelFfdIdeal.τ Cert.KernelFfdIdeal.sig) → Buf (Elt Ideal) ℓ) : Prop :=
  True

def Pre_RefFfdIdeal (m : (ℓ : Loc Cert.RefFfdIdeal.nD Cert.RefFfdIdeal.τ Cert.RefFfdIdeal.sig) → Buf (Elt Ideal) ℓ) : Prop :=
  True

def Pre_KernelWgt (m : (ℓ : Loc Cert.KernelWgt.nD Cert.KernelWgt.τ Cert.KernelWgt.sig) → Buf (Elt Bits) ℓ) : Prop :=
  True

def Pre_KernelWgtIdeal (m : (ℓ : Loc Cert.KernelWgtIdeal.nD Cert.KernelWgtIdeal.τ Cert.KernelWgtIdeal.sig) → Buf (Elt Ideal) ℓ) : Prop :=
  True

def Pre_RefWgtIdeal (m : (ℓ : Loc Cert.RefWgtIdeal.nD Cert.RefWgtIdeal.τ Cert.RefWgtIdeal.sig) → Buf (Elt Ideal) ℓ) : Prop :=
  True

def Pre_KernelWgm (m : (ℓ : Loc Cert.KernelWgm.nD Cert.KernelWgm.τ Cert.KernelWgm.sig) → Buf (Elt Bits) ℓ) : Prop :=
  True

def Pre_KernelWgmIdeal (m : (ℓ : Loc Cert.KernelWgmIdeal.nD Cert.KernelWgmIdeal.τ Cert.KernelWgmIdeal.sig) → Buf (Elt Ideal) ℓ) : Prop :=
  True

def Pre_RefWgmIdeal (m : (ℓ : Loc Cert.RefWgmIdeal.nD Cert.RefWgmIdeal.τ Cert.RefWgmIdeal.sig) → Buf (Elt Ideal) ℓ) : Prop :=
  True

def Pre_KernelTil (m : (ℓ : Loc Cert.KernelTil.nD Cert.KernelTil.τ Cert.KernelTil.sig) → Buf (Elt Bits) ℓ) : Prop :=
  True

def Pre_KernelTilIdeal (m : (ℓ : Loc Cert.KernelTilIdeal.nD Cert.KernelTilIdeal.τ Cert.KernelTilIdeal.sig) → Buf (Elt Ideal) ℓ) : Prop :=
  True

def Pre_RefTilIdeal (m : (ℓ : Loc Cert.RefTilIdeal.nD Cert.RefTilIdeal.τ Cert.RefTilIdeal.sig) → Buf (Elt Ideal) ℓ) : Prop :=
  True

def Pre_KernelPrj (m : (ℓ : Loc Cert.KernelPrj.nD Cert.KernelPrj.τ Cert.KernelPrj.sig) → Buf (Elt Bits) ℓ) : Prop :=
  True

def Pre_KernelPrjIdeal (m : (ℓ : Loc Cert.KernelPrjIdeal.nD Cert.KernelPrjIdeal.τ Cert.KernelPrjIdeal.sig) → Buf (Elt Ideal) ℓ) : Prop :=
  True

def Pre_RefPrjIdeal (m : (ℓ : Loc Cert.RefPrjIdeal.nD Cert.RefPrjIdeal.τ Cert.RefPrjIdeal.sig) → Buf (Elt Ideal) ℓ) : Prop :=
  True

def Pre_KernelMds (m : (ℓ : Loc Cert.KernelMds.nD Cert.KernelMds.τ Cert.KernelMds.sig) → Buf (Elt Bits) ℓ) : Prop :=
  True

def Pre_KernelMdsIdeal (m : (ℓ : Loc Cert.KernelMdsIdeal.nD Cert.KernelMdsIdeal.τ Cert.KernelMdsIdeal.sig) → Buf (Elt Ideal) ℓ) : Prop :=
  True

def Pre_RefMdsIdeal (m : (ℓ : Loc Cert.RefMdsIdeal.nD Cert.RefMdsIdeal.τ Cert.RefMdsIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_KernelUpb (m : (ℓ : Loc Cert.KernelUpb.nD Cert.KernelUpb.τ Cert.KernelUpb.sig) → Buf (Elt Bits) ℓ) : Prop :=
  True

def Pre_KernelUpbIdeal (m : (ℓ : Loc Cert.KernelUpbIdeal.nD Cert.KernelUpbIdeal.τ Cert.KernelUpbIdeal.sig) → Buf (Elt Ideal) ℓ) : Prop :=
  True

def Pre_RefUpbIdeal (m : (ℓ : Loc Cert.RefUpbIdeal.nD Cert.RefUpbIdeal.τ Cert.RefUpbIdeal.sig) → Buf (Elt Ideal) ℓ) : Prop :=
  True

def Pre_KernelWtp (m : (ℓ : Loc Cert.KernelWtp.nD Cert.KernelWtp.τ Cert.KernelWtp.sig) → Buf (Elt Bits) ℓ) : Prop :=
  True

def Pre_KernelWtpIdeal (m : (ℓ : Loc Cert.KernelWtpIdeal.nD Cert.KernelWtpIdeal.τ Cert.KernelWtpIdeal.sig) → Buf (Elt Ideal) ℓ) : Prop :=
  True

def Pre_RefWtpIdeal (m : (ℓ : Loc Cert.RefWtpIdeal.nD Cert.RefWtpIdeal.τ Cert.RefWtpIdeal.sig) → Buf (Elt Ideal) ℓ) : Prop :=
  True

def Pre_KernelAdw (m : (ℓ : Loc Cert.KernelAdw.nD Cert.KernelAdw.τ Cert.KernelAdw.sig) → Buf (Elt Bits) ℓ) : Prop :=
  True

def Pre_KernelAdwIdeal (m : (ℓ : Loc Cert.KernelAdwIdeal.nD Cert.KernelAdwIdeal.τ Cert.KernelAdwIdeal.sig) → Buf (Elt Ideal) ℓ) : Prop :=
  True

def Pre_RefAdwIdeal (m : (ℓ : Loc Cert.RefAdwIdeal.nD Cert.RefAdwIdeal.τ Cert.RefAdwIdeal.sig) → Buf (Elt Ideal) ℓ) : Prop :=
  True

def Pre_KernelSum (m : (ℓ : Loc Cert.KernelSum.nD Cert.KernelSum.τ Cert.KernelSum.sig) → Buf (Elt Bits) ℓ) : Prop :=
  True

def Pre_KernelSumIdeal (m : (ℓ : Loc Cert.KernelSumIdeal.nD Cert.KernelSumIdeal.τ Cert.KernelSumIdeal.sig) → Buf (Elt Ideal) ℓ) : Prop :=
  True

def Pre_RefSumIdeal (m : (ℓ : Loc Cert.RefSumIdeal.nD Cert.RefSumIdeal.τ Cert.RefSumIdeal.sig) → Buf (Elt Ideal) ℓ) : Prop :=
  True

def Pre_KernelAdl (m : (ℓ : Loc Cert.KernelAdl.nD Cert.KernelAdl.τ Cert.KernelAdl.sig) → Buf (Elt Bits) ℓ) : Prop :=
  True

def Pre_KernelAdlIdeal (m : (ℓ : Loc Cert.KernelAdlIdeal.nD Cert.KernelAdlIdeal.τ Cert.KernelAdlIdeal.sig) → Buf (Elt Ideal) ℓ) : Prop :=
  True

def Pre_RefAdlIdeal (m : (ℓ : Loc Cert.RefAdlIdeal.nD Cert.RefAdlIdeal.τ Cert.RefAdlIdeal.sig) → Buf (Elt Ideal) ℓ) : Prop :=
  True

def quiescent_KernelFirst [hKernelFirst : Cert.KernelFirst.Facts] : Prop :=
  ∀ (m : (ℓ : Loc Cert.KernelFirst.nD Cert.KernelFirst.τ Cert.KernelFirst.sig) → Buf (Elt Bits) ℓ) (g : Dev Cert.KernelFirst.nD → PrngReg), Pre_KernelFirst m →
    θ_run (Cert.KernelFirst.defs (F := Bits)) (onTc (τ := Cert.KernelFirst.τ) (Cert.KernelFirst.main (F := Bits))) ⟨m, fun _ => 0, g⟩ (fun r => (∀ c : Dev Cert.KernelFirst.nD,
      r.2.mem ((c.tc : Thread Cert.KernelFirst.nD Cert.KernelFirst.τ).loc Cert.KernelFirst.main_arg0) = m ((c.tc : Thread Cert.KernelFirst.nD Cert.KernelFirst.τ).loc Cert.KernelFirst.main_arg0)
      ∧ r.2.mem ((c.tc : Thread Cert.KernelFirst.nD Cert.KernelFirst.τ).loc Cert.KernelFirst.main_arg1) = m ((c.tc : Thread Cert.KernelFirst.nD Cert.KernelFirst.τ).loc Cert.KernelFirst.main_arg1)
      ∧ r.2.mem ((c.tc : Thread Cert.KernelFirst.nD Cert.KernelFirst.τ).loc Cert.KernelFirst.main_arg2) = m ((c.tc : Thread Cert.KernelFirst.nD Cert.KernelFirst.τ).loc Cert.KernelFirst.main_arg2)
      ∧ r.2.mem ((c.tc : Thread Cert.KernelFirst.nD Cert.KernelFirst.τ).loc Cert.KernelFirst.main_arg3) = m ((c.tc : Thread Cert.KernelFirst.nD Cert.KernelFirst.τ).loc Cert.KernelFirst.main_arg3))
      ∧ r.2.sem = fun _ => 0)

def quiescent_KernelFirstIdeal [hKernelFirstIdeal : Cert.KernelFirstIdeal.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg), Pre_KernelFirstIdeal m →
    θ_run (Cert.KernelFirstIdeal.defs (F := Ideal)) (onTc (τ := Cert.KernelFirstIdeal.τ) (Cert.KernelFirstIdeal.main (F := Ideal))) ⟨m, fun _ => 0, g⟩ (fun r => (∀ c : Dev Cert.KernelFirstIdeal.nD,
      r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
      ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
      ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2)
      ∧ r.2.mem ((c.tc : Thread Cert.KernelFirstIdeal.nD Cert.KernelFirstIdeal.τ).loc Cert.KernelFirstIdeal.main_arg3) = m ((c.tc : Thread Cert.KernelFirstIdeal.nD Cert.KernelFirstIdeal.τ).loc Cert.KernelFirstIdeal.main_arg3))
      ∧ r.2.sem = fun _ => 0)

def quiescent_RefFirstIdeal [hRefFirstIdeal : Cert.RefFirstIdeal.Facts] : Prop :=
  ∀ (m : (ℓ : Loc Cert.RefFirstIdeal.nD Cert.RefFirstIdeal.τ Cert.RefFirstIdeal.sig) → Buf (Elt Ideal) ℓ) (g : Dev Cert.RefFirstIdeal.nD → PrngReg), Pre_RefFirstIdeal m →
    θ_run (Cert.RefFirstIdeal.defs (F := Ideal)) (onTc (τ := Cert.RefFirstIdeal.τ) (Cert.RefFirstIdeal.main (F := Ideal))) ⟨m, fun _ => 0, g⟩ (fun r => (∀ c : Dev Cert.RefFirstIdeal.nD,
      r.2.mem ((c.tc : Thread Cert.RefFirstIdeal.nD Cert.RefFirstIdeal.τ).loc Cert.RefFirstIdeal.main_arg0) = m ((c.tc : Thread Cert.RefFirstIdeal.nD Cert.RefFirstIdeal.τ).loc Cert.RefFirstIdeal.main_arg0)
      ∧ r.2.mem ((c.tc : Thread Cert.RefFirstIdeal.nD Cert.RefFirstIdeal.τ).loc Cert.RefFirstIdeal.main_arg1) = m ((c.tc : Thread Cert.RefFirstIdeal.nD Cert.RefFirstIdeal.τ).loc Cert.RefFirstIdeal.main_arg1)
      ∧ r.2.mem ((c.tc : Thread Cert.RefFirstIdeal.nD Cert.RefFirstIdeal.τ).loc Cert.RefFirstIdeal.main_arg2) = m ((c.tc : Thread Cert.RefFirstIdeal.nD Cert.RefFirstIdeal.τ).loc Cert.RefFirstIdeal.main_arg2)
      ∧ r.2.mem ((c.tc : Thread Cert.RefFirstIdeal.nD Cert.RefFirstIdeal.τ).loc Cert.RefFirstIdeal.main_arg3) = m ((c.tc : Thread Cert.RefFirstIdeal.nD Cert.RefFirstIdeal.τ).loc Cert.RefFirstIdeal.main_arg3))
      ∧ r.2.sem = fun _ => 0)

def quiescent_KernelAtt [hKernelAtt : Cert.KernelAtt.Facts] : Prop :=
  ∀ (m : (ℓ : Loc Cert.KernelAtt.nD Cert.KernelAtt.τ Cert.KernelAtt.sig) → Buf (Elt Bits) ℓ) (g : Dev Cert.KernelAtt.nD → PrngReg), Pre_KernelAtt m →
    θ_run (Cert.KernelAtt.defs (F := Bits)) (onTc (τ := Cert.KernelAtt.τ) (Cert.KernelAtt.main (F := Bits))) ⟨m, fun _ => 0, g⟩ (fun r => (∀ c : Dev Cert.KernelAtt.nD,
      r.2.mem ((c.tc : Thread Cert.KernelAtt.nD Cert.KernelAtt.τ).loc Cert.KernelAtt.main_arg0) = m ((c.tc : Thread Cert.KernelAtt.nD Cert.KernelAtt.τ).loc Cert.KernelAtt.main_arg0)
      ∧ r.2.mem ((c.tc : Thread Cert.KernelAtt.nD Cert.KernelAtt.τ).loc Cert.KernelAtt.main_arg1) = m ((c.tc : Thread Cert.KernelAtt.nD Cert.KernelAtt.τ).loc Cert.KernelAtt.main_arg1)
      ∧ r.2.mem ((c.tc : Thread Cert.KernelAtt.nD Cert.KernelAtt.τ).loc Cert.KernelAtt.main_arg2) = m ((c.tc : Thread Cert.KernelAtt.nD Cert.KernelAtt.τ).loc Cert.KernelAtt.main_arg2))
      ∧ r.2.sem = fun _ => 0)

def quiescent_KernelAttIdeal [hKernelAttIdeal : Cert.KernelAttIdeal.Facts] : Prop :=
  ∀ (m : (ℓ : Loc Cert.KernelAttIdeal.nD Cert.KernelAttIdeal.τ Cert.KernelAttIdeal.sig) → Buf (Elt Ideal) ℓ) (g : Dev Cert.KernelAttIdeal.nD → PrngReg), Pre_KernelAttIdeal m →
    θ_run (Cert.KernelAttIdeal.defs (F := Ideal)) (onTc (τ := Cert.KernelAttIdeal.τ) (Cert.KernelAttIdeal.main (F := Ideal))) ⟨m, fun _ => 0, g⟩ (fun r => (∀ c : Dev Cert.KernelAttIdeal.nD,
      r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
      ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
      ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2))
      ∧ r.2.sem = fun _ => 0)

def quiescent_KernelAttIdeal_pre_scores_finite [hKernelAttIdeal : Cert.KernelAttIdeal.Facts] [hPre_scores_finite : Cert.Pre_scores_finite.Facts] : Prop :=
  ∀ (m : (ℓ : Loc Cert.KernelAttIdeal.nD Cert.KernelAttIdeal.τ Cert.KernelAttIdeal.sig) → Buf (Elt Ideal) ℓ) (g : Dev Cert.KernelAttIdeal.nD → PrngReg), Pre_KernelAttIdeal_scores_finite m →
    θ_run (Cert.KernelAttIdeal.defs (F := Ideal)) (onTc (τ := Cert.KernelAttIdeal.τ) (Cert.KernelAttIdeal.main (F := Ideal))) ⟨m, fun _ => 0, g⟩ (fun r => (∀ c : Dev Cert.KernelAttIdeal.nD,
      r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
      ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
      ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2))
      ∧ r.2.sem = fun _ => 0)

def quiescent_RefAttIdeal [hRefAttIdeal : Cert.RefAttIdeal.Facts] : Prop :=
  ∀ (m : (ℓ : Loc Cert.RefAttIdeal.nD Cert.RefAttIdeal.τ Cert.RefAttIdeal.sig) → Buf (Elt Ideal) ℓ) (g : Dev Cert.RefAttIdeal.nD → PrngReg), Pre_RefAttIdeal m →
    θ_run (Cert.RefAttIdeal.defs (F := Ideal)) (onTc (τ := Cert.RefAttIdeal.τ) (Cert.RefAttIdeal.main (F := Ideal))) ⟨m, fun _ => 0, g⟩ (fun r => (∀ c : Dev Cert.RefAttIdeal.nD,
      r.2.mem ((c.tc : Thread Cert.RefAttIdeal.nD Cert.RefAttIdeal.τ).loc Cert.RefAttIdeal.main_arg0) = m ((c.tc : Thread Cert.RefAttIdeal.nD Cert.RefAttIdeal.τ).loc Cert.RefAttIdeal.main_arg0)
      ∧ r.2.mem ((c.tc : Thread Cert.RefAttIdeal.nD Cert.RefAttIdeal.τ).loc Cert.RefAttIdeal.main_arg1) = m ((c.tc : Thread Cert.RefAttIdeal.nD Cert.RefAttIdeal.τ).loc Cert.RefAttIdeal.main_arg1)
      ∧ r.2.mem ((c.tc : Thread Cert.RefAttIdeal.nD Cert.RefAttIdeal.τ).loc Cert.RefAttIdeal.main_arg2) = m ((c.tc : Thread Cert.RefAttIdeal.nD Cert.RefAttIdeal.τ).loc Cert.RefAttIdeal.main_arg2))
      ∧ r.2.sem = fun _ => 0)

def quiescent_RefAttIdeal_pre_scores_finite [hRefAttIdeal : Cert.RefAttIdeal.Facts] [hPre_scores_finite : Cert.Pre_scores_finite.Facts] : Prop :=
  ∀ (m : (ℓ : Loc Cert.RefAttIdeal.nD Cert.RefAttIdeal.τ Cert.RefAttIdeal.sig) → Buf (Elt Ideal) ℓ) (g : Dev Cert.RefAttIdeal.nD → PrngReg), Pre_RefAttIdeal_scores_finite m →
    θ_run (Cert.RefAttIdeal.defs (F := Ideal)) (onTc (τ := Cert.RefAttIdeal.τ) (Cert.RefAttIdeal.main (F := Ideal))) ⟨m, fun _ => 0, g⟩ (fun r => (∀ c : Dev Cert.RefAttIdeal.nD,
      r.2.mem ((c.tc : Thread Cert.RefAttIdeal.nD Cert.RefAttIdeal.τ).loc Cert.RefAttIdeal.main_arg0) = m ((c.tc : Thread Cert.RefAttIdeal.nD Cert.RefAttIdeal.τ).loc Cert.RefAttIdeal.main_arg0)
      ∧ r.2.mem ((c.tc : Thread Cert.RefAttIdeal.nD Cert.RefAttIdeal.τ).loc Cert.RefAttIdeal.main_arg1) = m ((c.tc : Thread Cert.RefAttIdeal.nD Cert.RefAttIdeal.τ).loc Cert.RefAttIdeal.main_arg1)
      ∧ r.2.mem ((c.tc : Thread Cert.RefAttIdeal.nD Cert.RefAttIdeal.τ).loc Cert.RefAttIdeal.main_arg2) = m ((c.tc : Thread Cert.RefAttIdeal.nD Cert.RefAttIdeal.τ).loc Cert.RefAttIdeal.main_arg2))
      ∧ r.2.sem = fun _ => 0)

def quiescent_KernelEpi [hKernelEpi : Cert.KernelEpi.Facts] : Prop :=
  ∀ (m : (ℓ : Loc Cert.KernelEpi.nD Cert.KernelEpi.τ Cert.KernelEpi.sig) → Buf (Elt Bits) ℓ) (g : Dev Cert.KernelEpi.nD → PrngReg), Pre_KernelEpi m →
    θ_run (Cert.KernelEpi.defs (F := Bits)) (onTc (τ := Cert.KernelEpi.τ) (Cert.KernelEpi.main (F := Bits))) ⟨m, fun _ => 0, g⟩ (fun r => (∀ c : Dev Cert.KernelEpi.nD,
      r.2.mem ((c.tc : Thread Cert.KernelEpi.nD Cert.KernelEpi.τ).loc Cert.KernelEpi.main_arg0) = m ((c.tc : Thread Cert.KernelEpi.nD Cert.KernelEpi.τ).loc Cert.KernelEpi.main_arg0)
      ∧ r.2.mem ((c.tc : Thread Cert.KernelEpi.nD Cert.KernelEpi.τ).loc Cert.KernelEpi.main_arg1) = m ((c.tc : Thread Cert.KernelEpi.nD Cert.KernelEpi.τ).loc Cert.KernelEpi.main_arg1)
      ∧ r.2.mem ((c.tc : Thread Cert.KernelEpi.nD Cert.KernelEpi.τ).loc Cert.KernelEpi.main_arg2) = m ((c.tc : Thread Cert.KernelEpi.nD Cert.KernelEpi.τ).loc Cert.KernelEpi.main_arg2)
      ∧ r.2.mem ((c.tc : Thread Cert.KernelEpi.nD Cert.KernelEpi.τ).loc Cert.KernelEpi.main_arg3) = m ((c.tc : Thread Cert.KernelEpi.nD Cert.KernelEpi.τ).loc Cert.KernelEpi.main_arg3)
      ∧ r.2.mem ((c.tc : Thread Cert.KernelEpi.nD Cert.KernelEpi.τ).loc Cert.KernelEpi.main_arg4) = m ((c.tc : Thread Cert.KernelEpi.nD Cert.KernelEpi.τ).loc Cert.KernelEpi.main_arg4)
      ∧ r.2.mem ((c.tc : Thread Cert.KernelEpi.nD Cert.KernelEpi.τ).loc Cert.KernelEpi.main_arg5) = m ((c.tc : Thread Cert.KernelEpi.nD Cert.KernelEpi.τ).loc Cert.KernelEpi.main_arg5))
      ∧ r.2.sem = fun _ => 0)

def quiescent_KernelEpiIdeal [hKernelEpiIdeal : Cert.KernelEpiIdeal.Facts] : Prop :=
  ∀ (m : (ℓ : Loc Cert.KernelEpiIdeal.nD Cert.KernelEpiIdeal.τ Cert.KernelEpiIdeal.sig) → Buf (Elt Ideal) ℓ) (g : Dev Cert.KernelEpiIdeal.nD → PrngReg), Pre_KernelEpiIdeal m →
    θ_run (Cert.KernelEpiIdeal.defs (F := Ideal)) (onTc (τ := Cert.KernelEpiIdeal.τ) (Cert.KernelEpiIdeal.main (F := Ideal))) ⟨m, fun _ => 0, g⟩ (fun r => (∀ c : Dev Cert.KernelEpiIdeal.nD,
      r.2.mem ((c.tc : Thread Cert.KernelEpiIdeal.nD Cert.KernelEpiIdeal.τ).loc Cert.KernelEpiIdeal.main_arg0) = m ((c.tc : Thread Cert.KernelEpiIdeal.nD Cert.KernelEpiIdeal.τ).loc Cert.KernelEpiIdeal.main_arg0)
      ∧ r.2.mem ((c.tc : Thread Cert.KernelEpiIdeal.nD Cert.KernelEpiIdeal.τ).loc Cert.KernelEpiIdeal.main_arg1) = m ((c.tc : Thread Cert.KernelEpiIdeal.nD Cert.KernelEpiIdeal.τ).loc Cert.KernelEpiIdeal.main_arg1)
      ∧ r.2.mem ((c.tc : Thread Cert.KernelEpiIdeal.nD Cert.KernelEpiIdeal.τ).loc Cert.KernelEpiIdeal.main_arg2) = m ((c.tc : Thread Cert.KernelEpiIdeal.nD Cert.KernelEpiIdeal.τ).loc Cert.KernelEpiIdeal.main_arg2)
      ∧ r.2.mem ((c.tc : Thread Cert.KernelEpiIdeal.nD Cert.KernelEpiIdeal.τ).loc Cert.KernelEpiIdeal.main_arg3) = m ((c.tc : Thread Cert.KernelEpiIdeal.nD Cert.KernelEpiIdeal.τ).loc Cert.KernelEpiIdeal.main_arg3)
      ∧ r.2.mem ((c.tc : Thread Cert.KernelEpiIdeal.nD Cert.KernelEpiIdeal.τ).loc Cert.KernelEpiIdeal.main_arg4) = m ((c.tc : Thread Cert.KernelEpiIdeal.nD Cert.KernelEpiIdeal.τ).loc Cert.KernelEpiIdeal.main_arg4)
      ∧ r.2.mem ((c.tc : Thread Cert.KernelEpiIdeal.nD Cert.KernelEpiIdeal.τ).loc Cert.KernelEpiIdeal.main_arg5) = m ((c.tc : Thread Cert.KernelEpiIdeal.nD Cert.KernelEpiIdeal.τ).loc Cert.KernelEpiIdeal.main_arg5))
      ∧ r.2.sem = fun _ => 0)

def quiescent_RefEpiIdeal [hRefEpiIdeal : Cert.RefEpiIdeal.Facts] : Prop :=
  ∀ (m : (ℓ : Loc Cert.RefEpiIdeal.nD Cert.RefEpiIdeal.τ Cert.RefEpiIdeal.sig) → Buf (Elt Ideal) ℓ) (g : Dev Cert.RefEpiIdeal.nD → PrngReg), Pre_RefEpiIdeal m →
    θ_run (Cert.RefEpiIdeal.defs (F := Ideal)) (onTc (τ := Cert.RefEpiIdeal.τ) (Cert.RefEpiIdeal.main (F := Ideal))) ⟨m, fun _ => 0, g⟩ (fun r => (∀ c : Dev Cert.RefEpiIdeal.nD,
      r.2.mem ((c.tc : Thread Cert.RefEpiIdeal.nD Cert.RefEpiIdeal.τ).loc Cert.RefEpiIdeal.main_arg0) = m ((c.tc : Thread Cert.RefEpiIdeal.nD Cert.RefEpiIdeal.τ).loc Cert.RefEpiIdeal.main_arg0)
      ∧ r.2.mem ((c.tc : Thread Cert.RefEpiIdeal.nD Cert.RefEpiIdeal.τ).loc Cert.RefEpiIdeal.main_arg1) = m ((c.tc : Thread Cert.RefEpiIdeal.nD Cert.RefEpiIdeal.τ).loc Cert.RefEpiIdeal.main_arg1)
      ∧ r.2.mem ((c.tc : Thread Cert.RefEpiIdeal.nD Cert.RefEpiIdeal.τ).loc Cert.RefEpiIdeal.main_arg2) = m ((c.tc : Thread Cert.RefEpiIdeal.nD Cert.RefEpiIdeal.τ).loc Cert.RefEpiIdeal.main_arg2)
      ∧ r.2.mem ((c.tc : Thread Cert.RefEpiIdeal.nD Cert.RefEpiIdeal.τ).loc Cert.RefEpiIdeal.main_arg3) = m ((c.tc : Thread Cert.RefEpiIdeal.nD Cert.RefEpiIdeal.τ).loc Cert.RefEpiIdeal.main_arg3)
      ∧ r.2.mem ((c.tc : Thread Cert.RefEpiIdeal.nD Cert.RefEpiIdeal.τ).loc Cert.RefEpiIdeal.main_arg4) = m ((c.tc : Thread Cert.RefEpiIdeal.nD Cert.RefEpiIdeal.τ).loc Cert.RefEpiIdeal.main_arg4)
      ∧ r.2.mem ((c.tc : Thread Cert.RefEpiIdeal.nD Cert.RefEpiIdeal.τ).loc Cert.RefEpiIdeal.main_arg5) = m ((c.tc : Thread Cert.RefEpiIdeal.nD Cert.RefEpiIdeal.τ).loc Cert.RefEpiIdeal.main_arg5))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1))
      ∧ r.2.sem = fun _ => 0)

def quiescent_RefAdaIdeal [hRefAdaIdeal : Cert.RefAdaIdeal.Facts] : Prop :=
  ∀ (m : (ℓ : Loc Cert.RefAdaIdeal.nD Cert.RefAdaIdeal.τ Cert.RefAdaIdeal.sig) → Buf (Elt Ideal) ℓ) (g : Dev Cert.RefAdaIdeal.nD → PrngReg), Pre_RefAdaIdeal m →
    θ_run (Cert.RefAdaIdeal.defs (F := Ideal)) (onTc (τ := Cert.RefAdaIdeal.τ) (Cert.RefAdaIdeal.main (F := Ideal))) ⟨m, fun _ => 0, g⟩ (fun r => (∀ c : Dev Cert.RefAdaIdeal.nD,
      r.2.mem ((c.tc : Thread Cert.RefAdaIdeal.nD Cert.RefAdaIdeal.τ).loc Cert.RefAdaIdeal.main_arg0) = m ((c.tc : Thread Cert.RefAdaIdeal.nD Cert.RefAdaIdeal.τ).loc Cert.RefAdaIdeal.main_arg0)
      ∧ r.2.mem ((c.tc : Thread Cert.RefAdaIdeal.nD Cert.RefAdaIdeal.τ).loc Cert.RefAdaIdeal.main_arg1) = m ((c.tc : Thread Cert.RefAdaIdeal.nD Cert.RefAdaIdeal.τ).loc Cert.RefAdaIdeal.main_arg1))
      ∧ r.2.sem = fun _ => 0)

def quiescent_KernelRel [hKernelRel : Cert.KernelRel.Facts] : Prop :=
  ∀ (m : (ℓ : Loc Cert.KernelRel.nD Cert.KernelRel.τ Cert.KernelRel.sig) → Buf (Elt Bits) ℓ) (g : Dev Cert.KernelRel.nD → PrngReg), Pre_KernelRel m →
    θ_run (Cert.KernelRel.defs (F := Bits)) (onTc (τ := Cert.KernelRel.τ) (Cert.KernelRel.main (F := Bits))) ⟨m, fun _ => 0, g⟩ (fun r => (∀ c : Dev Cert.KernelRel.nD,
      r.2.mem ((c.tc : Thread Cert.KernelRel.nD Cert.KernelRel.τ).loc Cert.KernelRel.main_arg0) = m ((c.tc : Thread Cert.KernelRel.nD Cert.KernelRel.τ).loc Cert.KernelRel.main_arg0)
      ∧ r.2.mem ((c.tc : Thread Cert.KernelRel.nD Cert.KernelRel.τ).loc Cert.KernelRel.main_arg1) = m ((c.tc : Thread Cert.KernelRel.nD Cert.KernelRel.τ).loc Cert.KernelRel.main_arg1))
      ∧ r.2.sem = fun _ => 0)

def quiescent_KernelRelIdeal [hKernelRelIdeal : Cert.KernelRelIdeal.Facts] : Prop :=
  ∀ (m : (ℓ : Loc Cert.KernelRelIdeal.nD Cert.KernelRelIdeal.τ Cert.KernelRelIdeal.sig) → Buf (Elt Ideal) ℓ) (g : Dev Cert.KernelRelIdeal.nD → PrngReg), Pre_KernelRelIdeal m →
    θ_run (Cert.KernelRelIdeal.defs (F := Ideal)) (onTc (τ := Cert.KernelRelIdeal.τ) (Cert.KernelRelIdeal.main (F := Ideal))) ⟨m, fun _ => 0, g⟩ (fun r => (∀ c : Dev Cert.KernelRelIdeal.nD,
      r.2.mem ((c.tc : Thread Cert.KernelRelIdeal.nD Cert.KernelRelIdeal.τ).loc Cert.KernelRelIdeal.main_arg0) = m ((c.tc : Thread Cert.KernelRelIdeal.nD Cert.KernelRelIdeal.τ).loc Cert.KernelRelIdeal.main_arg0)
      ∧ r.2.mem ((c.tc : Thread Cert.KernelRelIdeal.nD Cert.KernelRelIdeal.τ).loc Cert.KernelRelIdeal.main_arg1) = m ((c.tc : Thread Cert.KernelRelIdeal.nD Cert.KernelRelIdeal.τ).loc Cert.KernelRelIdeal.main_arg1))
      ∧ r.2.sem = fun _ => 0)

def quiescent_RefRelIdeal [hRefRelIdeal : Cert.RefRelIdeal.Facts] : Prop :=
  ∀ (m : (ℓ : Loc Cert.RefRelIdeal.nD Cert.RefRelIdeal.τ Cert.RefRelIdeal.sig) → Buf (Elt Ideal) ℓ) (g : Dev Cert.RefRelIdeal.nD → PrngReg), Pre_RefRelIdeal m →
    θ_run (Cert.RefRelIdeal.defs (F := Ideal)) (onTc (τ := Cert.RefRelIdeal.τ) (Cert.RefRelIdeal.main (F := Ideal))) ⟨m, fun _ => 0, g⟩ (fun r => (∀ c : Dev Cert.RefRelIdeal.nD,
      r.2.mem ((c.tc : Thread Cert.RefRelIdeal.nD Cert.RefRelIdeal.τ).loc Cert.RefRelIdeal.main_arg0) = m ((c.tc : Thread Cert.RefRelIdeal.nD Cert.RefRelIdeal.τ).loc Cert.RefRelIdeal.main_arg0)
      ∧ r.2.mem ((c.tc : Thread Cert.RefRelIdeal.nD Cert.RefRelIdeal.τ).loc Cert.RefRelIdeal.main_arg1) = m ((c.tc : Thread Cert.RefRelIdeal.nD Cert.RefRelIdeal.τ).loc Cert.RefRelIdeal.main_arg1))
      ∧ r.2.sem = fun _ => 0)

def quiescent_KernelHead [hKernelHead : Cert.KernelHead.Facts] : Prop :=
  ∀ (m : (ℓ : Loc Cert.KernelHead.nD Cert.KernelHead.τ Cert.KernelHead.sig) → Buf (Elt Bits) ℓ) (g : Dev Cert.KernelHead.nD → PrngReg), Pre_KernelHead m →
    θ_run (Cert.KernelHead.defs (F := Bits)) (onTc (τ := Cert.KernelHead.τ) (Cert.KernelHead.main (F := Bits))) ⟨m, fun _ => 0, g⟩ (fun r => (∀ c : Dev Cert.KernelHead.nD,
      r.2.mem ((c.tc : Thread Cert.KernelHead.nD Cert.KernelHead.τ).loc Cert.KernelHead.main_arg0) = m ((c.tc : Thread Cert.KernelHead.nD Cert.KernelHead.τ).loc Cert.KernelHead.main_arg0)
      ∧ r.2.mem ((c.tc : Thread Cert.KernelHead.nD Cert.KernelHead.τ).loc Cert.KernelHead.main_arg1) = m ((c.tc : Thread Cert.KernelHead.nD Cert.KernelHead.τ).loc Cert.KernelHead.main_arg1)
      ∧ r.2.mem ((c.tc : Thread Cert.KernelHead.nD Cert.KernelHead.τ).loc Cert.KernelHead.main_arg2) = m ((c.tc : Thread Cert.KernelHead.nD Cert.KernelHead.τ).loc Cert.KernelHead.main_arg2)
      ∧ r.2.mem ((c.tc : Thread Cert.KernelHead.nD Cert.KernelHead.τ).loc Cert.KernelHead.main_arg3) = m ((c.tc : Thread Cert.KernelHead.nD Cert.KernelHead.τ).loc Cert.KernelHead.main_arg3)
      ∧ r.2.mem ((c.tc : Thread Cert.KernelHead.nD Cert.KernelHead.τ).loc Cert.KernelHead.main_arg4) = m ((c.tc : Thread Cert.KernelHead.nD Cert.KernelHead.τ).loc Cert.KernelHead.main_arg4)
      ∧ r.2.mem ((c.tc : Thread Cert.KernelHead.nD Cert.KernelHead.τ).loc Cert.KernelHead.main_arg5) = m ((c.tc : Thread Cert.KernelHead.nD Cert.KernelHead.τ).loc Cert.KernelHead.main_arg5))
      ∧ r.2.sem = fun _ => 0)

def quiescent_KernelHeadIdeal [hKernelHeadIdeal : Cert.KernelHeadIdeal.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg), Pre_KernelHeadIdeal m →
    θ_run (Cert.KernelHeadIdeal.defs (F := Ideal)) (onTc (τ := Cert.KernelHeadIdeal.τ) (Cert.KernelHeadIdeal.main (F := Ideal))) ⟨m, fun _ => 0, g⟩ (fun r => (∀ c : Dev Cert.KernelHeadIdeal.nD,
      r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
      ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
      ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
      ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3)
      ∧ r.2.mem ((c.tc : Thread Cert.KernelHeadIdeal.nD Cert.KernelHeadIdeal.τ).loc Cert.KernelHeadIdeal.main_arg4) = m ((c.tc : Thread Cert.KernelHeadIdeal.nD Cert.KernelHeadIdeal.τ).loc Cert.KernelHeadIdeal.main_arg4)
      ∧ r.2.mem ((c.tc : Thread Cert.KernelHeadIdeal.nD Cert.KernelHeadIdeal.τ).loc Cert.KernelHeadIdeal.main_arg5) = m ((c.tc : Thread Cert.KernelHeadIdeal.nD Cert.KernelHeadIdeal.τ).loc Cert.KernelHeadIdeal.main_arg5))
      ∧ r.2.sem = fun _ => 0)

def quiescent_KernelHeadIdeal_pre_head_finite [hKernelHeadIdeal : Cert.KernelHeadIdeal.Facts] [hPre_head_finite : Cert.Pre_head_finite.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg), Pre_KernelHeadIdeal_head_finite m →
    θ_run (Cert.KernelHeadIdeal.defs (F := Ideal)) (onTc (τ := Cert.KernelHeadIdeal.τ) (Cert.KernelHeadIdeal.main (F := Ideal))) ⟨m, fun _ => 0, g⟩ (fun r => (∀ c : Dev Cert.KernelHeadIdeal.nD,
      r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
      ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
      ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
      ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3)
      ∧ r.2.mem ((c.tc : Thread Cert.KernelHeadIdeal.nD Cert.KernelHeadIdeal.τ).loc Cert.KernelHeadIdeal.main_arg4) = m ((c.tc : Thread Cert.KernelHeadIdeal.nD Cert.KernelHeadIdeal.τ).loc Cert.KernelHeadIdeal.main_arg4)
      ∧ r.2.mem ((c.tc : Thread Cert.KernelHeadIdeal.nD Cert.KernelHeadIdeal.τ).loc Cert.KernelHeadIdeal.main_arg5) = m ((c.tc : Thread Cert.KernelHeadIdeal.nD Cert.KernelHeadIdeal.τ).loc Cert.KernelHeadIdeal.main_arg5))
      ∧ r.2.sem = fun _ => 0)

def quiescent_RefHeadIdeal [hRefHeadIdeal : Cert.RefHeadIdeal.Facts] : Prop :=
  ∀ (m : (ℓ : Loc Cert.RefHeadIdeal.nD Cert.RefHeadIdeal.τ Cert.RefHeadIdeal.sig) → Buf (Elt Ideal) ℓ) (g : Dev Cert.RefHeadIdeal.nD → PrngReg), Pre_RefHeadIdeal m →
    θ_run (Cert.RefHeadIdeal.defs (F := Ideal)) (onTc (τ := Cert.RefHeadIdeal.τ) (Cert.RefHeadIdeal.main (F := Ideal))) ⟨m, fun _ => 0, g⟩ (fun r => (∀ c : Dev Cert.RefHeadIdeal.nD,
      r.2.mem ((c.tc : Thread Cert.RefHeadIdeal.nD Cert.RefHeadIdeal.τ).loc Cert.RefHeadIdeal.main_arg0) = m ((c.tc : Thread Cert.RefHeadIdeal.nD Cert.RefHeadIdeal.τ).loc Cert.RefHeadIdeal.main_arg0)
      ∧ r.2.mem ((c.tc : Thread Cert.RefHeadIdeal.nD Cert.RefHeadIdeal.τ).loc Cert.RefHeadIdeal.main_arg1) = m ((c.tc : Thread Cert.RefHeadIdeal.nD Cert.RefHeadIdeal.τ).loc Cert.RefHeadIdeal.main_arg1)
      ∧ r.2.mem ((c.tc : Thread Cert.RefHeadIdeal.nD Cert.RefHeadIdeal.τ).loc Cert.RefHeadIdeal.main_arg2) = m ((c.tc : Thread Cert.RefHeadIdeal.nD Cert.RefHeadIdeal.τ).loc Cert.RefHeadIdeal.main_arg2)
      ∧ r.2.mem ((c.tc : Thread Cert.RefHeadIdeal.nD Cert.RefHeadIdeal.τ).loc Cert.RefHeadIdeal.main_arg3) = m ((c.tc : Thread Cert.RefHeadIdeal.nD Cert.RefHeadIdeal.τ).loc Cert.RefHeadIdeal.main_arg3)
      ∧ r.2.mem ((c.tc : Thread Cert.RefHeadIdeal.nD Cert.RefHeadIdeal.τ).loc Cert.RefHeadIdeal.main_arg4) = m ((c.tc : Thread Cert.RefHeadIdeal.nD Cert.RefHeadIdeal.τ).loc Cert.RefHeadIdeal.main_arg4)
      ∧ r.2.mem ((c.tc : Thread Cert.RefHeadIdeal.nD Cert.RefHeadIdeal.τ).loc Cert.RefHeadIdeal.main_arg5) = m ((c.tc : Thread Cert.RefHeadIdeal.nD Cert.RefHeadIdeal.τ).loc Cert.RefHeadIdeal.main_arg5))
      ∧ r.2.sem = fun _ => 0)

def quiescent_RefHeadIdeal_pre_head_finite [hRefHeadIdeal : Cert.RefHeadIdeal.Facts] [hPre_head_finite : Cert.Pre_head_finite.Facts] : Prop :=
  ∀ (m : (ℓ : Loc Cert.RefHeadIdeal.nD Cert.RefHeadIdeal.τ Cert.RefHeadIdeal.sig) → Buf (Elt Ideal) ℓ) (g : Dev Cert.RefHeadIdeal.nD → PrngReg), Pre_RefHeadIdeal_head_finite m →
    θ_run (Cert.RefHeadIdeal.defs (F := Ideal)) (onTc (τ := Cert.RefHeadIdeal.τ) (Cert.RefHeadIdeal.main (F := Ideal))) ⟨m, fun _ => 0, g⟩ (fun r => (∀ c : Dev Cert.RefHeadIdeal.nD,
      r.2.mem ((c.tc : Thread Cert.RefHeadIdeal.nD Cert.RefHeadIdeal.τ).loc Cert.RefHeadIdeal.main_arg0) = m ((c.tc : Thread Cert.RefHeadIdeal.nD Cert.RefHeadIdeal.τ).loc Cert.RefHeadIdeal.main_arg0)
      ∧ r.2.mem ((c.tc : Thread Cert.RefHeadIdeal.nD Cert.RefHeadIdeal.τ).loc Cert.RefHeadIdeal.main_arg1) = m ((c.tc : Thread Cert.RefHeadIdeal.nD Cert.RefHeadIdeal.τ).loc Cert.RefHeadIdeal.main_arg1)
      ∧ r.2.mem ((c.tc : Thread Cert.RefHeadIdeal.nD Cert.RefHeadIdeal.τ).loc Cert.RefHeadIdeal.main_arg2) = m ((c.tc : Thread Cert.RefHeadIdeal.nD Cert.RefHeadIdeal.τ).loc Cert.RefHeadIdeal.main_arg2)
      ∧ r.2.mem ((c.tc : Thread Cert.RefHeadIdeal.nD Cert.RefHeadIdeal.τ).loc Cert.RefHeadIdeal.main_arg3) = m ((c.tc : Thread Cert.RefHeadIdeal.nD Cert.RefHeadIdeal.τ).loc Cert.RefHeadIdeal.main_arg3)
      ∧ r.2.mem ((c.tc : Thread Cert.RefHeadIdeal.nD Cert.RefHeadIdeal.τ).loc Cert.RefHeadIdeal.main_arg4) = m ((c.tc : Thread Cert.RefHeadIdeal.nD Cert.RefHeadIdeal.τ).loc Cert.RefHeadIdeal.main_arg4)
      ∧ r.2.mem ((c.tc : Thread Cert.RefHeadIdeal.nD Cert.RefHeadIdeal.τ).loc Cert.RefHeadIdeal.main_arg5) = m ((c.tc : Thread Cert.RefHeadIdeal.nD Cert.RefHeadIdeal.τ).loc Cert.RefHeadIdeal.main_arg5))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3)
      ∧ r.2.mem ((c.tc : Thread Cert.KernelMid.nD Cert.KernelMid.τ).loc Cert.KernelMid.main_arg4) = m ((c.tc : Thread Cert.KernelMid.nD Cert.KernelMid.τ).loc Cert.KernelMid.main_arg4)
      ∧ r.2.mem ((c.tc : Thread Cert.KernelMid.nD Cert.KernelMid.τ).loc Cert.KernelMid.main_arg5) = m ((c.tc : Thread Cert.KernelMid.nD Cert.KernelMid.τ).loc Cert.KernelMid.main_arg5)
      ∧ r.2.mem ((c.tc : Thread Cert.KernelMid.nD Cert.KernelMid.τ).loc Cert.KernelMid.main_arg6) = m ((c.tc : Thread Cert.KernelMid.nD Cert.KernelMid.τ).loc Cert.KernelMid.main_arg6)
      ∧ r.2.mem ((c.tc : Thread Cert.KernelMid.nD Cert.KernelMid.τ).loc Cert.KernelMid.main_arg7) = m ((c.tc : Thread Cert.KernelMid.nD Cert.KernelMid.τ).loc Cert.KernelMid.main_arg7))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
      ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
      ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
      ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7))
      ∧ r.2.sem = fun _ => 0)

def quiescent_KernelMidIdeal_pre_mid_finite [hKernelMidIdeal : Cert.KernelMidIdeal.Facts] [hPre_mid_finite : Cert.Pre_mid_finite.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal_mid_finite m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
      ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
      ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
      ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7))
      ∧ r.2.sem = fun _ => 0)

def quiescent_RefMidIdeal [hRefMidIdeal : Cert.RefMidIdeal.Facts] : Prop :=
  ∀ (m : (ℓ : Loc Cert.RefMidIdeal.nD Cert.RefMidIdeal.τ Cert.RefMidIdeal.sig) → Buf (Elt Ideal) ℓ) (g : Dev Cert.RefMidIdeal.nD → PrngReg), Pre_RefMidIdeal m →
    θ_run (Cert.RefMidIdeal.defs (F := Ideal)) (onTc (τ := Cert.RefMidIdeal.τ) (Cert.RefMidIdeal.main (F := Ideal))) ⟨m, fun _ => 0, g⟩ (fun r => (∀ c : Dev Cert.RefMidIdeal.nD,
      r.2.mem ((c.tc : Thread Cert.RefMidIdeal.nD Cert.RefMidIdeal.τ).loc Cert.RefMidIdeal.main_arg0) = m ((c.tc : Thread Cert.RefMidIdeal.nD Cert.RefMidIdeal.τ).loc Cert.RefMidIdeal.main_arg0)
      ∧ r.2.mem ((c.tc : Thread Cert.RefMidIdeal.nD Cert.RefMidIdeal.τ).loc Cert.RefMidIdeal.main_arg1) = m ((c.tc : Thread Cert.RefMidIdeal.nD Cert.RefMidIdeal.τ).loc Cert.RefMidIdeal.main_arg1)
      ∧ r.2.mem ((c.tc : Thread Cert.RefMidIdeal.nD Cert.RefMidIdeal.τ).loc Cert.RefMidIdeal.main_arg2) = m ((c.tc : Thread Cert.RefMidIdeal.nD Cert.RefMidIdeal.τ).loc Cert.RefMidIdeal.main_arg2)
      ∧ r.2.mem ((c.tc : Thread Cert.RefMidIdeal.nD Cert.RefMidIdeal.τ).loc Cert.RefMidIdeal.main_arg3) = m ((c.tc : Thread Cert.RefMidIdeal.nD Cert.RefMidIdeal.τ).loc Cert.RefMidIdeal.main_arg3)
      ∧ r.2.mem ((c.tc : Thread Cert.RefMidIdeal.nD Cert.RefMidIdeal.τ).loc Cert.RefMidIdeal.main_arg4) = m ((c.tc : Thread Cert.RefMidIdeal.nD Cert.RefMidIdeal.τ).loc Cert.RefMidIdeal.main_arg4)
      ∧ r.2.mem ((c.tc : Thread Cert.RefMidIdeal.nD Cert.RefMidIdeal.τ).loc Cert.RefMidIdeal.main_arg5) = m ((c.tc : Thread Cert.RefMidIdeal.nD Cert.RefMidIdeal.τ).loc Cert.RefMidIdeal.main_arg5)
      ∧ r.2.mem ((c.tc : Thread Cert.RefMidIdeal.nD Cert.RefMidIdeal.τ).loc Cert.RefMidIdeal.main_arg6) = m ((c.tc : Thread Cert.RefMidIdeal.nD Cert.RefMidIdeal.τ).loc Cert.RefMidIdeal.main_arg6)
      ∧ r.2.mem ((c.tc : Thread Cert.RefMidIdeal.nD Cert.RefMidIdeal.τ).loc Cert.RefMidIdeal.main_arg7) = m ((c.tc : Thread Cert.RefMidIdeal.nD Cert.RefMidIdeal.τ).loc Cert.RefMidIdeal.main_arg7))
      ∧ r.2.sem = fun _ => 0)

def quiescent_RefMidIdeal_pre_mid_finite [hRefMidIdeal : Cert.RefMidIdeal.Facts] [hPre_mid_finite : Cert.Pre_mid_finite.Facts] : Prop :=
  ∀ (m : (ℓ : Loc Cert.RefMidIdeal.nD Cert.RefMidIdeal.τ Cert.RefMidIdeal.sig) → Buf (Elt Ideal) ℓ) (g : Dev Cert.RefMidIdeal.nD → PrngReg), Pre_RefMidIdeal_mid_finite m →
    θ_run (Cert.RefMidIdeal.defs (F := Ideal)) (onTc (τ := Cert.RefMidIdeal.τ) (Cert.RefMidIdeal.main (F := Ideal))) ⟨m, fun _ => 0, g⟩ (fun r => (∀ c : Dev Cert.RefMidIdeal.nD,
      r.2.mem ((c.tc : Thread Cert.RefMidIdeal.nD Cert.RefMidIdeal.τ).loc Cert.RefMidIdeal.main_arg0) = m ((c.tc : Thread Cert.RefMidIdeal.nD Cert.RefMidIdeal.τ).loc Cert.RefMidIdeal.main_arg0)
      ∧ r.2.mem ((c.tc : Thread Cert.RefMidIdeal.nD Cert.RefMidIdeal.τ).loc Cert.RefMidIdeal.main_arg1) = m ((c.tc : Thread Cert.RefMidIdeal.nD Cert.RefMidIdeal.τ).loc Cert.RefMidIdeal.main_arg1)
      ∧ r.2.mem ((c.tc : Thread Cert.RefMidIdeal.nD Cert.RefMidIdeal.τ).loc Cert.RefMidIdeal.main_arg2) = m ((c.tc : Thread Cert.RefMidIdeal.nD Cert.RefMidIdeal.τ).loc Cert.RefMidIdeal.main_arg2)
      ∧ r.2.mem ((c.tc : Thread Cert.RefMidIdeal.nD Cert.RefMidIdeal.τ).loc Cert.RefMidIdeal.main_arg3) = m ((c.tc : Thread Cert.RefMidIdeal.nD Cert.RefMidIdeal.τ).loc Cert.RefMidIdeal.main_arg3)
      ∧ r.2.mem ((c.tc : Thread Cert.RefMidIdeal.nD Cert.RefMidIdeal.τ).loc Cert.RefMidIdeal.main_arg4) = m ((c.tc : Thread Cert.RefMidIdeal.nD Cert.RefMidIdeal.τ).loc Cert.RefMidIdeal.main_arg4)
      ∧ r.2.mem ((c.tc : Thread Cert.RefMidIdeal.nD Cert.RefMidIdeal.τ).loc Cert.RefMidIdeal.main_arg5) = m ((c.tc : Thread Cert.RefMidIdeal.nD Cert.RefMidIdeal.τ).loc Cert.RefMidIdeal.main_arg5)
      ∧ r.2.mem ((c.tc : Thread Cert.RefMidIdeal.nD Cert.RefMidIdeal.τ).loc Cert.RefMidIdeal.main_arg6) = m ((c.tc : Thread Cert.RefMidIdeal.nD Cert.RefMidIdeal.τ).loc Cert.RefMidIdeal.main_arg6)
      ∧ r.2.mem ((c.tc : Thread Cert.RefMidIdeal.nD Cert.RefMidIdeal.τ).loc Cert.RefMidIdeal.main_arg7) = m ((c.tc : Thread Cert.RefMidIdeal.nD Cert.RefMidIdeal.τ).loc Cert.RefMidIdeal.main_arg7))
      ∧ r.2.sem = fun _ => 0)

def quiescent_KernelAtf [hKernelAtf : Cert.KernelAtf.Facts] : Prop :=
  ∀ (m : (ℓ : Loc Cert.KernelAtf.nD Cert.KernelAtf.τ Cert.KernelAtf.sig) → Buf (Elt Bits) ℓ) (g : Dev Cert.KernelAtf.nD → PrngReg), Pre_KernelAtf m →
    θ_run (Cert.KernelAtf.defs (F := Bits)) (onTc (τ := Cert.KernelAtf.τ) (Cert.KernelAtf.main (F := Bits))) ⟨m, fun _ => 0, g⟩ (fun r => (∀ c : Dev Cert.KernelAtf.nD,
      r.2.mem ((c.tc : Thread Cert.KernelAtf.nD Cert.KernelAtf.τ).loc Cert.KernelAtf.main_arg0) = m ((c.tc : Thread Cert.KernelAtf.nD Cert.KernelAtf.τ).loc Cert.KernelAtf.main_arg0)
      ∧ r.2.mem ((c.tc : Thread Cert.KernelAtf.nD Cert.KernelAtf.τ).loc Cert.KernelAtf.main_arg1) = m ((c.tc : Thread Cert.KernelAtf.nD Cert.KernelAtf.τ).loc Cert.KernelAtf.main_arg1))
      ∧ r.2.sem = fun _ => 0)

def quiescent_KernelAtfIdeal [hKernelAtfIdeal : Cert.KernelAtfIdeal.Facts] : Prop :=
  ∀ (m : (ℓ : Loc Cert.KernelAtfIdeal.nD Cert.KernelAtfIdeal.τ Cert.KernelAtfIdeal.sig) → Buf (Elt Ideal) ℓ) (g : Dev Cert.KernelAtfIdeal.nD → PrngReg), Pre_KernelAtfIdeal m →
    θ_run (Cert.KernelAtfIdeal.defs (F := Ideal)) (onTc (τ := Cert.KernelAtfIdeal.τ) (Cert.KernelAtfIdeal.main (F := Ideal))) ⟨m, fun _ => 0, g⟩ (fun r => (∀ c : Dev Cert.KernelAtfIdeal.nD,
      r.2.mem ((c.tc : Thread Cert.KernelAtfIdeal.nD Cert.KernelAtfIdeal.τ).loc Cert.KernelAtfIdeal.main_arg0) = m ((c.tc : Thread Cert.KernelAtfIdeal.nD Cert.KernelAtfIdeal.τ).loc Cert.KernelAtfIdeal.main_arg0)
      ∧ r.2.mem ((c.tc : Thread Cert.KernelAtfIdeal.nD Cert.KernelAtfIdeal.τ).loc Cert.KernelAtfIdeal.main_arg1) = m ((c.tc : Thread Cert.KernelAtfIdeal.nD Cert.KernelAtfIdeal.τ).loc Cert.KernelAtfIdeal.main_arg1))
      ∧ r.2.sem = fun _ => 0)

def quiescent_KernelAtfIdeal_pre_queries_finite [hKernelAtfIdeal : Cert.KernelAtfIdeal.Facts] [hPre_queries_finite : Cert.Pre_queries_finite.Facts] : Prop :=
  ∀ (m : (ℓ : Loc Cert.KernelAtfIdeal.nD Cert.KernelAtfIdeal.τ Cert.KernelAtfIdeal.sig) → Buf (Elt Ideal) ℓ) (g : Dev Cert.KernelAtfIdeal.nD → PrngReg), Pre_KernelAtfIdeal_queries_finite m →
    θ_run (Cert.KernelAtfIdeal.defs (F := Ideal)) (onTc (τ := Cert.KernelAtfIdeal.τ) (Cert.KernelAtfIdeal.main (F := Ideal))) ⟨m, fun _ => 0, g⟩ (fun r => (∀ c : Dev Cert.KernelAtfIdeal.nD,
      r.2.mem ((c.tc : Thread Cert.KernelAtfIdeal.nD Cert.KernelAtfIdeal.τ).loc Cert.KernelAtfIdeal.main_arg0) = m ((c.tc : Thread Cert.KernelAtfIdeal.nD Cert.KernelAtfIdeal.τ).loc Cert.KernelAtfIdeal.main_arg0)
      ∧ r.2.mem ((c.tc : Thread Cert.KernelAtfIdeal.nD Cert.KernelAtfIdeal.τ).loc Cert.KernelAtfIdeal.main_arg1) = m ((c.tc : Thread Cert.KernelAtfIdeal.nD Cert.KernelAtfIdeal.τ).loc Cert.KernelAtfIdeal.main_arg1))
      ∧ r.2.sem = fun _ => 0)

def quiescent_RefAtfIdeal [hRefAtfIdeal : Cert.RefAtfIdeal.Facts] : Prop :=
  ∀ (m : (ℓ : Loc Cert.RefAtfIdeal.nD Cert.RefAtfIdeal.τ Cert.RefAtfIdeal.sig) → Buf (Elt Ideal) ℓ) (g : Dev Cert.RefAtfIdeal.nD → PrngReg), Pre_RefAtfIdeal m →
    θ_run (Cert.RefAtfIdeal.defs (F := Ideal)) (onTc (τ := Cert.RefAtfIdeal.τ) (Cert.RefAtfIdeal.main (F := Ideal))) ⟨m, fun _ => 0, g⟩ (fun r => (∀ c : Dev Cert.RefAtfIdeal.nD,
      r.2.mem ((c.tc : Thread Cert.RefAtfIdeal.nD Cert.RefAtfIdeal.τ).loc Cert.RefAtfIdeal.main_arg0) = m ((c.tc : Thread Cert.RefAtfIdeal.nD Cert.RefAtfIdeal.τ).loc Cert.RefAtfIdeal.main_arg0)
      ∧ r.2.mem ((c.tc : Thread Cert.RefAtfIdeal.nD Cert.RefAtfIdeal.τ).loc Cert.RefAtfIdeal.main_arg1) = m ((c.tc : Thread Cert.RefAtfIdeal.nD Cert.RefAtfIdeal.τ).loc Cert.RefAtfIdeal.main_arg1))
      ∧ r.2.sem = fun _ => 0)

def quiescent_RefAtfIdeal_pre_queries_finite [hRefAtfIdeal : Cert.RefAtfIdeal.Facts] [hPre_queries_finite : Cert.Pre_queries_finite.Facts] : Prop :=
  ∀ (m : (ℓ : Loc Cert.RefAtfIdeal.nD Cert.RefAtfIdeal.τ Cert.RefAtfIdeal.sig) → Buf (Elt Ideal) ℓ) (g : Dev Cert.RefAtfIdeal.nD → PrngReg), Pre_RefAtfIdeal_queries_finite m →
    θ_run (Cert.RefAtfIdeal.defs (F := Ideal)) (onTc (τ := Cert.RefAtfIdeal.τ) (Cert.RefAtfIdeal.main (F := Ideal))) ⟨m, fun _ => 0, g⟩ (fun r => (∀ c : Dev Cert.RefAtfIdeal.nD,
      r.2.mem ((c.tc : Thread Cert.RefAtfIdeal.nD Cert.RefAtfIdeal.τ).loc Cert.RefAtfIdeal.main_arg0) = m ((c.tc : Thread Cert.RefAtfIdeal.nD Cert.RefAtfIdeal.τ).loc Cert.RefAtfIdeal.main_arg0)
      ∧ r.2.mem ((c.tc : Thread Cert.RefAtfIdeal.nD Cert.RefAtfIdeal.τ).loc Cert.RefAtfIdeal.main_arg1) = m ((c.tc : Thread Cert.RefAtfIdeal.nD Cert.RefAtfIdeal.τ).loc Cert.RefAtfIdeal.main_arg1))
      ∧ r.2.sem = fun _ => 0)

def quiescent_KernelLnf [hKernelLnf : Cert.KernelLnf.Facts] : Prop :=
  ∀ (m : (ℓ : Loc Cert.KernelLnf.nD Cert.KernelLnf.τ Cert.KernelLnf.sig) → Buf (Elt Bits) ℓ) (g : Dev Cert.KernelLnf.nD → PrngReg), Pre_KernelLnf m →
    θ_run (Cert.KernelLnf.defs (F := Bits)) (onTc (τ := Cert.KernelLnf.τ) (Cert.KernelLnf.main (F := Bits))) ⟨m, fun _ => 0, g⟩ (fun r => (∀ c : Dev Cert.KernelLnf.nD,
      r.2.mem ((c.tc : Thread Cert.KernelLnf.nD Cert.KernelLnf.τ).loc Cert.KernelLnf.main_arg0) = m ((c.tc : Thread Cert.KernelLnf.nD Cert.KernelLnf.τ).loc Cert.KernelLnf.main_arg0)
      ∧ r.2.mem ((c.tc : Thread Cert.KernelLnf.nD Cert.KernelLnf.τ).loc Cert.KernelLnf.main_arg1) = m ((c.tc : Thread Cert.KernelLnf.nD Cert.KernelLnf.τ).loc Cert.KernelLnf.main_arg1)
      ∧ r.2.mem ((c.tc : Thread Cert.KernelLnf.nD Cert.KernelLnf.τ).loc Cert.KernelLnf.main_arg2) = m ((c.tc : Thread Cert.KernelLnf.nD Cert.KernelLnf.τ).loc Cert.KernelLnf.main_arg2)
      ∧ r.2.mem ((c.tc : Thread Cert.KernelLnf.nD Cert.KernelLnf.τ).loc Cert.KernelLnf.main_arg3) = m ((c.tc : Thread Cert.KernelLnf.nD Cert.KernelLnf.τ).loc Cert.KernelLnf.main_arg3)
      ∧ r.2.mem ((c.tc : Thread Cert.KernelLnf.nD Cert.KernelLnf.τ).loc Cert.KernelLnf.main_arg4) = m ((c.tc : Thread Cert.KernelLnf.nD Cert.KernelLnf.τ).loc Cert.KernelLnf.main_arg4))
      ∧ r.2.sem = fun _ => 0)

def quiescent_KernelLnfIdeal [hKernelLnfIdeal : Cert.KernelLnfIdeal.Facts] : Prop :=
  ∀ (m : (ℓ : Loc Cert.KernelLnfIdeal.nD Cert.KernelLnfIdeal.τ Cert.KernelLnfIdeal.sig) → Buf (Elt Ideal) ℓ) (g : Dev Cert.KernelLnfIdeal.nD → PrngReg), Pre_KernelLnfIdeal m →
    θ_run (Cert.KernelLnfIdeal.defs (F := Ideal)) (onTc (τ := Cert.KernelLnfIdeal.τ) (Cert.KernelLnfIdeal.main (F := Ideal))) ⟨m, fun _ => 0, g⟩ (fun r => (∀ c : Dev Cert.KernelLnfIdeal.nD,
      r.2.mem ((c.tc : Thread Cert.KernelLnfIdeal.nD Cert.KernelLnfIdeal.τ).loc Cert.KernelLnfIdeal.main_arg0) = m ((c.tc : Thread Cert.KernelLnfIdeal.nD Cert.KernelLnfIdeal.τ).loc Cert.KernelLnfIdeal.main_arg0)
      ∧ r.2.mem ((c.tc : Thread Cert.KernelLnfIdeal.nD Cert.KernelLnfIdeal.τ).loc Cert.KernelLnfIdeal.main_arg1) = m ((c.tc : Thread Cert.KernelLnfIdeal.nD Cert.KernelLnfIdeal.τ).loc Cert.KernelLnfIdeal.main_arg1)
      ∧ r.2.mem ((c.tc : Thread Cert.KernelLnfIdeal.nD Cert.KernelLnfIdeal.τ).loc Cert.KernelLnfIdeal.main_arg2) = m ((c.tc : Thread Cert.KernelLnfIdeal.nD Cert.KernelLnfIdeal.τ).loc Cert.KernelLnfIdeal.main_arg2)
      ∧ r.2.mem ((c.tc : Thread Cert.KernelLnfIdeal.nD Cert.KernelLnfIdeal.τ).loc Cert.KernelLnfIdeal.main_arg3) = m ((c.tc : Thread Cert.KernelLnfIdeal.nD Cert.KernelLnfIdeal.τ).loc Cert.KernelLnfIdeal.main_arg3)
      ∧ r.2.mem ((c.tc : Thread Cert.KernelLnfIdeal.nD Cert.KernelLnfIdeal.τ).loc Cert.KernelLnfIdeal.main_arg4) = m ((c.tc : Thread Cert.KernelLnfIdeal.nD Cert.KernelLnfIdeal.τ).loc Cert.KernelLnfIdeal.main_arg4))
      ∧ r.2.sem = fun _ => 0)

def quiescent_RefLnfIdeal [hRefLnfIdeal : Cert.RefLnfIdeal.Facts] : Prop :=
  ∀ (m : (ℓ : Loc Cert.RefLnfIdeal.nD Cert.RefLnfIdeal.τ Cert.RefLnfIdeal.sig) → Buf (Elt Ideal) ℓ) (g : Dev Cert.RefLnfIdeal.nD → PrngReg), Pre_RefLnfIdeal m →
    θ_run (Cert.RefLnfIdeal.defs (F := Ideal)) (onTc (τ := Cert.RefLnfIdeal.τ) (Cert.RefLnfIdeal.main (F := Ideal))) ⟨m, fun _ => 0, g⟩ (fun r => (∀ c : Dev Cert.RefLnfIdeal.nD,
      r.2.mem ((c.tc : Thread Cert.RefLnfIdeal.nD Cert.RefLnfIdeal.τ).loc Cert.RefLnfIdeal.main_arg0) = m ((c.tc : Thread Cert.RefLnfIdeal.nD Cert.RefLnfIdeal.τ).loc Cert.RefLnfIdeal.main_arg0)
      ∧ r.2.mem ((c.tc : Thread Cert.RefLnfIdeal.nD Cert.RefLnfIdeal.τ).loc Cert.RefLnfIdeal.main_arg1) = m ((c.tc : Thread Cert.RefLnfIdeal.nD Cert.RefLnfIdeal.τ).loc Cert.RefLnfIdeal.main_arg1)
      ∧ r.2.mem ((c.tc : Thread Cert.RefLnfIdeal.nD Cert.RefLnfIdeal.τ).loc Cert.RefLnfIdeal.main_arg2) = m ((c.tc : Thread Cert.RefLnfIdeal.nD Cert.RefLnfIdeal.τ).loc Cert.RefLnfIdeal.main_arg2)
      ∧ r.2.mem ((c.tc : Thread Cert.RefLnfIdeal.nD Cert.RefLnfIdeal.τ).loc Cert.RefLnfIdeal.main_arg3) = m ((c.tc : Thread Cert.RefLnfIdeal.nD Cert.RefLnfIdeal.τ).loc Cert.RefLnfIdeal.main_arg3)
      ∧ r.2.mem ((c.tc : Thread Cert.RefLnfIdeal.nD Cert.RefLnfIdeal.τ).loc Cert.RefLnfIdeal.main_arg4) = m ((c.tc : Thread Cert.RefLnfIdeal.nD Cert.RefLnfIdeal.τ).loc Cert.RefLnfIdeal.main_arg4))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2)
      ∧ r.2.mem ((c.tc : Thread Cert.KernelMod.nD Cert.KernelMod.τ).loc Cert.KernelMod.main_arg3) = m ((c.tc : Thread Cert.KernelMod.nD Cert.KernelMod.τ).loc Cert.KernelMod.main_arg3))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
      ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ r.2.sem = fun _ => 0)

def quiescent_RefModIdeal [hRefModIdeal : Cert.RefModIdeal.Facts] : Prop :=
  ∀ (m : (ℓ : Loc Cert.RefModIdeal.nD Cert.RefModIdeal.τ Cert.RefModIdeal.sig) → Buf (Elt Ideal) ℓ) (g : Dev Cert.RefModIdeal.nD → PrngReg), Pre_RefModIdeal m →
    θ_run (Cert.RefModIdeal.defs (F := Ideal)) (onTc (τ := Cert.RefModIdeal.τ) (Cert.RefModIdeal.main (F := Ideal))) ⟨m, fun _ => 0, g⟩ (fun r => (∀ c : Dev Cert.RefModIdeal.nD,
      r.2.mem ((c.tc : Thread Cert.RefModIdeal.nD Cert.RefModIdeal.τ).loc Cert.RefModIdeal.main_arg0) = m ((c.tc : Thread Cert.RefModIdeal.nD Cert.RefModIdeal.τ).loc Cert.RefModIdeal.main_arg0)
      ∧ r.2.mem ((c.tc : Thread Cert.RefModIdeal.nD Cert.RefModIdeal.τ).loc Cert.RefModIdeal.main_arg1) = m ((c.tc : Thread Cert.RefModIdeal.nD Cert.RefModIdeal.τ).loc Cert.RefModIdeal.main_arg1)
      ∧ r.2.mem ((c.tc : Thread Cert.RefModIdeal.nD Cert.RefModIdeal.τ).loc Cert.RefModIdeal.main_arg2) = m ((c.tc : Thread Cert.RefModIdeal.nD Cert.RefModIdeal.τ).loc Cert.RefModIdeal.main_arg2)
      ∧ r.2.mem ((c.tc : Thread Cert.RefModIdeal.nD Cert.RefModIdeal.τ).loc Cert.RefModIdeal.main_arg3) = m ((c.tc : Thread Cert.RefModIdeal.nD Cert.RefModIdeal.τ).loc Cert.RefModIdeal.main_arg3))
      ∧ r.2.sem = fun _ => 0)

def quiescent_KernelFfd [hKernelFfd : Cert.KernelFfd.Facts] : Prop :=
  ∀ (m : (ℓ : Loc Cert.KernelFfd.nD Cert.KernelFfd.τ Cert.KernelFfd.sig) → Buf (Elt Bits) ℓ) (g : Dev Cert.KernelFfd.nD → PrngReg), Pre_KernelFfd m →
    θ_run (Cert.KernelFfd.defs (F := Bits)) (onTc (τ := Cert.KernelFfd.τ) (Cert.KernelFfd.main (F := Bits))) ⟨m, fun _ => 0, g⟩ (fun r => (∀ c : Dev Cert.KernelFfd.nD,
      r.2.mem ((c.tc : Thread Cert.KernelFfd.nD Cert.KernelFfd.τ).loc Cert.KernelFfd.main_arg0) = m ((c.tc : Thread Cert.KernelFfd.nD Cert.KernelFfd.τ).loc Cert.KernelFfd.main_arg0)
      ∧ r.2.mem ((c.tc : Thread Cert.KernelFfd.nD Cert.KernelFfd.τ).loc Cert.KernelFfd.main_arg1) = m ((c.tc : Thread Cert.KernelFfd.nD Cert.KernelFfd.τ).loc Cert.KernelFfd.main_arg1)
      ∧ r.2.mem ((c.tc : Thread Cert.KernelFfd.nD Cert.KernelFfd.τ).loc Cert.KernelFfd.main_arg2) = m ((c.tc : Thread Cert.KernelFfd.nD Cert.KernelFfd.τ).loc Cert.KernelFfd.main_arg2)
      ∧ r.2.mem ((c.tc : Thread Cert.KernelFfd.nD Cert.KernelFfd.τ).loc Cert.KernelFfd.main_arg3) = m ((c.tc : Thread Cert.KernelFfd.nD Cert.KernelFfd.τ).loc Cert.KernelFfd.main_arg3)
      ∧ r.2.mem ((c.tc : Thread Cert.KernelFfd.nD Cert.KernelFfd.τ).loc Cert.KernelFfd.main_arg4) = m ((c.tc : Thread Cert.KernelFfd.nD Cert.KernelFfd.τ).loc Cert.KernelFfd.main_arg4))
      ∧ r.2.sem = fun _ => 0)

def quiescent_KernelFfdIdeal [hKernelFfdIdeal : Cert.KernelFfdIdeal.Facts] : Prop :=
  ∀ (m : (ℓ : Loc Cert.KernelFfdIdeal.nD Cert.KernelFfdIdeal.τ Cert.KernelFfdIdeal.sig) → Buf (Elt Ideal) ℓ) (g : Dev Cert.KernelFfdIdeal.nD → PrngReg), Pre_KernelFfdIdeal m →
    θ_run (Cert.KernelFfdIdeal.defs (F := Ideal)) (onTc (τ := Cert.KernelFfdIdeal.τ) (Cert.KernelFfdIdeal.main (F := Ideal))) ⟨m, fun _ => 0, g⟩ (fun r => (∀ c : Dev Cert.KernelFfdIdeal.nD,
      r.2.mem ((c.tc : Thread Cert.KernelFfdIdeal.nD Cert.KernelFfdIdeal.τ).loc Cert.KernelFfdIdeal.main_arg0) = m ((c.tc : Thread Cert.KernelFfdIdeal.nD Cert.KernelFfdIdeal.τ).loc Cert.KernelFfdIdeal.main_arg0)
      ∧ r.2.mem ((c.tc : Thread Cert.KernelFfdIdeal.nD Cert.KernelFfdIdeal.τ).loc Cert.KernelFfdIdeal.main_arg1) = m ((c.tc : Thread Cert.KernelFfdIdeal.nD Cert.KernelFfdIdeal.τ).loc Cert.KernelFfdIdeal.main_arg1)
      ∧ r.2.mem ((c.tc : Thread Cert.KernelFfdIdeal.nD Cert.KernelFfdIdeal.τ).loc Cert.KernelFfdIdeal.main_arg2) = m ((c.tc : Thread Cert.KernelFfdIdeal.nD Cert.KernelFfdIdeal.τ).loc Cert.KernelFfdIdeal.main_arg2)
      ∧ r.2.mem ((c.tc : Thread Cert.KernelFfdIdeal.nD Cert.KernelFfdIdeal.τ).loc Cert.KernelFfdIdeal.main_arg3) = m ((c.tc : Thread Cert.KernelFfdIdeal.nD Cert.KernelFfdIdeal.τ).loc Cert.KernelFfdIdeal.main_arg3)
      ∧ r.2.mem ((c.tc : Thread Cert.KernelFfdIdeal.nD Cert.KernelFfdIdeal.τ).loc Cert.KernelFfdIdeal.main_arg4) = m ((c.tc : Thread Cert.KernelFfdIdeal.nD Cert.KernelFfdIdeal.τ).loc Cert.KernelFfdIdeal.main_arg4))
      ∧ r.2.sem = fun _ => 0)

def quiescent_RefFfdIdeal [hRefFfdIdeal : Cert.RefFfdIdeal.Facts] : Prop :=
  ∀ (m : (ℓ : Loc Cert.RefFfdIdeal.nD Cert.RefFfdIdeal.τ Cert.RefFfdIdeal.sig) → Buf (Elt Ideal) ℓ) (g : Dev Cert.RefFfdIdeal.nD → PrngReg), Pre_RefFfdIdeal m →
    θ_run (Cert.RefFfdIdeal.defs (F := Ideal)) (onTc (τ := Cert.RefFfdIdeal.τ) (Cert.RefFfdIdeal.main (F := Ideal))) ⟨m, fun _ => 0, g⟩ (fun r => (∀ c : Dev Cert.RefFfdIdeal.nD,
      r.2.mem ((c.tc : Thread Cert.RefFfdIdeal.nD Cert.RefFfdIdeal.τ).loc Cert.RefFfdIdeal.main_arg0) = m ((c.tc : Thread Cert.RefFfdIdeal.nD Cert.RefFfdIdeal.τ).loc Cert.RefFfdIdeal.main_arg0)
      ∧ r.2.mem ((c.tc : Thread Cert.RefFfdIdeal.nD Cert.RefFfdIdeal.τ).loc Cert.RefFfdIdeal.main_arg1) = m ((c.tc : Thread Cert.RefFfdIdeal.nD Cert.RefFfdIdeal.τ).loc Cert.RefFfdIdeal.main_arg1)
      ∧ r.2.mem ((c.tc : Thread Cert.RefFfdIdeal.nD Cert.RefFfdIdeal.τ).loc Cert.RefFfdIdeal.main_arg2) = m ((c.tc : Thread Cert.RefFfdIdeal.nD Cert.RefFfdIdeal.τ).loc Cert.RefFfdIdeal.main_arg2)
      ∧ r.2.mem ((c.tc : Thread Cert.RefFfdIdeal.nD Cert.RefFfdIdeal.τ).loc Cert.RefFfdIdeal.main_arg3) = m ((c.tc : Thread Cert.RefFfdIdeal.nD Cert.RefFfdIdeal.τ).loc Cert.RefFfdIdeal.main_arg3)
      ∧ r.2.mem ((c.tc : Thread Cert.RefFfdIdeal.nD Cert.RefFfdIdeal.τ).loc Cert.RefFfdIdeal.main_arg4) = m ((c.tc : Thread Cert.RefFfdIdeal.nD Cert.RefFfdIdeal.τ).loc Cert.RefFfdIdeal.main_arg4))
      ∧ r.2.sem = fun _ => 0)

def quiescent_KernelWgt [hKernelWgt : Cert.KernelWgt.Facts] : Prop :=
  ∀ (m : (ℓ : Loc Cert.KernelWgt.nD Cert.KernelWgt.τ Cert.KernelWgt.sig) → Buf (Elt Bits) ℓ) (g : Dev Cert.KernelWgt.nD → PrngReg), Pre_KernelWgt m →
    θ_run (Cert.KernelWgt.defs (F := Bits)) (onTc (τ := Cert.KernelWgt.τ) (Cert.KernelWgt.main (F := Bits))) ⟨m, fun _ => 0, g⟩ (fun r => (∀ c : Dev Cert.KernelWgt.nD,
      r.2.mem ((c.tc : Thread Cert.KernelWgt.nD Cert.KernelWgt.τ).loc Cert.KernelWgt.main_arg0) = m ((c.tc : Thread Cert.KernelWgt.nD Cert.KernelWgt.τ).loc Cert.KernelWgt.main_arg0)
      ∧ r.2.mem ((c.tc : Thread Cert.KernelWgt.nD Cert.KernelWgt.τ).loc Cert.KernelWgt.main_arg1) = m ((c.tc : Thread Cert.KernelWgt.nD Cert.KernelWgt.τ).loc Cert.KernelWgt.main_arg1)
      ∧ r.2.mem ((c.tc : Thread Cert.KernelWgt.nD Cert.KernelWgt.τ).loc Cert.KernelWgt.main_arg2) = m ((c.tc : Thread Cert.KernelWgt.nD Cert.KernelWgt.τ).loc Cert.KernelWgt.main_arg2)
      ∧ r.2.mem ((c.tc : Thread Cert.KernelWgt.nD Cert.KernelWgt.τ).loc Cert.KernelWgt.main_arg3) = m ((c.tc : Thread Cert.KernelWgt.nD Cert.KernelWgt.τ).loc Cert.KernelWgt.main_arg3)
      ∧ r.2.mem ((c.tc : Thread Cert.KernelWgt.nD Cert.KernelWgt.τ).loc Cert.KernelWgt.main_arg4) = m ((c.tc : Thread Cert.KernelWgt.nD Cert.KernelWgt.τ).loc Cert.KernelWgt.main_arg4))
      ∧ r.2.sem = fun _ => 0)

def quiescent_KernelWgtIdeal [hKernelWgtIdeal : Cert.KernelWgtIdeal.Facts] : Prop :=
  ∀ (m : (ℓ : Loc Cert.KernelWgtIdeal.nD Cert.KernelWgtIdeal.τ Cert.KernelWgtIdeal.sig) → Buf (Elt Ideal) ℓ) (g : Dev Cert.KernelWgtIdeal.nD → PrngReg), Pre_KernelWgtIdeal m →
    θ_run (Cert.KernelWgtIdeal.defs (F := Ideal)) (onTc (τ := Cert.KernelWgtIdeal.τ) (Cert.KernelWgtIdeal.main (F := Ideal))) ⟨m, fun _ => 0, g⟩ (fun r => (∀ c : Dev Cert.KernelWgtIdeal.nD,
      r.2.mem ((c.tc : Thread Cert.KernelWgtIdeal.nD Cert.KernelWgtIdeal.τ).loc Cert.KernelWgtIdeal.main_arg0) = m ((c.tc : Thread Cert.KernelWgtIdeal.nD Cert.KernelWgtIdeal.τ).loc Cert.KernelWgtIdeal.main_arg0)
      ∧ r.2.mem ((c.tc : Thread Cert.KernelWgtIdeal.nD Cert.KernelWgtIdeal.τ).loc Cert.KernelWgtIdeal.main_arg1) = m ((c.tc : Thread Cert.KernelWgtIdeal.nD Cert.KernelWgtIdeal.τ).loc Cert.KernelWgtIdeal.main_arg1)
      ∧ r.2.mem ((c.tc : Thread Cert.KernelWgtIdeal.nD Cert.KernelWgtIdeal.τ).loc Cert.KernelWgtIdeal.main_arg2) = m ((c.tc : Thread Cert.KernelWgtIdeal.nD Cert.KernelWgtIdeal.τ).loc Cert.KernelWgtIdeal.main_arg2)
      ∧ r.2.mem ((c.tc : Thread Cert.KernelWgtIdeal.nD Cert.KernelWgtIdeal.τ).loc Cert.KernelWgtIdeal.main_arg3) = m ((c.tc : Thread Cert.KernelWgtIdeal.nD Cert.KernelWgtIdeal.τ).loc Cert.KernelWgtIdeal.main_arg3)
      ∧ r.2.mem ((c.tc : Thread Cert.KernelWgtIdeal.nD Cert.KernelWgtIdeal.τ).loc Cert.KernelWgtIdeal.main_arg4) = m ((c.tc : Thread Cert.KernelWgtIdeal.nD Cert.KernelWgtIdeal.τ).loc Cert.KernelWgtIdeal.main_arg4))
      ∧ r.2.sem = fun _ => 0)

def quiescent_RefWgtIdeal [hRefWgtIdeal : Cert.RefWgtIdeal.Facts] : Prop :=
  ∀ (m : (ℓ : Loc Cert.RefWgtIdeal.nD Cert.RefWgtIdeal.τ Cert.RefWgtIdeal.sig) → Buf (Elt Ideal) ℓ) (g : Dev Cert.RefWgtIdeal.nD → PrngReg), Pre_RefWgtIdeal m →
    θ_run (Cert.RefWgtIdeal.defs (F := Ideal)) (onTc (τ := Cert.RefWgtIdeal.τ) (Cert.RefWgtIdeal.main (F := Ideal))) ⟨m, fun _ => 0, g⟩ (fun r => (∀ c : Dev Cert.RefWgtIdeal.nD,
      r.2.mem ((c.tc : Thread Cert.RefWgtIdeal.nD Cert.RefWgtIdeal.τ).loc Cert.RefWgtIdeal.main_arg0) = m ((c.tc : Thread Cert.RefWgtIdeal.nD Cert.RefWgtIdeal.τ).loc Cert.RefWgtIdeal.main_arg0)
      ∧ r.2.mem ((c.tc : Thread Cert.RefWgtIdeal.nD Cert.RefWgtIdeal.τ).loc Cert.RefWgtIdeal.main_arg1) = m ((c.tc : Thread Cert.RefWgtIdeal.nD Cert.RefWgtIdeal.τ).loc Cert.RefWgtIdeal.main_arg1)
      ∧ r.2.mem ((c.tc : Thread Cert.RefWgtIdeal.nD Cert.RefWgtIdeal.τ).loc Cert.RefWgtIdeal.main_arg2) = m ((c.tc : Thread Cert.RefWgtIdeal.nD Cert.RefWgtIdeal.τ).loc Cert.RefWgtIdeal.main_arg2)
      ∧ r.2.mem ((c.tc : Thread Cert.RefWgtIdeal.nD Cert.RefWgtIdeal.τ).loc Cert.RefWgtIdeal.main_arg3) = m ((c.tc : Thread Cert.RefWgtIdeal.nD Cert.RefWgtIdeal.τ).loc Cert.RefWgtIdeal.main_arg3)
      ∧ r.2.mem ((c.tc : Thread Cert.RefWgtIdeal.nD Cert.RefWgtIdeal.τ).loc Cert.RefWgtIdeal.main_arg4) = m ((c.tc : Thread Cert.RefWgtIdeal.nD Cert.RefWgtIdeal.τ).loc Cert.RefWgtIdeal.main_arg4))
      ∧ r.2.sem = fun _ => 0)

def quiescent_KernelWgm [hKernelWgm : Cert.KernelWgm.Facts] : Prop :=
  ∀ (m : (ℓ : Loc Cert.KernelWgm.nD Cert.KernelWgm.τ Cert.KernelWgm.sig) → Buf (Elt Bits) ℓ) (g : Dev Cert.KernelWgm.nD → PrngReg), Pre_KernelWgm m →
    θ_run (Cert.KernelWgm.defs (F := Bits)) (onTc (τ := Cert.KernelWgm.τ) (Cert.KernelWgm.main (F := Bits))) ⟨m, fun _ => 0, g⟩ (fun r => (∀ c : Dev Cert.KernelWgm.nD,
      r.2.mem ((c.tc : Thread Cert.KernelWgm.nD Cert.KernelWgm.τ).loc Cert.KernelWgm.main_arg0) = m ((c.tc : Thread Cert.KernelWgm.nD Cert.KernelWgm.τ).loc Cert.KernelWgm.main_arg0)
      ∧ r.2.mem ((c.tc : Thread Cert.KernelWgm.nD Cert.KernelWgm.τ).loc Cert.KernelWgm.main_arg1) = m ((c.tc : Thread Cert.KernelWgm.nD Cert.KernelWgm.τ).loc Cert.KernelWgm.main_arg1)
      ∧ r.2.mem ((c.tc : Thread Cert.KernelWgm.nD Cert.KernelWgm.τ).loc Cert.KernelWgm.main_arg2) = m ((c.tc : Thread Cert.KernelWgm.nD Cert.KernelWgm.τ).loc Cert.KernelWgm.main_arg2)
      ∧ r.2.mem ((c.tc : Thread Cert.KernelWgm.nD Cert.KernelWgm.τ).loc Cert.KernelWgm.main_arg3) = m ((c.tc : Thread Cert.KernelWgm.nD Cert.KernelWgm.τ).loc Cert.KernelWgm.main_arg3))
      ∧ r.2.sem = fun _ => 0)

def quiescent_KernelWgmIdeal [hKernelWgmIdeal : Cert.KernelWgmIdeal.Facts] : Prop :=
  ∀ (m : (ℓ : Loc Cert.KernelWgmIdeal.nD Cert.KernelWgmIdeal.τ Cert.KernelWgmIdeal.sig) → Buf (Elt Ideal) ℓ) (g : Dev Cert.KernelWgmIdeal.nD → PrngReg), Pre_KernelWgmIdeal m →
    θ_run (Cert.KernelWgmIdeal.defs (F := Ideal)) (onTc (τ := Cert.KernelWgmIdeal.τ) (Cert.KernelWgmIdeal.main (F := Ideal))) ⟨m, fun _ => 0, g⟩ (fun r => (∀ c : Dev Cert.KernelWgmIdeal.nD,
      r.2.mem ((c.tc : Thread Cert.KernelWgmIdeal.nD Cert.KernelWgmIdeal.τ).loc Cert.KernelWgmIdeal.main_arg0) = m ((c.tc : Thread Cert.KernelWgmIdeal.nD Cert.KernelWgmIdeal.τ).loc Cert.KernelWgmIdeal.main_arg0)
      ∧ r.2.mem ((c.tc : Thread Cert.KernelWgmIdeal.nD Cert.KernelWgmIdeal.τ).loc Cert.KernelWgmIdeal.main_arg1) = m ((c.tc : Thread Cert.KernelWgmIdeal.nD Cert.KernelWgmIdeal.τ).loc Cert.KernelWgmIdeal.main_arg1)
      ∧ r.2.mem ((c.tc : Thread Cert.KernelWgmIdeal.nD Cert.KernelWgmIdeal.τ).loc Cert.KernelWgmIdeal.main_arg2) = m ((c.tc : Thread Cert.KernelWgmIdeal.nD Cert.KernelWgmIdeal.τ).loc Cert.KernelWgmIdeal.main_arg2)
      ∧ r.2.mem ((c.tc : Thread Cert.KernelWgmIdeal.nD Cert.KernelWgmIdeal.τ).loc Cert.KernelWgmIdeal.main_arg3) = m ((c.tc : Thread Cert.KernelWgmIdeal.nD Cert.KernelWgmIdeal.τ).loc Cert.KernelWgmIdeal.main_arg3))
      ∧ r.2.sem = fun _ => 0)

def quiescent_RefWgmIdeal [hRefWgmIdeal : Cert.RefWgmIdeal.Facts] : Prop :=
  ∀ (m : (ℓ : Loc Cert.RefWgmIdeal.nD Cert.RefWgmIdeal.τ Cert.RefWgmIdeal.sig) → Buf (Elt Ideal) ℓ) (g : Dev Cert.RefWgmIdeal.nD → PrngReg), Pre_RefWgmIdeal m →
    θ_run (Cert.RefWgmIdeal.defs (F := Ideal)) (onTc (τ := Cert.RefWgmIdeal.τ) (Cert.RefWgmIdeal.main (F := Ideal))) ⟨m, fun _ => 0, g⟩ (fun r => (∀ c : Dev Cert.RefWgmIdeal.nD,
      r.2.mem ((c.tc : Thread Cert.RefWgmIdeal.nD Cert.RefWgmIdeal.τ).loc Cert.RefWgmIdeal.main_arg0) = m ((c.tc : Thread Cert.RefWgmIdeal.nD Cert.RefWgmIdeal.τ).loc Cert.RefWgmIdeal.main_arg0)
      ∧ r.2.mem ((c.tc : Thread Cert.RefWgmIdeal.nD Cert.RefWgmIdeal.τ).loc Cert.RefWgmIdeal.main_arg1) = m ((c.tc : Thread Cert.RefWgmIdeal.nD Cert.RefWgmIdeal.τ).loc Cert.RefWgmIdeal.main_arg1)
      ∧ r.2.mem ((c.tc : Thread Cert.RefWgmIdeal.nD Cert.RefWgmIdeal.τ).loc Cert.RefWgmIdeal.main_arg2) = m ((c.tc : Thread Cert.RefWgmIdeal.nD Cert.RefWgmIdeal.τ).loc Cert.RefWgmIdeal.main_arg2)
      ∧ r.2.mem ((c.tc : Thread Cert.RefWgmIdeal.nD Cert.RefWgmIdeal.τ).loc Cert.RefWgmIdeal.main_arg3) = m ((c.tc : Thread Cert.RefWgmIdeal.nD Cert.RefWgmIdeal.τ).loc Cert.RefWgmIdeal.main_arg3))
      ∧ r.2.sem = fun _ => 0)

def quiescent_KernelTil [hKernelTil : Cert.KernelTil.Facts] : Prop :=
  ∀ (m : (ℓ : Loc Cert.KernelTil.nD Cert.KernelTil.τ Cert.KernelTil.sig) → Buf (Elt Bits) ℓ) (g : Dev Cert.KernelTil.nD → PrngReg), Pre_KernelTil m →
    θ_run (Cert.KernelTil.defs (F := Bits)) (onTc (τ := Cert.KernelTil.τ) (Cert.KernelTil.main (F := Bits))) ⟨m, fun _ => 0, g⟩ (fun r => (∀ c : Dev Cert.KernelTil.nD,
      r.2.mem ((c.tc : Thread Cert.KernelTil.nD Cert.KernelTil.τ).loc Cert.KernelTil.main_arg0) = m ((c.tc : Thread Cert.KernelTil.nD Cert.KernelTil.τ).loc Cert.KernelTil.main_arg0))
      ∧ r.2.sem = fun _ => 0)

def quiescent_KernelTilIdeal [hKernelTilIdeal : Cert.KernelTilIdeal.Facts] : Prop :=
  ∀ (m : (ℓ : Loc Cert.KernelTilIdeal.nD Cert.KernelTilIdeal.τ Cert.KernelTilIdeal.sig) → Buf (Elt Ideal) ℓ) (g : Dev Cert.KernelTilIdeal.nD → PrngReg), Pre_KernelTilIdeal m →
    θ_run (Cert.KernelTilIdeal.defs (F := Ideal)) (onTc (τ := Cert.KernelTilIdeal.τ) (Cert.KernelTilIdeal.main (F := Ideal))) ⟨m, fun _ => 0, g⟩ (fun r => (∀ c : Dev Cert.KernelTilIdeal.nD,
      r.2.mem ((c.tc : Thread Cert.KernelTilIdeal.nD Cert.KernelTilIdeal.τ).loc Cert.KernelTilIdeal.main_arg0) = m ((c.tc : Thread Cert.KernelTilIdeal.nD Cert.KernelTilIdeal.τ).loc Cert.KernelTilIdeal.main_arg0))
      ∧ r.2.sem = fun _ => 0)

def quiescent_RefTilIdeal [hRefTilIdeal : Cert.RefTilIdeal.Facts] : Prop :=
  ∀ (m : (ℓ : Loc Cert.RefTilIdeal.nD Cert.RefTilIdeal.τ Cert.RefTilIdeal.sig) → Buf (Elt Ideal) ℓ) (g : Dev Cert.RefTilIdeal.nD → PrngReg), Pre_RefTilIdeal m →
    θ_run (Cert.RefTilIdeal.defs (F := Ideal)) (onTc (τ := Cert.RefTilIdeal.τ) (Cert.RefTilIdeal.main (F := Ideal))) ⟨m, fun _ => 0, g⟩ (fun r => (∀ c : Dev Cert.RefTilIdeal.nD,
      r.2.mem ((c.tc : Thread Cert.RefTilIdeal.nD Cert.RefTilIdeal.τ).loc Cert.RefTilIdeal.main_arg0) = m ((c.tc : Thread Cert.RefTilIdeal.nD Cert.RefTilIdeal.τ).loc Cert.RefTilIdeal.main_arg0))
      ∧ r.2.sem = fun _ => 0)

def quiescent_KernelPrj [hKernelPrj : Cert.KernelPrj.Facts] : Prop :=
  ∀ (m : (ℓ : Loc Cert.KernelPrj.nD Cert.KernelPrj.τ Cert.KernelPrj.sig) → Buf (Elt Bits) ℓ) (g : Dev Cert.KernelPrj.nD → PrngReg), Pre_KernelPrj m →
    θ_run (Cert.KernelPrj.defs (F := Bits)) (onTc (τ := Cert.KernelPrj.τ) (Cert.KernelPrj.main (F := Bits))) ⟨m, fun _ => 0, g⟩ (fun r => (∀ c : Dev Cert.KernelPrj.nD,
      r.2.mem ((c.tc : Thread Cert.KernelPrj.nD Cert.KernelPrj.τ).loc Cert.KernelPrj.main_arg0) = m ((c.tc : Thread Cert.KernelPrj.nD Cert.KernelPrj.τ).loc Cert.KernelPrj.main_arg0)
      ∧ r.2.mem ((c.tc : Thread Cert.KernelPrj.nD Cert.KernelPrj.τ).loc Cert.KernelPrj.main_arg1) = m ((c.tc : Thread Cert.KernelPrj.nD Cert.KernelPrj.τ).loc Cert.KernelPrj.main_arg1)
      ∧ r.2.mem ((c.tc : Thread Cert.KernelPrj.nD Cert.KernelPrj.τ).loc Cert.KernelPrj.main_arg2) = m ((c.tc : Thread Cert.KernelPrj.nD Cert.KernelPrj.τ).loc Cert.KernelPrj.main_arg2)
      ∧ r.2.mem ((c.tc : Thread Cert.KernelPrj.nD Cert.KernelPrj.τ).loc Cert.KernelPrj.main_arg3) = m ((c.tc : Thread Cert.KernelPrj.nD Cert.KernelPrj.τ).loc Cert.KernelPrj.main_arg3)
      ∧ r.2.mem ((c.tc : Thread Cert.KernelPrj.nD Cert.KernelPrj.τ).loc Cert.KernelPrj.main_arg4) = m ((c.tc : Thread Cert.KernelPrj.nD Cert.KernelPrj.τ).loc Cert.KernelPrj.main_arg4))
      ∧ r.2.sem = fun _ => 0)

def quiescent_KernelPrjIdeal [hKernelPrjIdeal : Cert.KernelPrjIdeal.Facts] : Prop :=
  ∀ (m : (ℓ : Loc Cert.KernelPrjIdeal.nD Cert.KernelPrjIdeal.τ Cert.KernelPrjIdeal.sig) → Buf (Elt Ideal) ℓ) (g : Dev Cert.KernelPrjIdeal.nD → PrngReg), Pre_KernelPrjIdeal m →
    θ_run (Cert.KernelPrjIdeal.defs (F := Ideal)) (onTc (τ := Cert.KernelPrjIdeal.τ) (Cert.KernelPrjIdeal.main (F := Ideal))) ⟨m, fun _ => 0, g⟩ (fun r => (∀ c : Dev Cert.KernelPrjIdeal.nD,
      r.2.mem ((c.tc : Thread Cert.KernelPrjIdeal.nD Cert.KernelPrjIdeal.τ).loc Cert.KernelPrjIdeal.main_arg0) = m ((c.tc : Thread Cert.KernelPrjIdeal.nD Cert.KernelPrjIdeal.τ).loc Cert.KernelPrjIdeal.main_arg0)
      ∧ r.2.mem ((c.tc : Thread Cert.KernelPrjIdeal.nD Cert.KernelPrjIdeal.τ).loc Cert.KernelPrjIdeal.main_arg1) = m ((c.tc : Thread Cert.KernelPrjIdeal.nD Cert.KernelPrjIdeal.τ).loc Cert.KernelPrjIdeal.main_arg1)
      ∧ r.2.mem ((c.tc : Thread Cert.KernelPrjIdeal.nD Cert.KernelPrjIdeal.τ).loc Cert.KernelPrjIdeal.main_arg2) = m ((c.tc : Thread Cert.KernelPrjIdeal.nD Cert.KernelPrjIdeal.τ).loc Cert.KernelPrjIdeal.main_arg2)
      ∧ r.2.mem ((c.tc : Thread Cert.KernelPrjIdeal.nD Cert.KernelPrjIdeal.τ).loc Cert.KernelPrjIdeal.main_arg3) = m ((c.tc : Thread Cert.KernelPrjIdeal.nD Cert.KernelPrjIdeal.τ).loc Cert.KernelPrjIdeal.main_arg3)
      ∧ r.2.mem ((c.tc : Thread Cert.KernelPrjIdeal.nD Cert.KernelPrjIdeal.τ).loc Cert.KernelPrjIdeal.main_arg4) = m ((c.tc : Thread Cert.KernelPrjIdeal.nD Cert.KernelPrjIdeal.τ).loc Cert.KernelPrjIdeal.main_arg4))
      ∧ r.2.sem = fun _ => 0)

def quiescent_RefPrjIdeal [hRefPrjIdeal : Cert.RefPrjIdeal.Facts] : Prop :=
  ∀ (m : (ℓ : Loc Cert.RefPrjIdeal.nD Cert.RefPrjIdeal.τ Cert.RefPrjIdeal.sig) → Buf (Elt Ideal) ℓ) (g : Dev Cert.RefPrjIdeal.nD → PrngReg), Pre_RefPrjIdeal m →
    θ_run (Cert.RefPrjIdeal.defs (F := Ideal)) (onTc (τ := Cert.RefPrjIdeal.τ) (Cert.RefPrjIdeal.main (F := Ideal))) ⟨m, fun _ => 0, g⟩ (fun r => (∀ c : Dev Cert.RefPrjIdeal.nD,
      r.2.mem ((c.tc : Thread Cert.RefPrjIdeal.nD Cert.RefPrjIdeal.τ).loc Cert.RefPrjIdeal.main_arg0) = m ((c.tc : Thread Cert.RefPrjIdeal.nD Cert.RefPrjIdeal.τ).loc Cert.RefPrjIdeal.main_arg0)
      ∧ r.2.mem ((c.tc : Thread Cert.RefPrjIdeal.nD Cert.RefPrjIdeal.τ).loc Cert.RefPrjIdeal.main_arg1) = m ((c.tc : Thread Cert.RefPrjIdeal.nD Cert.RefPrjIdeal.τ).loc Cert.RefPrjIdeal.main_arg1)
      ∧ r.2.mem ((c.tc : Thread Cert.RefPrjIdeal.nD Cert.RefPrjIdeal.τ).loc Cert.RefPrjIdeal.main_arg2) = m ((c.tc : Thread Cert.RefPrjIdeal.nD Cert.RefPrjIdeal.τ).loc Cert.RefPrjIdeal.main_arg2)
      ∧ r.2.mem ((c.tc : Thread Cert.RefPrjIdeal.nD Cert.RefPrjIdeal.τ).loc Cert.RefPrjIdeal.main_arg3) = m ((c.tc : Thread Cert.RefPrjIdeal.nD Cert.RefPrjIdeal.τ).loc Cert.RefPrjIdeal.main_arg3)
      ∧ r.2.mem ((c.tc : Thread Cert.RefPrjIdeal.nD Cert.RefPrjIdeal.τ).loc Cert.RefPrjIdeal.main_arg4) = m ((c.tc : Thread Cert.RefPrjIdeal.nD Cert.RefPrjIdeal.τ).loc Cert.RefPrjIdeal.main_arg4))
      ∧ r.2.sem = fun _ => 0)

def quiescent_KernelMds [hKernelMds : Cert.KernelMds.Facts] : Prop :=
  ∀ (m : (ℓ : Loc Cert.KernelMds.nD Cert.KernelMds.τ Cert.KernelMds.sig) → Buf (Elt Bits) ℓ) (g : Dev Cert.KernelMds.nD → PrngReg), Pre_KernelMds m →
    θ_run (Cert.KernelMds.defs (F := Bits)) (onTc (τ := Cert.KernelMds.τ) (Cert.KernelMds.main (F := Bits))) ⟨m, fun _ => 0, g⟩ (fun r => (∀ c : Dev Cert.KernelMds.nD,
      r.2.mem ((c.tc : Thread Cert.KernelMds.nD Cert.KernelMds.τ).loc Cert.KernelMds.main_arg0) = m ((c.tc : Thread Cert.KernelMds.nD Cert.KernelMds.τ).loc Cert.KernelMds.main_arg0)
      ∧ r.2.mem ((c.tc : Thread Cert.KernelMds.nD Cert.KernelMds.τ).loc Cert.KernelMds.main_arg1) = m ((c.tc : Thread Cert.KernelMds.nD Cert.KernelMds.τ).loc Cert.KernelMds.main_arg1))
      ∧ r.2.sem = fun _ => 0)

def quiescent_KernelMdsIdeal [hKernelMdsIdeal : Cert.KernelMdsIdeal.Facts] : Prop :=
  ∀ (m : (ℓ : Loc Cert.KernelMdsIdeal.nD Cert.KernelMdsIdeal.τ Cert.KernelMdsIdeal.sig) → Buf (Elt Ideal) ℓ) (g : Dev Cert.KernelMdsIdeal.nD → PrngReg), Pre_KernelMdsIdeal m →
    θ_run (Cert.KernelMdsIdeal.defs (F := Ideal)) (onTc (τ := Cert.KernelMdsIdeal.τ) (Cert.KernelMdsIdeal.main (F := Ideal))) ⟨m, fun _ => 0, g⟩ (fun r => (∀ c : Dev Cert.KernelMdsIdeal.nD,
      r.2.mem ((c.tc : Thread Cert.KernelMdsIdeal.nD Cert.KernelMdsIdeal.τ).loc Cert.KernelMdsIdeal.main_arg0) = m ((c.tc : Thread Cert.KernelMdsIdeal.nD Cert.KernelMdsIdeal.τ).loc Cert.KernelMdsIdeal.main_arg0)
      ∧ r.2.mem ((c.tc : Thread Cert.KernelMdsIdeal.nD Cert.KernelMdsIdeal.τ).loc Cert.KernelMdsIdeal.main_arg1) = m ((c.tc : Thread Cert.KernelMdsIdeal.nD Cert.KernelMdsIdeal.τ).loc Cert.KernelMdsIdeal.main_arg1))
      ∧ r.2.sem = fun _ => 0)

def quiescent_RefMdsIdeal [hRefMdsIdeal : Cert.RefMdsIdeal.Facts] : Prop :=
  ∀ (m : (ℓ : Loc Cert.RefMdsIdeal.nD Cert.RefMdsIdeal.τ Cert.RefMdsIdeal.sig) → Buf (Elt Ideal) ℓ) (g : Dev Cert.RefMdsIdeal.nD → PrngReg), Pre_RefMdsIdeal m →
    θ_run (Cert.RefMdsIdeal.defs (F := Ideal)) (onTc (τ := Cert.RefMdsIdeal.τ) (Cert.RefMdsIdeal.main (F := Ideal))) ⟨m, fun _ => 0, g⟩ (fun r => (∀ c : Dev Cert.RefMdsIdeal.nD,
      r.2.mem ((c.tc : Thread Cert.RefMdsIdeal.nD Cert.RefMdsIdeal.τ).loc Cert.RefMdsIdeal.main_arg0) = m ((c.tc : Thread Cert.RefMdsIdeal.nD Cert.RefMdsIdeal.τ).loc Cert.RefMdsIdeal.main_arg0)
      ∧ r.2.mem ((c.tc : Thread Cert.RefMdsIdeal.nD Cert.RefMdsIdeal.τ).loc Cert.RefMdsIdeal.main_arg1) = m ((c.tc : Thread Cert.RefMdsIdeal.nD Cert.RefMdsIdeal.τ).loc Cert.RefMdsIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1))
      ∧ r.2.sem = fun _ => 0)

def quiescent_KernelUpb [hKernelUpb : Cert.KernelUpb.Facts] : Prop :=
  ∀ (m : (ℓ : Loc Cert.KernelUpb.nD Cert.KernelUpb.τ Cert.KernelUpb.sig) → Buf (Elt Bits) ℓ) (g : Dev Cert.KernelUpb.nD → PrngReg), Pre_KernelUpb m →
    θ_run (Cert.KernelUpb.defs (F := Bits)) (onTc (τ := Cert.KernelUpb.τ) (Cert.KernelUpb.main (F := Bits))) ⟨m, fun _ => 0, g⟩ (fun r => (∀ c : Dev Cert.KernelUpb.nD,
      r.2.mem ((c.tc : Thread Cert.KernelUpb.nD Cert.KernelUpb.τ).loc Cert.KernelUpb.main_arg0) = m ((c.tc : Thread Cert.KernelUpb.nD Cert.KernelUpb.τ).loc Cert.KernelUpb.main_arg0)
      ∧ r.2.mem ((c.tc : Thread Cert.KernelUpb.nD Cert.KernelUpb.τ).loc Cert.KernelUpb.main_arg1) = m ((c.tc : Thread Cert.KernelUpb.nD Cert.KernelUpb.τ).loc Cert.KernelUpb.main_arg1))
      ∧ r.2.sem = fun _ => 0)

def quiescent_KernelUpbIdeal [hKernelUpbIdeal : Cert.KernelUpbIdeal.Facts] : Prop :=
  ∀ (m : (ℓ : Loc Cert.KernelUpbIdeal.nD Cert.KernelUpbIdeal.τ Cert.KernelUpbIdeal.sig) → Buf (Elt Ideal) ℓ) (g : Dev Cert.KernelUpbIdeal.nD → PrngReg), Pre_KernelUpbIdeal m →
    θ_run (Cert.KernelUpbIdeal.defs (F := Ideal)) (onTc (τ := Cert.KernelUpbIdeal.τ) (Cert.KernelUpbIdeal.main (F := Ideal))) ⟨m, fun _ => 0, g⟩ (fun r => (∀ c : Dev Cert.KernelUpbIdeal.nD,
      r.2.mem ((c.tc : Thread Cert.KernelUpbIdeal.nD Cert.KernelUpbIdeal.τ).loc Cert.KernelUpbIdeal.main_arg0) = m ((c.tc : Thread Cert.KernelUpbIdeal.nD Cert.KernelUpbIdeal.τ).loc Cert.KernelUpbIdeal.main_arg0)
      ∧ r.2.mem ((c.tc : Thread Cert.KernelUpbIdeal.nD Cert.KernelUpbIdeal.τ).loc Cert.KernelUpbIdeal.main_arg1) = m ((c.tc : Thread Cert.KernelUpbIdeal.nD Cert.KernelUpbIdeal.τ).loc Cert.KernelUpbIdeal.main_arg1))
      ∧ r.2.sem = fun _ => 0)

def quiescent_RefUpbIdeal [hRefUpbIdeal : Cert.RefUpbIdeal.Facts] : Prop :=
  ∀ (m : (ℓ : Loc Cert.RefUpbIdeal.nD Cert.RefUpbIdeal.τ Cert.RefUpbIdeal.sig) → Buf (Elt Ideal) ℓ) (g : Dev Cert.RefUpbIdeal.nD → PrngReg), Pre_RefUpbIdeal m →
    θ_run (Cert.RefUpbIdeal.defs (F := Ideal)) (onTc (τ := Cert.RefUpbIdeal.τ) (Cert.RefUpbIdeal.main (F := Ideal))) ⟨m, fun _ => 0, g⟩ (fun r => (∀ c : Dev Cert.RefUpbIdeal.nD,
      r.2.mem ((c.tc : Thread Cert.RefUpbIdeal.nD Cert.RefUpbIdeal.τ).loc Cert.RefUpbIdeal.main_arg0) = m ((c.tc : Thread Cert.RefUpbIdeal.nD Cert.RefUpbIdeal.τ).loc Cert.RefUpbIdeal.main_arg0)
      ∧ r.2.mem ((c.tc : Thread Cert.RefUpbIdeal.nD Cert.RefUpbIdeal.τ).loc Cert.RefUpbIdeal.main_arg1) = m ((c.tc : Thread Cert.RefUpbIdeal.nD Cert.RefUpbIdeal.τ).loc Cert.RefUpbIdeal.main_arg1))
      ∧ r.2.sem = fun _ => 0)

def quiescent_KernelWtp [hKernelWtp : Cert.KernelWtp.Facts] : Prop :=
  ∀ (m : (ℓ : Loc Cert.KernelWtp.nD Cert.KernelWtp.τ Cert.KernelWtp.sig) → Buf (Elt Bits) ℓ) (g : Dev Cert.KernelWtp.nD → PrngReg), Pre_KernelWtp m →
    θ_run (Cert.KernelWtp.defs (F := Bits)) (onTc (τ := Cert.KernelWtp.τ) (Cert.KernelWtp.main (F := Bits))) ⟨m, fun _ => 0, g⟩ (fun r => (∀ c : Dev Cert.KernelWtp.nD,
      r.2.mem ((c.tc : Thread Cert.KernelWtp.nD Cert.KernelWtp.τ).loc Cert.KernelWtp.main_arg0) = m ((c.tc : Thread Cert.KernelWtp.nD Cert.KernelWtp.τ).loc Cert.KernelWtp.main_arg0)
      ∧ r.2.mem ((c.tc : Thread Cert.KernelWtp.nD Cert.KernelWtp.τ).loc Cert.KernelWtp.main_arg1) = m ((c.tc : Thread Cert.KernelWtp.nD Cert.KernelWtp.τ).loc Cert.KernelWtp.main_arg1))
      ∧ r.2.sem = fun _ => 0)

def quiescent_KernelWtpIdeal [hKernelWtpIdeal : Cert.KernelWtpIdeal.Facts] : Prop :=
  ∀ (m : (ℓ : Loc Cert.KernelWtpIdeal.nD Cert.KernelWtpIdeal.τ Cert.KernelWtpIdeal.sig) → Buf (Elt Ideal) ℓ) (g : Dev Cert.KernelWtpIdeal.nD → PrngReg), Pre_KernelWtpIdeal m →
    θ_run (Cert.KernelWtpIdeal.defs (F := Ideal)) (onTc (τ := Cert.KernelWtpIdeal.τ) (Cert.KernelWtpIdeal.main (F := Ideal))) ⟨m, fun _ => 0, g⟩ (fun r => (∀ c : Dev Cert.KernelWtpIdeal.nD,
      r.2.mem ((c.tc : Thread Cert.KernelWtpIdeal.nD Cert.KernelWtpIdeal.τ).loc Cert.KernelWtpIdeal.main_arg0) = m ((c.tc : Thread Cert.KernelWtpIdeal.nD Cert.KernelWtpIdeal.τ).loc Cert.KernelWtpIdeal.main_arg0)
      ∧ r.2.mem ((c.tc : Thread Cert.KernelWtpIdeal.nD Cert.KernelWtpIdeal.τ).loc Cert.KernelWtpIdeal.main_arg1) = m ((c.tc : Thread Cert.KernelWtpIdeal.nD Cert.KernelWtpIdeal.τ).loc Cert.KernelWtpIdeal.main_arg1))
      ∧ r.2.sem = fun _ => 0)

def quiescent_RefWtpIdeal [hRefWtpIdeal : Cert.RefWtpIdeal.Facts] : Prop :=
  ∀ (m : (ℓ : Loc Cert.RefWtpIdeal.nD Cert.RefWtpIdeal.τ Cert.RefWtpIdeal.sig) → Buf (Elt Ideal) ℓ) (g : Dev Cert.RefWtpIdeal.nD → PrngReg), Pre_RefWtpIdeal m →
    θ_run (Cert.RefWtpIdeal.defs (F := Ideal)) (onTc (τ := Cert.RefWtpIdeal.τ) (Cert.RefWtpIdeal.main (F := Ideal))) ⟨m, fun _ => 0, g⟩ (fun r => (∀ c : Dev Cert.RefWtpIdeal.nD,
      r.2.mem ((c.tc : Thread Cert.RefWtpIdeal.nD Cert.RefWtpIdeal.τ).loc Cert.RefWtpIdeal.main_arg0) = m ((c.tc : Thread Cert.RefWtpIdeal.nD Cert.RefWtpIdeal.τ).loc Cert.RefWtpIdeal.main_arg0)
      ∧ r.2.mem ((c.tc : Thread Cert.RefWtpIdeal.nD Cert.RefWtpIdeal.τ).loc Cert.RefWtpIdeal.main_arg1) = m ((c.tc : Thread Cert.RefWtpIdeal.nD Cert.RefWtpIdeal.τ).loc Cert.RefWtpIdeal.main_arg1))
      ∧ r.2.sem = fun _ => 0)

def quiescent_KernelAdw [hKernelAdw : Cert.KernelAdw.Facts] : Prop :=
  ∀ (m : (ℓ : Loc Cert.KernelAdw.nD Cert.KernelAdw.τ Cert.KernelAdw.sig) → Buf (Elt Bits) ℓ) (g : Dev Cert.KernelAdw.nD → PrngReg), Pre_KernelAdw m →
    θ_run (Cert.KernelAdw.defs (F := Bits)) (onTc (τ := Cert.KernelAdw.τ) (Cert.KernelAdw.main (F := Bits))) ⟨m, fun _ => 0, g⟩ (fun r => (∀ c : Dev Cert.KernelAdw.nD,
      r.2.mem ((c.tc : Thread Cert.KernelAdw.nD Cert.KernelAdw.τ).loc Cert.KernelAdw.main_arg0) = m ((c.tc : Thread Cert.KernelAdw.nD Cert.KernelAdw.τ).loc Cert.KernelAdw.main_arg0)
      ∧ r.2.mem ((c.tc : Thread Cert.KernelAdw.nD Cert.KernelAdw.τ).loc Cert.KernelAdw.main_arg1) = m ((c.tc : Thread Cert.KernelAdw.nD Cert.KernelAdw.τ).loc Cert.KernelAdw.main_arg1)
      ∧ r.2.mem ((c.tc : Thread Cert.KernelAdw.nD Cert.KernelAdw.τ).loc Cert.KernelAdw.main_arg2) = m ((c.tc : Thread Cert.KernelAdw.nD Cert.KernelAdw.τ).loc Cert.KernelAdw.main_arg2)
      ∧ r.2.mem ((c.tc : Thread Cert.KernelAdw.nD Cert.KernelAdw.τ).loc Cert.KernelAdw.main_arg3) = m ((c.tc : Thread Cert.KernelAdw.nD Cert.KernelAdw.τ).loc Cert.KernelAdw.main_arg3))
      ∧ r.2.sem = fun _ => 0)

def quiescent_KernelAdwIdeal [hKernelAdwIdeal : Cert.KernelAdwIdeal.Facts] : Prop :=
  ∀ (m : (ℓ : Loc Cert.KernelAdwIdeal.nD Cert.KernelAdwIdeal.τ Cert.KernelAdwIdeal.sig) → Buf (Elt Ideal) ℓ) (g : Dev Cert.KernelAdwIdeal.nD → PrngReg), Pre_KernelAdwIdeal m →
    θ_run (Cert.KernelAdwIdeal.defs (F := Ideal)) (onTc (τ := Cert.KernelAdwIdeal.τ) (Cert.KernelAdwIdeal.main (F := Ideal))) ⟨m, fun _ => 0, g⟩ (fun r => (∀ c : Dev Cert.KernelAdwIdeal.nD,
      r.2.mem ((c.tc : Thread Cert.KernelAdwIdeal.nD Cert.KernelAdwIdeal.τ).loc Cert.KernelAdwIdeal.main_arg0) = m ((c.tc : Thread Cert.KernelAdwIdeal.nD Cert.KernelAdwIdeal.τ).loc Cert.KernelAdwIdeal.main_arg0)
      ∧ r.2.mem ((c.tc : Thread Cert.KernelAdwIdeal.nD Cert.KernelAdwIdeal.τ).loc Cert.KernelAdwIdeal.main_arg1) = m ((c.tc : Thread Cert.KernelAdwIdeal.nD Cert.KernelAdwIdeal.τ).loc Cert.KernelAdwIdeal.main_arg1)
      ∧ r.2.mem ((c.tc : Thread Cert.KernelAdwIdeal.nD Cert.KernelAdwIdeal.τ).loc Cert.KernelAdwIdeal.main_arg2) = m ((c.tc : Thread Cert.KernelAdwIdeal.nD Cert.KernelAdwIdeal.τ).loc Cert.KernelAdwIdeal.main_arg2)
      ∧ r.2.mem ((c.tc : Thread Cert.KernelAdwIdeal.nD Cert.KernelAdwIdeal.τ).loc Cert.KernelAdwIdeal.main_arg3) = m ((c.tc : Thread Cert.KernelAdwIdeal.nD Cert.KernelAdwIdeal.τ).loc Cert.KernelAdwIdeal.main_arg3))
      ∧ r.2.sem = fun _ => 0)

def quiescent_RefAdwIdeal [hRefAdwIdeal : Cert.RefAdwIdeal.Facts] : Prop :=
  ∀ (m : (ℓ : Loc Cert.RefAdwIdeal.nD Cert.RefAdwIdeal.τ Cert.RefAdwIdeal.sig) → Buf (Elt Ideal) ℓ) (g : Dev Cert.RefAdwIdeal.nD → PrngReg), Pre_RefAdwIdeal m →
    θ_run (Cert.RefAdwIdeal.defs (F := Ideal)) (onTc (τ := Cert.RefAdwIdeal.τ) (Cert.RefAdwIdeal.main (F := Ideal))) ⟨m, fun _ => 0, g⟩ (fun r => (∀ c : Dev Cert.RefAdwIdeal.nD,
      r.2.mem ((c.tc : Thread Cert.RefAdwIdeal.nD Cert.RefAdwIdeal.τ).loc Cert.RefAdwIdeal.main_arg0) = m ((c.tc : Thread Cert.RefAdwIdeal.nD Cert.RefAdwIdeal.τ).loc Cert.RefAdwIdeal.main_arg0)
      ∧ r.2.mem ((c.tc : Thread Cert.RefAdwIdeal.nD Cert.RefAdwIdeal.τ).loc Cert.RefAdwIdeal.main_arg1) = m ((c.tc : Thread Cert.RefAdwIdeal.nD Cert.RefAdwIdeal.τ).loc Cert.RefAdwIdeal.main_arg1)
      ∧ r.2.mem ((c.tc : Thread Cert.RefAdwIdeal.nD Cert.RefAdwIdeal.τ).loc Cert.RefAdwIdeal.main_arg2) = m ((c.tc : Thread Cert.RefAdwIdeal.nD Cert.RefAdwIdeal.τ).loc Cert.RefAdwIdeal.main_arg2)
      ∧ r.2.mem ((c.tc : Thread Cert.RefAdwIdeal.nD Cert.RefAdwIdeal.τ).loc Cert.RefAdwIdeal.main_arg3) = m ((c.tc : Thread Cert.RefAdwIdeal.nD Cert.RefAdwIdeal.τ).loc Cert.RefAdwIdeal.main_arg3))
      ∧ r.2.sem = fun _ => 0)

def quiescent_KernelSum [hKernelSum : Cert.KernelSum.Facts] : Prop :=
  ∀ (m : (ℓ : Loc Cert.KernelSum.nD Cert.KernelSum.τ Cert.KernelSum.sig) → Buf (Elt Bits) ℓ) (g : Dev Cert.KernelSum.nD → PrngReg), Pre_KernelSum m →
    θ_run (Cert.KernelSum.defs (F := Bits)) (onTc (τ := Cert.KernelSum.τ) (Cert.KernelSum.main (F := Bits))) ⟨m, fun _ => 0, g⟩ (fun r => (∀ c : Dev Cert.KernelSum.nD,
      r.2.mem ((c.tc : Thread Cert.KernelSum.nD Cert.KernelSum.τ).loc Cert.KernelSum.main_arg0) = m ((c.tc : Thread Cert.KernelSum.nD Cert.KernelSum.τ).loc Cert.KernelSum.main_arg0))
      ∧ r.2.sem = fun _ => 0)

def quiescent_KernelSumIdeal [hKernelSumIdeal : Cert.KernelSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg), Pre_KernelSumIdeal m →
    θ_run (Cert.KernelSumIdeal.defs (F := Ideal)) (onTc (τ := Cert.KernelSumIdeal.τ) (Cert.KernelSumIdeal.main (F := Ideal))) ⟨m, fun _ => 0, g⟩ (fun r => (∀ c : Dev Cert.KernelSumIdeal.nD,
      r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0))
      ∧ r.2.sem = fun _ => 0)

def quiescent_RefSumIdeal [hRefSumIdeal : Cert.RefSumIdeal.Facts] : Prop :=
  ∀ (m : (ℓ : Loc Cert.RefSumIdeal.nD Cert.RefSumIdeal.τ Cert.RefSumIdeal.sig) → Buf (Elt Ideal) ℓ) (g : Dev Cert.RefSumIdeal.nD → PrngReg), Pre_RefSumIdeal m →
    θ_run (Cert.RefSumIdeal.defs (F := Ideal)) (onTc (τ := Cert.RefSumIdeal.τ) (Cert.RefSumIdeal.main (F := Ideal))) ⟨m, fun _ => 0, g⟩ (fun r => (∀ c : Dev Cert.RefSumIdeal.nD,
      r.2.mem ((c.tc : Thread Cert.RefSumIdeal.nD Cert.RefSumIdeal.τ).loc Cert.RefSumIdeal.main_arg0) = m ((c.tc : Thread Cert.RefSumIdeal.nD Cert.RefSumIdeal.τ).loc Cert.RefSumIdeal.main_arg0))
      ∧ r.2.sem = fun _ => 0)

def quiescent_KernelAdl [hKernelAdl : Cert.KernelAdl.Facts] : Prop :=
  ∀ (m : (ℓ : Loc Cert.KernelAdl.nD Cert.KernelAdl.τ Cert.KernelAdl.sig) → Buf (Elt Bits) ℓ) (g : Dev Cert.KernelAdl.nD → PrngReg), Pre_KernelAdl m →
    θ_run (Cert.KernelAdl.defs (F := Bits)) (onTc (τ := Cert.KernelAdl.τ) (Cert.KernelAdl.main (F := Bits))) ⟨m, fun _ => 0, g⟩ (fun r => (∀ c : Dev Cert.KernelAdl.nD,
      r.2.mem ((c.tc : Thread Cert.KernelAdl.nD Cert.KernelAdl.τ).loc Cert.KernelAdl.main_arg0) = m ((c.tc : Thread Cert.KernelAdl.nD Cert.KernelAdl.τ).loc Cert.KernelAdl.main_arg0)
      ∧ r.2.mem ((c.tc : Thread Cert.KernelAdl.nD Cert.KernelAdl.τ).loc Cert.KernelAdl.main_arg1) = m ((c.tc : Thread Cert.KernelAdl.nD Cert.KernelAdl.τ).loc Cert.KernelAdl.main_arg1)
      ∧ r.2.mem ((c.tc : Thread Cert.KernelAdl.nD Cert.KernelAdl.τ).loc Cert.KernelAdl.main_arg2) = m ((c.tc : Thread Cert.KernelAdl.nD Cert.KernelAdl.τ).loc Cert.KernelAdl.main_arg2)
      ∧ r.2.mem ((c.tc : Thread Cert.KernelAdl.nD Cert.KernelAdl.τ).loc Cert.KernelAdl.main_arg3) = m ((c.tc : Thread Cert.KernelAdl.nD Cert.KernelAdl.τ).loc Cert.KernelAdl.main_arg3)
      ∧ r.2.mem ((c.tc : Thread Cert.KernelAdl.nD Cert.KernelAdl.τ).loc Cert.KernelAdl.main_arg4) = m ((c.tc : Thread Cert.KernelAdl.nD Cert.KernelAdl.τ).loc Cert.KernelAdl.main_arg4)
      ∧ r.2.mem ((c.tc : Thread Cert.KernelAdl.nD Cert.KernelAdl.τ).loc Cert.KernelAdl.main_arg5) = m ((c.tc : Thread Cert.KernelAdl.nD Cert.KernelAdl.τ).loc Cert.KernelAdl.main_arg5)
      ∧ r.2.mem ((c.tc : Thread Cert.KernelAdl.nD Cert.KernelAdl.τ).loc Cert.KernelAdl.main_arg6) = m ((c.tc : Thread Cert.KernelAdl.nD Cert.KernelAdl.τ).loc Cert.KernelAdl.main_arg6)
      ∧ r.2.mem ((c.tc : Thread Cert.KernelAdl.nD Cert.KernelAdl.τ).loc Cert.KernelAdl.main_arg7) = m ((c.tc : Thread Cert.KernelAdl.nD Cert.KernelAdl.τ).loc Cert.KernelAdl.main_arg7))
      ∧ r.2.sem = fun _ => 0)

def quiescent_KernelAdlIdeal [hKernelAdlIdeal : Cert.KernelAdlIdeal.Facts] : Prop :=
  ∀ (m : (ℓ : Loc Cert.KernelAdlIdeal.nD Cert.KernelAdlIdeal.τ Cert.KernelAdlIdeal.sig) → Buf (Elt Ideal) ℓ) (g : Dev Cert.KernelAdlIdeal.nD → PrngReg), Pre_KernelAdlIdeal m →
    θ_run (Cert.KernelAdlIdeal.defs (F := Ideal)) (onTc (τ := Cert.KernelAdlIdeal.τ) (Cert.KernelAdlIdeal.main (F := Ideal))) ⟨m, fun _ => 0, g⟩ (fun r => (∀ c : Dev Cert.KernelAdlIdeal.nD,
      r.2.mem ((c.tc : Thread Cert.KernelAdlIdeal.nD Cert.KernelAdlIdeal.τ).loc Cert.KernelAdlIdeal.main_arg0) = m ((c.tc : Thread Cert.KernelAdlIdeal.nD Cert.KernelAdlIdeal.τ).loc Cert.KernelAdlIdeal.main_arg0)
      ∧ r.2.mem ((c.tc : Thread Cert.KernelAdlIdeal.nD Cert.KernelAdlIdeal.τ).loc Cert.KernelAdlIdeal.main_arg1) = m ((c.tc : Thread Cert.KernelAdlIdeal.nD Cert.KernelAdlIdeal.τ).loc Cert.KernelAdlIdeal.main_arg1)
      ∧ r.2.mem ((c.tc : Thread Cert.KernelAdlIdeal.nD Cert.KernelAdlIdeal.τ).loc Cert.KernelAdlIdeal.main_arg2) = m ((c.tc : Thread Cert.KernelAdlIdeal.nD Cert.KernelAdlIdeal.τ).loc Cert.KernelAdlIdeal.main_arg2)
      ∧ r.2.mem ((c.tc : Thread Cert.KernelAdlIdeal.nD Cert.KernelAdlIdeal.τ).loc Cert.KernelAdlIdeal.main_arg3) = m ((c.tc : Thread Cert.KernelAdlIdeal.nD Cert.KernelAdlIdeal.τ).loc Cert.KernelAdlIdeal.main_arg3)
      ∧ r.2.mem ((c.tc : Thread Cert.KernelAdlIdeal.nD Cert.KernelAdlIdeal.τ).loc Cert.KernelAdlIdeal.main_arg4) = m ((c.tc : Thread Cert.KernelAdlIdeal.nD Cert.KernelAdlIdeal.τ).loc Cert.KernelAdlIdeal.main_arg4)
      ∧ r.2.mem ((c.tc : Thread Cert.KernelAdlIdeal.nD Cert.KernelAdlIdeal.τ).loc Cert.KernelAdlIdeal.main_arg5) = m ((c.tc : Thread Cert.KernelAdlIdeal.nD Cert.KernelAdlIdeal.τ).loc Cert.KernelAdlIdeal.main_arg5)
      ∧ r.2.mem ((c.tc : Thread Cert.KernelAdlIdeal.nD Cert.KernelAdlIdeal.τ).loc Cert.KernelAdlIdeal.main_arg6) = m ((c.tc : Thread Cert.KernelAdlIdeal.nD Cert.KernelAdlIdeal.τ).loc Cert.KernelAdlIdeal.main_arg6)
      ∧ r.2.mem ((c.tc : Thread Cert.KernelAdlIdeal.nD Cert.KernelAdlIdeal.τ).loc Cert.KernelAdlIdeal.main_arg7) = m ((c.tc : Thread Cert.KernelAdlIdeal.nD Cert.KernelAdlIdeal.τ).loc Cert.KernelAdlIdeal.main_arg7))
      ∧ r.2.sem = fun _ => 0)

def quiescent_RefAdlIdeal [hRefAdlIdeal : Cert.RefAdlIdeal.Facts] : Prop :=
  ∀ (m : (ℓ : Loc Cert.RefAdlIdeal.nD Cert.RefAdlIdeal.τ Cert.RefAdlIdeal.sig) → Buf (Elt Ideal) ℓ) (g : Dev Cert.RefAdlIdeal.nD → PrngReg), Pre_RefAdlIdeal m →
    θ_run (Cert.RefAdlIdeal.defs (F := Ideal)) (onTc (τ := Cert.RefAdlIdeal.τ) (Cert.RefAdlIdeal.main (F := Ideal))) ⟨m, fun _ => 0, g⟩ (fun r => (∀ c : Dev Cert.RefAdlIdeal.nD,
      r.2.mem ((c.tc : Thread Cert.RefAdlIdeal.nD Cert.RefAdlIdeal.τ).loc Cert.RefAdlIdeal.main_arg0) = m ((c.tc : Thread Cert.RefAdlIdeal.nD Cert.RefAdlIdeal.τ).loc Cert.RefAdlIdeal.main_arg0)
      ∧ r.2.mem ((c.tc : Thread Cert.RefAdlIdeal.nD Cert.RefAdlIdeal.τ).loc Cert.RefAdlIdeal.main_arg1) = m ((c.tc : Thread Cert.RefAdlIdeal.nD Cert.RefAdlIdeal.τ).loc Cert.RefAdlIdeal.main_arg1)
      ∧ r.2.mem ((c.tc : Thread Cert.RefAdlIdeal.nD Cert.RefAdlIdeal.τ).loc Cert.RefAdlIdeal.main_arg2) = m ((c.tc : Thread Cert.RefAdlIdeal.nD Cert.RefAdlIdeal.τ).loc Cert.RefAdlIdeal.main_arg2)
      ∧ r.2.mem ((c.tc : Thread Cert.RefAdlIdeal.nD Cert.RefAdlIdeal.τ).loc Cert.RefAdlIdeal.main_arg3) = m ((c.tc : Thread Cert.RefAdlIdeal.nD Cert.RefAdlIdeal.τ).loc Cert.RefAdlIdeal.main_arg3)
      ∧ r.2.mem ((c.tc : Thread Cert.RefAdlIdeal.nD Cert.RefAdlIdeal.τ).loc Cert.RefAdlIdeal.main_arg4) = m ((c.tc : Thread Cert.RefAdlIdeal.nD Cert.RefAdlIdeal.τ).loc Cert.RefAdlIdeal.main_arg4)
      ∧ r.2.mem ((c.tc : Thread Cert.RefAdlIdeal.nD Cert.RefAdlIdeal.τ).loc Cert.RefAdlIdeal.main_arg5) = m ((c.tc : Thread Cert.RefAdlIdeal.nD Cert.RefAdlIdeal.τ).loc Cert.RefAdlIdeal.main_arg5)
      ∧ r.2.mem ((c.tc : Thread Cert.RefAdlIdeal.nD Cert.RefAdlIdeal.τ).loc Cert.RefAdlIdeal.main_arg6) = m ((c.tc : Thread Cert.RefAdlIdeal.nD Cert.RefAdlIdeal.τ).loc Cert.RefAdlIdeal.main_arg6)
      ∧ r.2.mem ((c.tc : Thread Cert.RefAdlIdeal.nD Cert.RefAdlIdeal.τ).loc Cert.RefAdlIdeal.main_arg7) = m ((c.tc : Thread Cert.RefAdlIdeal.nD Cert.RefAdlIdeal.τ).loc Cert.RefAdlIdeal.main_arg7))
      ∧ r.2.sem = fun _ => 0)

def preserves_KernelFirst_KernelFirstIdeal : Prop :=
  True

def algebraic_KernelFirstIdeal_RefFirstIdeal [hKernelFirstIdeal : Cert.KernelFirstIdeal.Facts] [hRefFirstIdeal : Cert.RefFirstIdeal.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg)
    (m' : (ℓ : Loc Cert.RefFirstIdeal.nD Cert.RefFirstIdeal.τ Cert.RefFirstIdeal.sig) → Buf (Elt Ideal) ℓ) (g' : Dev Cert.RefFirstIdeal.nD → PrngReg), Pre_KernelFirstIdeal m →
    (∀ c : Dev Cert.KernelFirstIdeal.nD,
      m' ((c.tc : Thread Cert.RefFirstIdeal.nD Cert.RefFirstIdeal.τ).loc Cert.RefFirstIdeal.main_arg0) = m ((c.tc : Thread Cert.KernelFirstIdeal.nD Cert.KernelFirstIdeal.τ).loc Cert.KernelFirstIdeal.main_arg0)
      ∧ m' ((c.tc : Thread Cert.RefFirstIdeal.nD Cert.RefFirstIdeal.τ).loc Cert.RefFirstIdeal.main_arg1) = m ((c.tc : Thread Cert.KernelFirstIdeal.nD Cert.KernelFirstIdeal.τ).loc Cert.KernelFirstIdeal.main_arg1)
      ∧ m' ((c.tc : Thread Cert.RefFirstIdeal.nD Cert.RefFirstIdeal.τ).loc Cert.RefFirstIdeal.main_arg2) = m ((c.tc : Thread Cert.KernelFirstIdeal.nD Cert.KernelFirstIdeal.τ).loc Cert.KernelFirstIdeal.main_arg2)
      ∧ m' ((c.tc : Thread Cert.RefFirstIdeal.nD Cert.RefFirstIdeal.τ).loc Cert.RefFirstIdeal.main_arg3) = m ((c.tc : Thread Cert.KernelFirstIdeal.nD Cert.KernelFirstIdeal.τ).loc Cert.KernelFirstIdeal.main_arg3)) →
    ∃ (v0 : (c : Dev Cert.KernelFirstIdeal.nD) → Buf (Elt Ideal) ((c.tc : Thread Cert.KernelFirstIdeal.nD Cert.KernelFirstIdeal.τ).loc Cert.KernelFirstIdeal.main_v0_0)) (v1 : (c : Dev Cert.KernelFirstIdeal.nD) → Buf (Elt Ideal) ((c.tc : Thread Cert.KernelFirstIdeal.nD Cert.KernelFirstIdeal.τ).loc Cert.KernelFirstIdeal.main_v0_1)),
      θ_run (Cert.KernelFirstIdeal.defs (F := Ideal)) (onTc (τ := Cert.KernelFirstIdeal.τ) (Cert.KernelFirstIdeal.main (F := Ideal))) ⟨m, fun _ => 0, g⟩ (fun r => ∀ c : Dev Cert.KernelFirstIdeal.nD,
          r.2.mem ((c.tc : Thread Cert.KernelFirstIdeal.nD Cert.KernelFirstIdeal.τ).loc Cert.KernelFirstIdeal.main_v0_0) = v0 c
          ∧ r.2.mem ((c.tc : Thread Cert.KernelFirstIdeal.nD Cert.KernelFirstIdeal.τ).loc Cert.KernelFirstIdeal.main_v0_1) = v1 c
          ∧ r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
          ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
          ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2)
          ∧ r.2.mem ((c.tc : Thread Cert.KernelFirstIdeal.nD Cert.KernelFirstIdeal.τ).loc Cert.KernelFirstIdeal.main_arg3) = m ((c.tc : Thread Cert.KernelFirstIdeal.nD Cert.KernelFirstIdeal.τ).loc Cert.KernelFirstIdeal.main_arg3))
      ∧ θ_run (Cert.RefFirstIdeal.defs (F := Ideal)) (onTc (τ := Cert.RefFirstIdeal.τ) (Cert.RefFirstIdeal.main (F := Ideal))) ⟨m', fun _ => 0, g'⟩ (fun r => ∀ c : Dev Cert.RefFirstIdeal.nD,
          r.2.mem ((c.tc : Thread Cert.RefFirstIdeal.nD Cert.RefFirstIdeal.τ).loc Cert.RefFirstIdeal.main_v19) = v0 c
          ∧ r.2.mem ((c.tc : Thread Cert.RefFirstIdeal.nD Cert.RefFirstIdeal.τ).loc Cert.RefFirstIdeal.main_v32) = v1 c
          ∧ r.2.mem ((c.tc : Thread Cert.RefFirstIdeal.nD Cert.RefFirstIdeal.τ).loc Cert.RefFirstIdeal.main_arg0) = m' ((c.tc : Thread Cert.RefFirstIdeal.nD Cert.RefFirstIdeal.τ).loc Cert.RefFirstIdeal.main_arg0)
          ∧ r.2.mem ((c.tc : Thread Cert.RefFirstIdeal.nD Cert.RefFirstIdeal.τ).loc Cert.RefFirstIdeal.main_arg1) = m' ((c.tc : Thread Cert.RefFirstIdeal.nD Cert.RefFirstIdeal.τ).loc Cert.RefFirstIdeal.main_arg1)
          ∧ r.2.mem ((c.tc : Thread Cert.RefFirstIdeal.nD Cert.RefFirstIdeal.τ).loc Cert.RefFirstIdeal.main_arg2) = m' ((c.tc : Thread Cert.RefFirstIdeal.nD Cert.RefFirstIdeal.τ).loc Cert.RefFirstIdeal.main_arg2)
          ∧ r.2.mem ((c.tc : Thread Cert.RefFirstIdeal.nD Cert.RefFirstIdeal.τ).loc Cert.RefFirstIdeal.main_arg3) = m' ((c.tc : Thread Cert.RefFirstIdeal.nD Cert.RefFirstIdeal.τ).loc Cert.RefFirstIdeal.main_arg3))

def preserves_KernelAtt_KernelAttIdeal : Prop :=
  IdealRules.named_const.Statement Cert.KernelAttIdeal.κ "mask" .f32 0xF149F2CA#32 ⊥

def algebraic_KernelAttIdeal_RefAttIdeal_pre_scores_finite [hKernelAttIdeal : Cert.KernelAttIdeal.Facts] [hRefAttIdeal : Cert.RefAttIdeal.Facts] [hPre_scores_finite : Cert.Pre_scores_finite.Facts] : Prop :=
  ∀ (m : (ℓ : Loc Cert.KernelAttIdeal.nD Cert.KernelAttIdeal.τ Cert.KernelAttIdeal.sig) → Buf (Elt Ideal) ℓ) (g : Dev Cert.KernelAttIdeal.nD → PrngReg)
    (m' : (ℓ : Loc Cert.RefAttIdeal.nD Cert.RefAttIdeal.τ Cert.RefAttIdeal.sig) → Buf (Elt Ideal) ℓ) (g' : Dev Cert.RefAttIdeal.nD → PrngReg), Pre_KernelAttIdeal_scores_finite m →
    (∀ c : Dev Cert.KernelAttIdeal.nD,
      m' ((c.tc : Thread Cert.RefAttIdeal.nD Cert.RefAttIdeal.τ).loc Cert.RefAttIdeal.main_arg0) = m ((c.tc : Thread Cert.KernelAttIdeal.nD Cert.KernelAttIdeal.τ).loc Cert.KernelAttIdeal.main_arg0)
      ∧ m' ((c.tc : Thread Cert.RefAttIdeal.nD Cert.RefAttIdeal.τ).loc Cert.RefAttIdeal.main_arg1) = m ((c.tc : Thread Cert.KernelAttIdeal.nD Cert.KernelAttIdeal.τ).loc Cert.KernelAttIdeal.main_arg1)
      ∧ m' ((c.tc : Thread Cert.RefAttIdeal.nD Cert.RefAttIdeal.τ).loc Cert.RefAttIdeal.main_arg2) = m ((c.tc : Thread Cert.KernelAttIdeal.nD Cert.KernelAttIdeal.τ).loc Cert.KernelAttIdeal.main_arg2)) →
    ∃ (v0 : (c : Dev Cert.KernelAttIdeal.nD) → Buf (Elt Ideal) ((c.tc : Thread Cert.KernelAttIdeal.nD Cert.KernelAttIdeal.τ).loc Cert.KernelAttIdeal.main_v41_0)) (v1 : (c : Dev Cert.KernelAttIdeal.nD) → Buf (Elt Ideal) ((c.tc : Thread Cert.KernelAttIdeal.nD Cert.KernelAttIdeal.τ).loc Cert.KernelAttIdeal.main_v41_1)) (v2 : (c : Dev Cert.KernelAttIdeal.nD) → Buf (Elt Ideal) ((c.tc : Thread Cert.KernelAttIdeal.nD Cert.KernelAttIdeal.τ).loc Cert.KernelAttIdeal.main_v41_2)) (v3 : (c : Dev Cert.KernelAttIdeal.nD) → Buf (Elt Ideal) ((c.tc : Thread Cert.KernelAttIdeal.nD Cert.KernelAttIdeal.τ).loc Cert.KernelAttIdeal.main_v41_3)) (v4 : (c : Dev Cert.KernelAttIdeal.nD) → Buf (Elt Ideal) ((c.tc : Thread Cert.KernelAttIdeal.nD Cert.KernelAttIdeal.τ).loc Cert.KernelAttIdeal.main_v41_4)) (v5 : (c : Dev Cert.KernelAttIdeal.nD) → Buf (Elt Ideal) ((c.tc : Thread Cert.KernelAttIdeal.nD Cert.KernelAttIdeal.τ).loc Cert.KernelAttIdeal.main_v41_5)) (v6 : (c : Dev Cert.KernelAttIdeal.nD) → Buf (Elt Ideal) ((c.tc : Thread Cert.KernelAttIdeal.nD Cert.KernelAttIdeal.τ).loc Cert.KernelAttIdeal.main_v41_6)) (v7 : (c : Dev Cert.KernelAttIdeal.nD) → Buf (Elt Ideal) ((c.tc : Thread Cert.KernelAttIdeal.nD Cert.KernelAttIdeal.τ).loc Cert.KernelAttIdeal.main_v41_7)),
      θ_run (Cert.KernelAttIdeal.defs (F := Ideal)) (onTc (τ := Cert.KernelAttIdeal.τ) (Cert.KernelAttIdeal.main (F := Ideal))) ⟨m, fun _ => 0, g⟩ (fun r => ∀ c : Dev Cert.KernelAttIdeal.nD,
          r.2.mem ((c.tc : Thread Cert.KernelAttIdeal.nD Cert.KernelAttIdeal.τ).loc Cert.KernelAttIdeal.main_v41_0) = v0 c
          ∧ r.2.mem ((c.tc : Thread Cert.KernelAttIdeal.nD Cert.KernelAttIdeal.τ).loc Cert.KernelAttIdeal.main_v41_1) = v1 c
          ∧ r.2.mem ((c.tc : Thread Cert.KernelAttIdeal.nD Cert.KernelAttIdeal.τ).loc Cert.KernelAttIdeal.main_v41_2) = v2 c
          ∧ r.2.mem ((c.tc : Thread Cert.KernelAttIdeal.nD Cert.KernelAttIdeal.τ).loc Cert.KernelAttIdeal.main_v41_3) = v3 c
          ∧ r.2.mem ((c.tc : Thread Cert.KernelAttIdeal.nD Cert.KernelAttIdeal.τ).loc Cert.KernelAttIdeal.main_v41_4) = v4 c
          ∧ r.2.mem ((c.tc : Thread Cert.KernelAttIdeal.nD Cert.KernelAttIdeal.τ).loc Cert.KernelAttIdeal.main_v41_5) = v5 c
          ∧ r.2.mem ((c.tc : Thread Cert.KernelAttIdeal.nD Cert.KernelAttIdeal.τ).loc Cert.KernelAttIdeal.main_v41_6) = v6 c
          ∧ r.2.mem ((c.tc : Thread Cert.KernelAttIdeal.nD Cert.KernelAttIdeal.τ).loc Cert.KernelAttIdeal.main_v41_7) = v7 c
          ∧ r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
          ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
          ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2))
      ∧ θ_run (Cert.RefAttIdeal.defs (F := Ideal)) (onTc (τ := Cert.RefAttIdeal.τ) (Cert.RefAttIdeal.main (F := Ideal))) ⟨m', fun _ => 0, g'⟩ (fun r => ∀ c : Dev Cert.RefAttIdeal.nD,
          r.2.mem ((c.tc : Thread Cert.RefAttIdeal.nD Cert.RefAttIdeal.τ).loc Cert.RefAttIdeal.main_v182) = v0 c
          ∧ r.2.mem ((c.tc : Thread Cert.RefAttIdeal.nD Cert.RefAttIdeal.τ).loc Cert.RefAttIdeal.main_v139) = v1 c
          ∧ r.2.mem ((c.tc : Thread Cert.RefAttIdeal.nD Cert.RefAttIdeal.τ).loc Cert.RefAttIdeal.main_v122) = v2 c
          ∧ r.2.mem ((c.tc : Thread Cert.RefAttIdeal.nD Cert.RefAttIdeal.τ).loc Cert.RefAttIdeal.main_v185) = v3 c
          ∧ r.2.mem ((c.tc : Thread Cert.RefAttIdeal.nD Cert.RefAttIdeal.τ).loc Cert.RefAttIdeal.main_v181) = v4 c
          ∧ r.2.mem ((c.tc : Thread Cert.RefAttIdeal.nD Cert.RefAttIdeal.τ).loc Cert.RefAttIdeal.main_v179) = v5 c
          ∧ r.2.mem ((c.tc : Thread Cert.RefAttIdeal.nD Cert.RefAttIdeal.τ).loc Cert.RefAttIdeal.main_v177) = v6 c
          ∧ r.2.mem ((c.tc : Thread Cert.RefAttIdeal.nD Cert.RefAttIdeal.τ).loc Cert.RefAttIdeal.main_v175) = v7 c
          ∧ r.2.mem ((c.tc : Thread Cert.RefAttIdeal.nD Cert.RefAttIdeal.τ).loc Cert.RefAttIdeal.main_arg0) = m' ((c.tc : Thread Cert.RefAttIdeal.nD Cert.RefAttIdeal.τ).loc Cert.RefAttIdeal.main_arg0)
          ∧ r.2.mem ((c.tc : Thread Cert.RefAttIdeal.nD Cert.RefAttIdeal.τ).loc Cert.RefAttIdeal.main_arg1) = m' ((c.tc : Thread Cert.RefAttIdeal.nD Cert.RefAttIdeal.τ).loc Cert.RefAttIdeal.main_arg1)
          ∧ r.2.mem ((c.tc : Thread Cert.RefAttIdeal.nD Cert.RefAttIdeal.τ).loc Cert.RefAttIdeal.main_arg2) = m' ((c.tc : Thread Cert.RefAttIdeal.nD Cert.RefAttIdeal.τ).loc Cert.RefAttIdeal.main_arg2))

def preserves_KernelEpi_KernelEpiIdeal : Prop :=
  True

def algebraic_KernelEpiIdeal_RefEpiIdeal [hKernelEpiIdeal : Cert.KernelEpiIdeal.Facts] [hRefEpiIdeal : Cert.RefEpiIdeal.Facts] : Prop :=
  ∀ (m : (ℓ : Loc Cert.KernelEpiIdeal.nD Cert.KernelEpiIdeal.τ Cert.KernelEpiIdeal.sig) → Buf (Elt Ideal) ℓ) (g : Dev Cert.KernelEpiIdeal.nD → PrngReg)
    (m' : (ℓ : Loc Cert.RefEpiIdeal.nD Cert.RefEpiIdeal.τ Cert.RefEpiIdeal.sig) → Buf (Elt Ideal) ℓ) (g' : Dev Cert.RefEpiIdeal.nD → PrngReg), Pre_KernelEpiIdeal m →
    (∀ c : Dev Cert.KernelEpiIdeal.nD,
      m' ((c.tc : Thread Cert.RefEpiIdeal.nD Cert.RefEpiIdeal.τ).loc Cert.RefEpiIdeal.main_arg0) = m ((c.tc : Thread Cert.KernelEpiIdeal.nD Cert.KernelEpiIdeal.τ).loc Cert.KernelEpiIdeal.main_arg0)
      ∧ m' ((c.tc : Thread Cert.RefEpiIdeal.nD Cert.RefEpiIdeal.τ).loc Cert.RefEpiIdeal.main_arg1) = m ((c.tc : Thread Cert.KernelEpiIdeal.nD Cert.KernelEpiIdeal.τ).loc Cert.KernelEpiIdeal.main_arg1)
      ∧ m' ((c.tc : Thread Cert.RefEpiIdeal.nD Cert.RefEpiIdeal.τ).loc Cert.RefEpiIdeal.main_arg2) = m ((c.tc : Thread Cert.KernelEpiIdeal.nD Cert.KernelEpiIdeal.τ).loc Cert.KernelEpiIdeal.main_arg2)
      ∧ m' ((c.tc : Thread Cert.RefEpiIdeal.nD Cert.RefEpiIdeal.τ).loc Cert.RefEpiIdeal.main_arg3) = m ((c.tc : Thread Cert.KernelEpiIdeal.nD Cert.KernelEpiIdeal.τ).loc Cert.KernelEpiIdeal.main_arg3)
      ∧ m' ((c.tc : Thread Cert.RefEpiIdeal.nD Cert.RefEpiIdeal.τ).loc Cert.RefEpiIdeal.main_arg4) = m ((c.tc : Thread Cert.KernelEpiIdeal.nD Cert.KernelEpiIdeal.τ).loc Cert.KernelEpiIdeal.main_arg4)
      ∧ m' ((c.tc : Thread Cert.RefEpiIdeal.nD Cert.RefEpiIdeal.τ).loc Cert.RefEpiIdeal.main_arg5) = m ((c.tc : Thread Cert.KernelEpiIdeal.nD Cert.KernelEpiIdeal.τ).loc Cert.KernelEpiIdeal.main_arg5)) →
    ∃ (v0 : (c : Dev Cert.KernelEpiIdeal.nD) → Buf (Elt Ideal) ((c.tc : Thread Cert.KernelEpiIdeal.nD Cert.KernelEpiIdeal.τ).loc Cert.KernelEpiIdeal.main_v13)),
      θ_run (Cert.KernelEpiIdeal.defs (F := Ideal)) (onTc (τ := Cert.KernelEpiIdeal.τ) (Cert.KernelEpiIdeal.main (F := Ideal))) ⟨m, fun _ => 0, g⟩ (fun r => ∀ c : Dev Cert.KernelEpiIdeal.nD,
          r.2.mem ((c.tc : Thread Cert.KernelEpiIdeal.nD Cert.KernelEpiIdeal.τ).loc Cert.KernelEpiIdeal.main_v13) = v0 c
          ∧ r.2.mem ((c.tc : Thread Cert.KernelEpiIdeal.nD Cert.KernelEpiIdeal.τ).loc Cert.KernelEpiIdeal.main_arg0) = m ((c.tc : Thread Cert.KernelEpiIdeal.nD Cert.KernelEpiIdeal.τ).loc Cert.KernelEpiIdeal.main_arg0)
          ∧ r.2.mem ((c.tc : Thread Cert.KernelEpiIdeal.nD Cert.KernelEpiIdeal.τ).loc Cert.KernelEpiIdeal.main_arg1) = m ((c.tc : Thread Cert.KernelEpiIdeal.nD Cert.KernelEpiIdeal.τ).loc Cert.KernelEpiIdeal.main_arg1)
          ∧ r.2.mem ((c.tc : Thread Cert.KernelEpiIdeal.nD Cert.KernelEpiIdeal.τ).loc Cert.KernelEpiIdeal.main_arg2) = m ((c.tc : Thread Cert.KernelEpiIdeal.nD Cert.KernelEpiIdeal.τ).loc Cert.KernelEpiIdeal.main_arg2)
          ∧ r.2.mem ((c.tc : Thread Cert.KernelEpiIdeal.nD Cert.KernelEpiIdeal.τ).loc Cert.KernelEpiIdeal.main_arg3) = m ((c.tc : Thread Cert.KernelEpiIdeal.nD Cert.KernelEpiIdeal.τ).loc Cert.KernelEpiIdeal.main_arg3)
          ∧ r.2.mem ((c.tc : Thread Cert.KernelEpiIdeal.nD Cert.KernelEpiIdeal.τ).loc Cert.KernelEpiIdeal.main_arg4) = m ((c.tc : Thread Cert.KernelEpiIdeal.nD Cert.KernelEpiIdeal.τ).loc Cert.KernelEpiIdeal.main_arg4)
          ∧ r.2.mem ((c.tc : Thread Cert.KernelEpiIdeal.nD Cert.KernelEpiIdeal.τ).loc Cert.KernelEpiIdeal.main_arg5) = m ((c.tc : Thread Cert.KernelEpiIdeal.nD Cert.KernelEpiIdeal.τ).loc Cert.KernelEpiIdeal.main_arg5))
      ∧ θ_run (Cert.RefEpiIdeal.defs (F := Ideal)) (onTc (τ := Cert.RefEpiIdeal.τ) (Cert.RefEpiIdeal.main (F := Ideal))) ⟨m', fun _ => 0, g'⟩ (fun r => ∀ c : Dev Cert.RefEpiIdeal.nD,
          r.2.mem ((c.tc : Thread Cert.RefEpiIdeal.nD Cert.RefEpiIdeal.τ).loc Cert.RefEpiIdeal.main_v19) = v0 c
          ∧ r.2.mem ((c.tc : Thread Cert.RefEpiIdeal.nD Cert.RefEpiIdeal.τ).loc Cert.RefEpiIdeal.main_arg0) = m' ((c.tc : Thread Cert.RefEpiIdeal.nD Cert.RefEpiIdeal.τ).loc Cert.RefEpiIdeal.main_arg0)
          ∧ r.2.mem ((c.tc : Thread Cert.RefEpiIdeal.nD Cert.RefEpiIdeal.τ).loc Cert.RefEpiIdeal.main_arg1) = m' ((c.tc : Thread Cert.RefEpiIdeal.nD Cert.RefEpiIdeal.τ).loc Cert.RefEpiIdeal.main_arg1)
          ∧ r.2.mem ((c.tc : Thread Cert.RefEpiIdeal.nD Cert.RefEpiIdeal.τ).loc Cert.RefEpiIdeal.main_arg2) = m' ((c.tc : Thread Cert.RefEpiIdeal.nD Cert.RefEpiIdeal.τ).loc Cert.RefEpiIdeal.main_arg2)
          ∧ r.2.mem ((c.tc : Thread Cert.RefEpiIdeal.nD Cert.RefEpiIdeal.τ).loc Cert.RefEpiIdeal.main_arg3) = m' ((c.tc : Thread Cert.RefEpiIdeal.nD Cert.RefEpiIdeal.τ).loc Cert.RefEpiIdeal.main_arg3)
          ∧ r.2.mem ((c.tc : Thread Cert.RefEpiIdeal.nD Cert.RefEpiIdeal.τ).loc Cert.RefEpiIdeal.main_arg4) = m' ((c.tc : Thread Cert.RefEpiIdeal.nD Cert.RefEpiIdeal.τ).loc Cert.RefEpiIdeal.main_arg4)
          ∧ r.2.mem ((c.tc : Thread Cert.RefEpiIdeal.nD Cert.RefEpiIdeal.τ).loc Cert.RefEpiIdeal.main_arg5) = m' ((c.tc : Thread Cert.RefEpiIdeal.nD Cert.RefEpiIdeal.τ).loc Cert.RefEpiIdeal.main_arg5))

def preserves_KernelAda_KernelAdaIdeal : Prop :=
  True

def algebraic_KernelAdaIdeal_RefAdaIdeal [hKernelAdaIdeal : Cert.KernelAdaIdeal.Facts] [hRefAdaIdeal : Cert.RefAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.RefAdaIdeal.nD Cert.RefAdaIdeal.τ Cert.RefAdaIdeal.sig) → Buf (Elt Ideal) ℓ) (g' : Dev Cert.RefAdaIdeal.nD → PrngReg), Pre_KernelAdaIdeal m →
    (∀ c : Dev Cert.KernelAdaIdeal.nD,
      m' ((c.tc : Thread Cert.RefAdaIdeal.nD Cert.RefAdaIdeal.τ).loc Cert.RefAdaIdeal.main_arg0) = m ((c.tc : Thread Cert.KernelAdaIdeal.nD Cert.KernelAdaIdeal.τ).loc Cert.KernelAdaIdeal.main_arg0)
      ∧ m' ((c.tc : Thread Cert.RefAdaIdeal.nD Cert.RefAdaIdeal.τ).loc Cert.RefAdaIdeal.main_arg1) = m ((c.tc : Thread Cert.KernelAdaIdeal.nD Cert.KernelAdaIdeal.τ).loc Cert.KernelAdaIdeal.main_arg1)) →
    ∃ (v0 : (c : Dev Cert.KernelAdaIdeal.nD) → Buf (Elt Ideal) ((c.tc : Thread Cert.KernelAdaIdeal.nD Cert.KernelAdaIdeal.τ).loc Cert.KernelAdaIdeal.main_v0)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v0) = v0 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1))
      ∧ θ_run (Cert.RefAdaIdeal.defs (F := Ideal)) (onTc (τ := Cert.RefAdaIdeal.τ) (Cert.RefAdaIdeal.main (F := Ideal))) ⟨m', fun _ => 0, g'⟩ (fun r => ∀ c : Dev Cert.RefAdaIdeal.nD,
          r.2.mem ((c.tc : Thread Cert.RefAdaIdeal.nD Cert.RefAdaIdeal.τ).loc Cert.RefAdaIdeal.main_v6) = v0 c
          ∧ r.2.mem ((c.tc : Thread Cert.RefAdaIdeal.nD Cert.RefAdaIdeal.τ).loc Cert.RefAdaIdeal.main_arg0) = m' ((c.tc : Thread Cert.RefAdaIdeal.nD Cert.RefAdaIdeal.τ).loc Cert.RefAdaIdeal.main_arg0)
          ∧ r.2.mem ((c.tc : Thread Cert.RefAdaIdeal.nD Cert.RefAdaIdeal.τ).loc Cert.RefAdaIdeal.main_arg1) = m' ((c.tc : Thread Cert.RefAdaIdeal.nD Cert.RefAdaIdeal.τ).loc Cert.RefAdaIdeal.main_arg1))

def preserves_KernelRel_KernelRelIdeal : Prop :=
  True

def algebraic_KernelRelIdeal_RefRelIdeal [hKernelRelIdeal : Cert.KernelRelIdeal.Facts] [hRefRelIdeal : Cert.RefRelIdeal.Facts] : Prop :=
  ∀ (m : (ℓ : Loc Cert.KernelRelIdeal.nD Cert.KernelRelIdeal.τ Cert.KernelRelIdeal.sig) → Buf (Elt Ideal) ℓ) (g : Dev Cert.KernelRelIdeal.nD → PrngReg)
    (m' : (ℓ : Loc Cert.RefRelIdeal.nD Cert.RefRelIdeal.τ Cert.RefRelIdeal.sig) → Buf (Elt Ideal) ℓ) (g' : Dev Cert.RefRelIdeal.nD → PrngReg), Pre_KernelRelIdeal m →
    (∀ c : Dev Cert.KernelRelIdeal.nD,
      m' ((c.tc : Thread Cert.RefRelIdeal.nD Cert.RefRelIdeal.τ).loc Cert.RefRelIdeal.main_arg0) = m ((c.tc : Thread Cert.KernelRelIdeal.nD Cert.KernelRelIdeal.τ).loc Cert.KernelRelIdeal.main_arg0)
      ∧ m' ((c.tc : Thread Cert.RefRelIdeal.nD Cert.RefRelIdeal.τ).loc Cert.RefRelIdeal.main_arg1) = m ((c.tc : Thread Cert.KernelRelIdeal.nD Cert.KernelRelIdeal.τ).loc Cert.KernelRelIdeal.main_arg1)) →
    ∃ (v0 : (c : Dev Cert.KernelRelIdeal.nD) → Buf (Elt Ideal) ((c.tc : Thread Cert.KernelRelIdeal.nD Cert.KernelRelIdeal.τ).loc Cert.KernelRelIdeal.main_v32)),
      θ_run (Cert.KernelRelIdeal.defs (F := Ideal)) (onTc (τ := Cert.KernelRelIdeal.τ) (Cert.KernelRelIdeal.main (F := Ideal))) ⟨m, fun _ => 0, g⟩ (fun r => ∀ c : Dev Cert.KernelRelIdeal.nD,
          r.2.mem ((c.tc : Thread Cert.KernelRelIdeal.nD Cert.KernelRelIdeal.τ).loc Cert.KernelRelIdeal.main_v32) = v0 c
          ∧ r.2.mem ((c.tc : Thread Cert.KernelRelIdeal.nD Cert.KernelRelIdeal.τ).loc Cert.KernelRelIdeal.main_arg0) = m ((c.tc : Thread Cert.KernelRelIdeal.nD Cert.KernelRelIdeal.τ).loc Cert.KernelRelIdeal.main_arg0)
          ∧ r.2.mem ((c.tc : Thread Cert.KernelRelIdeal.nD Cert.KernelRelIdeal.τ).loc Cert.KernelRelIdeal.main_arg1) = m ((c.tc : Thread Cert.KernelRelIdeal.nD Cert.KernelRelIdeal.τ).loc Cert.KernelRelIdeal.main_arg1))
      ∧ θ_run (Cert.RefRelIdeal.defs (F := Ideal)) (onTc (τ := Cert.RefRelIdeal.τ) (Cert.RefRelIdeal.main (F := Ideal))) ⟨m', fun _ => 0, g'⟩ (fun r => ∀ c : Dev Cert.RefRelIdeal.nD,
          r.2.mem ((c.tc : Thread Cert.RefRelIdeal.nD Cert.RefRelIdeal.τ).loc Cert.RefRelIdeal.main_v54) = v0 c
          ∧ r.2.mem ((c.tc : Thread Cert.RefRelIdeal.nD Cert.RefRelIdeal.τ).loc Cert.RefRelIdeal.main_arg0) = m' ((c.tc : Thread Cert.RefRelIdeal.nD Cert.RefRelIdeal.τ).loc Cert.RefRelIdeal.main_arg0)
          ∧ r.2.mem ((c.tc : Thread Cert.RefRelIdeal.nD Cert.RefRelIdeal.τ).loc Cert.RefRelIdeal.main_arg1) = m' ((c.tc : Thread Cert.RefRelIdeal.nD Cert.RefRelIdeal.τ).loc Cert.RefRelIdeal.main_arg1))

def preserves_KernelHead_KernelHeadIdeal : Prop :=
  True

def algebraic_KernelHeadIdeal_RefHeadIdeal_pre_head_finite [hKernelHeadIdeal : Cert.KernelHeadIdeal.Facts] [hRefHeadIdeal : Cert.RefHeadIdeal.Facts] [hPre_head_finite : Cert.Pre_head_finite.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg)
    (m' : (ℓ : Loc Cert.RefHeadIdeal.nD Cert.RefHeadIdeal.τ Cert.RefHeadIdeal.sig) → Buf (Elt Ideal) ℓ) (g' : Dev Cert.RefHeadIdeal.nD → PrngReg), Pre_KernelHeadIdeal_head_finite m →
    (∀ c : Dev Cert.KernelHeadIdeal.nD,
      m' ((c.tc : Thread Cert.RefHeadIdeal.nD Cert.RefHeadIdeal.τ).loc Cert.RefHeadIdeal.main_arg0) = m ((c.tc : Thread Cert.KernelHeadIdeal.nD Cert.KernelHeadIdeal.τ).loc Cert.KernelHeadIdeal.main_arg0)
      ∧ m' ((c.tc : Thread Cert.RefHeadIdeal.nD Cert.RefHeadIdeal.τ).loc Cert.RefHeadIdeal.main_arg1) = m ((c.tc : Thread Cert.KernelHeadIdeal.nD Cert.KernelHeadIdeal.τ).loc Cert.KernelHeadIdeal.main_arg1)
      ∧ m' ((c.tc : Thread Cert.RefHeadIdeal.nD Cert.RefHeadIdeal.τ).loc Cert.RefHeadIdeal.main_arg2) = m ((c.tc : Thread Cert.KernelHeadIdeal.nD Cert.KernelHeadIdeal.τ).loc Cert.KernelHeadIdeal.main_arg2)
      ∧ m' ((c.tc : Thread Cert.RefHeadIdeal.nD Cert.RefHeadIdeal.τ).loc Cert.RefHeadIdeal.main_arg3) = m ((c.tc : Thread Cert.KernelHeadIdeal.nD Cert.KernelHeadIdeal.τ).loc Cert.KernelHeadIdeal.main_arg3)
      ∧ m' ((c.tc : Thread Cert.RefHeadIdeal.nD Cert.RefHeadIdeal.τ).loc Cert.RefHeadIdeal.main_arg4) = m ((c.tc : Thread Cert.KernelHeadIdeal.nD Cert.KernelHeadIdeal.τ).loc Cert.KernelHeadIdeal.main_arg4)
      ∧ m' ((c.tc : Thread Cert.RefHeadIdeal.nD Cert.RefHeadIdeal.τ).loc Cert.RefHeadIdeal.main_arg5) = m ((c.tc : Thread Cert.KernelHeadIdeal.nD Cert.KernelHeadIdeal.τ).loc Cert.KernelHeadIdeal.main_arg5)) →
    ∃ (v0 : (c : Dev Cert.KernelHeadIdeal.nD) → Buf (Elt Ideal) ((c.tc : Thread Cert.KernelHeadIdeal.nD Cert.KernelHeadIdeal.τ).loc Cert.KernelHeadIdeal.main_v2_0)) (v1 : (c : Dev Cert.KernelHeadIdeal.nD) → Buf (Elt Ideal) ((c.tc : Thread Cert.KernelHeadIdeal.nD Cert.KernelHeadIdeal.τ).loc Cert.KernelHeadIdeal.main_v2_1)) (v2 : (c : Dev Cert.KernelHeadIdeal.nD) → Buf (Elt Ideal) ((c.tc : Thread Cert.KernelHeadIdeal.nD Cert.KernelHeadIdeal.τ).loc Cert.KernelHeadIdeal.main_v2_2)) (v3 : (c : Dev Cert.KernelHeadIdeal.nD) → Buf (Elt Ideal) ((c.tc : Thread Cert.KernelHeadIdeal.nD Cert.KernelHeadIdeal.τ).loc Cert.KernelHeadIdeal.main_v2_3)),
      θ_run (Cert.KernelHeadIdeal.defs (F := Ideal)) (onTc (τ := Cert.KernelHeadIdeal.τ) (Cert.KernelHeadIdeal.main (F := Ideal))) ⟨m, fun _ => 0, g⟩ (fun r => ∀ c : Dev Cert.KernelHeadIdeal.nD,
          r.2.mem ((c.tc : Thread Cert.KernelHeadIdeal.nD Cert.KernelHeadIdeal.τ).loc Cert.KernelHeadIdeal.main_v2_0) = v0 c
          ∧ r.2.mem ((c.tc : Thread Cert.KernelHeadIdeal.nD Cert.KernelHeadIdeal.τ).loc Cert.KernelHeadIdeal.main_v2_1) = v1 c
          ∧ r.2.mem ((c.tc : Thread Cert.KernelHeadIdeal.nD Cert.KernelHeadIdeal.τ).loc Cert.KernelHeadIdeal.main_v2_2) = v2 c
          ∧ r.2.mem ((c.tc : Thread Cert.KernelHeadIdeal.nD Cert.KernelHeadIdeal.τ).loc Cert.KernelHeadIdeal.main_v2_3) = v3 c
          ∧ r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
          ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
          ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
          ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3)
          ∧ r.2.mem ((c.tc : Thread Cert.KernelHeadIdeal.nD Cert.KernelHeadIdeal.τ).loc Cert.KernelHeadIdeal.main_arg4) = m ((c.tc : Thread Cert.KernelHeadIdeal.nD Cert.KernelHeadIdeal.τ).loc Cert.KernelHeadIdeal.main_arg4)
          ∧ r.2.mem ((c.tc : Thread Cert.KernelHeadIdeal.nD Cert.KernelHeadIdeal.τ).loc Cert.KernelHeadIdeal.main_arg5) = m ((c.tc : Thread Cert.KernelHeadIdeal.nD Cert.KernelHeadIdeal.τ).loc Cert.KernelHeadIdeal.main_arg5))
      ∧ θ_run (Cert.RefHeadIdeal.defs (F := Ideal)) (onTc (τ := Cert.RefHeadIdeal.τ) (Cert.RefHeadIdeal.main (F := Ideal))) ⟨m', fun _ => 0, g'⟩ (fun r => ∀ c : Dev Cert.RefHeadIdeal.nD,
          r.2.mem ((c.tc : Thread Cert.RefHeadIdeal.nD Cert.RefHeadIdeal.τ).loc Cert.RefHeadIdeal.main_v83) = v0 c
          ∧ r.2.mem ((c.tc : Thread Cert.RefHeadIdeal.nD Cert.RefHeadIdeal.τ).loc Cert.RefHeadIdeal.main_v101) = v1 c
          ∧ r.2.mem ((c.tc : Thread Cert.RefHeadIdeal.nD Cert.RefHeadIdeal.τ).loc Cert.RefHeadIdeal.main_v102) = v2 c
          ∧ r.2.mem ((c.tc : Thread Cert.RefHeadIdeal.nD Cert.RefHeadIdeal.τ).loc Cert.RefHeadIdeal.main_v103) = v3 c
          ∧ r.2.mem ((c.tc : Thread Cert.RefHeadIdeal.nD Cert.RefHeadIdeal.τ).loc Cert.RefHeadIdeal.main_arg0) = m' ((c.tc : Thread Cert.RefHeadIdeal.nD Cert.RefHeadIdeal.τ).loc Cert.RefHeadIdeal.main_arg0)
          ∧ r.2.mem ((c.tc : Thread Cert.RefHeadIdeal.nD Cert.RefHeadIdeal.τ).loc Cert.RefHeadIdeal.main_arg1) = m' ((c.tc : Thread Cert.RefHeadIdeal.nD Cert.RefHeadIdeal.τ).loc Cert.RefHeadIdeal.main_arg1)
          ∧ r.2.mem ((c.tc : Thread Cert.RefHeadIdeal.nD Cert.RefHeadIdeal.τ).loc Cert.RefHeadIdeal.main_arg2) = m' ((c.tc : Thread Cert.RefHeadIdeal.nD Cert.RefHeadIdeal.τ).loc Cert.RefHeadIdeal.main_arg2)
          ∧ r.2.mem ((c.tc : Thread Cert.RefHeadIdeal.nD Cert.RefHeadIdeal.τ).loc Cert.RefHeadIdeal.main_arg3) = m' ((c.tc : Thread Cert.RefHeadIdeal.nD Cert.RefHeadIdeal.τ).loc Cert.RefHeadIdeal.main_arg3)
          ∧ r.2.mem ((c.tc : Thread Cert.RefHeadIdeal.nD Cert.RefHeadIdeal.τ).loc Cert.RefHeadIdeal.main_arg4) = m' ((c.tc : Thread Cert.RefHeadIdeal.nD Cert.RefHeadIdeal.τ).loc Cert.RefHeadIdeal.main_arg4)
          ∧ r.2.mem ((c.tc : Thread Cert.RefHeadIdeal.nD Cert.RefHeadIdeal.τ).loc Cert.RefHeadIdeal.main_arg5) = m' ((c.tc : Thread Cert.RefHeadIdeal.nD Cert.RefHeadIdeal.τ).loc Cert.RefHeadIdeal.main_arg5))

def preserves_KernelMid_KernelMidIdeal : Prop :=
  True

def algebraic_KernelMidIdeal_RefMidIdeal_pre_mid_finite [hKernelMidIdeal : Cert.KernelMidIdeal.Facts] [hRefMidIdeal : Cert.RefMidIdeal.Facts] [hPre_mid_finite : Cert.Pre_mid_finite.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.RefMidIdeal.nD Cert.RefMidIdeal.τ Cert.RefMidIdeal.sig) → Buf (Elt Ideal) ℓ) (g' : Dev Cert.RefMidIdeal.nD → PrngReg), Pre_KernelMidIdeal_mid_finite m →
    (∀ c : Dev Cert.KernelMidIdeal.nD,
      m' ((c.tc : Thread Cert.RefMidIdeal.nD Cert.RefMidIdeal.τ).loc Cert.RefMidIdeal.main_arg0) = m ((c.tc : Thread Cert.KernelMidIdeal.nD Cert.KernelMidIdeal.τ).loc Cert.KernelMidIdeal.main_arg0)
      ∧ m' ((c.tc : Thread Cert.RefMidIdeal.nD Cert.RefMidIdeal.τ).loc Cert.RefMidIdeal.main_arg1) = m ((c.tc : Thread Cert.KernelMidIdeal.nD Cert.KernelMidIdeal.τ).loc Cert.KernelMidIdeal.main_arg1)
      ∧ m' ((c.tc : Thread Cert.RefMidIdeal.nD Cert.RefMidIdeal.τ).loc Cert.RefMidIdeal.main_arg2) = m ((c.tc : Thread Cert.KernelMidIdeal.nD Cert.KernelMidIdeal.τ).loc Cert.KernelMidIdeal.main_arg2)
      ∧ m' ((c.tc : Thread Cert.RefMidIdeal.nD Cert.RefMidIdeal.τ).loc Cert.RefMidIdeal.main_arg3) = m ((c.tc : Thread Cert.KernelMidIdeal.nD Cert.KernelMidIdeal.τ).loc Cert.KernelMidIdeal.main_arg3)
      ∧ m' ((c.tc : Thread Cert.RefMidIdeal.nD Cert.RefMidIdeal.τ).loc Cert.RefMidIdeal.main_arg4) = m ((c.tc : Thread Cert.KernelMidIdeal.nD Cert.KernelMidIdeal.τ).loc Cert.KernelMidIdeal.main_arg4)
      ∧ m' ((c.tc : Thread Cert.RefMidIdeal.nD Cert.RefMidIdeal.τ).loc Cert.RefMidIdeal.main_arg5) = m ((c.tc : Thread Cert.KernelMidIdeal.nD Cert.KernelMidIdeal.τ).loc Cert.KernelMidIdeal.main_arg5)
      ∧ m' ((c.tc : Thread Cert.RefMidIdeal.nD Cert.RefMidIdeal.τ).loc Cert.RefMidIdeal.main_arg6) = m ((c.tc : Thread Cert.KernelMidIdeal.nD Cert.KernelMidIdeal.τ).loc Cert.KernelMidIdeal.main_arg6)
      ∧ m' ((c.tc : Thread Cert.RefMidIdeal.nD Cert.RefMidIdeal.τ).loc Cert.RefMidIdeal.main_arg7) = m ((c.tc : Thread Cert.KernelMidIdeal.nD Cert.KernelMidIdeal.τ).loc Cert.KernelMidIdeal.main_arg7)) →
    ∃ (v0 : (c : Dev Cert.KernelMidIdeal.nD) → Buf (Elt Ideal) ((c.tc : Thread Cert.KernelMidIdeal.nD Cert.KernelMidIdeal.τ).loc Cert.KernelMidIdeal.main_v2_0)) (v1 : (c : Dev Cert.KernelMidIdeal.nD) → Buf (Elt Ideal) ((c.tc : Thread Cert.KernelMidIdeal.nD Cert.KernelMidIdeal.τ).loc Cert.KernelMidIdeal.main_v2_1)) (v2 : (c : Dev Cert.KernelMidIdeal.nD) → Buf (Elt Ideal) ((c.tc : Thread Cert.KernelMidIdeal.nD Cert.KernelMidIdeal.τ).loc Cert.KernelMidIdeal.main_v2_2)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v2_0) = v0 c
          ∧ r.2.mem ((c.tc : Thread Cert.KernelMidIdeal.nD Cert.KernelMidIdeal.τ).loc Cert.KernelMidIdeal.main_v2_1) = v1 c
          ∧ r.2.mem ((c.tc : Thread Cert.KernelMidIdeal.nD Cert.KernelMidIdeal.τ).loc Cert.KernelMidIdeal.main_v2_2) = v2 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
          ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
          ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
          ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
          ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7))
      ∧ θ_run (Cert.RefMidIdeal.defs (F := Ideal)) (onTc (τ := Cert.RefMidIdeal.τ) (Cert.RefMidIdeal.main (F := Ideal))) ⟨m', fun _ => 0, g'⟩ (fun r => ∀ c : Dev Cert.RefMidIdeal.nD,
          r.2.mem ((c.tc : Thread Cert.RefMidIdeal.nD Cert.RefMidIdeal.τ).loc Cert.RefMidIdeal.main_v88) = v0 c
          ∧ r.2.mem ((c.tc : Thread Cert.RefMidIdeal.nD Cert.RefMidIdeal.τ).loc Cert.RefMidIdeal.main_v108) = v1 c
          ∧ r.2.mem ((c.tc : Thread Cert.RefMidIdeal.nD Cert.RefMidIdeal.τ).loc Cert.RefMidIdeal.main_v109) = v2 c
          ∧ r.2.mem ((c.tc : Thread Cert.RefMidIdeal.nD Cert.RefMidIdeal.τ).loc Cert.RefMidIdeal.main_arg0) = m' ((c.tc : Thread Cert.RefMidIdeal.nD Cert.RefMidIdeal.τ).loc Cert.RefMidIdeal.main_arg0)
          ∧ r.2.mem ((c.tc : Thread Cert.RefMidIdeal.nD Cert.RefMidIdeal.τ).loc Cert.RefMidIdeal.main_arg1) = m' ((c.tc : Thread Cert.RefMidIdeal.nD Cert.RefMidIdeal.τ).loc Cert.RefMidIdeal.main_arg1)
          ∧ r.2.mem ((c.tc : Thread Cert.RefMidIdeal.nD Cert.RefMidIdeal.τ).loc Cert.RefMidIdeal.main_arg2) = m' ((c.tc : Thread Cert.RefMidIdeal.nD Cert.RefMidIdeal.τ).loc Cert.RefMidIdeal.main_arg2)
          ∧ r.2.mem ((c.tc : Thread Cert.RefMidIdeal.nD Cert.RefMidIdeal.τ).loc Cert.RefMidIdeal.main_arg3) = m' ((c.tc : Thread Cert.RefMidIdeal.nD Cert.RefMidIdeal.τ).loc Cert.RefMidIdeal.main_arg3)
          ∧ r.2.mem ((c.tc : Thread Cert.RefMidIdeal.nD Cert.RefMidIdeal.τ).loc Cert.RefMidIdeal.main_arg4) = m' ((c.tc : Thread Cert.RefMidIdeal.nD Cert.RefMidIdeal.τ).loc Cert.RefMidIdeal.main_arg4)
          ∧ r.2.mem ((c.tc : Thread Cert.RefMidIdeal.nD Cert.RefMidIdeal.τ).loc Cert.RefMidIdeal.main_arg5) = m' ((c.tc : Thread Cert.RefMidIdeal.nD Cert.RefMidIdeal.τ).loc Cert.RefMidIdeal.main_arg5)
          ∧ r.2.mem ((c.tc : Thread Cert.RefMidIdeal.nD Cert.RefMidIdeal.τ).loc Cert.RefMidIdeal.main_arg6) = m' ((c.tc : Thread Cert.RefMidIdeal.nD Cert.RefMidIdeal.τ).loc Cert.RefMidIdeal.main_arg6)
          ∧ r.2.mem ((c.tc : Thread Cert.RefMidIdeal.nD Cert.RefMidIdeal.τ).loc Cert.RefMidIdeal.main_arg7) = m' ((c.tc : Thread Cert.RefMidIdeal.nD Cert.RefMidIdeal.τ).loc Cert.RefMidIdeal.main_arg7))

def preserves_KernelAtf_KernelAtfIdeal : Prop :=
  IdealRules.named_const.Statement Cert.KernelAtfIdeal.κ "mask" .f32 0xF149F2CA#32 ⊥

def algebraic_KernelAtfIdeal_RefAtfIdeal_pre_queries_finite [hKernelAtfIdeal : Cert.KernelAtfIdeal.Facts] [hRefAtfIdeal : Cert.RefAtfIdeal.Facts] [hPre_queries_finite : Cert.Pre_queries_finite.Facts] : Prop :=
  ∀ (m : (ℓ : Loc Cert.KernelAtfIdeal.nD Cert.KernelAtfIdeal.τ Cert.KernelAtfIdeal.sig) → Buf (Elt Ideal) ℓ) (g : Dev Cert.KernelAtfIdeal.nD → PrngReg)
    (m' : (ℓ : Loc Cert.RefAtfIdeal.nD Cert.RefAtfIdeal.τ Cert.RefAtfIdeal.sig) → Buf (Elt Ideal) ℓ) (g' : Dev Cert.RefAtfIdeal.nD → PrngReg), Pre_KernelAtfIdeal_queries_finite m →
    (∀ c : Dev Cert.KernelAtfIdeal.nD,
      m' ((c.tc : Thread Cert.RefAtfIdeal.nD Cert.RefAtfIdeal.τ).loc Cert.RefAtfIdeal.main_arg0) = m ((c.tc : Thread Cert.KernelAtfIdeal.nD Cert.KernelAtfIdeal.τ).loc Cert.KernelAtfIdeal.main_arg0)
      ∧ m' ((c.tc : Thread Cert.RefAtfIdeal.nD Cert.RefAtfIdeal.τ).loc Cert.RefAtfIdeal.main_arg1) = m ((c.tc : Thread Cert.KernelAtfIdeal.nD Cert.KernelAtfIdeal.τ).loc Cert.KernelAtfIdeal.main_arg1)) →
    ∃ (v0 : (c : Dev Cert.KernelAtfIdeal.nD) → Buf (Elt Ideal) ((c.tc : Thread Cert.KernelAtfIdeal.nD Cert.KernelAtfIdeal.τ).loc Cert.KernelAtfIdeal.main_v41)),
      θ_run (Cert.KernelAtfIdeal.defs (F := Ideal)) (onTc (τ := Cert.KernelAtfIdeal.τ) (Cert.KernelAtfIdeal.main (F := Ideal))) ⟨m, fun _ => 0, g⟩ (fun r => ∀ c : Dev Cert.KernelAtfIdeal.nD,
          r.2.mem ((c.tc : Thread Cert.KernelAtfIdeal.nD Cert.KernelAtfIdeal.τ).loc Cert.KernelAtfIdeal.main_v41) = v0 c
          ∧ r.2.mem ((c.tc : Thread Cert.KernelAtfIdeal.nD Cert.KernelAtfIdeal.τ).loc Cert.KernelAtfIdeal.main_arg0) = m ((c.tc : Thread Cert.KernelAtfIdeal.nD Cert.KernelAtfIdeal.τ).loc Cert.KernelAtfIdeal.main_arg0)
          ∧ r.2.mem ((c.tc : Thread Cert.KernelAtfIdeal.nD Cert.KernelAtfIdeal.τ).loc Cert.KernelAtfIdeal.main_arg1) = m ((c.tc : Thread Cert.KernelAtfIdeal.nD Cert.KernelAtfIdeal.τ).loc Cert.KernelAtfIdeal.main_arg1))
      ∧ θ_run (Cert.RefAtfIdeal.defs (F := Ideal)) (onTc (τ := Cert.RefAtfIdeal.τ) (Cert.RefAtfIdeal.main (F := Ideal))) ⟨m', fun _ => 0, g'⟩ (fun r => ∀ c : Dev Cert.RefAtfIdeal.nD,
          r.2.mem ((c.tc : Thread Cert.RefAtfIdeal.nD Cert.RefAtfIdeal.τ).loc Cert.RefAtfIdeal.main_v54) = v0 c
          ∧ r.2.mem ((c.tc : Thread Cert.RefAtfIdeal.nD Cert.RefAtfIdeal.τ).loc Cert.RefAtfIdeal.main_arg0) = m' ((c.tc : Thread Cert.RefAtfIdeal.nD Cert.RefAtfIdeal.τ).loc Cert.RefAtfIdeal.main_arg0)
          ∧ r.2.mem ((c.tc : Thread Cert.RefAtfIdeal.nD Cert.RefAtfIdeal.τ).loc Cert.RefAtfIdeal.main_arg1) = m' ((c.tc : Thread Cert.RefAtfIdeal.nD Cert.RefAtfIdeal.τ).loc Cert.RefAtfIdeal.main_arg1))

def preserves_KernelLnf_KernelLnfIdeal : Prop :=
  True

def algebraic_KernelLnfIdeal_RefLnfIdeal [hKernelLnfIdeal : Cert.KernelLnfIdeal.Facts] [hRefLnfIdeal : Cert.RefLnfIdeal.Facts] : Prop :=
  ∀ (m : (ℓ : Loc Cert.KernelLnfIdeal.nD Cert.KernelLnfIdeal.τ Cert.KernelLnfIdeal.sig) → Buf (Elt Ideal) ℓ) (g : Dev Cert.KernelLnfIdeal.nD → PrngReg)
    (m' : (ℓ : Loc Cert.RefLnfIdeal.nD Cert.RefLnfIdeal.τ Cert.RefLnfIdeal.sig) → Buf (Elt Ideal) ℓ) (g' : Dev Cert.RefLnfIdeal.nD → PrngReg), Pre_KernelLnfIdeal m →
    (∀ c : Dev Cert.KernelLnfIdeal.nD,
      m' ((c.tc : Thread Cert.RefLnfIdeal.nD Cert.RefLnfIdeal.τ).loc Cert.RefLnfIdeal.main_arg0) = m ((c.tc : Thread Cert.KernelLnfIdeal.nD Cert.KernelLnfIdeal.τ).loc Cert.KernelLnfIdeal.main_arg0)
      ∧ m' ((c.tc : Thread Cert.RefLnfIdeal.nD Cert.RefLnfIdeal.τ).loc Cert.RefLnfIdeal.main_arg1) = m ((c.tc : Thread Cert.KernelLnfIdeal.nD Cert.KernelLnfIdeal.τ).loc Cert.KernelLnfIdeal.main_arg1)
      ∧ m' ((c.tc : Thread Cert.RefLnfIdeal.nD Cert.RefLnfIdeal.τ).loc Cert.RefLnfIdeal.main_arg2) = m ((c.tc : Thread Cert.KernelLnfIdeal.nD Cert.KernelLnfIdeal.τ).loc Cert.KernelLnfIdeal.main_arg2)
      ∧ m' ((c.tc : Thread Cert.RefLnfIdeal.nD Cert.RefLnfIdeal.τ).loc Cert.RefLnfIdeal.main_arg3) = m ((c.tc : Thread Cert.KernelLnfIdeal.nD Cert.KernelLnfIdeal.τ).loc Cert.KernelLnfIdeal.main_arg3)
      ∧ m' ((c.tc : Thread Cert.RefLnfIdeal.nD Cert.RefLnfIdeal.τ).loc Cert.RefLnfIdeal.main_arg4) = m ((c.tc : Thread Cert.KernelLnfIdeal.nD Cert.KernelLnfIdeal.τ).loc Cert.KernelLnfIdeal.main_arg4)) →
    ∃ (v0 : (c : Dev Cert.KernelLnfIdeal.nD) → Buf (Elt Ideal) ((c.tc : Thread Cert.KernelLnfIdeal.nD Cert.KernelLnfIdeal.τ).loc Cert.KernelLnfIdeal.main_v2)),
      θ_run (Cert.KernelLnfIdeal.defs (F := Ideal)) (onTc (τ := Cert.KernelLnfIdeal.τ) (Cert.KernelLnfIdeal.main (F := Ideal))) ⟨m, fun _ => 0, g⟩ (fun r => ∀ c : Dev Cert.KernelLnfIdeal.nD,
          r.2.mem ((c.tc : Thread Cert.KernelLnfIdeal.nD Cert.KernelLnfIdeal.τ).loc Cert.KernelLnfIdeal.main_v2) = v0 c
          ∧ r.2.mem ((c.tc : Thread Cert.KernelLnfIdeal.nD Cert.KernelLnfIdeal.τ).loc Cert.KernelLnfIdeal.main_arg0) = m ((c.tc : Thread Cert.KernelLnfIdeal.nD Cert.KernelLnfIdeal.τ).loc Cert.KernelLnfIdeal.main_arg0)
          ∧ r.2.mem ((c.tc : Thread Cert.KernelLnfIdeal.nD Cert.KernelLnfIdeal.τ).loc Cert.KernelLnfIdeal.main_arg1) = m ((c.tc : Thread Cert.KernelLnfIdeal.nD Cert.KernelLnfIdeal.τ).loc Cert.KernelLnfIdeal.main_arg1)
          ∧ r.2.mem ((c.tc : Thread Cert.KernelLnfIdeal.nD Cert.KernelLnfIdeal.τ).loc Cert.KernelLnfIdeal.main_arg2) = m ((c.tc : Thread Cert.KernelLnfIdeal.nD Cert.KernelLnfIdeal.τ).loc Cert.KernelLnfIdeal.main_arg2)
          ∧ r.2.mem ((c.tc : Thread Cert.KernelLnfIdeal.nD Cert.KernelLnfIdeal.τ).loc Cert.KernelLnfIdeal.main_arg3) = m ((c.tc : Thread Cert.KernelLnfIdeal.nD Cert.KernelLnfIdeal.τ).loc Cert.KernelLnfIdeal.main_arg3)
          ∧ r.2.mem ((c.tc : Thread Cert.KernelLnfIdeal.nD Cert.KernelLnfIdeal.τ).loc Cert.KernelLnfIdeal.main_arg4) = m ((c.tc : Thread Cert.KernelLnfIdeal.nD Cert.KernelLnfIdeal.τ).loc Cert.KernelLnfIdeal.main_arg4))
      ∧ θ_run (Cert.RefLnfIdeal.defs (F := Ideal)) (onTc (τ := Cert.RefLnfIdeal.τ) (Cert.RefLnfIdeal.main (F := Ideal))) ⟨m', fun _ => 0, g'⟩ (fun r => ∀ c : Dev Cert.RefLnfIdeal.nD,
          r.2.mem ((c.tc : Thread Cert.RefLnfIdeal.nD Cert.RefLnfIdeal.τ).loc Cert.RefLnfIdeal.main_v30) = v0 c
          ∧ r.2.mem ((c.tc : Thread Cert.RefLnfIdeal.nD Cert.RefLnfIdeal.τ).loc Cert.RefLnfIdeal.main_arg0) = m' ((c.tc : Thread Cert.RefLnfIdeal.nD Cert.RefLnfIdeal.τ).loc Cert.RefLnfIdeal.main_arg0)
          ∧ r.2.mem ((c.tc : Thread Cert.RefLnfIdeal.nD Cert.RefLnfIdeal.τ).loc Cert.RefLnfIdeal.main_arg1) = m' ((c.tc : Thread Cert.RefLnfIdeal.nD Cert.RefLnfIdeal.τ).loc Cert.RefLnfIdeal.main_arg1)
          ∧ r.2.mem ((c.tc : Thread Cert.RefLnfIdeal.nD Cert.RefLnfIdeal.τ).loc Cert.RefLnfIdeal.main_arg2) = m' ((c.tc : Thread Cert.RefLnfIdeal.nD Cert.RefLnfIdeal.τ).loc Cert.RefLnfIdeal.main_arg2)
          ∧ r.2.mem ((c.tc : Thread Cert.RefLnfIdeal.nD Cert.RefLnfIdeal.τ).loc Cert.RefLnfIdeal.main_arg3) = m' ((c.tc : Thread Cert.RefLnfIdeal.nD Cert.RefLnfIdeal.τ).loc Cert.RefLnfIdeal.main_arg3)
          ∧ r.2.mem ((c.tc : Thread Cert.RefLnfIdeal.nD Cert.RefLnfIdeal.τ).loc Cert.RefLnfIdeal.main_arg4) = m' ((c.tc : Thread Cert.RefLnfIdeal.nD Cert.RefLnfIdeal.τ).loc Cert.RefLnfIdeal.main_arg4))

def preserves_KernelMod_KernelModIdeal : Prop :=
  True

def algebraic_KernelModIdeal_RefModIdeal [hKernelModIdeal : Cert.KernelModIdeal.Facts] [hRefModIdeal : Cert.RefModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.RefModIdeal.nD Cert.RefModIdeal.τ Cert.RefModIdeal.sig) → Buf (Elt Ideal) ℓ) (g' : Dev Cert.RefModIdeal.nD → PrngReg), Pre_KernelModIdeal m →
    (∀ c : Dev Cert.KernelModIdeal.nD,
      m' ((c.tc : Thread Cert.RefModIdeal.nD Cert.RefModIdeal.τ).loc Cert.RefModIdeal.main_arg0) = m ((c.tc : Thread Cert.KernelModIdeal.nD Cert.KernelModIdeal.τ).loc Cert.KernelModIdeal.main_arg0)
      ∧ m' ((c.tc : Thread Cert.RefModIdeal.nD Cert.RefModIdeal.τ).loc Cert.RefModIdeal.main_arg1) = m ((c.tc : Thread Cert.KernelModIdeal.nD Cert.KernelModIdeal.τ).loc Cert.KernelModIdeal.main_arg1)
      ∧ m' ((c.tc : Thread Cert.RefModIdeal.nD Cert.RefModIdeal.τ).loc Cert.RefModIdeal.main_arg2) = m ((c.tc : Thread Cert.KernelModIdeal.nD Cert.KernelModIdeal.τ).loc Cert.KernelModIdeal.main_arg2)
      ∧ m' ((c.tc : Thread Cert.RefModIdeal.nD Cert.RefModIdeal.τ).loc Cert.RefModIdeal.main_arg3) = m ((c.tc : Thread Cert.KernelModIdeal.nD Cert.KernelModIdeal.τ).loc Cert.KernelModIdeal.main_arg3)) →
    ∃ (v0 : (c : Dev Cert.KernelModIdeal.nD) → Buf (Elt Ideal) ((c.tc : Thread Cert.KernelModIdeal.nD Cert.KernelModIdeal.τ).loc Cert.KernelModIdeal.main_v2)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v2) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
          ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ θ_run (Cert.RefModIdeal.defs (F := Ideal)) (onTc (τ := Cert.RefModIdeal.τ) (Cert.RefModIdeal.main (F := Ideal))) ⟨m', fun _ => 0, g'⟩ (fun r => ∀ c : Dev Cert.RefModIdeal.nD,
          r.2.mem ((c.tc : Thread Cert.RefModIdeal.nD Cert.RefModIdeal.τ).loc Cert.RefModIdeal.main_v7) = v0 c
          ∧ r.2.mem ((c.tc : Thread Cert.RefModIdeal.nD Cert.RefModIdeal.τ).loc Cert.RefModIdeal.main_arg0) = m' ((c.tc : Thread Cert.RefModIdeal.nD Cert.RefModIdeal.τ).loc Cert.RefModIdeal.main_arg0)
          ∧ r.2.mem ((c.tc : Thread Cert.RefModIdeal.nD Cert.RefModIdeal.τ).loc Cert.RefModIdeal.main_arg1) = m' ((c.tc : Thread Cert.RefModIdeal.nD Cert.RefModIdeal.τ).loc Cert.RefModIdeal.main_arg1)
          ∧ r.2.mem ((c.tc : Thread Cert.RefModIdeal.nD Cert.RefModIdeal.τ).loc Cert.RefModIdeal.main_arg2) = m' ((c.tc : Thread Cert.RefModIdeal.nD Cert.RefModIdeal.τ).loc Cert.RefModIdeal.main_arg2)
          ∧ r.2.mem ((c.tc : Thread Cert.RefModIdeal.nD Cert.RefModIdeal.τ).loc Cert.RefModIdeal.main_arg3) = m' ((c.tc : Thread Cert.RefModIdeal.nD Cert.RefModIdeal.τ).loc Cert.RefModIdeal.main_arg3))

def preserves_KernelFfd_KernelFfdIdeal : Prop :=
  True

def algebraic_KernelFfdIdeal_RefFfdIdeal [hKernelFfdIdeal : Cert.KernelFfdIdeal.Facts] [hRefFfdIdeal : Cert.RefFfdIdeal.Facts] : Prop :=
  ∀ (m : (ℓ : Loc Cert.KernelFfdIdeal.nD Cert.KernelFfdIdeal.τ Cert.KernelFfdIdeal.sig) → Buf (Elt Ideal) ℓ) (g : Dev Cert.KernelFfdIdeal.nD → PrngReg)
    (m' : (ℓ : Loc Cert.RefFfdIdeal.nD Cert.RefFfdIdeal.τ Cert.RefFfdIdeal.sig) → Buf (Elt Ideal) ℓ) (g' : Dev Cert.RefFfdIdeal.nD → PrngReg), Pre_KernelFfdIdeal m →
    (∀ c : Dev Cert.KernelFfdIdeal.nD,
      m' ((c.tc : Thread Cert.RefFfdIdeal.nD Cert.RefFfdIdeal.τ).loc Cert.RefFfdIdeal.main_arg0) = m ((c.tc : Thread Cert.KernelFfdIdeal.nD Cert.KernelFfdIdeal.τ).loc Cert.KernelFfdIdeal.main_arg0)
      ∧ m' ((c.tc : Thread Cert.RefFfdIdeal.nD Cert.RefFfdIdeal.τ).loc Cert.RefFfdIdeal.main_arg1) = m ((c.tc : Thread Cert.KernelFfdIdeal.nD Cert.KernelFfdIdeal.τ).loc Cert.KernelFfdIdeal.main_arg1)
      ∧ m' ((c.tc : Thread Cert.RefFfdIdeal.nD Cert.RefFfdIdeal.τ).loc Cert.RefFfdIdeal.main_arg2) = m ((c.tc : Thread Cert.KernelFfdIdeal.nD Cert.KernelFfdIdeal.τ).loc Cert.KernelFfdIdeal.main_arg2)
      ∧ m' ((c.tc : Thread Cert.RefFfdIdeal.nD Cert.RefFfdIdeal.τ).loc Cert.RefFfdIdeal.main_arg3) = m ((c.tc : Thread Cert.KernelFfdIdeal.nD Cert.KernelFfdIdeal.τ).loc Cert.KernelFfdIdeal.main_arg3)
      ∧ m' ((c.tc : Thread Cert.RefFfdIdeal.nD Cert.RefFfdIdeal.τ).loc Cert.RefFfdIdeal.main_arg4) = m ((c.tc : Thread Cert.KernelFfdIdeal.nD Cert.KernelFfdIdeal.τ).loc Cert.KernelFfdIdeal.main_arg4)) →
    ∃ (v0 : (c : Dev Cert.KernelFfdIdeal.nD) → Buf (Elt Ideal) ((c.tc : Thread Cert.KernelFfdIdeal.nD Cert.KernelFfdIdeal.τ).loc Cert.KernelFfdIdeal.main_v12)),
      θ_run (Cert.KernelFfdIdeal.defs (F := Ideal)) (onTc (τ := Cert.KernelFfdIdeal.τ) (Cert.KernelFfdIdeal.main (F := Ideal))) ⟨m, fun _ => 0, g⟩ (fun r => ∀ c : Dev Cert.KernelFfdIdeal.nD,
          r.2.mem ((c.tc : Thread Cert.KernelFfdIdeal.nD Cert.KernelFfdIdeal.τ).loc Cert.KernelFfdIdeal.main_v12) = v0 c
          ∧ r.2.mem ((c.tc : Thread Cert.KernelFfdIdeal.nD Cert.KernelFfdIdeal.τ).loc Cert.KernelFfdIdeal.main_arg0) = m ((c.tc : Thread Cert.KernelFfdIdeal.nD Cert.KernelFfdIdeal.τ).loc Cert.KernelFfdIdeal.main_arg0)
          ∧ r.2.mem ((c.tc : Thread Cert.KernelFfdIdeal.nD Cert.KernelFfdIdeal.τ).loc Cert.KernelFfdIdeal.main_arg1) = m ((c.tc : Thread Cert.KernelFfdIdeal.nD Cert.KernelFfdIdeal.τ).loc Cert.KernelFfdIdeal.main_arg1)
          ∧ r.2.mem ((c.tc : Thread Cert.KernelFfdIdeal.nD Cert.KernelFfdIdeal.τ).loc Cert.KernelFfdIdeal.main_arg2) = m ((c.tc : Thread Cert.KernelFfdIdeal.nD Cert.KernelFfdIdeal.τ).loc Cert.KernelFfdIdeal.main_arg2)
          ∧ r.2.mem ((c.tc : Thread Cert.KernelFfdIdeal.nD Cert.KernelFfdIdeal.τ).loc Cert.KernelFfdIdeal.main_arg3) = m ((c.tc : Thread Cert.KernelFfdIdeal.nD Cert.KernelFfdIdeal.τ).loc Cert.KernelFfdIdeal.main_arg3)
          ∧ r.2.mem ((c.tc : Thread Cert.KernelFfdIdeal.nD Cert.KernelFfdIdeal.τ).loc Cert.KernelFfdIdeal.main_arg4) = m ((c.tc : Thread Cert.KernelFfdIdeal.nD Cert.KernelFfdIdeal.τ).loc Cert.KernelFfdIdeal.main_arg4))
      ∧ θ_run (Cert.RefFfdIdeal.defs (F := Ideal)) (onTc (τ := Cert.RefFfdIdeal.τ) (Cert.RefFfdIdeal.main (F := Ideal))) ⟨m', fun _ => 0, g'⟩ (fun r => ∀ c : Dev Cert.RefFfdIdeal.nD,
          r.2.mem ((c.tc : Thread Cert.RefFfdIdeal.nD Cert.RefFfdIdeal.τ).loc Cert.RefFfdIdeal.main_v9) = v0 c
          ∧ r.2.mem ((c.tc : Thread Cert.RefFfdIdeal.nD Cert.RefFfdIdeal.τ).loc Cert.RefFfdIdeal.main_arg0) = m' ((c.tc : Thread Cert.RefFfdIdeal.nD Cert.RefFfdIdeal.τ).loc Cert.RefFfdIdeal.main_arg0)
          ∧ r.2.mem ((c.tc : Thread Cert.RefFfdIdeal.nD Cert.RefFfdIdeal.τ).loc Cert.RefFfdIdeal.main_arg1) = m' ((c.tc : Thread Cert.RefFfdIdeal.nD Cert.RefFfdIdeal.τ).loc Cert.RefFfdIdeal.main_arg1)
          ∧ r.2.mem ((c.tc : Thread Cert.RefFfdIdeal.nD Cert.RefFfdIdeal.τ).loc Cert.RefFfdIdeal.main_arg2) = m' ((c.tc : Thread Cert.RefFfdIdeal.nD Cert.RefFfdIdeal.τ).loc Cert.RefFfdIdeal.main_arg2)
          ∧ r.2.mem ((c.tc : Thread Cert.RefFfdIdeal.nD Cert.RefFfdIdeal.τ).loc Cert.RefFfdIdeal.main_arg3) = m' ((c.tc : Thread Cert.RefFfdIdeal.nD Cert.RefFfdIdeal.τ).loc Cert.RefFfdIdeal.main_arg3)
          ∧ r.2.mem ((c.tc : Thread Cert.RefFfdIdeal.nD Cert.RefFfdIdeal.τ).loc Cert.RefFfdIdeal.main_arg4) = m' ((c.tc : Thread Cert.RefFfdIdeal.nD Cert.RefFfdIdeal.τ).loc Cert.RefFfdIdeal.main_arg4))

def preserves_KernelWgt_KernelWgtIdeal : Prop :=
  True

def algebraic_KernelWgtIdeal_RefWgtIdeal [hKernelWgtIdeal : Cert.KernelWgtIdeal.Facts] [hRefWgtIdeal : Cert.RefWgtIdeal.Facts] : Prop :=
  ∀ (m : (ℓ : Loc Cert.KernelWgtIdeal.nD Cert.KernelWgtIdeal.τ Cert.KernelWgtIdeal.sig) → Buf (Elt Ideal) ℓ) (g : Dev Cert.KernelWgtIdeal.nD → PrngReg)
    (m' : (ℓ : Loc Cert.RefWgtIdeal.nD Cert.RefWgtIdeal.τ Cert.RefWgtIdeal.sig) → Buf (Elt Ideal) ℓ) (g' : Dev Cert.RefWgtIdeal.nD → PrngReg), Pre_KernelWgtIdeal m →
    (∀ c : Dev Cert.KernelWgtIdeal.nD,
      m' ((c.tc : Thread Cert.RefWgtIdeal.nD Cert.RefWgtIdeal.τ).loc Cert.RefWgtIdeal.main_arg0) = m ((c.tc : Thread Cert.KernelWgtIdeal.nD Cert.KernelWgtIdeal.τ).loc Cert.KernelWgtIdeal.main_arg0)
      ∧ m' ((c.tc : Thread Cert.RefWgtIdeal.nD Cert.RefWgtIdeal.τ).loc Cert.RefWgtIdeal.main_arg1) = m ((c.tc : Thread Cert.KernelWgtIdeal.nD Cert.KernelWgtIdeal.τ).loc Cert.KernelWgtIdeal.main_arg1)
      ∧ m' ((c.tc : Thread Cert.RefWgtIdeal.nD Cert.RefWgtIdeal.τ).loc Cert.RefWgtIdeal.main_arg2) = m ((c.tc : Thread Cert.KernelWgtIdeal.nD Cert.KernelWgtIdeal.τ).loc Cert.KernelWgtIdeal.main_arg2)
      ∧ m' ((c.tc : Thread Cert.RefWgtIdeal.nD Cert.RefWgtIdeal.τ).loc Cert.RefWgtIdeal.main_arg3) = m ((c.tc : Thread Cert.KernelWgtIdeal.nD Cert.KernelWgtIdeal.τ).loc Cert.KernelWgtIdeal.main_arg3)
      ∧ m' ((c.tc : Thread Cert.RefWgtIdeal.nD Cert.RefWgtIdeal.τ).loc Cert.RefWgtIdeal.main_arg4) = m ((c.tc : Thread Cert.KernelWgtIdeal.nD Cert.KernelWgtIdeal.τ).loc Cert.KernelWgtIdeal.main_arg4)) →
    ∃ (v0 : (c : Dev Cert.KernelWgtIdeal.nD) → Buf (Elt Ideal) ((c.tc : Thread Cert.KernelWgtIdeal.nD Cert.KernelWgtIdeal.τ).loc Cert.KernelWgtIdeal.main_v11)),
      θ_run (Cert.KernelWgtIdeal.defs (F := Ideal)) (onTc (τ := Cert.KernelWgtIdeal.τ) (Cert.KernelWgtIdeal.main (F := Ideal))) ⟨m, fun _ => 0, g⟩ (fun r => ∀ c : Dev Cert.KernelWgtIdeal.nD,
          r.2.mem ((c.tc : Thread Cert.KernelWgtIdeal.nD Cert.KernelWgtIdeal.τ).loc Cert.KernelWgtIdeal.main_v11) = v0 c
          ∧ r.2.mem ((c.tc : Thread Cert.KernelWgtIdeal.nD Cert.KernelWgtIdeal.τ).loc Cert.KernelWgtIdeal.main_arg0) = m ((c.tc : Thread Cert.KernelWgtIdeal.nD Cert.KernelWgtIdeal.τ).loc Cert.KernelWgtIdeal.main_arg0)
          ∧ r.2.mem ((c.tc : Thread Cert.KernelWgtIdeal.nD Cert.KernelWgtIdeal.τ).loc Cert.KernelWgtIdeal.main_arg1) = m ((c.tc : Thread Cert.KernelWgtIdeal.nD Cert.KernelWgtIdeal.τ).loc Cert.KernelWgtIdeal.main_arg1)
          ∧ r.2.mem ((c.tc : Thread Cert.KernelWgtIdeal.nD Cert.KernelWgtIdeal.τ).loc Cert.KernelWgtIdeal.main_arg2) = m ((c.tc : Thread Cert.KernelWgtIdeal.nD Cert.KernelWgtIdeal.τ).loc Cert.KernelWgtIdeal.main_arg2)
          ∧ r.2.mem ((c.tc : Thread Cert.KernelWgtIdeal.nD Cert.KernelWgtIdeal.τ).loc Cert.KernelWgtIdeal.main_arg3) = m ((c.tc : Thread Cert.KernelWgtIdeal.nD Cert.KernelWgtIdeal.τ).loc Cert.KernelWgtIdeal.main_arg3)
          ∧ r.2.mem ((c.tc : Thread Cert.KernelWgtIdeal.nD Cert.KernelWgtIdeal.τ).loc Cert.KernelWgtIdeal.main_arg4) = m ((c.tc : Thread Cert.KernelWgtIdeal.nD Cert.KernelWgtIdeal.τ).loc Cert.KernelWgtIdeal.main_arg4))
      ∧ θ_run (Cert.RefWgtIdeal.defs (F := Ideal)) (onTc (τ := Cert.RefWgtIdeal.τ) (Cert.RefWgtIdeal.main (F := Ideal))) ⟨m', fun _ => 0, g'⟩ (fun r => ∀ c : Dev Cert.RefWgtIdeal.nD,
          r.2.mem ((c.tc : Thread Cert.RefWgtIdeal.nD Cert.RefWgtIdeal.τ).loc Cert.RefWgtIdeal.main_v14) = v0 c
          ∧ r.2.mem ((c.tc : Thread Cert.RefWgtIdeal.nD Cert.RefWgtIdeal.τ).loc Cert.RefWgtIdeal.main_arg0) = m' ((c.tc : Thread Cert.RefWgtIdeal.nD Cert.RefWgtIdeal.τ).loc Cert.RefWgtIdeal.main_arg0)
          ∧ r.2.mem ((c.tc : Thread Cert.RefWgtIdeal.nD Cert.RefWgtIdeal.τ).loc Cert.RefWgtIdeal.main_arg1) = m' ((c.tc : Thread Cert.RefWgtIdeal.nD Cert.RefWgtIdeal.τ).loc Cert.RefWgtIdeal.main_arg1)
          ∧ r.2.mem ((c.tc : Thread Cert.RefWgtIdeal.nD Cert.RefWgtIdeal.τ).loc Cert.RefWgtIdeal.main_arg2) = m' ((c.tc : Thread Cert.RefWgtIdeal.nD Cert.RefWgtIdeal.τ).loc Cert.RefWgtIdeal.main_arg2)
          ∧ r.2.mem ((c.tc : Thread Cert.RefWgtIdeal.nD Cert.RefWgtIdeal.τ).loc Cert.RefWgtIdeal.main_arg3) = m' ((c.tc : Thread Cert.RefWgtIdeal.nD Cert.RefWgtIdeal.τ).loc Cert.RefWgtIdeal.main_arg3)
          ∧ r.2.mem ((c.tc : Thread Cert.RefWgtIdeal.nD Cert.RefWgtIdeal.τ).loc Cert.RefWgtIdeal.main_arg4) = m' ((c.tc : Thread Cert.RefWgtIdeal.nD Cert.RefWgtIdeal.τ).loc Cert.RefWgtIdeal.main_arg4))

def preserves_KernelWgm_KernelWgmIdeal : Prop :=
  True

def algebraic_KernelWgmIdeal_RefWgmIdeal [hKernelWgmIdeal : Cert.KernelWgmIdeal.Facts] [hRefWgmIdeal : Cert.RefWgmIdeal.Facts] : Prop :=
  ∀ (m : (ℓ : Loc Cert.KernelWgmIdeal.nD Cert.KernelWgmIdeal.τ Cert.KernelWgmIdeal.sig) → Buf (Elt Ideal) ℓ) (g : Dev Cert.KernelWgmIdeal.nD → PrngReg)
    (m' : (ℓ : Loc Cert.RefWgmIdeal.nD Cert.RefWgmIdeal.τ Cert.RefWgmIdeal.sig) → Buf (Elt Ideal) ℓ) (g' : Dev Cert.RefWgmIdeal.nD → PrngReg), Pre_KernelWgmIdeal m →
    (∀ c : Dev Cert.KernelWgmIdeal.nD,
      m' ((c.tc : Thread Cert.RefWgmIdeal.nD Cert.RefWgmIdeal.τ).loc Cert.RefWgmIdeal.main_arg0) = m ((c.tc : Thread Cert.KernelWgmIdeal.nD Cert.KernelWgmIdeal.τ).loc Cert.KernelWgmIdeal.main_arg0)
      ∧ m' ((c.tc : Thread Cert.RefWgmIdeal.nD Cert.RefWgmIdeal.τ).loc Cert.RefWgmIdeal.main_arg1) = m ((c.tc : Thread Cert.KernelWgmIdeal.nD Cert.KernelWgmIdeal.τ).loc Cert.KernelWgmIdeal.main_arg1)
      ∧ m' ((c.tc : Thread Cert.RefWgmIdeal.nD Cert.RefWgmIdeal.τ).loc Cert.RefWgmIdeal.main_arg2) = m ((c.tc : Thread Cert.KernelWgmIdeal.nD Cert.KernelWgmIdeal.τ).loc Cert.KernelWgmIdeal.main_arg2)
      ∧ m' ((c.tc : Thread Cert.RefWgmIdeal.nD Cert.RefWgmIdeal.τ).loc Cert.RefWgmIdeal.main_arg3) = m ((c.tc : Thread Cert.KernelWgmIdeal.nD Cert.KernelWgmIdeal.τ).loc Cert.KernelWgmIdeal.main_arg3)) →
    ∃ (v0 : (c : Dev Cert.KernelWgmIdeal.nD) → Buf (Elt Ideal) ((c.tc : Thread Cert.KernelWgmIdeal.nD Cert.KernelWgmIdeal.τ).loc Cert.KernelWgmIdeal.main_v0)),
      θ_run (Cert.KernelWgmIdeal.defs (F := Ideal)) (onTc (τ := Cert.KernelWgmIdeal.τ) (Cert.KernelWgmIdeal.main (F := Ideal))) ⟨m, fun _ => 0, g⟩ (fun r => ∀ c : Dev Cert.KernelWgmIdeal.nD,
          r.2.mem ((c.tc : Thread Cert.KernelWgmIdeal.nD Cert.KernelWgmIdeal.τ).loc Cert.KernelWgmIdeal.main_v0) = v0 c
          ∧ r.2.mem ((c.tc : Thread Cert.KernelWgmIdeal.nD Cert.KernelWgmIdeal.τ).loc Cert.KernelWgmIdeal.main_arg0) = m ((c.tc : Thread Cert.KernelWgmIdeal.nD Cert.KernelWgmIdeal.τ).loc Cert.KernelWgmIdeal.main_arg0)
          ∧ r.2.mem ((c.tc : Thread Cert.KernelWgmIdeal.nD Cert.KernelWgmIdeal.τ).loc Cert.KernelWgmIdeal.main_arg1) = m ((c.tc : Thread Cert.KernelWgmIdeal.nD Cert.KernelWgmIdeal.τ).loc Cert.KernelWgmIdeal.main_arg1)
          ∧ r.2.mem ((c.tc : Thread Cert.KernelWgmIdeal.nD Cert.KernelWgmIdeal.τ).loc Cert.KernelWgmIdeal.main_arg2) = m ((c.tc : Thread Cert.KernelWgmIdeal.nD Cert.KernelWgmIdeal.τ).loc Cert.KernelWgmIdeal.main_arg2)
          ∧ r.2.mem ((c.tc : Thread Cert.KernelWgmIdeal.nD Cert.KernelWgmIdeal.τ).loc Cert.KernelWgmIdeal.main_arg3) = m ((c.tc : Thread Cert.KernelWgmIdeal.nD Cert.KernelWgmIdeal.τ).loc Cert.KernelWgmIdeal.main_arg3))
      ∧ θ_run (Cert.RefWgmIdeal.defs (F := Ideal)) (onTc (τ := Cert.RefWgmIdeal.τ) (Cert.RefWgmIdeal.main (F := Ideal))) ⟨m', fun _ => 0, g'⟩ (fun r => ∀ c : Dev Cert.RefWgmIdeal.nD,
          r.2.mem ((c.tc : Thread Cert.RefWgmIdeal.nD Cert.RefWgmIdeal.τ).loc Cert.RefWgmIdeal.main_v12) = v0 c
          ∧ r.2.mem ((c.tc : Thread Cert.RefWgmIdeal.nD Cert.RefWgmIdeal.τ).loc Cert.RefWgmIdeal.main_arg0) = m' ((c.tc : Thread Cert.RefWgmIdeal.nD Cert.RefWgmIdeal.τ).loc Cert.RefWgmIdeal.main_arg0)
          ∧ r.2.mem ((c.tc : Thread Cert.RefWgmIdeal.nD Cert.RefWgmIdeal.τ).loc Cert.RefWgmIdeal.main_arg1) = m' ((c.tc : Thread Cert.RefWgmIdeal.nD Cert.RefWgmIdeal.τ).loc Cert.RefWgmIdeal.main_arg1)
          ∧ r.2.mem ((c.tc : Thread Cert.RefWgmIdeal.nD Cert.RefWgmIdeal.τ).loc Cert.RefWgmIdeal.main_arg2) = m' ((c.tc : Thread Cert.RefWgmIdeal.nD Cert.RefWgmIdeal.τ).loc Cert.RefWgmIdeal.main_arg2)
          ∧ r.2.mem ((c.tc : Thread Cert.RefWgmIdeal.nD Cert.RefWgmIdeal.τ).loc Cert.RefWgmIdeal.main_arg3) = m' ((c.tc : Thread Cert.RefWgmIdeal.nD Cert.RefWgmIdeal.τ).loc Cert.RefWgmIdeal.main_arg3))

def preserves_KernelTil_KernelTilIdeal : Prop :=
  True

def algebraic_KernelTilIdeal_RefTilIdeal [hKernelTilIdeal : Cert.KernelTilIdeal.Facts] [hRefTilIdeal : Cert.RefTilIdeal.Facts] : Prop :=
  ∀ (m : (ℓ : Loc Cert.KernelTilIdeal.nD Cert.KernelTilIdeal.τ Cert.KernelTilIdeal.sig) → Buf (Elt Ideal) ℓ) (g : Dev Cert.KernelTilIdeal.nD → PrngReg)
    (m' : (ℓ : Loc Cert.RefTilIdeal.nD Cert.RefTilIdeal.τ Cert.RefTilIdeal.sig) → Buf (Elt Ideal) ℓ) (g' : Dev Cert.RefTilIdeal.nD → PrngReg), Pre_KernelTilIdeal m →
    (∀ c : Dev Cert.KernelTilIdeal.nD,
      m' ((c.tc : Thread Cert.RefTilIdeal.nD Cert.RefTilIdeal.τ).loc Cert.RefTilIdeal.main_arg0) = m ((c.tc : Thread Cert.KernelTilIdeal.nD Cert.KernelTilIdeal.τ).loc Cert.KernelTilIdeal.main_arg0)) →
    ∃ (v0 : (c : Dev Cert.KernelTilIdeal.nD) → Buf (Elt Ideal) ((c.tc : Thread Cert.KernelTilIdeal.nD Cert.KernelTilIdeal.τ).loc Cert.KernelTilIdeal.main_v31)),
      θ_run (Cert.KernelTilIdeal.defs (F := Ideal)) (onTc (τ := Cert.KernelTilIdeal.τ) (Cert.KernelTilIdeal.main (F := Ideal))) ⟨m, fun _ => 0, g⟩ (fun r => ∀ c : Dev Cert.KernelTilIdeal.nD,
          r.2.mem ((c.tc : Thread Cert.KernelTilIdeal.nD Cert.KernelTilIdeal.τ).loc Cert.KernelTilIdeal.main_v31) = v0 c
          ∧ r.2.mem ((c.tc : Thread Cert.KernelTilIdeal.nD Cert.KernelTilIdeal.τ).loc Cert.KernelTilIdeal.main_arg0) = m ((c.tc : Thread Cert.KernelTilIdeal.nD Cert.KernelTilIdeal.τ).loc Cert.KernelTilIdeal.main_arg0))
      ∧ θ_run (Cert.RefTilIdeal.defs (F := Ideal)) (onTc (τ := Cert.RefTilIdeal.τ) (Cert.RefTilIdeal.main (F := Ideal))) ⟨m', fun _ => 0, g'⟩ (fun r => ∀ c : Dev Cert.RefTilIdeal.nD,
          r.2.mem ((c.tc : Thread Cert.RefTilIdeal.nD Cert.RefTilIdeal.τ).loc Cert.RefTilIdeal.main_v41) = v0 c
          ∧ r.2.mem ((c.tc : Thread Cert.RefTilIdeal.nD Cert.RefTilIdeal.τ).loc Cert.RefTilIdeal.main_arg0) = m' ((c.tc : Thread Cert.RefTilIdeal.nD Cert.RefTilIdeal.τ).loc Cert.RefTilIdeal.main_arg0))

def preserves_KernelPrj_KernelPrjIdeal : Prop :=
  True

def algebraic_KernelPrjIdeal_RefPrjIdeal [hKernelPrjIdeal : Cert.KernelPrjIdeal.Facts] [hRefPrjIdeal : Cert.RefPrjIdeal.Facts] : Prop :=
  ∀ (m : (ℓ : Loc Cert.KernelPrjIdeal.nD Cert.KernelPrjIdeal.τ Cert.KernelPrjIdeal.sig) → Buf (Elt Ideal) ℓ) (g : Dev Cert.KernelPrjIdeal.nD → PrngReg)
    (m' : (ℓ : Loc Cert.RefPrjIdeal.nD Cert.RefPrjIdeal.τ Cert.RefPrjIdeal.sig) → Buf (Elt Ideal) ℓ) (g' : Dev Cert.RefPrjIdeal.nD → PrngReg), Pre_KernelPrjIdeal m →
    (∀ c : Dev Cert.KernelPrjIdeal.nD,
      m' ((c.tc : Thread Cert.RefPrjIdeal.nD Cert.RefPrjIdeal.τ).loc Cert.RefPrjIdeal.main_arg0) = m ((c.tc : Thread Cert.KernelPrjIdeal.nD Cert.KernelPrjIdeal.τ).loc Cert.KernelPrjIdeal.main_arg0)
      ∧ m' ((c.tc : Thread Cert.RefPrjIdeal.nD Cert.RefPrjIdeal.τ).loc Cert.RefPrjIdeal.main_arg1) = m ((c.tc : Thread Cert.KernelPrjIdeal.nD Cert.KernelPrjIdeal.τ).loc Cert.KernelPrjIdeal.main_arg1)
      ∧ m' ((c.tc : Thread Cert.RefPrjIdeal.nD Cert.RefPrjIdeal.τ).loc Cert.RefPrjIdeal.main_arg2) = m ((c.tc : Thread Cert.KernelPrjIdeal.nD Cert.KernelPrjIdeal.τ).loc Cert.KernelPrjIdeal.main_arg2)
      ∧ m' ((c.tc : Thread Cert.RefPrjIdeal.nD Cert.RefPrjIdeal.τ).loc Cert.RefPrjIdeal.main_arg3) = m ((c.tc : Thread Cert.KernelPrjIdeal.nD Cert.KernelPrjIdeal.τ).loc Cert.KernelPrjIdeal.main_arg3)
      ∧ m' ((c.tc : Thread Cert.RefPrjIdeal.nD Cert.RefPrjIdeal.τ).loc Cert.RefPrjIdeal.main_arg4) = m ((c.tc : Thread Cert.KernelPrjIdeal.nD Cert.KernelPrjIdeal.τ).loc Cert.KernelPrjIdeal.main_arg4)) →
    ∃ (v0 : (c : Dev Cert.KernelPrjIdeal.nD) → Buf (Elt Ideal) ((c.tc : Thread Cert.KernelPrjIdeal.nD Cert.KernelPrjIdeal.τ).loc Cert.KernelPrjIdeal.main_v3)),
      θ_run (Cert.KernelPrjIdeal.defs (F := Ideal)) (onTc (τ := Cert.KernelPrjIdeal.τ) (Cert.KernelPrjIdeal.main (F := Ideal))) ⟨m, fun _ => 0, g⟩ (fun r => ∀ c : Dev Cert.KernelPrjIdeal.nD,
          r.2.mem ((c.tc : Thread Cert.KernelPrjIdeal.nD Cert.KernelPrjIdeal.τ).loc Cert.KernelPrjIdeal.main_v3) = v0 c
          ∧ r.2.mem ((c.tc : Thread Cert.KernelPrjIdeal.nD Cert.KernelPrjIdeal.τ).loc Cert.KernelPrjIdeal.main_arg0) = m ((c.tc : Thread Cert.KernelPrjIdeal.nD Cert.KernelPrjIdeal.τ).loc Cert.KernelPrjIdeal.main_arg0)
          ∧ r.2.mem ((c.tc : Thread Cert.KernelPrjIdeal.nD Cert.KernelPrjIdeal.τ).loc Cert.KernelPrjIdeal.main_arg1) = m ((c.tc : Thread Cert.KernelPrjIdeal.nD Cert.KernelPrjIdeal.τ).loc Cert.KernelPrjIdeal.main_arg1)
          ∧ r.2.mem ((c.tc : Thread Cert.KernelPrjIdeal.nD Cert.KernelPrjIdeal.τ).loc Cert.KernelPrjIdeal.main_arg2) = m ((c.tc : Thread Cert.KernelPrjIdeal.nD Cert.KernelPrjIdeal.τ).loc Cert.KernelPrjIdeal.main_arg2)
          ∧ r.2.mem ((c.tc : Thread Cert.KernelPrjIdeal.nD Cert.KernelPrjIdeal.τ).loc Cert.KernelPrjIdeal.main_arg3) = m ((c.tc : Thread Cert.KernelPrjIdeal.nD Cert.KernelPrjIdeal.τ).loc Cert.KernelPrjIdeal.main_arg3)
          ∧ r.2.mem ((c.tc : Thread Cert.KernelPrjIdeal.nD Cert.KernelPrjIdeal.τ).loc Cert.KernelPrjIdeal.main_arg4) = m ((c.tc : Thread Cert.KernelPrjIdeal.nD Cert.KernelPrjIdeal.τ).loc Cert.KernelPrjIdeal.main_arg4))
      ∧ θ_run (Cert.RefPrjIdeal.defs (F := Ideal)) (onTc (τ := Cert.RefPrjIdeal.τ) (Cert.RefPrjIdeal.main (F := Ideal))) ⟨m', fun _ => 0, g'⟩ (fun r => ∀ c : Dev Cert.RefPrjIdeal.nD,
          r.2.mem ((c.tc : Thread Cert.RefPrjIdeal.nD Cert.RefPrjIdeal.τ).loc Cert.RefPrjIdeal.main_v10) = v0 c
          ∧ r.2.mem ((c.tc : Thread Cert.RefPrjIdeal.nD Cert.RefPrjIdeal.τ).loc Cert.RefPrjIdeal.main_arg0) = m' ((c.tc : Thread Cert.RefPrjIdeal.nD Cert.RefPrjIdeal.τ).loc Cert.RefPrjIdeal.main_arg0)
          ∧ r.2.mem ((c.tc : Thread Cert.RefPrjIdeal.nD Cert.RefPrjIdeal.τ).loc Cert.RefPrjIdeal.main_arg1) = m' ((c.tc : Thread Cert.RefPrjIdeal.nD Cert.RefPrjIdeal.τ).loc Cert.RefPrjIdeal.main_arg1)
          ∧ r.2.mem ((c.tc : Thread Cert.RefPrjIdeal.nD Cert.RefPrjIdeal.τ).loc Cert.RefPrjIdeal.main_arg2) = m' ((c.tc : Thread Cert.RefPrjIdeal.nD Cert.RefPrjIdeal.τ).loc Cert.RefPrjIdeal.main_arg2)
          ∧ r.2.mem ((c.tc : Thread Cert.RefPrjIdeal.nD Cert.RefPrjIdeal.τ).loc Cert.RefPrjIdeal.main_arg3) = m' ((c.tc : Thread Cert.RefPrjIdeal.nD Cert.RefPrjIdeal.τ).loc Cert.RefPrjIdeal.main_arg3)
          ∧ r.2.mem ((c.tc : Thread Cert.RefPrjIdeal.nD Cert.RefPrjIdeal.τ).loc Cert.RefPrjIdeal.main_arg4) = m' ((c.tc : Thread Cert.RefPrjIdeal.nD Cert.RefPrjIdeal.τ).loc Cert.RefPrjIdeal.main_arg4))

def preserves_KernelMds_KernelMdsIdeal : Prop :=
  True

def algebraic_KernelMdsIdeal_RefMdsIdeal [hKernelMdsIdeal : Cert.KernelMdsIdeal.Facts] [hRefMdsIdeal : Cert.RefMdsIdeal.Facts] : Prop :=
  ∀ (m : (ℓ : Loc Cert.KernelMdsIdeal.nD Cert.KernelMdsIdeal.τ Cert.KernelMdsIdeal.sig) → Buf (Elt Ideal) ℓ) (g : Dev Cert.KernelMdsIdeal.nD → PrngReg)
    (m' : (ℓ : Loc Cert.RefMdsIdeal.nD Cert.RefMdsIdeal.τ Cert.RefMdsIdeal.sig) → Buf (Elt Ideal) ℓ) (g' : Dev Cert.RefMdsIdeal.nD → PrngReg), Pre_KernelMdsIdeal m →
    (∀ c : Dev Cert.KernelMdsIdeal.nD,
      m' ((c.tc : Thread Cert.RefMdsIdeal.nD Cert.RefMdsIdeal.τ).loc Cert.RefMdsIdeal.main_arg0) = m ((c.tc : Thread Cert.KernelMdsIdeal.nD Cert.KernelMdsIdeal.τ).loc Cert.KernelMdsIdeal.main_arg0)
      ∧ m' ((c.tc : Thread Cert.RefMdsIdeal.nD Cert.RefMdsIdeal.τ).loc Cert.RefMdsIdeal.main_arg1) = m ((c.tc : Thread Cert.KernelMdsIdeal.nD Cert.KernelMdsIdeal.τ).loc Cert.KernelMdsIdeal.main_arg1)) →
    ∃ (v0 : (c : Dev Cert.KernelMdsIdeal.nD) → Buf (Elt Ideal) ((c.tc : Thread Cert.KernelMdsIdeal.nD Cert.KernelMdsIdeal.τ).loc Cert.KernelMdsIdeal.main_v0)),
      θ_run (Cert.KernelMdsIdeal.defs (F := Ideal)) (onTc (τ := Cert.KernelMdsIdeal.τ) (Cert.KernelMdsIdeal.main (F := Ideal))) ⟨m, fun _ => 0, g⟩ (fun r => ∀ c : Dev Cert.KernelMdsIdeal.nD,
          r.2.mem ((c.tc : Thread Cert.KernelMdsIdeal.nD Cert.KernelMdsIdeal.τ).loc Cert.KernelMdsIdeal.main_v0) = v0 c
          ∧ r.2.mem ((c.tc : Thread Cert.KernelMdsIdeal.nD Cert.KernelMdsIdeal.τ).loc Cert.KernelMdsIdeal.main_arg0) = m ((c.tc : Thread Cert.KernelMdsIdeal.nD Cert.KernelMdsIdeal.τ).loc Cert.KernelMdsIdeal.main_arg0)
          ∧ r.2.mem ((c.tc : Thread Cert.KernelMdsIdeal.nD Cert.KernelMdsIdeal.τ).loc Cert.KernelMdsIdeal.main_arg1) = m ((c.tc : Thread Cert.KernelMdsIdeal.nD Cert.KernelMdsIdeal.τ).loc Cert.KernelMdsIdeal.main_arg1))
      ∧ θ_run (Cert.RefMdsIdeal.defs (F := Ideal)) (onTc (τ := Cert.RefMdsIdeal.τ) (Cert.RefMdsIdeal.main (F := Ideal))) ⟨m', fun _ => 0, g'⟩ (fun r => ∀ c : Dev Cert.RefMdsIdeal.nD,
          r.2.mem ((c.tc : Thread Cert.RefMdsIdeal.nD Cert.RefMdsIdeal.τ).loc Cert.RefMdsIdeal.main_v2) = v0 c
          ∧ r.2.mem ((c.tc : Thread Cert.RefMdsIdeal.nD Cert.RefMdsIdeal.τ).loc Cert.RefMdsIdeal.main_arg0) = m' ((c.tc : Thread Cert.RefMdsIdeal.nD Cert.RefMdsIdeal.τ).loc Cert.RefMdsIdeal.main_arg0)
          ∧ r.2.mem ((c.tc : Thread Cert.RefMdsIdeal.nD Cert.RefMdsIdeal.τ).loc Cert.RefMdsIdeal.main_arg1) = m' ((c.tc : Thread Cert.RefMdsIdeal.nD Cert.RefMdsIdeal.τ).loc Cert.RefMdsIdeal.main_arg1))

def preserves_KernelOut_KernelOutIdeal : Prop :=
  True

def algebraic_KernelOutIdeal_RefOutIdeal [hKernelOutIdeal : Cert.KernelOutIdeal.Facts] [hRefOutIdeal : Cert.RefOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_KernelOutIdeal m →
    (∀ c : Dev Cert.KernelOutIdeal.nD,
      m' ((c.tc : Thread Cert.RefOutIdeal.nD Cert.RefOutIdeal.τ).loc Cert.RefOutIdeal.main_arg0) = m ((c.tc : Thread Cert.KernelOutIdeal.nD Cert.KernelOutIdeal.τ).loc Cert.KernelOutIdeal.main_arg0)
      ∧ m' ((c.tc : Thread Cert.RefOutIdeal.nD Cert.RefOutIdeal.τ).loc Cert.RefOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v1) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1))

def preserves_KernelUpb_KernelUpbIdeal : Prop :=
  True

def algebraic_KernelUpbIdeal_RefUpbIdeal [hKernelUpbIdeal : Cert.KernelUpbIdeal.Facts] [hRefUpbIdeal : Cert.RefUpbIdeal.Facts] : Prop :=
  ∀ (m : (ℓ : Loc Cert.KernelUpbIdeal.nD Cert.KernelUpbIdeal.τ Cert.KernelUpbIdeal.sig) → Buf (Elt Ideal) ℓ) (g : Dev Cert.KernelUpbIdeal.nD → PrngReg)
    (m' : (ℓ : Loc Cert.RefUpbIdeal.nD Cert.RefUpbIdeal.τ Cert.RefUpbIdeal.sig) → Buf (Elt Ideal) ℓ) (g' : Dev Cert.RefUpbIdeal.nD → PrngReg), Pre_KernelUpbIdeal m →
    (∀ c : Dev Cert.KernelUpbIdeal.nD,
      m' ((c.tc : Thread Cert.RefUpbIdeal.nD Cert.RefUpbIdeal.τ).loc Cert.RefUpbIdeal.main_arg0) = m ((c.tc : Thread Cert.KernelUpbIdeal.nD Cert.KernelUpbIdeal.τ).loc Cert.KernelUpbIdeal.main_arg0)
      ∧ m' ((c.tc : Thread Cert.RefUpbIdeal.nD Cert.RefUpbIdeal.τ).loc Cert.RefUpbIdeal.main_arg1) = m ((c.tc : Thread Cert.KernelUpbIdeal.nD Cert.KernelUpbIdeal.τ).loc Cert.KernelUpbIdeal.main_arg1)) →
    ∃ (v0 : (c : Dev Cert.KernelUpbIdeal.nD) → Buf (Elt Ideal) ((c.tc : Thread Cert.KernelUpbIdeal.nD Cert.KernelUpbIdeal.τ).loc Cert.KernelUpbIdeal.main_v2)),
      θ_run (Cert.KernelUpbIdeal.defs (F := Ideal)) (onTc (τ := Cert.KernelUpbIdeal.τ) (Cert.KernelUpbIdeal.main (F := Ideal))) ⟨m, fun _ => 0, g⟩ (fun r => ∀ c : Dev Cert.KernelUpbIdeal.nD,
          r.2.mem ((c.tc : Thread Cert.KernelUpbIdeal.nD Cert.KernelUpbIdeal.τ).loc Cert.KernelUpbIdeal.main_v2) = v0 c
          ∧ r.2.mem ((c.tc : Thread Cert.KernelUpbIdeal.nD Cert.KernelUpbIdeal.τ).loc Cert.KernelUpbIdeal.main_arg0) = m ((c.tc : Thread Cert.KernelUpbIdeal.nD Cert.KernelUpbIdeal.τ).loc Cert.KernelUpbIdeal.main_arg0)
          ∧ r.2.mem ((c.tc : Thread Cert.KernelUpbIdeal.nD Cert.KernelUpbIdeal.τ).loc Cert.KernelUpbIdeal.main_arg1) = m ((c.tc : Thread Cert.KernelUpbIdeal.nD Cert.KernelUpbIdeal.τ).loc Cert.KernelUpbIdeal.main_arg1))
      ∧ θ_run (Cert.RefUpbIdeal.defs (F := Ideal)) (onTc (τ := Cert.RefUpbIdeal.τ) (Cert.RefUpbIdeal.main (F := Ideal))) ⟨m', fun _ => 0, g'⟩ (fun r => ∀ c : Dev Cert.RefUpbIdeal.nD,
          r.2.mem ((c.tc : Thread Cert.RefUpbIdeal.nD Cert.RefUpbIdeal.τ).loc Cert.RefUpbIdeal.main_v3) = v0 c
          ∧ r.2.mem ((c.tc : Thread Cert.RefUpbIdeal.nD Cert.RefUpbIdeal.τ).loc Cert.RefUpbIdeal.main_arg0) = m' ((c.tc : Thread Cert.RefUpbIdeal.nD Cert.RefUpbIdeal.τ).loc Cert.RefUpbIdeal.main_arg0)
          ∧ r.2.mem ((c.tc : Thread Cert.RefUpbIdeal.nD Cert.RefUpbIdeal.τ).loc Cert.RefUpbIdeal.main_arg1) = m' ((c.tc : Thread Cert.RefUpbIdeal.nD Cert.RefUpbIdeal.τ).loc Cert.RefUpbIdeal.main_arg1))

def preserves_KernelWtp_KernelWtpIdeal : Prop :=
  True

def algebraic_KernelWtpIdeal_RefWtpIdeal [hKernelWtpIdeal : Cert.KernelWtpIdeal.Facts] [hRefWtpIdeal : Cert.RefWtpIdeal.Facts] : Prop :=
  ∀ (m : (ℓ : Loc Cert.KernelWtpIdeal.nD Cert.KernelWtpIdeal.τ Cert.KernelWtpIdeal.sig) → Buf (Elt Ideal) ℓ) (g : Dev Cert.KernelWtpIdeal.nD → PrngReg)
    (m' : (ℓ : Loc Cert.RefWtpIdeal.nD Cert.RefWtpIdeal.τ Cert.RefWtpIdeal.sig) → Buf (Elt Ideal) ℓ) (g' : Dev Cert.RefWtpIdeal.nD → PrngReg), Pre_KernelWtpIdeal m →
    (∀ c : Dev Cert.KernelWtpIdeal.nD,
      m' ((c.tc : Thread Cert.RefWtpIdeal.nD Cert.RefWtpIdeal.τ).loc Cert.RefWtpIdeal.main_arg0) = m ((c.tc : Thread Cert.KernelWtpIdeal.nD Cert.KernelWtpIdeal.τ).loc Cert.KernelWtpIdeal.main_arg0)
      ∧ m' ((c.tc : Thread Cert.RefWtpIdeal.nD Cert.RefWtpIdeal.τ).loc Cert.RefWtpIdeal.main_arg1) = m ((c.tc : Thread Cert.KernelWtpIdeal.nD Cert.KernelWtpIdeal.τ).loc Cert.KernelWtpIdeal.main_arg1)) →
    ∃ (v0 : (c : Dev Cert.KernelWtpIdeal.nD) → Buf (Elt Ideal) ((c.tc : Thread Cert.KernelWtpIdeal.nD Cert.KernelWtpIdeal.τ).loc Cert.KernelWtpIdeal.main_v0)),
      θ_run (Cert.KernelWtpIdeal.defs (F := Ideal)) (onTc (τ := Cert.KernelWtpIdeal.τ) (Cert.KernelWtpIdeal.main (F := Ideal))) ⟨m, fun _ => 0, g⟩ (fun r => ∀ c : Dev Cert.KernelWtpIdeal.nD,
          r.2.mem ((c.tc : Thread Cert.KernelWtpIdeal.nD Cert.KernelWtpIdeal.τ).loc Cert.KernelWtpIdeal.main_v0) = v0 c
          ∧ r.2.mem ((c.tc : Thread Cert.KernelWtpIdeal.nD Cert.KernelWtpIdeal.τ).loc Cert.KernelWtpIdeal.main_arg0) = m ((c.tc : Thread Cert.KernelWtpIdeal.nD Cert.KernelWtpIdeal.τ).loc Cert.KernelWtpIdeal.main_arg0)
          ∧ r.2.mem ((c.tc : Thread Cert.KernelWtpIdeal.nD Cert.KernelWtpIdeal.τ).loc Cert.KernelWtpIdeal.main_arg1) = m ((c.tc : Thread Cert.KernelWtpIdeal.nD Cert.KernelWtpIdeal.τ).loc Cert.KernelWtpIdeal.main_arg1))
      ∧ θ_run (Cert.RefWtpIdeal.defs (F := Ideal)) (onTc (τ := Cert.RefWtpIdeal.τ) (Cert.RefWtpIdeal.main (F := Ideal))) ⟨m', fun _ => 0, g'⟩ (fun r => ∀ c : Dev Cert.RefWtpIdeal.nD,
          r.2.mem ((c.tc : Thread Cert.RefWtpIdeal.nD Cert.RefWtpIdeal.τ).loc Cert.RefWtpIdeal.main_v7) = v0 c
          ∧ r.2.mem ((c.tc : Thread Cert.RefWtpIdeal.nD Cert.RefWtpIdeal.τ).loc Cert.RefWtpIdeal.main_arg0) = m' ((c.tc : Thread Cert.RefWtpIdeal.nD Cert.RefWtpIdeal.τ).loc Cert.RefWtpIdeal.main_arg0)
          ∧ r.2.mem ((c.tc : Thread Cert.RefWtpIdeal.nD Cert.RefWtpIdeal.τ).loc Cert.RefWtpIdeal.main_arg1) = m' ((c.tc : Thread Cert.RefWtpIdeal.nD Cert.RefWtpIdeal.τ).loc Cert.RefWtpIdeal.main_arg1))

def preserves_KernelAdw_KernelAdwIdeal : Prop :=
  True

def algebraic_KernelAdwIdeal_RefAdwIdeal [hKernelAdwIdeal : Cert.KernelAdwIdeal.Facts] [hRefAdwIdeal : Cert.RefAdwIdeal.Facts] : Prop :=
  ∀ (m : (ℓ : Loc Cert.KernelAdwIdeal.nD Cert.KernelAdwIdeal.τ Cert.KernelAdwIdeal.sig) → Buf (Elt Ideal) ℓ) (g : Dev Cert.KernelAdwIdeal.nD → PrngReg)
    (m' : (ℓ : Loc Cert.RefAdwIdeal.nD Cert.RefAdwIdeal.τ Cert.RefAdwIdeal.sig) → Buf (Elt Ideal) ℓ) (g' : Dev Cert.RefAdwIdeal.nD → PrngReg), Pre_KernelAdwIdeal m →
    (∀ c : Dev Cert.KernelAdwIdeal.nD,
      m' ((c.tc : Thread Cert.RefAdwIdeal.nD Cert.RefAdwIdeal.τ).loc Cert.RefAdwIdeal.main_arg0) = m ((c.tc : Thread Cert.KernelAdwIdeal.nD Cert.KernelAdwIdeal.τ).loc Cert.KernelAdwIdeal.main_arg0)
      ∧ m' ((c.tc : Thread Cert.RefAdwIdeal.nD Cert.RefAdwIdeal.τ).loc Cert.RefAdwIdeal.main_arg1) = m ((c.tc : Thread Cert.KernelAdwIdeal.nD Cert.KernelAdwIdeal.τ).loc Cert.KernelAdwIdeal.main_arg1)
      ∧ m' ((c.tc : Thread Cert.RefAdwIdeal.nD Cert.RefAdwIdeal.τ).loc Cert.RefAdwIdeal.main_arg2) = m ((c.tc : Thread Cert.KernelAdwIdeal.nD Cert.KernelAdwIdeal.τ).loc Cert.KernelAdwIdeal.main_arg2)
      ∧ m' ((c.tc : Thread Cert.RefAdwIdeal.nD Cert.RefAdwIdeal.τ).loc Cert.RefAdwIdeal.main_arg3) = m ((c.tc : Thread Cert.KernelAdwIdeal.nD Cert.KernelAdwIdeal.τ).loc Cert.KernelAdwIdeal.main_arg3)) →
    ∃ (v0 : (c : Dev Cert.KernelAdwIdeal.nD) → Buf (Elt Ideal) ((c.tc : Thread Cert.KernelAdwIdeal.nD Cert.KernelAdwIdeal.τ).loc Cert.KernelAdwIdeal.main_v5_0)) (v1 : (c : Dev Cert.KernelAdwIdeal.nD) → Buf (Elt Ideal) ((c.tc : Thread Cert.KernelAdwIdeal.nD Cert.KernelAdwIdeal.τ).loc Cert.KernelAdwIdeal.main_v5_1)) (v2 : (c : Dev Cert.KernelAdwIdeal.nD) → Buf (Elt Ideal) ((c.tc : Thread Cert.KernelAdwIdeal.nD Cert.KernelAdwIdeal.τ).loc Cert.KernelAdwIdeal.main_v5_2)) (v3 : (c : Dev Cert.KernelAdwIdeal.nD) → Buf (Elt Ideal) ((c.tc : Thread Cert.KernelAdwIdeal.nD Cert.KernelAdwIdeal.τ).loc Cert.KernelAdwIdeal.main_v5_3)),
      θ_run (Cert.KernelAdwIdeal.defs (F := Ideal)) (onTc (τ := Cert.KernelAdwIdeal.τ) (Cert.KernelAdwIdeal.main (F := Ideal))) ⟨m, fun _ => 0, g⟩ (fun r => ∀ c : Dev Cert.KernelAdwIdeal.nD,
          r.2.mem ((c.tc : Thread Cert.KernelAdwIdeal.nD Cert.KernelAdwIdeal.τ).loc Cert.KernelAdwIdeal.main_v5_0) = v0 c
          ∧ r.2.mem ((c.tc : Thread Cert.KernelAdwIdeal.nD Cert.KernelAdwIdeal.τ).loc Cert.KernelAdwIdeal.main_v5_1) = v1 c
          ∧ r.2.mem ((c.tc : Thread Cert.KernelAdwIdeal.nD Cert.KernelAdwIdeal.τ).loc Cert.KernelAdwIdeal.main_v5_2) = v2 c
          ∧ r.2.mem ((c.tc : Thread Cert.KernelAdwIdeal.nD Cert.KernelAdwIdeal.τ).loc Cert.KernelAdwIdeal.main_v5_3) = v3 c
          ∧ r.2.mem ((c.tc : Thread Cert.KernelAdwIdeal.nD Cert.KernelAdwIdeal.τ).loc Cert.KernelAdwIdeal.main_arg0) = m ((c.tc : Thread Cert.KernelAdwIdeal.nD Cert.KernelAdwIdeal.τ).loc Cert.KernelAdwIdeal.main_arg0)
          ∧ r.2.mem ((c.tc : Thread Cert.KernelAdwIdeal.nD Cert.KernelAdwIdeal.τ).loc Cert.KernelAdwIdeal.main_arg1) = m ((c.tc : Thread Cert.KernelAdwIdeal.nD Cert.KernelAdwIdeal.τ).loc Cert.KernelAdwIdeal.main_arg1)
          ∧ r.2.mem ((c.tc : Thread Cert.KernelAdwIdeal.nD Cert.KernelAdwIdeal.τ).loc Cert.KernelAdwIdeal.main_arg2) = m ((c.tc : Thread Cert.KernelAdwIdeal.nD Cert.KernelAdwIdeal.τ).loc Cert.KernelAdwIdeal.main_arg2)
          ∧ r.2.mem ((c.tc : Thread Cert.KernelAdwIdeal.nD Cert.KernelAdwIdeal.τ).loc Cert.KernelAdwIdeal.main_arg3) = m ((c.tc : Thread Cert.KernelAdwIdeal.nD Cert.KernelAdwIdeal.τ).loc Cert.KernelAdwIdeal.main_arg3))
      ∧ θ_run (Cert.RefAdwIdeal.defs (F := Ideal)) (onTc (τ := Cert.RefAdwIdeal.τ) (Cert.RefAdwIdeal.main (F := Ideal))) ⟨m', fun _ => 0, g'⟩ (fun r => ∀ c : Dev Cert.RefAdwIdeal.nD,
          r.2.mem ((c.tc : Thread Cert.RefAdwIdeal.nD Cert.RefAdwIdeal.τ).loc Cert.RefAdwIdeal.main_v24) = v0 c
          ∧ r.2.mem ((c.tc : Thread Cert.RefAdwIdeal.nD Cert.RefAdwIdeal.τ).loc Cert.RefAdwIdeal.main_v25) = v1 c
          ∧ r.2.mem ((c.tc : Thread Cert.RefAdwIdeal.nD Cert.RefAdwIdeal.τ).loc Cert.RefAdwIdeal.main_v26) = v2 c
          ∧ r.2.mem ((c.tc : Thread Cert.RefAdwIdeal.nD Cert.RefAdwIdeal.τ).loc Cert.RefAdwIdeal.main_v27) = v3 c
          ∧ r.2.mem ((c.tc : Thread Cert.RefAdwIdeal.nD Cert.RefAdwIdeal.τ).loc Cert.RefAdwIdeal.main_arg0) = m' ((c.tc : Thread Cert.RefAdwIdeal.nD Cert.RefAdwIdeal.τ).loc Cert.RefAdwIdeal.main_arg0)
          ∧ r.2.mem ((c.tc : Thread Cert.RefAdwIdeal.nD Cert.RefAdwIdeal.τ).loc Cert.RefAdwIdeal.main_arg1) = m' ((c.tc : Thread Cert.RefAdwIdeal.nD Cert.RefAdwIdeal.τ).loc Cert.RefAdwIdeal.main_arg1)
          ∧ r.2.mem ((c.tc : Thread Cert.RefAdwIdeal.nD Cert.RefAdwIdeal.τ).loc Cert.RefAdwIdeal.main_arg2) = m' ((c.tc : Thread Cert.RefAdwIdeal.nD Cert.RefAdwIdeal.τ).loc Cert.RefAdwIdeal.main_arg2)
          ∧ r.2.mem ((c.tc : Thread Cert.RefAdwIdeal.nD Cert.RefAdwIdeal.τ).loc Cert.RefAdwIdeal.main_arg3) = m' ((c.tc : Thread Cert.RefAdwIdeal.nD Cert.RefAdwIdeal.τ).loc Cert.RefAdwIdeal.main_arg3))

def preserves_KernelSum_KernelSumIdeal : Prop :=
  True

def algebraic_KernelSumIdeal_RefSumIdeal [hKernelSumIdeal : Cert.KernelSumIdeal.Facts] [hRefSumIdeal : Cert.RefSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg)
    (m' : (ℓ : Loc Cert.RefSumIdeal.nD Cert.RefSumIdeal.τ Cert.RefSumIdeal.sig) → Buf (Elt Ideal) ℓ) (g' : Dev Cert.RefSumIdeal.nD → PrngReg), Pre_KernelSumIdeal m →
    (∀ c : Dev Cert.KernelSumIdeal.nD,
      m' ((c.tc : Thread Cert.RefSumIdeal.nD Cert.RefSumIdeal.τ).loc Cert.RefSumIdeal.main_arg0) = m ((c.tc : Thread Cert.KernelSumIdeal.nD Cert.KernelSumIdeal.τ).loc Cert.KernelSumIdeal.main_arg0)) →
    ∃ (v0 : (c : Dev Cert.KernelSumIdeal.nD) → Buf (Elt Ideal) ((c.tc : Thread Cert.KernelSumIdeal.nD Cert.KernelSumIdeal.τ).loc Cert.KernelSumIdeal.main_v0)),
      θ_run (Cert.KernelSumIdeal.defs (F := Ideal)) (onTc (τ := Cert.KernelSumIdeal.τ) (Cert.KernelSumIdeal.main (F := Ideal))) ⟨m, fun _ => 0, g⟩ (fun r => ∀ c : Dev Cert.KernelSumIdeal.nD,
          r.2.mem ((c.tc : Thread Cert.KernelSumIdeal.nD Cert.KernelSumIdeal.τ).loc Cert.KernelSumIdeal.main_v0) = v0 c
          ∧ r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0))
      ∧ θ_run (Cert.RefSumIdeal.defs (F := Ideal)) (onTc (τ := Cert.RefSumIdeal.τ) (Cert.RefSumIdeal.main (F := Ideal))) ⟨m', fun _ => 0, g'⟩ (fun r => ∀ c : Dev Cert.RefSumIdeal.nD,
          r.2.mem ((c.tc : Thread Cert.RefSumIdeal.nD Cert.RefSumIdeal.τ).loc Cert.RefSumIdeal.main_v0) = v0 c
          ∧ r.2.mem ((c.tc : Thread Cert.RefSumIdeal.nD Cert.RefSumIdeal.τ).loc Cert.RefSumIdeal.main_arg0) = m' ((c.tc : Thread Cert.RefSumIdeal.nD Cert.RefSumIdeal.τ).loc Cert.RefSumIdeal.main_arg0))

def preserves_KernelAdl_KernelAdlIdeal : Prop :=
  True

def algebraic_KernelAdlIdeal_RefAdlIdeal [hKernelAdlIdeal : Cert.KernelAdlIdeal.Facts] [hRefAdlIdeal : Cert.RefAdlIdeal.Facts] : Prop :=
  ∀ (m : (ℓ : Loc Cert.KernelAdlIdeal.nD Cert.KernelAdlIdeal.τ Cert.KernelAdlIdeal.sig) → Buf (Elt Ideal) ℓ) (g : Dev Cert.KernelAdlIdeal.nD → PrngReg)
    (m' : (ℓ : Loc Cert.RefAdlIdeal.nD Cert.RefAdlIdeal.τ Cert.RefAdlIdeal.sig) → Buf (Elt Ideal) ℓ) (g' : Dev Cert.RefAdlIdeal.nD → PrngReg), Pre_KernelAdlIdeal m →
    (∀ c : Dev Cert.KernelAdlIdeal.nD,
      m' ((c.tc : Thread Cert.RefAdlIdeal.nD Cert.RefAdlIdeal.τ).loc Cert.RefAdlIdeal.main_arg0) = m ((c.tc : Thread Cert.KernelAdlIdeal.nD Cert.KernelAdlIdeal.τ).loc Cert.KernelAdlIdeal.main_arg0)
      ∧ m' ((c.tc : Thread Cert.RefAdlIdeal.nD Cert.RefAdlIdeal.τ).loc Cert.RefAdlIdeal.main_arg1) = m ((c.tc : Thread Cert.KernelAdlIdeal.nD Cert.KernelAdlIdeal.τ).loc Cert.KernelAdlIdeal.main_arg1)
      ∧ m' ((c.tc : Thread Cert.RefAdlIdeal.nD Cert.RefAdlIdeal.τ).loc Cert.RefAdlIdeal.main_arg2) = m ((c.tc : Thread Cert.KernelAdlIdeal.nD Cert.KernelAdlIdeal.τ).loc Cert.KernelAdlIdeal.main_arg2)
      ∧ m' ((c.tc : Thread Cert.RefAdlIdeal.nD Cert.RefAdlIdeal.τ).loc Cert.RefAdlIdeal.main_arg3) = m ((c.tc : Thread Cert.KernelAdlIdeal.nD Cert.KernelAdlIdeal.τ).loc Cert.KernelAdlIdeal.main_arg3)
      ∧ m' ((c.tc : Thread Cert.RefAdlIdeal.nD Cert.RefAdlIdeal.τ).loc Cert.RefAdlIdeal.main_arg4) = m ((c.tc : Thread Cert.KernelAdlIdeal.nD Cert.KernelAdlIdeal.τ).loc Cert.KernelAdlIdeal.main_arg4)
      ∧ m' ((c.tc : Thread Cert.RefAdlIdeal.nD Cert.RefAdlIdeal.τ).loc Cert.RefAdlIdeal.main_arg5) = m ((c.tc : Thread Cert.KernelAdlIdeal.nD Cert.KernelAdlIdeal.τ).loc Cert.KernelAdlIdeal.main_arg5)
      ∧ m' ((c.tc : Thread Cert.RefAdlIdeal.nD Cert.RefAdlIdeal.τ).loc Cert.RefAdlIdeal.main_arg6) = m ((c.tc : Thread Cert.KernelAdlIdeal.nD Cert.KernelAdlIdeal.τ).loc Cert.KernelAdlIdeal.main_arg6)
      ∧ m' ((c.tc : Thread Cert.RefAdlIdeal.nD Cert.RefAdlIdeal.τ).loc Cert.RefAdlIdeal.main_arg7) = m ((c.tc : Thread Cert.KernelAdlIdeal.nD Cert.KernelAdlIdeal.τ).loc Cert.KernelAdlIdeal.main_arg7)) →
    ∃ (v0 : (c : Dev Cert.KernelAdlIdeal.nD) → Buf (Elt Ideal) ((c.tc : Thread Cert.KernelAdlIdeal.nD Cert.KernelAdlIdeal.τ).loc Cert.KernelAdlIdeal.main_v0_0)) (v1 : (c : Dev Cert.KernelAdlIdeal.nD) → Buf (Elt Ideal) ((c.tc : Thread Cert.KernelAdlIdeal.nD Cert.KernelAdlIdeal.τ).loc Cert.KernelAdlIdeal.main_v0_1)) (v2 : (c : Dev Cert.KernelAdlIdeal.nD) → Buf (Elt Ideal) ((c.tc : Thread Cert.KernelAdlIdeal.nD Cert.KernelAdlIdeal.τ).loc Cert.KernelAdlIdeal.main_v0_2)) (v3 : (c : Dev Cert.KernelAdlIdeal.nD) → Buf (Elt Ideal) ((c.tc : Thread Cert.KernelAdlIdeal.nD Cert.KernelAdlIdeal.τ).loc Cert.KernelAdlIdeal.main_v0_3)),
      θ_run (Cert.KernelAdlIdeal.defs (F := Ideal)) (onTc (τ := Cert.KernelAdlIdeal.τ) (Cert.KernelAdlIdeal.main (F := Ideal))) ⟨m, fun _ => 0, g⟩ (fun r => ∀ c : Dev Cert.KernelAdlIdeal.nD,
          r.2.mem ((c.tc : Thread Cert.KernelAdlIdeal.nD Cert.KernelAdlIdeal.τ).loc Cert.KernelAdlIdeal.main_v0_0) = v0 c
          ∧ r.2.mem ((c.tc : Thread Cert.KernelAdlIdeal.nD Cert.KernelAdlIdeal.τ).loc Cert.KernelAdlIdeal.main_v0_1) = v1 c
          ∧ r.2.mem ((c.tc : Thread Cert.KernelAdlIdeal.nD Cert.KernelAdlIdeal.τ).loc Cert.KernelAdlIdeal.main_v0_2) = v2 c
          ∧ r.2.mem ((c.tc : Thread Cert.KernelAdlIdeal.nD Cert.KernelAdlIdeal.τ).loc Cert.KernelAdlIdeal.main_v0_3) = v3 c
          ∧ r.2.mem ((c.tc : Thread Cert.KernelAdlIdeal.nD Cert.KernelAdlIdeal.τ).loc Cert.KernelAdlIdeal.main_arg0) = m ((c.tc : Thread Cert.KernelAdlIdeal.nD Cert.KernelAdlIdeal.τ).loc Cert.KernelAdlIdeal.main_arg0)
          ∧ r.2.mem ((c.tc : Thread Cert.KernelAdlIdeal.nD Cert.KernelAdlIdeal.τ).loc Cert.KernelAdlIdeal.main_arg1) = m ((c.tc : Thread Cert.KernelAdlIdeal.nD Cert.KernelAdlIdeal.τ).loc Cert.KernelAdlIdeal.main_arg1)
          ∧ r.2.mem ((c.tc : Thread Cert.KernelAdlIdeal.nD Cert.KernelAdlIdeal.τ).loc Cert.KernelAdlIdeal.main_arg2) = m ((c.tc : Thread Cert.KernelAdlIdeal.nD Cert.KernelAdlIdeal.τ).loc Cert.KernelAdlIdeal.main_arg2)
          ∧ r.2.mem ((c.tc : Thread Cert.KernelAdlIdeal.nD Cert.KernelAdlIdeal.τ).loc Cert.KernelAdlIdeal.main_arg3) = m ((c.tc : Thread Cert.KernelAdlIdeal.nD Cert.KernelAdlIdeal.τ).loc Cert.KernelAdlIdeal.main_arg3)
          ∧ r.2.mem ((c.tc : Thread Cert.KernelAdlIdeal.nD Cert.KernelAdlIdeal.τ).loc Cert.KernelAdlIdeal.main_arg4) = m ((c.tc : Thread Cert.KernelAdlIdeal.nD Cert.KernelAdlIdeal.τ).loc Cert.KernelAdlIdeal.main_arg4)
          ∧ r.2.mem ((c.tc : Thread Cert.KernelAdlIdeal.nD Cert.KernelAdlIdeal.τ).loc Cert.KernelAdlIdeal.main_arg5) = m ((c.tc : Thread Cert.KernelAdlIdeal.nD Cert.KernelAdlIdeal.τ).loc Cert.KernelAdlIdeal.main_arg5)
          ∧ r.2.mem ((c.tc : Thread Cert.KernelAdlIdeal.nD Cert.KernelAdlIdeal.τ).loc Cert.KernelAdlIdeal.main_arg6) = m ((c.tc : Thread Cert.KernelAdlIdeal.nD Cert.KernelAdlIdeal.τ).loc Cert.KernelAdlIdeal.main_arg6)
          ∧ r.2.mem ((c.tc : Thread Cert.KernelAdlIdeal.nD Cert.KernelAdlIdeal.τ).loc Cert.KernelAdlIdeal.main_arg7) = m ((c.tc : Thread Cert.KernelAdlIdeal.nD Cert.KernelAdlIdeal.τ).loc Cert.KernelAdlIdeal.main_arg7))
      ∧ θ_run (Cert.RefAdlIdeal.defs (F := Ideal)) (onTc (τ := Cert.RefAdlIdeal.τ) (Cert.RefAdlIdeal.main (F := Ideal))) ⟨m', fun _ => 0, g'⟩ (fun r => ∀ c : Dev Cert.RefAdlIdeal.nD,
          r.2.mem ((c.tc : Thread Cert.RefAdlIdeal.nD Cert.RefAdlIdeal.τ).loc Cert.RefAdlIdeal.main_v37) = v0 c
          ∧ r.2.mem ((c.tc : Thread Cert.RefAdlIdeal.nD Cert.RefAdlIdeal.τ).loc Cert.RefAdlIdeal.main_v42) = v1 c
          ∧ r.2.mem ((c.tc : Thread Cert.RefAdlIdeal.nD Cert.RefAdlIdeal.τ).loc Cert.RefAdlIdeal.main_v47) = v2 c
          ∧ r.2.mem ((c.tc : Thread Cert.RefAdlIdeal.nD Cert.RefAdlIdeal.τ).loc Cert.RefAdlIdeal.main_v52) = v3 c
          ∧ r.2.mem ((c.tc : Thread Cert.RefAdlIdeal.nD Cert.RefAdlIdeal.τ).loc Cert.RefAdlIdeal.main_arg0) = m' ((c.tc : Thread Cert.RefAdlIdeal.nD Cert.RefAdlIdeal.τ).loc Cert.RefAdlIdeal.main_arg0)
          ∧ r.2.mem ((c.tc : Thread Cert.RefAdlIdeal.nD Cert.RefAdlIdeal.τ).loc Cert.RefAdlIdeal.main_arg1) = m' ((c.tc : Thread Cert.RefAdlIdeal.nD Cert.RefAdlIdeal.τ).loc Cert.RefAdlIdeal.main_arg1)
          ∧ r.2.mem ((c.tc : Thread Cert.RefAdlIdeal.nD Cert.RefAdlIdeal.τ).loc Cert.RefAdlIdeal.main_arg2) = m' ((c.tc : Thread Cert.RefAdlIdeal.nD Cert.RefAdlIdeal.τ).loc Cert.RefAdlIdeal.main_arg2)
          ∧ r.2.mem ((c.tc : Thread Cert.RefAdlIdeal.nD Cert.RefAdlIdeal.τ).loc Cert.RefAdlIdeal.main_arg3) = m' ((c.tc : Thread Cert.RefAdlIdeal.nD Cert.RefAdlIdeal.τ).loc Cert.RefAdlIdeal.main_arg3)
          ∧ r.2.mem ((c.tc : Thread Cert.RefAdlIdeal.nD Cert.RefAdlIdeal.τ).loc Cert.RefAdlIdeal.main_arg4) = m' ((c.tc : Thread Cert.RefAdlIdeal.nD Cert.RefAdlIdeal.τ).loc Cert.RefAdlIdeal.main_arg4)
          ∧ r.2.mem ((c.tc : Thread Cert.RefAdlIdeal.nD Cert.RefAdlIdeal.τ).loc Cert.RefAdlIdeal.main_arg5) = m' ((c.tc : Thread Cert.RefAdlIdeal.nD Cert.RefAdlIdeal.τ).loc Cert.RefAdlIdeal.main_arg5)
          ∧ r.2.mem ((c.tc : Thread Cert.RefAdlIdeal.nD Cert.RefAdlIdeal.τ).loc Cert.RefAdlIdeal.main_arg6) = m' ((c.tc : Thread Cert.RefAdlIdeal.nD Cert.RefAdlIdeal.τ).loc Cert.RefAdlIdeal.main_arg6)
          ∧ r.2.mem ((c.tc : Thread Cert.RefAdlIdeal.nD Cert.RefAdlIdeal.τ).loc Cert.RefAdlIdeal.main_arg7) = m' ((c.tc : Thread Cert.RefAdlIdeal.nD Cert.RefAdlIdeal.τ).loc Cert.RefAdlIdeal.main_arg7))

def Claim : Prop :=
  ∃ (hKernelFirst : Cert.KernelFirst.Facts) (hKernelFirstIdeal : Cert.KernelFirstIdeal.Facts) (hRefFirstIdeal : Cert.RefFirstIdeal.Facts) (hKernelAtt : Cert.KernelAtt.Facts) (hKernelAttIdeal : Cert.KernelAttIdeal.Facts) (hRefAttIdeal : Cert.RefAttIdeal.Facts) (hKernelEpi : Cert.KernelEpi.Facts) (hKernelEpiIdeal : Cert.KernelEpiIdeal.Facts) (hRefEpiIdeal : Cert.RefEpiIdeal.Facts) (hKernelAda : Cert.KernelAda.Facts) (hKernelAdaIdeal : Cert.KernelAdaIdeal.Facts) (hRefAdaIdeal : Cert.RefAdaIdeal.Facts) (hKernelRel : Cert.KernelRel.Facts) (hKernelRelIdeal : Cert.KernelRelIdeal.Facts) (hRefRelIdeal : Cert.RefRelIdeal.Facts) (hKernelHead : Cert.KernelHead.Facts) (hKernelHeadIdeal : Cert.KernelHeadIdeal.Facts) (hRefHeadIdeal : Cert.RefHeadIdeal.Facts) (hKernelMid : Cert.KernelMid.Facts) (hKernelMidIdeal : Cert.KernelMidIdeal.Facts) (hRefMidIdeal : Cert.RefMidIdeal.Facts) (hKernelAtf : Cert.KernelAtf.Facts) (hKernelAtfIdeal : Cert.KernelAtfIdeal.Facts) (hRefAtfIdeal : Cert.RefAtfIdeal.Facts) (hKernelLnf : Cert.KernelLnf.Facts) (hKernelLnfIdeal : Cert.KernelLnfIdeal.Facts) (hRefLnfIdeal : Cert.RefLnfIdeal.Facts) (hKernelMod : Cert.KernelMod.Facts) (hKernelModIdeal : Cert.KernelModIdeal.Facts) (hRefModIdeal : Cert.RefModIdeal.Facts) (hKernelFfd : Cert.KernelFfd.Facts) (hKernelFfdIdeal : Cert.KernelFfdIdeal.Facts) (hRefFfdIdeal : Cert.RefFfdIdeal.Facts) (hKernelWgt : Cert.KernelWgt.Facts) (hKernelWgtIdeal : Cert.KernelWgtIdeal.Facts) (hRefWgtIdeal : Cert.RefWgtIdeal.Facts) (hKernelWgm : Cert.KernelWgm.Facts) (hKernelWgmIdeal : Cert.KernelWgmIdeal.Facts) (hRefWgmIdeal : Cert.RefWgmIdeal.Facts) (hKernelTil : Cert.KernelTil.Facts) (hKernelTilIdeal : Cert.KernelTilIdeal.Facts) (hRefTilIdeal : Cert.RefTilIdeal.Facts) (hKernelPrj : Cert.KernelPrj.Facts) (hKernelPrjIdeal : Cert.KernelPrjIdeal.Facts) (hRefPrjIdeal : Cert.RefPrjIdeal.Facts) (hKernelMds : Cert.KernelMds.Facts) (hKernelMdsIdeal : Cert.KernelMdsIdeal.Facts) (hRefMdsIdeal : Cert.RefMdsIdeal.Facts) (hKernelOut : Cert.KernelOut.Facts) (hKernelOutIdeal : Cert.KernelOutIdeal.Facts) (hRefOutIdeal : Cert.RefOutIdeal.Facts) (hKernelUpb : Cert.KernelUpb.Facts) (hKernelUpbIdeal : Cert.KernelUpbIdeal.Facts) (hRefUpbIdeal : Cert.RefUpbIdeal.Facts) (hKernelWtp : Cert.KernelWtp.Facts) (hKernelWtpIdeal : Cert.KernelWtpIdeal.Facts) (hRefWtpIdeal : Cert.RefWtpIdeal.Facts) (hKernelAdw : Cert.KernelAdw.Facts) (hKernelAdwIdeal : Cert.KernelAdwIdeal.Facts) (hRefAdwIdeal : Cert.RefAdwIdeal.Facts) (hKernelSum : Cert.KernelSum.Facts) (hKernelSumIdeal : Cert.KernelSumIdeal.Facts) (hRefSumIdeal : Cert.RefSumIdeal.Facts) (hKernelAdl : Cert.KernelAdl.Facts) (hKernelAdlIdeal : Cert.KernelAdlIdeal.Facts) (hRefAdlIdeal : Cert.RefAdlIdeal.Facts) (hPre_scores_finite : Cert.Pre_scores_finite.Facts) (hPre_head_finite : Cert.Pre_head_finite.Facts) (hPre_mid_finite : Cert.Pre_mid_finite.Facts) (hPre_queries_finite : Cert.Pre_queries_finite.Facts),
    quiescent_KernelFirst (hKernelFirst := hKernelFirst)
    ∧ quiescent_KernelFirstIdeal (hKernelFirstIdeal := hKernelFirstIdeal)
    ∧ quiescent_RefFirstIdeal (hRefFirstIdeal := hRefFirstIdeal)
    ∧ quiescent_KernelAtt (hKernelAtt := hKernelAtt)
    ∧ quiescent_KernelAttIdeal (hKernelAttIdeal := hKernelAttIdeal)
    ∧ quiescent_KernelAttIdeal_pre_scores_finite (hKernelAttIdeal := hKernelAttIdeal) (hPre_scores_finite := hPre_scores_finite)
    ∧ quiescent_RefAttIdeal (hRefAttIdeal := hRefAttIdeal)
    ∧ quiescent_RefAttIdeal_pre_scores_finite (hRefAttIdeal := hRefAttIdeal) (hPre_scores_finite := hPre_scores_finite)
    ∧ quiescent_KernelEpi (hKernelEpi := hKernelEpi)
    ∧ quiescent_KernelEpiIdeal (hKernelEpiIdeal := hKernelEpiIdeal)
    ∧ quiescent_RefEpiIdeal (hRefEpiIdeal := hRefEpiIdeal)
    ∧ quiescent_KernelAda (hKernelAda := hKernelAda)
    ∧ quiescent_KernelAdaIdeal (hKernelAdaIdeal := hKernelAdaIdeal)
    ∧ quiescent_RefAdaIdeal (hRefAdaIdeal := hRefAdaIdeal)
    ∧ quiescent_KernelRel (hKernelRel := hKernelRel)
    ∧ quiescent_KernelRelIdeal (hKernelRelIdeal := hKernelRelIdeal)
    ∧ quiescent_RefRelIdeal (hRefRelIdeal := hRefRelIdeal)
    ∧ quiescent_KernelHead (hKernelHead := hKernelHead)
    ∧ quiescent_KernelHeadIdeal (hKernelHeadIdeal := hKernelHeadIdeal)
    ∧ quiescent_KernelHeadIdeal_pre_head_finite (hKernelHeadIdeal := hKernelHeadIdeal) (hPre_head_finite := hPre_head_finite)
    ∧ quiescent_RefHeadIdeal (hRefHeadIdeal := hRefHeadIdeal)
    ∧ quiescent_RefHeadIdeal_pre_head_finite (hRefHeadIdeal := hRefHeadIdeal) (hPre_head_finite := hPre_head_finite)
    ∧ quiescent_KernelMid (hKernelMid := hKernelMid)
    ∧ quiescent_KernelMidIdeal (hKernelMidIdeal := hKernelMidIdeal)
    ∧ quiescent_KernelMidIdeal_pre_mid_finite (hKernelMidIdeal := hKernelMidIdeal) (hPre_mid_finite := hPre_mid_finite)
    ∧ quiescent_RefMidIdeal (hRefMidIdeal := hRefMidIdeal)
    ∧ quiescent_RefMidIdeal_pre_mid_finite (hRefMidIdeal := hRefMidIdeal) (hPre_mid_finite := hPre_mid_finite)
    ∧ quiescent_KernelAtf (hKernelAtf := hKernelAtf)
    ∧ quiescent_KernelAtfIdeal (hKernelAtfIdeal := hKernelAtfIdeal)
    ∧ quiescent_KernelAtfIdeal_pre_queries_finite (hKernelAtfIdeal := hKernelAtfIdeal) (hPre_queries_finite := hPre_queries_finite)
    ∧ quiescent_RefAtfIdeal (hRefAtfIdeal := hRefAtfIdeal)
    ∧ quiescent_RefAtfIdeal_pre_queries_finite (hRefAtfIdeal := hRefAtfIdeal) (hPre_queries_finite := hPre_queries_finite)
    ∧ quiescent_KernelLnf (hKernelLnf := hKernelLnf)
    ∧ quiescent_KernelLnfIdeal (hKernelLnfIdeal := hKernelLnfIdeal)
    ∧ quiescent_RefLnfIdeal (hRefLnfIdeal := hRefLnfIdeal)
    ∧ quiescent_KernelMod (hKernelMod := hKernelMod)
    ∧ quiescent_KernelModIdeal (hKernelModIdeal := hKernelModIdeal)
    ∧ quiescent_RefModIdeal (hRefModIdeal := hRefModIdeal)
    ∧ quiescent_KernelFfd (hKernelFfd := hKernelFfd)
    ∧ quiescent_KernelFfdIdeal (hKernelFfdIdeal := hKernelFfdIdeal)
    ∧ quiescent_RefFfdIdeal (hRefFfdIdeal := hRefFfdIdeal)
    ∧ quiescent_KernelWgt (hKernelWgt := hKernelWgt)
    ∧ quiescent_KernelWgtIdeal (hKernelWgtIdeal := hKernelWgtIdeal)
    ∧ quiescent_RefWgtIdeal (hRefWgtIdeal := hRefWgtIdeal)
    ∧ quiescent_KernelWgm (hKernelWgm := hKernelWgm)
    ∧ quiescent_KernelWgmIdeal (hKernelWgmIdeal := hKernelWgmIdeal)
    ∧ quiescent_RefWgmIdeal (hRefWgmIdeal := hRefWgmIdeal)
    ∧ quiescent_KernelTil (hKernelTil := hKernelTil)
    ∧ quiescent_KernelTilIdeal (hKernelTilIdeal := hKernelTilIdeal)
    ∧ quiescent_RefTilIdeal (hRefTilIdeal := hRefTilIdeal)
    ∧ quiescent_KernelPrj (hKernelPrj := hKernelPrj)
    ∧ quiescent_KernelPrjIdeal (hKernelPrjIdeal := hKernelPrjIdeal)
    ∧ quiescent_RefPrjIdeal (hRefPrjIdeal := hRefPrjIdeal)
    ∧ quiescent_KernelMds (hKernelMds := hKernelMds)
    ∧ quiescent_KernelMdsIdeal (hKernelMdsIdeal := hKernelMdsIdeal)
    ∧ quiescent_RefMdsIdeal (hRefMdsIdeal := hRefMdsIdeal)
    ∧ quiescent_KernelOut (hKernelOut := hKernelOut)
    ∧ quiescent_KernelOutIdeal (hKernelOutIdeal := hKernelOutIdeal)
    ∧ quiescent_RefOutIdeal (hRefOutIdeal := hRefOutIdeal)
    ∧ quiescent_KernelUpb (hKernelUpb := hKernelUpb)
    ∧ quiescent_KernelUpbIdeal (hKernelUpbIdeal := hKernelUpbIdeal)
    ∧ quiescent_RefUpbIdeal (hRefUpbIdeal := hRefUpbIdeal)
    ∧ quiescent_KernelWtp (hKernelWtp := hKernelWtp)
    ∧ quiescent_KernelWtpIdeal (hKernelWtpIdeal := hKernelWtpIdeal)
    ∧ quiescent_RefWtpIdeal (hRefWtpIdeal := hRefWtpIdeal)
    ∧ quiescent_KernelAdw (hKernelAdw := hKernelAdw)
    ∧ quiescent_KernelAdwIdeal (hKernelAdwIdeal := hKernelAdwIdeal)
    ∧ quiescent_RefAdwIdeal (hRefAdwIdeal := hRefAdwIdeal)
    ∧ quiescent_KernelSum (hKernelSum := hKernelSum)
    ∧ quiescent_KernelSumIdeal (hKernelSumIdeal := hKernelSumIdeal)
    ∧ quiescent_RefSumIdeal (hRefSumIdeal := hRefSumIdeal)
    ∧ quiescent_KernelAdl (hKernelAdl := hKernelAdl)
    ∧ quiescent_KernelAdlIdeal (hKernelAdlIdeal := hKernelAdlIdeal)
    ∧ quiescent_RefAdlIdeal (hRefAdlIdeal := hRefAdlIdeal)
    ∧ preserves_KernelFirst_KernelFirstIdeal
    ∧ algebraic_KernelFirstIdeal_RefFirstIdeal (hKernelFirstIdeal := hKernelFirstIdeal) (hRefFirstIdeal := hRefFirstIdeal)
    ∧ preserves_KernelAtt_KernelAttIdeal
    ∧ algebraic_KernelAttIdeal_RefAttIdeal_pre_scores_finite (hKernelAttIdeal := hKernelAttIdeal) (hRefAttIdeal := hRefAttIdeal) (hPre_scores_finite := hPre_scores_finite)
    ∧ preserves_KernelEpi_KernelEpiIdeal
    ∧ algebraic_KernelEpiIdeal_RefEpiIdeal (hKernelEpiIdeal := hKernelEpiIdeal) (hRefEpiIdeal := hRefEpiIdeal)
    ∧ preserves_KernelAda_KernelAdaIdeal
    ∧ algebraic_KernelAdaIdeal_RefAdaIdeal (hKernelAdaIdeal := hKernelAdaIdeal) (hRefAdaIdeal := hRefAdaIdeal)
    ∧ preserves_KernelRel_KernelRelIdeal
    ∧ algebraic_KernelRelIdeal_RefRelIdeal (hKernelRelIdeal := hKernelRelIdeal) (hRefRelIdeal := hRefRelIdeal)
    ∧ preserves_KernelHead_KernelHeadIdeal
    ∧ algebraic_KernelHeadIdeal_RefHeadIdeal_pre_head_finite (hKernelHeadIdeal := hKernelHeadIdeal) (hRefHeadIdeal := hRefHeadIdeal) (hPre_head_finite := hPre_head_finite)
    ∧ preserves_KernelMid_KernelMidIdeal
    ∧ algebraic_KernelMidIdeal_RefMidIdeal_pre_mid_finite (hKernelMidIdeal := hKernelMidIdeal) (hRefMidIdeal := hRefMidIdeal) (hPre_mid_finite := hPre_mid_finite)
    ∧ preserves_KernelAtf_KernelAtfIdeal
    ∧ algebraic_KernelAtfIdeal_RefAtfIdeal_pre_queries_finite (hKernelAtfIdeal := hKernelAtfIdeal) (hRefAtfIdeal := hRefAtfIdeal) (hPre_queries_finite := hPre_queries_finite)
    ∧ preserves_KernelLnf_KernelLnfIdeal
    ∧ algebraic_KernelLnfIdeal_RefLnfIdeal (hKernelLnfIdeal := hKernelLnfIdeal) (hRefLnfIdeal := hRefLnfIdeal)
    ∧ preserves_KernelMod_KernelModIdeal
    ∧ algebraic_KernelModIdeal_RefModIdeal (hKernelModIdeal := hKernelModIdeal) (hRefModIdeal := hRefModIdeal)
    ∧ preserves_KernelFfd_KernelFfdIdeal
    ∧ algebraic_KernelFfdIdeal_RefFfdIdeal (hKernelFfdIdeal := hKernelFfdIdeal) (hRefFfdIdeal := hRefFfdIdeal)
    ∧ preserves_KernelWgt_KernelWgtIdeal
    ∧ algebraic_KernelWgtIdeal_RefWgtIdeal (hKernelWgtIdeal := hKernelWgtIdeal) (hRefWgtIdeal := hRefWgtIdeal)
    ∧ preserves_KernelWgm_KernelWgmIdeal
    ∧ algebraic_KernelWgmIdeal_RefWgmIdeal (hKernelWgmIdeal := hKernelWgmIdeal) (hRefWgmIdeal := hRefWgmIdeal)
    ∧ preserves_KernelTil_KernelTilIdeal
    ∧ algebraic_KernelTilIdeal_RefTilIdeal (hKernelTilIdeal := hKernelTilIdeal) (hRefTilIdeal := hRefTilIdeal)
    ∧ preserves_KernelPrj_KernelPrjIdeal
    ∧ algebraic_KernelPrjIdeal_RefPrjIdeal (hKernelPrjIdeal := hKernelPrjIdeal) (hRefPrjIdeal := hRefPrjIdeal)
    ∧ preserves_KernelMds_KernelMdsIdeal
    ∧ algebraic_KernelMdsIdeal_RefMdsIdeal (hKernelMdsIdeal := hKernelMdsIdeal) (hRefMdsIdeal := hRefMdsIdeal)
    ∧ preserves_KernelOut_KernelOutIdeal
    ∧ algebraic_KernelOutIdeal_RefOutIdeal (hKernelOutIdeal := hKernelOutIdeal) (hRefOutIdeal := hRefOutIdeal)
    ∧ preserves_KernelUpb_KernelUpbIdeal
    ∧ algebraic_KernelUpbIdeal_RefUpbIdeal (hKernelUpbIdeal := hKernelUpbIdeal) (hRefUpbIdeal := hRefUpbIdeal)
    ∧ preserves_KernelWtp_KernelWtpIdeal
    ∧ algebraic_KernelWtpIdeal_RefWtpIdeal (hKernelWtpIdeal := hKernelWtpIdeal) (hRefWtpIdeal := hRefWtpIdeal)
    ∧ preserves_KernelAdw_KernelAdwIdeal
    ∧ algebraic_KernelAdwIdeal_RefAdwIdeal (hKernelAdwIdeal := hKernelAdwIdeal) (hRefAdwIdeal := hRefAdwIdeal)
    ∧ preserves_KernelSum_KernelSumIdeal
    ∧ algebraic_KernelSumIdeal_RefSumIdeal (hKernelSumIdeal := hKernelSumIdeal) (hRefSumIdeal := hRefSumIdeal)
    ∧ preserves_KernelAdl_KernelAdlIdeal
    ∧ algebraic_KernelAdlIdeal_RefAdlIdeal (hKernelAdlIdeal := hKernelAdlIdeal) (hRefAdlIdeal := hRefAdlIdeal)
-- ==== Pre_head_finite.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x1024 .f32) (main_arg2 : FVec F S1x1024 .f32) (main_arg3 : FVec F S1024 .f32) (main_arg4 : FVec F S1024 .f32) (main_arg5 : FVec F S8192x1024 .f32) : IVec S8192x1024 1 × IVec S8192x1024 1 × IVec S1x1024 1 × IVec S1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_mid_finite.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024 : S_.BroadcastsInDim S1024 (![] : Fin 0 → Fin S1024.rank)

variable [Facts]

def fn_part1 {F : FTy → Type} [FloatOps F] (main_arg7 : FVec F S8192x1024 .f32) (main_v2 : IVec S8192x1024 1) (main_v5 : IVec S8192x1024 1) (main_v8 : IVec S1x1024 1) (main_v11 : IVec S1024 1) (main_v14 : IVec S1x1024 1) (main_v17 : IVec S8192x1024 1) : IVec S8192x1024 1 × IVec S8192x1024 1 × IVec S1x1024 1 × IVec S1024 1 × IVec S1x1024 1 × IVec S8192x1024 1 × IVec S8192x1024 1 :=
  let main_v18 : FVec F S8192x1024 .f32 := Host.absf main_arg7
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x1024 .f32) (main_arg1 : FVec F S8192x1024 .f32) (main_arg2 : FVec F S1x1024 .f32) (main_arg3 : FVec F S1024 .f32) (main_arg4 : FVec F S1024 .f32) (main_arg5 : FVec F S1x1024 .f32) (main_arg6 : FVec F S8192x1024 .f32) (main_arg7 : FVec F S8192x1024 .f32) : IVec S8192x1024 1 × IVec S8192x1024 1 × IVec S1x1024 1 × IVec S1024 1 × IVec S1x1024 1 × IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1x1024 .f32 := Host.absf main_arg5
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S8192x1024 .f32 := Host.absf main_arg6
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  fn_part1 (F := F) main_arg7 main_v2 main_v5 main_v8 main_v11 main_v14 main_v17
-- ==== Pre_queries_finite.lean ====
abbrev S8192x3072 : Shape := ⟨2, ![8192, 3072]⟩
abbrev S16x257 : Shape := ⟨2, ![16, 257]⟩
abbrev S8192x2048 : Shape := ⟨2, ![8192, 2048]⟩
abbrev S_ : Shape := ⟨0, ![]⟩

class Facts : Prop where
  slices_S8192x3072_S8192x2048_0_0 : S8192x3072.Slices ![0, 0] S8192x2048
  bitsLt_bf16_f32 : FTy.bits .bf16 < FTy.bits .f32
  bcast_S_S8192x2048 : S_.BroadcastsInDim S8192x2048 (![] : Fin 0 → Fin S8192x2048.rank)
  bcast_S_S16x257 : S_.BroadcastsInDim S16x257 (![] : Fin 0 → Fin S16x257.rank)

variable [Facts]

def fn {F : FTy → Type} [FloatOps F] (main_arg0 : FVec F S8192x3072 .bf16) (main_arg1 : FVec F S16x257 .f32) : IVec S8192x2048 1 × IVec S16x257 1 :=
  let main_v0 : FVec F S8192x2048 .bf16 := (extractStridedSlice S8192x2048 ![0, 0] · slices_S8192x3072_S8192x2048_0_0) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_v5 : FVec F S16x257 .f32 := Host.absf main_arg1
  let main_cst_0 : FVec F S_ .f32 := constant S_ .f32 0x7F800000#32
  let main_v6 : FVec F S16x257 .f32 := broadcastInDim S16x257 ![] bcast_S_S16x257 main_cst_0
  let main_v7 : IVec S16x257 1 := cmpf .olt main_v5 main_v6
  (main_v4, main_v7)
-- ==== Pre_scores_finite.lean ====
abbrev S8192x3072 : Shape := ⟨2, ![8192, 3072]⟩
abbrev S8192x1024 : Shape := ⟨2, ![8192, 1024]⟩
abbrev S16x257 : Shape := ⟨2, ![16, 257]⟩
abbrev S8192x2048 : Shape := ⟨2, ![8192, 2048]⟩
abbrev S_ : Shape := ⟨0, ![]⟩

class Facts : Prop where
  slices_S8192x3072_S8192x2048_0_0 : S8192x3072.Slices ![0, 0] S8192x2048
  bitsLt_bf16_f32 : FTy.bits .bf16 < FTy.bits .f32
  bcast_S_S8192x2048 : S_.BroadcastsInDim S8192x2048 (![] : Fin 0 → Fin S8192x2048.rank)
  bcast_S_S16x257 : S_.BroadcastsInDim S16x257 (![] : Fin 0 → Fin S16x257.rank)

variable [Facts]

def fn {F : FTy → Type} [FloatOps F] (main_arg0 : FVec F S8192x3072 .bf16) (main_arg1 : FVec F S8192x1024 .bf16) (main_arg2 : FVec F S16x257 .f32) : IVec S8192x2048 1 × IVec S16x257 1 :=
  let main_v0 : FVec F S8192x2048 .bf16 := (extractStridedSlice S8192x2048 ![0, 0] · slices_S8192x3072_S8192x2048_0_0) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_v5 : FVec F S16x257 .f32 := Host.absf main_arg2
  let main_cst_0 : FVec F S_ .f32 := constant S_ .f32 0x7F800000#32
  let main_v6 : FVec F S16x257 .f32 := broadcastInDim S16x257 ![] bcast_S_S16x257 main_cst_0
  let main_v7 : IVec S16x257 1 := cmpf .olt main_v5 main_v6
  (main_v4, main_v7)
-- ==== KernelFirst.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefFirstIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S8x1024 : Shape := ⟨2, ![8, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S8192x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== KernelAtt.lean ====
abbrev S8192x3072 : Shape := ⟨2, ![8192, 3072]⟩
abbrev S8192x1024 : Shape := ⟨2, ![8192, 1024]⟩
abbrev S16x257 : Shape := ⟨2, ![16, 257]⟩
abbrev S_ : Shape := ⟨0, ![]⟩
abbrev S16 : Shape := ⟨1, ![16]⟩
abbrev S2x128x128 : Shape := ⟨3, ![2, 128, 128]⟩
abbrev S2x128x128x1 : Shape := ⟨4, ![2, 128, 128, 1]⟩
abbrev S16x2x128x128 : Shape := ⟨4, ![16, 2, 128, 128]⟩
abbrev S16x1x1x1 : Shape := ⟨4, ![16, 1, 1, 1]⟩
abbrev S16x1 : Shape := ⟨2, ![16, 1]⟩
abbrev S16x1x1 : Shape := ⟨3, ![16, 1, 1]⟩
abbrev S16x1x128 : Shape := ⟨3, ![16, 1, 128]⟩
abbrev S1x1024 : Shape := ⟨2, ![1, 1024]⟩
abbrev S256x128 : Shape := ⟨2, ![256, 128]⟩
abbrev S2x2x128x128 : Shape := ⟨4, ![2, 2, 128, 128]⟩
abbrev S2x1x128 : Shape := ⟨3, ![2, 1, 128]⟩
abbrev S8192x128 : Shape := ⟨2, ![8192, 128]⟩
abbrev S1x128 : Shape := ⟨2, ![1, 128]⟩
abbrev S512x768 : Shape := ⟨2, ![512, 768]⟩
abbrev S1x2x128x128 : Shape := ⟨4, ![1, 2, 128, 128]⟩
abbrev S1x1x128 : Shape := ⟨3, ![1, 1, 128]⟩
abbrev S256x768 : Shape := ⟨2, ![256, 768]⟩
abbrev S128x128 : Shape := ⟨2, ![128, 128]⟩
abbrev S1x128x128 : Shape := ⟨3, ![1, 128, 128]⟩
abbrev S128x768 : Shape := ⟨2, ![128, 768]⟩
abbrev S768x128 : Shape := ⟨2, ![768, 128]⟩
abbrev S1x768 : Shape := ⟨2, ![1, 768]⟩
abbrev S512x128 : Shape := ⟨2, ![512, 128]⟩
abbrev S512 : Shape := ⟨1, ![512]⟩
abbrev S512x1 : Shape := ⟨2, ![512, 1]⟩
abbrev S1x1x128x128 : Shape := ⟨4, ![1, 1, 128, 128]⟩
abbrev S128 : Shape := ⟨1, ![128]⟩

abbrev nBuf : Space → Nat
  | .hbm => 73
  | .vmem => 37
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S16x257, .f32⟩
  | .hbm, ⟨3, _⟩ => ⟨S_, .f32⟩
  | .hbm, ⟨4, _⟩ => ⟨S16, .f32⟩
  | .hbm, ⟨5, _⟩ => ⟨S2x128x128, .i32⟩
  | .hbm, ⟨6, _⟩ => ⟨S_, .i32⟩
  | .hbm, ⟨7, _⟩ => ⟨S2x128x128, .i32⟩
  | .hbm, ⟨8, _⟩ => ⟨S2x128x128, .i32⟩
  | .hbm, ⟨9, _⟩ => ⟨S2x128x128, .i32⟩
  | .hbm, ⟨10, _⟩ => ⟨S2x128x128, .i32⟩
  | .hbm, ⟨11, _⟩ => ⟨S_, .i32⟩
  | .hbm, ⟨12, _⟩ => ⟨S2x128x128, .i32⟩
  | .hbm, ⟨13, _⟩ => ⟨S2x128x128, .i32⟩
  | .hbm, ⟨14, _⟩ => ⟨S_, .i32⟩
  | .hbm, ⟨15, _⟩ => ⟨S2x128x128, .i32⟩
  | .hbm, ⟨16, _⟩ => ⟨S2x128x128, .i32⟩
  | .hbm, ⟨17, _⟩ => ⟨S2x128x128, .i32⟩
  | .hbm, ⟨18, _⟩ => ⟨S_, .i32⟩
  | .hbm, ⟨19, _⟩ => ⟨S2x128x128, .i32⟩
  | .hbm, ⟨20, _⟩ => ⟨S2x128x128, .i32⟩
  | .hbm, ⟨21, _⟩ => ⟨S2x128x128, .i32⟩
  | .hbm, ⟨22, _⟩ => ⟨S_, .i32⟩
  | .hbm, ⟨23, _⟩ => ⟨S2x128x128, .i32⟩
  | .hbm, ⟨24, _⟩ => ⟨S2x128x128, .i1⟩
  | .hbm, ⟨25, _⟩ => ⟨S_, .i32⟩
  | .hbm, ⟨26, _⟩ => ⟨S2x128x128, .i32⟩
  | .hbm, ⟨27, _⟩ => ⟨S2x128x128, .i1⟩
  | .hbm, ⟨28, _⟩ => ⟨S2x128x128, .i1⟩
  | .hbm, ⟨29, _⟩ => ⟨S_, .i32⟩
  | .hbm, ⟨30, _⟩ => ⟨S2x128x128, .i32⟩
  | .hbm, ⟨31, _⟩ => ⟨S2x128x128, .i32⟩
  | .hbm, ⟨32, _⟩ => ⟨S_, .i32⟩
  | .hbm, ⟨33, _⟩ => ⟨S2x128x128, .i32⟩
  | .hbm, ⟨34, _⟩ => ⟨S2x128x128, .i32⟩
  | .hbm, ⟨35, _⟩ => ⟨S2x128x128, .i32⟩
  | .hbm, ⟨36, _⟩ => ⟨S2x128x128, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S2x128x128, .i32⟩
  | .hbm, ⟨41, _⟩ => ⟨S2x128x128, .i32⟩
  | .hbm, ⟨42, _⟩ => ⟨S_, .i32⟩
  | .hbm, ⟨43, _⟩ => ⟨S2x128x128, .i32⟩
  | .hbm, ⟨44, _⟩ => ⟨S2x128x128, .i32⟩
  | .hbm, ⟨45, _⟩ => ⟨S_, .i32⟩
  | .hbm, ⟨46, _⟩ => ⟨S2x128x128, .i32⟩
  | .hbm, ⟨47, _⟩ => ⟨S2x128x128, .i32⟩
  | .hbm, ⟨48, _⟩ => ⟨S_, .i32⟩
  | .hbm, ⟨49, _⟩ => ⟨S2x128x128, .i32⟩
  | .hbm, ⟨50, _⟩ => ⟨S2x128x128, .i1⟩
  | .hbm, ⟨51, _⟩ => ⟨S_, .i32⟩
  | .hbm, ⟨52, _⟩ => ⟨S2x128x128, .i32⟩
  | .hbm, ⟨53, _⟩ => ⟨S2x128x128, .i32⟩
  | .hbm, ⟨54, _⟩ => ⟨S2x128x128, .i32⟩
  | .hbm, ⟨55, _⟩ => ⟨S2x128x128x1, .i32⟩
  | .hbm, ⟨56, _⟩ => ⟨S16x2x128x128, .f32⟩
  | .hbm, ⟨57, _⟩ => ⟨S16x1x1x1, .f32⟩
  | .hbm, ⟨58, _⟩ => ⟨S16x2x128x128, .i1⟩
  | .hbm, ⟨59, _⟩ => ⟨S16x2x128x128, .f32⟩
  | .hbm, ⟨60, _⟩ => ⟨S16x2x128x128, .f32⟩
  | .hbm, ⟨61, _⟩ => ⟨S16x1, .f32⟩
  | .hbm, ⟨62, _⟩ => ⟨S16, .f32⟩
  | .hbm, ⟨63, _⟩ => ⟨S16x1x1, .f32⟩
  | .hbm, ⟨64, _⟩ => ⟨S16x1x128, .f32⟩
  | .hbm, ⟨65, _⟩ => ⟨S8192x1024, .bf16⟩
  | .hbm, ⟨66, _⟩ => ⟨S8192x1024, .f32⟩
  | .hbm, ⟨67, _⟩ => ⟨S8192x1024, .f32⟩
  | .hbm, ⟨68, _⟩ => ⟨S16x2x128x128, .f32⟩
  | .hbm, ⟨69, _⟩ => ⟨S16x1x128, .f32⟩
  | .hbm, ⟨70, _⟩ => ⟨S1x1024, .f32⟩
  | .hbm, ⟨71, _⟩ => ⟨S1x1024, .f32⟩
  | .hbm, ⟨72, _⟩ => ⟨S1x1024, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S2x2x128x128, .f32⟩
  | .local _ .vmem, ⟨15, _⟩ => ⟨S2x2x128x128, .f32⟩
  | .local _ .vmem, ⟨16, _⟩ => ⟨S2x1x128, .f32⟩
  | .local _ .vmem, ⟨17, _⟩ => ⟨S2x1x128, .f32⟩
  | .local _ .vmem, ⟨18, _⟩ => ⟨S256x128, .bf16⟩
  | .local _ .vmem, ⟨19, _⟩ => ⟨S256x128, .bf16⟩
  | .local _ .vmem, ⟨20, _⟩ => ⟨S256x128, .bf16⟩
  | .local _ .vmem, ⟨21, _⟩ => ⟨S256x128, .bf16⟩
  | .local _ .vmem, ⟨22, _⟩ => ⟨S8192x128, .f32⟩
  | .local _ .vmem, ⟨23, _⟩ => ⟨S8192x128, .f32⟩
  | .local _ .vmem, ⟨24, _⟩ => ⟨S8192x128, .f32⟩
  | .local _ .vmem, ⟨25, _⟩ => ⟨S8192x128, .f32⟩
  | .local _ .vmem, ⟨26, _⟩ => ⟨S2x2x128x128, .f32⟩
  | .local _ .vmem, ⟨27, _⟩ => ⟨S2x2x128x128, .f32⟩
  | .local _ .vmem, ⟨28, _⟩ => ⟨S2x1x128, .f32⟩
  | .local _ .vmem, ⟨29, _⟩ => ⟨S2x1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S512x768, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_c_8 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v25 : Ref sig .tc := ⟨.hbm, 44, rfl⟩
abbrev main_c_9 : Ref sig .tc := ⟨.hbm, 45, rfl⟩
abbrev main_v26 : Ref sig .tc := ⟨.hbm, 46, rfl⟩
abbrev main_v27 : Ref sig .tc := ⟨.hbm, 47, rfl⟩
abbrev main_c_10 : Ref sig .tc := ⟨.hbm, 48, rfl⟩
abbrev main_v28 : Ref sig .tc := ⟨.hbm, 49, rfl⟩
abbrev main_v29 : Ref sig .tc := ⟨.hbm, 50, rfl⟩
abbrev main_c_11 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call1_v0 : Ref sig .tc := ⟨.hbm, 58, rfl⟩
abbrev main_call1_v1 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41_0 : Ref sig .tc := ⟨.hbm, 65, rfl⟩
abbrev main_v41_1 : Ref sig .tc := ⟨.hbm, 66, rfl⟩
abbrev main_v41_2 : Ref sig .tc := ⟨.hbm, 67, rfl⟩
abbrev main_v41_3 : Ref sig .tc := ⟨.hbm, 68, rfl⟩
abbrev main_v41_4 : Ref sig .tc := ⟨.hbm, 69, rfl⟩
abbrev main_v41_5 : Ref sig .tc := ⟨.hbm, 70, rfl⟩
abbrev main_v41_6 : Ref sig .tc := ⟨.hbm, 71, rfl⟩
abbrev main_v41_7 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c2_i32_87 : BitVec 32 := 2#32
  let v177 : BitVec 32 := Scalar.subi arg1 c2_i32_87
  let c0_i32_88 : BitVec 32 := 0#32
  let v178 : BitVec 32 := Scalar.addi v177 c0_i32_88
  let c0_i32_89 : BitVec 32 := 0#32
  let v179 : BitVec 1 := Scalar.cmpi .sge v178 c0_i32_89
  let v180 : BitVec 32 := Scalar.extui v179
  let c0_i32_90 : BitVec 32 := 0#32
  let v181 : BitVec 1 := Scalar.cmpi .ne v180 c0_i32_90
  v181

def k0_mult1 (i : grid0.Coords) : BitVec 32 :=
  let arg1 : BitVec 32 := BitVec.ofNat 32 (i 1).val
  let c2_i32_87 : BitVec 32 := 2#32
  let v177 : BitVec 32 := Scalar.subi arg1 c2_i32_87
  let c0_i32_88 : BitVec 32 := 0#32
  let v178 : BitVec 32 := Scalar.addi v177 c0_i32_88
  let c256_i32_99 : BitVec 32 := 256#32
  let v195 : BitVec 32 := Scalar.muli v178 c256_i32_99
  v195
def k0_off1 (i : grid0.Coords) : Fin 2 → Nat :=
  let arg1 : BitVec 32 := BitVec.ofNat 32 (i 1).val
  let c2_i32_87 : BitVec 32 := 2#32
  let v177 : BitVec 32 := Scalar.subi arg1 c2_i32_87
  let c0_i32_88 : BitVec 32 := 0#32
  let v178 : BitVec 32 := Scalar.addi v177 c0_i32_88
  let c256_i32_99 : BitVec 32 := 256#32
  let v195 : BitVec 32 := Scalar.muli v178 c256_i32_99
  let v196 : BitVec 32 := v195
  let v197 : Index := Scalar.indexCast v196
  let c0_100 : Index := 0#32
  ![v197.toNat, 0]
def k0_cond3 (i : grid0.Coords) : BitVec 1 :=
  let arg1 : BitVec 32 := BitVec.ofNat 32 (i 1).val
  let c2_i32_91 : BitVec 32 := 2#32
  let v182 : BitVec 32 := Scalar.subi arg1 c2_i32_91
  let c1_i32 : BitVec 32 := 1#32
  let v183 : BitVec 32 := Scalar.addi v182 c1_i32
  let c0_i32_92 : BitVec 32 := 0#32
  let v184 : BitVec 1 := Scalar.cmpi .sge v183 c0_i32_92
  let v185 : BitVec 32 := Scalar.extui v184
  let c0_i32_93 : BitVec 32 := 0#32
  let v186 : BitVec 1 := Scalar.cmpi .ne v185 c0_i32_93
  v186

def k0_mult2 (i : grid0.Coords) : BitVec 32 :=
  let arg1 : BitVec 32 := BitVec.ofNat 32 (i 1).val
  let c2_i32_91 : BitVec 32 := 2#32
  let v182 : BitVec 32 := Scalar.subi arg1 c2_i32_91
  let c1_i32 : BitVec 32 := 1#32
  let v183 : BitVec 32 := Scalar.addi v182 c1_i32
  let c256_i32_99 : BitVec 32 := 256#32
  let v195 : BitVec 32 := Scalar.muli v183 c256_i32_99
  v195
def k0_off2 (i : grid0.Coords) : Fin 2 → Nat :=
  let arg1 : BitVec 32 := BitVec.ofNat 32 (i 1).val
  let c2_i32_91 : BitVec 32 := 2#32
  let v182 : BitVec 32 := Scalar.subi arg1 c2_i32_91
  let c1_i32 : BitVec 32 := 1#32
  let v183 : BitVec 32 := Scalar.addi v182 c1_i32
  let c256_i32_99 : BitVec 32 := 256#32
  let v195 : BitVec 32 := Scalar.muli v183 c256_i32_99
  let v196 : BitVec 32 := v195
  let v197 : Index := Scalar.indexCast v196
  let c0_100 : Index := 0#32
  ![v197.toNat, 0]
def k0_cond4 (i : grid0.Coords) : BitVec 1 :=
  let arg1 : BitVec 32 := BitVec.ofNat 32 (i 1).val
  let c2_i32_94 : BitVec 32 := 2#32
  let v187 : BitVec 32 := Scalar.subi arg1 c2_i32_94
  let c2_i32_95 : BitVec 32 := 2#32
  let v188 : BitVec 32 := Scalar.addi v187 c2_i32_95
  let c0_i32_96 : BitVec 32 := 0#32
  let v189 : BitVec 1 := Scalar.cmpi .sge v188 c0_i32_96
  let v190 : BitVec 32 := Scalar.extui v189
  let c0_i32_97 : BitVec 32 := 0#32
  let v191 : BitVec 1 := Scalar.cmpi .ne v190 c0_i32_97
  v191

def k0_mult3 (i : grid0.Coords) : BitVec 32 :=
  let arg1 : BitVec 32 := BitVec.ofNat 32 (i 1).val
  let c2_i32_94 : BitVec 32 := 2#32
  let v187 : BitVec 32 := Scalar.subi arg1 c2_i32_94
  let c2_i32_95 : BitVec 32 := 2#32
  let v188 : BitVec 32 := Scalar.addi v187 c2_i32_95
  let c256_i32_99 : BitVec 32 := 256#32
  let v195 : BitVec 32 := Scalar.muli v188 c256_i32_99
  v195
def k0_off3 (i : grid0.Coords) : Fin 2 → Nat :=
  let arg1 : BitVec 32 := BitVec.ofNat 32 (i 1).val
  let c2_i32_94 : BitVec 32 := 2#32
  let v187 : BitVec 32 := Scalar.subi arg1 c2_i32_94
  let c2_i32_95 : BitVec 32 := 2#32
  let v188 : BitVec 32 := Scalar.addi v187 c2_i32_95
  let c256_i32_99 : BitVec 32 := 256#32
  let v195 : BitVec 32 := Scalar.muli v188 c256_i32_99
  let v196 : BitVec 32 := v195
  let v197 : Index := Scalar.indexCast v196
  let c0_100 : Index := 0#32
  ![v197.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond5 (i : grid0.Coords) : BitVec 1 :=
  let arg1 : BitVec 32 := BitVec.ofNat 32 (i 1).val
  let c31_i32 : BitVec 32 := 31#32
  let v192 : BitVec 1 := Scalar.cmpi .eq arg1 c31_i32
  let v193 : BitVec 32 := Scalar.extui v192
  let c0_i32_98 : BitVec 32 := 0#32
  let v194 : BitVec 1 := Scalar.cmpi .ne v193 c0_i32_98
  v194

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c8_i32 : BitVec 32 := 8#32
  let v2 : BitVec 32 := Scalar.addi c8_i32 arg0
  let c0_i32_1 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c16_i32 : BitVec 32 := 16#32
  let v2 : BitVec 32 := Scalar.addi c16_i32 arg0
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let v2 : BitVec 32 := Scalar.addi c16_i32 arg0
  let c0_i32_0 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c16_i32 : BitVec 32 := 16#32
  let v2 : BitVec 32 := Scalar.addi c16_i32 arg0
  let c0_i32_1 : BitVec 32 := 0#32
  ![v1.toNat, v2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8192x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S8192x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2x2x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S2x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== KernelAttIdeal.lean ====
variable {F : FTy → Type} [FloatOps F] [Named F]
def κ : String → Option EReal := fun
  | "mask" => some ⊥
  | _ => none
-- ==== RefAttIdeal.lean ====
abbrev S8192x3072 : Shape := ⟨2, ![8192, 3072]⟩
abbrev S8192x1024 : Shape := ⟨2, ![8192, 1024]⟩
abbrev S16x257 : Shape := ⟨2, ![16, 257]⟩
abbrev S_ : Shape := ⟨0, ![]⟩
abbrev S1x1024 : Shape := ⟨2, ![1, 1024]⟩
abbrev S16x128x128 : Shape := ⟨3, ![16, 128, 128]⟩
abbrev S16x1x128 : Shape := ⟨3, ![16, 1, 128]⟩
abbrev S8192x8192 : Shape := ⟨2, ![8192, 8192]⟩
abbrev S8192x8192x1 : Shape := ⟨3, ![8192, 8192, 1]⟩
abbrev S16x8192x8192 : Shape := ⟨3, ![16, 8192, 8192]⟩
abbrev S16x1x128x128 : Shape := ⟨4, ![16, 1, 128, 128]⟩
abbrev S16x64x128x128 : Shape := ⟨4, ![16, 64, 128, 128]⟩
abbrev S16x8192x128 : Shape := ⟨3, ![16, 8192, 128]⟩
abbrev S16x8192x1x128 : Shape := ⟨4, ![16, 8192, 1, 128]⟩
abbrev S16x8192x64x128 : Shape := ⟨4, ![16, 8192, 64, 128]⟩
abbrev S8192x16x64 : Shape := ⟨3, ![8192, 16, 64]⟩
abbrev S16x8192x64 : Shape := ⟨3, ![16, 8192, 64]⟩
abbrev S16x8192 : Shape := ⟨2, ![16, 8192]⟩
abbrev S16x8192x1 : Shape := ⟨3, ![16, 8192, 1]⟩
abbrev S16x64x8192 : Shape := ⟨3, ![16, 64, 8192]⟩
abbrev S1024 : Shape := ⟨1, ![1024]⟩
abbrev S16x128 : Shape := ⟨2, ![16, 128]⟩
abbrev S16x2x128x128 : Shape := ⟨4, ![16, 2, 128, 128]⟩

abbrev nBuf : Space → Nat
  | .hbm => 252
  | .vmem => 0
  | .smem => 0
  | _ => 0

abbrev hbmTy0_0 (i : Nat) : BufTy := match i % 128 with
  | 0 => ⟨S8192x3072, .bf16⟩
  | 1 => ⟨S8192x1024, .bf16⟩
  | 2 => ⟨S16x257, .f32⟩
  | 3 => ⟨S8192x1024, .bf16⟩
  | 4 => ⟨S8192x1024, .f32⟩
  | 5 => ⟨S8192x1024, .bf16⟩
  | 6 => ⟨S8192x1024, .f32⟩
  | 7 => ⟨S8192x1024, .bf16⟩
  | 8 => ⟨S8192x1024, .f32⟩
  | 9 => ⟨S_, .f32⟩
  | 10 => ⟨S1x1024, .f32⟩
  | 11 => ⟨S_, .f32⟩
  | 12 => ⟨S16x128x128, .f32⟩
  | 13 => ⟨S_, .f32⟩
  | 14 => ⟨S16x1x128, .f32⟩
  | 15 => ⟨S16x128x128, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x8192, .i32⟩
  | 23 => ⟨S8192x8192, .i32⟩
  | 24 => ⟨S_, .i32⟩
  | 25 => ⟨S8192x8192, .i32⟩
  | 26 => ⟨S8192x8192, .i32⟩
  | 27 => ⟨S_, .i32⟩
  | 28 => ⟨S8192x8192, .i32⟩
  | 29 => ⟨S8192x8192, .i32⟩
  | 30 => ⟨S8192x8192, .i32⟩
  | 31 => ⟨S8192x8192, .i32⟩
  | 32 => ⟨S_, .i32⟩
  | 33 => ⟨S_, .i32⟩
  | 34 => ⟨S_, .i32⟩
  | 35 => ⟨S8192x8192, .i32⟩
  | 36 => ⟨S8192x8192, .i32⟩
  | 37 => ⟨S_, .i32⟩
  | 38 => ⟨S8192x8192, .i32⟩
  | 39 => ⟨S8192x8192, .i32⟩
  | 40 => ⟨S_, .i32⟩
  | 41 => ⟨S8192x8192, .i32⟩
  | 42 => ⟨S8192x8192, .i32⟩
  | 43 => ⟨S_, .i32⟩
  | 44 => ⟨S8192x8192, .i32⟩
  | 45 => ⟨S8192x8192, .i1⟩
  | 46 => ⟨S_, .i32⟩
  | 47 => ⟨S8192x8192, .i32⟩
  | 48 => ⟨S8192x8192, .i32⟩
  | 49 => ⟨S8192x8192, .i32⟩
  | 50 => ⟨S8192x8192x1, .i32⟩
  | 51 => ⟨S16x8192x8192, .f32⟩
  | 52 => ⟨S_, .i32⟩
  | 53 => ⟨S8192x8192, .i32⟩
  | 54 => ⟨S8192x8192, .i1⟩
  | 55 => ⟨S16x8192x8192, .i1⟩
  | 56 => ⟨S_, .i32⟩
  | 57 => ⟨S8192x8192, .i32⟩
  | 58 => ⟨S8192x8192, .i1⟩
  | 59 => ⟨S16x8192x8192, .i1⟩
  | 60 => ⟨S16x1x128x128, .f32⟩
  | 61 => ⟨S16x64x128x128, .f32⟩
  | 62 => ⟨S16x8192x128, .f32⟩
  | 63 => ⟨S16x8192x1x128, .f32⟩
  | 64 => ⟨S16x8192x64x128, .f32⟩
  | 65 => ⟨S16x8192x8192, .f32⟩
  | 66 => ⟨S16x1x128x128, .f32⟩
  | 67 => ⟨S16x64x128x128, .f32⟩
  | 68 => ⟨S16x8192x128, .f32⟩
  | 69 => ⟨S16x8192x1x128, .f32⟩
  | 70 => ⟨S16x8192x64x128, .f32⟩
  | 71 => ⟨S16x8192x8192, .f32⟩
  | 72 => ⟨S16x1x128x128, .f32⟩
  | 73 => ⟨S16x64x128x128, .f32⟩
  | 74 => ⟨S16x8192x128, .f32⟩
  | 75 => ⟨S16x8192x1x128, .f32⟩
  | 76 => ⟨S16x8192x64x128, .f32⟩
  | 77 => ⟨S16x8192x8192, .f32⟩
  | 78 => ⟨S16x8192x8192, .f32⟩
  | 79 => ⟨S_, .f32⟩
  | 80 => ⟨S16x8192x8192, .f32⟩
  | 81 => ⟨S16x8192x8192, .f32⟩
  | 82 => ⟨S_, .f32⟩
  | 83 => ⟨S16x8192x8192, .f32⟩
  | 84 => ⟨S16x8192x8192, .f32⟩
  | 85 => ⟨S_, .i32⟩
  | 86 => ⟨S8192x8192, .i32⟩
  | 87 => ⟨S8192x8192, .i32⟩
  | 88 => ⟨S_, .i32⟩
  | 89 => ⟨S8192x8192, .i32⟩
  | 90 => ⟨S8192x8192, .i32⟩
  | 91 => ⟨S8192x8192, .i32⟩
  | 92 => ⟨S_, .i32⟩
  | 93 => ⟨S8192x8192, .i32⟩
  | 94 => ⟨S8192x8192, .i1⟩
  | 95 => ⟨S_, .i32⟩
  | 96 => ⟨S8192x8192, .i32⟩
  | 97 => ⟨S8192x8192, .i1⟩
  | 98 => ⟨S8192x8192, .i1⟩
  | 99 => ⟨S8192x16x64, .f32⟩
  | 100 => ⟨S16x8192x64, .f32⟩
  | 101 => ⟨S_, .f32⟩
  | 102 => ⟨S16x8192x64, .f32⟩
  | 103 => ⟨S16x8192x64, .f32⟩
  | 104 => ⟨S8192x16x64, .f32⟩
  | 105 => ⟨S16x8192x64, .f32⟩
  | 106 => ⟨S16x8192x8192, .f32⟩
  | 107 => ⟨S16x8192x8192, .f32⟩
  | 108 => ⟨S_, .f32⟩
  | 109 => ⟨S_, .f32⟩
  | 110 => ⟨S16x8192x8192, .i1⟩
  | 111 => ⟨S16x8192x8192, .f32⟩
  | 112 => ⟨S16x8192x8192, .f32⟩
  | 113 => ⟨S_, .f32⟩
  | 114 => ⟨S16x8192x8192, .f32⟩
  | 115 => ⟨S_, .f32⟩
  | 116 => ⟨S16x8192, .f32⟩
  | 117 => ⟨S16x8192x1, .f32⟩
  | 118 => ⟨S16x8192x8192, .f32⟩
  | 119 => ⟨S16x8192x8192, .i1⟩
  | 120 => ⟨S16x8192x8192, .f32⟩
  | 121 => ⟨S_, .f32⟩
  | 122 => ⟨S16x8192, .f32⟩
  | 123 => ⟨S_, .f32⟩
  | 124 => ⟨S16x8192, .f32⟩
  | 125 => ⟨S16x8192, .f32⟩
  | 126 => ⟨S_, .f32⟩
  | 127 => ⟨S16x8192, .f32⟩
  | _ => ⟨S8192x3072, .bf16⟩

abbrev hbmTy0_1 (i : Nat) : BufTy := match i % 128 with
  | 0 => ⟨S16x8192, .i1⟩
  | 1 => ⟨S_, .f32⟩
  | 2 => ⟨S16x8192, .f32⟩
  | 3 => ⟨S16x8192, .i1⟩
  | 4 => ⟨S_, .f32⟩
  | 5 => ⟨S16x8192, .f32⟩
  | 6 => ⟨S_, .f32⟩
  | 7 => ⟨S16x8192, .f32⟩
  | 8 => ⟨S_, .f32⟩
  | 9 => ⟨S16x8192, .f32⟩
  | 10 => ⟨S16x8192, .f32⟩
  | 11 => ⟨S16x8192, .f32⟩
  | 12 => ⟨S16x8192x1, .f32⟩
  | 13 => ⟨S16x8192x8192, .f32⟩
  | 14 => ⟨S16x8192x8192, .f32⟩
  | 15 => ⟨S16x8192x8192, .f32⟩
  | 16 => ⟨S_, .f32⟩
  | 17 => ⟨S16x8192, .f32⟩
  | 18 => ⟨S16x8192x1, .f32⟩
  | 19 => ⟨S16x8192x8192, .f32⟩
  | 20 => ⟨S16x8192x8192, .f32⟩
  | 21 => ⟨S16x8192x1, .f32⟩
  | 22 => ⟨S_, .f32⟩
  | 23 => ⟨S16x8192x1, .f32⟩
  | 24 => ⟨S16x8192x1, .f32⟩
  | 25 => ⟨S8192x16x64, .f32⟩
  | 26 => ⟨S16x8192x64, .f32⟩
  | 27 => ⟨S16x8192x64, .f32⟩
  | 28 => ⟨S8192x16x64, .f32⟩
  | 29 => ⟨S8192x1024, .f32⟩
  | 30 => ⟨S8192x1024, .f32⟩
  | 31 => ⟨S8192x16x64, .f32⟩
  | 32 => ⟨S16x8192x64, .f32⟩
  | 33 => ⟨S16x64x8192, .f32⟩
  | 34 => ⟨S16x8192x64, .f32⟩
  | 35 => ⟨S16x8192x8192, .f32⟩
  | 36 => ⟨S8192x16x64, .f32⟩
  | 37 => ⟨S8192x1024, .f32⟩
  | 38 => ⟨S16x8192x8192, .f32⟩
  | 39 => ⟨S16x8192x8192, .f32⟩
  | 40 => ⟨S16x8192x8192, .f32⟩
  | 41 => ⟨S_, .f32⟩
  | 42 => ⟨S16x8192, .f32⟩
  | 43 => ⟨S16x8192x1, .f32⟩
  | 44 => ⟨S16x8192x1, .f32⟩
  | 45 => ⟨S16x8192x8192, .f32⟩
  | 46 => ⟨S16x8192x8192, .f32⟩
  | 47 => ⟨S_, .f32⟩
  | 48 => ⟨S16x8192, .f32⟩
  | 49 => ⟨S16x8192x8192, .f32⟩
  | 50 => ⟨S16x8192x8192, .f32⟩
  | 51 => ⟨S16x8192x8192, .f32⟩
  | 52 => ⟨S_, .f32⟩
  | 53 => ⟨S16x8192x8192, .f32⟩
  | 54 => ⟨S16x8192x8192, .f32⟩
  | 55 => ⟨S16x8192x64, .f32⟩
  | 56 => ⟨S16x8192x64, .f32⟩
  | 57 => ⟨S8192x16x64, .f32⟩
  | 58 => ⟨S8192x1024, .f32⟩
  | 59 => ⟨S_, .f32⟩
  | 60 => ⟨S16x8192x64, .f32⟩
  | 61 => ⟨S16x8192x64, .f32⟩
  | 62 => ⟨S8192x16x64, .f32⟩
  | 63 => ⟨S8192x1024, .f32⟩
  | 64 => ⟨S_, .f32⟩
  | 65 => ⟨S16x8192x8192, .f32⟩
  | 66 => ⟨S16x8192x8192, .f32⟩
  | 67 => ⟨S16x8192x8192, .f32⟩
  | 68 => ⟨S_, .f32⟩
  | 69 => ⟨S16x8192x8192, .f32⟩
  | 70 => ⟨S16x8192x8192, .f32⟩
  | 71 => ⟨S16x8192x8192, .f32⟩
  | 72 => ⟨S16x8192x64x128, .f32⟩
  | 73 => ⟨S_, .f32⟩
  | 74 => ⟨S16x8192x128, .f32⟩
  | 75 => ⟨S16x8192x1x128, .f32⟩
  | 76 => ⟨S_, .f32⟩
  | 77 => ⟨S16x8192x128, .f32⟩
  | 78 => ⟨S16x64x128x128, .f32⟩
  | 79 => ⟨S_, .f32⟩
  | 80 => ⟨S16x128x128, .f32⟩
  | 81 => ⟨S16x1x128x128, .f32⟩
  | 82 => ⟨S_, .f32⟩
  | 83 => ⟨S16x128x128, .f32⟩
  | 84 => ⟨S16x8192x64x128, .f32⟩
  | 85 => ⟨S_, .f32⟩
  | 86 => ⟨S16x8192x128, .f32⟩
  | 87 => ⟨S16x8192x1x128, .f32⟩
  | 88 => ⟨S_, .f32⟩
  | 89 => ⟨S16x8192x128, .f32⟩
  | 90 => ⟨S16x64x128x128, .f32⟩
  | 91 => ⟨S_, .f32⟩
  | 92 => ⟨S16x128x128, .f32⟩
  | 93 => ⟨S16x1x128x128, .f32⟩
  | 94 => ⟨S_, .f32⟩
  | 95 => ⟨S16x128x128, .f32⟩
  | 96 => ⟨S16x8192x64x128, .f32⟩
  | 97 => ⟨S_, .f32⟩
  | 98 => ⟨S16x8192x128, .f32⟩
  | 99 => ⟨S16x8192x1x128, .f32⟩
  | 100 => ⟨S_, .f32⟩
  | 101 => ⟨S16x8192x128, .f32⟩
  | 102 => ⟨S16x64x128x128, .f32⟩
  | 103 => ⟨S_, .f32⟩
  | 104 => ⟨S16x128x128, .f32⟩
  | 105 => ⟨S16x1x128x128, .f32⟩
  | 106 => ⟨S_, .f32⟩
  | 107 => ⟨S16x128x128, .f32⟩
  | 108 => ⟨S_, .f32⟩
  | 109 => ⟨S1024, .f32⟩
  | 110 => ⟨S1x1024, .f32⟩
  | 111 => ⟨S_, .f32⟩
  | 112 => ⟨S1024, .f32⟩
  | 113 => ⟨S1x1024, .f32⟩
  | 114 => ⟨S_, .f32⟩
  | 115 => ⟨S1024, .f32⟩
  | 116 => ⟨S1x1024, .f32⟩
  | 117 => ⟨S_, .f32⟩
  | 118 => ⟨S16x128, .f32⟩
  | 119 => ⟨S16x1x128, .f32⟩
  | 120 => ⟨S8192x1024, .bf16⟩
  | 121 => ⟨S16x1x128x128, .f32⟩
  | 122 => ⟨S16x1x128x128, .f32⟩
  | 123 => ⟨S16x2x128x128, .f32⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_c_4 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_c_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_call1_v0 : Ref sig .tc := ⟨.hbm, 109, rfl⟩
abbrev main_v81_1 : Ref sig .tc := ⟨.hbm, 110, rfl⟩
abbrev main_call1_v2 : Ref sig .tc := ⟨.hbm, 111, rfl⟩
abbrev main_v81_0 : Ref sig .tc := ⟨.hbm, 112, rfl⟩
abbrev main_call1_cst : Ref sig .tc := ⟨.hbm, 113, rfl⟩
abbrev main_v81_2 : Ref sig .tc := ⟨.hbm, 114, rfl⟩
abbrev main_cst_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_cst_20 : Ref sig .tc := ⟨.hbm, 123, rfl⟩
abbrev main_v88 : Ref sig .tc := ⟨.hbm, 124, rfl⟩
abbrev main_v89 : Ref sig .tc := ⟨.hbm, 125, rfl⟩
abbrev main_cst_21 : Ref sig .tc := ⟨.hbm, 126, rfl⟩
abbrev main_v90 : Ref sig .tc := ⟨.hbm, 127, rfl⟩
abbrev main_v91 : Ref sig .tc := ⟨.hbm, 128, rfl⟩
abbrev main_cst_22 : Ref sig .tc := ⟨.hbm, 129, rfl⟩
abbrev main_v92 : Ref sig .tc := ⟨.hbm, 130, rfl⟩
abbrev main_v93 : Ref sig .tc := ⟨.hbm, 131, rfl⟩
abbrev main_cst_23 : Ref sig .tc := ⟨.hbm, 132, rfl⟩
abbrev main_v94 : Ref sig .tc := ⟨.hbm, 133, rfl⟩
abbrev main_cst_24 : Ref sig .tc := ⟨.hbm, 134, rfl⟩
abbrev main_v95 : Ref sig .tc := ⟨.hbm, 135, rfl⟩
abbrev main_cst_25 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_26 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_27 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_28 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_29 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_call2_cst : Ref sig .tc := ⟨.hbm, 180, rfl⟩
abbrev main_call2_v0 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_30 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_31 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_32 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_cst_33 : Ref sig .tc := ⟨.hbm, 201, rfl⟩
abbrev main_v151 : Ref sig .tc := ⟨.hbm, 202, rfl⟩
abbrev main_v152 : Ref sig .tc := ⟨.hbm, 203, rfl⟩
abbrev main_cst_34 : Ref sig .tc := ⟨.hbm, 204, rfl⟩
abbrev main_v153 : Ref sig .tc := ⟨.hbm, 205, rfl⟩
abbrev main_v154 : Ref sig .tc := ⟨.hbm, 206, rfl⟩
abbrev main_cst_35 : Ref sig .tc := ⟨.hbm, 207, rfl⟩
abbrev main_v155 : Ref sig .tc := ⟨.hbm, 208, rfl⟩
abbrev main_v156 : Ref sig .tc := ⟨.hbm, 209, rfl⟩
abbrev main_cst_36 : Ref sig .tc := ⟨.hbm, 210, rfl⟩
abbrev main_v157 : Ref sig .tc := ⟨.hbm, 211, rfl⟩
abbrev main_v158 : Ref sig .tc := ⟨.hbm, 212, rfl⟩
abbrev main_cst_37 : Ref sig .tc := ⟨.hbm, 213, rfl⟩
abbrev main_v159 : Ref sig .tc := ⟨.hbm, 214, rfl⟩
abbrev main_v160 : Ref sig .tc := ⟨.hbm, 215, rfl⟩
abbrev main_cst_38 : Ref sig .tc := ⟨.hbm, 216, rfl⟩
abbrev main_v161 : Ref sig .tc := ⟨.hbm, 217, rfl⟩
abbrev main_v162 : Ref sig .tc := ⟨.hbm, 218, rfl⟩
abbrev main_cst_39 : Ref sig .tc := ⟨.hbm, 219, rfl⟩
abbrev main_v163 : Ref sig .tc := ⟨.hbm, 220, rfl⟩
abbrev main_v164 : Ref sig .tc := ⟨.hbm, 221, rfl⟩
abbrev main_cst_40 : Ref sig .tc := ⟨.hbm, 222, rfl⟩
abbrev main_v165 : Ref sig .tc := ⟨.hbm, 223, rfl⟩
abbrev main_v166 : Ref sig .tc := ⟨.hbm, 224, rfl⟩
abbrev main_cst_41 : Ref sig .tc := ⟨.hbm, 225, rfl⟩
abbrev main_v167 : Ref sig .tc := ⟨.hbm, 226, rfl⟩
abbrev main_v168 : Ref sig .tc := ⟨.hbm, 227, rfl⟩
abbrev main_cst_42 : Ref sig .tc := ⟨.hbm, 228, rfl⟩
abbrev main_v169 : Ref sig .tc := ⟨.hbm, 229, rfl⟩
abbrev main_v170 : Ref sig .tc := ⟨.hbm, 230, rfl⟩
abbrev main_cst_43 : Ref sig .tc := ⟨.hbm, 231, rfl⟩
abbrev main_v171 : Ref sig .tc := ⟨.hbm, 232, rfl⟩
abbrev main_v172 : Ref sig .tc := ⟨.hbm, 233, rfl⟩
abbrev main_cst_44 : Ref sig .tc := ⟨.hbm, 234, rfl⟩
abbrev main_v173 : Ref sig .tc := ⟨.hbm, 235, rfl⟩
abbrev main_cst_45 : Ref sig .tc := ⟨.hbm, 236, rfl⟩
abbrev main_v174 : Ref sig .tc := ⟨.hbm, 237, rfl⟩
abbrev main_v175 : Ref sig .tc := ⟨.hbm, 238, rfl⟩
abbrev main_cst_46 : Ref sig .tc := ⟨.hbm, 239, rfl⟩
abbrev main_v176 : Ref sig .tc := ⟨.hbm, 240, rfl⟩
abbrev main_v177 : Ref sig .tc := ⟨.hbm, 241, rfl⟩
abbrev main_cst_47 : Ref sig .tc := ⟨.hbm, 242, rfl⟩
abbrev main_v178 : Ref sig .tc := ⟨.hbm, 243, rfl⟩
abbrev main_v179 : Ref sig .tc := ⟨.hbm, 244, rfl⟩
abbrev main_cst_48 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩

abbrev nD : Nat := 1
abbrev τ : Topo := Topo.v7x

variable {F : FTy → Type} [FloatOps F]
-- ==== KernelEpi.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192x4096 : Shape := ⟨2, ![8192, 4096]⟩
abbrev S1x4096x1024 : Shape := ⟨3, ![1, 4096, 1024]⟩
abbrev S1024x1024 : Shape := ⟨2, ![1024, 1024]⟩
abbrev S1x1024x1024 : Shape := ⟨3, ![1, 1024, 1024]⟩

abbrev nBuf : Space → Nat
  | .hbm => 21
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .bf16⟩
  | .hbm, ⟨14, _⟩ => ⟨S1024x4096, .bf16⟩
  | .hbm, ⟨15, _⟩ => ⟨S8192x4096, .f32⟩
  | .hbm, ⟨16, _⟩ => ⟨S8192x4096, .bf16⟩
  | .hbm, ⟨17, _⟩ => ⟨S8192x1024, .bf16⟩
  | .hbm, ⟨18, _⟩ => ⟨S4096x1024, .bf16⟩
  | .hbm, ⟨19, _⟩ => ⟨S1x4096x1024, .bf16⟩
  | .hbm, ⟨20, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefEpiIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192x4096 : Shape := ⟨2, ![8192, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .i1⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== KernelAda.lean ====
abbrev S8x1024 : Shape := ⟨2, ![8, 1024]⟩
abbrev S4x8x768 : Shape := ⟨3, ![4, 8, 768]⟩
abbrev S4x1024x768 : Shape := ⟨3, ![4, 1024, 768]⟩
abbrev S1x8x768 : Shape := ⟨3, ![1, 8, 768]⟩
abbrev S1x1024x768 : Shape := ⟨3, ![1, 1024, 768]⟩
abbrev S8x768 : Shape := ⟨2, ![8, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S4x1024x768, .f32⟩
  | .local _ .vmem, ⟨0, _⟩ => ⟨S8x1024, .f32⟩
  | .local _ .vmem, ⟨1, _⟩ => ⟨S1x8x768, .f32⟩
  | .local _ .vmem, ⟨2, _⟩ => ⟨S1x8x768, .f32⟩
  | .local _ .vmem, ⟨3, _⟩ => ⟨S1x1024x768, .f32⟩
  | .local _ .vmem, ⟨4, _⟩ => ⟨S1x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefAdaIdeal.lean ====
abbrev S8x1024 : Shape := ⟨2, ![8, 1024]⟩
abbrev S4x8x768 : Shape := ⟨3, ![4, 8, 768]⟩
abbrev S_ : Shape := ⟨0, ![]⟩
abbrev S4x1024x768 : Shape := ⟨3, ![4, 1024, 768]⟩
abbrev S4x768x8 : Shape := ⟨3, ![4, 768, 8]⟩
abbrev S4x768x1024 : Shape := ⟨3, ![4, 768, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S_, .f32⟩
  | .hbm, ⟨3, _⟩ => ⟨S4x1024x768, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S4x768x8, .f32⟩
  | .hbm, ⟨14, _⟩ => ⟨S4x8x768, .f32⟩
  | .hbm, ⟨15, _⟩ => ⟨S4x768x8, .f32⟩
  | .hbm, ⟨16, _⟩ => ⟨S4x768x1024, .f32⟩
  | .hbm, ⟨17, _⟩ => ⟨S4x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== KernelRel.lean ====
abbrev S16x2x128x128 : Shape := ⟨4, ![16, 2, 128, 128]⟩
abbrev S16x1x128 : Shape := ⟨3, ![16, 1, 128]⟩
abbrev S16x32768 : Shape := ⟨2, ![16, 32768]⟩
abbrev S16x128 : Shape := ⟨2, ![16, 128]⟩
abbrev S2x128x128 : Shape := ⟨3, ![2, 128, 128]⟩
abbrev S_ : Shape := ⟨0, ![]⟩
abbrev S1x32768 : Shape := ⟨2, ![1, 32768]⟩
abbrev S16x384 : Shape := ⟨2, ![16, 384]⟩
abbrev S16x2048 : Shape := ⟨2, ![16, 2048]⟩
abbrev S1x2048 : Shape := ⟨2, ![1, 2048]⟩
abbrev S384x2048 : Shape := ⟨2, ![384, 2048]⟩
abbrev S1x384 : Shape := ⟨2, ![1, 384]⟩
abbrev S16 : Shape := ⟨1, ![16]⟩
abbrev S16x1 : Shape := ⟨2, ![16, 1]⟩

abbrev nBuf : Space → Nat
  | .hbm => 48
  | .vmem => 6
  | .smem => 0
  | _ => 0

abbrev bufTy : (tb : Table) → Fin (tcTables nBuf tb) → BufTy
  | .hbm, ⟨0, _⟩ => ⟨S16x2x128x128, .f32⟩
  | .hbm, ⟨1, _⟩ => ⟨S16x1x128, .f32⟩
  | .hbm, ⟨2, _⟩ => ⟨S16x32768, .f32⟩
  | .hbm, ⟨3, _⟩ => ⟨S16x128, .f32⟩
  | .hbm, ⟨4, _⟩ => ⟨S2x128x128, .i32⟩
  | .hbm, ⟨5, _⟩ => ⟨S_, .i32⟩
  | .hbm, ⟨6, _⟩ => ⟨S2x128x128, .i32⟩
  | .hbm, ⟨7, _⟩ => ⟨S2x128x128, .i32⟩
  | .hbm, ⟨8, _⟩ => ⟨S2x128x128, .i32⟩
  | .hbm, ⟨9, _⟩ => ⟨S2x128x128, .i32⟩
  | .hbm, ⟨10, _⟩ => ⟨S_, .i32⟩
  | .hbm, ⟨11, _⟩ => ⟨S2x128x128, .i32⟩
  | .hbm, ⟨12, _⟩ => ⟨S2x128x128, .i32⟩
  | .hbm, ⟨13, _⟩ => ⟨S_, .i32⟩
  | .hbm, ⟨14, _⟩ => ⟨S2x128x128, .i32⟩
  | .hbm, ⟨15, _⟩ => ⟨S2x128x128, .i32⟩
  | .hbm, ⟨16, _⟩ => ⟨S2x128x128, .i32⟩
  | .hbm, ⟨17, _⟩ => ⟨S_, .i32⟩
  | .hbm, ⟨18, _⟩ => ⟨S2x128x128, .i32⟩
  | .hbm, ⟨19, _⟩ => ⟨S2x128x128, .i32⟩
  | .hbm, ⟨20, _⟩ => ⟨S2x128x128, .i32⟩
  | .hbm, ⟨21, _⟩ => ⟨S_, .i32⟩
  | .hbm, ⟨22, _⟩ => ⟨S2x128x128, .i32⟩
  | .hbm, ⟨23, _⟩ => ⟨S2x128x128, .i1⟩
  | .hbm, ⟨24, _⟩ => ⟨S_, .i32⟩
  | .hbm, ⟨25, _⟩ => ⟨S2x128x128, .i32⟩
  | .hbm, ⟨26, _⟩ => ⟨S2x128x128, .i1⟩
  | .hbm, ⟨27, _⟩ => ⟨S2x128x128, .i1⟩
  | .hbm, ⟨28, _⟩ => ⟨S_, .i32⟩
  | .hbm, ⟨29, _⟩ => ⟨S2x128x128, .i32⟩
  | .hbm, ⟨30, _⟩ => ⟨S2x128x128, .i32⟩
  | .hbm, ⟨31, _⟩ => ⟨S_, .i32⟩
  | .hbm, ⟨32, _⟩ => ⟨S2x128x128, .i32⟩
  | .hbm, ⟨33, _⟩ => ⟨S2x128x128, .i32⟩
  | .hbm, ⟨34, _⟩ => ⟨S2x128x128, .i32⟩
  | .hbm, ⟨35, _⟩ => ⟨S2x128x128, .i32⟩
  | .hbm, ⟨36, _⟩ => ⟨S_, .i32⟩
  | .hbm, ⟨37, _⟩ => ⟨S2x128x128, .i32⟩
  | .hbm, ⟨38, _⟩ => ⟨S2x128x128, .i32⟩
  | .hbm, ⟨39, _⟩ => ⟨S_, .i32⟩
  | .hbm, ⟨40, _⟩ => ⟨S2x128x128, .i32⟩
  | .hbm, ⟨41, _⟩ => ⟨S2x128x128, .i32⟩
  | .hbm, ⟨42, _⟩ => ⟨S_, .i32⟩
  | .hbm, ⟨43, _⟩ => ⟨S_, .i32⟩
  | .hbm, ⟨44, _⟩ => ⟨S2x128x128, .i32⟩
  | .hbm, ⟨45, _⟩ => ⟨S2x128x128, .i32⟩
  | .hbm, ⟨46, _⟩ => ⟨S1x32768, .i32⟩
  | .hbm, ⟨47, _⟩ => ⟨S16x384, .f32⟩
  | .local _ .vmem, ⟨0, _⟩ => ⟨S16x2048, .f32⟩
  | .local _ .vmem, ⟨1, _⟩ => ⟨S16x2048, .f32⟩
  | .local _ .vmem, ⟨2, _⟩ => ⟨S16x128, .f32⟩
  | .local _ .vmem, ⟨3, _⟩ => ⟨S1x2048, .i32⟩
  | .local _ .vmem, ⟨4, _⟩ => ⟨S1x2048, .i32⟩
  | .local _ .vmem, ⟨5, _⟩ => ⟨S16x384, .f32⟩
  | _, _ => ⟨S16x2x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_5 : Ref sig .tc := ⟨.hbm, 28, rfl⟩
abbrev main_v20 : Ref sig .tc := ⟨.hbm, 29, rfl⟩
abbrev main_v21 : Ref sig .tc := ⟨.hbm, 30, rfl⟩
abbrev main_c_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_7 : Ref sig .tc := ⟨.hbm, 36, rfl⟩
abbrev main_v26 : Ref sig .tc := ⟨.hbm, 37, rfl⟩
abbrev main_v27 : Ref sig .tc := ⟨.hbm, 38, rfl⟩
abbrev main_c_8 : Ref sig .tc := ⟨.hbm, 39, rfl⟩
abbrev main_v28 : Ref sig .tc := ⟨.hbm, 40, rfl⟩
abbrev main_v29 : Ref sig .tc := ⟨.hbm, 41, rfl⟩
abbrev main_c_9 : Ref sig .tc := ⟨.hbm, 42, rfl⟩
abbrev main_call0_v0 : Ref sig .tc := ⟨.hbm, 43, rfl⟩
abbrev main_call0_v1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RefRelIdeal.lean ====
abbrev S16x2x128x128 : Shape := ⟨4, ![16, 2, 128, 128]⟩
abbrev S16x1x128 : Shape := ⟨3, ![16, 1, 128]⟩
abbrev S_ : Shape := ⟨0, ![]⟩
abbrev S16x257 : Shape := ⟨2, ![16, 257]⟩
abbrev S16 : Shape := ⟨1, ![16]⟩
abbrev S2x128x128 : Shape := ⟨3, ![2, 128, 128]⟩
abbrev S2x128x128x1 : Shape := ⟨4, ![2, 128, 128, 1]⟩
abbrev S16x1x1x1 : Shape := ⟨4, ![16, 1, 1, 1]⟩
abbrev S16x1 : Shape := ⟨2, ![16, 1]⟩
abbrev S16x1x1 : Shape := ⟨3, ![16, 1, 1]⟩
abbrev S16x126 : Shape := ⟨2, ![16, 126]⟩
abbrev S16x384 : Shape := ⟨2, ![16, 384]⟩

abbrev nBuf : Space → Nat
  | .hbm => 91
  | .vmem => 0
  | .smem => 0
  | _ => 0

abbrev bufTy : (tb : Table) → Fin (tcTables nBuf tb) → BufTy
  | .hbm, ⟨0, _⟩ => ⟨S16x2x128x128, .f32⟩
  | .hbm, ⟨1, _⟩ => ⟨S16x1x128, .f32⟩
  | .hbm, ⟨2, _⟩ => ⟨S_, .f32⟩
  | .hbm, ⟨3, _⟩ => ⟨S16x257, .f32⟩
  | .hbm, ⟨4, _⟩ => ⟨S_, .f32⟩
  | .hbm, ⟨5, _⟩ => ⟨S16, .f32⟩
  | .hbm, ⟨6, _⟩ => ⟨S2x128x128, .i32⟩
  | .hbm, ⟨7, _⟩ => ⟨S_, .i32⟩
  | .hbm, ⟨8, _⟩ => ⟨S2x128x128, .i32⟩
  | .hbm, ⟨9, _⟩ => ⟨S2x128x128, .i32⟩
  | .hbm, ⟨10, _⟩ => ⟨S2x128x128, .i32⟩
  | .hbm, ⟨11, _⟩ => ⟨S2x128x128, .i32⟩
  | .hbm, ⟨12, _⟩ => ⟨S_, .i32⟩
  | .hbm, ⟨13, _⟩ => ⟨S2x128x128, .i32⟩
  | .hbm, ⟨14, _⟩ => ⟨S2x128x128, .i32⟩
  | .hbm, ⟨15, _⟩ => ⟨S_, .i32⟩
  | .hbm, ⟨16, _⟩ => ⟨S2x128x128, .i32⟩
  | .hbm, ⟨17, _⟩ => ⟨S2x128x128, .i32⟩
  | .hbm, ⟨18, _⟩ => ⟨S2x128x128, .i32⟩
  | .hbm, ⟨19, _⟩ => ⟨S_, .i32⟩
  | .hbm, ⟨20, _⟩ => ⟨S2x128x128, .i32⟩
  | .hbm, ⟨21, _⟩ => ⟨S2x128x128, .i32⟩
  | .hbm, ⟨22, _⟩ => ⟨S2x128x128, .i32⟩
  | .hbm, ⟨23, _⟩ => ⟨S_, .i32⟩
  | .hbm, ⟨24, _⟩ => ⟨S2x128x128, .i32⟩
  | .hbm, ⟨25, _⟩ => ⟨S2x128x128, .i1⟩
  | .hbm, ⟨26, _⟩ => ⟨S_, .i32⟩
  | .hbm, ⟨27, _⟩ => ⟨S2x128x128, .i32⟩
  | .hbm, ⟨28, _⟩ => ⟨S2x128x128, .i1⟩
  | .hbm, ⟨29, _⟩ => ⟨S2x128x128, .i1⟩
  | .hbm, ⟨30, _⟩ => ⟨S_, .i32⟩
  | .hbm, ⟨31, _⟩ => ⟨S2x128x128, .i32⟩
  | .hbm, ⟨32, _⟩ => ⟨S2x128x128, .i32⟩
  | .hbm, ⟨33, _⟩ => ⟨S_, .i32⟩
  | .hbm, ⟨34, _⟩ => ⟨S2x128x128, .i32⟩
  | .hbm, ⟨35, _⟩ => ⟨S2x128x128, .i32⟩
  | .hbm, ⟨36, _⟩ => ⟨S2x128x128, .i32⟩
  | .hbm, ⟨37, _⟩ => ⟨S2x128x128, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S2x128x128, .i32⟩
  | .hbm, ⟨42, _⟩ => ⟨S2x128x128, .i32⟩
  | .hbm, ⟨43, _⟩ => ⟨S_, .i32⟩
  | .hbm, ⟨44, _⟩ => ⟨S2x128x128, .i32⟩
  | .hbm, ⟨45, _⟩ => ⟨S2x128x128, .i32⟩
  | .hbm, ⟨46, _⟩ => ⟨S_, .i32⟩
  | .hbm, ⟨47, _⟩ => ⟨S2x128x128, .i32⟩
  | .hbm, ⟨48, _⟩ => ⟨S2x128x128, .i32⟩
  | .hbm, ⟨49, _⟩ => ⟨S_, .i32⟩
  | .hbm, ⟨50, _⟩ => ⟨S2x128x128, .i32⟩
  | .hbm, ⟨51, _⟩ => ⟨S2x128x128, .i1⟩
  | .hbm, ⟨52, _⟩ => ⟨S_, .i32⟩
  | .hbm, ⟨53, _⟩ => ⟨S2x128x128, .i32⟩
  | .hbm, ⟨54, _⟩ => ⟨S2x128x128, .i32⟩
  | .hbm, ⟨55, _⟩ => ⟨S2x128x128, .i32⟩
  | .hbm, ⟨56, _⟩ => ⟨S2x128x128x1, .i32⟩
  | .hbm, ⟨57, _⟩ => ⟨S16x2x128x128, .f32⟩
  | .hbm, ⟨58, _⟩ => ⟨S16x1x1x1, .f32⟩
  | .hbm, ⟨59, _⟩ => ⟨S16x2x128x128, .i1⟩
  | .hbm, ⟨60, _⟩ => ⟨S16x2x128x128, .f32⟩
  | .hbm, ⟨61, _⟩ => ⟨S16x2x128x128, .f32⟩
  | .hbm, ⟨62, _⟩ => ⟨S16x1, .f32⟩
  | .hbm, ⟨63, _⟩ => ⟨S16, .f32⟩
  | .hbm, ⟨64, _⟩ => ⟨S16x1x1, .f32⟩
  | .hbm, ⟨65, _⟩ => ⟨S16x1x128, .f32⟩
  | .hbm, ⟨66, _⟩ => ⟨S_, .f32⟩
  | .hbm, ⟨67, _⟩ => ⟨S16, .f32⟩
  | .hbm, ⟨68, _⟩ => ⟨S16x1x1, .f32⟩
  | .hbm, ⟨69, _⟩ => ⟨S_, .f32⟩
  | .hbm, ⟨70, _⟩ => ⟨S16, .f32⟩
  | .hbm, ⟨71, _⟩ => ⟨S16x1, .f32⟩
  | .hbm, ⟨72, _⟩ => ⟨S_, .f32⟩
  | .hbm, ⟨73, _⟩ => ⟨S16x257, .f32⟩
  | .hbm, ⟨74, _⟩ => ⟨S_, .f32⟩
  | .hbm, ⟨75, _⟩ => ⟨S16x2x128x128, .f32⟩
  | .hbm, ⟨76, _⟩ => ⟨S16x2x128x128, .f32⟩
  | .hbm, ⟨77, _⟩ => ⟨S16x2x128x128, .f32⟩
  | .hbm, ⟨78, _⟩ => ⟨S_, .f32⟩
  | .hbm, ⟨79, _⟩ => ⟨S16, .f32⟩
  | .hbm, ⟨80, _⟩ => ⟨S16x1x1x1, .f32⟩
  | .hbm, ⟨81, _⟩ => ⟨S_, .f32⟩
  | .hbm, ⟨82, _⟩ => ⟨S16, .f32⟩
  | .hbm, ⟨83, _⟩ => ⟨S_, .f32⟩
  | .hbm, ⟨84, _⟩ => ⟨S16x257, .f32⟩
  | .hbm, ⟨85, _⟩ => ⟨S16x257, .f32⟩
  | .hbm, ⟨86, _⟩ => ⟨S16x257, .f32⟩
  | .hbm, ⟨87, _⟩ => ⟨S16x1, .f32⟩
  | .hbm, ⟨88, _⟩ => ⟨S_, .f32⟩
  | .hbm, ⟨89, _⟩ => ⟨S16x126, .f32⟩
  | .hbm, ⟨90, _⟩ => ⟨S16x384, .f32⟩
  | _, _ => ⟨S16x2x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_c_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_8 : Ref sig .tc := ⟨.hbm, 38, rfl⟩
abbrev main_c_9 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_c_10 : Ref sig .tc := ⟨.hbm, 46, rfl⟩
abbrev main_v27 : Ref sig .tc := ⟨.hbm, 47, rfl⟩
abbrev main_v28 : Ref sig .tc := ⟨.hbm, 48, rfl⟩
abbrev main_c_11 : Ref sig .tc := ⟨.hbm, 49, rfl⟩
abbrev main_v29 : Ref sig .tc := ⟨.hbm, 50, rfl⟩
abbrev main_v30 : Ref sig .tc := ⟨.hbm, 51, rfl⟩
abbrev main_c_12 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37_1 : Ref sig .tc := ⟨.hbm, 59, rfl⟩
abbrev main_call1_v1 : Ref sig .tc := ⟨.hbm, 60, rfl⟩
abbrev main_v37_0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩
abbrev main_v43 : Ref sig .tc := ⟨.hbm, 68, rfl⟩
abbrev main_cst_14 : Ref sig .tc := ⟨.hbm, 69, rfl⟩
abbrev main_v44 : Ref sig .tc := ⟨.hbm, 70, rfl⟩
abbrev main_v45 : Ref sig .tc := ⟨.hbm, 71, rfl⟩
abbrev main_cst_15 : Ref sig .tc := ⟨.hbm, 72, rfl⟩
abbrev main_v46 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_v47_0 : Ref sig .tc := ⟨.hbm, 77, rfl⟩
abbrev main_call2_cst_0 : Ref sig .tc := ⟨.hbm, 78, rfl⟩
abbrev main_call2_v3 : Ref sig .tc := ⟨.hbm, 79, rfl⟩
abbrev main_v47_1 : Ref sig .tc := ⟨.hbm, 80, rfl⟩
abbrev main_cst_16 : Ref sig .tc := ⟨.hbm, 81, rfl⟩
abbrev main_v48 : Ref sig .tc := ⟨.hbm, 82, rfl⟩
abbrev main_cst_17 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_18 : Ref sig .tc := ⟨.hbm, 88, rfl⟩
abbrev main_v53 : Ref sig .tc := ⟨.hbm, 89, rfl⟩
abbrev main_v54 : Ref sig .tc := ⟨.hbm, 90, rfl⟩

abbrev nD : Nat := 1
abbrev τ : Topo := Topo.v7x

variable {F : FTy → Type} [FloatOps F]
-- ==== KernelHead.lean ====
abbrev S8192x1024 : Shape := ⟨2, ![8192, 1024]⟩
abbrev S1x1024 : Shape := ⟨2, ![1, 1024]⟩
abbrev S1024 : Shape := ⟨1, ![1024]⟩
abbrev S8x1024 : Shape := ⟨2, ![8, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8x1024, .f32⟩
  | .hbm, ⟨10, _⟩ => ⟨S8192x1024, .bf16⟩
  | .hbm, ⟨11, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S512x1024, .bf16⟩
  | .local _ .vmem, ⟨13, _⟩ => ⟨S512x1024, .bf16⟩
  | .local _ .vmem, ⟨14, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefHeadIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x1024 : Shape := ⟨2, ![8, 1024]⟩
abbrev S8x128 : Shape := ⟨2, ![8, 128]⟩

abbrev nBuf : Space → Nat
  | .hbm => 141
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024, .f32⟩
  | 4 => ⟨S1024, .f32⟩
  | 5 => ⟨S8192x1024, .f32⟩
  | 6 => ⟨S_, .f32⟩
  | 7 => ⟨S8192x1024, .f32⟩
  | 8 => ⟨S8192x1024, .f32⟩
  | 9 => ⟨S_, .f32⟩
  | 10 => ⟨S1x1024, .f32⟩
  | 11 => ⟨S1x1024, .f32⟩
  | 12 => ⟨S8192x1024, .f32⟩
  | 13 => ⟨S8192x1024, .f32⟩
  | 14 => ⟨S8192x1024, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S_, .f32⟩
  | 28 => ⟨S8192, .f32⟩
  | 29 => ⟨S8192x1, .f32⟩
  | 30 => ⟨S_, .f32⟩
  | 31 => ⟨S8192x1, .f32⟩
  | 32 => ⟨S8192x1, .f32⟩
  | 33 => ⟨S8192x1024, .f32⟩
  | 34 => ⟨S8192x1024, .f32⟩
  | 35 => ⟨S_, .f32⟩
  | 36 => ⟨S8192x1, .f32⟩
  | 37 => ⟨S8192x1, .f32⟩
  | 38 => ⟨S8192x1, .f32⟩
  | 39 => ⟨S8192x1, .f32⟩
  | 40 => ⟨S_, .f32⟩
  | 41 => ⟨S8192x1, .f32⟩
  | 42 => ⟨S8192x1, .f32⟩
  | 43 => ⟨S8192x1024, .f32⟩
  | 44 => ⟨S8192x1024, .f32⟩
  | 45 => ⟨S1x1024, .f32⟩
  | 46 => ⟨S8192x1024, .f32⟩
  | 47 => ⟨S8192x1024, .f32⟩
  | 48 => ⟨S1x1024, .f32⟩
  | 49 => ⟨S8192x1024, .f32⟩
  | 50 => ⟨S8192x1024, .f32⟩
  | 51 => ⟨S8192x1024, .f32⟩
  | 52 => ⟨S8192x1024, .f32⟩
  | 53 => ⟨S_, .f32⟩
  | 54 => ⟨S8192x1024, .f32⟩
  | 55 => ⟨S8192x1024, .f32⟩
  | 56 => ⟨S_, .f32⟩
  | 57 => ⟨S8192, .f32⟩
  | 58 => ⟨S_, .f32⟩
  | 59 => ⟨S8192, .f32⟩
  | 60 => ⟨S8192, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S8192, .f32⟩
  | 69 => ⟨S_, .f32⟩
  | 70 => ⟨S8192, .f32⟩
  | 71 => ⟨S8192, .f32⟩
  | 72 => ⟨S8192x1024, .f32⟩
  | 73 => ⟨S8192x1024, .f32⟩
  | 74 => ⟨S_, .f32⟩
  | 75 => ⟨S1024, .f32⟩
  | 76 => ⟨S1x1024, .f32⟩
  | 77 => ⟨S_, .f32⟩
  | 78 => ⟨S1024, .f32⟩
  | 79 => ⟨S8192x1024, .f32⟩
  | 80 => ⟨S_, .f32⟩
  | 81 => ⟨S1024, .f32⟩
  | 82 => ⟨S1x1024, .f32⟩
  | 83 => ⟨S8192x1024, .f32⟩
  | 84 => ⟨S8192x1024, .f32⟩
  | 85 => ⟨S_, .f32⟩
  | 86 => ⟨S1024, .f32⟩
  | 87 => ⟨S8192x1024, .f32⟩
  | 88 => ⟨S_, .f32⟩
  | 89 => ⟨S8192, .f32⟩
  | 90 => ⟨S8192x1, .f32⟩
  | 91 => ⟨S8192x1024, .f32⟩
  | 92 => ⟨S8192x1024, .f32⟩
  | 93 => ⟨S8192x1, .f32⟩
  | 94 => ⟨S8192x1024, .f32⟩
  | 95 => ⟨S_, .f32⟩
  | 96 => ⟨S8192, .f32⟩
  | 97 => ⟨S8192x1, .f32⟩
  | 98 => ⟨S_, .f32⟩
  | 99 => ⟨S8192x1, .f32⟩
  | 100 => ⟨S8192x1, .f32⟩
  | 101 => ⟨S_, .f32⟩
  | 102 => ⟨S8192, .f32⟩
  | 103 => ⟨S8192x1024, .f32⟩
  | 104 => ⟨S8192x1024, .f32⟩
  | 105 => ⟨S8192x1024, .f32⟩
  | 106 => ⟨S_, .f32⟩
  | 107 => ⟨S8192, .f32⟩
  | 108 => ⟨S8192x1, .f32⟩
  | 109 => ⟨S8192x1024, .f32⟩
  | 110 => ⟨S8192x1, .f32⟩
  | 111 => ⟨S_, .f32⟩
  | 112 => ⟨S8192x1, .f32⟩
  | 113 => ⟨S8192x1, .f32⟩
  | 114 => ⟨S_, .f32⟩
  | 115 => ⟨S8192, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S_, .f32⟩
  | 122 => ⟨S1024, .f32⟩
  | 123 => ⟨S1x1024, .f32⟩
  | 124 => ⟨S_, .f32⟩
  | 125 => ⟨S8192x1024, .f32⟩
  | 126 => ⟨S8192x1024, .f32⟩
  | 127 => ⟨S1024, .f32⟩
  | _ => ⟨S8192x1024, .f32⟩

abbrev hbmTy0_1 (i : Nat) : BufTy := match i % 128 with
  | 0 => ⟨S_, .f32⟩
  | 1 => ⟨S1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S8x1024, .f32⟩
  | 11 => ⟨S8192x1024, .bf16⟩
  | 12 => ⟨S8x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_cst_13 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_cst_15 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_cst_17 : Ref sig .tc := ⟨.hbm, 77, rfl⟩
abbrev main_v53 : Ref sig .tc := ⟨.hbm, 78, rfl⟩
abbrev main_v54 : Ref sig .tc := ⟨.hbm, 79, rfl⟩
abbrev main_cst_18 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_19 : Ref sig .tc := ⟨.hbm, 85, rfl⟩
abbrev main_v59 : Ref sig .tc := ⟨.hbm, 86, rfl⟩
abbrev main_v60 : Ref sig .tc := ⟨.hbm, 87, rfl⟩
abbrev main_cst_20 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_21 : Ref sig .tc := ⟨.hbm, 95, rfl⟩
abbrev main_v67 : Ref sig .tc := ⟨.hbm, 96, rfl⟩
abbrev main_v68 : Ref sig .tc := ⟨.hbm, 97, rfl⟩
abbrev main_cst_22 : Ref sig .tc := ⟨.hbm, 98, rfl⟩
abbrev main_v69 : Ref sig .tc := ⟨.hbm, 99, rfl⟩
abbrev main_v70 : Ref sig .tc := ⟨.hbm, 100, rfl⟩
abbrev main_cst_23 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_24 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_25 : Ref sig .tc := ⟨.hbm, 111, rfl⟩
abbrev main_v79 : Ref sig .tc := ⟨.hbm, 112, rfl⟩
abbrev main_v80 : Ref sig .tc := ⟨.hbm, 113, rfl⟩
abbrev main_cst_26 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_27 : Ref sig .tc := ⟨.hbm, 121, rfl⟩
abbrev main_v87 : Ref sig .tc := ⟨.hbm, 122, rfl⟩
abbrev main_v88 : Ref sig .tc := ⟨.hbm, 123, rfl⟩
abbrev main_cst_28 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_29 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩

abbrev nD : Nat := 1
abbrev τ : Topo := Topo.v7x

variable {F : FTy → Type} [FloatOps F]
-- ==== KernelMid.lean ====
abbrev S8192x1024 : Shape := ⟨2, ![8192, 1024]⟩
abbrev S1x1024 : Shape := ⟨2, ![1, 1024]⟩
abbrev S1024 : Shape := ⟨1, ![1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8x1024, .f32⟩
  | .hbm, ⟨12, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S512x1024, .bf16⟩
  | .local _ .vmem, ⟨16, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RefMidIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x1024 : Shape := ⟨2, ![8, 1024]⟩

abbrev nBuf : Space → Nat
  | .hbm => 147
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024, .f32⟩
  | 4 => ⟨S1024, .f32⟩
  | 5 => ⟨S1x1024, .f32⟩
  | 6 => ⟨S8192x1024, .f32⟩
  | 7 => ⟨S8192x1024, .f32⟩
  | 8 => ⟨S_, .f32⟩
  | 9 => ⟨S8192x1024, .f32⟩
  | 10 => ⟨S8192x1024, .f32⟩
  | 11 => ⟨S_, .f32⟩
  | 12 => ⟨S1x1024, .f32⟩
  | 13 => ⟨S1x1024, .f32⟩
  | 14 => ⟨S8192x1024, .f32⟩
  | 15 => ⟨S8192x1024, .f32⟩
  | 16 => ⟨S8192x1024, .f32⟩
  | 17 => ⟨S_, .f32⟩
  | 18 => ⟨S1x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S8192x1024, .f32⟩
  | 38 => ⟨S8192x1024, .f32⟩
  | 39 => ⟨S_, .f32⟩
  | 40 => ⟨S8192x1, .f32⟩
  | 41 => ⟨S8192x1, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1024, .f32⟩
  | 48 => ⟨S8192x1024, .f32⟩
  | 49 => ⟨S1x1024, .f32⟩
  | 50 => ⟨S8192x1024, .f32⟩
  | 51 => ⟨S8192x1024, .f32⟩
  | 52 => ⟨S1x1024, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S_, .f32⟩
  | 59 => ⟨S1x1024, .f32⟩
  | 60 => ⟨S1x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S1024, .f32⟩
  | 68 => ⟨S1x1024, .f32⟩
  | 69 => ⟨S8192x1024, .f32⟩
  | 70 => ⟨S_, .f32⟩
  | 71 => ⟨S1024, .f32⟩
  | 72 => ⟨S1x1024, .f32⟩
  | 73 => ⟨S8192x1024, .f32⟩
  | 74 => ⟨S8192x1024, .f32⟩
  | 75 => ⟨S_, .f32⟩
  | 76 => ⟨S8192x1024, .f32⟩
  | 77 => ⟨S8192x1024, .f32⟩
  | 78 => ⟨S8192x1024, .f32⟩
  | 79 => ⟨S_, .f32⟩
  | 80 => ⟨S1024, .f32⟩
  | 81 => ⟨S1x1024, .f32⟩
  | 82 => ⟨S_, .f32⟩
  | 83 => ⟨S1024, .f32⟩
  | 84 => ⟨S8192x1024, .f32⟩
  | 85 => ⟨S_, .f32⟩
  | 86 => ⟨S1024, .f32⟩
  | 87 => ⟨S1x1024, .f32⟩
  | 88 => ⟨S8192x1024, .f32⟩
  | 89 => ⟨S8192x1024, .f32⟩
  | 90 => ⟨S_, .f32⟩
  | 91 => ⟨S1024, .f32⟩
  | 92 => ⟨S8192x1024, .f32⟩
  | 93 => ⟨S_, .f32⟩
  | 94 => ⟨S8192, .f32⟩
  | 95 => ⟨S8192x1, .f32⟩
  | 96 => ⟨S8192x1024, .f32⟩
  | 97 => ⟨S8192x1024, .f32⟩
  | 98 => ⟨S8192x1, .f32⟩
  | 99 => ⟨S8192x1024, .f32⟩
  | 100 => ⟨S_, .f32⟩
  | 101 => ⟨S8192, .f32⟩
  | 102 => ⟨S8192x1, .f32⟩
  | 103 => ⟨S_, .f32⟩
  | 104 => ⟨S8192x1, .f32⟩
  | 105 => ⟨S8192x1, .f32⟩
  | 106 => ⟨S_, .f32⟩
  | 107 => ⟨S8192, .f32⟩
  | 108 => ⟨S8192x1024, .f32⟩
  | 109 => ⟨S8192x1024, .f32⟩
  | 110 => ⟨S8192x1024, .f32⟩
  | 111 => ⟨S_, .f32⟩
  | 112 => ⟨S8192, .f32⟩
  | 113 => ⟨S8192x1, .f32⟩
  | 114 => ⟨S8192x1024, .f32⟩
  | 115 => ⟨S8192x1, .f32⟩
  | 116 => ⟨S_, .f32⟩
  | 117 => ⟨S8192x1, .f32⟩
  | 118 => ⟨S8192x1, .f32⟩
  | 119 => ⟨S_, .f32⟩
  | 120 => ⟨S8192, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S_, .f32⟩
  | 127 => ⟨S1024, .f32⟩
  | _ => ⟨S8192x1024, .f32⟩

abbrev hbmTy0_1 (i : Nat) : BufTy := match i % 128 with
  | 0 => ⟨S1x1024, .f32⟩
  | 1 => ⟨S_, .f32⟩
  | 2 => ⟨S8192x1024, .f32⟩
  | 3 => ⟨S8192x1024, .f32⟩
  | 4 => ⟨S1024, .f32⟩
  | 5 => ⟨S1024, .f32⟩
  | 6 => ⟨S1024, .f32⟩
  | 7 => ⟨S_, .f32⟩
  | 8 => ⟨S1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S8x1024, .f32⟩
  | 18 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_cst_15 : Ref sig .tc := ⟨.hbm, 82, rfl⟩
abbrev main_v58 : Ref sig .tc := ⟨.hbm, 83, rfl⟩
abbrev main_v59 : Ref sig .tc := ⟨.hbm, 84, rfl⟩
abbrev main_cst_16 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_cst_18 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_19 : Ref sig .tc := ⟨.hbm, 100, rfl⟩
abbrev main_v72 : Ref sig .tc := ⟨.hbm, 101, rfl⟩
abbrev main_v73 : Ref sig .tc := ⟨.hbm, 102, rfl⟩
abbrev main_cst_20 : Ref sig .tc := ⟨.hbm, 103, rfl⟩
abbrev main_v74 : Ref sig .tc := ⟨.hbm, 104, rfl⟩
abbrev main_v75 : Ref sig .tc := ⟨.hbm, 105, rfl⟩
abbrev main_cst_21 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_22 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_23 : Ref sig .tc := ⟨.hbm, 116, rfl⟩
abbrev main_v84 : Ref sig .tc := ⟨.hbm, 117, rfl⟩
abbrev main_v85 : Ref sig .tc := ⟨.hbm, 118, rfl⟩
abbrev main_cst_24 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_25 : Ref sig .tc := ⟨.hbm, 126, rfl⟩
abbrev main_v92 : Ref sig .tc := ⟨.hbm, 127, rfl⟩
abbrev main_v93 : Ref sig .tc := ⟨.hbm, 128, rfl⟩
abbrev main_cst_26 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_27 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩

abbrev nD : Nat := 1
abbrev τ : Topo := Topo.v7x

variable {F : FTy → Type} [FloatOps F]
-- ==== KernelAtf.lean ====
abbrev S8192x3072 : Shape := ⟨2, ![8192, 3072]⟩
abbrev S16x257 : Shape := ⟨2, ![16, 257]⟩
abbrev S_ : Shape := ⟨0, ![]⟩
abbrev S16 : Shape := ⟨1, ![16]⟩
abbrev S2x128x128 : Shape := ⟨3, ![2, 128, 128]⟩
abbrev S2x128x128x1 : Shape := ⟨4, ![2, 128, 128, 1]⟩
abbrev S16x2x128x128 : Shape := ⟨4, ![16, 2, 128, 128]⟩
abbrev S16x1x1x1 : Shape := ⟨4, ![16, 1, 1, 1]⟩
abbrev S16x1 : Shape := ⟨2, ![16, 1]⟩
abbrev S16x1x1 : Shape := ⟨3, ![16, 1, 1]⟩
abbrev S16x1x128 : Shape := ⟨3, ![16, 1, 128]⟩
abbrev S8192x1024 : Shape := ⟨2, ![8192, 1024]⟩
abbrev S256x128 : Shape := ⟨2, ![256, 128]⟩
abbrev S2x2x128x128 : Shape := ⟨4, ![2, 2, 128, 128]⟩
abbrev S2x1x128 : Shape := ⟨3, ![2, 1, 128]⟩
abbrev S512x768 : Shape := ⟨2, ![512, 768]⟩
abbrev S1x2x128x128 : Shape := ⟨4, ![1, 2, 128, 128]⟩
abbrev S1x1x128 : Shape := ⟨3, ![1, 1, 128]⟩
abbrev S1x128 : Shape := ⟨2, ![1, 128]⟩
abbrev S256x768 : Shape := ⟨2, ![256, 768]⟩
abbrev S128x128 : Shape := ⟨2, ![128, 128]⟩
abbrev S1x128x128 : Shape := ⟨3, ![1, 128, 128]⟩
abbrev S128x768 : Shape := ⟨2, ![128, 768]⟩
abbrev S768x128 : Shape := ⟨2, ![768, 128]⟩
abbrev S1x768 : Shape := ⟨2, ![1, 768]⟩
abbrev S256 : Shape := ⟨1, ![256]⟩
abbrev S256x1 : Shape := ⟨2, ![256, 1]⟩

abbrev nBuf : Space → Nat
  | .hbm => 65
  | .vmem => 21
  | .smem => 0
  | _ => 0

abbrev bufTy : (tb : Table) → Fin (tcTables nBuf tb) → BufTy
  | .hbm, ⟨0, _⟩ => ⟨S8192x3072, .bf16⟩
  | .hbm, ⟨1, _⟩ => ⟨S16x257, .f32⟩
  | .hbm, ⟨2, _⟩ => ⟨S_, .f32⟩
  | .hbm, ⟨3, _⟩ => ⟨S16, .f32⟩
  | .hbm, ⟨4, _⟩ => ⟨S2x128x128, .i32⟩
  | .hbm, ⟨5, _⟩ => ⟨S_, .i32⟩
  | .hbm, ⟨6, _⟩ => ⟨S2x128x128, .i32⟩
  | .hbm, ⟨7, _⟩ => ⟨S2x128x128, .i32⟩
  | .hbm, ⟨8, _⟩ => ⟨S2x128x128, .i32⟩
  | .hbm, ⟨9, _⟩ => ⟨S2x128x128, .i32⟩
  | .hbm, ⟨10, _⟩ => ⟨S_, .i32⟩
  | .hbm, ⟨11, _⟩ => ⟨S2x128x128, .i32⟩
  | .hbm, ⟨12, _⟩ => ⟨S2x128x128, .i32⟩
  | .hbm, ⟨13, _⟩ => ⟨S_, .i32⟩
  | .hbm, ⟨14, _⟩ => ⟨S2x128x128, .i32⟩
  | .hbm, ⟨15, _⟩ => ⟨S2x128x128, .i32⟩
  | .hbm, ⟨16, _⟩ => ⟨S2x128x128, .i32⟩
  | .hbm, ⟨17, _⟩ => ⟨S_, .i32⟩
  | .hbm, ⟨18, _⟩ => ⟨S2x128x128, .i32⟩
  | .hbm, ⟨19, _⟩ => ⟨S2x128x128, .i32⟩
  | .hbm, ⟨20, _⟩ => ⟨S2x128x128, .i32⟩
  | .hbm, ⟨21, _⟩ => ⟨S_, .i32⟩
  | .hbm, ⟨22, _⟩ => ⟨S2x128x128, .i32⟩
  | .hbm, ⟨23, _⟩ => ⟨S2x128x128, .i1⟩
  | .hbm, ⟨24, _⟩ => ⟨S_, .i32⟩
  | .hbm, ⟨25, _⟩ => ⟨S2x128x128, .i32⟩
  | .hbm, ⟨26, _⟩ => ⟨S2x128x128, .i1⟩
  | .hbm, ⟨27, _⟩ => ⟨S2x128x128, .i1⟩
  | .hbm, ⟨28, _⟩ => ⟨S_, .i32⟩
  | .hbm, ⟨29, _⟩ => ⟨S2x128x128, .i32⟩
  | .hbm, ⟨30, _⟩ => ⟨S2x128x128, .i32⟩
  | .hbm, ⟨31, _⟩ => ⟨S_, .i32⟩
  | .hbm, ⟨32, _⟩ => ⟨S2x128x128, .i32⟩
  | .hbm, ⟨33, _⟩ => ⟨S2x128x128, .i32⟩
  | .hbm, ⟨34, _⟩ => ⟨S2x128x128, .i32⟩
  | .hbm, ⟨35, _⟩ => ⟨S2x128x128, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S2x128x128, .i32⟩
  | .hbm, ⟨40, _⟩ => ⟨S2x128x128, .i32⟩
  | .hbm, ⟨41, _⟩ => ⟨S_, .i32⟩
  | .hbm, ⟨42, _⟩ => ⟨S2x128x128, .i32⟩
  | .hbm, ⟨43, _⟩ => ⟨S2x128x128, .i32⟩
  | .hbm, ⟨44, _⟩ => ⟨S_, .i32⟩
  | .hbm, ⟨45, _⟩ => ⟨S2x128x128, .i32⟩
  | .hbm, ⟨46, _⟩ => ⟨S2x128x128, .i32⟩
  | .hbm, ⟨47, _⟩ => ⟨S_, .i32⟩
  | .hbm, ⟨48, _⟩ => ⟨S2x128x128, .i32⟩
  | .hbm, ⟨49, _⟩ => ⟨S2x128x128, .i1⟩
  | .hbm, ⟨50, _⟩ => ⟨S_, .i32⟩
  | .hbm, ⟨51, _⟩ => ⟨S2x128x128, .i32⟩
  | .hbm, ⟨52, _⟩ => ⟨S2x128x128, .i32⟩
  | .hbm, ⟨53, _⟩ => ⟨S2x128x128, .i32⟩
  | .hbm, ⟨54, _⟩ => ⟨S2x128x128x1, .i32⟩
  | .hbm, ⟨55, _⟩ => ⟨S16x2x128x128, .f32⟩
  | .hbm, ⟨56, _⟩ => ⟨S16x1x1x1, .f32⟩
  | .hbm, ⟨57, _⟩ => ⟨S16x2x128x128, .i1⟩
  | .hbm, ⟨58, _⟩ => ⟨S16x2x128x128, .f32⟩
  | .hbm, ⟨59, _⟩ => ⟨S16x2x128x128, .f32⟩
  | .hbm, ⟨60, _⟩ => ⟨S16x1, .f32⟩
  | .hbm, ⟨61, _⟩ => ⟨S16, .f32⟩
  | .hbm, ⟨62, _⟩ => ⟨S16x1x1, .f32⟩
  | .hbm, ⟨63, _⟩ => ⟨S16x1x128, .f32⟩
  | .hbm, ⟨64, _⟩ => ⟨S8192x1024, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S2x2x128x128, .f32⟩
  | .local _ .vmem, ⟨15, _⟩ => ⟨S2x2x128x128, .f32⟩
  | .local _ .vmem, ⟨16, _⟩ => ⟨S2x1x128, .f32⟩
  | .local _ .vmem, ⟨17, _⟩ => ⟨S2x1x128, .f32⟩
  | .local _ .vmem, ⟨18, _⟩ => ⟨S256x128, .bf16⟩
  | .local _ .vmem, ⟨19, _⟩ => ⟨S256x128, .bf16⟩
  | .local _ .vmem, ⟨20, _⟩ => ⟨S512x768, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_c_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_7 : Ref sig .tc := ⟨.hbm, 36, rfl⟩
abbrev main_c_8 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v25 : Ref sig .tc := ⟨.hbm, 43, rfl⟩
abbrev main_c_9 : Ref sig .tc := ⟨.hbm, 44, rfl⟩
abbrev main_v26 : Ref sig .tc := ⟨.hbm, 45, rfl⟩
abbrev main_v27 : Ref sig .tc := ⟨.hbm, 46, rfl⟩
abbrev main_c_10 : Ref sig .tc := ⟨.hbm, 47, rfl⟩
abbrev main_v28 : Ref sig .tc := ⟨.hbm, 48, rfl⟩
abbrev main_v29 : Ref sig .tc := ⟨.hbm, 49, rfl⟩
abbrev main_c_11 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_v0 : Ref sig .tc := ⟨.hbm, 57, rfl⟩
abbrev main_call1_v1 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c8_i32 : BitVec 32 := 8#32
  let v2 : BitVec 32 := Scalar.addi c8_i32 arg0
  let c0_i32_1 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c16_i32 : BitVec 32 := 16#32
  let v2 : BitVec 32 := Scalar.addi c16_i32 arg0
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let v2 : BitVec 32 := Scalar.addi c16_i32 arg0
  let c0_i32_0 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c16_i32 : BitVec 32 := 16#32
  let v2 : BitVec 32 := Scalar.addi c16_i32 arg0
  let c0_i32_1 : BitVec 32 := 0#32
  ![v1.toNat, v2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelAtfIdeal.lean ====
variable {F : FTy → Type} [FloatOps F] [Named F]
def κ : String → Option EReal := fun
  | "mask" => some ⊥
  | _ => none
-- ==== RefAtfIdeal.lean ====
abbrev S8192x3072 : Shape := ⟨2, ![8192, 3072]⟩
abbrev S16x257 : Shape := ⟨2, ![16, 257]⟩
abbrev S8192x1024 : Shape := ⟨2, ![8192, 1024]⟩
abbrev S8192x16x64 : Shape := ⟨3, ![8192, 16, 64]⟩
abbrev S16x8192x64 : Shape := ⟨3, ![16, 8192, 64]⟩
abbrev S8192x8192 : Shape := ⟨2, ![8192, 8192]⟩
abbrev S_ : Shape := ⟨0, ![]⟩
abbrev S8192x8192x1 : Shape := ⟨3, ![8192, 8192, 1]⟩
abbrev S16x8192x8192 : Shape := ⟨3, ![16, 8192, 8192]⟩
abbrev S16x8192 : Shape := ⟨2, ![16, 8192]⟩
abbrev S16x8192x1 : Shape := ⟨3, ![16, 8192, 1]⟩

abbrev nBuf : Space → Nat
  | .hbm => 79
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S16x257, .f32⟩
  | .hbm, ⟨2, _⟩ => ⟨S8192x1024, .bf16⟩
  | .hbm, ⟨3, _⟩ => ⟨S8192x1024, .f32⟩
  | .hbm, ⟨4, _⟩ => ⟨S8192x16x64, .f32⟩
  | .hbm, ⟨5, _⟩ => ⟨S16x8192x64, .f32⟩
  | .hbm, ⟨6, _⟩ => ⟨S8192x1024, .bf16⟩
  | .hbm, ⟨7, _⟩ => ⟨S8192x1024, .f32⟩
  | .hbm, ⟨8, _⟩ => ⟨S8192x16x64, .f32⟩
  | .hbm, ⟨9, _⟩ => ⟨S16x8192x64, .f32⟩
  | .hbm, ⟨10, _⟩ => ⟨S8192x1024, .bf16⟩
  | .hbm, ⟨11, _⟩ => ⟨S8192x1024, .f32⟩
  | .hbm, ⟨12, _⟩ => ⟨S8192x16x64, .f32⟩
  | .hbm, ⟨13, _⟩ => ⟨S16x8192x64, .f32⟩
  | .hbm, ⟨14, _⟩ => ⟨S8192x8192, .i32⟩
  | .hbm, ⟨15, _⟩ => ⟨S8192x8192, .i32⟩
  | .hbm, ⟨16, _⟩ => ⟨S8192x8192, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S_, .i32⟩
  | .hbm, ⟨29, _⟩ => ⟨S8192x8192, .i32⟩
  | .hbm, ⟨30, _⟩ => ⟨S8192x8192, .i1⟩
  | .hbm, ⟨31, _⟩ => ⟨S_, .i32⟩
  | .hbm, ⟨32, _⟩ => ⟨S8192x8192, .i32⟩
  | .hbm, ⟨33, _⟩ => ⟨S8192x8192, .i32⟩
  | .hbm, ⟨34, _⟩ => ⟨S8192x8192, .i32⟩
  | .hbm, ⟨35, _⟩ => ⟨S8192x8192x1, .i32⟩
  | .hbm, ⟨36, _⟩ => ⟨S16x8192x8192, .f32⟩
  | .hbm, ⟨37, _⟩ => ⟨S_, .i32⟩
  | .hbm, ⟨38, _⟩ => ⟨S8192x8192, .i32⟩
  | .hbm, ⟨39, _⟩ => ⟨S8192x8192, .i32⟩
  | .hbm, ⟨40, _⟩ => ⟨S_, .i32⟩
  | .hbm, ⟨41, _⟩ => ⟨S8192x8192, .i32⟩
  | .hbm, ⟨42, _⟩ => ⟨S8192x8192, .i32⟩
  | .hbm, ⟨43, _⟩ => ⟨S8192x8192, .i32⟩
  | .hbm, ⟨44, _⟩ => ⟨S_, .i32⟩
  | .hbm, ⟨45, _⟩ => ⟨S8192x8192, .i32⟩
  | .hbm, ⟨46, _⟩ => ⟨S8192x8192, .i1⟩
  | .hbm, ⟨47, _⟩ => ⟨S_, .i32⟩
  | .hbm, ⟨48, _⟩ => ⟨S8192x8192, .i32⟩
  | .hbm, ⟨49, _⟩ => ⟨S8192x8192, .i1⟩
  | .hbm, ⟨50, _⟩ => ⟨S8192x8192, .i1⟩
  | .hbm, ⟨51, _⟩ => ⟨S_, .f32⟩
  | .hbm, ⟨52, _⟩ => ⟨S16x8192x64, .f32⟩
  | .hbm, ⟨53, _⟩ => ⟨S16x8192x64, .f32⟩
  | .hbm, ⟨54, _⟩ => ⟨S16x8192x8192, .f32⟩
  | .hbm, ⟨55, _⟩ => ⟨S16x8192x8192, .f32⟩
  | .hbm, ⟨56, _⟩ => ⟨S_, .f32⟩
  | .hbm, ⟨57, _⟩ => ⟨S_, .f32⟩
  | .hbm, ⟨58, _⟩ => ⟨S16x8192x8192, .i1⟩
  | .hbm, ⟨59, _⟩ => ⟨S16x8192x8192, .f32⟩
  | .hbm, ⟨60, _⟩ => ⟨S16x8192x8192, .f32⟩
  | .hbm, ⟨61, _⟩ => ⟨S_, .f32⟩
  | .hbm, ⟨62, _⟩ => ⟨S16x8192, .f32⟩
  | .hbm, ⟨63, _⟩ => ⟨S_, .f32⟩
  | .hbm, ⟨64, _⟩ => ⟨S16x8192, .f32⟩
  | .hbm, ⟨65, _⟩ => ⟨S16x8192, .f32⟩
  | .hbm, ⟨66, _⟩ => ⟨S16x8192x1, .f32⟩
  | .hbm, ⟨67, _⟩ => ⟨S16x8192x8192, .f32⟩
  | .hbm, ⟨68, _⟩ => ⟨S16x8192x8192, .f32⟩
  | .hbm, ⟨69, _⟩ => ⟨S16x8192x8192, .f32⟩
  | .hbm, ⟨70, _⟩ => ⟨S_, .f32⟩
  | .hbm, ⟨71, _⟩ => ⟨S16x8192, .f32⟩
  | .hbm, ⟨72, _⟩ => ⟨S16x8192x1, .f32⟩
  | .hbm, ⟨73, _⟩ => ⟨S16x8192x8192, .f32⟩
  | .hbm, ⟨74, _⟩ => ⟨S16x8192x8192, .f32⟩
  | .hbm, ⟨75, _⟩ => ⟨S16x8192x64, .f32⟩
  | .hbm, ⟨76, _⟩ => ⟨S8192x16x64, .f32⟩
  | .hbm, ⟨77, _⟩ => ⟨S8192x1024, .f32⟩
  | .hbm, ⟨78, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]
-- ==== KernelLnf.lean ====
abbrev S8192x1024 : Shape := ⟨2, ![8192, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefLnfIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== KernelMod.lean ====
abbrev S8192x1024 : Shape := ⟨2, ![8192, 1024]⟩
abbrev S1x1024 : Shape := ⟨2, ![1, 1024]⟩
abbrev S1024x4096 : Shape := ⟨2, ![1024, 4096]⟩
abbrev S1x1024x4096 : Shape := ⟨3, ![1, 1024, 4096]⟩
abbrev S8192x4096 : Shape := ⟨2, ![8192, 4096]⟩
abbrev S512x1024 : Shape := ⟨2, ![512, 1024]⟩
abbrev S512x4096 : Shape := ⟨2, ![512, 4096]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S1024x4096, .bf16⟩
  | .hbm, ⟨5, _⟩ => ⟨S1x1024x4096, .bf16⟩
  | .hbm, ⟨6, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024x4096, .bf16⟩
  | .local _ .vmem, ⟨3, _⟩ => ⟨S1x1024, .f32⟩
  | .local _ .vmem, ⟨4, _⟩ => ⟨S1x1024, .f32⟩
  | .local _ .vmem, ⟨5, _⟩ => ⟨S512x4096, .bf16⟩
  | .local _ .vmem, ⟨6, _⟩ => ⟨S512x4096, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefModIdeal.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192x4096 : Shape := ⟨2, ![8192, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x4096, .f32⟩
  | .hbm, ⟨12, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KernelFfd.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192x4096 : Shape := ⟨2, ![8192, 4096]⟩
abbrev S1x4096x1024 : Shape := ⟨3, ![1, 4096, 1024]⟩
abbrev S512x4096 : Shape := ⟨2, ![512, 4096]⟩
abbrev S512x1024 : Shape := ⟨2, ![512, 1024]⟩

abbrev nBuf : Space → Nat
  | .hbm => 19
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S1024x4096, .bf16⟩
  | .hbm, ⟨14, _⟩ => ⟨S8192x4096, .f32⟩
  | .hbm, ⟨15, _⟩ => ⟨S8192x4096, .bf16⟩
  | .hbm, ⟨16, _⟩ => ⟨S4096x1024, .bf16⟩
  | .hbm, ⟨17, _⟩ => ⟨S1x4096x1024, .bf16⟩
  | .hbm, ⟨18, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S512x1024, .f32⟩
  | .local _ .vmem, ⟨4, _⟩ => ⟨S512x1024, .f32⟩
  | .local _ .vmem, ⟨5, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefFfdIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192x4096 : Shape := ⟨2, ![8192, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== KernelWgt.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192x4096 : Shape := ⟨2, ![8192, 4096]⟩
abbrev S1x4096x1024 : Shape := ⟨3, ![1, 4096, 1024]⟩
abbrev S512x2048 : Shape := ⟨2, ![512, 2048]⟩
abbrev S512x1024 : Shape := ⟨2, ![512, 1024]⟩
abbrev S1x2048x1024 : Shape := ⟨3, ![1, 2048, 1024]⟩
abbrev S2048x1024 : Shape := ⟨2, ![2048, 1024]⟩

abbrev nBuf : Space → Nat
  | .hbm => 18
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S8192x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S1024x4096, .bf16⟩
  | .hbm, ⟨14, _⟩ => ⟨S8192x4096, .f32⟩
  | .hbm, ⟨15, _⟩ => ⟨S8192x4096, .bf16⟩
  | .hbm, ⟨16, _⟩ => ⟨S8192x1024, .bf16⟩
  | .hbm, ⟨17, _⟩ => ⟨S1x4096x1024, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v16 : BitVec 1 := Scalar.cmpi .eq arg2 c15_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg0.toNat, v0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefWgtIdeal.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192x4096 : Shape := ⟨2, ![8192, 4096]⟩
abbrev S4096x1024 : Shape := ⟨2, ![4096, 1024]⟩
abbrev S1x4096x1024 : Shape := ⟨3, ![1, 4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S8192x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x4096, .f32⟩
  | .hbm, ⟨13, _⟩ => ⟨S_, .f32⟩
  | .hbm, ⟨14, _⟩ => ⟨S4096x1024, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S1024x4096, .f32⟩
  | .hbm, ⟨21, _⟩ => ⟨S4096x1024, .f32⟩
  | .hbm, ⟨22, _⟩ => ⟨S4096x1024, .bf16⟩
  | .hbm, ⟨23, _⟩ => ⟨S1x4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelWgm.lean ====
abbrev S8192x1024 : Shape := ⟨2, ![8192, 1024]⟩
abbrev S1x1024 : Shape := ⟨2, ![1, 1024]⟩
abbrev S8192x4096 : Shape := ⟨2, ![8192, 4096]⟩
abbrev S1x1024x4096 : Shape := ⟨3, ![1, 1024, 4096]⟩
abbrev S512x1024 : Shape := ⟨2, ![512, 1024]⟩
abbrev S512x2048 : Shape := ⟨2, ![512, 2048]⟩
abbrev S1x1024x2048 : Shape := ⟨3, ![1, 1024, 2048]⟩
abbrev S1024x2048 : Shape := ⟨2, ![1024, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x4096, .bf16⟩
  | .hbm, ⟨4, _⟩ => ⟨S1x1024x4096, .bf16⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S1x1024, .f32⟩
  | .local _ .vmem, ⟨5, _⟩ => ⟨S1x1024, .f32⟩
  | .local _ .vmem, ⟨6, _⟩ => ⟨S1x1024x2048, .bf16⟩
  | .local _ .vmem, ⟨7, _⟩ => ⟨S1x1024x2048, .bf16⟩
  | .local _ .vmem, ⟨8, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v20 : BitVec 1 := Scalar.cmpi .eq arg2 c15_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg0.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefWgmIdeal.lean ====
abbrev S8192x1024 : Shape := ⟨2, ![8192, 1024]⟩
abbrev S1x1024 : Shape := ⟨2, ![1, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1x1024x4096 : Shape := ⟨3, ![1, 1024, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x4096, .bf16⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S1024x4096, .f32⟩
  | .hbm, ⟨13, _⟩ => ⟨S8192x4096, .f32⟩
  | .hbm, ⟨14, _⟩ => ⟨S8192x4096, .f32⟩
  | .hbm, ⟨15, _⟩ => ⟨S4096x1024, .f32⟩
  | .hbm, ⟨16, _⟩ => ⟨S1024x4096, .f32⟩
  | .hbm, ⟨17, _⟩ => ⟨S1024x4096, .bf16⟩
  | .hbm, ⟨18, _⟩ => ⟨S1x1024x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== KernelTil.lean ====
abbrev S16x257 : Shape := ⟨2, ![16, 257]⟩
abbrev S_ : Shape := ⟨0, ![]⟩
abbrev S16x384 : Shape := ⟨2, ![16, 384]⟩
abbrev S2x128x128 : Shape := ⟨3, ![2, 128, 128]⟩
abbrev S1x32768 : Shape := ⟨2, ![1, 32768]⟩
abbrev S16x32768 : Shape := ⟨2, ![16, 32768]⟩
abbrev S1x2048 : Shape := ⟨2, ![1, 2048]⟩
abbrev S16x2048 : Shape := ⟨2, ![16, 2048]⟩
abbrev S384x2048 : Shape := ⟨2, ![384, 2048]⟩

abbrev nBuf : Space → Nat
  | .hbm => 48
  | .vmem => 5
  | .smem => 0
  | _ => 0

abbrev bufTy : (tb : Table) → Fin (tcTables nBuf tb) → BufTy
  | .hbm, ⟨0, _⟩ => ⟨S16x257, .f32⟩
  | .hbm, ⟨1, _⟩ => ⟨S_, .f32⟩
  | .hbm, ⟨2, _⟩ => ⟨S_, .f32⟩
  | .hbm, ⟨3, _⟩ => ⟨S16x384, .f32⟩
  | .hbm, ⟨4, _⟩ => ⟨S2x128x128, .i32⟩
  | .hbm, ⟨5, _⟩ => ⟨S_, .i32⟩
  | .hbm, ⟨6, _⟩ => ⟨S2x128x128, .i32⟩
  | .hbm, ⟨7, _⟩ => ⟨S2x128x128, .i32⟩
  | .hbm, ⟨8, _⟩ => ⟨S2x128x128, .i32⟩
  | .hbm, ⟨9, _⟩ => ⟨S2x128x128, .i32⟩
  | .hbm, ⟨10, _⟩ => ⟨S_, .i32⟩
  | .hbm, ⟨11, _⟩ => ⟨S2x128x128, .i32⟩
  | .hbm, ⟨12, _⟩ => ⟨S2x128x128, .i32⟩
  | .hbm, ⟨13, _⟩ => ⟨S_, .i32⟩
  | .hbm, ⟨14, _⟩ => ⟨S2x128x128, .i32⟩
  | .hbm, ⟨15, _⟩ => ⟨S2x128x128, .i32⟩
  | .hbm, ⟨16, _⟩ => ⟨S2x128x128, .i32⟩
  | .hbm, ⟨17, _⟩ => ⟨S_, .i32⟩
  | .hbm, ⟨18, _⟩ => ⟨S2x128x128, .i32⟩
  | .hbm, ⟨19, _⟩ => ⟨S2x128x128, .i32⟩
  | .hbm, ⟨20, _⟩ => ⟨S2x128x128, .i32⟩
  | .hbm, ⟨21, _⟩ => ⟨S_, .i32⟩
  | .hbm, ⟨22, _⟩ => ⟨S2x128x128, .i32⟩
  | .hbm, ⟨23, _⟩ => ⟨S2x128x128, .i1⟩
  | .hbm, ⟨24, _⟩ => ⟨S_, .i32⟩
  | .hbm, ⟨25, _⟩ => ⟨S2x128x128, .i32⟩
  | .hbm, ⟨26, _⟩ => ⟨S2x128x128, .i1⟩
  | .hbm, ⟨27, _⟩ => ⟨S2x128x128, .i1⟩
  | .hbm, ⟨28, _⟩ => ⟨S_, .i32⟩
  | .hbm, ⟨29, _⟩ => ⟨S2x128x128, .i32⟩
  | .hbm, ⟨30, _⟩ => ⟨S2x128x128, .i32⟩
  | .hbm, ⟨31, _⟩ => ⟨S_, .i32⟩
  | .hbm, ⟨32, _⟩ => ⟨S2x128x128, .i32⟩
  | .hbm, ⟨33, _⟩ => ⟨S2x128x128, .i32⟩
  | .hbm, ⟨34, _⟩ => ⟨S2x128x128, .i32⟩
  | .hbm, ⟨35, _⟩ => ⟨S2x128x128, .i32⟩
  | .hbm, ⟨36, _⟩ => ⟨S_, .i32⟩
  | .hbm, ⟨37, _⟩ => ⟨S2x128x128, .i32⟩
  | .hbm, ⟨38, _⟩ => ⟨S2x128x128, .i32⟩
  | .hbm, ⟨39, _⟩ => ⟨S_, .i32⟩
  | .hbm, ⟨40, _⟩ => ⟨S2x128x128, .i32⟩
  | .hbm, ⟨41, _⟩ => ⟨S2x128x128, .i32⟩
  | .hbm, ⟨42, _⟩ => ⟨S_, .i32⟩
  | .hbm, ⟨43, _⟩ => ⟨S_, .i32⟩
  | .hbm, ⟨44, _⟩ => ⟨S2x128x128, .i32⟩
  | .hbm, ⟨45, _⟩ => ⟨S2x128x128, .i32⟩
  | .hbm, ⟨46, _⟩ => ⟨S1x32768, .i32⟩
  | .hbm, ⟨47, _⟩ => ⟨S16x32768, .f32⟩
  | .local _ .vmem, ⟨0, _⟩ => ⟨S16x384, .f32⟩
  | .local _ .vmem, ⟨1, _⟩ => ⟨S1x2048, .i32⟩
  | .local _ .vmem, ⟨2, _⟩ => ⟨S1x2048, .i32⟩
  | .local _ .vmem, ⟨3, _⟩ => ⟨S16x2048, .f32⟩
  | .local _ .vmem, ⟨4, _⟩ => ⟨S16x2048, .f32⟩
  | _, _ => ⟨S16x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_c_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_7 : Ref sig .tc := ⟨.hbm, 36, rfl⟩
abbrev main_v25 : Ref sig .tc := ⟨.hbm, 37, rfl⟩
abbrev main_v26 : Ref sig .tc := ⟨.hbm, 38, rfl⟩
abbrev main_c_8 : Ref sig .tc := ⟨.hbm, 39, rfl⟩
abbrev main_v27 : Ref sig .tc := ⟨.hbm, 40, rfl⟩
abbrev main_v28 : Ref sig .tc := ⟨.hbm, 41, rfl⟩
abbrev main_c_9 : Ref sig .tc := ⟨.hbm, 42, rfl⟩
abbrev main_call1_v0 : Ref sig .tc := ⟨.hbm, 43, rfl⟩
abbrev main_call1_v1 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefTilIdeal.lean ====
abbrev S16x257 : Shape := ⟨2, ![16, 257]⟩
abbrev S_ : Shape := ⟨0, ![]⟩
abbrev S16 : Shape := ⟨1, ![16]⟩
abbrev S2x128x128 : Shape := ⟨3, ![2, 128, 128]⟩
abbrev S2x128x128x1 : Shape := ⟨4, ![2, 128, 128, 1]⟩
abbrev S16x2x128x128 : Shape := ⟨4, ![16, 2, 128, 128]⟩
abbrev S16x1x1x1 : Shape := ⟨4, ![16, 1, 1, 1]⟩
abbrev S16x1 : Shape := ⟨2, ![16, 1]⟩
abbrev S16x1x1 : Shape := ⟨3, ![16, 1, 1]⟩
abbrev S16x1x128 : Shape := ⟨3, ![16, 1, 128]⟩
abbrev S16x32768 : Shape := ⟨2, ![16, 32768]⟩

abbrev nBuf : Space → Nat
  | .hbm => 64
  | .vmem => 0
  | .smem => 0
  | _ => 0

abbrev bufTy : (tb : Table) → Fin (tcTables nBuf tb) → BufTy
  | .hbm, ⟨0, _⟩ => ⟨S16x257, .f32⟩
  | .hbm, ⟨1, _⟩ => ⟨S_, .f32⟩
  | .hbm, ⟨2, _⟩ => ⟨S16, .f32⟩
  | .hbm, ⟨3, _⟩ => ⟨S2x128x128, .i32⟩
  | .hbm, ⟨4, _⟩ => ⟨S_, .i32⟩
  | .hbm, ⟨5, _⟩ => ⟨S2x128x128, .i32⟩
  | .hbm, ⟨6, _⟩ => ⟨S2x128x128, .i32⟩
  | .hbm, ⟨7, _⟩ => ⟨S2x128x128, .i32⟩
  | .hbm, ⟨8, _⟩ => ⟨S2x128x128, .i32⟩
  | .hbm, ⟨9, _⟩ => ⟨S_, .i32⟩
  | .hbm, ⟨10, _⟩ => ⟨S2x128x128, .i32⟩
  | .hbm, ⟨11, _⟩ => ⟨S2x128x128, .i32⟩
  | .hbm, ⟨12, _⟩ => ⟨S_, .i32⟩
  | .hbm, ⟨13, _⟩ => ⟨S2x128x128, .i32⟩
  | .hbm, ⟨14, _⟩ => ⟨S2x128x128, .i32⟩
  | .hbm, ⟨15, _⟩ => ⟨S2x128x128, .i32⟩
  | .hbm, ⟨16, _⟩ => ⟨S_, .i32⟩
  | .hbm, ⟨17, _⟩ => ⟨S2x128x128, .i32⟩
  | .hbm, ⟨18, _⟩ => ⟨S2x128x128, .i32⟩
  | .hbm, ⟨19, _⟩ => ⟨S2x128x128, .i32⟩
  | .hbm, ⟨20, _⟩ => ⟨S_, .i32⟩
  | .hbm, ⟨21, _⟩ => ⟨S2x128x128, .i32⟩
  | .hbm, ⟨22, _⟩ => ⟨S2x128x128, .i1⟩
  | .hbm, ⟨23, _⟩ => ⟨S_, .i32⟩
  | .hbm, ⟨24, _⟩ => ⟨S2x128x128, .i32⟩
  | .hbm, ⟨25, _⟩ => ⟨S2x128x128, .i1⟩
  | .hbm, ⟨26, _⟩ => ⟨S2x128x128, .i1⟩
  | .hbm, ⟨27, _⟩ => ⟨S_, .i32⟩
  | .hbm, ⟨28, _⟩ => ⟨S2x128x128, .i32⟩
  | .hbm, ⟨29, _⟩ => ⟨S2x128x128, .i32⟩
  | .hbm, ⟨30, _⟩ => ⟨S_, .i32⟩
  | .hbm, ⟨31, _⟩ => ⟨S2x128x128, .i32⟩
  | .hbm, ⟨32, _⟩ => ⟨S2x128x128, .i32⟩
  | .hbm, ⟨33, _⟩ => ⟨S2x128x128, .i32⟩
  | .hbm, ⟨34, _⟩ => ⟨S2x128x128, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S2x128x128, .i32⟩
  | .hbm, ⟨39, _⟩ => ⟨S2x128x128, .i32⟩
  | .hbm, ⟨40, _⟩ => ⟨S_, .i32⟩
  | .hbm, ⟨41, _⟩ => ⟨S2x128x128, .i32⟩
  | .hbm, ⟨42, _⟩ => ⟨S2x128x128, .i32⟩
  | .hbm, ⟨43, _⟩ => ⟨S_, .i32⟩
  | .hbm, ⟨44, _⟩ => ⟨S2x128x128, .i32⟩
  | .hbm, ⟨45, _⟩ => ⟨S2x128x128, .i32⟩
  | .hbm, ⟨46, _⟩ => ⟨S_, .i32⟩
  | .hbm, ⟨47, _⟩ => ⟨S2x128x128, .i32⟩
  | .hbm, ⟨48, _⟩ => ⟨S2x128x128, .i1⟩
  | .hbm, ⟨49, _⟩ => ⟨S_, .i32⟩
  | .hbm, ⟨50, _⟩ => ⟨S2x128x128, .i32⟩
  | .hbm, ⟨51, _⟩ => ⟨S2x128x128, .i32⟩
  | .hbm, ⟨52, _⟩ => ⟨S2x128x128, .i32⟩
  | .hbm, ⟨53, _⟩ => ⟨S2x128x128x1, .i32⟩
  | .hbm, ⟨54, _⟩ => ⟨S16x2x128x128, .f32⟩
  | .hbm, ⟨55, _⟩ => ⟨S16x1x1x1, .f32⟩
  | .hbm, ⟨56, _⟩ => ⟨S16x2x128x128, .i1⟩
  | .hbm, ⟨57, _⟩ => ⟨S16x2x128x128, .f32⟩
  | .hbm, ⟨58, _⟩ => ⟨S16x2x128x128, .f32⟩
  | .hbm, ⟨59, _⟩ => ⟨S16x1, .f32⟩
  | .hbm, ⟨60, _⟩ => ⟨S16, .f32⟩
  | .hbm, ⟨61, _⟩ => ⟨S16x1x1, .f32⟩
  | .hbm, ⟨62, _⟩ => ⟨S16x1x128, .f32⟩
  | .hbm, ⟨63, _⟩ => ⟨S16x32768, .f32⟩
  | _, _ => ⟨S16x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_5 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_7 : Ref sig .tc := ⟨.hbm, 35, rfl⟩
abbrev main_c_8 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v25 : Ref sig .tc := ⟨.hbm, 42, rfl⟩
abbrev main_c_9 : Ref sig .tc := ⟨.hbm, 43, rfl⟩
abbrev main_v26 : Ref sig .tc := ⟨.hbm, 44, rfl⟩
abbrev main_v27 : Ref sig .tc := ⟨.hbm, 45, rfl⟩
abbrev main_c_10 : Ref sig .tc := ⟨.hbm, 46, rfl⟩
abbrev main_v28 : Ref sig .tc := ⟨.hbm, 47, rfl⟩
abbrev main_v29 : Ref sig .tc := ⟨.hbm, 48, rfl⟩
abbrev main_c_11 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_v0 : Ref sig .tc := ⟨.hbm, 56, rfl⟩
abbrev main_call1_v1 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]
-- ==== KernelPrj.lean ====
abbrev S8192x1024 : Shape := ⟨2, ![8192, 1024]⟩
abbrev S1x1024 : Shape := ⟨2, ![1, 1024]⟩
abbrev S1024x3072 : Shape := ⟨2, ![1024, 3072]⟩
abbrev S3072 : Shape := ⟨1, ![3072]⟩
abbrev S1x1024x3072 : Shape := ⟨3, ![1, 1024, 3072]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x3072, .f32⟩
  | .hbm, ⟨4, _⟩ => ⟨S3072, .f32⟩
  | .hbm, ⟨5, _⟩ => ⟨S1024x3072, .bf16⟩
  | .hbm, ⟨6, _⟩ => ⟨S1x1024x3072, .bf16⟩
  | .hbm, ⟨7, _⟩ => ⟨S1x3072, .f32⟩
  | .hbm, ⟨8, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1x1024x3072, .bf16⟩
  | .local _ .vmem, ⟨3, _⟩ => ⟨S1x1024, .f32⟩
  | .local _ .vmem, ⟨4, _⟩ => ⟨S1x1024, .f32⟩
  | .local _ .vmem, ⟨5, _⟩ => ⟨S1x3072, .f32⟩
  | .local _ .vmem, ⟨6, _⟩ => ⟨S512x3072, .bf16⟩
  | .local _ .vmem, ⟨7, _⟩ => ⟨S512x3072, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefPrjIdeal.lean ====
abbrev S8192x1024 : Shape := ⟨2, ![8192, 1024]⟩
abbrev S1x1024 : Shape := ⟨2, ![1, 1024]⟩
abbrev S1024x3072 : Shape := ⟨2, ![1024, 3072]⟩
abbrev S3072 : Shape := ⟨1, ![3072]⟩
abbrev S_ : Shape := ⟨0, ![]⟩
abbrev S8192x3072 : Shape := ⟨2, ![8192, 3072]⟩
abbrev S1x3072 : Shape := ⟨2, ![1, 3072]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x3072, .f32⟩
  | .hbm, ⟨4, _⟩ => ⟨S3072, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x3072, .f32⟩
  | .hbm, ⟨13, _⟩ => ⟨S1x3072, .f32⟩
  | .hbm, ⟨14, _⟩ => ⟨S8192x3072, .f32⟩
  | .hbm, ⟨15, _⟩ => ⟨S8192x3072, .f32⟩
  | .hbm, ⟨16, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== KernelMds.lean ====
abbrev S8x1024 : Shape := ⟨2, ![8, 1024]⟩
abbrev S4x1024x768 : Shape := ⟨3, ![4, 1024, 768]⟩
abbrev S4x8x768 : Shape := ⟨3, ![4, 8, 768]⟩
abbrev S1x1024x768 : Shape := ⟨3, ![1, 1024, 768]⟩
abbrev S1x8x768 : Shape := ⟨3, ![1, 8, 768]⟩
abbrev S1024x768 : Shape := ⟨2, ![1024, 768]⟩
abbrev S8x768 : Shape := ⟨2, ![8, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x8x768, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x8x768, .f32⟩
  | .local _ .vmem, ⟨4, _⟩ => ⟨S1x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefMdsIdeal.lean ====
abbrev S8x1024 : Shape := ⟨2, ![8, 1024]⟩
abbrev S4x1024x768 : Shape := ⟨3, ![4, 1024, 768]⟩
abbrev S_ : Shape := ⟨0, ![]⟩
abbrev S4x768x8 : Shape := ⟨3, ![4, 768, 8]⟩
abbrev S4x8x768 : Shape := ⟨3, ![4, 8, 768]⟩

abbrev nBuf : Space → Nat
  | .hbm => 13
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S4x768x8, .f32⟩
  | .hbm, ⟨12, _⟩ => ⟨S4x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== KernelOut.lean ====
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1024x1024, .bf16⟩
  | .hbm, ⟨3, _⟩ => ⟨S1x1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefOutIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelUpb.lean ====
abbrev S1024x4096 : Shape := ⟨2, ![1024, 4096]⟩
abbrev S8192x4096 : Shape := ⟨2, ![8192, 4096]⟩
abbrev S1x1024x4096 : Shape := ⟨3, ![1, 1024, 4096]⟩
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S8192x4096, .bf16⟩
  | .hbm, ⟨2, _⟩ => ⟨S1024x4096, .bf16⟩
  | .hbm, ⟨3, _⟩ => ⟨S1x1024x4096, .bf16⟩
  | .hbm, ⟨4, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1024x1024, .f32⟩
  | .local _ .vmem, ⟨4, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefUpbIdeal.lean ====
abbrev S1024x4096 : Shape := ⟨2, ![1024, 4096]⟩
abbrev S8192x4096 : Shape := ⟨2, ![8192, 4096]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S8192x4096, .bf16⟩
  | .hbm, ⟨2, _⟩ => ⟨S_, .f32⟩
  | .hbm, ⟨3, _⟩ => ⟨S8192x1024, .f32⟩
  | .hbm, ⟨4, _⟩ => ⟨S8192x4096, .f32⟩
  | .hbm, ⟨5, _⟩ => ⟨S8192x4096, .f32⟩
  | .hbm, ⟨6, _⟩ => ⟨S8192x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelWtp.lean ====
abbrev S8192x1024 : Shape := ⟨2, ![8192, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg0.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefWtpIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelAdw.lean ====
abbrev S4x1024x768 : Shape := ⟨3, ![4, 1024, 768]⟩
abbrev S4096x768 : Shape := ⟨2, ![4096, 768]⟩
abbrev S1x4096x768 : Shape := ⟨3, ![1, 4096, 768]⟩
abbrev S512x768 : Shape := ⟨2, ![512, 768]⟩
abbrev S1x512x768 : Shape := ⟨3, ![1, 512, 768]⟩

abbrev nBuf : Space → Nat
  | .hbm => 13
  | .vmem => 16
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S1x4096x768, .f32⟩
  | .hbm, ⟨9, _⟩ => ⟨S4096x768, .f32⟩
  | .hbm, ⟨10, _⟩ => ⟨S4096x768, .f32⟩
  | .hbm, ⟨11, _⟩ => ⟨S4096x768, .f32⟩
  | .hbm, ⟨12, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S1x512x768, .f32⟩
  | .local _ .vmem, ⟨7, _⟩ => ⟨S1x512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdwIdeal.lean ====
abbrev S4x1024x768 : Shape := ⟨3, ![4, 1024, 768]⟩
abbrev S_ : Shape := ⟨0, ![]⟩
abbrev S4096x768 : Shape := ⟨2, ![4096, 768]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S4096x768, .f32⟩
  | .hbm, ⟨38, _⟩ => ⟨S4096x768, .f32⟩
  | .hbm, ⟨39, _⟩ => ⟨S4096x768, .f32⟩
  | .hbm, ⟨40, _⟩ => ⟨S4096x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelSum.lean ====
abbrev S8x592x128 : Shape := ⟨3, ![8, 592, 128]⟩
abbrev S592x128 : Shape := ⟨2, ![592, 128]⟩
abbrev S1x592x128 : Shape := ⟨3, ![1, 592, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x592x128, .f32⟩
  | .hbm, ⟨1, _⟩ => ⟨S592x128, .f32⟩
  | .local _ .vmem, ⟨0, _⟩ => ⟨S8x592x128, .f32⟩
  | .local _ .vmem, ⟨1, _⟩ => ⟨S592x128, .f32⟩
  | _, _ => ⟨S8x592x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x592x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S592x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RefSumIdeal.lean ====
abbrev S8x592x128 : Shape := ⟨3, ![8, 592, 128]⟩
abbrev S_ : Shape := ⟨0, ![]⟩
abbrev S592x128 : Shape := ⟨2, ![592, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x592x128, .f32⟩
  | .hbm, ⟨1, _⟩ => ⟨S_, .f32⟩
  | .hbm, ⟨2, _⟩ => ⟨S592x128, .f32⟩
  | _, _ => ⟨S8x592x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelAdl.lean ====
abbrev S2x128x1024 : Shape := ⟨3, ![2, 128, 1024]⟩
abbrev S8x1x128x1024 : Shape := ⟨4, ![8, 1, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x1x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S8x1x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RefAdlIdeal.lean ====
abbrev S2x128x1024 : Shape := ⟨3, ![2, 128, 1024]⟩
abbrev S8x1x128x1024 : Shape := ⟨4, ![8, 1, 128, 1024]⟩
abbrev S_ : Shape := ⟨0, ![]⟩
abbrev S1x128x1024 : Shape := ⟨3, ![1, 128, 1024]⟩
abbrev S128x1024 : Shape := ⟨2, ![128, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x1x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S8x1x128x1024, .f32⟩
  | .hbm, ⟨9, _⟩ => ⟨S_, .f32⟩
  | .hbm, ⟨10, _⟩ => ⟨S1x128x1024, .f32⟩
  | .hbm, ⟨11, _⟩ => ⟨S128x1024, .f32⟩
  | .hbm, ⟨12, _⟩ => ⟨S1x128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S1x128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S1x128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128x1024, .f32⟩
  | .hbm, ⟨50, _⟩ => ⟨S128x1024, .f32⟩
  | .hbm, ⟨51, _⟩ => ⟨S1x128x1024, .f32⟩
  | .hbm, ⟨52, _⟩ => ⟨S128x1024, .f32⟩
  | .hbm, ⟨53, _⟩ => ⟨S1x128x1024, .f32⟩
  | .hbm, ⟨54, _⟩ => ⟨S1x128x1024, .f32⟩
  | .hbm, ⟨55, _⟩ => ⟨S2x128x1024, .f32⟩
  | .hbm, ⟨56, _⟩ => ⟨S1x128x1024, .f32⟩
  | .hbm, ⟨57, _⟩ => ⟨S128x1024, .f32⟩
  | .hbm, ⟨58, _⟩ => ⟨S1x128x1024, .f32⟩
  | .hbm, ⟨59, _⟩ => ⟨S1x128x1024, .f32⟩
  | .hbm, ⟨60, _⟩ => ⟨S2x128x1024, .f32⟩
  | .hbm, ⟨61, _⟩ => ⟨S1x128x1024, .f32⟩
  | .hbm, ⟨62, _⟩ => ⟨S128x1024, .f32⟩
  | .hbm, ⟨63, _⟩ => ⟨S1x128x1024, .f32⟩
  | .hbm, ⟨64, _⟩ => ⟨S1x128x1024, .f32⟩
  | .hbm, ⟨65, _⟩ => ⟨S2x128x1024, .f32⟩
  | .hbm, ⟨66, _⟩ => ⟨S1x128x1024, .f32⟩
  | .hbm, ⟨67, _⟩ => ⟨S128x1024, .f32⟩
  | .hbm, ⟨68, _⟩ => ⟨S1x128x1024, .f32⟩
  | .hbm, ⟨69, _⟩ => ⟨S1x128x1024, .f32⟩
  | .hbm, ⟨70, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Proof.RowSums.lean ====
/-
  Eight rows of running sums.  Several of the kernels keep an `[8, 1024]` block of sums in an output's buffer: the first grid
  point clears it, and every point adds one row of column sums to some of its rows.  This module reads such a store at an
  element, over any program's buffers.
-/
module

public import Idealize.ShloMosaic.Lib.Pipeline.ReadBack
public import Idealize.ShloMosaic.Lib.Pipeline.ValueKit
public import Idealize.ShloMosaic.Lib.WritesUnit
public import Idealize.ShloMosaic.Lib.Pointwise

@[expose] public section

set_option maxRecDepth 16384

noncomputable section

open Idealize.ShloMosaic

namespace Cert.RowSums

/-- The block of sums, and one of its rows. -/
abbrev Sums : Shape := ⟨2, ![8, 1024]⟩
abbrev Row : Shape := ⟨2, ![1, 1024]⟩

variable {sig : RefSig} {κ : Kind} {sp : Space}

/-- After a store of the row `w` over row `r`, that row reads `w` and every other element reads what the earlier stores
    left. -/
theorem read_put_row (v : View sig κ sp Sums .f32) (f : v.ty.Contents (Elt Ideal)) (r : Nat)
    (inb : ∀ a, (![r, 0] : Fin 2 → Nat) a + (![1, 1024] : Fin 2 → Nat) a ≤ Sums.size a)
    (w : FVec Ideal Row .f32) (L : List (View.Piece (Elt Ideal) Sums .f32)) (y : Sums.Idx) :
    v.read (Elt Ideal) (v.writes (Elt Ideal) f ((⟨Rect.unit ![r, 0] ![1, 1024] inb, w⟩ : View.Piece (Elt Ideal) Sums .f32) :: L)) y
      = if (y 0).val = r then w (ix2 0 (y 1)) else v.read (Elt Ideal) (v.writes (Elt Ideal) f L) y := by
  split_ifs with h
  · exact View.read_writes_cons_rows_of_mem (d := ![8, 1024]) v f inb _ L y (ix2 0 (y 1)) rfl (by simpa using h) rfl
  · exact View.read_writes_cons_rows_of_not_mem (d := ![8, 1024]) (W := 1) v f inb _ L y rfl rfl (by omega)

/-- The same of the contents that covering stores leave. -/
theorem canon_put_row (r : Nat) (inb : ∀ a, (![r, 0] : Fin 2 → Nat) a + (![1, 1024] : Fin 2 → Nat) a ≤ Sums.size a)
    (w : FVec Ideal Row .f32) (L : List (View.Piece (Elt Ideal) Sums .f32)) (y : Sums.Idx) :
    View.canon ((⟨Rect.unit ![r, 0] ![1, 1024] inb, w⟩ : View.Piece (Elt Ideal) Sums .f32) :: L) y
      = if (y 0).val = r then w (ix2 0 (y 1)) else View.canon L y := by
  split_ifs with h
  · have hy : (Rect.unit (s := Sums) ![r, 0] ![1, 1024] inb).emb (ix2 0 (y 1)) = y := funext fun a => Fin.ext (by
      match a with
      | ⟨0, _⟩ => show r + 1 * 0 = (y 0).val; omega
      | ⟨1, _⟩ => show 0 + 1 * (y 1).val = (y 1).val; omega)
    have hc := View.canon_cons_emb (Val := Elt Ideal) (e := .f32) (Rect.unit (s := Sums) ![r, 0] ![1, 1024] inb) w L (ix2 0 (y 1))
    rw [hy] at hc
    exact hc
  · have hm : y ∉ (Rect.unit (s := Sums) ![r, 0] ![1, 1024] inb).set := by
      rw [Rect.mem_set_unit]
      intro hm
      have h0 := hm 0
      change r ≤ (y 0).val ∧ (y 0).val < r + 1 at h0
      omega
    exact View.canon_cons_of_not_mem (⟨Rect.unit ![r, 0] ![1, 1024] inb, w⟩ : View.Piece (Elt Ideal) Sums .f32) L hm

/-- A load of row `r`, at an element. -/
theorem ld_row (X : FVec Ideal Sums .f32) (r : Nat) (hr : r < 8)
    (inb : ∀ a, (![r, 0] : Fin 2 → Nat) a + (![1, 1024] : Fin 2 → Nat) a ≤ Sums.size a) (j : Fin 1024) :
    (View.ld (Val := Elt Ideal) (e' := .f32) X (Rect.unit ![r, 0] ![1, 1024] inb)) (ix2 0 j) = X (ix2 ⟨r, hr⟩ j) :=
  congrArg X (funext fun a => Fin.ext (by
    match a with
    | ⟨0, _⟩ => show r + 1 * 0 = r; omega
    | ⟨1, _⟩ => show 0 + 1 * j.val = j.val; omega))

end Cert.RowSums
-- ==== Proof.FirstKernel.lean ====
/-
  The gradient that reaches the step's input (`combine_final`): what the kernel's two arrays hold after its run, element by
  element, over its arguments.
-/
module

public import proofs.«01_k».proof.Proof.Gen.KernelFirstIdeal.Value
public import proofs.«01_k».proof.Proof.Gen.RefFirstIdeal.Read
public import proofs.«01_k».proof.Proof.RowSums

@[expose] public section

set_option maxRecDepth 16384

noncomputable section

open Idealize.ShloMosaic Idealize.ShloMosaic.TcCoe Idealize.SL.Sem

namespace Cert.KernelFirstIdeal.Sums

open Cert.KernelFirstIdeal Cert.KernelFirstIdeal.Gen Cert.RowSums

/-- What one block adds to the sums: row 3 the column sums of `du * x`, row 4 those of `du`. -/
def blockTerm (du x : FVec Ideal S512x1024 .f32) : FVec Ideal S8x1024 .f32 := fun y =>
  if (y 0).val = 4 then ∑ k : Fin 512, du (ix2 k (y 1))
  else if (y 0).val = 3 then ∑ k : Fin 512, du (ix2 k (y 1)) * x (ix2 k (y 1)) else 0

theorem blockTerm_3 (du x : FVec Ideal S512x1024 .f32) (y : S8x1024.Idx) (h : (y 0).val = 3) :
    blockTerm du x y = ∑ k : Fin 512, du (ix2 k (y 1)) * x (ix2 k (y 1)) :=
  (if_neg (by omega)).trans (if_pos h)

theorem blockTerm_4 (du x : FVec Ideal S512x1024 .f32) (y : S8x1024.Idx) (h : (y 0).val = 4) :
    blockTerm du x y = ∑ k : Fin 512, du (ix2 k (y 1)) :=
  if_pos h

theorem blockTerm_other (du x : FVec Ideal S512x1024 .f32) (y : S8x1024.Idx) (h3 : (y 0).val ≠ 3) (h4 : (y 0).val ≠ 4) :
    blockTerm du x y = 0 :=
  (if_neg h4).trans (if_neg h3)

theorem pay1_zero (j) : k0_pay1 (F := Ideal) j = 0 := by pointwise [k0_pay1]

theorem pay3_row (du x : FVec Ideal S512x1024 .f32) (v : FVec Ideal S1x1024 .f32) (j : Fin 1024) :
    k0_pay3 du x v (ix2 0 j) = v (ix2 0 j) + ∑ k : Fin 512, du (ix2 k j) * x (ix2 k j) := by
  pointwise [k0_pay3]

theorem pay4_row (du : FVec Ideal S512x1024 .f32) (v : FVec Ideal S1x1024 .f32) (j : Fin 1024) :
    k0_pay4 du v (ix2 0 j) = v (ix2 0 j) + ∑ k : Fin 512, du (ix2 k j) := by
  pointwise [k0_pay4]

theorem row_eq (y : S8x1024.Idx) (r : Nat) (hr : r < 8) (h : (y 0).val = r) : (ix2 ⟨r, hr⟩ (y 1) : S8x1024.Idx) = y :=
  funext fun a => Fin.ext (by
    match a with
    | ⟨0, _⟩ => exact h.symm
    | ⟨1, _⟩ => rfl)

/-- A point after the first adds its block's term to what the point before left. -/
theorem left_B (c : Dev nD) (i : grid0.Coords) (a1) (h1) (a2) (h2) (a3) (h3) (a4) (h4) (a5) (h5) (a6) (h6)
    (hc : ¬cond0_0 i) (x0 x1 : FVec Ideal S512x1024 .f32) (x2) (x3 : FVec Ideal S512x1024 .f32)
    (xo : FVec Ideal S8x1024 .f32) (y : S8x1024.Idx) :
    (out0_B_5 (F := Ideal) c i a1 h1 a2 h2 a3 h3 a4 h4 a5 h5 a6 h6 hc x0 x1 x2 x3 xo : FVec Ideal S8x1024 .f32) y
      = xo y + blockTerm x1 x3 y := by
  unfold out0_B_5
  frame_open
  frame_out
  erw [read_put_row, read_put_row, View.writes_nil, h6.read_unread, pay4_row, pay3_row, ld_row _ 4 (by decide), ld_row _ 3 (by decide)]
  unfold blockTerm
  split_ifs with h4 h3
  · rw [row_eq y 4 _ h4]
  · rw [row_eq y 3 _ h3]
  · rw [add_zero]

/-- The first point leaves its block's term. -/
theorem left_A (c : Dev nD) (i : grid0.Coords) (a1) (h1) (a2) (h2) (a3) (h3) (a4) (h4) (a5) (h5) (a6) (h6)
    (hc : cond0_0 i) (x0 x1 : FVec Ideal S512x1024 .f32) (x2) (x3 : FVec Ideal S512x1024 .f32) (y : S8x1024.Idx) :
    (out0_A_5 (F := Ideal) c i a1 h1 a2 h2 a3 h3 a4 h4 a5 h5 a6 h6 hc x0 x1 x2 x3 : FVec Ideal S8x1024 .f32) y
      = blockTerm x1 x3 y := by
  unfold out0_A_5
  frame_open
  simp (disch := decide) only [↓ View.readCov_skip, ↓ View.readCov_cons_toLoadRect, ↓ View.readCov_fill]
  frame_out
  erw [canon_put_row, canon_put_row, View.canon_cons_unit_lit' _ _ _ (by decide), pay4_row, pay3_row, ld_row _ 4 (by decide)]
  simp only [pay1_zero]
  unfold blockTerm
  split_ifs <;> simp

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, _)

/-- The gradient of the input, over the arguments: the reference's array. -/
theorem final_dx (c : Dev nD) : (dats m 0 c).arrAt 4 (cfgs 0).N
    = Cert.RefFirstIdeal.Read.val_main_v19 (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  have hp : (outsAt0 m c t.val t.isLt).1 = k0_pay2 (iblk m c 1 t) (iblk m c 0 t) (iblk m c 2 t) := by
    by_cases h : t.val % 16 = 0
    · rw [outsAt0_A m c t h]; frame_out
    · rw [outsAt0_B m c t h]; frame_out
  rw [hp, ← Cert.RefFirstIdeal.Read.val_main_v19_eq]
  pointwise [k0_pay2]
  refine Eq.trans ?_ (add_comm (G := EReal) _ _)
  blk_point [iblk, V, idx t]

theorem step_A (c : Dev nD) (t : Fin cfg0.N) (h : t.val % 16 = 0) (j : S8x1024.Idx) :
    ((outsAt0 m c t.val t.isLt).2 : FVec Ideal S8x1024 .f32) j = blockTerm (iblk m c 1 t) (iblk m c 3 t) j := by
  have h1 := congrArg Prod.snd (outsAt0_A m c t h)
  dsimp only at h1
  rw [h1]
  apply left_A

theorem step_B (c : Dev nD) (t : Fin cfg0.N) (h : ¬t.val % 16 = 0) (j : S8x1024.Idx) :
    ((outsAt0 m c t.val t.isLt).2 : FVec Ideal S8x1024 .f32) j
      = (outsAt0 m c (t.val - 1) (Nat.lt_of_le_of_lt (Nat.sub_le _ _) t.isLt)).2 j
        + blockTerm (iblk m c 1 t) (iblk m c 3 t) j := by
  rw [outsAt0_B m c t h]
  exact left_B ..

/-- The block of sums after the run, as a sum over the points. -/
theorem final_sums (c : Dev nD) : (dats m 0 c).arrAt 5 (cfgs 0).N
    = (fun j : S8x1024.Idx => ∑ p : Fin cfg0.N, blockTerm (iblk m c 1 p) (iblk m c 3 p) j) := by
  refine (dats m 0 c).arrAt_eq_of_after_last 5 t0_15 (by decide +kernel) _ fun j => ?_
  blk_simp
  rw [after0_5, Pipeline.eq_sum_fin_of_reset_step_apply_last (fun n h => (outsAt0 m c n h).2) 16 (fun _ => 0)
    (fun p j => blockTerm (iblk m c 1 p) (iblk m c 3 p) j) (fun t h j => (step_A m c t h j).trans (zero_add _).symm) (step_B m c)
    (le_of_eq N_0) t0_15 rfl j, zero_add]

/-- The same block is the reference's. -/
theorem final_rows (c : Dev nD) : (dats m 0 c).arrAt 5 (cfgs 0).N
    = Cert.RefFirstIdeal.Read.val_main_v32 (m ((c : Thread nD τ).loc main_arg0)) (m ((c : Thread nD τ).loc main_arg3)) := by
  funext j
  rw [final_sums]
  symm
  rw [← Cert.RefFirstIdeal.Read.val_main_v32_eq]
  concat_tiles i h
  case piece3 =>
    refine Eq.trans ?_ (Fin.sum_fin_congr fun p => blockTerm_3 _ _ j h).symm
    pointwise
    refine (Fin.sum_mul_add_congr fun s k hl => ?_).symm
    refine (mul_comm (G := EReal) _ _).trans ?_
    blk_point [iblk, V, idx s]
  case piece4 =>
    refine Eq.trans ?_ (Fin.sum_fin_congr fun p => blockTerm_4 _ _ j h).symm
    pointwise
    refine (Fin.sum_mul_add_congr fun s k hl => ?_).symm
    blk_point [iblk, V, idx s]
  all_goals
    refine Eq.trans ?_ (Fin.sum_fin_congr fun p => blockTerm_other _ _ j (by omega) (by omega)).symm
    pointwise
    exact (Finset.sum_const_zero (M := EReal)).symm

end Cert.KernelFirstIdeal.Sums
-- ==== Proof.FirstClaim.lean ====
/- The value claim of the pair First: the kernel's two results are the reference's. -/
module

public import proofs.«01_k».proof.Defs
public import proofs.«01_k».proof.Proof.Gen.KernelFirst.Frame
public import proofs.«01_k».proof.Proof.FirstKernel
public import Idealize.ShloMosaic.Lib.Claim

@[expose] public section

set_option maxRecDepth 16384

noncomputable section

namespace Cert.Proof

open Idealize.ShloMosaic Idealize.SL.Sem

theorem first_value : Cert.algebraic_KernelFirstIdeal_RefFirstIdeal := by
  pair_intro
  · run_from Cert.KernelFirstIdeal.Gen.run_main m g
  · have hag := hagree
    clear hagree
    run_from Cert.RefFirstIdeal.Value.run m' g'
    all_goals obtain ⟨h0, h1, h2, h3⟩ := hag c
    · refine (Cert.RefFirstIdeal.Read.val_main_v19_eq _ _ _).trans ?_
      rw [h1, h2, h3]
      exact (Cert.KernelFirstIdeal.Sums.final_dx m c).symm
    · refine (Cert.RefFirstIdeal.Read.val_main_v32_eq _ _).trans ?_
      rw [h0, h3]
      exact (Cert.KernelFirstIdeal.Sums.final_rows m c).symm

end Cert.Proof

end
-- ==== Proof.AttBody.lean ====
/- The attention gradient's kernel body: how its buffers are owned, and what a run of it is, in each of the three kinds of grid
   point (a head pair's first group of queries, one in between, its last): the lists of the stores it leaves in each buffer. -/
module

public import proofs.«01_k».proof.Proof.Gen.KernelAttIdeal.Frame
public import proofs.«01_k».proof.Proof.Gen.KernelAttIdeal.Skeleton
public import Idealize.ShloMosaic.Lib.Pipeline.Frame
public import Idealize.ShloMosaic.Lib.Tactic
public import Idealize.ShloMosaic.Lib.Claim

@[expose] public section

set_option maxRecDepth 16384

noncomputable section

namespace Cert.KernelAttIdeal.Frame

open Cert.KernelAttIdeal Cert.KernelAttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A whole buffer of core `c` at the contents `x`. -/
abbrev own (c : Dev nD) {S : Shape} {e : EltTy} (M : Memref sig .tc .vmem S e) (x : Vec F S e) : sProp 𝕄 := owns (c : Thread nD τ) M fullShare x
/-- A whole buffer of core `c` at some contents. -/
abbrev held (c : Dev nD) {S : Shape} {e : EltTy} (M : Memref sig .tc .vmem S e) : sProp 𝕄 := iprop(∃ d : Vec F S e, own c M d)
/-- A buffer of core `c` after the stores `L` over the contents `f`. -/
abbrev put (c : Dev nD) {S : Shape} {e : EltTy} (M : Memref sig .tc .vmem S e) (f : Buf (Elt F) (M.view.loc (c : Thread nD τ))) (L : List (View.Piece (Elt F) S e)) : sProp 𝕄 :=
  M.view.loc (c : Thread nD τ) ↦[M.view.set]{fullShare} M.view.writes (Elt F) f L

/-- A buffer never stored to is handed back as it was found. -/
theorem keeps (c : Dev nD) {S : Shape} {e : EltTy} {M : Memref sig .tc .vmem S e} (h : M.IsWhole) (x : Vec F S e) :
    (M.view.loc (c : Thread nD τ) ↦[M.view.set]{fullShare} h.unread x : sProp 𝕄)
      ⊢ iprop(∃ f : Buf (Elt F) (M.view.loc (c : Thread nD τ)), ⌜M.view.read (Elt F) f = x⌝ ∗ (M.view.loc (c : Thread nD τ) ↦[M.view.set]{fullShare} f)) := by
  iintro H; iexists _; isplitr
  · ipureintro; exact h.read_unread _
  iexact H

variable (c : Dev nD) (i : grid0.Coords)
variable (arg2 : Memref sig .tc .vmem S256x128 .bf16) (harg2 : arg2.IsWhole)
variable (arg3 : Memref sig .tc .vmem S256x128 .bf16) (harg3 : arg3.IsWhole)
variable (arg4 : Memref sig .tc .vmem S256x128 .bf16) (harg4 : arg4.IsWhole)
variable (arg5 : Memref sig .tc .vmem S256x128 .bf16) (harg5 : arg5.IsWhole)
variable (arg6 : Memref sig .tc .vmem S256x128 .bf16) (harg6 : arg6.IsWhole)
variable (arg7 : Memref sig .tc .vmem S256x128 .bf16) (harg7 : arg7.IsWhole)
variable (arg8 : Memref sig .tc .vmem S256x128 .bf16) (harg8 : arg8.IsWhole)
variable (arg9 : Memref sig .tc .vmem S2x2x128x128 .f32) (harg9 : arg9.IsWhole)
variable (arg10 : Memref sig .tc .vmem S2x1x128 .f32) (harg10 : arg10.IsWhole)
variable (arg11 : Memref sig .tc .vmem S256x128 .bf16) (harg11 : arg11.IsWhole)
variable (arg12 : Memref sig .tc .vmem S256x128 .bf16) (harg12 : arg12.IsWhole)
variable (arg13 : Memref sig .tc .vmem S8192x128 .f32) (harg13 : arg13.IsWhole)
variable (arg14 : Memref sig .tc .vmem S8192x128 .f32) (harg14 : arg14.IsWhole)
variable (arg15 : Memref sig .tc .vmem S2x2x128x128 .f32) (harg15 : arg15.IsWhole)
variable (arg16 : Memref sig .tc .vmem S2x1x128 .f32) (harg16 : arg16.IsWhole)
variable (arg17 : Memref sig .tc .vmem S1x128 .f32) (harg17 : arg17.IsWhole)
variable (arg18 : Memref sig .tc .vmem S1x128 .f32) (harg18 : arg18.IsWhole)
variable (arg19 : Memref sig .tc .vmem S1x128 .f32) (harg19 : arg19.IsWhole)
variable (arg20 : Memref sig .tc .vmem S512x768 .f32) (harg20 : arg20.IsWhole)

/-- The ten inputs' buffers at their blocks. -/
abbrev inputs (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S2x2x128x128 .f32) (x8 : Vec F S2x1x128 .f32) (x9 : Vec F S256x128 .bf16) : sProp 𝕄 :=
  iprop(own c arg2 x0 ∗ own c arg3 x1 ∗ own c arg4 x2 ∗ own c arg5 x3 ∗ own c arg6 x4 ∗ own c arg7 x5 ∗ own c arg8 x6 ∗ own c arg9 x7 ∗ own c arg10 x8 ∗ own c arg11 x9)

variable (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S2x2x128x128 .f32) (x8 : Vec F S2x1x128 .f32) (x9 : Vec F S256x128 .bf16)
variable (dk dv : Vec F S8192x128 .f32) (dt : Vec F S2x2x128x128 .f32) (dc : Vec F S2x1x128 .f32) (sq : Vec F S1x128 .f32) (bias : Vec F S512x768 .f32)

/-- A run from the inputs' blocks alone: every buffer stored to may hold anything before it. -/
abbrev Start :=
    Σ' (L12 : List (View.Piece (Elt F) S256x128 .bf16)),
    Σ' (L13 : List (View.Piece (Elt F) S8192x128 .f32)),
    Σ' (L14 : List (View.Piece (Elt F) S8192x128 .f32)),
    Σ' (L15 : List (View.Piece (Elt F) S2x2x128x128 .f32)),
    Σ' (L16 : List (View.Piece (Elt F) S2x1x128 .f32)),
    Σ' (L17 : List (View.Piece (Elt F) S1x128 .f32)),
    { L20 : List (View.Piece (Elt F) S512x768 .f32) //
      ∀ (E : Set ℕ) (K : PUnit → sProp 𝕄),
        iprop(inputs c arg2 arg3 arg4 arg5 arg6 arg7 arg8 arg9 arg10 arg11 x0 x1 x2 x3 x4 x5 x6 x7 x8 x9 ∗ held c arg12 ∗ held c arg13 ∗ held c arg14 ∗ held c arg15 ∗ held c arg16 ∗ held c arg17 ∗ held c arg20
            ∗ (iprop(inputs c arg2 arg3 arg4 arg5 arg6 arg7 arg8 arg9 arg10 arg11 x0 x1 x2 x3 x4 x5 x6 x7 x8 x9 ∗ (∃ f, put c arg12 f L12) ∗ (∃ f, put c arg13 f L13) ∗ (∃ f, put c arg14 f L14) ∗ (∃ f, put c arg15 f L15) ∗ (∃ f, put c arg16 f L16) ∗ (∃ f, put c arg17 f L17) ∗ (∃ f, put c arg20 f L20)) -∗ K ⟨⟩))
          ⊢ wp frame (wpE (defs₀ (F := F)) Variants.none c none) E (cc0_att_core_bwd_1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K }

/-- A run over what the group before left in the running sums and the bias rows; the column sums of dk and dv are not touched. -/
abbrev Mid :=
    Σ' (L12 : List (View.Piece (Elt F) S256x128 .bf16)),
    Σ' (L13 : List (View.Piece (Elt F) S8192x128 .f32)),
    Σ' (L14 : List (View.Piece (Elt F) S8192x128 .f32)),
    Σ' (L15 : List (View.Piece (Elt F) S2x2x128x128 .f32)),
    Σ' (L16 : List (View.Piece (Elt F) S2x1x128 .f32)),
    { L17 : List (View.Piece (Elt F) S1x128 .f32) //
      ∀ (E : Set ℕ) (K : PUnit → sProp 𝕄),
        iprop(inputs c arg2 arg3 arg4 arg5 arg6 arg7 arg8 arg9 arg10 arg11 x0 x1 x2 x3 x4 x5 x6 x7 x8 x9 ∗ held c arg12 ∗ own c arg13 dk ∗ own c arg14 dv ∗ own c arg15 dt ∗ own c arg16 dc ∗ own c arg17 sq ∗ own c arg20 bias
            ∗ (iprop(inputs c arg2 arg3 arg4 arg5 arg6 arg7 arg8 arg9 arg10 arg11 x0 x1 x2 x3 x4 x5 x6 x7 x8 x9 ∗ (∃ f, put c arg12 f L12) ∗ put c arg13 (harg13.unread dk) L13 ∗ put c arg14 (harg14.unread dv) L14 ∗ put c arg15 (harg15.unread dt) L15 ∗ put c arg16 (harg16.unread dc) L16 ∗ put c arg17 (harg17.unread sq) L17 ∗ own c arg20 bias) -∗ K ⟨⟩))
          ⊢ wp frame (wpE (defs₀ (F := F)) Variants.none c none) E (cc0_att_core_bwd_1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K }

/-- A run over what the group before left, storing the column sums of dk and dv as well. -/
abbrev Last :=
    Σ' (L12 : List (View.Piece (Elt F) S256x128 .bf16)),
    Σ' (L13 : List (View.Piece (Elt F) S8192x128 .f32)),
    Σ' (L14 : List (View.Piece (Elt F) S8192x128 .f32)),
    Σ' (L15 : List (View.Piece (Elt F) S2x2x128x128 .f32)),
    Σ' (L16 : List (View.Piece (Elt F) S2x1x128 .f32)),
    Σ' (L17 : List (View.Piece (Elt F) S1x128 .f32)),
    Σ' (L18 : List (View.Piece (Elt F) S1x128 .f32)),
    { L19 : List (View.Piece (Elt F) S1x128 .f32) //
      ∀ (E : Set ℕ) (K : PUnit → sProp 𝕄),
        iprop(inputs c arg2 arg3 arg4 arg5 arg6 arg7 arg8 arg9 arg10 arg11 x0 x1 x2 x3 x4 x5 x6 x7 x8 x9 ∗ held c arg12 ∗ own c arg13 dk ∗ own c arg14 dv ∗ own c arg15 dt ∗ own c arg16 dc ∗ own c arg17 sq ∗ held c arg18 ∗ held c arg19 ∗ own c arg20 bias
            ∗ (iprop(inputs c arg2 arg3 arg4 arg5 arg6 arg7 arg8 arg9 arg10 arg11 x0 x1 x2 x3 x4 x5 x6 x7 x8 x9 ∗ (∃ f, put c arg12 f L12) ∗ put c arg13 (harg13.unread dk) L13 ∗ put c arg14 (harg14.unread dv) L14 ∗ put c arg15 (harg15.unread dt) L15 ∗ put c arg16 (harg16.unread dc) L16 ∗ put c arg17 (harg17.unread sq) L17 ∗ (∃ f, put c arg18 f L18) ∗ (∃ f, put c arg19 f L19) ∗ own c arg20 bias) -∗ K ⟨⟩))
          ⊢ wp frame (wpE (defs₀ (F := F)) Variants.none c none) E (cc0_att_core_bwd_1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K }

end Cert.KernelAttIdeal.Frame

end
-- ==== Proof.AttRunA.lean ====
/- The kernel body run at the first group of queries of a head pair. -/
module

public import proofs.«01_k».proof.Proof.AttBody

@[expose] public section

set_option maxRecDepth 16384

noncomputable section

namespace Cert.KernelAttIdeal.Frame

open Cert.KernelAttIdeal Cert.KernelAttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
variable (arg2 : Memref sig .tc .vmem S256x128 .bf16) (harg2 : arg2.IsWhole)
variable (arg3 : Memref sig .tc .vmem S256x128 .bf16) (harg3 : arg3.IsWhole)
variable (arg4 : Memref sig .tc .vmem S256x128 .bf16) (harg4 : arg4.IsWhole)
variable (arg5 : Memref sig .tc .vmem S256x128 .bf16) (harg5 : arg5.IsWhole)
variable (arg6 : Memref sig .tc .vmem S256x128 .bf16) (harg6 : arg6.IsWhole)
variable (arg7 : Memref sig .tc .vmem S256x128 .bf16) (harg7 : arg7.IsWhole)
variable (arg8 : Memref sig .tc .vmem S256x128 .bf16) (harg8 : arg8.IsWhole)
variable (arg9 : Memref sig .tc .vmem S2x2x128x128 .f32) (harg9 : arg9.IsWhole)
variable (arg10 : Memref sig .tc .vmem S2x1x128 .f32) (harg10 : arg10.IsWhole)
variable (arg11 : Memref sig .tc .vmem S256x128 .bf16) (harg11 : arg11.IsWhole)
variable (arg12 : Memref sig .tc .vmem S256x128 .bf16) (harg12 : arg12.IsWhole)
variable (arg13 : Memref sig .tc .vmem S8192x128 .f32) (harg13 : arg13.IsWhole)
variable (arg14 : Memref sig .tc .vmem S8192x128 .f32) (harg14 : arg14.IsWhole)
variable (arg15 : Memref sig .tc .vmem S2x2x128x128 .f32) (harg15 : arg15.IsWhole)
variable (arg16 : Memref sig .tc .vmem S2x1x128 .f32) (harg16 : arg16.IsWhole)
variable (arg17 : Memref sig .tc .vmem S1x128 .f32) (harg17 : arg17.IsWhole)
variable (arg18 : Memref sig .tc .vmem S1x128 .f32) (harg18 : arg18.IsWhole)
variable (arg19 : Memref sig .tc .vmem S1x128 .f32) (harg19 : arg19.IsWhole)
variable (arg20 : Memref sig .tc .vmem S512x768 .f32) (harg20 : arg20.IsWhole)
variable (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S2x2x128x128 .f32) (x8 : Vec F S2x1x128 .f32) (x9 : Vec F S256x128 .bf16)

-- the proof term of a whole run is large
set_option maxHeartbeats 4000000 in
set_option sl_exec.closedPieces true in
set_option sl_exec.closedLoads true in
/-- The first group of queries of a head pair: the bias rows are laid out, the sums start from zero, and only the newest group of keys is in range. -/
noncomputable def runA (h1 : k0_cond1 i = 1#1) (h2 : ¬ k0_cond2 i = 1#1) (h3 : ¬ k0_cond3 i = 1#1) (h4 : k0_cond4 i = 1#1) (h5 : ¬ k0_cond5 i = 1#1) (e3 : k0_off3 i = ![0, 0]) :
    Start c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 := by
  refine ⟨?_, ?_, ?_, ?_, ?_, ?_, ?_, fun E K => ?run⟩
  case run =>
    simp only [cc0_att_core_bwd_1_eq_skeleton, k0_part1_eq_skeleton, k0_part2_eq_skeleton, k0_part3_eq_skeleton, k0_part4_eq_skeleton,
      k0_part5_eq_skeleton, k0_part6_eq_skeleton, k0_part7_eq_skeleton]
    unfold cc0_att_core_bwd_1_skel
    unfold inputs held own owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d20, %f20, -, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    letI : ClosedOff (k0_off3 i) := ⟨![0, 0], e3⟩
    sl_exec (disch := first | sl_exact h1 | sl_exact h2 | sl_exact h3 | sl_exact h4 | sl_exact h5)
    sl_step
    iapply Hk
    isplitl [H2 H3 H4 H5 H6 H7 H8 H9 H10 H11]
    · isplitl [H2]; · iapply (keeps c harg2 _); iexact H2
      isplitl [H3]; · iapply (keeps c harg3 _); iexact H3
      isplitl [H4]; · iapply (keeps c harg4 _); iexact H4
      isplitl [H5]; · iapply (keeps c harg5 _); iexact H5
      isplitl [H6]; · iapply (keeps c harg6 _); iexact H6
      isplitl [H7]; · iapply (keeps c harg7 _); iexact H7
      isplitl [H8]; · iapply (keeps c harg8 _); iexact H8
      isplitl [H9]; · iapply (keeps c harg9 _); iexact H9
      isplitl [H10]; · iapply (keeps c harg10 _); iexact H10
      iapply (keeps c harg11 _); iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H20

end Cert.KernelAttIdeal.Frame

end
-- ==== Proof.AttRunB.lean ====
/- The kernel body run at the second group of queries. -/
module

public import proofs.«01_k».proof.Proof.AttBody

@[expose] public section

set_option maxRecDepth 16384

noncomputable section

namespace Cert.KernelAttIdeal.Frame

open Cert.KernelAttIdeal Cert.KernelAttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
variable (arg2 : Memref sig .tc .vmem S256x128 .bf16) (harg2 : arg2.IsWhole)
variable (arg3 : Memref sig .tc .vmem S256x128 .bf16) (harg3 : arg3.IsWhole)
variable (arg4 : Memref sig .tc .vmem S256x128 .bf16) (harg4 : arg4.IsWhole)
variable (arg5 : Memref sig .tc .vmem S256x128 .bf16) (harg5 : arg5.IsWhole)
variable (arg6 : Memref sig .tc .vmem S256x128 .bf16) (harg6 : arg6.IsWhole)
variable (arg7 : Memref sig .tc .vmem S256x128 .bf16) (harg7 : arg7.IsWhole)
variable (arg8 : Memref sig .tc .vmem S256x128 .bf16) (harg8 : arg8.IsWhole)
variable (arg9 : Memref sig .tc .vmem S2x2x128x128 .f32) (harg9 : arg9.IsWhole)
variable (arg10 : Memref sig .tc .vmem S2x1x128 .f32) (harg10 : arg10.IsWhole)
variable (arg11 : Memref sig .tc .vmem S256x128 .bf16) (harg11 : arg11.IsWhole)
variable (arg12 : Memref sig .tc .vmem S256x128 .bf16) (harg12 : arg12.IsWhole)
variable (arg13 : Memref sig .tc .vmem S8192x128 .f32) (harg13 : arg13.IsWhole)
variable (arg14 : Memref sig .tc .vmem S8192x128 .f32) (harg14 : arg14.IsWhole)
variable (arg15 : Memref sig .tc .vmem S2x2x128x128 .f32) (harg15 : arg15.IsWhole)
variable (arg16 : Memref sig .tc .vmem S2x1x128 .f32) (harg16 : arg16.IsWhole)
variable (arg17 : Memref sig .tc .vmem S1x128 .f32) (harg17 : arg17.IsWhole)
variable (arg18 : Memref sig .tc .vmem S1x128 .f32) (harg18 : arg18.IsWhole)
variable (arg19 : Memref sig .tc .vmem S1x128 .f32) (harg19 : arg19.IsWhole)
variable (arg20 : Memref sig .tc .vmem S512x768 .f32) (harg20 : arg20.IsWhole)
variable (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S2x2x128x128 .f32) (x8 : Vec F S2x1x128 .f32) (x9 : Vec F S256x128 .bf16)
variable (dk dv : Vec F S8192x128 .f32) (dt : Vec F S2x2x128x128 .f32) (dc : Vec F S2x1x128 .f32) (sq : Vec F S1x128 .f32) (bias : Vec F S512x768 .f32)

-- the proof term of a whole run is large
set_option maxHeartbeats 4000000 in
set_option sl_exec.closedPieces true in
set_option sl_exec.closedLoads true in
/-- The second group: two groups of keys are in range. -/
noncomputable def runB (h1 : ¬ k0_cond1 i = 1#1) (h2 : ¬ k0_cond2 i = 1#1) (h3 : k0_cond3 i = 1#1) (h4 : k0_cond4 i = 1#1) (h5 : ¬ k0_cond5 i = 1#1) (e2 : k0_off2 i = ![0, 0]) (e3 : k0_off3 i = ![256, 0]) :
    Mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 dk dv dt dc sq bias := by
  refine ⟨?_, ?_, ?_, ?_, ?_, ?_, fun E K => ?run⟩
  case run =>
    simp only [cc0_att_core_bwd_1_eq_skeleton, k0_part1_eq_skeleton, k0_part2_eq_skeleton, k0_part3_eq_skeleton, k0_part4_eq_skeleton,
      k0_part5_eq_skeleton, k0_part6_eq_skeleton, k0_part7_eq_skeleton]
    unfold cc0_att_core_bwd_1_skel
    unfold inputs held own owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f20, %hf20, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14; obtain rfl := harg15.eq_unread hf15; obtain rfl := harg16.eq_unread hf16; obtain rfl := harg17.eq_unread hf17; obtain rfl := harg20.eq_unread hf20
    letI : ClosedOff (k0_off2 i) := ⟨![0, 0], e2⟩
    letI : ClosedOff (k0_off3 i) := ⟨![256, 0], e3⟩
    sl_exec (disch := first | sl_exact h1 | sl_exact h2 | sl_exact h3 | sl_exact h4 | sl_exact h5)
    sl_step
    iapply Hk
    isplitl [H2 H3 H4 H5 H6 H7 H8 H9 H10 H11]
    · isplitl [H2]; · iapply (keeps c harg2 _); iexact H2
      isplitl [H3]; · iapply (keeps c harg3 _); iexact H3
      isplitl [H4]; · iapply (keeps c harg4 _); iexact H4
      isplitl [H5]; · iapply (keeps c harg5 _); iexact H5
      isplitl [H6]; · iapply (keeps c harg6 _); iexact H6
      isplitl [H7]; · iapply (keeps c harg7 _); iexact H7
      isplitl [H8]; · iapply (keeps c harg8 _); iexact H8
      isplitl [H9]; · iapply (keeps c harg9 _); iexact H9
      isplitl [H10]; · iapply (keeps c harg10 _); iexact H10
      iapply (keeps c harg11 _); iexact H11
    isplitl [H12]; · iexists _; iexact H12
    isplitl [H13]; · iexact H13
    isplitl [H14]; · iexact H14
    isplitl [H15]; · iexact H15
    isplitl [H16]; · iexact H16
    isplitl [H17]; · iexact H17
    iapply (keeps c harg20 _); iexact H20

end Cert.KernelAttIdeal.Frame

end
-- ==== Proof.AttRunC.lean ====
/- The kernel body run at a group of queries in between. -/
module

public import proofs.«01_k».proof.Proof.AttBody

@[expose] public section

set_option maxRecDepth 16384

noncomputable section

namespace Cert.KernelAttIdeal.Frame

open Cert.KernelAttIdeal Cert.KernelAttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
variable (arg2 : Memref sig .tc .vmem S256x128 .bf16) (harg2 : arg2.IsWhole)
variable (arg3 : Memref sig .tc .vmem S256x128 .bf16) (harg3 : arg3.IsWhole)
variable (arg4 : Memref sig .tc .vmem S256x128 .bf16) (harg4 : arg4.IsWhole)
variable (arg5 : Memref sig .tc .vmem S256x128 .bf16) (harg5 : arg5.IsWhole)
variable (arg6 : Memref sig .tc .vmem S256x128 .bf16) (harg6 : arg6.IsWhole)
variable (arg7 : Memref sig .tc .vmem S256x128 .bf16) (harg7 : arg7.IsWhole)
variable (arg8 : Memref sig .tc .vmem S256x128 .bf16) (harg8 : arg8.IsWhole)
variable (arg9 : Memref sig .tc .vmem S2x2x128x128 .f32) (harg9 : arg9.IsWhole)
variable (arg10 : Memref sig .tc .vmem S2x1x128 .f32) (harg10 : arg10.IsWhole)
variable (arg11 : Memref sig .tc .vmem S256x128 .bf16) (harg11 : arg11.IsWhole)
variable (arg12 : Memref sig .tc .vmem S256x128 .bf16) (harg12 : arg12.IsWhole)
variable (arg13 : Memref sig .tc .vmem S8192x128 .f32) (harg13 : arg13.IsWhole)
variable (arg14 : Memref sig .tc .vmem S8192x128 .f32) (harg14 : arg14.IsWhole)
variable (arg15 : Memref sig .tc .vmem S2x2x128x128 .f32) (harg15 : arg15.IsWhole)
variable (arg16 : Memref sig .tc .vmem S2x1x128 .f32) (harg16 : arg16.IsWhole)
variable (arg17 : Memref sig .tc .vmem S1x128 .f32) (harg17 : arg17.IsWhole)
variable (arg18 : Memref sig .tc .vmem S1x128 .f32) (harg18 : arg18.IsWhole)
variable (arg19 : Memref sig .tc .vmem S1x128 .f32) (harg19 : arg19.IsWhole)
variable (arg20 : Memref sig .tc .vmem S512x768 .f32) (harg20 : arg20.IsWhole)
variable (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S2x2x128x128 .f32) (x8 : Vec F S2x1x128 .f32) (x9 : Vec F S256x128 .bf16)
variable (dk dv : Vec F S8192x128 .f32) (dt : Vec F S2x2x128x128 .f32) (dc : Vec F S2x1x128 .f32) (sq : Vec F S1x128 .f32) (bias : Vec F S512x768 .f32)

-- the proof term of a whole run is large
set_option maxHeartbeats 4000000 in
set_option sl_exec.closedPieces true in
set_option sl_exec.closedLoads true in
/-- A later group: the three groups of keys from group `a` on are in range. -/
noncomputable def runC (h1 : ¬ k0_cond1 i = 1#1) (h2 : k0_cond2 i = 1#1) (h3 : k0_cond3 i = 1#1) (h4 : k0_cond4 i = 1#1) (h5 : ¬ k0_cond5 i = 1#1) (a : ℕ) (e1 : k0_off1 i = ![256 * a, 0]) (e2 : k0_off2 i = ![256 * a + 256, 0]) (e3 : k0_off3 i = ![256 * a + 512, 0]) :
    Mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 dk dv dt dc sq bias := by
  refine ⟨?_, ?_, ?_, ?_, ?_, ?_, fun E K => ?run⟩
  case run =>
    simp only [cc0_att_core_bwd_1_eq_skeleton, k0_part1_eq_skeleton, k0_part2_eq_skeleton, k0_part3_eq_skeleton, k0_part4_eq_skeleton,
      k0_part5_eq_skeleton, k0_part6_eq_skeleton, k0_part7_eq_skeleton]
    unfold cc0_att_core_bwd_1_skel
    unfold inputs held own owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f20, %hf20, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14; obtain rfl := harg15.eq_unread hf15; obtain rfl := harg16.eq_unread hf16; obtain rfl := harg17.eq_unread hf17; obtain rfl := harg20.eq_unread hf20
    letI : ClosedOff (k0_off1 i) := ⟨![256 * a, 0], e1⟩
    letI : ClosedOff (k0_off2 i) := ⟨![256 * a + 256, 0], e2⟩
    letI : ClosedOff (k0_off3 i) := ⟨![256 * a + 512, 0], e3⟩
    sl_exec (disch := first | sl_exact h1 | sl_exact h2 | sl_exact h3 | sl_exact h4 | sl_exact h5)
    sl_step
    iapply Hk
    isplitl [H2 H3 H4 H5 H6 H7 H8 H9 H10 H11]
    · isplitl [H2]; · iapply (keeps c harg2 _); iexact H2
      isplitl [H3]; · iapply (keeps c harg3 _); iexact H3
      isplitl [H4]; · iapply (keeps c harg4 _); iexact H4
      isplitl [H5]; · iapply (keeps c harg5 _); iexact H5
      isplitl [H6]; · iapply (keeps c harg6 _); iexact H6
      isplitl [H7]; · iapply (keeps c harg7 _); iexact H7
      isplitl [H8]; · iapply (keeps c harg8 _); iexact H8
      isplitl [H9]; · iapply (keeps c harg9 _); iexact H9
      isplitl [H10]; · iapply (keeps c harg10 _); iexact H10
      iapply (keeps c harg11 _); iexact H11
    isplitl [H12]; · iexists _; iexact H12
    isplitl [H13]; · iexact H13
    isplitl [H14]; · iexact H14
    isplitl [H15]; · iexact H15
    isplitl [H16]; · iexact H16
    isplitl [H17]; · iexact H17
    iapply (keeps c harg20 _); iexact H20

end Cert.KernelAttIdeal.Frame

end
-- ==== Proof.AttRunD.lean ====
/- The kernel body run at the last group of queries. -/
module

public import proofs.«01_k».proof.Proof.AttBody

@[expose] public section

set_option maxRecDepth 16384

noncomputable section

namespace Cert.KernelAttIdeal.Frame

open Cert.KernelAttIdeal Cert.KernelAttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
variable (arg2 : Memref sig .tc .vmem S256x128 .bf16) (harg2 : arg2.IsWhole)
variable (arg3 : Memref sig .tc .vmem S256x128 .bf16) (harg3 : arg3.IsWhole)
variable (arg4 : Memref sig .tc .vmem S256x128 .bf16) (harg4 : arg4.IsWhole)
variable (arg5 : Memref sig .tc .vmem S256x128 .bf16) (harg5 : arg5.IsWhole)
variable (arg6 : Memref sig .tc .vmem S256x128 .bf16) (harg6 : arg6.IsWhole)
variable (arg7 : Memref sig .tc .vmem S256x128 .bf16) (harg7 : arg7.IsWhole)
variable (arg8 : Memref sig .tc .vmem S256x128 .bf16) (harg8 : arg8.IsWhole)
variable (arg9 : Memref sig .tc .vmem S2x2x128x128 .f32) (harg9 : arg9.IsWhole)
variable (arg10 : Memref sig .tc .vmem S2x1x128 .f32) (harg10 : arg10.IsWhole)
variable (arg11 : Memref sig .tc .vmem S256x128 .bf16) (harg11 : arg11.IsWhole)
variable (arg12 : Memref sig .tc .vmem S256x128 .bf16) (harg12 : arg12.IsWhole)
variable (arg13 : Memref sig .tc .vmem S8192x128 .f32) (harg13 : arg13.IsWhole)
variable (arg14 : Memref sig .tc .vmem S8192x128 .f32) (harg14 : arg14.IsWhole)
variable (arg15 : Memref sig .tc .vmem S2x2x128x128 .f32) (harg15 : arg15.IsWhole)
variable (arg16 : Memref sig .tc .vmem S2x1x128 .f32) (harg16 : arg16.IsWhole)
variable (arg17 : Memref sig .tc .vmem S1x128 .f32) (harg17 : arg17.IsWhole)
variable (arg18 : Memref sig .tc .vmem S1x128 .f32) (harg18 : arg18.IsWhole)
variable (arg19 : Memref sig .tc .vmem S1x128 .f32) (harg19 : arg19.IsWhole)
variable (arg20 : Memref sig .tc .vmem S512x768 .f32) (harg20 : arg20.IsWhole)
variable (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S2x2x128x128 .f32) (x8 : Vec F S2x1x128 .f32) (x9 : Vec F S256x128 .bf16)
variable (dk dv : Vec F S8192x128 .f32) (dt : Vec F S2x2x128x128 .f32) (dc : Vec F S2x1x128 .f32) (sq : Vec F S1x128 .f32) (bias : Vec F S512x768 .f32)

-- the proof term of a whole run is large
set_option maxHeartbeats 4000000 in
set_option sl_exec.closedPieces true in
set_option sl_exec.closedLoads true in
/-- The last group: as a later one, and then the column sums. -/
noncomputable def runD (h1 : ¬ k0_cond1 i = 1#1) (h2 : k0_cond2 i = 1#1) (h3 : k0_cond3 i = 1#1) (h4 : k0_cond4 i = 1#1) (h5 : k0_cond5 i = 1#1) (a : ℕ) (e1 : k0_off1 i = ![256 * a, 0]) (e2 : k0_off2 i = ![256 * a + 256, 0]) (e3 : k0_off3 i = ![256 * a + 512, 0]) :
    Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 dk dv dt dc sq bias := by
  refine ⟨?_, ?_, ?_, ?_, ?_, ?_, ?_, ?_, fun E K => ?run⟩
  case run =>
    simp only [cc0_att_core_bwd_1_eq_skeleton, k0_part1_eq_skeleton, k0_part2_eq_skeleton, k0_part3_eq_skeleton, k0_part4_eq_skeleton,
      k0_part5_eq_skeleton, k0_part6_eq_skeleton, k0_part7_eq_skeleton]
    unfold cc0_att_core_bwd_1_skel
    unfold inputs held own owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d12, %f12, -, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%f20, %hf20, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14; obtain rfl := harg15.eq_unread hf15; obtain rfl := harg16.eq_unread hf16; obtain rfl := harg17.eq_unread hf17; obtain rfl := harg20.eq_unread hf20
    letI : ClosedOff (k0_off1 i) := ⟨![256 * a, 0], e1⟩
    letI : ClosedOff (k0_off2 i) := ⟨![256 * a + 256, 0], e2⟩
    letI : ClosedOff (k0_off3 i) := ⟨![256 * a + 512, 0], e3⟩
    sl_exec (disch := first | sl_exact h1 | sl_exact h2 | sl_exact h3 | sl_exact h4 | sl_exact h5)
    sl_step
    iapply Hk
    isplitl [H2 H3 H4 H5 H6 H7 H8 H9 H10 H11]
    · isplitl [H2]; · iapply (keeps c harg2 _); iexact H2
      isplitl [H3]; · iapply (keeps c harg3 _); iexact H3
      isplitl [H4]; · iapply (keeps c harg4 _); iexact H4
      isplitl [H5]; · iapply (keeps c harg5 _); iexact H5
      isplitl [H6]; · iapply (keeps c harg6 _); iexact H6
      isplitl [H7]; · iapply (keeps c harg7 _); iexact H7
      isplitl [H8]; · iapply (keeps c harg8 _); iexact H8
      isplitl [H9]; · iapply (keeps c harg9 _); iexact H9
      isplitl [H10]; · iapply (keeps c harg10 _); iexact H10
      iapply (keeps c harg11 _); iexact H11
    isplitl [H12]; · iexists _; iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    iapply (keeps c harg20 _); iexact H20

end Cert.KernelAttIdeal.Frame

end
-- ==== Proof.AttPoint.lean ====
/- The attention gradient's frame: what its outputs, running sums and bias rows hold after every grid point, the body at a point,
   and the run of the whole kernel. -/
module

public import proofs.«01_k».proof.Proof.AttRunA
public import proofs.«01_k».proof.Proof.AttRunB
public import proofs.«01_k».proof.Proof.AttRunC
public import proofs.«01_k».proof.Proof.AttRunD

@[expose] public section

set_option maxRecDepth 16384

noncomputable section

namespace Cert.KernelAttIdeal.Frame

open Cert.KernelAttIdeal Cert.KernelAttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers at a point -/

/-- The staging buffer of each window at point `t`, and that it is whole. -/
abbrev ms0_0 (t : Fin cfg0.N) : Memref sig .tc .vmem S256x128 .bf16 := win0_0.stage (cfg0.slots t 0)
abbrev ms0_1 (t : Fin cfg0.N) : Memref sig .tc .vmem S256x128 .bf16 := win0_1.stage (cfg0.slots t 1)
abbrev ms0_2 (t : Fin cfg0.N) : Memref sig .tc .vmem S256x128 .bf16 := win0_2.stage (cfg0.slots t 2)
abbrev ms0_3 (t : Fin cfg0.N) : Memref sig .tc .vmem S256x128 .bf16 := win0_3.stage (cfg0.slots t 3)
abbrev ms0_4 (t : Fin cfg0.N) : Memref sig .tc .vmem S256x128 .bf16 := win0_4.stage (cfg0.slots t 4)
abbrev ms0_5 (t : Fin cfg0.N) : Memref sig .tc .vmem S256x128 .bf16 := win0_5.stage (cfg0.slots t 5)
abbrev ms0_6 (t : Fin cfg0.N) : Memref sig .tc .vmem S256x128 .bf16 := win0_6.stage (cfg0.slots t 6)
abbrev ms0_7 (t : Fin cfg0.N) : Memref sig .tc .vmem S2x2x128x128 .f32 := win0_7.stage (cfg0.slots t 7)
abbrev ms0_8 (t : Fin cfg0.N) : Memref sig .tc .vmem S2x1x128 .f32 := win0_8.stage (cfg0.slots t 8)
abbrev ms0_9 (t : Fin cfg0.N) : Memref sig .tc .vmem S256x128 .bf16 := win0_9.stage (cfg0.slots t 9)
abbrev ms0_10 (t : Fin cfg0.N) : Memref sig .tc .vmem S256x128 .bf16 := win0_10.stage (cfg0.slots t 10)
abbrev ms0_11 (t : Fin cfg0.N) : Memref sig .tc .vmem S8192x128 .f32 := win0_11.stage (cfg0.slots t 11)
abbrev ms0_12 (t : Fin cfg0.N) : Memref sig .tc .vmem S8192x128 .f32 := win0_12.stage (cfg0.slots t 12)
abbrev ms0_13 (t : Fin cfg0.N) : Memref sig .tc .vmem S2x2x128x128 .f32 := win0_13.stage (cfg0.slots t 13)
abbrev ms0_14 (t : Fin cfg0.N) : Memref sig .tc .vmem S2x1x128 .f32 := win0_14.stage (cfg0.slots t 14)
abbrev ms0_15 (t : Fin cfg0.N) : Memref sig .tc .vmem S1x128 .f32 := win0_15.stage (cfg0.slots t 15)
abbrev ms0_16 (t : Fin cfg0.N) : Memref sig .tc .vmem S1x128 .f32 := win0_16.stage (cfg0.slots t 16)
abbrev ms0_17 (t : Fin cfg0.N) : Memref sig .tc .vmem S1x128 .f32 := win0_17.stage (cfg0.slots t 17)
abbrev hs0_0 (t : Fin cfg0.N) : (ms0_0 t).IsWhole := hstage0_0 ((cfg0.slots t 0).cast nbuf0_0)
abbrev hs0_1 (t : Fin cfg0.N) : (ms0_1 t).IsWhole := hstage0_1 ((cfg0.slots t 1).cast nbuf0_1)
abbrev hs0_2 (t : Fin cfg0.N) : (ms0_2 t).IsWhole := hstage0_2 ((cfg0.slots t 2).cast nbuf0_2)
abbrev hs0_3 (t : Fin cfg0.N) : (ms0_3 t).IsWhole := hstage0_3 ((cfg0.slots t 3).cast nbuf0_3)
abbrev hs0_4 (t : Fin cfg0.N) : (ms0_4 t).IsWhole := hstage0_4 ((cfg0.slots t 4).cast nbuf0_4)
abbrev hs0_5 (t : Fin cfg0.N) : (ms0_5 t).IsWhole := hstage0_5 ((cfg0.slots t 5).cast nbuf0_5)
abbrev hs0_6 (t : Fin cfg0.N) : (ms0_6 t).IsWhole := hstage0_6 ((cfg0.slots t 6).cast nbuf0_6)
abbrev hs0_7 (t : Fin cfg0.N) : (ms0_7 t).IsWhole := hstage0_7 ((cfg0.slots t 7).cast nbuf0_7)
abbrev hs0_8 (t : Fin cfg0.N) : (ms0_8 t).IsWhole := hstage0_8 ((cfg0.slots t 8).cast nbuf0_8)
abbrev hs0_9 (t : Fin cfg0.N) : (ms0_9 t).IsWhole := hstage0_9 ((cfg0.slots t 9).cast nbuf0_9)
abbrev hs0_10 (t : Fin cfg0.N) : (ms0_10 t).IsWhole := hstage0_10 ((cfg0.slots t 10).cast nbuf0_10)
abbrev hs0_11 (t : Fin cfg0.N) : (ms0_11 t).IsWhole := hstage0_11 ((cfg0.slots t 11).cast nbuf0_11)
abbrev hs0_12 (t : Fin cfg0.N) : (ms0_12 t).IsWhole := hstage0_12 ((cfg0.slots t 12).cast nbuf0_12)
abbrev hs0_13 (t : Fin cfg0.N) : (ms0_13 t).IsWhole := hstage0_13 ((cfg0.slots t 13).cast nbuf0_13)
abbrev hs0_14 (t : Fin cfg0.N) : (ms0_14 t).IsWhole := hstage0_14 ((cfg0.slots t 14).cast nbuf0_14)
abbrev hs0_15 (t : Fin cfg0.N) : (ms0_15 t).IsWhole := hstage0_15 ((cfg0.slots t 15).cast nbuf0_15)
abbrev hs0_16 (t : Fin cfg0.N) : (ms0_16 t).IsWhole := hstage0_16 ((cfg0.slots t 16).cast nbuf0_16)
abbrev hs0_17 (t : Fin cfg0.N) : (ms0_17 t).IsWhole := hstage0_17 ((cfg0.slots t 17).cast nbuf0_17)
/-- The scratch of the bias rows. -/
abbrev rows : Memref sig .tc .vmem S512x768 .f32 := Memref.whole cc0_scratch0
abbrev rows_whole : rows.IsWhole := Memref.isWhole_whole _

/-- What is carried from one group of queries to the next: the running sums in the order of the outputs, and the bias rows. -/
structure St (F : FTy → Type) where
  dk : Vec F S8192x128 .f32
  dv : Vec F S8192x128 .f32
  dt : Vec F S2x2x128x128 .f32
  dc : Vec F S2x1x128 .f32
  sq : Vec F S1x128 .f32
  bias : Vec F S512x768 .f32

/-! ## When each condition holds, and where the key groups lie -/

theorem cond1_iff : ∀ t : Fin cfg0.N, k0_cond1 (grid0.coords t) = 1#1 ↔ t.val % 32 = 0 :=
  (by decide +kernel : ∀ t : Fin grid0.N, k0_cond1 (grid0.coords t) = 1#1 ↔ t.val % 32 = 0)
theorem cond2_iff : ∀ t : Fin cfg0.N, k0_cond2 (grid0.coords t) = 1#1 ↔ 2 ≤ t.val % 32 :=
  (by decide +kernel : ∀ t : Fin grid0.N, k0_cond2 (grid0.coords t) = 1#1 ↔ 2 ≤ t.val % 32)
theorem cond3_iff : ∀ t : Fin cfg0.N, k0_cond3 (grid0.coords t) = 1#1 ↔ 1 ≤ t.val % 32 :=
  (by decide +kernel : ∀ t : Fin grid0.N, k0_cond3 (grid0.coords t) = 1#1 ↔ 1 ≤ t.val % 32)
theorem cond4_true : ∀ t : Fin cfg0.N, k0_cond4 (grid0.coords t) = 1#1 :=
  (by decide +kernel : ∀ t : Fin grid0.N, k0_cond4 (grid0.coords t) = 1#1)
theorem cond5_iff : ∀ t : Fin cfg0.N, k0_cond5 (grid0.coords t) = 1#1 ↔ t.val % 32 = 31 :=
  (by decide +kernel : ∀ t : Fin grid0.N, k0_cond5 (grid0.coords t) = 1#1 ↔ t.val % 32 = 31)
theorem off1_eq : ∀ t : Fin cfg0.N, 2 ≤ t.val % 32 → k0_off1 (grid0.coords t) = ![256 * (t.val % 32 - 2), 0] :=
  (by decide +kernel : ∀ t : Fin grid0.N, 2 ≤ t.val % 32 → k0_off1 (grid0.coords t) = ![256 * (t.val % 32 - 2), 0])
theorem off2_eq : ∀ t : Fin cfg0.N, 1 ≤ t.val % 32 → k0_off2 (grid0.coords t) = ![256 * (t.val % 32 - 1), 0] :=
  (by decide +kernel : ∀ t : Fin grid0.N, 1 ≤ t.val % 32 → k0_off2 (grid0.coords t) = ![256 * (t.val % 32 - 1), 0])
theorem off3_eq : ∀ t : Fin cfg0.N, k0_off3 (grid0.coords t) = ![256 * (t.val % 32), 0] :=
  (by decide +kernel : ∀ t : Fin grid0.N, k0_off3 (grid0.coords t) = ![256 * (t.val % 32), 0])
/-- The windows of dk and dv are stored to at every point. -/
theorem live_11 : ∀ i, cfg0.idle 11 i = false := (by decide +kernel : ∀ i : grid0.Coords, idle0 11 i = false)
theorem live_12 : ∀ i, cfg0.idle 12 i = false := (by decide +kernel : ∀ i : grid0.Coords, idle0 12 i = false)

/-! ## The runs at a point -/

abbrev StartAt (c : Dev nD) (t : Fin cfg0.N) := Start c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) rows rows_whole (iblk m c 0 t) (iblk m c 1 t) (iblk m c 2 t) (iblk m c 3 t) (iblk m c 4 t) (iblk m c 5 t) (iblk m c 6 t) (iblk m c 7 t) (iblk m c 8 t) (iblk m c 9 t)
abbrev MidAt (c : Dev nD) (t : Fin cfg0.N) (s : St F) := Mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) rows rows_whole (iblk m c 0 t) (iblk m c 1 t) (iblk m c 2 t) (iblk m c 3 t) (iblk m c 4 t) (iblk m c 5 t) (iblk m c 6 t) (iblk m c 7 t) (iblk m c 8 t) (iblk m c 9 t) s.dk s.dv s.dt s.dc s.sq s.bias
abbrev LastAt (c : Dev nD) (t : Fin cfg0.N) (s : St F) := Last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) rows rows_whole (iblk m c 0 t) (iblk m c 1 t) (iblk m c 2 t) (iblk m c 3 t) (iblk m c 4 t) (iblk m c 5 t) (iblk m c 6 t) (iblk m c 7 t) (iblk m c 8 t) (iblk m c 9 t) s.dk s.dv s.dt s.dc s.sq s.bias

/-- The run at point `t` of each kind. -/
noncomputable def atA (c : Dev nD) (t : Fin cfg0.N) (h : t.val % 32 = 0) : StartAt m c t :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) rows rows_whole (iblk m c 0 t) (iblk m c 1 t) (iblk m c 2 t) (iblk m c 3 t) (iblk m c 4 t) (iblk m c 5 t) (iblk m c 6 t) (iblk m c 7 t) (iblk m c 8 t) (iblk m c 9 t)
    ((cond1_iff t).mpr h) (fun k => absurd ((cond2_iff t).mp k) (by omega)) (fun k => absurd ((cond3_iff t).mp k) (by omega)) (cond4_true t)
    (fun k => absurd ((cond5_iff t).mp k) (by omega)) ((off3_eq t).trans (by rw [h]))
noncomputable def atB (c : Dev nD) (t : Fin cfg0.N) (h : t.val % 32 = 1) (s : St F) : MidAt m c t s :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) rows rows_whole (iblk m c 0 t) (iblk m c 1 t) (iblk m c 2 t) (iblk m c 3 t) (iblk m c 4 t) (iblk m c 5 t) (iblk m c 6 t) (iblk m c 7 t) (iblk m c 8 t) (iblk m c 9 t) s.dk s.dv s.dt s.dc s.sq s.bias
    (fun k => absurd ((cond1_iff t).mp k) (by omega)) (fun k => absurd ((cond2_iff t).mp k) (by omega)) ((cond3_iff t).mpr (by omega)) (cond4_true t)
    (fun k => absurd ((cond5_iff t).mp k) (by omega)) ((off2_eq t (by omega)).trans (by rw [h])) ((off3_eq t).trans (by rw [h]))
noncomputable def atC (c : Dev nD) (t : Fin cfg0.N) (h : 2 ≤ t.val % 32) (h' : t.val % 32 ≠ 31) (s : St F) : MidAt m c t s :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) rows rows_whole (iblk m c 0 t) (iblk m c 1 t) (iblk m c 2 t) (iblk m c 3 t) (iblk m c 4 t) (iblk m c 5 t) (iblk m c 6 t) (iblk m c 7 t) (iblk m c 8 t) (iblk m c 9 t) s.dk s.dv s.dt s.dc s.sq s.bias
    (fun k => absurd ((cond1_iff t).mp k) (by omega)) ((cond2_iff t).mpr h) ((cond3_iff t).mpr (by omega)) (cond4_true t)
    (fun k => absurd ((cond5_iff t).mp k) (by omega)) (t.val % 32 - 2) (off1_eq t h)
    ((off2_eq t (by omega)).trans (by rw [show 256 * (t.val % 32 - 1) = 256 * (t.val % 32 - 2) + 256 by omega]))
    ((off3_eq t).trans (by rw [show 256 * (t.val % 32) = 256 * (t.val % 32 - 2) + 512 by omega]))
noncomputable def atD (c : Dev nD) (t : Fin cfg0.N) (h : t.val % 32 = 31) (s : St F) : LastAt m c t s :=
  runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) rows rows_whole (iblk m c 0 t) (iblk m c 1 t) (iblk m c 2 t) (iblk m c 3 t) (iblk m c 4 t) (iblk m c 5 t) (iblk m c 6 t) (iblk m c 7 t) (iblk m c 8 t) (iblk m c 9 t) s.dk s.dv s.dt s.dc s.sq s.bias
    (fun k => absurd ((cond1_iff t).mp k) (by omega)) ((cond2_iff t).mpr (by omega)) ((cond3_iff t).mpr (by omega)) (cond4_true t)
    ((cond5_iff t).mpr h) (t.val % 32 - 2) (off1_eq t (by omega))
    ((off2_eq t (by omega)).trans (by rw [show 256 * (t.val % 32 - 1) = 256 * (t.val % 32 - 2) + 256 by omega]))
    ((off3_eq t).trans (by rw [show 256 * (t.val % 32) = 256 * (t.val % 32 - 2) + 512 by omega]))

/-! ## What a run leaves -/

/-- The stores `L` read back, over contents that do not matter. -/
abbrev fresh {S : Shape} {e : EltTy} (M : Memref sig .tc .vmem S e) (L : List (View.Piece (Elt F) S e)) : Vec F S e :=
  M.view.read (Elt F) (M.view.writes (Elt F) M.view.junk L)
/-- The stores `L` read back, over the contents `x`. -/
abbrev over {S : Shape} {e : EltTy} {M : Memref sig .tc .vmem S e} (h : M.IsWhole) (x : Vec F S e) (L : List (View.Piece (Elt F) S e)) : Vec F S e :=
  M.view.read (Elt F) (M.view.writes (Elt F) (h.unread x) L)

/-- dq's block and the carried sums after a first group, -/
def startLeaves (c : Dev nD) (t : Fin cfg0.N) (R : StartAt m c t) : Vec F S256x128 .bf16 × St F :=
  ⟨fresh (ms0_10 t) R.1, fresh (ms0_11 t) R.2.1, fresh (ms0_12 t) R.2.2.1, fresh (ms0_13 t) R.2.2.2.1, fresh (ms0_14 t) R.2.2.2.2.1,
    fresh (ms0_15 t) R.2.2.2.2.2.1, fresh rows R.2.2.2.2.2.2.1⟩
/-- after one in between, -/
def midLeaves (c : Dev nD) (t : Fin cfg0.N) (s : St F) (R : MidAt m c t s) : Vec F S256x128 .bf16 × St F :=
  ⟨fresh (ms0_10 t) R.1, over (hs0_11 t) s.dk R.2.1, over (hs0_12 t) s.dv R.2.2.1, over (hs0_13 t) s.dt R.2.2.2.1, over (hs0_14 t) s.dc R.2.2.2.2.1,
    over (hs0_15 t) s.sq R.2.2.2.2.2.1, s.bias⟩
/-- and after the last. -/
def lastLeaves (c : Dev nD) (t : Fin cfg0.N) (s : St F) (R : LastAt m c t s) : Vec F S256x128 .bf16 × St F :=
  ⟨fresh (ms0_10 t) R.1, over (hs0_11 t) s.dk R.2.1, over (hs0_12 t) s.dv R.2.2.1, over (hs0_13 t) s.dt R.2.2.2.1, over (hs0_14 t) s.dc R.2.2.2.2.1,
    over (hs0_15 t) s.sq R.2.2.2.2.2.1, s.bias⟩
/-- The column sums of dk and dv that the last group stores. -/
def lastSums (c : Dev nD) (t : Fin cfg0.N) (s : St F) (R : LastAt m c t s) : Vec F S1x128 .f32 × Vec F S1x128 .f32 :=
  ⟨fresh (ms0_16 t) R.2.2.2.2.2.2.1, fresh (ms0_17 t) R.2.2.2.2.2.2.2.1⟩

/-- dq's block and the carried sums after each point. -/
def leaves (c : Dev nD) : (n : ℕ) → n < cfg0.N → Vec F S256x128 .bf16 × St F
  | 0, hn => startLeaves m c ⟨0, hn⟩ (atA m c ⟨0, hn⟩ rfl)
  | n + 1, hn =>
    if h0 : (n + 1) % 32 = 0 then startLeaves m c ⟨n + 1, hn⟩ (atA m c ⟨n + 1, hn⟩ h0)
    else if h1 : (n + 1) % 32 = 1 then midLeaves m c ⟨n + 1, hn⟩ _ (atB m c ⟨n + 1, hn⟩ h1 (leaves c n (Nat.lt_of_succ_lt hn)).2)
    else if h31 : (n + 1) % 32 = 31 then lastLeaves m c ⟨n + 1, hn⟩ _ (atD m c ⟨n + 1, hn⟩ h31 (leaves c n (Nat.lt_of_succ_lt hn)).2)
    else midLeaves m c ⟨n + 1, hn⟩ _ (atC m c ⟨n + 1, hn⟩ (show 2 ≤ (n + 1) % 32 by omega) h31 (leaves c n (Nat.lt_of_succ_lt hn)).2)

/-- What the point before `t` left. -/
abbrev prev (c : Dev nD) (t : Fin cfg0.N) : St F := (leaves m c (t.val - 1) (Nat.lt_of_le_of_lt (Nat.sub_le _ _) t.isLt)).2

theorem leaves_A (c : Dev nD) (t : Fin cfg0.N) (h : t.val % 32 = 0) : leaves m c t.val t.isLt = startLeaves m c t (atA m c t h) := by
  obtain ⟨n, hn⟩ := t
  cases n with
  | zero => rfl
  | succ n => exact dif_pos h
theorem leaves_B (c : Dev nD) (t : Fin cfg0.N) (h : t.val % 32 = 1) : leaves m c t.val t.isLt = midLeaves m c t _ (atB m c t h (prev m c t)) := by
  obtain ⟨n, hn⟩ := t
  cases n with
  | zero => exact absurd h (by dsimp only; omega)
  | succ n => exact (dif_neg (by dsimp only at h; omega)).trans (dif_pos h)
theorem leaves_C (c : Dev nD) (t : Fin cfg0.N) (h : 2 ≤ t.val % 32) (h' : t.val % 32 ≠ 31) :
    leaves m c t.val t.isLt = midLeaves m c t _ (atC m c t h h' (prev m c t)) := by
  obtain ⟨n, hn⟩ := t
  cases n with
  | zero => exact absurd h (by dsimp only; omega)
  | succ n => exact (dif_neg (by dsimp only at h; omega)).trans ((dif_neg (by dsimp only at h; omega)).trans (dif_neg h'))
theorem leaves_D (c : Dev nD) (t : Fin cfg0.N) (h : t.val % 32 = 31) : leaves m c t.val t.isLt = lastLeaves m c t _ (atD m c t h (prev m c t)) := by
  obtain ⟨n, hn⟩ := t
  cases n with
  | zero => exact absurd h (by dsimp only; omega)
  | succ n => exact (dif_neg (by dsimp only at h; omega)).trans ((dif_neg (by dsimp only at h; omega)).trans (dif_pos h))

/-- The column sums the point stores, if it is a last group's. -/
def sums (c : Dev nD) (t : Fin cfg0.N) : Vec F S1x128 .f32 × Vec F S1x128 .f32 :=
  if h : t.val % 32 = 31 then lastSums m c t _ (atD m c t h (prev m c t)) else ⟨fresh (ms0_16 t) [], fresh (ms0_17 t) []⟩

/-! ## The stores cover what nothing was known of -/

theorem cover_A_10 (c : Dev nD) (t : Fin cfg0.N) (h : t.val % 32 = 0) (y : S256x128.Idx) : ∃ pc ∈ (atA m c t h).1, y ∈ pc.1.set :=
  View.cover_of_tiledBy _ ![256, 128] (by sl_kernel_rfl) y
theorem cover_A_11 (c : Dev nD) (t : Fin cfg0.N) (h : t.val % 32 = 0) (y : S8192x128.Idx) : ∃ pc ∈ (atA m c t h).2.1, y ∈ pc.1.set :=
  View.cover_of_tiledBy _ ![256, 128] (by sl_kernel_rfl) y
theorem cover_A_12 (c : Dev nD) (t : Fin cfg0.N) (h : t.val % 32 = 0) (y : S8192x128.Idx) : ∃ pc ∈ (atA m c t h).2.2.1, y ∈ pc.1.set :=
  View.cover_of_tiledBy _ ![256, 128] (by sl_kernel_rfl) y
theorem cover_A_13 (c : Dev nD) (t : Fin cfg0.N) (h : t.val % 32 = 0) (y : S2x2x128x128.Idx) : ∃ pc ∈ (atA m c t h).2.2.2.1, y ∈ pc.1.set :=
  View.cover_of_tiledBy _ ![1, 1, 128, 128] (by sl_kernel_rfl) y
theorem cover_A_14 (c : Dev nD) (t : Fin cfg0.N) (h : t.val % 32 = 0) (y : S2x1x128.Idx) : ∃ pc ∈ (atA m c t h).2.2.2.2.1, y ∈ pc.1.set :=
  View.cover_of_tiledBy _ ![1, 1, 128] (by sl_kernel_rfl) y
theorem cover_A_15 (c : Dev nD) (t : Fin cfg0.N) (h : t.val % 32 = 0) (y : S1x128.Idx) : ∃ pc ∈ (atA m c t h).2.2.2.2.2.1, y ∈ pc.1.set :=
  View.cover_of_tiledBy _ ![1, 128] (by sl_kernel_rfl) y
theorem cover_A_18 (c : Dev nD) (t : Fin cfg0.N) (h : t.val % 32 = 0) (y : S512x768.Idx) : ∃ pc ∈ (atA m c t h).2.2.2.2.2.2.1, y ∈ pc.1.set :=
  View.cover_of_tiledBy _ ![256, 768] (by sl_kernel_rfl) y
theorem cover_B_10 (c : Dev nD) (t : Fin cfg0.N) (h : t.val % 32 = 1) (s : St F) (y : S256x128.Idx) : ∃ pc ∈ (atB m c t h s).1, y ∈ pc.1.set :=
  View.cover_of_tiledBy _ ![256, 128] (by sl_kernel_rfl) y
theorem cover_C_10 (c : Dev nD) (t : Fin cfg0.N) (h : 2 ≤ t.val % 32) (h' : t.val % 32 ≠ 31) (s : St F) (y : S256x128.Idx) : ∃ pc ∈ (atC m c t h h' s).1, y ∈ pc.1.set :=
  View.cover_of_tiledBy _ ![256, 128] (by sl_kernel_rfl) y
theorem cover_D_10 (c : Dev nD) (t : Fin cfg0.N) (h : t.val % 32 = 31) (s : St F) (y : S256x128.Idx) : ∃ pc ∈ (atD m c t h s).1, y ∈ pc.1.set :=
  View.cover_of_tiledBy _ ![256, 128] (by sl_kernel_rfl) y
theorem cover_D_16 (c : Dev nD) (t : Fin cfg0.N) (h : t.val % 32 = 31) (s : St F) (y : S1x128.Idx) : ∃ pc ∈ (atD m c t h s).2.2.2.2.2.2.1, y ∈ pc.1.set :=
  View.cover_of_tiledBy _ ![1, 128] (by sl_kernel_rfl) y
theorem cover_D_17 (c : Dev nD) (t : Fin cfg0.N) (h : t.val % 32 = 31) (s : St F) (y : S1x128.Idx) : ∃ pc ∈ (atD m c t h s).2.2.2.2.2.2.2.1, y ∈ pc.1.set :=
  View.cover_of_tiledBy _ ![1, 128] (by sl_kernel_rfl) y

end Cert.KernelAttIdeal.Frame

end
-- ==== Proof.AttFrame.lean ====
/- The attention gradient's frame: the body at every grid point, and the run of the whole kernel. -/
module

public import proofs.«01_k».proof.Proof.AttPoint

@[expose] public section

set_option maxRecDepth 16384

noncomputable section

namespace Cert.KernelAttIdeal.Frame

open Cert.KernelAttIdeal Cert.KernelAttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- Between points: before the first, the scratch and the generator's register at anything; after point `n`, the bias rows that it left. -/
def between (c : Dev nD) : (n : ℕ) → n ≤ cfg0.N → sProp 𝕄
  | 0, _ => Pipeline.ΦA spec0 c
  | n + 1, h => iprop(own c rows (leaves m c n h).2.bias ∗ ∃ r, prngReg c r)

theorem held_rows (c : Dev nD) :
    (held c rows : sProp 𝕄) = iprop(∃ f : Buf (Elt F) ((c : Thread nD τ).loc cc0_scratch0), ((c : Thread nD τ).loc cc0_scratch0) ↦{fullShare} f) := by
  unfold held own; simp only [owns_whole]; rfl

/-- The scratch is there before every point, -/
theorem between_held (c : Dev nD) (n : ℕ) (h : n ≤ cfg0.N) : between m c n h ⊢ iprop(held c rows ∗ ∃ r, prngReg c r) := by
  cases n with
  | zero =>
    unfold between Pipeline.ΦA
    rw [scopedRest0_eq, held_rows]
  | succ n =>
    unfold between held
    iintro ⟨H, Hr⟩
    isplitl [H]
    · iexists _; iexact H
    iexact Hr

/-- and at any contents it is what the launch asks for. -/
theorem held_launch (c : Dev nD) : iprop(held c rows ∗ ∃ r, prngReg c r) ⊢ (Pipeline.ΦA spec0 c : sProp 𝕄) := by
  unfold Pipeline.ΦA
  rw [scopedRest0_eq, held_rows]

/-- The arrays as the region finds them; after the body at `t`, each input's block in place and the outputs at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (leaves m c t.val t.isLt).1
    | ⟨11, _⟩ => (leaves m c t.val t.isLt).2.dk
    | ⟨12, _⟩ => (leaves m c t.val t.isLt).2.dv
    | ⟨13, _⟩ => (leaves m c t.val t.isLt).2.dt
    | ⟨14, _⟩ => (leaves m c t.val t.isLt).2.dc
    | ⟨15, _⟩ => (leaves m c t.val t.isLt).2.sq
    | ⟨16, _⟩ => (sums m c t).1
    | ⟨17, _⟩ => (sums m c t).2
    | ⟨n + 18, h⟩ => absurd h (Nat.not_lt.mpr (Nat.le_add_left 18 n))
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem share_eq (c : Dev nD) (w : Fin cfg0.W) : (dats m 0 c).q w = Pipeline.shareOf spec0 w := by dsimp only [dats]
theorem Φ_eq (c : Dev nD) (t : Fin (cfg0.N + 1)) : (dats m 0 c).Φ t = between m c t.val (Nat.le_of_lt_succ t.isLt) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (leaves m c t.val t.isLt).1 := by dsimp only [dats]
theorem after0_11 (c : Dev nD) (t : Fin cfg0.N) : (dats m 0 c).after 11 t = (leaves m c t.val t.isLt).2.dk := by dsimp only [dats]
theorem after0_12 (c : Dev nD) (t : Fin cfg0.N) : (dats m 0 c).after 12 t = (leaves m c t.val t.isLt).2.dv := by dsimp only [dats]
theorem after0_13 (c : Dev nD) (t : Fin cfg0.N) : (dats m 0 c).after 13 t = (leaves m c t.val t.isLt).2.dt := by dsimp only [dats]
theorem after0_14 (c : Dev nD) (t : Fin cfg0.N) : (dats m 0 c).after 14 t = (leaves m c t.val t.isLt).2.dc := by dsimp only [dats]
theorem after0_15 (c : Dev nD) (t : Fin cfg0.N) : (dats m 0 c).after 15 t = (leaves m c t.val t.isLt).2.sq := by dsimp only [dats]
theorem after0_16 (c : Dev nD) (t : Fin cfg0.N) : (dats m 0 c).after 16 t = (sums m c t).1 := by dsimp only [dats]
theorem after0_17 (c : Dev nD) (t : Fin cfg0.N) : (dats m 0 c).after 17 t = (sums m c t).2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- Away from a head pair's first group the buffer of a running sum holds what the point before left. -/
theorem before0_11 (c : Dev nD) (t : Fin cfg0.N) (h : t.val % 32 ≠ 0) (d) : (dats m 0 c).before 11 t d = (prev m c t).dk := by
  have hN : t.val < 256 := lt_of_lt_of_eq t.isLt (show cfg0.N = 256 from N_0)
  rw [Dat.before_out_kept _ 11 rfl t (by omega) (Bool.eq_false_iff.mpr fun k => by have := (flush0_11 _).mp k; dsimp only at this; omega)
    live_11 (fun _ _ => rfl)]
  dsimp only [dats]
theorem before0_12 (c : Dev nD) (t : Fin cfg0.N) (h : t.val % 32 ≠ 0) (d) : (dats m 0 c).before 12 t d = (prev m c t).dv := by
  have hN : t.val < 256 := lt_of_lt_of_eq t.isLt (show cfg0.N = 256 from N_0)
  rw [Dat.before_out_kept _ 12 rfl t (by omega) (Bool.eq_false_iff.mpr fun k => by have := (flush0_12 _).mp k; dsimp only at this; omega)
    live_12 (fun _ _ => rfl)]
  dsimp only [dats]
theorem before0_13 (c : Dev nD) (t : Fin cfg0.N) (h : t.val % 32 ≠ 0) (d) : (dats m 0 c).before 13 t d = (prev m c t).dt := by
  have hN : t.val < 256 := lt_of_lt_of_eq t.isLt (show cfg0.N = 256 from N_0)
  rw [Dat.before_out_kept _ 13 rfl t (by omega) (Bool.eq_false_iff.mpr fun k => by have := (flush0_13 _).mp k; dsimp only at this; omega)
    (fun _ => rfl) (fun _ _ => rfl)]
  dsimp only [dats]
theorem before0_14 (c : Dev nD) (t : Fin cfg0.N) (h : t.val % 32 ≠ 0) (d) : (dats m 0 c).before 14 t d = (prev m c t).dc := by
  have hN : t.val < 256 := lt_of_lt_of_eq t.isLt (show cfg0.N = 256 from N_0)
  rw [Dat.before_out_kept _ 14 rfl t (by omega) (Bool.eq_false_iff.mpr fun k => by have := (flush0_14 _).mp k; dsimp only at this; omega)
    (fun _ => rfl) (fun _ _ => rfl)]
  dsimp only [dats]
theorem before0_15 (c : Dev nD) (t : Fin cfg0.N) (h : t.val % 32 ≠ 0) (d) : (dats m 0 c).before 15 t d = (prev m c t).sq := by
  have hN : t.val < 256 := lt_of_lt_of_eq t.isLt (show cfg0.N = 256 from N_0)
  rw [Dat.before_out_kept _ 15 rfl t (by omega) (Bool.eq_false_iff.mpr fun k => by have := (flush0_15 _).mp k; dsimp only at this; omega)
    (fun _ => rfl) (fun _ _ => rfl)]
  dsimp only [dats]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- the buffer of a column sum afterwards: stored at a head pair's last group, untouched elsewhere, -/
def sumPost (c : Dev nD) (t : Fin cfg0.N) (w : Fin 18) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- and what the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ sumPost m c t 16 ∗ sumPost m c t 17)

theorem idle_16 : ∀ t : Fin cfg0.N, cfg0.idle 16 (cfg0.grid.coords t) = !decide (t.val % 32 = 31) :=
  (by decide +kernel : ∀ t : Fin grid0.N, idle0 16 (grid0.coords t) = !decide (t.val % 32 = 31))
theorem idle_17 : ∀ t : Fin cfg0.N, cfg0.idle 17 (cfg0.grid.coords t) = !decide (t.val % 32 = 31) :=
  (by decide +kernel : ∀ t : Fin grid0.N, idle0 17 (grid0.coords t) = !decide (t.val % 32 = 31))
theorem sumPost_16_last (c : Dev nD) (t : Fin cfg0.N) (h : t.val % 32 = 31) :
    sumPost m c t 16 = owns (c : Thread nD τ) (ms0_16 t) fullShare ((dats m 0 c).after 16 t) := by
  unfold sumPost; rw [idle_16, decide_eq_true h]; rfl
theorem sumPost_16_other (c : Dev nD) (t : Fin cfg0.N) (h : t.val % 32 ≠ 31) :
    sumPost m c t 16 = iprop(∃ d, owns (c : Thread nD τ) (ms0_16 t) fullShare ((dats m 0 c).before 16 t d)) := by
  unfold sumPost; rw [idle_16, decide_eq_false h, Bool.eq_false_iff.mpr fun k => h ((flush0_16 t).mp k)]; rfl
theorem sumPost_17_last (c : Dev nD) (t : Fin cfg0.N) (h : t.val % 32 = 31) :
    sumPost m c t 17 = owns (c : Thread nD τ) (ms0_17 t) fullShare ((dats m 0 c).after 17 t) := by
  unfold sumPost; rw [idle_17, decide_eq_true h]; rfl
theorem sumPost_17_other (c : Dev nD) (t : Fin cfg0.N) (h : t.val % 32 ≠ 31) :
    sumPost m c t 17 = iprop(∃ d, owns (c : Thread nD τ) (ms0_17 t) fullShare ((dats m 0 c).before 17 t d)) := by
  unfold sumPost; rw [idle_17, decide_eq_false h, Bool.eq_false_iff.mpr fun k => h ((flush0_17 t).mp k)]; rfl

theorem Φ_succ (c : Dev nD) (t : Fin cfg0.N) :
    (dats m 0 c).Φ t.succ = iprop(own c rows (leaves m c t.val t.isLt).2.bias ∗ ∃ r, prngReg c r) := by
  rw [Φ_eq]; rfl
theorem Φ_pred (c : Dev nD) (t : Fin cfg0.N) (h : t.val % 32 ≠ 0) :
    (dats m 0 c).Φ t.castSucc = iprop(own c rows (prev m c t).bias ∗ ∃ r, prngReg c r) := by
  obtain ⟨n, hn⟩ := t
  cases n with
  | zero => exact absurd rfl h
  | succ n => rw [Φ_eq]; rfl

/-- The stores of a run over a whole buffer, read back. -/
theorem put_fresh (c : Dev nD) {S : Shape} {e : EltTy} (M : Memref sig .tc .vmem S e) (L : List (View.Piece (Elt F) S e))
    (h : ∀ y : S.Idx, ∃ pc ∈ L, y ∈ pc.1.set) : iprop(∃ f, put c M f L) ⊢ (own c M (fresh M L) : sProp 𝕄) := by
  unfold put own owns
  iintro ⟨%f, H⟩; iexists _; isplitr
  swap; · iexact H
  ipureintro; exact View.read_writes_of_cover _ _ _ _ _ h
theorem put_over (c : Dev nD) {S : Shape} {e : EltTy} {M : Memref sig .tc .vmem S e} (hM : M.IsWhole) (x : Vec F S e) (L : List (View.Piece (Elt F) S e)) :
    put c M (hM.unread x) L ⊢ (own c M (over hM x L) : sProp 𝕄) := by
  unfold put own owns
  iintro H; iexists _; isplitr
  swap; · iexact H
  ipureintro; rfl

set_option maxHeartbeats 1600000 in
/-- The body at a head pair's first group. -/
theorem sound_A (c : Dev nD) (t : Fin cfg0.N) (h : t.val % 32 = 0) (h31 : t.val % 32 ≠ 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    Φ_eq m c t.castSucc, Φ_succ, after0_0, after0_1, after0_2, after0_3, after0_4, after0_5, after0_6, after0_7, after0_8, after0_9, after0_10, after0_11, after0_12, after0_13, after0_14, after0_15, leaves_A m c t h]
  rw [sumPost_16_other m c t h31, sumPost_17_other m c t h31]
  unfold startLeaves; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  ihave HΦ := (between_held m c _ _) $$ HΦ
  icases HΦ with ⟨HB, Hr⟩
  iapply ((atA m c t h).2.2.2.2.2.2.2 Set.univ _)
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [HB]; · iexact HB
  iintro ⟨⟨H0, H1, H2, H3, H4, H5, H6, H7, H8, H9⟩, H10, H11, H12, H13, H14, H15, HB⟩
  isplitl [HB Hr]
  · isplitl [HB]
    · iapply (put_fresh c _ _ (cover_A_18 m c t h)); iexact HB
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (put_fresh c _ _ (cover_A_10 m c t h)); iexact H10
  isplitl [H11]; · iapply (put_fresh c _ _ (cover_A_11 m c t h)); iexact H11
  isplitl [H12]; · iapply (put_fresh c _ _ (cover_A_12 m c t h)); iexact H12
  isplitl [H13]; · iapply (put_fresh c _ _ (cover_A_13 m c t h)); iexact H13
  isplitl [H14]; · iapply (put_fresh c _ _ (cover_A_14 m c t h)); iexact H14
  isplitl [H15]; · iapply (put_fresh c _ _ (cover_A_15 m c t h)); iexact H15
  isplitl [H16]; · iexists d16; iexact H16
  iexists d17; iexact H17

set_option maxHeartbeats 1600000 in
/-- The body at a group in between, given its run. -/
theorem sound_mid (c : Dev nD) (t : Fin cfg0.N) (h0 : t.val % 32 ≠ 0) (h31 : t.val % 32 ≠ 31) (R : MidAt m c t (prev m c t))
    (hcov : ∀ y : S256x128.Idx, ∃ pc ∈ R.1, y ∈ pc.1.set) (hR : leaves m c t.val t.isLt = midLeaves m c t _ R) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_11 m c t h0, before0_12 m c t h0, before0_13 m c t h0, before0_14 m c t h0, before0_15 m c t h0]
  rw [show (dats m 0 c).owesAt () t.succ = (dats m 0 c).owesAt () t.castSucc from rfl,
    Φ_pred m c t h0, Φ_succ, after0_0, after0_1, after0_2, after0_3, after0_4, after0_5, after0_6, after0_7, after0_8, after0_9, after0_10, after0_11, after0_12, after0_13, after0_14, after0_15, hR]
  rw [sumPost_16_other m c t h31, sumPost_17_other m c t h31]
  unfold midLeaves; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  icases HΦ with ⟨HB, Hr⟩
  iapply ((R).2.2.2.2.2.2 Set.univ _)
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexists _; iexact H10
  isplitl [H11]; · iexact H11
  isplitl [H12]; · iexact H12
  isplitl [H13]; · iexact H13
  isplitl [H14]; · iexact H14
  isplitl [H15]; · iexact H15
  isplitl [HB]; · iexact HB
  iintro ⟨⟨H0, H1, H2, H3, H4, H5, H6, H7, H8, H9⟩, H10, H11, H12, H13, H14, H15, HB⟩
  isplitl [HB Hr]
  · isplitl [HB]
    · iexact HB
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (put_fresh c _ _ (hcov)); iexact H10
  isplitl [H11]; · iapply (put_over c (hs0_11 t) _ _); iexact H11
  isplitl [H12]; · iapply (put_over c (hs0_12 t) _ _); iexact H12
  isplitl [H13]; · iapply (put_over c (hs0_13 t) _ _); iexact H13
  isplitl [H14]; · iapply (put_over c (hs0_14 t) _ _); iexact H14
  isplitl [H15]; · iapply (put_over c (hs0_15 t) _ _); iexact H15
  isplitl [H16]; · iexists d16; iexact H16
  iexists d17; iexact H17

set_option maxHeartbeats 1600000 in
/-- The body at the last group. -/
theorem sound_D (c : Dev nD) (t : Fin cfg0.N) (h0 : t.val % 32 ≠ 0) (h31 : t.val % 32 = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_11 m c t h0, before0_12 m c t h0, before0_13 m c t h0, before0_14 m c t h0, before0_15 m c t h0]
  rw [show (dats m 0 c).owesAt () t.succ = (dats m 0 c).owesAt () t.castSucc from rfl,
    Φ_pred m c t h0, Φ_succ, after0_0, after0_1, after0_2, after0_3, after0_4, after0_5, after0_6, after0_7, after0_8, after0_9, after0_10, after0_11, after0_12, after0_13, after0_14, after0_15, leaves_D m c t h31]
  rw [sumPost_16_last m c t h31, sumPost_17_last m c t h31, after0_16, after0_17, sums, dif_pos h31]
  unfold lastLeaves lastSums; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  icases HΦ with ⟨HB, Hr⟩
  iapply ((atD m c t h31 (prev m c t)).2.2.2.2.2.2.2.2 Set.univ _)
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexists _; iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [HB]; · iexact HB
  iintro ⟨⟨H0, H1, H2, H3, H4, H5, H6, H7, H8, H9⟩, H10, H11, H12, H13, H14, H15, H16, H17, HB⟩
  isplitl [HB Hr]
  · isplitl [HB]
    · iexact HB
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (put_fresh c _ _ (cover_D_10 m c t h31 _)); iexact H10
  isplitl [H11]; · iapply (put_over c (hs0_11 t) _ _); iexact H11
  isplitl [H12]; · iapply (put_over c (hs0_12 t) _ _); iexact H12
  isplitl [H13]; · iapply (put_over c (hs0_13 t) _ _); iexact H13
  isplitl [H14]; · iapply (put_over c (hs0_14 t) _ _); iexact H14
  isplitl [H15]; · iapply (put_over c (hs0_15 t) _ _); iexact H15
  isplitl [H16]; · iapply (put_fresh c _ _ (cover_D_16 m c t h31 _)); iexact H16
  iapply (put_fresh c _ _ (cover_D_17 m c t h31 _)); iexact H17

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 32 = 0
  · exact sound_A m c t h (by omega)
  by_cases h31 : t.val % 32 = 31
  · exact sound_D m c t h h31
  by_cases h1 : t.val % 32 = 1
  · exact sound_mid m c t h h31 _ (cover_B_10 m c t h1 _) (leaves_B m c t h1)
  · exact sound_mid m c t h h31 _ (cover_C_10 m c t (by omega) h31 _) (leaves_C m c t (by omega) h31)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  apply triple_restated (sound_body m c t) rfl
  · exact .rfl
  intro _
  unfold bodyPost sumPost
  simp only [show idle0 11 (grid0.coords t) = false from live_11 _, show idle0 12 (grid0.coords t) = false from live_12 _]
  exact BI.Entails.refl _

/-! ## The run of the whole kernel -/

-- the launch theorem's implicit arguments are found by unfolding plain definitions
set_option backward.isDefEq.respectTransparency.types false in
/-- Every run ends with the arrays at what the proof data say, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun c w _ => share_eq m c w)
    (howed := fun _ _ => rfl) (V := V m) (hmain := hmain m Variants.none) (hA := A_eq m)
    (hin := fun c => by rw [Φ_eq]; exact .rfl)
    (hout := fun c => by rw [Φ_eq]; exact (between_held m c _ _).trans (held_launch c))

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, the semaphores at zero. -/
theorem frame_att : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelAttIdeal.Frame

end
-- ==== Proof.AttTwin.lean ====
/- The attention gradient's two programs are one text but for the mask's constant, which one of them writes out and the other
   names: the frame of the first is the frame of the second, read with the name at the constant. -/
module

public import proofs.«01_k».proof.Proof.AttFrame
public import proofs.«01_k».proof.Proof.Gen.KernelAtt
public import proofs.«01_k».proof.Defs
public import Idealize.ShloMosaic.PureOps.IdealRules

@[expose] public section

set_option maxRecDepth 16384

noncomputable section

namespace Cert.Proof

open Idealize.ShloMosaic Idealize.ShloMosaic.TcCoe Idealize.SL Idealize.SL.Sem

/-- A named constant at its bits. -/
@[reducible] def namedBits : Named Bits := ⟨fun _ _ {φ} bits => Scalar.ofBits φ bits⟩

attribute [local instance] namedBits

/-- The frame of the program that writes the constant out. -/
theorem att_frame : Cert.quiescent_KernelAtt (hKernelAtt := Cert.KernelAtt.Gen.facts) :=
  (by sl_kernel_rfl : (∀ (m : (ℓ : Loc Cert.KernelAttIdeal.nD Cert.KernelAttIdeal.τ Cert.KernelAttIdeal.sig) → Buf (Elt Bits) ℓ) (g : Dev Cert.KernelAttIdeal.nD → PrngReg), True →
    θ_run (Cert.KernelAttIdeal.defs (F := Bits)) (onTc (τ := Cert.KernelAttIdeal.τ) (Cert.KernelAttIdeal.main (F := Bits))) ⟨m, fun _ => 0, g⟩ (fun r => (∀ c : Dev Cert.KernelAttIdeal.nD,
      r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
      ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
      ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2))
      ∧ r.2.sem = fun _ => 0)) = Cert.quiescent_KernelAtt (hKernelAtt := Cert.KernelAtt.Gen.facts)).mp
  fun m g _ => @Cert.KernelAttIdeal.Frame.frame_att Bits _ namedBits m g

/-- The name the mask's constant goes by stands for −∞. -/
theorem att_preserves : Cert.preserves_KernelAtt_KernelAttIdeal :=
  IdealRules.named_const.statement _ _ _ _ _ rfl

end Cert.Proof

end
-- ==== Proof.AttStep.lean ====
/- What the attention gradient's kernel leaves after each grid point, as the step's own values over the point's blocks: the block of
   dq, and what is added to each running sum. -/
module

public import proofs.«01_k».proof.Proof.AttFrame
public import Idealize.ShloMosaic.Lib.Pipeline.ValueKit
public import Idealize.ShloMosaic.Lib.Pipeline.ReadBack
public import Idealize.ShloMosaic.Lib.VecWindow
public import Idealize.ShloMosaic.Lib.WritesUnit

@[expose] public section

set_option maxRecDepth 16384

noncomputable section

open Idealize.ShloMosaic Idealize.ShloMosaic.TcCoe Idealize.SL.Sem

namespace Cert.KernelAttIdeal.Frame

open Cert.KernelAttIdeal Cert.KernelAttIdeal.Gen

/-- A point's blocks: queries, three groups of keys and of values, the output's cotangent, and the bias rows of the two heads. -/
structure Ins where
  q : Vec Ideal S256x128 .bf16
  k0 : Vec Ideal S256x128 .bf16
  k1 : Vec Ideal S256x128 .bf16
  k2 : Vec Ideal S256x128 .bf16
  v0 : Vec Ideal S256x128 .bf16
  v1 : Vec Ideal S256x128 .bf16
  v2 : Vec Ideal S256x128 .bf16
  g : Vec Ideal S256x128 .bf16
  rows : Vec Ideal S512x768 .f32

/-- The lanes' numbers. -/
abbrev lanes : IVec S1x128 32 := iota .tc S1x128 32 [1] iota_S1x128_d1_w32

namespace Ins
variable (i : grid0.Coords) (I : Ins)
/-- The three groups of keys, of values; the scaled queries and the cotangent of the two heads, one under the other. -/
def keys : FVec Ideal S768x128 .bf16 := k0_pay15 I.k0 I.k1 I.k2
def vals : FVec Ideal S768x128 .bf16 := k0_pay16 I.v0 I.v1 I.v2
def qs : FVec Ideal S512x128 .bf16 := k0_pay24 (k0_pay18 I.q) lanes k0_pay19 k0_pay20
def gs : FVec Ideal S512x128 .bf16 := k0_pay25 I.g lanes k0_pay19 k0_pay20
/-- The attention weights, their cotangent, the two's product summed over the keys, and the scores' cotangent. -/
def P : FVec Ideal S512x768 .f32 := k0_pay26 I.keys (k0_pay17 i) (k0_pay18 I.q) lanes k0_pay19 k0_pay20 I.rows
def dP : FVec Ideal S512x768 .f32 := k0_pay27 I.vals I.g lanes k0_pay19 k0_pay20
def dots : FVec Ideal S512x1 .f32 := k0_pay28 I.keys I.vals (k0_pay17 i) (k0_pay18 I.q) I.g lanes k0_pay19 k0_pay20 I.rows
def dS : FVec Ideal S512x768 .f32 := k0_pay29 (I.P i) I.dP (I.dots i)
/-- The gradients of the queries, and what the point adds to those of its keys and values. -/
def dQ : FVec Ideal S256x128 .f32 := k0_pay31 I.keys (k0_pay22 k0_pay19) (k0_pay23 lanes k0_pay20) (I.P i) I.dP (I.dots i)
def dK : FVec Ideal S768x128 .f32 := k0_pay32 I.qs (I.P i) I.dP (I.dots i)
def dV : FVec Ideal S768x128 .f32 := k0_pay33 I.gs (I.P i)
end Ins

variable (m : (ℓ : Loc nD τ sig) → Buf (Elt Ideal) ℓ)

/-- A load of a whole block's buffer. -/
abbrev got {M : Memref sig .tc .vmem S256x128 .bf16} (h : M.IsWhole) (x : Vec Ideal S256x128 .bf16) : Vec Ideal S256x128 .bf16 :=
  View.readAt (Elt Ideal) M.view (Rect.unit (s := S256x128) ![0, 0] S256x128.size inb_S256x128_S256x128_0_0).toLoadRect (h.unread x)
theorem got_eq {M : Memref sig .tc .vmem S256x128 .bf16} (h : M.IsWhole) (x : Vec Ideal S256x128 .bf16) : got h x = x :=
  (View.readAt_full _ _ _).trans (h.read_unread _)

/-- The point's blocks as its loads find them, and as they are. -/
abbrev loaded (c : Dev nD) (t : Fin cfg0.N) (B : Vec Ideal S512x768 .f32) : Ins :=
  ⟨got (hs0_0 t) (iblk m c 0 t), got (hs0_1 t) (iblk m c 1 t), got (hs0_2 t) (iblk m c 2 t), got (hs0_3 t) (iblk m c 3 t),
    got (hs0_4 t) (iblk m c 4 t), got (hs0_5 t) (iblk m c 5 t), got (hs0_6 t) (iblk m c 6 t), got (hs0_9 t) (iblk m c 9 t), B⟩
abbrev blocks (c : Dev nD) (t : Fin cfg0.N) (B : Vec Ideal S512x768 .f32) : Ins :=
  ⟨iblk m c 0 t, iblk m c 1 t, iblk m c 2 t, iblk m c 3 t, iblk m c 4 t, iblk m c 5 t, iblk m c 6 t, iblk m c 9 t, B⟩
theorem loaded_eq (c : Dev nD) (t : Fin cfg0.N) (B : Vec Ideal S512x768 .f32) : loaded m c t B = blocks m c t B := by
  unfold loaded blocks; rw [got_eq, got_eq, got_eq, got_eq, got_eq, got_eq, got_eq, got_eq]

/-- The bias rows' two stores, of the first head and of the second. -/
abbrev rowStores (x7 : Vec Ideal S2x2x128x128 .f32) (x8 : Vec Ideal S2x1x128 .f32) : List (View.Piece (Elt Ideal) S512x768 .f32) :=
  [⟨Rect.unit (s := S512x768) ![256, 0] S256x768.size inb_S512x768_S256x768_256_0,
      k0_pay9 (k0_pay8 (View.ld x7 (Rect.unit (s := S2x2x128x128) ![1, 0, 0, 0] S1x2x128x128.size inb_S2x2x128x128_S1x2x128x128_1_0_0_0)))
        (View.ld x8 (Rect.unit (s := S2x1x128) ![1, 0, 0] S1x1x128.size inb_S2x1x128_S1x1x128_1_0_0))⟩,
    ⟨Rect.unit (s := S512x768) ![0, 0] S256x768.size inb_S512x768_S256x768_0_0,
      k0_pay7 (View.ld x7 (Rect.unit (s := S2x2x128x128) ![0, 0, 0, 0] S1x2x128x128.size inb_S2x2x128x128_S1x2x128x128_0_0_0_0))
        (View.ld x8 (Rect.unit (s := S2x1x128) ![0, 0, 0] S1x1x128.size inb_S2x1x128_S1x1x128_0_0_0))⟩]
/-- The bias rows of a pair of heads, from its tiles and its far rows. -/
def rowsOf (x7 : Vec Ideal S2x2x128x128 .f32) (x8 : Vec Ideal S2x1x128 .f32) : Vec Ideal S512x768 .f32 := View.canon (rowStores x7 x8)

/-- The stores of the bias rows as the loads give them. -/
abbrev rowStores' (c : Dev nD) (t : Fin cfg0.N) : List (View.Piece (Elt Ideal) S512x768 .f32) :=
  rowStores ((ms0_7 t).view.read (Elt Ideal) ((hs0_7 t).unread (iblk m c 7 t))) ((ms0_8 t).view.read (Elt Ideal) ((hs0_8 t).unread (iblk m c 8 t)))
theorem rowStores'_eq (c : Dev nD) (t : Fin cfg0.N) : rowStores' m c t = rowStores (iblk m c 7 t) (iblk m c 8 t) := by
  unfold rowStores'; rw [Memref.IsWhole.read_unread, Memref.IsWhole.read_unread]

abbrev readRows (c : Dev nD) (t : Fin cfg0.N) : Vec Ideal S512x768 .f32 :=
  rows.view.readCov (rowStores' m c t) (Rect.unit (s := S512x768) ![0, 0] S512x768.size inb_S512x768_S512x768_0_0).toLoadRect
theorem readRows_eq (c : Dev nD) (t : Fin cfg0.N) : readRows m c t = rowsOf (iblk m c 7 t) (iblk m c 8 t) := by
  unfold readRows; rw [rowStores'_eq]
  exact (View.readAt_full _ _ _).trans (View.read_writes_junk_eq_canon _ _)
abbrev keptRows (B : Vec Ideal S512x768 .f32) : Vec Ideal S512x768 .f32 :=
  View.readAt (Elt Ideal) rows.view (Rect.unit (s := S512x768) ![0, 0] S512x768.size inb_S512x768_S512x768_0_0).toLoadRect (rows_whole.unread B)
theorem keptRows_eq (B : Vec Ideal S512x768 .f32) : keptRows B = B := (View.readAt_full _ _ _).trans (rows_whole.read_unread _)

/-! ## The stores of a point -/

abbrev dqStore (w : FVec Ideal S256x128 .f32) : View.Piece (Elt Ideal) S256x128 .bf16 :=
  ⟨Rect.unit (s := S256x128) ![0, 0] S256x128.size inb_S256x128_S256x128_0_0, k0_pay46 w⟩
abbrev sqStore (w : FVec Ideal S256x128 .f32) (l : Vec Ideal S1x128 .f32) : View.Piece (Elt Ideal) S1x128 .f32 :=
  ⟨Rect.unit (s := S1x128) ![0, 0] S1x128.size inb_S1x128_S1x128_0_0, k0_pay47 w l⟩
/-- The four tiles' stores, over what the loads of them found. -/
abbrev tileStores (i : grid0.Coords) (I : Ins) (l00 l01 l10 l11 : Vec Ideal S1x1x128x128 .f32) : List (View.Piece (Elt Ideal) S2x2x128x128 .f32) :=
  [⟨Rect.unit (s := S2x2x128x128) ![1, 1, 0, 0] S1x1x128x128.size inb_S2x2x128x128_S1x1x128x128_1_1_0_0, k0_pay44 (k0_pay42 (I.dS i)) l11⟩,
    ⟨Rect.unit (s := S2x2x128x128) ![1, 0, 0, 0] S1x1x128x128.size inb_S2x2x128x128_S1x1x128x128_1_0_0_0, k0_pay43 (I.dS i) l10⟩,
    ⟨Rect.unit (s := S2x2x128x128) ![0, 1, 0, 0] S1x1x128x128.size inb_S2x2x128x128_S1x1x128x128_0_1_0_0, k0_pay38 (k0_pay37 (I.P i) I.dP (I.dots i) l01)⟩,
    ⟨Rect.unit (s := S2x2x128x128) ![0, 0, 0, 0] S1x1x128x128.size inb_S2x2x128x128_S1x1x128x128_0_0_0_0, k0_pay36 (I.P i) I.dP (I.dots i) l00⟩]
/-- The two far rows' stores. -/
abbrev farStores (i : grid0.Coords) (I : Ins) (l0 l1 : Vec Ideal S1x1x128 .f32) : List (View.Piece (Elt Ideal) S2x1x128 .f32) :=
  [⟨Rect.unit (s := S2x1x128) ![1, 0, 0] S1x1x128.size inb_S2x1x128_S1x1x128_1_0_0, k0_pay45 (k0_pay41 (I.dS i)) l1⟩,
    ⟨Rect.unit (s := S2x1x128) ![0, 0, 0] S1x1x128.size inb_S2x1x128_S1x1x128_0_0_0, k0_pay39 (k0_pay35 (I.P i) I.dP (I.dots i)) l0⟩]
theorem inRows {o : ℕ} (ho : o + 256 ≤ 8192) : ∀ a : Fin 2, (![o, 0] : Fin 2 → ℕ) a + S256x128.size a ≤ S8192x128.size a := by
  intro a; fin_cases a
  · exact ho
  · exact le_refl 128
/-- A store of 256 rows from row `o` on. -/
abbrev rowStore (o : ℕ) (ho : o + 256 ≤ 8192) (w : FVec Ideal S256x128 .f32) : View.Piece (Elt Ideal) S8192x128 .f32 :=
  ⟨Rect.unit (s := S8192x128) ![o, 0] S256x128.size (inRows ho), w⟩
/-- A load of 256 rows from row `o` on. -/
abbrev rowLoad {M : Memref sig .tc .vmem S8192x128 .f32} (o : ℕ) (ho : o + 256 ≤ 8192) (f : M.view.ty.Contents (Elt Ideal)) : Vec Ideal S256x128 .f32 :=
  View.readAt (Elt Ideal) M.view (Rect.unit (s := S8192x128) ![o, 0] S256x128.size (inRows ho)).toLoadRect f
abbrev tileLoad {M : Memref sig .tc .vmem S2x2x128x128 .f32} (off : Fin 4 → ℕ) (h : ∀ a, off a + S1x1x128x128.size a ≤ S2x2x128x128.size a) (f : M.view.ty.Contents (Elt Ideal)) : Vec Ideal S1x1x128x128 .f32 :=
  View.readAt (Elt Ideal) M.view (Rect.unit (s := S2x2x128x128) off S1x1x128x128.size h).toLoadRect f
abbrev farLoad {M : Memref sig .tc .vmem S2x1x128 .f32} (off : Fin 3 → ℕ) (h : ∀ a, off a + S1x1x128.size a ≤ S2x1x128.size a) (f : M.view.ty.Contents (Elt Ideal)) : Vec Ideal S1x1x128 .f32 :=
  View.readAt (Elt Ideal) M.view (Rect.unit (s := S2x1x128) off S1x1x128.size h).toLoadRect f
abbrev sqLoad {M : Memref sig .tc .vmem S1x128 .f32} (f : M.view.ty.Contents (Elt Ideal)) : Vec Ideal S1x128 .f32 :=
  View.readAt (Elt Ideal) M.view (Rect.unit (s := S1x128) ![0, 0] S1x128.size inb_S1x128_S1x128_0_0).toLoadRect f

section
variable (c : Dev nD) (t : Fin cfg0.N) (s : St Ideal)

/-- A later group's tiles, far rows and running sum of dq, in any of the runs. -/
abbrev laterTiles (I : Ins) : Vec Ideal S2x2x128x128 .f32 := over (hs0_13 t) s.dt (tileStores (grid0.coords t) I
  (tileLoad ![0, 0, 0, 0] inb_S2x2x128x128_S1x1x128x128_0_0_0_0 ((hs0_13 t).unread s.dt)) (tileLoad ![0, 1, 0, 0] inb_S2x2x128x128_S1x1x128x128_0_1_0_0 ((hs0_13 t).unread s.dt))
  (tileLoad ![1, 0, 0, 0] inb_S2x2x128x128_S1x1x128x128_1_0_0_0 ((hs0_13 t).unread s.dt)) (tileLoad ![1, 1, 0, 0] inb_S2x2x128x128_S1x1x128x128_1_1_0_0 ((hs0_13 t).unread s.dt)))
abbrev laterFar (I : Ins) : Vec Ideal S2x1x128 .f32 := over (hs0_14 t) s.dc (farStores (grid0.coords t) I
  (farLoad ![0, 0, 0] inb_S2x1x128_S1x1x128_0_0_0 ((hs0_14 t).unread s.dc)) (farLoad ![1, 0, 0] inb_S2x1x128_S1x1x128_1_0_0 ((hs0_14 t).unread s.dc)))
abbrev laterSq (I : Ins) : Vec Ideal S1x128 .f32 := over (hs0_15 t) s.sq [sqStore (I.dQ (grid0.coords t)) (sqLoad ((hs0_15 t).unread s.sq))]
/-- Two and three groups of rows stored over `x`. -/
abbrev twoRows {M : Memref sig .tc .vmem S8192x128 .f32} (h : M.IsWhole) (x : Vec Ideal S8192x128 .f32) (W : FVec Ideal S768x128 .f32) (p1 p2 : FVec Ideal S768x128 .f32 → Vec Ideal S256x128 .f32 → FVec Ideal S256x128 .f32) :
    Vec Ideal S8192x128 .f32 :=
  over h x [rowStore 256 (by decide) (p2 W (rowLoad (M := M) 256 (by decide) (h.unread x))), rowStore 0 (by decide) (p1 W (rowLoad (M := M) 0 (by decide) (h.unread x)))]
abbrev threeRows {M : Memref sig .tc .vmem S8192x128 .f32} (h : M.IsWhole) (x : Vec Ideal S8192x128 .f32) (W : FVec Ideal S768x128 .f32) (p0 p1 p2 : FVec Ideal S768x128 .f32 → Vec Ideal S256x128 .f32 → FVec Ideal S256x128 .f32)
    (a : ℕ) (ha : a ≤ 29) : Vec Ideal S8192x128 .f32 :=
  over h x [rowStore (256 * a + 512) (by omega) (p2 W (rowLoad (M := M) (256 * a + 512) (by omega) (h.unread x))),
    rowStore (256 * a + 256) (by omega) (p1 W (rowLoad (M := M) (256 * a + 256) (by omega) (h.unread x))),
    rowStore (256 * a) (by omega) (p0 W (rowLoad (M := M) (256 * a) (by omega) (h.unread x)))]

/-- The whole of a first group, of the second, of a later one and of the last, over the point's loads. -/
theorem run_second (h : t.val % 32 = 1) : midLeaves m c t s (atB m c t h s)
    = ⟨fresh (ms0_10 t) [dqStore ((loaded m c t (keptRows s.bias)).dQ (grid0.coords t))],
      twoRows (hs0_11 t) s.dk ((loaded m c t (keptRows s.bias)).dK (grid0.coords t)) k0_pay1 k0_pay3,
      twoRows (hs0_12 t) s.dv ((loaded m c t (keptRows s.bias)).dV (grid0.coords t)) k0_pay2 k0_pay4,
      laterTiles t s (loaded m c t (keptRows s.bias)), laterFar t s (loaded m c t (keptRows s.bias)), laterSq t s (loaded m c t (keptRows s.bias)), s.bias⟩ := by
  sl_kernel_rfl
theorem run_later (h : 2 ≤ t.val % 32) (h' : t.val % 32 ≠ 31) : midLeaves m c t s (atC m c t h h' s)
    = ⟨fresh (ms0_10 t) [dqStore ((loaded m c t (keptRows s.bias)).dQ (grid0.coords t))],
      threeRows (hs0_11 t) s.dk ((loaded m c t (keptRows s.bias)).dK (grid0.coords t)) k0_pay48 k0_pay1 k0_pay3 (t.val % 32 - 2) (by omega),
      threeRows (hs0_12 t) s.dv ((loaded m c t (keptRows s.bias)).dV (grid0.coords t)) k0_pay49 k0_pay2 k0_pay4 (t.val % 32 - 2) (by omega),
      laterTiles t s (loaded m c t (keptRows s.bias)), laterFar t s (loaded m c t (keptRows s.bias)), laterSq t s (loaded m c t (keptRows s.bias)), s.bias⟩ := by
  sl_kernel_rfl
theorem run_last (h : t.val % 32 = 31) : lastLeaves m c t s (atD m c t h s)
    = ⟨fresh (ms0_10 t) [dqStore ((loaded m c t (keptRows s.bias)).dQ (grid0.coords t))],
      threeRows (hs0_11 t) s.dk ((loaded m c t (keptRows s.bias)).dK (grid0.coords t)) k0_pay48 k0_pay1 k0_pay3 (t.val % 32 - 2) (by omega),
      threeRows (hs0_12 t) s.dv ((loaded m c t (keptRows s.bias)).dV (grid0.coords t)) k0_pay49 k0_pay2 k0_pay4 (t.val % 32 - 2) (by omega),
      laterTiles t s (loaded m c t (keptRows s.bias)), laterFar t s (loaded m c t (keptRows s.bias)), laterSq t s (loaded m c t (keptRows s.bias)), s.bias⟩ := by
  sl_kernel_rfl
/-- The column sums the last group stores are those of the sums it leaves. -/
theorem run_sums (h : t.val % 32 = 31) : lastSums m c t s (atD m c t h s)
    = ⟨fresh (ms0_16 t) [⟨Rect.unit (s := S1x128) ![0, 0] S1x128.size inb_S1x128_S1x128_0_0, k0_pay5 (View.readAt (Elt Ideal) (ms0_11 t).view (Rect.unit (s := S8192x128) ![0, 0] S8192x128.size inb_S8192x128_S8192x128_0_0).toLoadRect
          ((ms0_11 t).view.writes (Elt Ideal) ((hs0_11 t).unread s.dk) (atD m c t h s).2.1))⟩],
      fresh (ms0_17 t) [⟨Rect.unit (s := S1x128) ![0, 0] S1x128.size inb_S1x128_S1x128_0_0, k0_pay6 (View.readAt (Elt Ideal) (ms0_12 t).view (Rect.unit (s := S8192x128) ![0, 0] S8192x128.size inb_S8192x128_S8192x128_0_0).toLoadRect
          ((ms0_12 t).view.writes (Elt Ideal) ((hs0_12 t).unread s.dv) (atD m c t h s).2.2.1))⟩]⟩ := by
  sl_kernel_rfl

/-- The fills of a first group, and its loads over them. -/
abbrev fillRows (p : FVec Ideal S8192x128 .f32) : View.Piece (Elt Ideal) S8192x128 .f32 := ⟨Rect.unit (s := S8192x128) ![0, 0] S8192x128.size inb_S8192x128_S8192x128_0_0, p⟩
abbrev fillTiles : View.Piece (Elt Ideal) S2x2x128x128 .f32 := ⟨Rect.unit (s := S2x2x128x128) ![0, 0, 0, 0] S2x2x128x128.size inb_S2x2x128x128_S2x2x128x128_0_0_0_0, k0_pay12 (F := Ideal)⟩
abbrev fillFar : View.Piece (Elt Ideal) S2x1x128 .f32 := ⟨Rect.unit (s := S2x1x128) ![0, 0, 0] S2x1x128.size inb_S2x1x128_S2x1x128_0_0_0, k0_pay13 (F := Ideal)⟩
abbrev fillSq : View.Piece (Elt Ideal) S1x128 .f32 := ⟨Rect.unit (s := S1x128) ![0, 0] S1x128.size inb_S1x128_S1x128_0_0, k0_pay14 (F := Ideal)⟩
abbrev firstRowLoad (M : Memref sig .tc .vmem S8192x128 .f32) (p : FVec Ideal S8192x128 .f32) : Vec Ideal S256x128 .f32 :=
  M.view.readCov [fillRows p] (Rect.unit (s := S8192x128) (k0_off3 (grid0.coords t)) S256x128.size (k0_off3_inb (grid0.coords t) (cond4_true t))).toLoadRect
abbrev firstRows (M : Memref sig .tc .vmem S8192x128 .f32) (p : FVec Ideal S8192x128 .f32) (W : FVec Ideal S768x128 .f32) (p2 : FVec Ideal S768x128 .f32 → Vec Ideal S256x128 .f32 → FVec Ideal S256x128 .f32) : Vec Ideal S8192x128 .f32 :=
  fresh M [rowStore 0 (by decide) (p2 W (firstRowLoad t M p)), fillRows p]
abbrev firstTileLoad (L : List (View.Piece (Elt Ideal) S2x2x128x128 .f32)) (off : Fin 4 → ℕ) (h : ∀ a, off a + S1x1x128x128.size a ≤ S2x2x128x128.size a) : Vec Ideal S1x1x128x128 .f32 :=
  (ms0_13 t).view.readCov L (Rect.unit (s := S2x2x128x128) off S1x1x128x128.size h).toLoadRect
abbrev l00 : Vec Ideal S1x1x128x128 .f32 := firstTileLoad t [fillTiles] ![0, 0, 0, 0] inb_S2x2x128x128_S1x1x128x128_0_0_0_0
abbrev l01 (I : Ins) : Vec Ideal S1x1x128x128 .f32 :=
  firstTileLoad t ((tileStores (grid0.coords t) I (l00 t) (l00 t) (l00 t) (l00 t)).drop 3 ++ [fillTiles]) ![0, 1, 0, 0] inb_S2x2x128x128_S1x1x128x128_0_1_0_0
abbrev l10 (I : Ins) : Vec Ideal S1x1x128x128 .f32 :=
  firstTileLoad t ((tileStores (grid0.coords t) I (l00 t) (l01 t I) (l00 t) (l00 t)).drop 2 ++ [fillTiles]) ![1, 0, 0, 0] inb_S2x2x128x128_S1x1x128x128_1_0_0_0
abbrev l11 (I : Ins) : Vec Ideal S1x1x128x128 .f32 :=
  firstTileLoad t ((tileStores (grid0.coords t) I (l00 t) (l01 t I) (l10 t I) (l00 t)).drop 1 ++ [fillTiles]) ![1, 1, 0, 0] inb_S2x2x128x128_S1x1x128x128_1_1_0_0
abbrev firstFarLoad (L : List (View.Piece (Elt Ideal) S2x1x128 .f32)) (off : Fin 3 → ℕ) (h : ∀ a, off a + S1x1x128.size a ≤ S2x1x128.size a) : Vec Ideal S1x1x128 .f32 :=
  (ms0_14 t).view.readCov L (Rect.unit (s := S2x1x128) off S1x1x128.size h).toLoadRect
abbrev f0 : Vec Ideal S1x1x128 .f32 := firstFarLoad t [fillFar] ![0, 0, 0] inb_S2x1x128_S1x1x128_0_0_0
abbrev f1 (I : Ins) : Vec Ideal S1x1x128 .f32 :=
  firstFarLoad t ((farStores (grid0.coords t) I (f0 t) (f0 t)).drop 1 ++ [fillFar]) ![1, 0, 0] inb_S2x1x128_S1x1x128_1_0_0
abbrev firstSqLoad : Vec Ideal S1x128 .f32 :=
  (ms0_15 t).view.readCov [fillSq] (Rect.unit (s := S1x128) ![0, 0] S1x128.size inb_S1x128_S1x128_0_0).toLoadRect
theorem run_first (h : t.val % 32 = 0) : startLeaves m c t (atA m c t h)
    = ⟨fresh (ms0_10 t) [dqStore ((loaded m c t (readRows m c t)).dQ (grid0.coords t))],
      firstRows t (ms0_11 t) k0_pay10 ((loaded m c t (readRows m c t)).dK (grid0.coords t)) k0_pay3,
      firstRows t (ms0_12 t) k0_pay11 ((loaded m c t (readRows m c t)).dV (grid0.coords t)) k0_pay4,
      fresh (ms0_13 t) (tileStores (grid0.coords t) (loaded m c t (readRows m c t)) (l00 t) (l01 t (loaded m c t (readRows m c t))) (l10 t (loaded m c t (readRows m c t)))
        (l11 t (loaded m c t (readRows m c t))) ++ [fillTiles]),
      fresh (ms0_14 t) (farStores (grid0.coords t) (loaded m c t (readRows m c t)) (f0 t) (f1 t (loaded m c t (readRows m c t))) ++ [fillFar]),
      fresh (ms0_15 t) [sqStore ((loaded m c t (readRows m c t)).dQ (grid0.coords t)) (firstSqLoad t), fillSq],
      fresh rows (rowStores' m c t)⟩ := by
  sl_kernel_rfl
end

/-! ## The stores read back -/

/-- What a point adds to the pair's tiles, at a tile's place. -/
def tileAdd (i : grid0.Coords) (I : Ins) (a n : Fin 2) (r s : Fin 128) : EReal :=
  I.dS i (ix2 ⟨256 * a.val + r.val, by omega⟩ ⟨384 + 128 * n.val + s.val, by omega⟩)
    + I.dS i (ix2 ⟨256 * a.val + (128 + r.val), by omega⟩ ⟨512 + 128 * n.val + s.val, by omega⟩)
/-- What it adds to the far rows, -/
def farAdd (i : grid0.Coords) (I : Ins) (a : Fin 2) (s : Fin 128) : EReal :=
  ∑ r : Fin 128, (I.dS i (ix2 ⟨256 * a.val + r.val, by omega⟩ ⟨s.val, by omega⟩) + I.dS i (ix2 ⟨256 * a.val + r.val, by omega⟩ ⟨128 + s.val, by omega⟩)
    + I.dS i (ix2 ⟨256 * a.val + r.val, by omega⟩ ⟨256 + s.val, by omega⟩) + I.dS i (ix2 ⟨256 * a.val + (128 + r.val), by omega⟩ ⟨128 + s.val, by omega⟩)
    + I.dS i (ix2 ⟨256 * a.val + (128 + r.val), by omega⟩ ⟨256 + s.val, by omega⟩) + I.dS i (ix2 ⟨256 * a.val + (128 + r.val), by omega⟩ ⟨384 + s.val, by omega⟩))
/-- and to a row of the gradients of its keys or values. -/
def rowAdd (g : ℕ) (W : FVec Ideal S768x128 .f32) (row : Fin 8192) (l : Fin 128) : EReal :=
  if h : 256 * g ≤ row.val + 512 ∧ row.val < 256 * g + 256 then W (ix2 ⟨row.val + 512 - 256 * g, by omega⟩ l) else 0

def tileSum (i : grid0.Coords) (I : Ins) (x : Fin 2 → Fin 2 → Fin 128 → Fin 128 → EReal) : S2x2x128x128.Idx → Elt Ideal .f32 :=
  fun y => x (y 0) (y 1) (y 2) (y 3) + tileAdd i I (y 0) (y 1) (y 2) (y 3)
def farSum (i : grid0.Coords) (I : Ins) (x : Fin 2 → Fin 128 → EReal) : S2x1x128.Idx → Elt Ideal .f32 :=
  fun y => x (y 0) (y 2) + farAdd i I (y 0) (y 2)
theorem tile_emb (a n : Fin 2) (h) (z : S1x1x128x128.Idx) :
    (Rect.unit (s := S2x2x128x128) ![a.val, n.val, 0, 0] S1x1x128x128.size h).emb z = ix4 a n (z 2) (z 3) := by
  funext d
  match d with
  | ⟨0, _⟩ => exact Fin.ext (show a.val + 1 * (z 0).val = a.val by have : (z 0).val < 1 := (z 0).isLt; omega)
  | ⟨1, _⟩ => exact Fin.ext (show n.val + 1 * (z 1).val = n.val by have : (z 1).val < 1 := (z 1).isLt; omega)
  | ⟨2, _⟩ => exact Fin.ext (show 0 + 1 * (z 2).val = (z 2).val by omega)
  | ⟨3, _⟩ => exact Fin.ext (show 0 + 1 * (z 3).val = (z 3).val by omega)
theorem far_emb (a : Fin 2) (h) (z : S1x1x128.Idx) :
    (Rect.unit (s := S2x1x128) ![a.val, 0, 0] S1x1x128.size h).emb z = ix3 a 0 (z 2) := by
  funext d
  match d with
  | ⟨0, _⟩ => exact Fin.ext (show a.val + 1 * (z 0).val = a.val by have : (z 0).val < 1 := (z 0).isLt; omega)
  | ⟨1, _⟩ => exact Fin.ext (show 0 + 1 * (z 1).val = 0 by have : (z 1).val < 1 := (z 1).isLt; omega)
  | ⟨2, _⟩ => exact Fin.ext (show 0 + 1 * (z 2).val = (z 2).val by omega)

theorem read_tiles (M : Memref sig .tc .vmem S2x2x128x128 .f32) (f : M.view.ty.Contents (Elt Ideal)) (i : grid0.Coords) (I : Ins)
    (x : Fin 2 → Fin 2 → Fin 128 → Fin 128 → EReal) (l00 l01 l10 l11 : Vec Ideal S1x1x128x128 .f32)
    (h00 : ∀ r s, l00 (ix4 0 0 r s) = x 0 0 r s) (h01 : ∀ r s, l01 (ix4 0 0 r s) = x 0 1 r s)
    (h10 : ∀ r s, l10 (ix4 0 0 r s) = x 1 0 r s) (h11 : ∀ r s, l11 (ix4 0 0 r s) = x 1 1 r s)
    (y : S2x2x128x128.Idx) :
    M.view.read (Elt Ideal) (M.view.writes (Elt Ideal) f (tileStores i I l00 l01 l10 l11)) y = x (y 0) (y 1) (y 2) (y 3) + tileAdd i I (y 0) (y 1) (y 2) (y 3) := by
  refine View.read_writes_apply_of_pieces (Val := Elt Ideal) M.view f (tileSum i I x) _ ?_ y
    (View.cover_of_tiledBy _ ![1, 1, 128, 128] (by sl_kernel_rfl) y)
  apply View.PiecesOf.mem
  refine ⟨fun z => ?_, fun z => ?_, fun z => ?_, fun z => ?_, trivial⟩
  · refine Eq.trans ?_ (congrArg (tileSum i I x) (tile_emb 1 1 inb_S2x2x128x128_S1x1x128x128_1_1_0_0 z)).symm
    obtain ⟨a, b, r, s, rfl⟩ : ∃ a b r s, z = (ix4 a b r s : S1x1x128x128.Idx) := ⟨_, _, _, _, eq_ix4 z⟩
    obtain rfl : a = 0 := Subsingleton.elim _ _
    obtain rfl : b = 0 := Subsingleton.elim _ _
    show _ = x 1 1 r s + tileAdd i I 1 1 r s
    rw [← h11, tileAdd]
    pointwise [k0_pay44, k0_pay42, k0_pay40]
  · refine Eq.trans ?_ (congrArg (tileSum i I x) (tile_emb 1 0 inb_S2x2x128x128_S1x1x128x128_1_0_0_0 z)).symm
    obtain ⟨a, b, r, s, rfl⟩ : ∃ a b r s, z = (ix4 a b r s : S1x1x128x128.Idx) := ⟨_, _, _, _, eq_ix4 z⟩
    obtain rfl : a = 0 := Subsingleton.elim _ _
    obtain rfl : b = 0 := Subsingleton.elim _ _
    show _ = x 1 0 r s + tileAdd i I 1 0 r s
    rw [← h10, tileAdd]
    pointwise [k0_pay43, k0_pay40]
  · refine Eq.trans ?_ (congrArg (tileSum i I x) (tile_emb 0 1 inb_S2x2x128x128_S1x1x128x128_0_1_0_0 z)).symm
    obtain ⟨a, b, r, s, rfl⟩ : ∃ a b r s, z = (ix4 a b r s : S1x1x128x128.Idx) := ⟨_, _, _, _, eq_ix4 z⟩
    obtain rfl : a = 0 := Subsingleton.elim _ _
    obtain rfl : b = 0 := Subsingleton.elim _ _
    show _ = x 0 1 r s + tileAdd i I 0 1 r s
    rw [← h01, tileAdd]
    pointwise [k0_pay38, k0_pay37, k0_pay34]
    rfl
  · refine Eq.trans ?_ (congrArg (tileSum i I x) (tile_emb 0 0 inb_S2x2x128x128_S1x1x128x128_0_0_0_0 z)).symm
    obtain ⟨a, b, r, s, rfl⟩ : ∃ a b r s, z = (ix4 a b r s : S1x1x128x128.Idx) := ⟨_, _, _, _, eq_ix4 z⟩
    obtain rfl : a = 0 := Subsingleton.elim _ _
    obtain rfl : b = 0 := Subsingleton.elim _ _
    show _ = x 0 0 r s + tileAdd i I 0 0 r s
    rw [← h00, tileAdd]
    pointwise [k0_pay36, k0_pay34]
    rfl
theorem read_far (M : Memref sig .tc .vmem S2x1x128 .f32) (f : M.view.ty.Contents (Elt Ideal)) (i : grid0.Coords) (I : Ins)
    (x : Fin 2 → Fin 128 → EReal) (l0 l1 : Vec Ideal S1x1x128 .f32)
    (h0 : ∀ s, l0 (ix3 0 0 s) = x 0 s) (h1 : ∀ s, l1 (ix3 0 0 s) = x 1 s)
    (y : S2x1x128.Idx) :
    M.view.read (Elt Ideal) (M.view.writes (Elt Ideal) f (farStores i I l0 l1)) y = x (y 0) (y 2) + farAdd i I (y 0) (y 2) := by
  refine View.read_writes_apply_of_pieces (Val := Elt Ideal) M.view f (farSum i I x) _ ?_ y
    (View.cover_of_tiledBy _ ![1, 1, 128] (by sl_kernel_rfl) y)
  apply View.PiecesOf.mem
  refine ⟨fun z => ?_, fun z => ?_, trivial⟩
  · refine Eq.trans ?_ (congrArg (farSum i I x) (far_emb 1 inb_S2x1x128_S1x1x128_1_0_0 z)).symm
    obtain ⟨a, b, s, rfl⟩ : ∃ a b s, z = (ix3 a b s : S1x1x128.Idx) := ⟨_, _, _, eq_ix3 z⟩
    obtain rfl : a = 0 := Subsingleton.elim _ _
    obtain rfl : b = 0 := Subsingleton.elim _ _
    show _ = x 1 s + farAdd i I 1 s
    rw [← h1, farAdd]
    pointwise [k0_pay45, k0_pay41, k0_pay40]
  · refine Eq.trans ?_ (congrArg (farSum i I x) (far_emb 0 inb_S2x1x128_S1x1x128_0_0_0 z)).symm
    obtain ⟨a, b, s, rfl⟩ : ∃ a b s, z = (ix3 a b s : S1x1x128.Idx) := ⟨_, _, _, eq_ix3 z⟩
    obtain rfl : a = 0 := Subsingleton.elim _ _
    obtain rfl : b = 0 := Subsingleton.elim _ _
    show _ = x 0 s + farAdd i I 0 s
    rw [← h0, farAdd]
    pointwise [k0_pay39, k0_pay35, k0_pay34]
    rfl
/-- A store of rows read back, row by row. -/
theorem read_rowStore (M : Memref sig .tc .vmem S8192x128 .f32) (f : M.view.ty.Contents (Elt Ideal)) (o : ℕ) (ho : o + 256 ≤ 8192)
    (w : FVec Ideal S256x128 .f32) (L : List (View.Piece (Elt Ideal) S8192x128 .f32)) (row : Fin 8192) (l : Fin 128) :
    M.view.read (Elt Ideal) (M.view.writes (Elt Ideal) f (rowStore o ho w :: L)) (ix2 row l)
      = if h : o ≤ row.val ∧ row.val < o + 256 then w (ix2 ⟨row.val - o, by omega⟩ l) else M.view.read (Elt Ideal) (M.view.writes (Elt Ideal) f L) (ix2 row l) := by
  refine (View.read_writes_cons_rows (M.view) f (inRows ho) w L (ix2 row l) rfl (W := 256) rfl rfl).trans ?_
  by_cases h : o ≤ row.val ∧ row.val < o + 256
  · refine (dif_pos h).trans (Eq.trans ?_ (dif_pos h).symm)
    congr 1
    funext d
    match d with
    | ⟨0, _⟩ => exact Fin.ext (Rect.unitLocal_val ..)
    | ⟨1, _⟩ => exact Fin.ext (Rect.unitLocal_val ..)
  · refine (dif_neg h).trans (Eq.trans ?_ (dif_neg h).symm); rfl
theorem rowLoad_apply (M : Memref sig .tc .vmem S8192x128 .f32) (h : M.IsWhole) (x : Vec Ideal S8192x128 .f32) (o : ℕ) (ho : o + 256 ≤ 8192) (r : Fin 256) (l : Fin 128) :
    rowLoad (M := M) o ho (h.unread x) (ix2 r l) = x (ix2 ⟨o + r.val, by omega⟩ l) := by
  show M.view.read (Elt Ideal) (h.unread x) ((Rect.unit (s := S8192x128) ![o, 0] S256x128.size (inRows ho)).idx (ix2 r l)) = _
  rw [h.read_unread]
  congr 1
  funext d
  match d with
  | ⟨0, _⟩ => exact Fin.ext (show o + 1 * r.val = o + r.val by omega)
  | ⟨1, _⟩ => exact Fin.ext (show 0 + 1 * l.val = l.val by omega)
theorem pay_rows (W : FVec Ideal S768x128 .f32) (x : Vec Ideal S256x128 .f32) (r : Fin 256) (l : Fin 128) :
    k0_pay48 W x (ix2 r l) = x (ix2 r l) + W (ix2 ⟨r.val, by omega⟩ l) ∧ k0_pay1 W x (ix2 r l) = x (ix2 r l) + W (ix2 ⟨256 + r.val, by omega⟩ l)
      ∧ k0_pay3 W x (ix2 r l) = x (ix2 r l) + W (ix2 ⟨512 + r.val, by omega⟩ l) := by
  refine ⟨?_, ?_, ?_⟩
  · pointwise [k0_pay48]
  · pointwise [k0_pay1]
  · pointwise [k0_pay3]
end Cert.KernelAttIdeal.Frame
-- ==== Proof.AttBias.lean ====
/- The rows of bias the attention gradient's kernel writes for a pair of heads, entry by entry. -/
module

public import proofs.«01_k».proof.Proof.AttStep

@[expose] public section

set_option maxRecDepth 16384

noncomputable section

open Idealize.ShloMosaic Idealize.ShloMosaic.TcCoe Idealize.SL.Sem

namespace Cert.KernelAttIdeal.Frame

open Cert.KernelAttIdeal Cert.KernelAttIdeal.Gen

theorem chunk : ∀ n : Fin 768, IntOp.shrui .vector (BitVec.ofNat 32 n.val) 6#32 = BitVec.ofNat 32 (n.val / 64) := by decide +kernel
theorem chunks_near : ∀ (a : Fin 12) (b : Fin 4), IntOp.andi (IntOp.cmpi .sge (IntOp.subi (BitVec.ofNat 32 a.val) (BitVec.ofNat 32 b.val)) 0#32)
    (IntOp.cmpi .sle (IntOp.subi (BitVec.ofNat 32 a.val) (BitVec.ofNat 32 b.val)) 8#32) = if b.val ≤ a.val ∧ a.val ≤ b.val + 8 then 1#1 else 0#1 := by
  decide +kernel
/-- The kernel's test of a query row against a key of the window. -/
theorem near_bit (r : Fin 256) (w : Fin 768) : IntOp.andi
      (IntOp.cmpi .sge (IntOp.subi (IntOp.shrui .vector (BitVec.ofNat 32 w.val) 6#32) (IntOp.shrui .vector (BitVec.ofNat 32 r.val) 6#32)) 0#32)
      (IntOp.cmpi .sle (IntOp.subi (IntOp.shrui .vector (BitVec.ofNat 32 w.val) 6#32) (IntOp.shrui .vector (BitVec.ofNat 32 r.val) 6#32)) 8#32)
    = if r.val / 64 ≤ w.val / 64 ∧ w.val / 64 ≤ r.val / 64 + 8 then 1#1 else 0#1 := by
  rw [chunk w, chunk ⟨r.val, by omega⟩]
  exact chunks_near ⟨w.val / 64, by omega⟩ ⟨r.val / 64, by omega⟩
theorem mask_bot : (Named.named κ "mask" 4048155338#32 : Ideal .f32) = ⊥ := IdealRules.named_const.ideal_named_scalar _ _ _ _ rfl

/-- A row of a window's bias: the block's own table, the one of the block before, or by key only; minus infinity outside the band. -/
def biasRow (T : Fin 2 → Fin 128 → Fin 128 → EReal) (C : Fin 128 → EReal) (r : Fin 256) (w : Fin 768) : EReal :=
  if r.val / 64 ≤ w.val / 64 ∧ w.val / 64 ≤ r.val / 64 + 8 then
    if w.val / 128 = r.val / 128 + 4 then T 1 ⟨r.val % 128, by omega⟩ ⟨w.val % 128, by omega⟩
    else if w.val / 128 = r.val / 128 + 3 then T 0 ⟨r.val % 128, by omega⟩ ⟨w.val % 128, by omega⟩
    else C ⟨w.val % 128, by omega⟩
  else ⊥

theorem select_bit {p : Prop} [Decidable p] (x y : EReal) : Scalar.select (if p then 1#1 else 0#1) x y = if p then x else y := by
  split_ifs <;> rfl

theorem pay7_at (x : Vec Ideal S1x2x128x128 .f32) (y : Vec Ideal S1x1x128 .f32) (r : Fin 256) (w : Fin 768) :
    k0_pay7 x y (ix2 r w) = biasRow (fun n r s => x (ix4 0 n r s)) (fun s => y (ix3 0 0 s)) r w := by
  pointwise [k0_pay7]
  rw [near_bit, mask_bot]
  refine (select_bit _ _).trans ?_
  unfold biasRow
  dsimp only
  repeat' split
  all_goals first
    | rfl
    | omega
    | exact congrArg y (congrArg (ix3 0 0) (by apply Fin.ext; first | omega | (dsimp only; omega)))
    | exact congrArg x (congrArg₂ (ix4 0 0) (by apply Fin.ext; first | omega | (dsimp only; omega)) (by apply Fin.ext; first | omega | (dsimp only; omega)))
    | exact congrArg x (congrArg₂ (ix4 0 1) (by apply Fin.ext; first | omega | (dsimp only; omega)) (by apply Fin.ext; first | omega | (dsimp only; omega)))
theorem pay9_eq (x : Vec Ideal S1x2x128x128 .f32) (y : Vec Ideal S1x1x128 .f32) : k0_pay9 (k0_pay8 x) y = k0_pay7 x y := rfl

/-- A head's rows of the pair's. -/
theorem rows_at (x7 : Vec Ideal S2x2x128x128 .f32) (x8 : Vec Ideal S2x1x128 .f32) (a : Fin 2) (r : Fin 256) (w : Fin 768) (hr : 256 * a.val + r.val < 512) :
    rowsOf x7 x8 (ix2 ⟨256 * a.val + r.val, hr⟩ w) = biasRow (fun n r s => x7 (ix4 a n r s)) (fun s => x8 (ix3 a 0 s)) r w := by
  unfold rowsOf
  rw [← View.read_writes_junk_eq_canon rows.view]
  match a, hr with
  | ⟨0, _⟩, hr =>
    refine (View.read_writes_cons_rows_of_not_mem rows.view _ _ _ _ _ rfl (W := 256) rfl (Or.inl (by dsimp only [ix2]; show 256 * 0 + r.val < 256; omega))).trans ?_
    refine (View.read_writes_cons_rows_of_mem rows.view _ _ _ _ _ (ix2 r w) rfl (by show 256 * 0 + r.val = 0 + r.val; omega) rfl).trans ?_
    rw [pay7_at]
    unfold biasRow
    split_ifs <;> first
      | rfl
      | (dsimp only; rw [View.ld_apply]; congr 1; funext d; fin_cases d <;> exact Fin.ext (by simp [Rect.idx_unit_val]))
  | ⟨1, _⟩, hr =>
    refine (View.read_writes_cons_rows_of_mem rows.view _ _ _ _ _ (ix2 r w) rfl (by show 256 * 1 + r.val = 256 + r.val; omega) rfl).trans ?_
    rw [pay9_eq, pay7_at]
    unfold biasRow
    split_ifs <;> first
      | rfl
      | (dsimp only; rw [View.ld_apply]; congr 1; funext d; fin_cases d <;> exact Fin.ext (by simp [Rect.idx_unit_val]))
end Cert.KernelAttIdeal.Frame
-- ==== Proof.AttDense.lean ====
/- The gradient of banded attention over whole arrays: what both programs compute, the reference's way of writing the softmax's
   gradient, and sums over a window of the keys. -/
module

public import Idealize.ShloMosaic.Lib.Pipeline.ValueKit
public import Idealize.ShloMosaic.Lib.IdealHost
public import Idealize.ShloMosaic.Lib.FinSumWindow

@[expose] public section

noncomputable section

open Idealize.ShloMosaic

namespace Cert.AttDense

/-- The arrays of an attention: queries, keys, values, the output's cotangent, and the bias of a pair of blocks: written out one block
    back (0) and on the block itself (1), by key only elsewhere. -/
structure Att where
  q : Fin 8192 → Fin 1024 → EReal
  k : Fin 8192 → Fin 1024 → EReal
  v : Fin 8192 → Fin 1024 → EReal
  o : Fin 8192 → Fin 1024 → EReal
  T : Fin 16 → Fin 2 → Fin 128 → Fin 128 → EReal
  C : Fin 16 → Fin 128 → EReal

/-- The column of a head's lane, and the scale of the scores. -/
def col (h : Fin 16) (d : Fin 64) : Fin 1024 := ⟨64 * h.val + d.val, by omega⟩
def eighth : EReal := Ideal.ofBits .f32 1040187392#32
/-- The keys a query sees: its own chunk of 64 frames and the eight before. -/
def band (t j : Fin 8192) : Prop := j.val / 64 ≤ t.val / 64 ∧ t.val / 64 ≤ j.val / 64 + 8
instance (t j : Fin 8192) : Decidable (band t j) := by unfold band; infer_instance

namespace Att
variable (A : Att) (h : Fin 16)

def bias (t j : Fin 8192) : EReal :=
  if t.val / 128 = j.val / 128 then A.T h 1 ⟨t.val % 128, by omega⟩ ⟨j.val % 128, by omega⟩
  else if t.val / 128 = j.val / 128 + 1 then A.T h 0 ⟨t.val % 128, by omega⟩ ⟨j.val % 128, by omega⟩
  else A.C h ⟨j.val % 128, by omega⟩
def dot (t j : Fin 8192) : EReal := ∑ d : Fin 64, A.q t (col h d) * eighth * A.k j (col h d)
def score (t j : Fin 8192) : EReal := if band t j then A.dot h t j + A.bias h t j else ⊥
def top (t : Fin 8192) : EReal := Finset.univ.sup (A.score h t)
def ex (t j : Fin 8192) : EReal := Ideal.exp (A.score h t j - A.top h t)
def tot (t : Fin 8192) : EReal := ∑ j, A.ex h t j
def prob (t j : Fin 8192) : EReal := A.ex h t j * Ideal.div 1 (A.tot h t)
def dp (t j : Fin 8192) : EReal := ∑ d : Fin 64, A.o t (col h d) * A.v j (col h d)
def ds (t j : Fin 8192) : EReal := A.prob h t j * (A.dp h t j - ∑ i, A.prob h t i * A.dp h t i)
def dq (t : Fin 8192) (d : Fin 64) : EReal := (∑ j, A.ds h t j * A.k j (col h d)) * eighth
def dk (j : Fin 8192) (d : Fin 64) : EReal := ∑ t, A.ds h t j * (A.q t (col h d) * eighth)
def dv (j : Fin 8192) (d : Fin 64) : EReal := ∑ t, A.prob h t j * A.o t (col h d)

/-! ## Outside the band -/

variable {t j : Fin 8192}

theorem ex_out (hb : ¬band t j) : A.ex h t j = 0 := by
  unfold ex score
  rw [if_neg hb, EReal.bot_sub]; rfl
theorem prob_out (hb : ¬band t j) : A.prob h t j = 0 := by unfold prob; rw [ex_out A h hb, zero_mul]
theorem ds_out (hb : ¬band t j) : A.ds h t j = 0 := by unfold ds; rw [prob_out A h hb, zero_mul]

/-! ## Finite scores -/

/-- The queries, the keys and the bias are real numbers. -/
structure Finite : Prop where
  q : ∀ t x, ∃ r : ℝ, A.q t x = r
  k : ∀ t x, ∃ r : ℝ, A.k t x = r
  T : ∀ h n r s, ∃ x : ℝ, A.T h n r s = x
  C : ∀ h s, ∃ x : ℝ, A.C h s = x

end Att

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩
theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩
theorem real_sum {ι : Type} (s : Finset ι) (f : ι → EReal) (hf : ∀ i, ∃ r : ℝ, f i = r) : ∃ r : ℝ, ∑ i ∈ s, f i = r := by
  classical
  induction s using Finset.induction_on with
  | empty => exact ⟨0, by simp⟩
  | insert a s ha ih => rw [Finset.sum_insert ha]; exact real_add (hf a) ih
theorem eighth_eq : eighth = ((1 / 8 : ℝ) : EReal) := by
  unfold eighth
  simp [Ideal.ofBits, Ideal.ieee, -EReal.coe_mul]; norm_num

/-- The exponential of anything but infinity is a real number, not negative, and zero only of minus infinity. -/
theorem exp_real {x : EReal} (hx : x ≠ ⊤) : ∃ r : ℝ, Ideal.exp x = r ∧ 0 ≤ r := by
  induction x using EReal.rec with
  | bot => exact ⟨0, rfl, le_refl _⟩
  | coe r => exact ⟨Real.exp r, rfl, (Real.exp_pos r).le⟩
  | top => exact absurd rfl hx
theorem exp_pos {r : ℝ} : Ideal.exp (r : EReal) = (Real.exp r : ℝ) ∧ 0 < Real.exp r := ⟨rfl, Real.exp_pos r⟩

namespace Att
variable (A : Att) (h : Fin 16) (F : A.Finite) (t : Fin 8192)
include F

theorem bias_real (j : Fin 8192) : ∃ r : ℝ, A.bias h t j = r := by
  unfold bias; split_ifs
  · exact F.T ..
  · exact F.T ..
  · exact F.C ..
theorem score_in {j : Fin 8192} (hb : band t j) : ∃ r : ℝ, A.score h t j = r := by
  unfold score; rw [if_pos hb]
  exact real_add (real_sum _ _ fun d => real_mul (real_mul (F.q ..) ⟨_, eighth_eq⟩) (F.k ..)) (bias_real A h F t j)
theorem score_ne_top (j : Fin 8192) : A.score h t j ≠ ⊤ := by
  by_cases hb : band t j
  · obtain ⟨r, hr⟩ := score_in A h F t hb; rw [hr]; exact EReal.coe_ne_top r
  · unfold score; rw [if_neg hb]; exact bot_ne_top
theorem top_real : ∃ r : ℝ, A.top h t = r := by
  have h1 : A.top h t ≠ ⊤ := by
    refine ne_of_lt ((Finset.sup_lt_iff bot_lt_top).mpr fun j _ => lt_top_iff_ne_top.mpr (score_ne_top A h F t j))
  have h2 : A.top h t ≠ ⊥ := by
    obtain ⟨r, hr⟩ := score_in A h F t (show band t t from ⟨le_refl _, by omega⟩)
    have := Finset.le_sup (f := A.score h t) (Finset.mem_univ t)
    rw [hr] at this
    exact ne_of_gt (lt_of_lt_of_le (EReal.bot_lt_coe r) this)
  exact ⟨_, (EReal.coe_toReal h1 h2).symm⟩
theorem ex_real (j : Fin 8192) : ∃ r : ℝ, A.ex h t j = r ∧ 0 ≤ r := by
  obtain ⟨m, hm⟩ := top_real A h F t
  refine exp_real ?_
  rw [hm]
  by_cases hb : band t j
  · obtain ⟨r, hr⟩ := score_in A h F t hb; rw [hr, ← EReal.coe_sub]; exact EReal.coe_ne_top _
  · unfold score; rw [if_neg hb, EReal.bot_sub]; exact bot_ne_top
/-- The softmax's denominator is a positive real number. -/
theorem tot_real : ∃ l : ℝ, A.tot h t = l ∧ 0 < l := by
  obtain ⟨m, hm⟩ := top_real A h F t
  obtain ⟨r, hr⟩ := score_in A h F t (show band t t from ⟨le_refl _, by omega⟩)
  obtain ⟨l, hl⟩ := real_sum Finset.univ (A.ex h t) (fun j => (ex_real A h F t j).imp fun _ h => h.1)
  refine ⟨l, hl, ?_⟩
  have h0 : ∀ j ∈ Finset.univ, 0 ≤ A.ex h t j := fun j _ => by
    obtain ⟨x, hx, hp⟩ := ex_real A h F t j; rw [hx]; exact EReal.coe_nonneg.mpr hp
  have hle := Finset.single_le_sum h0 (Finset.mem_univ t)
  have he : A.ex h t t = ((Real.exp (r - m) : ℝ) : EReal) := by
    unfold ex; rw [hr, hm, ← EReal.coe_sub]; rfl
  rw [hl, he] at hle
  exact lt_of_lt_of_le (Real.exp_pos _) (EReal.coe_le_coe_iff.mp hle)

omit F in
/-- A real factor, not negative, over a sum of anything. -/
theorem mul_sum_real {ι : Type} (s : Finset ι) (f : ι → EReal) {c : ℝ} (hc : 0 ≤ c) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

/-- A weight as the reference divides it, -/
theorem prob_div (j : Fin 8192) : Ideal.div (A.ex h t j) (A.tot h t) = A.prob h t j := by
  obtain ⟨l, hl, hp⟩ := tot_real A h F t
  unfold prob
  rw [Ideal.mul_one_div]
  rw [hl]; exact fun e => hp.ne' (EReal.coe_eq_zero.mp e)
/-- and the scores' cotangent as it writes the quotient's gradient. -/
theorem ds_quotient (j : Fin 8192) (z : EReal)
    (hz : z = -∑ i, A.dp h t i * Ideal.div 1 (A.tot h t * A.tot h t) * A.ex h t i) :
    (Ideal.div (A.dp h t j) (A.tot h t) + z) * A.ex h t j = A.ds h t j := by
  obtain ⟨l, hl, hp⟩ := tot_real A h F t
  have l0 : (l : EReal) ≠ 0 := fun e => hp.ne' (EReal.coe_eq_zero.mp e)
  have hc : Ideal.div 1 (l : EReal) = ((l⁻¹ : ℝ) : EReal) := by
    unfold Ideal.div; rw [if_neg l0, one_mul, EReal.coe_inv]
  have hcc : Ideal.div 1 ((l : EReal) * l) = ((l⁻¹ : ℝ) : EReal) * ((l⁻¹ : ℝ) : EReal) := by
    rw [← EReal.coe_mul, ← EReal.coe_mul, ← mul_inv]
    unfold Ideal.div
    rw [if_neg (fun e => (mul_pos hp hp).ne' (EReal.coe_eq_zero.mp e)), one_mul, EReal.coe_inv]
  have hcp : (0 : ℝ) ≤ l⁻¹ := (inv_pos.mpr hp).le
  rw [hz]
  unfold ds prob
  rw [hl, ← Ideal.mul_one_div l0, hc, hcc]
  have hs : ∑ i, A.dp h t i * (((l⁻¹ : ℝ) : EReal) * ((l⁻¹ : ℝ) : EReal)) * A.ex h t i
      = ((l⁻¹ : ℝ) : EReal) * ∑ i, A.ex h t i * ((l⁻¹ : ℝ) : EReal) * A.dp h t i := by
    rw [mul_sum_real _ _ hcp]
    refine Finset.sum_congr rfl fun i _ => ?_
    ac_rfl
  rw [hs, mul_comm (A.dp h t j), ← mul_neg, ← EReal.left_distrib_of_nonneg_of_ne_top (EReal.coe_nonneg.mpr hcp) (EReal.coe_ne_top _),
    ← sub_eq_add_neg]
  ac_rfl
end Att

/-! ## Sums and greatest values over a window of the keys -/

section
variable {g : Fin 32} {z : EReal}

/-- An entry of the window of 768 keys that ends with group `g`: the entry of the key, or `z` where there is none. -/
def win (g : Fin 32) (z : EReal) (f : Fin 8192 → EReal) (w : Fin 768) : EReal :=
  if h : 512 ≤ 256 * g.val + w.val then f ⟨256 * g.val + w.val - 512, by omega⟩ else z

theorem win_of (f : Fin 8192 → EReal) (w : Fin 768) (j : Fin 8192) (e : 256 * g.val + w.val = j.val + 512) : win g z f w = f j := by
  unfold win; rw [dif_pos (by omega)]; congr 1; exact Fin.ext (by dsimp only; omega)
theorem sum_win (f : Fin 8192 → EReal) (hf : ∀ j : Fin 8192, ¬(256 * g.val ≤ j.val + 512 ∧ j.val < 256 * g.val + 256) → f j = 0) :
    ∑ w, win g 0 f w = ∑ j, f j := by
  refine Finset.sum_bij_ne_zero (fun w _ _ => if h : 512 ≤ 256 * g.val + w.val then ⟨256 * g.val + w.val - 512, by omega⟩ else 0)
    (fun _ _ _ => Finset.mem_univ _) (fun w _ hw w' _ hw' e => ?_) (fun j _ hj => ?_) (fun w _ hw => ?_)
  · have hv : 512 ≤ 256 * g.val + w.val := by by_contra hn; exact hw (by unfold win; rw [dif_neg hn])
    have hv' : 512 ≤ 256 * g.val + w'.val := by by_contra hn; exact hw' (by unfold win; rw [dif_neg hn])
    rw [dif_pos hv, dif_pos hv'] at e
    have := congrArg Fin.val e
    exact Fin.ext (by dsimp only at this; omega)
  · have hb : 256 * g.val ≤ j.val + 512 ∧ j.val < 256 * g.val + 256 := by by_contra hn; exact hj (hf j hn)
    refine ⟨⟨j.val + 512 - 256 * g.val, by omega⟩, Finset.mem_univ _, ?_, ?_⟩
    · rw [win_of f _ j (by dsimp only; omega)]; exact hj
    · rw [dif_pos (by dsimp only; omega)]; exact Fin.ext (by dsimp only; omega)
  · have hv : 512 ≤ 256 * g.val + w.val := by by_contra hn; exact hw (by unfold win; rw [dif_neg hn])
    unfold win; rw [dif_pos hv, dif_pos hv]
theorem sup_win (f : Fin 8192 → EReal) (hf : ∀ j : Fin 8192, ¬(256 * g.val ≤ j.val + 512 ∧ j.val < 256 * g.val + 256) → f j = ⊥) :
    Finset.univ.sup (win g ⊥ f) = Finset.univ.sup f := by
  refine le_antisymm (Finset.sup_le fun w _ => ?_) (Finset.sup_le fun j _ => ?_)
  · unfold win; split_ifs with hv
    · exact Finset.le_sup (f := f) (Finset.mem_univ _)
    · exact bot_le
  · by_cases hb : 256 * g.val ≤ j.val + 512 ∧ j.val < 256 * g.val + 256
    · rw [← win_of (g := g) (z := ⊥) f ⟨j.val + 512 - 256 * g.val, by omega⟩ j (by dsimp only; omega)]
      exact Finset.le_sup (f := win g ⊥ f) (Finset.mem_univ _)
    · rw [hf j hb]; exact bot_le
end

/-- A query of group `g` sees no key outside the group's window. -/
theorem band_window {g : Fin 32} {t j : Fin 8192} (ht : t.val / 256 = g.val) (hn : ¬(256 * g.val ≤ j.val + 512 ∧ j.val < 256 * g.val + 256)) : ¬band t j := by
  unfold band; omega

end Cert.AttDense
-- ==== Proof.AttScores.lean ====
/- The step's values at a grid point, entry by entry, over whole arrays. -/
module

public import proofs.«01_k».proof.Proof.AttBias
public import proofs.«01_k».proof.Proof.AttDense

@[expose] public section

set_option maxRecDepth 16384

noncomputable section

open Idealize.ShloMosaic Idealize.ShloMosaic.TcCoe Idealize.SL.Sem Cert.AttDense

namespace Cert.KernelAttIdeal.Frame

open Cert.KernelAttIdeal Cert.KernelAttIdeal.Gen

/-! ## Numbers of rows, lanes and heads -/

/-- The frame of a group's row, the column of a pair's lane, the head of a pair. -/
def frame (g : Fin 32) (r : Fin 256) : Fin 8192 := ⟨256 * g.val + r.val, by omega⟩
def lane (p : Fin 8) (x : Fin 128) : Fin 1024 := ⟨128 * p.val + x.val, by omega⟩
def head (p : Fin 8) (a : Fin 2) : Fin 16 := ⟨2 * p.val + a.val, by omega⟩
/-- A head's row among the pair's, and its lane. -/
def hrow (a : Fin 2) (r : Fin 256) : Fin 512 := ⟨256 * a.val + r.val, by omega⟩
def hlane (a : Fin 2) (d : Fin 64) : Fin 128 := ⟨64 * a.val + d.val, by omega⟩
theorem lane_hlane (p : Fin 8) (a : Fin 2) (d : Fin 64) : lane p (hlane a d) = col (head p a) d := by
  unfold lane hlane col head; apply Fin.ext; dsimp only; omega

theorem hlane_half (a : Fin 2) (d : Fin 64) : (hlane a d).val / 64 = a.val := by unfold hlane; dsimp only; omega

theorem low_bit : ∀ x : Fin 128, IntOp.andi (IntOp.cmpi .sge (BitVec.ofNat 32 x.val) 0#32) (IntOp.cmpi .slt (BitVec.ofNat 32 x.val) 64#32)
    = if x.val / 64 = 0 then 1#1 else 0#1 := by decide +kernel
theorem high_bit : ∀ x : Fin 128, IntOp.andi (IntOp.cmpi .sge (BitVec.ofNat 32 x.val) 64#32) (IntOp.cmpi .slt (BitVec.ofNat 32 x.val) 128#32)
    = if x.val / 64 = 1 then 1#1 else 0#1 := by decide +kernel
theorem bit_number {q : Prop} [Decidable q] : (FloatOps.sitofp .f32 (BitVec.setWidth 32 (if q then 1#1 else 0#1)) : Ideal .f32) = if q then (1 : EReal) else 0 := by
  split_ifs
  · show (((BitVec.setWidth 32 1#1).toInt : ℝ) : EReal) = 1
    have : (BitVec.setWidth 32 1#1).toInt = 1 := by decide
    rw [this]; norm_num
  · show (((BitVec.setWidth 32 0#1).toInt : ℝ) : EReal) = 0
    have : (BitVec.setWidth 32 0#1).toInt = 0 := by decide
    rw [this]; norm_num
theorem one_eighth {q : Prop} [Decidable q] (y : EReal) : y * ((if q then (1 : EReal) else 0) * eighth) = if q then y * eighth else 0 := by
  split_ifs
  · rw [one_mul]
  · rw [zero_mul, mul_zero]
theorem key_bit : ∀ (g : Fin 32) (w : Fin 768), IntOp.cmpi .sge (IntOp.addi (BitVec.ofNat 32 w.val) (Scalar.muli (Scalar.subi (BitVec.ofNat 32 g.val) 2#32) 256#32)) 0#32
    = if 512 ≤ 256 * g.val + w.val then 1#1 else 0#1 := by decide +kernel

/-- A sum over a pair's lanes of what vanishes off a head's. -/
theorem half_sum (f : Fin 128 → EReal) (a : Fin 2) (hf : ∀ x : Fin 128, x.val / 64 ≠ a.val → f x = 0) : ∑ x, f x = ∑ d, f (hlane a d) :=
  FinSumWindow.sum_window (64 * a.val) (by omega) f fun x hx => hf x (by omega)
theorem rows_sum (f : Fin 512 → EReal) (a : Fin 2) (hf : ∀ x : Fin 512, x.val / 256 ≠ a.val → f x = 0) : ∑ x, f x = ∑ r, f (hrow a r) :=
  FinSumWindow.sum_window (256 * a.val) (by omega) f fun x hx => hf x (by omega)

/-- A window's score: the dot product and the row of bias. -/
theorem score_row (A : Att) (p : Fin 8) (g : Fin 32) (a : Fin 2) (r : Fin 256) (w : Fin 768) (h : 512 ≤ 256 * g.val + w.val) :
    A.dot (head p a) (frame g r) ⟨256 * g.val + w.val - 512, by omega⟩ + biasRow (A.T (head p a)) (A.C (head p a)) r w
      = A.score (head p a) (frame g r) ⟨256 * g.val + w.val - 512, by omega⟩ := by
  have hband : band (frame g r) ⟨256 * g.val + w.val - 512, by omega⟩ ↔ r.val / 64 ≤ w.val / 64 ∧ w.val / 64 ≤ r.val / 64 + 8 := by
    unfold band frame; dsimp only; omega
  unfold biasRow Att.score
  by_cases hb : r.val / 64 ≤ w.val / 64 ∧ w.val / 64 ≤ r.val / 64 + 8
  · rw [if_pos hb, if_pos (hband.mpr hb)]
    congr 1
    unfold Att.bias
    by_cases h1 : w.val / 128 = r.val / 128 + 4
    · refine (if_pos h1).trans (Eq.trans ?_ (if_pos (by unfold frame; dsimp only; omega)).symm)
      congr 1 <;> (apply Fin.ext; simp only [frame]; omega)
    refine (if_neg h1).trans (Eq.trans ?_ (if_neg (by unfold frame; dsimp only; omega)).symm)
    by_cases h0 : w.val / 128 = r.val / 128 + 3
    · refine (if_pos h0).trans (Eq.trans ?_ (if_pos (by unfold frame; dsimp only; omega)).symm)
      congr 1 <;> (apply Fin.ext; simp only [frame]; omega)
    refine (if_neg h0).trans (Eq.trans ?_ (if_neg (by unfold frame; dsimp only; omega)).symm)
    congr 1; apply Fin.ext; dsimp only; omega
  · rw [if_neg hb, if_neg (fun h' => hb (hband.mp h')), EReal.add_bot]

namespace Ins

/-- The blocks of group `g` of pair `p` hold what the whole arrays `A` have there. -/
structure Holds (A : Att) (p : Fin 8) (g : Fin 32) (i : grid0.Coords) (I : Ins) : Prop where
  i : (i 1).val = g.val
  q : ∀ r x, I.q (ix2 r x) = A.q (frame g r) (lane p x)
  o : ∀ r x, I.g (ix2 r x) = A.o (frame g r) (lane p x)
  k : ∀ w x (h : 512 ≤ 256 * g.val + w.val), I.keys (ix2 w x) = A.k ⟨256 * g.val + w.val - 512, by omega⟩ (lane p x)
  v : ∀ w x (h : 512 ≤ 256 * g.val + w.val), I.vals (ix2 w x) = A.v ⟨256 * g.val + w.val - 512, by omega⟩ (lane p x)
  rows : ∀ a r w, I.rows (ix2 (hrow a r) w) = biasRow (A.T (head p a)) (A.C (head p a)) r w

variable {A : Att} {p : Fin 8} {g : Fin 32} {i : grid0.Coords} {I : Ins} (H : Holds A p g i I)
include H

theorem qs_at (a : Fin 2) (r : Fin 256) (x : Fin 128) : I.qs (ix2 (hrow a r) x) = if x.val / 64 = a.val then A.q (frame g r) (lane p x) * eighth else 0 := by
  unfold qs
  match a with
  | ⟨0, _⟩ =>
    pointwise [k0_pay24, k0_pay22, k0_pay23, k0_pay18, k0_pay19, k0_pay21, k0_pay20, hrow]
    rw [low_bit, bit_number]
    refine (one_eighth _).trans ?_
    rw [← H.q r x]
  | ⟨1, _⟩ =>
    pointwise [k0_pay24, k0_pay22, k0_pay23, k0_pay18, k0_pay19, k0_pay21, k0_pay20, hrow]
    rw [high_bit, bit_number]
    refine (one_eighth _).trans ?_
    rw [← H.q r x]
theorem gs_at (a : Fin 2) (r : Fin 256) (x : Fin 128) : I.gs (ix2 (hrow a r) x) = if x.val / 64 = a.val then A.o (frame g r) (lane p x) else 0 := by
  unfold gs
  match a with
  | ⟨0, _⟩ =>
    pointwise [k0_pay25, k0_pay19, k0_pay21, k0_pay20, hrow]
    rw [low_bit, ← H.o r x]
    exact select_bit _ _
  | ⟨1, _⟩ =>
    pointwise [k0_pay25, k0_pay19, k0_pay21, k0_pay20, hrow]
    rw [high_bit, ← H.o r x]
    exact select_bit _ _
theorem key_bias (w : Fin 768) : (k0_pay17 (F := Ideal) i (ix2 0 w) : EReal) = if 512 ≤ 256 * g.val + w.val then 0 else ⊥ := by
  pointwise [k0_pay17]
  rw [mask_bot, H.i, key_bit]
  exact select_bit _ _

omit H in
/-- The scores of a row. -/
def raw (I : Ins) (i : grid0.Coords) (r : Fin 512) (w : Fin 768) : EReal := (∑ x, I.qs (ix2 r x) * I.keys (ix2 w x)) + I.rows (ix2 r w) + k0_pay17 (F := Ideal) i (ix2 0 w)
omit H in
theorem P_raw (r : Fin 512) (w : Fin 768) : I.P i (ix2 r w) = Ideal.exp (raw I i r w - Finset.univ.sup (raw I i r)) * Ideal.div 1 (∑ w, Ideal.exp (raw I i r w - Finset.univ.sup (raw I i r))) := by
  unfold P
  pointwise [k0_pay26]
  have hb : Ideal.ofBits .f32 4286578688#32 = ⊥ := by simp [Ideal.ofBits, Ideal.ieee]
  rw [hb]
  rfl

theorem dot_at (a : Fin 2) (r : Fin 256) (w : Fin 768) (h : 512 ≤ 256 * g.val + w.val) :
    ∑ x, I.qs (ix2 (hrow a r) x) * I.keys (ix2 w x) = A.dot (head p a) (frame g r) ⟨256 * g.val + w.val - 512, by omega⟩ := by
  rw [half_sum _ a fun x hx => by rw [qs_at H, if_neg hx, zero_mul]]
  unfold Att.dot
  refine Finset.sum_congr rfl fun d _ => ?_
  rw [qs_at H, if_pos (hlane_half a d), H.k _ _ h, lane_hlane]
theorem raw_at (a : Fin 2) (r : Fin 256) (w : Fin 768) : raw I i (hrow a r) w = win g ⊥ (A.score (head p a) (frame g r)) w := by
  unfold raw win
  rw [key_bias H]
  split_ifs with h
  · rw [add_zero, dot_at H a r w h, H.rows]
    exact score_row A p g a r w h
  · exact EReal.add_bot _
theorem frame_group (r : Fin 256) : (frame g r).val / 256 = g.val := by unfold frame; dsimp only; omega
theorem top_at (a : Fin 2) (r : Fin 256) : Finset.univ.sup (raw I i (hrow a r)) = A.top (head p a) (frame g r) := by
  unfold Att.top
  rw [← sup_win (g := g) _ fun j hn => by unfold Att.score; exact if_neg (band_window (frame_group H r) hn)]
  exact congrArg _ (funext fun w => raw_at H a r w)
theorem ex_at (a : Fin 2) (r : Fin 256) (w : Fin 768) :
    Ideal.exp (raw I i (hrow a r) w - Finset.univ.sup (raw I i (hrow a r))) = win g 0 (A.ex (head p a) (frame g r)) w := by
  rw [raw_at H, top_at H]
  unfold win
  split_ifs with h
  · rfl
  · rw [EReal.bot_sub]; rfl
theorem P_at (a : Fin 2) (r : Fin 256) (w : Fin 768) : I.P i (ix2 (hrow a r) w) = win g 0 (A.prob (head p a) (frame g r)) w := by
  rw [P_raw, ex_at H, Finset.sum_congr rfl fun w _ => ex_at H a r w,
    sum_win (g := g) _ fun j hn => Att.ex_out A _ (band_window (frame_group H r) hn)]
  unfold win
  split_ifs with h
  · rfl
  · exact zero_mul _
theorem dP_at (a : Fin 2) (r : Fin 256) (w : Fin 768) (h : 512 ≤ 256 * g.val + w.val) :
    I.dP (ix2 (hrow a r) w) = A.dp (head p a) (frame g r) ⟨256 * g.val + w.val - 512, by omega⟩ := by
  have e : I.dP (ix2 (hrow a r) w) = ∑ x, I.gs (ix2 (hrow a r) x) * I.vals (ix2 w x) := by
    unfold dP gs
    pointwise [k0_pay27]
  rw [e, half_sum _ a fun x hx => by rw [gs_at H, if_neg hx, zero_mul]]
  unfold Att.dp
  refine Finset.sum_congr rfl fun d _ => ?_
  rw [gs_at H, if_pos (hlane_half a d), H.v _ _ h, lane_hlane]
/-- Off the arrays a weight is zero, so its product with anything is. -/
theorem P_mul (a : Fin 2) (r : Fin 256) (w : Fin 768) (y : EReal) (f : Fin 8192 → EReal)
    (hy : ∀ h : 512 ≤ 256 * g.val + w.val, y = f ⟨256 * g.val + w.val - 512, by omega⟩) :
    I.P i (ix2 (hrow a r) w) * y = win g 0 (fun j => A.prob (head p a) (frame g r) j * f j) w := by
  rw [P_at H]
  unfold win
  split_ifs with h
  · rw [hy h]
  · exact zero_mul _
theorem dots_at (a : Fin 2) (r : Fin 256) : I.dots i (ix2 (hrow a r) 0) = ∑ j, A.prob (head p a) (frame g r) j * A.dp (head p a) (frame g r) j := by
  have e : I.dots i (ix2 (hrow a r) 0) = ∑ w, I.P i (ix2 (hrow a r) w) * I.dP (ix2 (hrow a r) w) := by
    unfold dots P dP
    pointwise [k0_pay28]
  rw [e, Finset.sum_congr rfl fun w _ => P_mul H a r w _ _ fun h => dP_at H a r w h]
  exact sum_win (g := g) _ fun j hn => by rw [Att.prob_out A _ (band_window (frame_group H r) hn), zero_mul]
theorem dS_at (a : Fin 2) (r : Fin 256) (w : Fin 768) : I.dS i (ix2 (hrow a r) w) = win g 0 (A.ds (head p a) (frame g r)) w := by
  have e : I.dS i (ix2 (hrow a r) w) = I.P i (ix2 (hrow a r) w) * (I.dP (ix2 (hrow a r) w) - I.dots i (ix2 (hrow a r) 0)) := by
    unfold dS
    pointwise [k0_pay29]
  rw [e, dots_at H]
  exact P_mul H a r w _ (fun j => A.dp (head p a) (frame g r) j - _) fun h => by rw [dP_at H a r w h]
end Ins
end Cert.KernelAttIdeal.Frame
-- ==== Proof.AttSums.lean ====
/- The attention gradient's running sums: what each grid point adds to them, and what a pair of heads' 32 points leave. -/
module

public import proofs.«01_k».proof.Proof.AttStep

@[expose] public section

set_option maxRecDepth 16384

noncomputable section

open Idealize.ShloMosaic Idealize.ShloMosaic.TcCoe Idealize.SL.Sem

namespace Cert.KernelAttIdeal.Frame

open Cert.KernelAttIdeal Cert.KernelAttIdeal.Gen

variable (m : (ℓ : Loc nD τ sig) → Buf (Elt Ideal) ℓ) (c : Dev nD)

theorem idx7 : ∀ t : Fin cfg0.N, win0_7.index t = ![t.val / 32, 0, 0, 0] := (by decide +kernel : ∀ t : Fin grid0.N, _)
theorem idx8 : ∀ t : Fin cfg0.N, win0_8.index t = ![t.val / 32, 0, 0] := (by decide +kernel : ∀ t : Fin grid0.N, _)

/-- The rows of bias of the pair of heads at a point, and the point's blocks with them. -/
def biasAt (t : Fin cfg0.N) : Vec Ideal S512x768 .f32 := rowsOf (iblk m c 7 t) (iblk m c 8 t)
def insAt (t : Fin cfg0.N) : Ins := blocks m c t (biasAt m c t)

theorem tiles_same (t u : Fin cfg0.N) (h : t.val / 32 = u.val / 32) : (iblk m c 7 t : Vec Ideal S2x2x128x128 .f32) = iblk m c 7 u := by
  funext y
  blk_point [iblk, idx7 t, idx7 u, h]
theorem far_same (t u : Fin cfg0.N) (h : t.val / 32 = u.val / 32) : (iblk m c 8 t : Vec Ideal S2x1x128 .f32) = iblk m c 8 u := by
  funext y
  blk_point [iblk, idx8 t, idx8 u, h]
theorem biasAt_same (t u : Fin cfg0.N) (h : t.val / 32 = u.val / 32) : biasAt m c t = biasAt m c u := by
  unfold biasAt; rw [tiles_same m c t u h, far_same m c t u h]

theorem fresh_rows (t : Fin cfg0.N) : fresh rows (rowStores' m c t) = biasAt m c t := by
  rw [rowStores'_eq]
  exact View.read_writes_junk_eq_canon _ _
theorem start_rows (t : Fin cfg0.N) (h : t.val % 32 = 0) : (startLeaves m c t (atA m c t h)).2.bias = fresh rows (rowStores' m c t) := by sl_kernel_rfl
theorem start_bias (t : Fin cfg0.N) (h : t.val % 32 = 0) : (startLeaves m c t (atA m c t h)).2.bias = biasAt m c t := by
  rw [start_rows, fresh_rows]
/-- Every point finds the rows of its pair of heads. -/
theorem kept_bias : ∀ (n : ℕ) (hn : n < cfg0.N), (leaves m c n hn).2.bias = biasAt m c ⟨n, hn⟩ := by
  intro n
  induction n with
  | zero => intro hn; exact (congrArg (fun s => s.2.bias) (leaves_A m c ⟨0, hn⟩ (Nat.zero_mod 32))).trans (start_bias m c _ _)
  | succ n ih =>
    intro hn
    have hp : (n + 1) % 32 ≠ 0 → (prev m c ⟨n + 1, hn⟩).bias = biasAt m c ⟨n + 1, hn⟩ := fun h =>
      (ih (Nat.lt_of_succ_lt hn)).trans (biasAt_same m c _ _ (show n / 32 = (n + 1) / 32 by omega))
    by_cases h0 : (n + 1) % 32 = 0
    · exact (congrArg (fun s => s.2.bias) (leaves_A m c ⟨n + 1, hn⟩ h0)).trans (start_bias m c _ _)
    by_cases h1 : (n + 1) % 32 = 1
    · exact (congrArg (fun s => s.2.bias) (leaves_B m c ⟨n + 1, hn⟩ h1)).trans (hp h0)
    by_cases h31 : (n + 1) % 32 = 31
    · exact (congrArg (fun s => s.2.bias) (leaves_D m c ⟨n + 1, hn⟩ h31)).trans (hp h0)
    · exact (congrArg (fun s => s.2.bias) (leaves_C m c ⟨n + 1, hn⟩ (show 2 ≤ (n + 1) % 32 by omega) h31)).trans (hp h0)
theorem prev_bias (t : Fin cfg0.N) (h : t.val % 32 ≠ 0) : loaded m c t (keptRows (prev m c t).bias) = insAt m c t := by
  rw [keptRows_eq, loaded_eq, insAt, kept_bias, biasAt_same m c _ t (by dsimp only; omega)]
theorem first_bias (t : Fin cfg0.N) : loaded m c t (readRows m c t) = insAt m c t := by
  rw [readRows_eq, loaded_eq]; rfl

/-! ## The stores of each run over what they find -/

theorem fresh_dq (M : Memref sig .tc .vmem S256x128 .bf16) (w : FVec Ideal S256x128 .f32) : fresh M [dqStore w] = k0_pay46 w :=
  View.read_writes_full _ _ _ _ _
theorem zero_pay10 (y : S8192x128.Idx) : k0_pay10 (F := Ideal) y = (0 : EReal) ∧ k0_pay11 (F := Ideal) y = (0 : EReal) := by
  constructor
  · pointwise [k0_pay10]
  · pointwise [k0_pay11]
theorem zero_pay12 (y : S2x2x128x128.Idx) : k0_pay12 (F := Ideal) y = (0 : EReal) := by pointwise [k0_pay12]
theorem zero_pay13 (y : S2x1x128.Idx) : k0_pay13 (F := Ideal) y = (0 : EReal) := by pointwise [k0_pay13]
theorem zero_pay14 (y : S1x128.Idx) : k0_pay14 (F := Ideal) y = (0 : EReal) := by pointwise [k0_pay14]

/-- A payload that adds 256 of the 768 rows, from row `o` on, to what was loaded. -/
def Adds (o : ℕ) (ho : o + 256 ≤ 768) (p : FVec Ideal S768x128 .f32 → Vec Ideal S256x128 .f32 → FVec Ideal S256x128 .f32) : Prop :=
  ∀ W x (r : Fin 256) (l : Fin 128), (p W x (ix2 r l) : EReal) = x (ix2 r l) + W (ix2 ⟨o + r.val, by omega⟩ l)
theorem adds0 : Adds 0 (by decide) k0_pay48 ∧ Adds 0 (by decide) k0_pay49 := by
  constructor
  · intro W x r l; pointwise [k0_pay48]
  · intro W x r l; pointwise [k0_pay49]
theorem adds1 : Adds 256 (by decide) k0_pay1 ∧ Adds 256 (by decide) k0_pay2 := by
  constructor
  · intro W x r l; pointwise [k0_pay1]
  · intro W x r l; pointwise [k0_pay2]
theorem adds2 : Adds 512 (by decide) k0_pay3 ∧ Adds 512 (by decide) k0_pay4 := by
  constructor
  · intro W x r l; pointwise [k0_pay3]
  · intro W x r l; pointwise [k0_pay4]

section
variable {M : Memref sig .tc .vmem S8192x128 .f32} (h : M.IsWhole) (x : Vec Ideal S8192x128 .f32) (W : FVec Ideal S768x128 .f32)
  {p0 p1 p2 : FVec Ideal S768x128 .f32 → Vec Ideal S256x128 .f32 → FVec Ideal S256x128 .f32} (row : Fin 8192) (l : Fin 128)

theorem rowAdd_of {g : ℕ} (k : ℕ) (hk : k < 768) (e : row.val + 512 = 256 * g + k) : rowAdd g W row l = W (ix2 ⟨k, hk⟩ l) := by
  rw [rowAdd, dif_pos (by omega)]
  congr 2
  exact Fin.ext (by dsimp only; omega)
theorem three_rows (h0 : Adds 0 (by decide) p0) (h1 : Adds 256 (by decide) p1) (h2 : Adds 512 (by decide) p2) (a : ℕ) (ha : a ≤ 29) {g : ℕ} (e : g = a + 2) :
    threeRows h x W p0 p1 p2 a ha (ix2 row l) = x (ix2 row l) + rowAdd g W row l := by
  subst e
  unfold threeRows over
  rw [read_rowStore, read_rowStore, read_rowStore]
  split_ifs with c2 c1 c0
  · rw [h2, rowLoad_apply, rowAdd_of W row l (512 + (row.val - (256 * a + 512))) (by omega) (by omega)]
    congr 3; exact Fin.ext (by dsimp only; omega)
  · rw [h1, rowLoad_apply, rowAdd_of W row l (256 + (row.val - (256 * a + 256))) (by omega) (by omega)]
    congr 3; exact Fin.ext (by dsimp only; omega)
  · rw [h0, rowLoad_apply, rowAdd_of W row l (0 + (row.val - 256 * a)) (by omega) (by omega)]
    congr 3; exact Fin.ext (by dsimp only; omega)
  · rw [rowAdd, dif_neg (by omega), add_zero]
    exact congrFun (h.read_unread x) _
theorem two_rows (h1 : Adds 256 (by decide) p1) (h2 : Adds 512 (by decide) p2) :
    twoRows h x W p1 p2 (ix2 row l) = x (ix2 row l) + rowAdd 1 W row l := by
  unfold twoRows over
  rw [read_rowStore, read_rowStore]
  split_ifs with c2 c1
  · rw [h2, rowLoad_apply, rowAdd_of W row l (512 + (row.val - 256)) (by omega) (by omega)]
    congr 3; exact Fin.ext (by dsimp only; omega)
  · rw [h1, rowLoad_apply, rowAdd_of W row l (256 + (row.val - 0)) (by omega) (by omega)]
    congr 3; exact Fin.ext (by dsimp only; omega)
  · rw [rowAdd, dif_neg (by omega), add_zero]
    exact congrFun (h.read_unread x) _
theorem one_rows (t : Fin cfg0.N) (M : Memref sig .tc .vmem S8192x128 .f32) (p : FVec Ideal S8192x128 .f32) (hp : ∀ y, (p y : EReal) = 0) (h2 : Adds 512 (by decide) p2) :
    firstRows t M p W p2 (ix2 row l) = rowAdd 0 W row l := by
  have hl : ∀ y, (firstRowLoad t M p y : EReal) = 0 := fun y => by
    unfold firstRowLoad View.readCov
    rw [View.readAt_apply, View.read_writes_full]
    exact hp _
  unfold firstRows fresh
  rw [read_rowStore]
  split_ifs with c2
  · rw [h2, hl, zero_add, rowAdd_of W row l (512 + (row.val - 0)) (by omega) (by omega)]
  · rw [rowAdd, dif_neg (by omega), View.read_writes_full]
    exact hp _
end

section
variable (t : Fin cfg0.N) (s : St Ideal) (I : Ins)
theorem later_tiles (a n : Fin 2) (r k : Fin 128) : laterTiles t s I (ix4 a n r k) = s.dt (ix4 a n r k) + tileAdd (grid0.coords t) I a n r k := by
  refine (read_tiles (ms0_13 t) _ (grid0.coords t) I (fun a n r k => s.dt (ix4 a n r k)) _ _ _ _ ?_ ?_ ?_ ?_ _).trans rfl
  all_goals
    intro r k
    refine (View.readAt_apply _ _ _).trans ?_
    rw [(hs0_13 t).read_unread]
    congr 1
  exacts [tile_emb 0 0 inb_S2x2x128x128_S1x1x128x128_0_0_0_0 _, tile_emb 0 1 inb_S2x2x128x128_S1x1x128x128_0_1_0_0 _,
    tile_emb 1 0 inb_S2x2x128x128_S1x1x128x128_1_0_0_0 _, tile_emb 1 1 inb_S2x2x128x128_S1x1x128x128_1_1_0_0 _]
theorem later_far (a : Fin 2) (k : Fin 128) : laterFar t s I (ix3 a 0 k) = s.dc (ix3 a 0 k) + farAdd (grid0.coords t) I a k := by
  refine (read_far (ms0_14 t) _ (grid0.coords t) I (fun a k => s.dc (ix3 a 0 k)) _ _ ?_ ?_ _).trans rfl
  all_goals
    intro k
    refine (View.readAt_apply _ _ _).trans ?_
    rw [(hs0_14 t).read_unread]
    congr 1
  exacts [far_emb 0 inb_S2x1x128_S1x1x128_0_0_0 _, far_emb 1 inb_S2x1x128_S1x1x128_1_0_0 _]
theorem later_sq (l : Fin 128) : laterSq t s I (ix2 0 l) = s.sq (ix2 0 l) + ∑ r : Fin 256, I.dQ (grid0.coords t) (ix2 r l) := by
  refine (congrFun (View.read_writes_full (ms0_15 t).view _ _ _ []) _).trans ?_
  pointwise [k0_pay47]
  exact congrArg (fun z : Vec Ideal S1x128 .f32 => (z (ix2 0 l) + ∑ r : Fin 256, I.dQ (grid0.coords t) (ix2 r l) : EReal))
    ((View.readAt_full (ms0_15 t).view _ _).trans ((hs0_15 t).read_unread s.sq))
theorem first_tiles (a n : Fin 2) (r k : Fin 128) :
    fresh (ms0_13 t) (tileStores (grid0.coords t) I (l00 t) (l01 t I) (l10 t I) (l11 t I) ++ [fillTiles]) (ix4 a n r k) = tileAdd (grid0.coords t) I a n r k := by
  unfold fresh
  rw [View.writes_append]
  refine (read_tiles (ms0_13 t) _ (grid0.coords t) I (fun _ _ _ _ => 0) _ _ _ _ ?_ ?_ ?_ ?_ _).trans (zero_add _)
  all_goals
    intro r k
    dsimp only [l00, l01, l10, l11, firstTileLoad, tileStores, List.drop, List.cons_append, List.nil_append]
    simp (disch := decide) only [↓ View.readCov_skip, ↓ View.readCov_fill]
    exact zero_pay12 _
theorem first_far (a : Fin 2) (k : Fin 128) :
    fresh (ms0_14 t) (farStores (grid0.coords t) I (f0 t) (f1 t I) ++ [fillFar]) (ix3 a 0 k) = farAdd (grid0.coords t) I a k := by
  unfold fresh
  rw [View.writes_append]
  refine (read_far (ms0_14 t) _ (grid0.coords t) I (fun _ _ => 0) _ _ ?_ ?_ _).trans (zero_add _)
  all_goals
    intro k
    dsimp only [f0, f1, firstFarLoad, farStores, List.drop, List.cons_append, List.nil_append]
    simp (disch := decide) only [↓ View.readCov_skip, ↓ View.readCov_fill]
    exact zero_pay13 _
theorem first_sq (l : Fin 128) : fresh (ms0_15 t) [sqStore (I.dQ (grid0.coords t)) (firstSqLoad t), fillSq] (ix2 0 l) = ∑ r : Fin 256, I.dQ (grid0.coords t) (ix2 r l) := by
  refine (congrFun (View.read_writes_full (ms0_15 t).view _ _ _ _) _).trans ?_
  pointwise [k0_pay47]
  refine Eq.trans (congrArg (fun z : EReal => (z + ∑ r : Fin 256, I.dQ (grid0.coords t) (ix2 r l) : EReal)) ?_) (zero_add _)
  exact (congrFun (View.read_writes_full (ms0_15 t).view _ _ _ []) _).trans (zero_pay14 _)
end

/-! ## A point's additions -/

/-- What a point adds to a running sum `f` of the state, entry by entry: `add` at the first of a pair's points, `add` and what was there at the others. -/
def Sums {ι : Type} (f : St Ideal → ι → EReal) (add : Fin cfg0.N → ι → EReal) : Prop :=
  ∀ (t : Fin cfg0.N) (j : ι), f (leaves m c t.val t.isLt).2 j = (if t.val % 32 = 0 then 0 else f (prev m c t) j) + add t j

theorem sums_of {ι : Type} (f : St Ideal → ι → EReal) (add : Fin cfg0.N → ι → EReal)
    (hA : ∀ t (h : t.val % 32 = 0) j, f (startLeaves m c t (atA m c t h)).2 j = add t j)
    (hB : ∀ t (h : t.val % 32 = 1) s, loaded m c t (keptRows s.bias) = insAt m c t → ∀ j, f (midLeaves m c t s (atB m c t h s)).2 j = f s j + add t j)
    (hC : ∀ t (h : 2 ≤ t.val % 32) (h' : t.val % 32 ≠ 31) s, loaded m c t (keptRows s.bias) = insAt m c t → ∀ j, f (midLeaves m c t s (atC m c t h h' s)).2 j = f s j + add t j)
    (hD : ∀ t (h : t.val % 32 = 31) s, loaded m c t (keptRows s.bias) = insAt m c t → ∀ j, f (lastLeaves m c t s (atD m c t h s)).2 j = f s j + add t j) : Sums m c f add := by
  intro t j
  by_cases h0 : t.val % 32 = 0
  · rw [leaves_A m c t h0, hA, if_pos h0, zero_add]
  have hb := prev_bias m c t h0
  rw [if_neg h0]
  by_cases h1 : t.val % 32 = 1
  · rw [leaves_B m c t h1, hB _ _ _ hb]
  by_cases h31 : t.val % 32 = 31
  · rw [leaves_D m c t h31, hD _ _ _ hb]
  · rw [leaves_C m c t (by omega) h31, hC _ _ _ _ hb]

theorem dk_sums : Sums m c (fun s (j : Fin 8192 × Fin 128) => s.dk (ix2 j.1 j.2)) (fun t j => rowAdd (t.val % 32) ((insAt m c t).dK (grid0.coords t)) j.1 j.2) := by
  refine sums_of m c _ _ (fun t h j => ?_) (fun t h s hb j => ?_) (fun t h h' s hb j => ?_) (fun t h s hb j => ?_)
  · rw [run_first, first_bias, h]; exact one_rows _ _ _ _ _ _ (fun y => (zero_pay10 y).1) adds2.1
  · rw [run_second, hb, h]; exact two_rows _ _ _ _ _ adds1.1 adds2.1
  · rw [run_later, hb]; exact three_rows _ _ _ _ _ adds0.1 adds1.1 adds2.1 _ (by omega) (by omega)
  · rw [run_last, hb]; exact three_rows _ _ _ _ _ adds0.1 adds1.1 adds2.1 _ (by omega) (by omega)
theorem dv_sums : Sums m c (fun s (j : Fin 8192 × Fin 128) => s.dv (ix2 j.1 j.2)) (fun t j => rowAdd (t.val % 32) ((insAt m c t).dV (grid0.coords t)) j.1 j.2) := by
  refine sums_of m c _ _ (fun t h j => ?_) (fun t h s hb j => ?_) (fun t h h' s hb j => ?_) (fun t h s hb j => ?_)
  · rw [run_first, first_bias, h]; exact one_rows _ _ _ _ _ _ (fun y => (zero_pay10 y).2) adds2.2
  · rw [run_second, hb, h]; exact two_rows _ _ _ _ _ adds1.2 adds2.2
  · rw [run_later, hb]; exact three_rows _ _ _ _ _ adds0.2 adds1.2 adds2.2 _ (by omega) (by omega)
  · rw [run_last, hb]; exact three_rows _ _ _ _ _ adds0.2 adds1.2 adds2.2 _ (by omega) (by omega)
theorem dt_sums : Sums m c (fun s (j : Fin 2 × Fin 2 × Fin 128 × Fin 128) => s.dt (ix4 j.1 j.2.1 j.2.2.1 j.2.2.2))
    (fun t j => tileAdd (grid0.coords t) (insAt m c t) j.1 j.2.1 j.2.2.1 j.2.2.2) := by
  refine sums_of m c _ _ (fun t h j => ?_) (fun t h s hb j => ?_) (fun t h h' s hb j => ?_) (fun t h s hb j => ?_)
  · rw [run_first, first_bias]; exact first_tiles _ _ _ _ _ _
  · rw [run_second, hb]; exact later_tiles _ _ _ _ _ _ _
  · rw [run_later, hb]; exact later_tiles _ _ _ _ _ _ _
  · rw [run_last, hb]; exact later_tiles _ _ _ _ _ _ _
theorem dc_sums : Sums m c (fun s (j : Fin 2 × Fin 128) => s.dc (ix3 j.1 0 j.2)) (fun t j => farAdd (grid0.coords t) (insAt m c t) j.1 j.2) := by
  refine sums_of m c _ _ (fun t h j => ?_) (fun t h s hb j => ?_) (fun t h h' s hb j => ?_) (fun t h s hb j => ?_)
  · rw [run_first, first_bias]; exact first_far _ _ _ _
  · rw [run_second, hb]; exact later_far _ _ _ _ _
  · rw [run_later, hb]; exact later_far _ _ _ _ _
  · rw [run_last, hb]; exact later_far _ _ _ _ _
theorem sq_sums : Sums m c (fun s (l : Fin 128) => s.sq (ix2 0 l)) (fun t l => ∑ r : Fin 256, (insAt m c t).dQ (grid0.coords t) (ix2 r l)) := by
  refine sums_of m c _ _ (fun t h j => ?_) (fun t h s hb j => ?_) (fun t h h' s hb j => ?_) (fun t h s hb j => ?_)
  · rw [run_first, first_bias]; exact first_sq _ _ _
  · rw [run_second, hb]; exact later_sq _ _ _ _
  · rw [run_later, hb]; exact later_sq _ _ _ _
  · rw [run_last, hb]; exact later_sq _ _ _ _

/-- The point of a pair of heads and a group of queries. -/
def pt (p : Fin 8) (g : Fin 32) : Fin cfg0.N := ⟨32 * p.val + g.val, lt_of_lt_of_eq (by omega : 32 * p.val + g.val < 256) N_0.symm⟩
/-- What a pair of heads leaves in a running sum after its last group: the sum over its groups. -/
theorem pair_sum {ι : Type} {f : St Ideal → ι → EReal} {add : Fin cfg0.N → ι → EReal} (H : Sums m c f add) (p : Fin 8) (j : ι) :
    f (leaves m c (pt p 31).val (pt p 31).isLt).2 j = ∑ g : Fin 32, add (pt p g) j := by
  have key : ∀ (g : ℕ) (hg : g < 32), f (leaves m c (pt p ⟨g, hg⟩).val (pt p ⟨g, hg⟩).isLt).2 j = ∑ k : Fin (g + 1), add (pt p ⟨k.val, by omega⟩) j := by
    intro g
    induction g with
    | zero =>
      intro hg
      refine (H _ _).trans ?_
      rw [if_pos (show (pt p ⟨0, hg⟩).val % 32 = 0 from (by omega : (32 * p.val + 0) % 32 = 0)), zero_add]
      exact (Fin.sum_univ_one (M := EReal) (fun k : Fin 1 => add (pt p ⟨k.val, by omega⟩) j)).symm
    | succ g ih =>
      intro hg
      refine (H _ _).trans ?_
      rw [if_neg (show (pt p ⟨g + 1, hg⟩).val % 32 ≠ 0 from (by omega : (32 * p.val + (g + 1)) % 32 ≠ 0)), Fin.sum_univ_castSucc]
      exact congrArg (fun z : EReal => z + add (pt p ⟨g + 1, hg⟩) j) (ih (by omega))
  exact key 31 (by decide)

/-- dq's block after a point. -/
theorem dq_at (t : Fin cfg0.N) : (leaves m c t.val t.isLt).1 = k0_pay46 ((insAt m c t).dQ (grid0.coords t)) := by
  by_cases h0 : t.val % 32 = 0
  · rw [leaves_A m c t h0, run_first, first_bias]; exact fresh_dq _ _
  have hb := prev_bias m c t h0
  by_cases h1 : t.val % 32 = 1
  · rw [leaves_B m c t h1, run_second, hb]; exact fresh_dq _ _
  by_cases h31 : t.val % 32 = 31
  · rw [leaves_D m c t h31, run_last, hb]; exact fresh_dq _ _
  · rw [leaves_C m c t (by omega) h31, run_later, hb]; exact fresh_dq _ _
/-- The column sums a pair's last point stores are those of the rows it leaves. -/
theorem column_sums (t : Fin cfg0.N) (h : t.val % 32 = 31) (l : Fin 128) :
    (sums m c t).1 (ix2 0 l) = ∑ r : Fin 8192, (leaves m c t.val t.isLt).2.dk (ix2 r l)
      ∧ (sums m c t).2 (ix2 0 l) = ∑ r : Fin 8192, (leaves m c t.val t.isLt).2.dv (ix2 r l) := by
  have hl := leaves_D m c t h
  have e : sums m c t = _ := (dif_pos h).trans (run_sums m c t _ h)
  have h5 : ∀ x : Vec Ideal S8192x128 .f32, k0_pay5 x (ix2 0 l) = ∑ r : Fin 8192, (x (ix2 r l) : EReal) := fun x => by pointwise [k0_pay5]
  have h6 : ∀ x : Vec Ideal S8192x128 .f32, k0_pay6 x (ix2 0 l) = ∑ r : Fin 8192, (x (ix2 r l) : EReal) := fun x => by pointwise [k0_pay6]
  constructor
  · rw [e]
    refine (congrFun (View.read_writes_full (ms0_16 t).view _ _ _ []) _).trans ((h5 _).trans ?_)
    rw [View.readAt_full, hl]; sl_kernel_rfl
  · rw [e]
    refine (congrFun (View.read_writes_full (ms0_17 t).view _ _ _ []) _).trans ((h6 _).trans ?_)
    rw [View.readAt_full, hl]; sl_kernel_rfl

end Cert.KernelAttIdeal.Frame
-- ==== Proof.AttTiles.lean ====
/- The gradients of the bias tables over whole arrays, block of queries by block of keys. -/
module

public import proofs.«01_k».proof.Proof.AttDense
public import Idealize.ShloMosaic.Lib.Pipeline.ValueKit

@[expose] public section

set_option maxRecDepth 16384

noncomputable section

open Idealize.ShloMosaic

namespace Cert.AttDense

/-- Row `r` of block `B`. -/
def row (B : Fin 64) (r : Fin 128) : Fin 8192 := ⟨128 * B.val + r.val, by omega⟩

/-- The gradient of a tile: the sum over the pairs of blocks it stands at. -/
def Att.tile (A : Att) (h : Fin 16) (n : Fin 2) (r s : Fin 128) : EReal :=
  ∑ B : Fin 64, ∑ C : Fin 64, if B.val + n.val = C.val + 1 then A.ds h (row B r) (row C s) else 0
/-- The gradient of a far row: the sum over the rows of all other pairs of blocks. -/
def Att.far (A : Att) (h : Fin 16) (s : Fin 128) : EReal :=
  ∑ r : Fin 128, ∑ B : Fin 64, ∑ C : Fin 64, if B.val = C.val ∨ B.val = C.val + 1 then 0 else A.ds h (row B r) (row C s)

/-- The entry `o` blocks before block `B`, or zero where there is none. -/
def back (f : Fin 64 → EReal) (B : Fin 64) (o : ℕ) : EReal := if h : o ≤ B.val then f ⟨B.val - o, by omega⟩ else 0

theorem sum_back (f : Fin 64 → EReal) (B : Fin 64) (o : ℕ) : ∑ C, (if B.val = C.val + o then f C else 0) = back f B o := by
  unfold back
  split_ifs with h
  · rw [Finset.sum_eq_single (⟨B.val - o, by omega⟩ : Fin 64) (fun C _ hC => if_neg fun e => hC (Fin.ext (by dsimp only; omega))) (fun hn => absurd (Finset.mem_univ _) hn)]
    exact if_pos (by dsimp only; omega)
  · exact Finset.sum_eq_zero fun C _ => if_neg (by omega)
theorem sum_far (f : Fin 64 → EReal) (B : Fin 64) (hf : ∀ C : Fin 64, ¬(C.val ≤ B.val ∧ B.val ≤ C.val + 4) → f C = 0) :
    ∑ C : Fin 64, (if B.val = C.val ∨ B.val = C.val + 1 then 0 else f C) = back f B 4 + back f B 3 + back f B 2 := by
  rw [← sum_back, ← sum_back, ← sum_back, ← Finset.sum_add_distrib, ← Finset.sum_add_distrib]
  refine Finset.sum_congr rfl fun C _ => ?_
  by_cases hC : C.val ≤ B.val ∧ B.val ≤ C.val + 4
  · repeat' split
    all_goals first | omega | simp
  · rw [hf C hC]
    repeat' split
    all_goals simp
/-- A sum over blocks, two by two. -/
theorem sum_pairs (f : Fin 64 → EReal) : ∑ B, f B = ∑ g : Fin 32, (f ⟨2 * g.val, by omega⟩ + f ⟨2 * g.val + 1, by omega⟩) := by
  rw [← Fin.sum_mul_add_fin 32 2 f]
  refine Finset.sum_congr rfl fun g _ => ?_
  rw [Fin.sum_univ_two]
  congr 2 <;> (apply Fin.ext; simp only [Fin.val_zero, Fin.val_one]; omega)

/-- A window's entry, by blocks. -/
theorem win_back {g : Fin 32} (f : Fin 8192 → EReal) (w : Fin 768) (B : Fin 64) (s : Fin 128) (o : ℕ)
    (e : 256 * g.val + w.val + 128 * o = 128 * B.val + s.val + 512) : win g 0 f w = back (fun C => f (row C s)) B o := by
  unfold win back
  by_cases h : o ≤ B.val
  · rw [dif_pos h, dif_pos (by omega)]
    congr 1; apply Fin.ext; simp only [row]; omega
  · rw [dif_neg h, dif_neg (by omega)]

/-- Blocks that see each other are at most four apart. -/
theorem band_blocks {B C : Fin 64} {r s : Fin 128} (hn : ¬(C.val ≤ B.val ∧ B.val ≤ C.val + 4)) : ¬band (row B r) (row C s) := by
  unfold band row; dsimp only; omega
end Cert.AttDense
-- ==== Proof.AttGrads.lean ====
/- A point's block of dq, and what the points of a pair of heads add up to, over whole arrays. -/
module

public import proofs.«01_k».proof.Proof.AttScores
public import proofs.«01_k».proof.Proof.AttSums
public import proofs.«01_k».proof.Proof.AttTiles

@[expose] public section

set_option maxRecDepth 16384

noncomputable section

open Idealize.ShloMosaic Idealize.ShloMosaic.TcCoe Idealize.SL.Sem Cert.AttDense

namespace Cert.KernelAttIdeal.Frame

open Cert.KernelAttIdeal Cert.KernelAttIdeal.Gen

namespace Ins
variable {A : Att} {p : Fin 8} {g : Fin 32} {i : grid0.Coords} {I : Ins} (H : Holds A p g i I)
include H

/-! ## The queries' gradient -/

theorem dS_keys (a : Fin 2) (r : Fin 256) (x : Fin 128) :
    ∑ w, I.dS i (ix2 (hrow a r) w) * I.keys (ix2 w x) = ∑ j, A.ds (head p a) (frame g r) j * A.k j (lane p x) := by
  rw [← sum_win (g := g) (fun j => A.ds (head p a) (frame g r) j * A.k j (lane p x)) fun j hn => by
    rw [Att.ds_out A _ (band_window (frame_group H r) hn), zero_mul]]
  refine Finset.sum_congr rfl fun w _ => ?_
  rw [dS_at H]
  unfold win
  split_ifs with h
  · rw [H.k _ _ h]
  · exact zero_mul _
theorem dQ_at (a : Fin 2) (r : Fin 256) (d : Fin 64) : I.dQ i (ix2 r (hlane a d)) = A.dq (head p a) (frame g r) d := by
  have e : ∀ x : Fin 128, I.dQ i (ix2 r x) = (∑ w, I.dS i (ix2 (hrow 0 r) w) * I.keys (ix2 w x)) * ((if x.val / 64 = 0 then 1 else 0) * eighth)
      + (∑ w, I.dS i (ix2 (hrow 1 r) w) * I.keys (ix2 w x)) * ((if x.val / 64 = 1 then 1 else 0) * eighth) := by
    intro x
    unfold dQ
    pointwise [k0_pay31, k0_pay30, k0_pay22, k0_pay23, k0_pay19, k0_pay21, k0_pay20]
    rw [low_bit, high_bit, bit_number, bit_number]
    unfold dS eighth
    rw [show hrow 0 r = (⟨r.val, by omega⟩ : Fin 512) from Fin.ext (by simp [hrow]), show hrow 1 r = (⟨256 + r.val, by omega⟩ : Fin 512) from Fin.ext (by simp [hrow])]
  rw [e, one_eighth, one_eighth, hlane_half, dS_keys H, dS_keys H, lane_hlane]
  match a with
  | ⟨0, _⟩ => exact add_zero _
  | ⟨1, _⟩ => exact zero_add _

/-! ## The keys' and the values' -/

theorem dK_at (a : Fin 2) (d : Fin 64) (w : Fin 768) (h : 512 ≤ 256 * g.val + w.val) : I.dK i (ix2 w (hlane a d))
    = ∑ r : Fin 256, A.ds (head p a) (frame g r) ⟨256 * g.val + w.val - 512, by omega⟩ * (A.q (frame g r) (col (head p a) d) * eighth) := by
  have e : ∀ x : Fin 128, I.dK i (ix2 w x) = ∑ y, I.dS i (ix2 y w) * I.qs (ix2 y x) := by
    intro x
    unfold dK
    pointwise [k0_pay32, k0_pay30]
    rfl
  rw [e, rows_sum _ a fun y hy => by rw [show y = hrow ⟨y.val / 256, by omega⟩ ⟨y.val % 256, by omega⟩ from Fin.ext (by simp only [hrow]; omega), qs_at H,
    if_neg (by rw [hlane_half]; dsimp only; omega), mul_zero]]
  refine Finset.sum_congr rfl fun r _ => ?_
  rw [dS_at H, qs_at H, if_pos (hlane_half a d), lane_hlane]
  unfold win
  rw [dif_pos h]
theorem dV_at (a : Fin 2) (d : Fin 64) (w : Fin 768) (h : 512 ≤ 256 * g.val + w.val) : I.dV i (ix2 w (hlane a d))
    = ∑ r : Fin 256, A.prob (head p a) (frame g r) ⟨256 * g.val + w.val - 512, by omega⟩ * A.o (frame g r) (col (head p a) d) := by
  have e : ∀ x : Fin 128, I.dV i (ix2 w x) = ∑ y, I.P i (ix2 y w) * I.gs (ix2 y x) := by
    intro x
    unfold dV
    pointwise [k0_pay33]
  rw [e, rows_sum _ a fun y hy => by rw [show y = hrow ⟨y.val / 256, by omega⟩ ⟨y.val % 256, by omega⟩ from Fin.ext (by simp only [hrow]; omega), gs_at H,
    if_neg (by rw [hlane_half]; dsimp only; omega), mul_zero]]
  refine Finset.sum_congr rfl fun r _ => ?_
  rw [P_at H, gs_at H, if_pos (hlane_half a d), lane_hlane]
  unfold win
  rw [dif_pos h]
/-- What a point adds to a row, over the whole arrays: a sum over the group's queries of what vanishes outside its window. -/
theorem rowAdd_at (W : FVec Ideal S768x128 .f32) (x : Fin 128) (f : Fin 256 → Fin 8192 → EReal)
    (hW : ∀ (w : Fin 768) (h : 512 ≤ 256 * g.val + w.val), W (ix2 w x) = ∑ r, f r ⟨256 * g.val + w.val - 512, by omega⟩)
    (hf : ∀ r j, ¬band (frame g r) j → f r j = 0) (j : Fin 8192) : rowAdd g.val W j x = ∑ r, f r j := by
  by_cases h : 256 * g.val ≤ j.val + 512 ∧ j.val < 256 * g.val + 256
  · rw [rowAdd_of W j x (j.val + 512 - 256 * g.val) (by omega) (by omega), hW _ (by dsimp only; omega)]
    refine Finset.sum_congr rfl fun r _ => ?_
    congr 1; apply Fin.ext; dsimp only; omega
  · rw [rowAdd, dif_neg h]
    exact (Finset.sum_eq_zero fun r _ => hf r j (band_window (frame_group H r) h)).symm

/-! ## The tables' -/

theorem dS_back (a : Fin 2) (b : Fin 2) (r s : Fin 128) (w : Fin 768) (y : Fin 512) (o : ℕ) (hy : y.val = 256 * a.val + 128 * b.val + r.val)
    (e : w.val + 128 * o = 128 * b.val + s.val + 512) :
    I.dS i (ix2 y w) = back (fun C => A.ds (head p a) (row ⟨2 * g.val + b.val, by omega⟩ r) (row C s)) ⟨2 * g.val + b.val, by omega⟩ o := by
  rw [show y = hrow a ⟨128 * b.val + r.val, by omega⟩ from Fin.ext (by simp only [hrow]; omega), dS_at H,
    win_back _ w ⟨2 * g.val + b.val, by omega⟩ s o (by dsimp only; omega)]
  rw [show frame g ⟨128 * b.val + r.val, by omega⟩ = row ⟨2 * g.val + b.val, by omega⟩ r from Fin.ext (by simp only [frame, row]; omega)]
end Ins

section
variable {A : Att} {p : Fin 8} {i : Fin 32 → grid0.Coords} {I : Fin 32 → Ins} (H : ∀ g, Ins.Holds A p g (i g) (I g))
include H

theorem dk_pair (a : Fin 2) (d : Fin 64) (j : Fin 8192) : ∑ g : Fin 32, rowAdd g.val ((I g).dK (i g)) j (hlane a d) = A.dk (head p a) j d := by
  unfold Att.dk
  rw [Finset.sum_congr rfl fun g _ => Ins.rowAdd_at (H g) _ (hlane a d) (fun r j => A.ds (head p a) (frame g r) j * (A.q (frame g r) (col (head p a) d) * eighth))
    (fun w h => Ins.dK_at (H g) a d w h) (fun r j hn => by rw [Att.ds_out A _ hn, zero_mul]) j]
  refine Fin.sum_mul_add_congr fun g r hl => ?_
  rw [show frame g r = ⟨g.val * 256 + r.val, hl⟩ from Fin.ext (by simp only [frame]; omega)]
theorem dv_pair (a : Fin 2) (d : Fin 64) (j : Fin 8192) : ∑ g : Fin 32, rowAdd g.val ((I g).dV (i g)) j (hlane a d) = A.dv (head p a) j d := by
  unfold Att.dv
  rw [Finset.sum_congr rfl fun g _ => Ins.rowAdd_at (H g) _ (hlane a d) (fun r j => A.prob (head p a) (frame g r) j * A.o (frame g r) (col (head p a) d))
    (fun w h => Ins.dV_at (H g) a d w h) (fun r j hn => by rw [Att.prob_out A _ hn, zero_mul]) j]
  refine Fin.sum_mul_add_congr fun g r hl => ?_
  rw [show frame g r = ⟨g.val * 256 + r.val, hl⟩ from Fin.ext (by simp only [frame]; omega)]
theorem sq_pair (a : Fin 2) (d : Fin 64) : ∑ g : Fin 32, ∑ r : Fin 256, (I g).dQ (i g) (ix2 r (hlane a d)) = ∑ t, A.dq (head p a) t d := by
  refine Fin.sum_mul_add_congr fun g r hl => ?_
  rw [Ins.dQ_at (H g), show frame g r = ⟨g.val * 256 + r.val, hl⟩ from Fin.ext (by simp only [frame]; omega)]
theorem tile_pair (a n : Fin 2) (r s : Fin 128) : ∑ g : Fin 32, tileAdd (i g) (I g) a n r s = A.tile (head p a) n r s := by
  unfold Att.tile tileAdd
  rw [sum_pairs]
  refine Finset.sum_congr rfl fun g _ => ?_
  have e : ∀ B : Fin 64, (∑ C : Fin 64, if B.val + n.val = C.val + 1 then A.ds (head p a) (row B r) (row C s) else 0)
      = back (fun C => A.ds (head p a) (row B r) (row C s)) B (1 - n.val) := fun B => by
    rw [← sum_back]
    refine Finset.sum_congr rfl fun C _ => if_congr (by omega) rfl rfl
  rw [e, e, Ins.dS_back (H g) a 0 r s _ _ (1 - n.val) (by simp) (by simp <;> omega), Ins.dS_back (H g) a 1 r s _ _ (1 - n.val) (by simp <;> omega) (by simp <;> omega)]
  rfl
theorem far_pair (a : Fin 2) (s : Fin 128) : ∑ g : Fin 32, farAdd (i g) (I g) a s = A.far (head p a) s := by
  unfold Att.far farAdd
  rw [Finset.sum_comm]
  refine Finset.sum_congr rfl fun r _ => ?_
  rw [sum_pairs]
  refine Finset.sum_congr rfl fun g _ => ?_
  rw [sum_far _ _ fun C hn => Att.ds_out A _ (band_blocks hn), sum_far _ _ fun C hn => Att.ds_out A _ (band_blocks hn),
    Ins.dS_back (H g) a 0 r s _ _ 4 (by simp) (by simp <;> omega), Ins.dS_back (H g) a 0 r s _ _ 3 (by simp) (by simp <;> omega), Ins.dS_back (H g) a 0 r s _ _ 2 (by simp) (by simp <;> omega),
    Ins.dS_back (H g) a 1 r s _ _ 4 (by simp <;> omega) (by simp <;> omega), Ins.dS_back (H g) a 1 r s _ _ 3 (by simp <;> omega) (by simp <;> omega), Ins.dS_back (H g) a 1 r s _ _ 2 (by simp <;> omega) (by simp <;> omega)]
  simp only [add_assoc]
  rfl
end
end Cert.KernelAttIdeal.Frame
-- ==== Proof.AttArrays.lean ====
/- The attention's whole arrays, from the gradient's arguments. -/
module

public import proofs.«01_k».proof.Proof.AttTiles
public import proofs.«01_k».proof.Proof.Gen.RefAttIdeal.Read

@[expose] public section

set_option maxRecDepth 16384

noncomputable section

open Idealize.ShloMosaic Idealize.ShloMosaic.TcCoe Cert.RefAttIdeal Cert.RefAttIdeal.Read

namespace Cert.AttDense

/-- Whether the rows of a tile see each other: the tile of the block before (0), the block's own (1). -/
def tileBand (n : Fin 2) (r s : Fin 128) : Prop := r.val / 64 ≤ 2 * (n.val + 3) + s.val / 64 ∧ 2 * (n.val + 3) + s.val / 64 ≤ r.val / 64 + 8
instance (n : Fin 2) (r s : Fin 128) : Decidable (tileBand n r s) := by unfold tileBand; infer_instance
/-- The entry of the bias table for a pair of a tile: its distance in frames, clipped. -/
def tileRel (n : Fin 2) (r s : Fin 128) : Fin 257 := ⟨min (128 * (2 - n.val) + r.val - s.val) 256, by omega⟩

/-- The queries, keys and values are the projection's column groups; the biases come from the table by clipped distance. -/
def arrays (x0 : (⟨S8192x3072, .bf16⟩ : BufTy).Contents (Elt Ideal)) (x1 : (⟨S8192x1024, .bf16⟩ : BufTy).Contents (Elt Ideal))
    (x2 : (⟨S16x257, .f32⟩ : BufTy).Contents (Elt Ideal)) : Att where
  q t x := x0 (ix2 t ⟨x.val, by omega⟩)
  k t x := x0 (ix2 t ⟨1024 + x.val, by omega⟩)
  v t x := x0 (ix2 t ⟨2048 + x.val, by omega⟩)
  o t x := x1 (ix2 t x)
  T h n r s := if tileBand n r s then x2 (ix2 h (tileRel n r s)) else 0
  C h s := x2 (ix2 h 256)

/-- The head and the lane of a column. -/
def hd (x : Fin 1024) : Fin 16 := ⟨x.val / 64, by omega⟩
def dm (x : Fin 1024) : Fin 64 := ⟨x.val % 64, by omega⟩
/-- The heads' lanes side by side, and their column sums. -/
def cols (f : Fin 16 → Fin 8192 → Fin 64 → EReal) : S8192x1024.Idx → EReal := fun i => f (hd (i 1)) (i 0) (dm (i 1))
def colSums (f : Fin 16 → Fin 8192 → Fin 64 → EReal) : S1x1024.Idx → EReal := fun i => ∑ t, f (hd (i 1)) t (dm (i 1))
/-- The tables' gradients as arrays. -/
def tiles (A : Att) : S16x2x128x128.Idx → EReal := fun i => A.tile (i 0) (i 1) (i 2) (i 3)
def fars (A : Att) : S16x1x128.Idx → EReal := fun i => A.far (i 0) (i 2)
end Cert.AttDense
-- ==== Proof.AttGather.lean ====
/- Columns of a table gathered at integer positions, read at an entry. -/
module

public import Idealize.ShloMosaic.Lib.Pipeline.ValueKit

@[expose] public section

set_option maxRecDepth 16384

noncomputable section

open Idealize.ShloMosaic

namespace Cert.AttGather

variable {α : Type}

/-- Columns of `[H, N]` at positions `[R, C, 1]`, as `[H, R, C]`. -/
abbrev dims2 (H N R C : Nat) (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf
/-- Columns of `[H, N]` at positions `[M, R, C, 1]`, as `[H, M, R, C]`. -/
abbrev dims3 (H N M R C : Nat) (wf : GatherDims.WF ⟨2, ![H, N]⟩ ⟨4, ![M, R, C, 1]⟩ ⟨4, ![H, M, R, C]⟩ [0] [1] [] [1] [] 3 ![H, 1]) :
    GatherDims ⟨2, ![H, N]⟩ ⟨4, ![M, R, C, 1]⟩ ⟨4, ![H, M, R, C]⟩ where
  offsetDims := [0]
  collapsedSliceDims := [1]
  operandBatchingDims := []
  startIndicesBatchingDims := []
  startIndexMap := [1]
  indexVectorDim := 3
  sliceSizes := ![H, 1]
  wf := wf

theorem gather2 {H N R C w : Nat} (hN : 0 < N) (wf) (x : (⟨2, ![H, N]⟩ : Shape).Idx → α) (idx : IVec ⟨3, ![R, C, 1]⟩ w)
    (h : Fin H) (r : Fin R) (s : Fin C) :
    Host.gather (dims2 H N R C wf) x idx (ix3 h r s) = x (ix2 h ⟨min (idx (ix3 r s 0)).toInt.toNat (N - 1), by omega⟩) := by
  unfold Host.gather
  congr 1
  funext a
  refine Fin.ext ?_
  show (dims2 H N R C wf).start (ix3 h r s) idx a + (dims2 H N R C wf).batchCoord (ix3 h r s) a + (dims2 H N R C wf).offCoord (ix3 h r s) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show ¬(0 : Fin 2) ∈ (dims2 H N R C wf).startIndexMap by simp)]
    simp only [Nat.zero_add, Nat.add_zero]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (dims2 H N R C wf).startIndexMap from List.mem_singleton.mpr rfl)]
    have hsi : (dims2 H N R C wf).siIdx (ix3 h r s) ⟨List.idxOf (1 : Fin 2) (dims2 H N R C wf).startIndexMap,
        List.idxOf_lt_length_iff.2 (List.mem_singleton.mpr rfl)⟩ = ix3 r s 0 := by
      funext b; refine Fin.ext ?_
      match b with
      | ⟨0, _⟩ => rfl
      | ⟨1, _⟩ => rfl
      | ⟨2, _⟩ => rfl
    rw [hsi]
    rfl

theorem gather3 {H N M R C w : Nat} (hN : 0 < N) (wf) (x : (⟨2, ![H, N]⟩ : Shape).Idx → α) (idx : IVec ⟨4, ![M, R, C, 1]⟩ w)
    (h : Fin H) (n : Fin M) (r : Fin R) (s : Fin C) :
    Host.gather (dims3 H N M R C wf) x idx (ix4 h n r s) = x (ix2 h ⟨min (idx (ix4 n r s 0)).toInt.toNat (N - 1), by omega⟩) := by
  unfold Host.gather
  congr 1
  funext a
  refine Fin.ext ?_
  show (dims3 H N M R C wf).start (ix4 h n r s) idx a + (dims3 H N M R C wf).batchCoord (ix4 h n r s) a + (dims3 H N M R C wf).offCoord (ix4 h n r s) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show ¬(0 : Fin 2) ∈ (dims3 H N M R C wf).startIndexMap by simp)]
    simp only [Nat.zero_add, Nat.add_zero]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (dims3 H N M R C wf).startIndexMap from List.mem_singleton.mpr rfl)]
    have hsi : (dims3 H N M R C wf).siIdx (ix4 h n r s) ⟨List.idxOf (1 : Fin 2) (dims3 H N M R C wf).startIndexMap,
        List.idxOf_lt_length_iff.2 (List.mem_singleton.mpr rfl)⟩ = ix4 n r s 0 := by
      funext b; refine Fin.ext ?_
      match b with
      | ⟨0, _⟩ => rfl
      | ⟨1, _⟩ => rfl
      | ⟨2, _⟩ => rfl
      | ⟨3, _⟩ => rfl
    rw [hsi]
    rfl

/-! ## The clipped distance as a position of the table -/

/-- A distance clipped to ±128, counted from −128, and the position jax makes of it. -/
abbrev clipped (d : BitVec 32) : BitVec 32 := IntOp.addi (IntOp.minsi 128#32 (IntOp.maxsi 4294967168#32 d)) 128#32
abbrev position (d : BitVec 32) : BitVec 32 :=
  Scalar.select (IntOp.cmpi .slt (clipped d) 0#32) (IntOp.addi (clipped d) 257#32) (clipped d)

theorem position_at : ∀ n : Fin 16383, min (position (BitVec.ofNat 32 n.val - 8191#32)).toInt.toNat 256 = min (n.val - 8063) 256 := by decide +kernel

end Cert.AttGather
-- ==== Proof.AttKernel.lean ====
/- The attention gradient's blocks at a grid point, over whole arrays. -/
module

public import proofs.«01_k».proof.Proof.AttGrads
public import proofs.«01_k».proof.Proof.AttArrays
public import proofs.«01_k».proof.Proof.AttGather

@[expose] public section

set_option maxRecDepth 16384

noncomputable section

open Idealize.ShloMosaic Idealize.ShloMosaic.TcCoe Idealize.SL.Sem Cert.AttDense

namespace Cert.KernelAttIdeal.Frame

open Cert.KernelAttIdeal Cert.KernelAttIdeal.Gen

variable (m : (ℓ : Loc nD τ sig) → Buf (Elt Ideal) ℓ) (c : Dev nD)

/-! ## The tables the host lines lay out -/

/-- The numbers of a tile's keys and queries, as words. -/
def base : IVec S2x128x128 32 := addi (iotaInDim S2x128x128 32 0) (broadcastInDim S2x128x128 ![] bcast_S_S2x128x128 (constantI S_ 32 3#32))
def gap : IVec S2x128x128 32 :=
  subi (addi (muli (broadcastInDim S2x128x128 ![] bcast_S_S2x128x128 (constantI S_ 32 2#32)) base)
      (Host.divsi (iotaInDim S2x128x128 32 2) (broadcastInDim S2x128x128 ![] bcast_S_S2x128x128 (constantI S_ 32 64#32))))
    (Host.divsi (iotaInDim S2x128x128 32 1) (broadcastInDim S2x128x128 ![] bcast_S_S2x128x128 (constantI S_ 32 64#32)))
/-- Which pairs of a tile see each other, and each pair's place in the bias table. -/
def seen : IVec S2x128x128 1 :=
  andi (cmpi .sge gap (broadcastInDim S2x128x128 ![] bcast_S_S2x128x128 (constantI S_ 32 0#32)))
    (cmpi .sle gap (broadcastInDim S2x128x128 ![] bcast_S_S2x128x128 (constantI S_ 32 8#32)))
def dist : IVec S2x128x128 32 :=
  subi (addi (subi (broadcastInDim S2x128x128 ![] bcast_S_S2x128x128 (constantI S_ 32 512#32))
    (muli (broadcastInDim S2x128x128 ![] bcast_S_S2x128x128 (constantI S_ 32 128#32)) base)) (iotaInDim S2x128x128 32 1)) (iotaInDim S2x128x128 32 2)
def shifted : IVec S2x128x128 32 :=
  addi (minsi (broadcastInDim S2x128x128 ![] bcast_S_S2x128x128 (constantI S_ 32 128#32))
    (maxsi (broadcastInDim S2x128x128 ![] bcast_S_S2x128x128 (constantI S_ 32 4294967168#32)) dist))
    (broadcastInDim S2x128x128 ![] bcast_S_S2x128x128 (constantI S_ 32 128#32))
def place : IVec S2x128x128 32 :=
  select (cmpi .slt shifted (broadcastInDim S2x128x128 ![] bcast_S_S2x128x128 (constantI S_ 32 0#32)))
    (addi shifted (broadcastInDim S2x128x128 ![] bcast_S_S2x128x128 (constantI S_ 32 257#32))) shifted
def nearTables (x2 : FVec Ideal S16x257 .f32) : FVec Ideal S16x2x128x128 .f32 :=
  select (broadcastInDim S16x2x128x128 ![1, 2, 3] bcast_S2x128x128_S16x2x128x128_1_2_3 seen)
    (Host.gather gather_S16x257_S2x128x128x1_S16x2x128x128_0_1_n_n_1_3_161 x2 (broadcastInDim S2x128x128x1 ![0, 1, 2] bcast_S2x128x128_S2x128x128x1_0_1_2 place))
    (broadcastInDim S16x2x128x128 ![0, 1, 2, 3] bcast_S16x1x1x1_S16x2x128x128_0_1_2_3 (broadcastInDim S16x1x1x1 ![0] bcast_S16_S16x1x1x1_0
      (broadcastInDim S16 ![] bcast_S_S16 (constant (F := Ideal) S_ .f32 0#32))))

theorem seen_bit : ∀ n : Fin 2, ∀ a b : Fin 2, IntOp.andi
    (IntOp.cmpi .sge (IntOp.subi (IntOp.addi (IntOp.muli 2#32 (IntOp.addi (BitVec.ofNat 32 n.val) 3#32)) (BitVec.ofNat 32 b.val)) (BitVec.ofNat 32 a.val)) 0#32)
    (IntOp.cmpi .sle (IntOp.subi (IntOp.addi (IntOp.muli 2#32 (IntOp.addi (BitVec.ofNat 32 n.val) 3#32)) (BitVec.ofNat 32 b.val)) (BitVec.ofNat 32 a.val)) 8#32)
    = if a.val ≤ 2 * (n.val + 3) + b.val ∧ 2 * (n.val + 3) + b.val ≤ a.val + 8 then 1#1 else 0#1 := by decide +kernel
theorem half : ∀ r : Fin 128, IntOp.divsi .host (BitVec.ofNat 32 r.val) 64#32 = BitVec.ofNat 32 (r.val / 64) := by decide +kernel
theorem seen_at (n : Fin 2) (r s : Fin 128) : seen (ix3 n r s) = if tileBand n r s then 1#1 else 0#1 := by
  pointwise [seen, gap, base]
  rw [half, half]
  exact seen_bit n ⟨r.val / 64, by omega⟩ ⟨s.val / 64, by omega⟩
theorem distance : ∀ n : Fin 2, ∀ r s : Fin 128, IntOp.subi (IntOp.addi (IntOp.subi 512#32 (IntOp.muli 128#32 (IntOp.addi (BitVec.ofNat 32 n.val) 3#32)))
    (BitVec.ofNat 32 r.val)) (BitVec.ofNat 32 s.val) = BitVec.ofNat 32 (8191 + (128 * (1 - n.val) + r.val) - s.val) - 8191#32 := by
  intro n r s
  apply BitVec.eq_of_toNat_eq
  unfold IntOp.subi IntOp.addi IntOp.muli
  obtain rfl | rfl : n = 0 ∨ n = 1 := by omega
  all_goals simp only [BitVec.toNat_sub, BitVec.toNat_add, BitVec.toNat_mul, BitVec.toNat_ofNat]; simp; omega

theorem nearTables_at (x0 : (⟨S8192x3072, .bf16⟩ : BufTy).Contents (Elt Ideal)) (x1 : (⟨S8192x1024, .bf16⟩ : BufTy).Contents (Elt Ideal))
    (x2 : FVec Ideal S16x257 .f32) (h : Fin 16) (n : Fin 2) (r s : Fin 128) : nearTables x2 (ix4 h n r s) = (arrays x0 x1 x2).T h n r s := by
  have e : Host.gather gather_S16x257_S2x128x128x1_S16x2x128x128_0_1_n_n_1_3_161 x2 (broadcastInDim S2x128x128x1 ![0, 1, 2] bcast_S2x128x128_S2x128x128x1_0_1_2 place) (ix4 h n r s)
      = x2 (ix2 h (tileRel n r s)) := by
    refine (Cert.AttGather.gather3 (by decide) _ _ _ h n r s).trans ?_
    refine congrArg x2 (congrArg (ix2 h) (Fin.ext ?_))
    refine Eq.trans ?_ ((Cert.AttGather.position_at ⟨8191 + (128 * (1 - n.val) + r.val) - s.val, by omega⟩).trans ?_)
    · rw [← distance]
      refine congrArg (fun w : BitVec 32 => min w.toInt.toNat 256) ?_
      pointwise [place, shifted, dist, base]
    · dsimp only [tileRel]; omega
  unfold nearTables
  pointwise
  rw [seen_at, e, select_bit]
  unfold arrays
  rfl
theorem V_tiles (h : Fin 16) (n : Fin 2) (r s : Fin 128) : (V m c main_v36 : FVec Ideal S16x2x128x128 .f32) (ix4 h n r s)
    = (arrays (m ((c : Thread nD τ).loc main_arg0)) (m ((c : Thread nD τ).loc main_arg1)) (m ((c : Thread nD τ).loc main_arg2))).T h n r s := by
  have e : (V m c main_v36 : FVec Ideal S16x2x128x128 .f32) = nearTables (m ((c : Thread nD τ).loc main_arg2)) := by
    sl_kernel_rfl
  exact (congrFun e _).trans (nearTables_at _ _ _ h n r s)
theorem V_far (h : Fin 16) (s : Fin 128) : (V m c main_v40 : FVec Ideal S16x1x128 .f32) (ix3 h 0 s)
    = m ((c : Thread nD τ).loc main_arg2) (ix2 h 256) := by
  unfold V
  simp only [hostOps0, hostOps0_1, hostOps0_2, hostOps0_3, hostOps0_4, List.flatten_cons, List.flatten_nil, List.append_nil, List.cons_append, List.nil_append]
  after_results
  pointwise

/-! ## The points' blocks -/

theorem coord1 : ∀ t : Fin cfg0.N, (grid0.coords t 1).val = t.val % 32 := (by decide +kernel : ∀ t : Fin grid0.N, (grid0.coords t 1).val = t.val % 32)
theorem idx0 : ∀ t : Fin cfg0.N, win0_0.index t = ![t.val % 32, t.val / 32] := (by decide +kernel : ∀ t : Fin grid0.N, _)
theorem idx1 : ∀ t : Fin cfg0.N, win0_1.index t = ![t.val % 32 - 2, 8 + t.val / 32] := (by decide +kernel : ∀ t : Fin grid0.N, _)
theorem idx2 : ∀ t : Fin cfg0.N, win0_2.index t = ![t.val % 32 - 1, 8 + t.val / 32] := (by decide +kernel : ∀ t : Fin grid0.N, _)
theorem idx3 : ∀ t : Fin cfg0.N, win0_3.index t = ![t.val % 32, 8 + t.val / 32] := (by decide +kernel : ∀ t : Fin grid0.N, _)
theorem idx4 : ∀ t : Fin cfg0.N, win0_4.index t = ![t.val % 32 - 2, 16 + t.val / 32] := (by decide +kernel : ∀ t : Fin grid0.N, _)
theorem idx5 : ∀ t : Fin cfg0.N, win0_5.index t = ![t.val % 32 - 1, 16 + t.val / 32] := (by decide +kernel : ∀ t : Fin grid0.N, _)
theorem idx6 : ∀ t : Fin cfg0.N, win0_6.index t = ![t.val % 32, 16 + t.val / 32] := (by decide +kernel : ∀ t : Fin grid0.N, _)
theorem idx9 : ∀ t : Fin cfg0.N, win0_9.index t = ![t.val % 32, t.val / 32] := (by decide +kernel : ∀ t : Fin grid0.N, _)

/-- The device's arrays. -/
def dense : Att := arrays (m ((c : Thread nD τ).loc main_arg0)) (m ((c : Thread nD τ).loc main_arg1)) (m ((c : Thread nD τ).loc main_arg2))

theorem blk0 (p : Fin 8) (g : Fin 32) (r : Fin 256) (x : Fin 128) : iblk m c 0 (pt p g) (ix2 r x) = (dense m c).q (frame g r) (lane p x) := by
  blk_point [iblk, V, idx0 (pt p g)]
  all_goals simp only [pt, lane, frame]; omega
theorem blk9 (p : Fin 8) (g : Fin 32) (r : Fin 256) (x : Fin 128) : iblk m c 9 (pt p g) (ix2 r x) = (dense m c).o (frame g r) (lane p x) := by
  blk_point [iblk, V, idx9 (pt p g)]
  all_goals simp only [pt, lane, frame]; omega
/-- The three blocks of keys and of values, where they are on the arrays. -/
theorem blk1 (p : Fin 8) (g : Fin 32) (r : Fin 256) (x : Fin 128) (j : Fin 8192) (h : j.val + 512 = 256 * g.val + r.val) :
    iblk m c 1 (pt p g) (ix2 r x) = (dense m c).k j (lane p x) := by
  blk_point [iblk, V, idx1 (pt p g)]
  all_goals simp only [pt, lane]; omega
theorem blk2 (p : Fin 8) (g : Fin 32) (r : Fin 256) (x : Fin 128) (j : Fin 8192) (h : j.val + 256 = 256 * g.val + r.val) :
    iblk m c 2 (pt p g) (ix2 r x) = (dense m c).k j (lane p x) := by
  blk_point [iblk, V, idx2 (pt p g)]
  all_goals simp only [pt, lane]; omega
theorem blk3 (p : Fin 8) (g : Fin 32) (r : Fin 256) (x : Fin 128) (j : Fin 8192) (h : j.val = 256 * g.val + r.val) :
    iblk m c 3 (pt p g) (ix2 r x) = (dense m c).k j (lane p x) := by
  blk_point [iblk, V, idx3 (pt p g)]
  all_goals simp only [pt, lane]; omega
theorem blk4 (p : Fin 8) (g : Fin 32) (r : Fin 256) (x : Fin 128) (j : Fin 8192) (h : j.val + 512 = 256 * g.val + r.val) :
    iblk m c 4 (pt p g) (ix2 r x) = (dense m c).v j (lane p x) := by
  blk_point [iblk, V, idx4 (pt p g)]
  all_goals simp only [pt, lane]; omega
theorem blk5 (p : Fin 8) (g : Fin 32) (r : Fin 256) (x : Fin 128) (j : Fin 8192) (h : j.val + 256 = 256 * g.val + r.val) :
    iblk m c 5 (pt p g) (ix2 r x) = (dense m c).v j (lane p x) := by
  blk_point [iblk, V, idx5 (pt p g)]
  all_goals simp only [pt, lane]; omega
theorem blk6 (p : Fin 8) (g : Fin 32) (r : Fin 256) (x : Fin 128) (j : Fin 8192) (h : j.val = 256 * g.val + r.val) :
    iblk m c 6 (pt p g) (ix2 r x) = (dense m c).v j (lane p x) := by
  blk_point [iblk, V, idx6 (pt p g)]
  all_goals simp only [pt, lane]; omega
theorem blk7 (p : Fin 8) (g : Fin 32) (a n : Fin 2) (r s : Fin 128) : iblk m c 7 (pt p g) (ix4 a n r s) = (dense m c).T (head p a) n r s := by
  refine Eq.trans ?_ (V_tiles m c _ _ _ _)
  blk_point [iblk, idx7 (pt p g)]
  all_goals simp only [pt, head]; omega
theorem blk8 (p : Fin 8) (g : Fin 32) (a : Fin 2) (s : Fin 128) : iblk m c 8 (pt p g) (ix3 a 0 s) = (dense m c).C (head p a) s := by
  refine Eq.trans ?_ (V_far m c _ s)
  blk_point [iblk, idx8 (pt p g)]
  all_goals simp only [pt, head]; omega

theorem rows_of (x7 : Vec Ideal S2x2x128x128 .f32) (x8 : Vec Ideal S2x1x128 .f32) (a : Fin 2) (r : Fin 256) (w : Fin 768) {T : Fin 2 → Fin 128 → Fin 128 → EReal}
    {C : Fin 128 → EReal} (hT : ∀ n r s, x7 (ix4 a n r s) = T n r s) (hC : ∀ s, x8 (ix3 a 0 s) = C s) : rowsOf x7 x8 (ix2 (hrow a r) w) = biasRow T C r w := by
  rw [← funext fun n => funext fun r => funext fun s => hT n r s, ← funext hC]
  exact rows_at x7 x8 a r w _

theorem ins_rows (t : Fin cfg0.N) : (insAt m c t).rows = rowsOf (iblk m c 7 t) (iblk m c 8 t) := by
  unfold insAt biasAt
  dsimp only [blocks]

/-- The blocks of a point hold what the whole arrays have there. -/
theorem holds (p : Fin 8) (g : Fin 32) : Ins.Holds (dense m c) p g (grid0.coords (pt p g)) (insAt m c (pt p g)) where
  i := (coord1 _).trans (by simp only [pt]; omega)
  q := blk0 m c p g
  o := blk9 m c p g
  k w x h := by
    unfold Ins.keys insAt
    pointwise [k0_pay15]
    repeat' split
    · exact blk1 m c p g _ x _ (by dsimp only; omega)
    · exact blk2 m c p g _ x _ (by dsimp only; omega)
    · exact blk3 m c p g _ x _ (by dsimp only; omega)
  v w x h := by
    unfold Ins.vals insAt
    pointwise [k0_pay16]
    repeat' split
    · exact blk4 m c p g _ x _ (by dsimp only; omega)
    · exact blk5 m c p g _ x _ (by dsimp only; omega)
    · exact blk6 m c p g _ x _ (by dsimp only; omega)
  rows a r w := by
    rw [ins_rows]
    exact rows_of _ _ a r w (blk7 m c p g a) (blk8 m c p g a)

/-! ## The arrays after the run -/

theorem idx10 : ∀ t : Fin cfg0.N, win0_10.index t = ![t.val % 32, t.val / 32] := (by decide +kernel : ∀ t : Fin grid0.N, _)
theorem idx11 : ∀ t : Fin cfg0.N, win0_11.index t = ![0, t.val / 32] := (by decide +kernel : ∀ t : Fin grid0.N, _)
theorem idx12 : ∀ t : Fin cfg0.N, win0_12.index t = ![0, t.val / 32] := (by decide +kernel : ∀ t : Fin grid0.N, _)
theorem idx13 : ∀ t : Fin cfg0.N, win0_13.index t = ![t.val / 32, 0, 0, 0] := (by decide +kernel : ∀ t : Fin grid0.N, _)
theorem idx14 : ∀ t : Fin cfg0.N, win0_14.index t = ![t.val / 32, 0, 0] := (by decide +kernel : ∀ t : Fin grid0.N, _)
theorem idx15 : ∀ t : Fin cfg0.N, win0_15.index t = ![0, t.val / 32] := (by decide +kernel : ∀ t : Fin grid0.N, _)
theorem idx16 : ∀ t : Fin cfg0.N, win0_16.index t = ![0, t.val / 32] := (by decide +kernel : ∀ t : Fin grid0.N, _)
theorem idx17 : ∀ t : Fin cfg0.N, win0_17.index t = ![0, t.val / 32] := (by decide +kernel : ∀ t : Fin grid0.N, _)

theorem point_of (t : Fin cfg0.N) : ∃ p g, t = pt p g := by
  have := lt_of_lt_of_eq t.isLt N_0
  exact ⟨⟨t.val / 32, by omega⟩, ⟨t.val % 32, by omega⟩, Fin.ext (by simp only [pt]; omega)⟩
theorem last_of (t : Fin cfg0.N) (h : t.val % 32 = 31) : ∃ p, t = pt p 31 := by
  have := lt_of_lt_of_eq t.isLt N_0
  exact ⟨⟨t.val / 32, by omega⟩, Fin.ext (by simp only [pt, show ((31 : Fin 32) : ℕ) = 31 from rfl]; omega)⟩
theorem hlane_of (x : Fin 128) : ∃ a d, x = hlane a d := ⟨⟨x.val / 64, by omega⟩, ⟨x.val % 64, by omega⟩, Fin.ext (by simp only [hlane]; omega)⟩
theorem hd_lane (p : Fin 8) (a : Fin 2) (d : Fin 64) : hd (lane p (hlane a d)) = head p a ∧ dm (lane p (hlane a d)) = d := by
  constructor <;> (apply Fin.ext; simp only [hd, dm, lane, hlane, head]; omega)

/-- Where a block's entry stands in its array. -/
theorem emb10 (G : S8192x1024.Idx → EReal) (p : Fin 8) (g : Fin 32) (y : ((cfg0.win 10).xblock (cfg0.grid.coords (pt p g))).Idx) :
    G (ix2 (frame g (y 0)) (lane p (y 1))) = G ((win0_10.blk (pt p g)).view.emb y) := by
  blk_point [idx10 (pt p g)]
  all_goals simp only [pt, lane, frame]; omega
theorem emb11 (G : S8192x1024.Idx → EReal) (p : Fin 8) (g : Fin 32) (y : ((cfg0.win 11).xblock (cfg0.grid.coords (pt p g))).Idx) :
    G (ix2 (y 0) (lane p (y 1))) = G ((win0_11.blk (pt p g)).view.emb y) := by
  blk_point [idx11 (pt p g)]
  all_goals simp only [pt, lane]; omega
theorem emb12 (G : S8192x1024.Idx → EReal) (p : Fin 8) (g : Fin 32) (y : ((cfg0.win 12).xblock (cfg0.grid.coords (pt p g))).Idx) :
    G (ix2 (y 0) (lane p (y 1))) = G ((win0_12.blk (pt p g)).view.emb y) := by
  blk_point [idx12 (pt p g)]
  all_goals simp only [pt, lane]; omega
theorem emb13 (G : S16x2x128x128.Idx → EReal) (p : Fin 8) (g : Fin 32) (y : ((cfg0.win 13).xblock (cfg0.grid.coords (pt p g))).Idx) :
    G (ix4 (head p (y 0)) (y 1) (y 2) (y 3)) = G ((win0_13.blk (pt p g)).view.emb y) := by
  blk_point [idx13 (pt p g)]
  all_goals simp only [pt, head]; omega
theorem emb14 (G : S16x1x128.Idx → EReal) (p : Fin 8) (g : Fin 32) (y : ((cfg0.win 14).xblock (cfg0.grid.coords (pt p g))).Idx) :
    G (ix3 (head p (y 0)) 0 (y 2)) = G ((win0_14.blk (pt p g)).view.emb y) := by
  blk_point [idx14 (pt p g)]
  all_goals simp only [pt, head]; omega
theorem emb15 (G : S1x1024.Idx → EReal) (p : Fin 8) (g : Fin 32) (y : ((cfg0.win 15).xblock (cfg0.grid.coords (pt p g))).Idx) :
    G (ix2 0 (lane p (y 1))) = G ((win0_15.blk (pt p g)).view.emb y) := by
  blk_point [idx15 (pt p g)]
  all_goals simp only [pt, lane]; omega
theorem emb16 (G : S1x1024.Idx → EReal) (p : Fin 8) (g : Fin 32) (y : ((cfg0.win 16).xblock (cfg0.grid.coords (pt p g))).Idx) :
    G (ix2 0 (lane p (y 1))) = G ((win0_16.blk (pt p g)).view.emb y) := by
  blk_point [idx16 (pt p g)]
  all_goals simp only [pt, lane]; omega
theorem emb17 (G : S1x1024.Idx → EReal) (p : Fin 8) (g : Fin 32) (y : ((cfg0.win 17).xblock (cfg0.grid.coords (pt p g))).Idx) :
    G (ix2 0 (lane p (y 1))) = G ((win0_17.blk (pt p g)).view.emb y) := by
  blk_point [idx17 (pt p g)]
  all_goals simp only [pt, lane]; omega

theorem pt_mod (p : Fin 8) (g : Fin 32) : (pt p g).val % 32 = g.val := by simp only [pt]; omega

/-- What a pair of heads leaves after its last group. -/
theorem dk_at (p : Fin 8) (a : Fin 2) (d : Fin 64) (j : Fin 8192) : (leaves m c (pt p 31).val (pt p 31).isLt).2.dk (ix2 j (hlane a d)) = (dense m c).dk (head p a) j d := by
  refine (pair_sum m c (dk_sums m c) p (j, hlane a d)).trans (Eq.trans ?_ (dk_pair (fun g => holds m c p g) a d j))
  exact Finset.sum_congr rfl fun g _ => by rw [pt_mod]
theorem dv_at (p : Fin 8) (a : Fin 2) (d : Fin 64) (j : Fin 8192) : (leaves m c (pt p 31).val (pt p 31).isLt).2.dv (ix2 j (hlane a d)) = (dense m c).dv (head p a) j d := by
  refine (pair_sum m c (dv_sums m c) p (j, hlane a d)).trans (Eq.trans ?_ (dv_pair (fun g => holds m c p g) a d j))
  exact Finset.sum_congr rfl fun g _ => by rw [pt_mod]
theorem sq_at (p : Fin 8) (a : Fin 2) (d : Fin 64) : (leaves m c (pt p 31).val (pt p 31).isLt).2.sq (ix2 0 (hlane a d)) = ∑ t, (dense m c).dq (head p a) t d :=
  (pair_sum m c (sq_sums m c) p (hlane a d)).trans (sq_pair (fun g => holds m c p g) a d)
theorem dt_at (p : Fin 8) (a n : Fin 2) (r s : Fin 128) : (leaves m c (pt p 31).val (pt p 31).isLt).2.dt (ix4 a n r s) = (dense m c).tile (head p a) n r s :=
  (pair_sum m c (dt_sums m c) p (a, n, r, s)).trans (tile_pair (fun g => holds m c p g) a n r s)
theorem dc_at (p : Fin 8) (a : Fin 2) (s : Fin 128) : (leaves m c (pt p 31).val (pt p 31).isLt).2.dc (ix3 a 0 s) = (dense m c).far (head p a) s :=
  (pair_sum m c (dc_sums m c) p (a, s)).trans (far_pair (fun g => holds m c p g) a s)

theorem cols_at (f : Fin 16 → Fin 8192 → Fin 64 → EReal) (j : Fin 8192) (p : Fin 8) (a : Fin 2) (d : Fin 64) : cols f (ix2 j (lane p (hlane a d))) = f (head p a) j d :=
  congrArg₂ (fun h d => f h j d) (hd_lane p a d).1 (hd_lane p a d).2
theorem colSums_at (f : Fin 16 → Fin 8192 → Fin 64 → EReal) (p : Fin 8) (a : Fin 2) (d : Fin 64) : colSums f (ix2 0 (lane p (hlane a d))) = ∑ j, f (head p a) j d :=
  congrArg₂ (fun h d => ∑ j, f h j d) (hd_lane p a d).1 (hd_lane p a d).2

theorem dq_block (p : Fin 8) (g : Fin 32) (y : S256x128.Idx) : k0_pay46 ((insAt m c (pt p g)).dQ (grid0.coords (pt p g))) y
    = cols (dense m c).dq (ix2 (frame g (y 0)) (lane p (y 1))) := by
  pointwise [k0_pay46]
  obtain ⟨a, d, e⟩ := hlane_of (y 1)
  rw [e, cols_at, eq_ix2 y, e]
  exact Ins.dQ_at (holds m c p g) a (y 0) d
theorem dk_block (p : Fin 8) (y : S8192x128.Idx) : (leaves m c (pt p 31).val (pt p 31).isLt).2.dk y = cols (dense m c).dk (ix2 (y 0) (lane p (y 1))) := by
  obtain ⟨a, d, e⟩ := hlane_of (y 1)
  rw [e]
  refine Eq.trans ?_ (cols_at _ (y 0) p a d).symm
  rw [eq_ix2 y, e]
  exact dk_at m c p a d (y 0)
theorem dv_block (p : Fin 8) (y : S8192x128.Idx) : (leaves m c (pt p 31).val (pt p 31).isLt).2.dv y = cols (dense m c).dv (ix2 (y 0) (lane p (y 1))) := by
  obtain ⟨a, d, e⟩ := hlane_of (y 1)
  rw [e]
  refine Eq.trans ?_ (cols_at _ (y 0) p a d).symm
  rw [eq_ix2 y, e]
  exact dv_at m c p a d (y 0)
theorem sq_block (p : Fin 8) (y : S1x128.Idx) : (leaves m c (pt p 31).val (pt p 31).isLt).2.sq y = colSums (dense m c).dq (ix2 0 (lane p (y 1))) := by
  obtain ⟨a, d, e⟩ := hlane_of (y 1)
  rw [e, colSums_at, eq_ix2 y, e, show y 0 = (0 : Fin 1) from Subsingleton.elim (α := Fin 1) _ _]
  exact sq_at m c p a d
theorem sk_block (p : Fin 8) (y : S1x128.Idx) : (sums m c (pt p 31)).1 y = colSums (dense m c).dk (ix2 0 (lane p (y 1))) := by
  obtain ⟨a, d, e⟩ := hlane_of (y 1)
  rw [e, colSums_at, eq_ix2 y, e, show y 0 = (0 : Fin 1) from Subsingleton.elim (α := Fin 1) _ _]
  exact (column_sums m c (pt p 31) (pt_mod p 31) _).1.trans (Finset.sum_congr rfl fun j _ => dk_at m c p a d j)
theorem sv_block (p : Fin 8) (y : S1x128.Idx) : (sums m c (pt p 31)).2 y = colSums (dense m c).dv (ix2 0 (lane p (y 1))) := by
  obtain ⟨a, d, e⟩ := hlane_of (y 1)
  rw [e, colSums_at, eq_ix2 y, e, show y 0 = (0 : Fin 1) from Subsingleton.elim (α := Fin 1) _ _]
  exact (column_sums m c (pt p 31) (pt_mod p 31) _).2.trans (Finset.sum_congr rfl fun j _ => dv_at m c p a d j)
theorem dt_block (p : Fin 8) (y : S2x2x128x128.Idx) : (leaves m c (pt p 31).val (pt p 31).isLt).2.dt y = (dense m c).tile (head p (y 0)) (y 1) (y 2) (y 3) := by
  rw [eq_ix4 y]
  exact dt_at m c p (y 0) (y 1) (y 2) (y 3)
theorem dc_block (p : Fin 8) (y : S2x1x128.Idx) : (leaves m c (pt p 31).val (pt p 31).isLt).2.dc y = (dense m c).far (head p (y 0)) (y 2) := by
  rw [eq_ix3 y, show y 1 = (0 : Fin 1) from Subsingleton.elim (α := Fin 1) _ _]
  exact dc_at m c p (y 0) (y 2)

theorem final_dq : (dats m 0 c).arrAt 10 (cfgs 0).N = cols (dense m c).dq := by
  refine (dats m 0 c).arrAt_eq_of_covers 10 _ (by decide +kernel) fun t _ y => ?_
  obtain ⟨p, g, rfl⟩ := point_of t
  refine Eq.trans ?_ (emb10 _ p g y)
  blk_simp
  rw [after0_10, dq_at]
  exact dq_block m c p g y
theorem final_dk : (dats m 0 c).arrAt 11 (cfgs 0).N = cols (dense m c).dk := by
  refine (dats m 0 c).arrAt_eq_of_covers 11 _ (by decide +kernel) fun t hf y => ?_
  obtain ⟨p, rfl⟩ := last_of t ((flush0_11 t).mp hf)
  refine Eq.trans ?_ (emb11 _ p 31 y)
  blk_simp
  rw [after0_11]
  exact dk_block m c p y
theorem final_dv : (dats m 0 c).arrAt 12 (cfgs 0).N = cols (dense m c).dv := by
  refine (dats m 0 c).arrAt_eq_of_covers 12 _ (by decide +kernel) fun t hf y => ?_
  obtain ⟨p, rfl⟩ := last_of t ((flush0_12 t).mp hf)
  refine Eq.trans ?_ (emb12 _ p 31 y)
  blk_simp
  rw [after0_12]
  exact dv_block m c p y
theorem final_dt : (dats m 0 c).arrAt 13 (cfgs 0).N = tiles (dense m c) := by
  refine (dats m 0 c).arrAt_eq_of_covers 13 _ (by decide +kernel) fun t hf y => ?_
  obtain ⟨p, rfl⟩ := last_of t ((flush0_13 t).mp hf)
  refine Eq.trans ?_ (emb13 _ p 31 y)
  blk_simp
  rw [after0_13]
  exact dt_block m c p y
theorem final_dc : (dats m 0 c).arrAt 14 (cfgs 0).N = fars (dense m c) := by
  refine (dats m 0 c).arrAt_eq_of_covers 14 _ (by decide +kernel) fun t hf y => ?_
  obtain ⟨p, rfl⟩ := last_of t ((flush0_14 t).mp hf)
  refine Eq.trans ?_ (emb14 _ p 31 y)
  blk_simp
  rw [after0_14]
  exact dc_block m c p y
theorem final_sq : (dats m 0 c).arrAt 15 (cfgs 0).N = colSums (dense m c).dq := by
  refine (dats m 0 c).arrAt_eq_of_covers 15 _ (by decide +kernel) fun t hf y => ?_
  obtain ⟨p, rfl⟩ := last_of t ((flush0_15 t).mp hf)
  refine Eq.trans ?_ (emb15 _ p 31 y)
  blk_simp
  rw [after0_15]
  exact sq_block m c p y
theorem final_sk : (dats m 0 c).arrAt 16 (cfgs 0).N = colSums (dense m c).dk := by
  refine (dats m 0 c).arrAt_eq_of_covers 16 _ (by decide +kernel) fun t hf y => ?_
  obtain ⟨p, rfl⟩ := last_of t ((flush0_16 t).mp hf)
  refine Eq.trans ?_ (emb16 _ p 31 y)
  blk_simp
  rw [after0_16]
  exact sk_block m c p y
theorem final_sv : (dats m 0 c).arrAt 17 (cfgs 0).N = colSums (dense m c).dv := by
  refine (dats m 0 c).arrAt_eq_of_covers 17 _ (by decide +kernel) fun t hf y => ?_
  obtain ⟨p, rfl⟩ := last_of t ((flush0_17 t).mp hf)
  refine Eq.trans ?_ (emb17 _ p 31 y)
  blk_simp
  rw [after0_17]
  exact sv_block m c p y
end Cert.KernelAttIdeal.Frame
-- ==== Proof.AttRef.lean ====
/- The reference's attention gradient, entry by entry, over whole arrays. -/
module

public import proofs.«01_k».proof.Proof.AttArrays
public import proofs.«01_k».proof.Proof.AttGather
public import Idealize.ShloMosaic.Lib.KernelVsHost

@[expose] public section

set_option maxRecDepth 16384

noncomputable section

open Idealize.ShloMosaic Idealize.ShloMosaic.TcCoe Cert.AttDense

namespace Cert.RefAttIdeal.Read

/-! ## Bits of the block and chunk numbers -/

theorem block_number : ∀ n : Fin 8192, IntOp.divsi .host (BitVec.ofNat 32 n.val) 128#32 = BitVec.ofNat 32 (n.val / 128) := by decide +kernel
theorem chunk_number : ∀ n : Fin 8192, IntOp.divsi .host (BitVec.ofNat 32 n.val) 64#32 = BitVec.ofNat 32 (n.val / 64) := by decide +kernel
theorem same_block : ∀ a b : Fin 64, IntOp.cmpi .eq (IntOp.subi (BitVec.ofNat 32 a.val) (BitVec.ofNat 32 b.val)) 0#32 = if a.val = b.val then 1#1 else 0#1 := by decide +kernel
theorem next_block : ∀ a b : Fin 64, IntOp.cmpi .eq (IntOp.subi (BitVec.ofNat 32 a.val) (BitVec.ofNat 32 b.val)) 1#32 = if a.val = b.val + 1 then 1#1 else 0#1 := by decide +kernel
theorem chunks_near : ∀ a b : Fin 128, IntOp.andi (IntOp.cmpi .sge (IntOp.subi (BitVec.ofNat 32 a.val) (BitVec.ofNat 32 b.val)) 0#32)
    (IntOp.cmpi .sle (IntOp.subi (BitVec.ofNat 32 a.val) (BitVec.ofNat 32 b.val)) 8#32) = if b.val ≤ a.val ∧ a.val ≤ b.val + 8 then 1#1 else 0#1 := by decide +kernel
theorem zero_word : Ideal.ofBits .f32 0#32 = 0 := by simp [Ideal.ofBits, Ideal.ieee]
theorem bot_word : Ideal.ofBits .f32 4286578688#32 = ⊥ := by simp [Ideal.ofBits, Ideal.ieee]
theorem one_word : Ideal.ofBits .f32 1065353216#32 = 1 := by simp [Ideal.ofBits, Ideal.ieee, -EReal.coe_mul]; norm_num

theorem select_bit {p : Prop} [Decidable p] {a : Type} (x y : a) : Scalar.select (if p then 1#1 else 0#1) x y = if p then x else y := by
  unfold Scalar.select; split_ifs with hp <;> first | rfl | simp_all

variable (x0 : (⟨S8192x3072, .bf16⟩ : BufTy).Contents (Elt Ideal)) (x1 : (⟨S8192x1024, .bf16⟩ : BufTy).Contents (Elt Ideal))
    (x2 : (⟨S16x257, .f32⟩ : BufTy).Contents (Elt Ideal))
variable (h : Fin 16) (t j : Fin 8192) (d : Fin 64)

theorem own_bit : val_main_v36 (F := Ideal) (ix3 h t j) = if t.val / 128 = j.val / 128 then 1#1 else 0#1 := by
  pointwise [val_main_v36, val_main_v35, val_main_v34, val_main_v22, val_main_v21, val_main_v20, val_main_v19, val_main_v18, val_main_v17, val_main_v16, val_main_c, val_main_c_2, val_main_c_8]
  rw [block_number, block_number]
  exact same_block ⟨t.val / 128, by omega⟩ ⟨j.val / 128, by omega⟩
theorem near_bit : val_main_v39 (F := Ideal) (ix3 h t j) = if t.val / 128 = j.val / 128 + 1 then 1#1 else 0#1 := by
  pointwise [val_main_v39, val_main_v38, val_main_v37, val_main_v22, val_main_v21, val_main_v20, val_main_v19, val_main_v18, val_main_v17, val_main_v16, val_main_c, val_main_c_2, val_main_c_9]
  rw [block_number, block_number]
  exact next_block ⟨t.val / 128, by omega⟩ ⟨j.val / 128, by omega⟩
theorem band_bit : val_main_v81_1 (F := Ideal) (ix3 h t j) = if j.val / 64 ≤ t.val / 64 ∧ t.val / 64 ≤ j.val / 64 + 8 then 1#1 else 0#1 := by
  pointwise [val_main_v81_1, val_main_v72, val_main_v71, val_main_v70, val_main_v69, val_main_v68, val_main_v67, val_main_v66, val_main_v65, val_main_v64, val_main_v63, val_main_v17, val_main_v16, val_main_c_12, val_main_c_13, val_main_c_14, val_main_c_15]
  rw [chunk_number, chunk_number]
  exact chunks_near ⟨t.val / 64, by omega⟩ ⟨j.val / 64, by omega⟩

/-! ## Queries, keys, values, biases -/

theorem q_at : val_main_v76 (F := Ideal) x0 (ix3 h t d) = (arrays x0 x1 x2).q t (col h d) * eighth := by
  pointwise [val_main_v76, val_main_v75, val_main_cst_16, val_main_v74, val_main_v73, val_main_v11, val_main_v10, val_main_v6, val_main_v1, val_main_v0, val_main_cst]
  unfold arrays col
  congr 3; apply Fin.ext; dsimp only; omega
theorem k_at : val_main_v78 (F := Ideal) x0 (ix3 h j d) = (arrays x0 x1 x2).k j (col h d) := by
  pointwise [val_main_v78, val_main_v77, val_main_v13, val_main_v12, val_main_v6, val_main_v3, val_main_v2, val_main_cst]
  unfold arrays col
  congr 2; apply Fin.ext; dsimp only; omega
theorem v_at : val_main_v111 (F := Ideal) x0 (ix3 h j d) = (arrays x0 x1 x2).v j (col h d) := by
  pointwise [val_main_v111, val_main_v110, val_main_v15, val_main_v14, val_main_v6, val_main_v5, val_main_v4, val_main_cst]
  unfold arrays col
  congr 2; apply Fin.ext; dsimp only; omega
theorem o_at : val_main_v117 (F := Ideal) x1 (ix3 h t d) = (arrays x0 x1 x2).o t (col h d) := by
  pointwise [val_main_v117, val_main_v116, val_main_v115]
  unfold arrays col
  congr 2; apply Fin.ext; dsimp only; omega
/-- The word of a difference of two frames, counted from the smallest. -/
theorem difference (t j : Fin 8192) : IntOp.subi (BitVec.ofNat 32 t.val) (BitVec.ofNat 32 j.val) = BitVec.ofNat 32 (8191 + t.val - j.val) - 8191#32 := by
  apply BitVec.eq_of_toNat_eq
  unfold IntOp.subi
  simp only [BitVec.toNat_sub, BitVec.toNat_ofNat]
  omega
theorem taken_at : val_main_v33 (F := Ideal) x2 (ix3 h t j) = x2 (ix2 h ⟨min (8191 + t.val - j.val - 8063) 256, by omega⟩) := by
  unfold val_main_v33
  refine (Cert.AttGather.gather2 (by decide) _ _ _ h t j).trans ?_
  refine congrArg x2 (congrArg (ix2 h) (Fin.ext ?_))
  refine Eq.trans ?_ (Cert.AttGather.position_at ⟨8191 + t.val - j.val, by omega⟩)
  rw [← difference]
  refine congrArg (fun w : BitVec 32 => min w.toInt.toNat 256) ?_
  pointwise [val_main_v32, val_main_v31, val_main_v30, val_main_v29, val_main_v28, val_main_v27, val_main_v26, val_main_v25, val_main_v24, val_main_v23, val_main_call0_v4, val_main_call0_v3, val_main_call0_v2, val_main_call0_v1, val_main_call0_v0, val_main_v17, val_main_v16, val_main_c_3, val_main_c_4, val_main_c_5, val_main_c_6, val_main_c_7]
  rfl
theorem bias_at (hb : band t j) : val_main_v62 (F := Ideal) x2 (ix3 h t j) = (arrays x0 x1 x2).bias h t j := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v9, val_main_v8, val_main_v7, val_main_cst_0, val_main_cst_1]
  rw [taken_at]
  unfold band at hb
  unfold Att.bias arrays
  dsimp only
  split_ifs with h1 h2 h3 h4
  · refine congrArg x2 (congrArg (ix2 h) (Fin.ext ?_)); dsimp only [tileRel]; omega
  · exact absurd (show tileBand _ _ _ by unfold tileBand; dsimp only; omega) h2
  · refine congrArg x2 (congrArg (ix2 h) (Fin.ext ?_)); dsimp only [tileRel]; omega
  · exact absurd (show tileBand _ _ _ by unfold tileBand; dsimp only; omega) h4
  · refine congrArg x2 (congrArg (ix2 h) (Fin.ext ?_)); dsimp only; omega
theorem dot_at : val_main_v79 (F := Ideal) x0 (ix3 h t j) = (arrays x0 x1 x2).dot h t j := by
  pointwise [val_main_v79]
  exact Finset.sum_congr rfl fun d _ => congrArg₂ (· * ·) (q_at x0 x1 x2 h t d) (k_at x0 x1 x2 h j d)
theorem score_at : val_main_v81_0 (F := Ideal) x0 x2 (ix3 h t j) = (arrays x0 x1 x2).score h t j := by
  rw [val_main_v81_0_apply, band_bit, select_bit]
  unfold Att.score
  by_cases hb : band t j
  · rw [if_pos (show _ ∧ _ from hb), if_pos hb]
    exact congrArg₂ (· + ·) (dot_at x0 x1 x2 h t j) (bias_at x0 x1 x2 h t j hb)
  · rw [if_neg (show ¬(_ ∧ _) from hb), if_neg hb]
    exact bot_word

/-! ## The softmax -/

theorem top_at : val_main_v89 (F := Ideal) x0 x2 (ix2 h t) = (arrays x0 x1 x2).top h t := by
  have e : val_main_v82 (F := Ideal) x0 x2 (ix2 h t) = (arrays x0 x1 x2).top h t := by
    unfold val_main_v82 val_main_cst_18 Att.top
    rw [hostReduce_maximumf_eq_multiReduction (h' := by decide) (hφ := by decide) (hacc := by decide)]
    pointwise
    rw [bot_word]
    exact congrArg (Finset.sup Finset.univ) (funext fun j => score_at x0 x1 x2 h t j)
  rw [val_main_v89_apply, e]
  pointwise [val_main_v88, val_main_cst_20]
  rw [bot_word]
  exact bot_sup_eq _
theorem ex_at : val_main_v102 (F := Ideal) x0 x2 (ix3 h t j) = (arrays x0 x1 x2).ex h t j := by
  pointwise [val_main_v102, val_main_v101, val_main_v100, val_main_v99]
  rw [score_at x0 x1, top_at x0 x1]
  rfl
theorem tot_at : val_main_v103 (F := Ideal) x0 x2 (ix2 h t) = (arrays x0 x1 x2).tot h t := by
  pointwise [val_main_v103, val_main_cst_26]
  exact Finset.sum_congr rfl fun j _ => ex_at x0 x1 x2 h t j

variable (F : (arrays x0 x1 x2).Finite)
include F

theorem p_at : val_main_v106 (F := Ideal) x0 x2 (ix3 h t j) = (arrays x0 x1 x2).prob h t j := by
  pointwise [val_main_v106, val_main_v105, val_main_v104]
  rw [ex_at x0 x1, tot_at x0 x1]
  exact Att.prob_div _ h F t j
omit F in
theorem dp_at : val_main_v120 (F := Ideal) x0 x1 (ix3 h t j) = (arrays x0 x1 x2).dp h t j := by
  pointwise [val_main_v120]
  exact Finset.sum_congr rfl fun d _ => congrArg₂ (· * ·) (o_at x0 x1 x2 h t d) (v_at x0 x1 x2 h j d)
theorem ds_at : val_main_v135 (F := Ideal) x0 x1 x2 (ix3 h t j) = (arrays x0 x1 x2).ds h t j := by
  rw [val_main_v135_apply, band_bit, select_bit]
  by_cases hb : band t j
  · rw [if_pos (show _ ∧ _ from hb)]
    refine Eq.trans ?_ (Att.ds_quotient _ h F t j _ rfl)
    refine Eq.trans (rfl : _ = val_main_v134 (F := Ideal) x0 x1 x2 (ix3 h t j)) ?_
    pointwise [val_main_v134, val_main_v133, val_main_v132, val_main_v131, val_main_cst_29, val_main_v130, val_main_v129, val_main_v128, val_main_v127, val_main_v126,
      val_main_cst_28, val_main_v125, val_main_v124, val_main_v123, val_main_v109, val_main_v108, val_main_cst_27, val_main_v107, val_main_v104]
    simp only [Fin.sum_univ_one, dp_at x0 x1 x2, tot_at x0 x1, ex_at x0 x1]
  · rw [if_neg (show ¬(_ ∧ _) from hb), Att.ds_out _ h hb]
    refine Eq.trans (rfl : _ = val_main_call2_v0 (F := Ideal) (ix3 h t j)) ?_
    pointwise [val_main_call2_v0, val_main_call2_cst]

/-! ## The gradients of the queries, keys and values -/

theorem dq_ref (x : Fin 1024) : val_main_v143 (F := Ideal) x0 x1 x2 (ix2 t x) = (arrays x0 x1 x2).dq (hd x) t (dm x) := by
  pointwise [val_main_v143, val_main_v142, val_main_v141, val_main_v140, val_main_cst_30, val_main_v137]
  exact congrArg (· * _) (Finset.sum_congr rfl fun j _ => congrArg₂ (· * ·) (ds_at x0 x1 x2 (hd x) t j F) (k_at x0 x1 x2 (hd x) j (dm x)))
theorem dk_ref (x : Fin 1024) : val_main_v139 (F := Ideal) x0 x1 x2 (ix2 j x) = (arrays x0 x1 x2).dk (hd x) j (dm x) := by
  pointwise [val_main_v139, val_main_v138, val_main_v136]
  exact Finset.sum_congr rfl fun t _ => congrArg₂ (· * ·) (ds_at x0 x1 x2 (hd x) t j F) (q_at x0 x1 x2 (hd x) t (dm x))
theorem dv_ref (x : Fin 1024) : val_main_v122 (F := Ideal) x0 x1 x2 (ix2 j x) = (arrays x0 x1 x2).dv (hd x) j (dm x) := by
  pointwise [val_main_v122, val_main_v121, val_main_v119, val_main_v118]
  exact Finset.sum_congr rfl fun t _ => (mul_comm (G := EReal) _ _).trans
    (congrArg₂ (· * ·) (p_at x0 x1 x2 (hd x) t j F) (o_at x0 x1 x2 (hd x) t (dm x)))

/-! ## The gradients of the bias tables -/

/-- What a pair of blocks hands to the table it stands at. -/
theorem own_cell : val_main_v146 (F := Ideal) x0 x1 x2 (ix3 h t j) = if t.val / 128 = j.val / 128 then (arrays x0 x1 x2).ds h t j else 0 := by
  rw [val_main_v146_apply, own_bit, select_bit, ds_at x0 x1 x2 h t j F]
  refine if_congr Iff.rfl rfl ?_
  pointwise [val_main_v144, val_main_cst_31]
theorem off_cell : val_main_v145 (F := Ideal) x0 x1 x2 (ix3 h t j) = if t.val / 128 = j.val / 128 then 0 else (arrays x0 x1 x2).ds h t j := by
  rw [val_main_v145_apply, own_bit, select_bit, ds_at x0 x1 x2 h t j F]
  refine if_congr Iff.rfl ?_ rfl
  pointwise [val_main_v144, val_main_cst_31]
theorem near_cell : val_main_v149 (F := Ideal) x0 x1 x2 (ix3 h t j) = if t.val / 128 = j.val / 128 + 1 then (arrays x0 x1 x2).ds h t j else 0 := by
  rw [val_main_v149_apply, near_bit, select_bit, off_cell x0 x1 x2 h t j F]
  refine (if_congr Iff.rfl rfl (?_ : _ = (0 : EReal))).trans ?_
  · pointwise [val_main_v147, val_main_cst_32]
  · split_ifs <;> first | rfl | omega
theorem far_cell : val_main_v148 (F := Ideal) x0 x1 x2 (ix3 h t j)
    = if t.val / 128 = j.val / 128 ∨ t.val / 128 = j.val / 128 + 1 then 0 else (arrays x0 x1 x2).ds h t j := by
  rw [val_main_v148_apply, near_bit, select_bit, off_cell x0 x1 x2 h t j F]
  refine (if_congr Iff.rfl (?_ : _ = (0 : EReal)) rfl).trans ?_
  · pointwise [val_main_v147, val_main_cst_32]
  · split_ifs <;> first | rfl | omega
omit F in
theorem row_at (B : Fin 64) (r : Fin 128) (w : B.val * 128 + r.val < 8192) : (⟨B.val * 128 + r.val, w⟩ : Fin 8192) = row B r := by
  apply Fin.ext; unfold row; dsimp only; omega
omit F in
theorem row_block (B : Fin 64) (r : Fin 128) : (row B r).val / 128 = B.val := by unfold row; dsimp only; omega

theorem near_tile (r s : Fin 128) : val_main_v165 (F := Ideal) x0 x1 x2 (ix3 h r s) = (arrays x0 x1 x2).tile h 0 r s := by
  pointwise [val_main_v165, val_main_cst_40, val_main_v164, val_main_v163, val_main_cst_39, val_main_v162, val_main_v161, val_main_cst_38, val_main_v160, val_main_v159, val_main_cst_37, val_main_v158]
  simp only [Fin.sum_univ_one, row_at, near_cell x0 x1 x2 h _ _ F, row_block]
  rfl
theorem own_tile (r s : Fin 128) : val_main_v173 (F := Ideal) x0 x1 x2 (ix3 h r s) = (arrays x0 x1 x2).tile h 1 r s := by
  pointwise [val_main_v173, val_main_cst_44, val_main_v172, val_main_v171, val_main_cst_43, val_main_v170, val_main_v169, val_main_cst_42, val_main_v168, val_main_v167, val_main_cst_41, val_main_v166]
  simp only [Fin.sum_univ_one, row_at, own_cell x0 x1 x2 h _ _ F, row_block]
  refine Finset.sum_congr rfl fun B _ => Finset.sum_congr rfl fun C _ => if_congr ?_ rfl rfl
  rw [Fin.val_one]; omega
theorem far_ref (s : Fin 128) : val_main_v181 (F := Ideal) x0 x1 x2 (ix3 h 0 s) = (arrays x0 x1 x2).far h s := by
  pointwise [val_main_v181, val_main_v180, val_main_cst_48, val_main_v157, val_main_cst_36, val_main_v156, val_main_v155, val_main_cst_35, val_main_v154, val_main_v153, val_main_cst_34, val_main_v152, val_main_v151, val_main_cst_33, val_main_v150]
  simp only [Fin.sum_univ_one, row_at, far_cell x0 x1 x2 h _ _ F, row_block]
  rfl

/-! ## The results -/

theorem ref_dq : val_main_v182 (F := Ideal) x0 x1 x2 = cols (arrays x0 x1 x2).dq := by
  funext i; rw [eq_ix2 i]
  exact dq_ref x0 x1 x2 _ F _
theorem ref_dk : val_main_v139 (F := Ideal) x0 x1 x2 = cols (arrays x0 x1 x2).dk := by
  funext i; rw [eq_ix2 i]
  exact dk_ref x0 x1 x2 _ F _
theorem ref_dv : val_main_v122 (F := Ideal) x0 x1 x2 = cols (arrays x0 x1 x2).dv := by
  funext i; rw [eq_ix2 i]
  exact dv_ref x0 x1 x2 _ F _
theorem ref_sq : val_main_v179 (F := Ideal) x0 x1 x2 = colSums (arrays x0 x1 x2).dq := by
  funext i; rw [eq_ix2 i]
  pointwise [val_main_v179, val_main_v178, val_main_cst_47]
  exact Finset.sum_congr rfl fun t _ => dq_ref x0 x1 x2 t F _
theorem ref_sk : val_main_v177 (F := Ideal) x0 x1 x2 = colSums (arrays x0 x1 x2).dk := by
  funext i; rw [eq_ix2 i]
  pointwise [val_main_v177, val_main_v176, val_main_cst_46]
  exact Finset.sum_congr rfl fun t _ => dk_ref x0 x1 x2 t F _
theorem ref_sv : val_main_v175 (F := Ideal) x0 x1 x2 = colSums (arrays x0 x1 x2).dv := by
  funext i; rw [eq_ix2 i]
  pointwise [val_main_v175, val_main_v174, val_main_cst_45]
  exact Finset.sum_congr rfl fun t _ => dv_ref x0 x1 x2 t F _
theorem ref_dc : val_main_v181 (F := Ideal) x0 x1 x2 = fars (arrays x0 x1 x2) := by
  funext i; rw [eq_ix3 i]
  rw [show i 1 = (0 : Fin 1) from Subsingleton.elim (α := Fin 1) _ _]
  exact far_ref x0 x1 x2 _ F _
theorem ref_dt : val_main_v185 (F := Ideal) x0 x1 x2 = tiles (arrays x0 x1 x2) := by
  funext i; rw [eq_ix4 i]
  pointwise [val_main_v185, val_main_v184, val_main_v183]
  split_ifs with hn
  · refine (near_tile x0 x1 x2 (i 0) F (i 2) (i 3)).trans (congrArg (fun n => (arrays x0 x1 x2).tile (i 0) n (i 2) (i 3)) ?_)
    exact Fin.ext (by rw [Fin.val_zero]; omega)
  · refine (own_tile x0 x1 x2 (i 0) F (i 2) (i 3)).trans (congrArg (fun n => (arrays x0 x1 x2).tile (i 0) n (i 2) (i 3)) ?_)
    exact Fin.ext (by have : (i 1).val < 2 := (i 1).isLt; rw [Fin.val_one]; omega)
end Cert.RefAttIdeal.Read
-- ==== Proof.RealBit.lean ====
/- What the test of a precondition says of a number. -/
module

public import Idealize.ShloMosaic.Lib.Pipeline.ValueKit

@[expose] public section

noncomputable section

open Idealize.ShloMosaic Idealize.SL.Sem

namespace Cert.RealBit

/-- A number below infinity in size is real. -/
theorem real_of_bit {x : EReal} (hx : Ideal.cmp .olt (max x (-x)) (Ideal.ofBits .f32 2139095040#32) = 1#1) : ∃ r : ℝ, x = r := by
  have top : Ideal.ofBits .f32 2139095040#32 = ⊤ := by simp [Ideal.ofBits, Ideal.ieee]
  rw [top] at hx
  induction x using EReal.rec with
  | coe r => exact ⟨r, rfl⟩
  | bot => simp [Ideal.cmp] at hx
  | top => simp [Ideal.cmp] at hx

theorem real_add {a b : EReal} (ha : ∃ r : ℝ, a = r) (hb : ∃ r : ℝ, b = r) : ∃ r : ℝ, a + b = r := by
  obtain ⟨p, rfl⟩ := ha
  obtain ⟨q, rfl⟩ := hb
  exact ⟨p + q, (EReal.coe_add p q).symm⟩
theorem real_mul {a b : EReal} (ha : ∃ r : ℝ, a = r) (hb : ∃ r : ℝ, b = r) : ∃ r : ℝ, a * b = r := by
  obtain ⟨p, rfl⟩ := ha
  obtain ⟨q, rfl⟩ := hb
  exact ⟨p * q, (EReal.coe_mul p q).symm⟩
theorem real_one : ∃ r : ℝ, (1 : EReal) = r := ⟨1, rfl⟩
/-- The literals of the programs are real numbers. -/
theorem real_alpha : ∃ r : ℝ, Ideal.ofBits .f32 1071072509#32 = r := by
  simp [Ideal.ofBits, Ideal.ieee, -EReal.coe_mul]

end Cert.RealBit

end
-- ==== Proof.AttClaim.lean ====
/- The value claim of the attention gradient: where the scores are real numbers, the kernel's eight results are the reference's. -/
module

public import proofs.«01_k».proof.Defs
public import proofs.«01_k».proof.Proof.AttKernel
public import proofs.«01_k».proof.Proof.AttRef
public import proofs.«01_k».proof.Proof.RealBit
public import proofs.«01_k».proof.Proof.Gen.Pre_scores_finite
public import proofs.«01_k».proof.Proof.Gen.RefAttIdeal.Run
public import Idealize.ShloMosaic.Lib.Claim

@[expose] public section

set_option maxRecDepth 16384
set_option maxHeartbeats 4000000

noncomputable section

open Idealize.ShloMosaic Idealize.ShloMosaic.TcCoe Idealize.SL.Sem

namespace Cert.AttDense

open Cert.RealBit
/-! ## The precondition, read -/

variable (x0 : (⟨Cert.RefAttIdeal.S8192x3072, .bf16⟩ : BufTy).Contents (Elt Ideal)) (x1 : (⟨Cert.RefAttIdeal.S8192x1024, .bf16⟩ : BufTy).Contents (Elt Ideal))
    (x2 : (⟨Cert.RefAttIdeal.S16x257, .f32⟩ : BufTy).Contents (Elt Ideal))

theorem real_qk (e : (Cert.Pre_scores_finite.fn (F := Ideal) x0 x1 x2).1 = fun _ => 1#1) (t : Fin 8192) (x : Fin 2048) :
    ∃ r : ℝ, x0 (ix2 t ⟨x.val, by omega⟩) = r := by
  refine real_of_bit ?_
  have := congrFun e (ix2 t x)
  unfold Cert.Pre_scores_finite.fn at this
  dsimp only at this
  refine Eq.trans ?_ this
  pointwise
  rfl
theorem real_table (e : (Cert.Pre_scores_finite.fn (F := Ideal) x0 x1 x2).2 = fun _ => 1#1) (i : Cert.RefAttIdeal.S16x257.Idx) :
    ∃ r : ℝ, x2 i = r := by
  refine real_of_bit ?_
  exact congrFun e i

theorem finite (e1 : (Cert.Pre_scores_finite.fn (F := Ideal) x0 x1 x2).1 = fun _ => 1#1) (e2 : (Cert.Pre_scores_finite.fn (F := Ideal) x0 x1 x2).2 = fun _ => 1#1) :
    (arrays x0 x1 x2).Finite where
  q t x := real_qk x0 x1 x2 e1 t ⟨x.val, by omega⟩
  k t x := real_qk x0 x1 x2 e1 t ⟨1024 + x.val, by omega⟩
  T h n r s := by
    unfold arrays
    dsimp only
    split_ifs
    · exact real_table x0 x1 x2 e2 _
    · exact ⟨0, rfl⟩
  C h s := real_table x0 x1 x2 e2 _
end Cert.AttDense

namespace Cert.Proof

open Cert.AttDense Cert.KernelAttIdeal.Frame Cert.RefAttIdeal.Read

/-- A function of three equal arguments. -/
theorem of_three {A B C D : Type} (f : A → B → C → D) {a a' : A} {b b' : B} {c c' : C} (ha : a = a') (hb : b = b') (hc : c = c') :
    f a b c = f a' b' c' := by rw [ha, hb, hc]

theorem att_value : Cert.algebraic_KernelAttIdeal_RefAttIdeal_pre_scores_finite := by
  pair_intro
  · run_from Cert.KernelAttIdeal.Frame.run_main m g
    · exact hc.1 16
    · exact hc.1 17
    · sl_kernel_rfl
  · have F := fun c => finite _ _ _ (hpre c).1 (hpre c).2
    have hag := hagree
    clear hagree
    run_from Cert.RefAttIdeal.Value.run m' g'
    all_goals obtain ⟨h0, h1, h2⟩ := hag c
    · refine (val_main_v182_eq _).trans ((of_three (val_main_v182 (F := Ideal)) h0 h1 h2).trans ?_)
      exact (ref_dq _ _ _ (F c)).trans (final_dq m c).symm
    · refine (val_main_v139_eq _).trans ((of_three (val_main_v139 (F := Ideal)) h0 h1 h2).trans ?_)
      exact (ref_dk _ _ _ (F c)).trans (final_dk m c).symm
    · refine (val_main_v122_eq _).trans ((of_three (val_main_v122 (F := Ideal)) h0 h1 h2).trans ?_)
      exact (ref_dv _ _ _ (F c)).trans (final_dv m c).symm
    · refine (val_main_v185_eq _).trans ((of_three (val_main_v185 (F := Ideal)) h0 h1 h2).trans ?_)
      exact (ref_dt _ _ _ (F c)).trans (final_dt m c).symm
    · refine (val_main_v181_eq _).trans ((of_three (val_main_v181 (F := Ideal)) h0 h1 h2).trans ?_)
      exact (ref_dc _ _ _ (F c)).trans (final_dc m c).symm
    · refine (val_main_v179_eq _).trans ((of_three (val_main_v179 (F := Ideal)) h0 h1 h2).trans ?_)
      exact (ref_sq _ _ _ (F c)).trans (final_sq m c).symm
    · refine (val_main_v177_eq _).trans ((of_three (val_main_v177 (F := Ideal)) h0 h1 h2).trans ?_)
      exact (ref_sk _ _ _ (F c)).trans (final_sk m c).symm
    · refine (val_main_v175_eq _).trans ((of_three (val_main_v175 (F := Ideal)) h0 h1 h2).trans ?_)
      exact (ref_sv _ _ _ (F c)).trans (final_sv m c).symm

end Cert.Proof

end
-- ==== Proof.EpiClaim.lean ====
/- The gradient of the squared ReLU behind a product (`mm_nt` with its epilogue): the kernel's array is the reference's. -/
module

public import proofs.«01_k».proof.Defs
public import proofs.«01_k».proof.Proof.Gen.KernelEpiIdeal.Value
public import proofs.«01_k».proof.Proof.Gen.RefEpiIdeal.Run
public import proofs.«01_k».proof.Proof.Gen.RefEpiIdeal.Read
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.KernelEpiIdeal.Epi

open Cert.KernelEpiIdeal Cert.KernelEpiIdeal.Gen Cert.RefEpiIdeal.Read

variable (m : (ℓ : Loc nD τ sig) → Buf (Elt Ideal) ℓ)

variable (c : Dev nD)

/-- The saved value the kernel is handed: the forward's product. -/
theorem V_h : (V m c (Pipeline.arrRef spec0 2) : FVec Ideal S8192x4096 .f32) = val_main_v6 (F := Ideal) (m ((c : Thread nD τ).loc main_arg0))
    (m ((c : Thread nD τ).loc main_arg1)) (m ((c : Thread nD τ).loc main_arg2)) (m ((c : Thread nD τ).loc main_arg3)) := by
  sl_kernel_rfl

theorem idx : ∀ t : Fin cfg0.N, win0_0.index t = ![t.val / 4, 0] ∧ win0_1.index t = ![0, t.val % 4, 0]
    ∧ win0_2.index t = ![t.val / 4, t.val % 4] ∧ win0_3.index t = ![t.val / 4, t.val % 4] :=
  (by decide +kernel : ∀ t : Fin grid0.N, _)

theorem final : (dats m 0 c).arrAt 3 (cfgs 0).N
    = val_main_v19 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 3 _ (by decide +kernel) fun t _ y => ?_
  blk_simp
  rw [after0_3]
  unfold out0_3
  frame_out
  pointwise [k0_pay1, val_main_v19, val_main_v18, val_main_v17, val_main_v16, val_main_v15, val_main_v13, val_main_v12, val_main_v9, val_main_v8,
    val_main_v7, val_main_call0_v0, val_main_call0_cst, val_main_cst_0, val_main_cst_2, val_main_cst_3]
  have e2 : ∀ z, iblk m c 2 t z = val_main_v6 (F := Ideal) (m ((c : Thread nD τ).loc main_arg0)) (m ((c : Thread nD τ).loc main_arg1))
      (m ((c : Thread nD τ).loc main_arg2)) (m ((c : Thread nD τ).loc main_arg3)) (((View.whole main_v13).slice (win0_3.rect t)).emb z) := by
    intro z
    rw [← V_h]
    blk_point [iblk, idx t]
  have e0 : ∀ k, iblk m c 0 t (ix2 (y 0) k) = m ((c : Thread nD τ).loc main_arg5) (ix2 (((View.whole main_v13).slice (win0_3.rect t)).emb y 0) k) := by
    intro k
    blk_point [iblk, V, idx t]
  have e1 : ∀ k, iblk m c 1 t (ix3 0 (y 1) k) = m ((c : Thread nD τ).loc main_arg4) (ix2 (((View.whole main_v13).slice (win0_3.rect t)).emb y 1) k) := by
    intro k
    blk_point [iblk, V, idx t]
  simp only [e0, e1, e2]
  have h2 : Ideal.ofBits FTy.bf16 16384#16 = Ideal.ofBits FTy.f32 1073741824#32 := by
    simp [Ideal.ofBits, Ideal.ieee, -EReal.coe_mul]; norm_num
  rw [h2]
  split_ifs with h
  · rfl
  · rw [max_eq_right (not_lt.1 h), mul_zero, mul_zero]

end Cert.KernelEpiIdeal.Epi

namespace Cert.Proof

theorem epi_value : Cert.algebraic_KernelEpiIdeal_RefEpiIdeal := by
  pair_intro
  · run_from Cert.KernelEpiIdeal.Gen.run_main m g
  · have hag := hagree
    clear hagree
    run_from Cert.RefEpiIdeal.Value.run m' g'
    all_goals obtain ⟨h0, h1, h2, h3, h4, h5⟩ := hag c
    · refine (Cert.RefEpiIdeal.Read.val_main_v19_eq _ _ _ _ _ _).trans ?_
      rw [h0, h1, h2, h3, h4, h5]
      exact (Cert.KernelEpiIdeal.Epi.final m c).symm

end Cert.Proof

end
-- ==== Proof.AdaClaim.lean ====
/- The gradient of the modulations' weights (`w_ada_grad`): the kernel's array is the reference's. -/
module

public import proofs.«01_k».proof.Defs
public import proofs.«01_k».proof.Proof.Gen.KernelAdaIdeal.Value
public import proofs.«01_k».proof.Proof.Gen.RefAdaIdeal.Run
public import proofs.«01_k».proof.Proof.Gen.RefAdaIdeal.Read
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.KernelAdaIdeal.Ada

open Cert.KernelAdaIdeal Cert.KernelAdaIdeal.Gen Cert.RefAdaIdeal.Read

variable (m : (ℓ : Loc nD τ sig) → Buf (Elt Ideal) ℓ)

theorem idx : ∀ t : Fin cfg0.N, win0_0.index t = ![0, 0] ∧ win0_1.index t = ![t.val, 0, 0] ∧ win0_2.index t = ![t.val, 0, 0] :=
  (by decide +kernel : ∀ t : Fin grid0.N, _)

theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  pointwise [k0_pay1, val_main_v6, val_main_v5, val_main_v4, val_main_v1, val_main_call0_v0, val_main_call0_v1, val_main_call0_v2, val_main_call0_v3,
    val_main_call0_v4, val_main_call0_v5, val_main_call0_cst, val_main_call0_cst_0]
  refine Finset.sum_congr (M := EReal) rfl fun k _ => ?_
  refine Eq.trans (mul_comm (G := EReal) _ _) ?_
  congr 1
  · blk_point [iblk, V, idx t]
  · have h : m ((c : Thread nD τ).loc main_arg0) (ix2 k (((View.whole main_v0).slice (win0_2.rect t)).emb y 1)) = iblk m c 0 t (ix2 k (y 1)) := by
      blk_point [iblk, V, idx t]
    rw [h, ← zero_sub]

end Cert.KernelAdaIdeal.Ada

namespace Cert.Proof

theorem ada_value : Cert.algebraic_KernelAdaIdeal_RefAdaIdeal := by
  pair_intro
  · run_from Cert.KernelAdaIdeal.Gen.run_main m g
  · have hag := hagree
    clear hagree
    run_from Cert.RefAdaIdeal.Value.run m' g'
    all_goals obtain ⟨h0, h1⟩ := hag c
    · refine (Cert.RefAdaIdeal.Read.val_main_v6_eq _ _).trans ?_
      rw [h0, h1]
      exact (Cert.KernelAdaIdeal.Ada.final m c).symm

end Cert.Proof

end
-- ==== Proof.RelWords.lean ====
/- The words of the bias tables' entries: the kernel's column of an entry inside the band is the reference's, and 257 outside. -/
module

public import proofs.«01_k».proof.Proof.Gen.RefRelIdeal.Read
public import Idealize.ShloMosaic.Lib.Pipeline.ValueKit

@[expose] public section

set_option maxRecDepth 16384

noncomputable section

open Idealize.ShloMosaic Idealize.ShloMosaic.TcCoe Idealize.SL.Sem

namespace Cert.RelWords

open Cert.RefRelIdeal Cert.RefRelIdeal.Read Cert.RefRelIdeal.Gen

/-! ## The words as integers of 32 bits -/

/-- How many chunks of 64 frames the key is behind the query. -/
def chunks (a b c : Nat) : BitVec 32 :=
  IntOp.subi (IntOp.addi (IntOp.muli (2#32) (IntOp.addi (BitVec.ofNat 32 a) 3#32)) (IntOp.divsi ArithUnit.host (BitVec.ofNat 32 c) 64#32))
    (IntOp.divsi ArithUnit.host (BitVec.ofNat 32 b) 64#32)
/-- Whether a pair lies in the band. -/
def inBand (a b c : Nat) : BitVec 1 :=
  IntOp.andi (IntOp.cmpi CmpIPredicate.sge (chunks a b c) 0#32) (IntOp.cmpi CmpIPredicate.sle (chunks a b c) 8#32)
/-- The distance of a pair, in frames. -/
def dist (a b c : Nat) : BitVec 32 :=
  IntOp.subi (IntOp.addi (IntOp.subi (512#32) (IntOp.muli (128#32) (IntOp.addi (BitVec.ofNat 32 a) 3#32))) (BitVec.ofNat 32 b)) (BitVec.ofNat 32 c)
/-- The reference's row of the table: the distance clipped on both sides. -/
def clipped (a b c : Nat) : BitVec 32 := IntOp.addi (IntOp.minsi (128#32) (IntOp.maxsi (4294967168#32) (dist a b c))) 128#32
/-- The same as an index into 257 rows, a negative one counted from the end. -/
def row (a b c : Nat) : BitVec 32 :=
  Scalar.select (IntOp.cmpi CmpIPredicate.slt (clipped a b c) 0#32) (IntOp.addi (clipped a b c) 257#32) (clipped a b c)
/-- The kernel's column: the distance clipped on one side inside the band, 257 outside. -/
def column (a b c : Nat) : BitVec 32 :=
  Scalar.select (inBand a b c) (IntOp.addi (IntOp.minsi (dist a b c) 128#32) 128#32) 257#32

/-- Inside the band the column is the row, and outside it is 257. -/
theorem column_row : ∀ (a : Fin 2) (b c : Fin 128), (inBand a b c = 1#1 ∧ column a b c = row a b c ∧ (row a b c).toNat < 257)
    ∨ (inBand a b c = 0#1 ∧ column a b c = 257#32 ∧ (row a b c).toNat < 257) := by
  decide +kernel

variable (a : Fin 2) (b c : Fin 128)

theorem band_at : val_main_v19 (F := Ideal) (ix3 a b c) = inBand a b c := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_c, val_main_c_1, val_main_c_2, val_main_c_3, val_main_c_4, val_main_c_5]
  rfl
theorem dist_at : val_main_v25 (F := Ideal) (ix3 a b c) = dist a b c := by
  pointwise [val_main_v25, val_main_v24, val_main_v23, val_main_v22, val_main_v21, val_main_v20, val_main_v6, val_main_v5, val_main_v4, val_main_v3, val_main_v2, val_main_c, val_main_c_6, val_main_c_7]
  rfl
theorem row_at : val_main_v33 (F := Ideal) (ix3 a b c) = row a b c := by
  unfold row clipped
  rw [← dist_at]
  pointwise [val_main_v33, val_main_v32, val_main_v31, val_main_v30, val_main_v29, val_main_v28, val_main_v27, val_main_v26, val_main_call0_v4, val_main_call0_v3, val_main_call0_v2, val_main_call0_v1, val_main_call0_v0, val_main_c_8, val_main_c_9, val_main_c_10, val_main_c_11, val_main_c_12]
  rfl

end Cert.RelWords

end
-- ==== Proof.RelKernel.lean ====
/- The gradient of the relative-position bias table: what the kernel's array holds after the run, as a sum over all entries of the tables. -/
module

public import proofs.«01_k».proof.Proof.Gen.KernelRelIdeal.Value
public import proofs.«01_k».proof.Proof.RelWords
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelRelIdeal.Table

open Cert.KernelRelIdeal Cert.KernelRelIdeal.Gen

/-! ## The body's values -/

/-- One where an entry's word is the column's number, zero elsewhere. -/
def mark (w : BitVec 32) (col : Nat) : EReal := if w = BitVec.ofNat 32 col then 1 else 0

section Payloads
variable (d : FVec Ideal S16x2048 .f32) (cl : FVec Ideal S16x128 .f32) (w : IVec S1x2048 32) (o : FVec Ideal S16x384 .f32) (h : Fin 16) (col : Fin 384)

theorem pay1_zero (i : S16x384.Idx) : k0_pay1 (F := Ideal) i = 0 := by
  unfold k0_pay1
  simp [broadcast, Scalar.ofBits, FloatOps.ofBits, Ideal.ofBits_zero_f32]
theorem pay2_at : k0_pay2 (F := Ideal) o d w (ix2 h col) = o (ix2 h col) + ∑ k : Fin 2048, d (ix2 h k) * mark (w (ix2 0 k)) col := by
  unfold mark
  pointwise [k0_pay2]
  refine congrArg (o (ix2 h col) + ·) (Finset.sum_congr (M := EReal) rfl fun k _ => congrArg (d (ix2 h k) * ·) ?_)
  rw [WordCmp.cmpi_eq_eq]
  by_cases e : w (ix2 0 k) = BitVec.ofNat 32 col.val
  · rw [if_pos e, e, decide_eq_true rfl]
    simp [FloatOps.sitofp]
  · rw [if_neg e, decide_eq_false (Ne.symm e)]
    simp [FloatOps.sitofp]
/-- What the last point adds: a head's sum, at the column of the clipped distance. -/
def atClip : EReal := if col.val = 256 then ∑ k : Fin 128, cl (ix2 h k) else 0
theorem pay3_at : k0_pay3 (F := Ideal) o cl (ix2 h col) = o (ix2 h col) + atClip cl h col := by
  unfold atClip
  pointwise [k0_pay3]
  have hc := col.isLt
  rw [WordCmp.cmpi_eq_ofNat (by omega) (by decide), WordCmp.select_decide]
end Payloads

/-- What a point adds from its block of the tables. -/
def blockTerm (d : FVec Ideal S16x2048 .f32) (w : IVec S1x2048 32) (h : Fin 16) (col : Fin 384) : EReal :=
  ∑ k : Fin 2048, d (ix2 h k) * mark (w (ix2 0 k)) col

section Points
variable (c : Dev nD) (i : grid0.Coords)
  {a1 : Memref sig .tc .vmem S16x2048 .f32} {h1 : a1.IsWhole} {a2 : Memref sig .tc .vmem S16x128 .f32} {h2 : a2.IsWhole}
  {a3 : Memref sig .tc .vmem S1x2048 .i32} {h3 : a3.IsWhole} {a4 : Memref sig .tc .vmem S16x384 .f32} {h4 : a4.IsWhole}
  (x0 : FVec Ideal S16x2048 .f32) (x1 : FVec Ideal S16x128 .f32) (x2 : IVec S1x2048 32) (o : FVec Ideal S16x384 .f32) (h : Fin 16) (col : Fin 384)

theorem left_A (hc : cond0_0 i) (hd : ¬cond0_1 i) :
    (out0_A_3 (F := Ideal) c i a1 h1 a2 h2 a3 h3 a4 h4 hc hd x0 x1 x2 : FVec Ideal S16x384 .f32) (ix2 h col) = blockTerm x0 x2 h col := by
  unfold out0_A_3
  frame_open
  simp (disch := decide) only [↓ View.readCov_skip, ↓ View.readCov_cons_toLoadRect, ↓ View.readCov_fill]
  frame_out
  refine (pay2_at _ _ _ _ _).trans ?_
  rw [pay1_zero, zero_add]
  rfl
theorem left_B (hc : ¬cond0_0 i) (hd : ¬cond0_1 i) :
    (out0_B_3 (F := Ideal) c i a1 h1 a2 h2 a3 h3 a4 h4 hc hd x0 x1 x2 o : FVec Ideal S16x384 .f32) (ix2 h col) = o (ix2 h col) + blockTerm x0 x2 h col := by
  unfold out0_B_3
  frame_open
  frame_out
  exact pay2_at _ _ _ _ _
theorem left_C (hc : ¬cond0_0 i) (hd : cond0_1 i) :
    (out0_C_3 (F := Ideal) c i a1 h1 a2 h2 a3 h3 a4 h4 hc hd x0 x1 x2 o : FVec Ideal S16x384 .f32) (ix2 h col)
      = o (ix2 h col) + (blockTerm x0 x2 h col + atClip x1 h col) := by
  unfold out0_C_3
  frame_open
  simp (disch := decide) only [↓ View.readCov_skip, ↓ View.readCov_cons_toLoadRect, ↓ View.readCov_fill]
  frame_out
  refine (pay3_at _ _ _ _).trans ?_
  rw [pay2_at, add_assoc]
  rfl

end Points

variable (m : (ℓ : Loc nD τ sig) → Buf (Elt Ideal) ℓ)
theorem idx : ∀ t : Fin cfg0.N, win0_0.index t = ![0, t.val] ∧ win0_1.index t = ![0, 0] ∧ win0_2.index t = ![0, t.val] :=
  (by decide +kernel : ∀ t : Fin grid0.N, _)

abbrev e0 (t : Fin cfg0.N) (k : Fin 2048) : Fin 2 := ⟨(t.val * 2048 + k.val) / 16384, by have := t.isLt; have : cfg0.N = 16 := N_0; omega⟩
abbrev e1 (t : Fin cfg0.N) (k : Fin 2048) : Fin 128 := ⟨(t.val * 2048 + k.val) / 128 % 128, by omega⟩
abbrev e2 (t : Fin cfg0.N) (k : Fin 2048) : Fin 128 := ⟨(t.val * 2048 + k.val) % 128, by omega⟩

/-- The words of the entries: the column an entry of the tables is added to, or 257 outside the band. -/
def words : IVec S2x128x128 32 :=
  select (Cert.RefRelIdeal.Read.val_main_v19 (F := Ideal))
    (addi (minsi (Cert.RefRelIdeal.Read.val_main_v25 (F := Ideal)) (broadcastInDim S2x128x128 ![] bcast_S_S2x128x128 (constantI S_ 32 128#32)))
      (broadcastInDim S2x128x128 ![] bcast_S_S2x128x128 (constantI S_ 32 128#32)))
    (broadcastInDim S2x128x128 ![] bcast_S_S2x128x128 (constantI S_ 32 257#32))

theorem word_array (c : Dev nD) : (V m c main_v31 : IVec S1x32768 32) = shapeCast S1x32768 words shapeCasts_S2x128x128_S1x32768 := by
  sl_kernel_rfl
theorem table_array (c : Dev nD) : (V m c main_v0 : FVec Ideal S16x32768 .f32)
    = shapeCast S16x32768 (m ((c : Thread nD τ).loc main_arg0) : FVec Ideal S16x2x128x128 .f32) shapeCasts_S16x2x128x128_S16x32768 := by
  sl_kernel_rfl
theorem clip_array (c : Dev nD) : (V m c main_v1 : FVec Ideal S16x128 .f32)
    = shapeCast S16x128 (m ((c : Thread nD τ).loc main_arg1) : FVec Ideal S16x1x128 .f32) shapeCasts_S16x1x128_S16x128 := by
  sl_kernel_rfl

theorem d_block (c : Dev nD) (t : Fin cfg0.N) (h : Fin 16) (k : Fin 2048) :
    iblk m c 0 t (ix2 h k) = m ((c : Thread nD τ).loc main_arg0) (ix4 h (e0 t k) (e1 t k) (e2 t k)) := by
  refine Eq.trans (b := (V m c main_v0 : FVec Ideal S16x32768 .f32) (ix2 h ⟨t.val * 2048 + k.val, by have := t.isLt; have : cfg0.N = 16 := N_0; omega⟩)) ?_ ?_
  · blk_point [iblk, idx t]
  · rw [table_array]
    refine shapeCast_apply (m ((c : Thread nD τ).loc main_arg0) : FVec Ideal S16x2x128x128 .f32) _ _ _ ?_
    show (S16x2x128x128.rowMajor (ix4 h (e0 t k) (e1 t k) (e2 t k))).val = (S16x32768.rowMajor _).val
    rw [Shape.rowMajor_val_four, Shape.rowMajor_val_two]
    dsimp only [ix4, ix2]
    have h1 := Nat.div_add_mod (t.val * 2048 + k.val) 128
    have h2 := Nat.div_add_mod ((t.val * 2048 + k.val) / 128) 128
    simp
    omega
theorem w_block (c : Dev nD) (t : Fin cfg0.N) (k : Fin 2048) :
    (iblk m c 2 t (ix2 0 k) : BitVec 32) = words (ix3 (e0 t k) (e1 t k) (e2 t k)) := by
  refine Eq.trans (b := (V m c main_v31 : IVec S1x32768 32) (ix2 0 ⟨t.val * 2048 + k.val, by have := t.isLt; have : cfg0.N = 16 := N_0; omega⟩)) ?_ ?_
  · blk_point [iblk, idx t]
  · rw [word_array]
    pointwise []
theorem c_block (c : Dev nD) (t : Fin cfg0.N) (h : Fin 16) (k : Fin 128) :
    (iblk m c 1 t (ix2 h k) : EReal) = m ((c : Thread nD τ).loc main_arg1) (ix3 h 0 k) := by
  refine Eq.trans (b := (V m c main_v1 : FVec Ideal S16x128 .f32) (ix2 h k)) ?_ ?_
  · blk_point [iblk, idx t]
  · rw [clip_array]
    pointwise []

/-! ## The array after the run -/

/-- What a point leaves on top of the point before. -/
def pointTerm (c : Dev nD) (t : Fin cfg0.N) (j : S16x384.Idx) : EReal :=
  blockTerm (iblk m c 0 t) (iblk m c 2 t) (j 0) (j 1) + if t.val = 15 then atClip (iblk m c 1 t) (j 0) (j 1) else 0

theorem step_A (c : Dev nD) (t : Fin cfg0.N) (ht : t.val % 16 = 0) (j : S16x384.Idx) :
    (outsAt0 m c t.val t.isLt : FVec Ideal S16x384 .f32) j = 0 + pointTerm m c t j := by
  obtain ⟨h, col, rfl⟩ : ∃ (h : Fin 16) (col : Fin 384), j = ix2 h col := ⟨j 0, j 1, eq_ix2 j⟩
  unfold pointTerm
  rw [outsAt0_A m c t ht (by omega), if_neg (by omega), add_zero, zero_add]
  exact left_A ..
theorem step_B (c : Dev nD) (t : Fin cfg0.N) (ht : ¬t.val % 16 = 0) (j : S16x384.Idx) :
    (outsAt0 m c t.val t.isLt : FVec Ideal S16x384 .f32) j
      = outsAt0 m c (t.val - 1) (Nat.lt_of_le_of_lt (Nat.sub_le _ _) t.isLt) j + pointTerm m c t j := by
  obtain ⟨h, col, rfl⟩ : ∃ (h : Fin 16) (col : Fin 384), j = ix2 h col := ⟨j 0, j 1, eq_ix2 j⟩
  have hl : t.val < 16 := Nat.lt_of_lt_of_eq t.isLt N_0
  unfold pointTerm
  by_cases e : t.val % 16 = 15
  · rw [outsAt0_C m c t ht e, if_pos (by omega)]
    exact left_C ..
  · rw [outsAt0_B m c t ht e, if_neg (by omega), add_zero]
    exact left_B ..

/-- An entry of the tables, weighed by whether it belongs to a column. -/
abbrev entry (d : FVec Ideal S16x2x128x128 .f32) (h : Fin 16) (col : Fin 384) (a : Fin 2) (b e : Fin 128) : EReal :=
  d (ix4 h a b e) * mark (Cert.RelWords.column a b e) col

theorem words_at (a : Fin 2) (b e : Fin 128) : words (ix3 a b e) = Cert.RelWords.column a b e := by
  unfold Cert.RelWords.column
  rw [← Cert.RelWords.band_at, ← Cert.RelWords.dist_at]
  pointwise [words]

/-- The points' blocks together are the tables. -/
theorem sum_entries (f : Fin 2 → Fin 128 → Fin 128 → EReal) :
    ∑ t : Fin cfg0.N, ∑ k : Fin 2048, f (e0 t k) (e1 t k) (e2 t k) = ∑ a : Fin 2, ∑ b : Fin 128, ∑ e : Fin 128, f a b e := by
  have hl : ∀ a : Fin 2, ∑ b : Fin 128, ∑ e : Fin 128, f a b e = ∑ n : Fin 16384, f a ⟨n.val / 128, by omega⟩ ⟨n.val % 128, by omega⟩ := fun a => by
    refine Fin.sum_mul_add_congr (M := EReal) (L := 16384) (S := 128) (n := 128) (fun s k hl => ?_) rfl
    exact congrArg₂ (f a) (Fin.ext (by dsimp only; omega)) (Fin.ext (by dsimp only; omega))
  refine Eq.trans (b := ∑ n : Fin 32768, f ⟨n.val / 16384, by omega⟩ ⟨n.val / 128 % 128, by omega⟩ ⟨n.val % 128, by omega⟩) ?_ ?_
  · exact Fin.sum_mul_add_congr (M := EReal) (L := 32768) (S := cfg0.N) (n := 2048) (fun s k hl => rfl) rfl
  · symm
    refine (Finset.sum_congr (M := EReal) rfl fun a _ => hl a).trans ?_
    refine Fin.sum_mul_add_congr (M := EReal) (L := 32768) (S := 2) (n := 16384) (fun s k hl => ?_) rfl
    have e : ∀ {a a' : Fin 2} {b b' c c' : Fin 128}, a = a' → b = b' → c = c' → f a b c = f a' b' c' := by rintro _ _ _ _ _ _ rfl rfl rfl; rfl
    exact e (Fin.ext (by dsimp only; omega)) (Fin.ext (by dsimp only; omega)) (Fin.ext (by dsimp only; omega))

/-- Each column's entries summed, and the clipped distance's own sum. -/
def columns (d : FVec Ideal S16x2x128x128 .f32) (cl : FVec Ideal S16x1x128 .f32) (h : Fin 16) (col : Fin 384) : EReal :=
  (∑ a : Fin 2, ∑ b : Fin 128, ∑ e : Fin 128, entry d h col a b e) + if col.val = 256 then ∑ k : Fin 128, cl (ix3 h 0 k) else 0

theorem total (c : Dev nD) (h : Fin 16) (col : Fin 384) :
    ∑ t, pointTerm m c t (ix2 h col) = columns (m ((c : Thread nD τ).loc main_arg0)) (m ((c : Thread nD τ).loc main_arg1)) h col := by
  unfold pointTerm columns
  rw [Finset.sum_add_distrib]
  refine congrArg₂ (· + ·) ?_ ?_
  · rw [← sum_entries]
    refine Finset.sum_congr (M := EReal) rfl fun t _ => ?_
    unfold blockTerm
    refine Finset.sum_congr (M := EReal) rfl fun k _ => congrArg₂ (· * ·) (d_block m c t h k) ?_
    rw [w_block, words_at]
    rfl
  · refine (Finset.sum_eq_single (M := EReal) (t0_15 : Fin cfg0.N) (fun t _ ht => if_neg fun e => ht (Fin.ext e)) (fun hn => absurd (Finset.mem_univ _) hn)).trans ?_
    refine (if_pos rfl).trans ?_
    unfold atClip
    exact if_congr Iff.rfl (Finset.sum_congr (M := EReal) rfl fun k _ => c_block m c t0_15 h k) rfl

/-- The array after the run: each column's entries summed, and the clipped distance's own sum. -/
theorem final (c : Dev nD) : (dats m 0 c).arrAt 3 (cfgs 0).N = (fun j : S16x384.Idx =>
    columns (m ((c : Thread nD τ).loc main_arg0)) (m ((c : Thread nD τ).loc main_arg1)) (j 0) (j 1)) := by
  refine (dats m 0 c).arrAt_eq_of_after_last 3 t0_15 (by decide +kernel) _ fun j => ?_
  blk_simp
  rw [after0_3, Pipeline.eq_sum_fin_of_reset_step_apply_last (fun n h => outsAt0 m c n h) 16 (fun _ => 0)
    (pointTerm m c) (step_A m c) (step_B m c) (le_of_eq N_0) t0_15 rfl j, zero_add]
  obtain ⟨h, col, rfl⟩ : ∃ (h : Fin 16) (col : Fin 384), j = ix2 h col := ⟨j 0, j 1, eq_ix2 j⟩
  exact total m c h col

end Cert.KernelRelIdeal.Table

end
-- ==== Proof.RelRef.lean ====
/- The reference's gradient of the relative-position bias table, read at an entry. -/
module

public import proofs.«01_k».proof.Proof.RelWords
public import Idealize.ShloMosaic.Lib.Routing.OpsPair
public import Idealize.ShloMosaic.Lib.IdealHost

@[expose] public section

set_option maxRecDepth 16384

noncomputable section

open Idealize.ShloMosaic Idealize.ShloMosaic.TcCoe Idealize.SL.Sem Idealize.ShloMosaic.Routing

namespace Cert.RelRef

open Cert.RefRelIdeal Cert.RefRelIdeal.Read Cert.RefRelIdeal.Gen Cert.RelWords

/-- Where an entry of the tables' gradient lands in the table's: its head's row, at the column its word names. -/
theorem lands (idx : IVec S2x128x128x1 32) (h' : Fin 16) (a : Fin 2) (b e : Fin 128) (h : Fin 16) (col : Fin 257) :
    scatter_S16x257_S2x128x128x1_S16x2x128x128_0_1_1_3.resultIdx? (ix4 h' a b e) idx = some (ix2 h col)
      ↔ h' = h ∧ (idx (ix4 a b e 0)).toInt = (col.val : Int) := by
  have s0 : scatter_S16x257_S2x128x128x1_S16x2x128x128_0_1_1_3.start (ix4 h' a b e) idx 0 = 0 := rfl
  have s1 : scatter_S16x257_S2x128x128x1_S16x2x128x128_0_1_1_3.start (ix4 h' a b e) idx 1 = (idx (ix4 a b e 0)).toInt := by
    refine congrArg (fun i => (idx i).toInt) (funext fun q => ?_)
    match q with
    | ⟨0, _⟩ => rfl
    | ⟨1, _⟩ => rfl
    | ⟨2, _⟩ => rfl
    | ⟨3, _⟩ => rfl
  have w0 : scatter_S16x257_S2x128x128x1_S16x2x128x128_0_1_1_3.window (ix4 h' a b e) 0 = h'.val := rfl
  have w1 : scatter_S16x257_S2x128x128x1_S16x2x128x128_0_1_1_3.window (ix4 h' a b e) 1 = 0 := rfl
  refine (resultIdx?_ix2 (R := 16) (C := 257) _ _ idx h col).trans ?_
  rw [s0, s1, w0, w1, Fin.ext_iff]
  omega

variable (x0 : (⟨S16x2x128x128, .f32⟩ : BufTy).Contents (Elt Ideal)) (x1 : (⟨S16x1x128, .f32⟩ : BufTy).Contents (Elt Ideal))
  (h : Fin 16)

theorem inside_at (a : Fin 2) (b e : Fin 128) : val_main_v47_0 (F := Ideal) x0 (ix4 h a b e) = Scalar.select (inBand a b e) (x0 (ix4 h a b e)) 0 := by
  rw [← band_at]
  pointwise [val_main_v47_0, val_main_v37_1, val_main_call2_v0, val_main_call2_cst]
/-- A head's sum over the three other axes. -/
theorem head_sum {n1 n2 n3 : Nat} (hr : (⟨4, ![16, n1, n2, n3]⟩ : Shape).ReducesTo [1, 2, 3] S16) (v : FVec Ideal ⟨4, ![16, n1, n2, n3]⟩ .f32) :
    Ideal.hostReduceAdd hr v 0 (ix1 h) = ∑ a : Fin n1, ∑ b : Fin n2, ∑ e : Fin n3, v (ix4 h a b e) := by
  have hd : ∀ (h' : Fin 16) (a : Fin n1) (b : Fin n2) (e : Fin n3), hr.drop (ix4 h' a b e) = ix1 h ↔ h' = h := fun h' a b e =>
    ⟨fun q => Fin.ext (congrArg Fin.val (congrFun q 0)), fun q => by subst q; funext x; match x with | ⟨0, _⟩ => rfl⟩
  unfold Ideal.hostReduceAdd
  rw [zero_add, Finset.sum_filter, sum_idx4 (M := EReal)]
  refine (Finset.sum_eq_single (M := EReal) h (fun h' _ hn => ?_) (fun hn => absurd (Finset.mem_univ _) hn)).trans ?_
  · exact Finset.sum_eq_zero (M := EReal) fun a _ => Finset.sum_eq_zero (M := EReal) fun b _ => Finset.sum_eq_zero (M := EReal) fun e _ => if_neg fun q => hn ((hd _ _ _ _).1 q)
  · exact Finset.sum_congr (M := EReal) rfl fun a _ => Finset.sum_congr (M := EReal) rfl fun b _ => Finset.sum_congr (M := EReal) rfl fun e _ => if_pos ((hd _ _ _ _).2 rfl)
theorem outside_at : val_main_v48 (F := Ideal) x0 (ix1 h) = ∑ a : Fin 2, ∑ b : Fin 128, ∑ e : Fin 128, Scalar.select (inBand a b e) 0 (x0 (ix4 h a b e)) := by
  have z : ∀ i : S_.Idx, val_main_cst_16 (F := Ideal) i = 0 := fun i => by pointwise [val_main_cst_16]
  have z' : ∀ i : S_.Idx, val_main_call2_cst_0 (F := Ideal) i = 0 := fun i => by pointwise [val_main_call2_cst_0]
  refine Eq.trans (b := val_main_call2_v3 (F := Ideal) x0 (ix1 h)) ?_ ?_
  · unfold val_main_v48
    refine (ValueIdx.hostReduceAdd_apply ..).trans ?_
    rw [z, head_sum]
    simp only [Fin.sum_univ_one (M := EReal)]
    pointwise [val_main_v47_1]
  · unfold val_main_call2_v3
    refine (ValueIdx.hostReduceAdd_apply ..).trans ?_
    rw [z', head_sum]
    refine Finset.sum_congr (M := EReal) rfl fun a _ => Finset.sum_congr (M := EReal) rfl fun b _ => Finset.sum_congr (M := EReal) rfl fun e _ => ?_
    rw [← band_at]
    pointwise [val_main_call2_v1, val_main_call2_v0, val_main_call2_cst, val_main_v37_1]
theorem clip_at (col : Fin 257) : val_main_v46 (F := Ideal) x1 (ix2 h col) = if col.val = 256 then ∑ k : Fin 128, x1 (ix3 h 0 k) else 0 := by
  pointwise [val_main_v46, val_main_v45, val_main_v44, val_main_v43, val_main_v42, val_main_cst_13, val_main_cst_14, val_main_cst_15]
  refine if_congr (by omega) ?_ rfl
  simp only [Fin.sum_univ_one (M := EReal)]
theorem word_at (a : Fin 2) (b e : Fin 128) : val_main_v34 (F := Ideal) (ix4 a b e 0) = row a b e := by
  rw [← row_at]
  pointwise [val_main_v34]

/-- The table's gradient: of the entries inside the band, those whose row it is. -/
theorem table_at (col : Fin 257) : val_main_v50 (F := Ideal) x0 (ix2 h col)
    = ∑ a : Fin 2, ∑ b : Fin 128, ∑ e : Fin 128, if (row a b e).toInt = (col.val : Int) then Scalar.select (inBand a b e) (x0 (ix4 h a b e)) 0 else 0 := by
  have e : val_main_v50 (F := Ideal) x0 (ix2 h col) = val_main_v49 (F := Ideal) (ix2 h col)
      + ∑ j ∈ Finset.univ.filter (fun j => scatter_S16x257_S2x128x128x1_S16x2x128x128_0_1_1_3.resultIdx? j (val_main_v34 (F := Ideal)) = some (ix2 h col)),
        val_main_v47_0 (F := Ideal) x0 j := rfl
  have z : val_main_v49 (F := Ideal) (ix2 h col) = 0 := by
    pointwise [val_main_v49, val_main_cst_17]
  rw [e, z, zero_add, Finset.sum_filter]
  refine (sum_idx4 (M := EReal) (n0 := 16) (n1 := 2) (n2 := 128) (n3 := 128) _).trans ?_
  refine (Finset.sum_eq_single (M := EReal) h (fun h' _ hn => ?_) (fun hn => absurd (Finset.mem_univ _) hn)).trans ?_
  · refine Finset.sum_eq_zero (M := EReal) fun a _ => Finset.sum_eq_zero (M := EReal) fun b _ => Finset.sum_eq_zero (M := EReal) fun e _ => if_neg ?_
    rw [lands]
    exact fun q => hn q.1
  · refine Finset.sum_congr (M := EReal) rfl fun a _ => Finset.sum_congr (M := EReal) rfl fun b _ => Finset.sum_congr (M := EReal) rfl fun e _ => ?_
    rw [inside_at, ← word_at]
    refine if_congr ?_ rfl rfl
    rw [lands]
    exact ⟨fun q => q.2, fun q => ⟨rfl, q⟩⟩

/-- The three pieces of the result: the table's gradient, the sum outside the band, and zeros. -/
theorem result_at (h : Fin 16) (col : Fin 384) : val_main_v54 (F := Ideal) x0 x1 (ix2 h col)
    = if q : col.val < 257 then val_main_v46 (F := Ideal) x1 (ix2 h ⟨col.val, q⟩) + val_main_v50 (F := Ideal) x0 (ix2 h ⟨col.val, q⟩)
      else if col.val = 257 then val_main_v48 (F := Ideal) x0 (ix1 h) else 0 := by
  pointwise [val_main_v54, ↓ val_main_v51_apply, val_main_v52, val_main_v53, val_main_cst_18]
  split_ifs <;> first | rfl | omega

end Cert.RelRef

end
-- ==== Proof.RelClaim.lean ====
/- The gradient of the relative-position bias table: the kernel's columns are the reference's. -/
module

public import proofs.«01_k».proof.Defs
public import proofs.«01_k».proof.Proof.RelKernel
public import proofs.«01_k».proof.Proof.RelRef
public import proofs.«01_k».proof.Proof.Gen.RefRelIdeal.Run
public import Idealize.ShloMosaic.Lib.Claim

@[expose] public section

set_option maxRecDepth 16384

noncomputable section

open Idealize.ShloMosaic Idealize.ShloMosaic.TcCoe Idealize.SL.Sem

namespace Cert.RelRef

open Cert.KernelRelIdeal.Table Cert.RelWords

/-- A word below 2^31 names a column exactly when its number does. -/
theorem mark_of (w : BitVec 32) (n : Nat) (hn : n < 384) : mark w n = if w.toNat = n then 1 else 0 := by
  unfold mark
  refine if_congr ⟨fun q => ?_, fun q => ?_⟩ rfl rfl
  · rw [q, BitVec.toNat_ofNat]; omega
  · rw [← q, BitVec.ofNat_toNat, BitVec.setWidth_eq]
theorem toInt_of (w : BitVec 32) (hw : w.toNat < 257) (n : Nat) : w.toInt = (n : Int) ↔ w.toNat = n := by
  rw [BitVec.toInt_eq_toNat_cond]
  split_ifs <;> omega

/-- What one entry adds to a column, by the kernel's word and by the reference's row and band. -/
theorem term_inside (d : EReal) (a : Fin 2) (b e : Fin 128) (n : Nat) (hn : n < 257) :
    d * mark (column a b e) n = if (row a b e).toInt = (n : Int) then Scalar.select (inBand a b e) d 0 else 0 := by
  rw [mark_of _ _ (by omega)]
  rcases column_row a b e with ⟨hb, hc, hr⟩ | ⟨hb, hc, hr⟩
  · rw [hc, hb, if_congr (toInt_of _ hr n) rfl rfl]
    split_ifs
    · exact mul_one d
    · exact mul_zero d
  · rw [hc, hb, if_neg (by show ¬(257 = n); omega), mul_zero]
    split_ifs <;> rfl
theorem term_outside (d : EReal) (a : Fin 2) (b e : Fin 128) : d * mark (column a b e) 257 = Scalar.select (inBand a b e) 0 d := by
  rw [mark_of _ _ (by omega)]
  rcases column_row a b e with ⟨hb, hc, hr⟩ | ⟨hb, hc, hr⟩
  · rw [hc, hb, if_neg (by omega), mul_zero]; rfl
  · rw [hc, hb, if_pos (by rfl), mul_one]; rfl
theorem term_beyond (d : EReal) (a : Fin 2) (b e : Fin 128) (n : Nat) (hn : 257 < n) (hm : n < 384) : d * mark (column a b e) n = 0 := by
  rw [mark_of _ _ hm]
  rcases column_row a b e with ⟨hb, hc, hr⟩ | ⟨hb, hc, hr⟩
  · rw [hc, if_neg (by omega), mul_zero]
  · rw [hc, if_neg (by show ¬(257 = n); omega), mul_zero]

theorem columns_eq (d : FVec Ideal Cert.RefRelIdeal.S16x2x128x128 .f32) (cl : FVec Ideal Cert.RefRelIdeal.S16x1x128 .f32) :
    (fun j : Cert.RefRelIdeal.S16x384.Idx => columns d cl (j 0) (j 1)) = Cert.RefRelIdeal.Read.val_main_v54 (F := Ideal) d cl := by
  funext j
  obtain ⟨h, col, rfl⟩ : ∃ (h : Fin 16) (col : Fin 384), j = ix2 h col := ⟨j 0, j 1, eq_ix2 j⟩
  rw [result_at]
  show columns d cl h col = _
  unfold columns entry
  split_ifs with q e e e e
  all_goals first | omega | skip
  · rw [clip_at, if_pos q, table_at, add_comm]
    refine congrArg₂ (· + ·) rfl ?_
    exact Finset.sum_congr (M := EReal) rfl fun a _ => Finset.sum_congr (M := EReal) rfl fun b _ => Finset.sum_congr (M := EReal) rfl fun e _ => term_inside _ a b e col ‹_›
  · rw [clip_at, if_neg q, table_at, add_comm]
    refine congrArg₂ (· + ·) rfl ?_
    exact Finset.sum_congr (M := EReal) rfl fun a _ => Finset.sum_congr (M := EReal) rfl fun b _ => Finset.sum_congr (M := EReal) rfl fun e _ => term_inside _ a b e col ‹_›
  · rw [outside_at, add_zero, e]
    exact Finset.sum_congr (M := EReal) rfl fun a _ => Finset.sum_congr (M := EReal) rfl fun b _ => Finset.sum_congr (M := EReal) rfl fun e _ => term_outside _ a b e
  · rw [add_zero]
    exact Finset.sum_eq_zero (M := EReal) fun a _ => Finset.sum_eq_zero (M := EReal) fun b _ => Finset.sum_eq_zero (M := EReal) fun e _ => term_beyond _ a b e col (by omega) col.isLt

end Cert.RelRef

namespace Cert.Proof

theorem rel_value : Cert.algebraic_KernelRelIdeal_RefRelIdeal := by
  pair_intro
  · run_from Cert.KernelRelIdeal.Gen.run_main m g
    all_goals sl_kernel_rfl
  · have hag := hagree
    clear hagree
    run_from Cert.RefRelIdeal.Value.run m' g'
    all_goals obtain ⟨h0, h1⟩ := hag c
    · refine (Cert.RefRelIdeal.Read.val_main_v54_eq _ _).trans ?_
      rw [h0, h1]
      exact ((Cert.KernelRelIdeal.Table.final m c).trans (Cert.RelRef.columns_eq _ _)).symm

end Cert.Proof

end
-- ==== Proof.NormGrad.lean ====
/- A row normalised to mean zero and variance one: the gradient as the kernel writes it and as the chain rule gives it. -/
module

public import Idealize.ShloMosaic.Lib.Pipeline.ValueKit

@[expose] public section

set_option maxRecDepth 16384

noncomputable section

open Idealize.ShloMosaic

namespace Cert.NormGrad

/-- The row's length and the number added to its variance. -/
abbrev len : EReal := Ideal.ofBits .f32 1149239296#32
abbrev small : EReal := Ideal.ofBits .f32 925353388#32
abbrev minusHalf : EReal := Ideal.ofBits .f32 3204448256#32
abbrev two : EReal := Ideal.ofBits .f32 1073741824#32

theorem len_eq : len = ((1024 : ℝ) : EReal) := by
  simp [len, Ideal.ofBits, Ideal.ieee, -EReal.coe_mul]; norm_num
theorem small_eq : ∃ e : ℝ, 0 < e ∧ small = (e : EReal) := by
  refine ⟨10995116 * (2 : ℝ) ^ (-40 : ℤ), by positivity, ?_⟩
  simp [small, Ideal.ofBits, Ideal.ieee, -EReal.coe_mul]
theorem minusHalf_eq : minusHalf = ((-1 / 2 : ℝ) : EReal) := by
  simp [minusHalf, Ideal.ofBits, Ideal.ieee, -EReal.coe_mul]; norm_num
theorem two_eq : two = ((2 : ℝ) : EReal) := by
  simp [two, Ideal.ofBits, Ideal.ieee, -EReal.coe_mul]; norm_num

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]
theorem mean_coe (x : ℝ) : Ideal.div (x : EReal) len = ((x * (1 / 1024) : ℝ) : EReal) := by
  rw [len_eq, Ideal.div_coe (by norm_num), ← EReal.coe_mul]

variable (z d : Fin 1024 → EReal)

def centered (j : Fin 1024) : EReal := z j - Ideal.div (∑ k, z k) len
def spread : EReal := Ideal.div (∑ k, centered z k * centered z k) len + small
def scale : EReal := Ideal.rsqrt (spread z)
def hat (j : Fin 1024) : EReal := centered z j * scale z
/-- The gradient of the row before the norm, with `d` the gradient after it: as the kernel computes it. -/
def back (j : Fin 1024) : EReal :=
  scale z * (d j - Ideal.div (∑ k, d k) len - hat z j * Ideal.div (∑ k, d k * hat z k) len)
/-- The same by the chain rule, one step at a time. -/
def viaScale : EReal := Ideal.div ((∑ k, centered z k * d k) * (minusHalf * Ideal.div (scale z) (spread z))) len
def chain (j : Fin 1024) : EReal :=
  d j * scale z + viaScale z d * (two * centered z j)
    + Ideal.div ((∑ k, -(d k * scale z)) + ∑ k, -(viaScale z d * (two * centered z k))) len

variable (a b : Fin 1024 → ℝ)

theorem scale_coe : ∃ v : ℝ, 0 < v ∧ spread (fun k => (a k : EReal)) = (v : EReal) ∧ scale (fun k => (a k : EReal)) = (((Real.sqrt v)⁻¹ : ℝ) : EReal) := by
  obtain ⟨e, he, hs⟩ := small_eq
  have hc : ∀ j, centered (fun k => (a k : EReal)) j = ((a j - (∑ k, a k) * (1 / 1024) : ℝ) : EReal) := fun j => by
    unfold centered; rw [sum_coe, mean_coe, ← EReal.coe_sub]
  have hv : spread (fun k => (a k : EReal)) = (((∑ k, (a k - (∑ k, a k) * (1 / 1024)) * (a k - (∑ k, a k) * (1 / 1024))) * (1 / 1024) + e : ℝ) : EReal) := by
    unfold spread
    simp only [hc, ← EReal.coe_mul]
    rw [sum_coe, mean_coe, hs, ← EReal.coe_add]
  refine ⟨_, ?_, hv, ?_⟩
  · have : 0 ≤ ∑ k, (a k - (∑ k, a k) * (1 / 1024)) * (a k - (∑ k, a k) * (1 / 1024)) := Finset.sum_nonneg fun k _ => mul_self_nonneg _
    positivity
  · unfold scale
    rw [hv, Ideal.rsqrt_coe, if_neg, if_neg]
    all_goals
      have : 0 ≤ ∑ k, (a k - (∑ k, a k) * (1 / 1024)) * (a k - (∑ k, a k) * (1 / 1024)) := Finset.sum_nonneg fun k _ => mul_self_nonneg _
    · positivity
    · have : 0 ≤ (∑ k, (a k - (∑ k, a k) * (1 / 1024)) * (a k - (∑ k, a k) * (1 / 1024))) * (1 / 1024) + e := by positivity
      exact not_lt.mpr this

theorem centered_coe (j : Fin 1024) : centered (fun k => (a k : EReal)) j = ((a j - (∑ k, a k) * (1 / 1024) : ℝ) : EReal) := by
  unfold centered; rw [sum_coe, mean_coe, ← EReal.coe_sub]

theorem hat_coe (j : Fin 1024) : ∃ r : ℝ, hat (fun k => (a k : EReal)) j = r := by
  obtain ⟨v, _, _, h⟩ := scale_coe a
  unfold hat
  rw [centered_coe, h, ← EReal.coe_mul]
  exact ⟨_, rfl⟩

theorem back_chain_coe (j : Fin 1024) : back (fun k => (a k : EReal)) (fun k => (b k : EReal)) j = chain (fun k => (a k : EReal)) (fun k => (b k : EReal)) j := by
  obtain ⟨v, hv, h1, h2⟩ := scale_coe a
  have hc := centered_coe a
  have hz : ∑ k, (a k - (∑ k, a k) * (1 / 1024)) = 0 := by
    rw [Finset.sum_sub_distrib, Finset.sum_const, Finset.card_univ, Fintype.card_fin]
    simp only [nsmul_eq_mul]; push_cast; ring
  unfold back chain viaScale hat
  simp only [h1, h2, hc, minusHalf_eq, two_eq]
  rw [Ideal.div_coe hv.ne']
  generalize hm : (∑ k, a k) * (1 / 1024) = mu at *
  simp only [← EReal.coe_mul, sum_coe, mean_coe, ← EReal.coe_neg, ← EReal.coe_sub, ← EReal.coe_add]
  refine congrArg _ ?_
  have hq : (Real.sqrt v)⁻¹ * (Real.sqrt v)⁻¹ = 1 / v := by
    rw [← mul_inv, Real.mul_self_sqrt hv.le, one_div]
  generalize (Real.sqrt v)⁻¹ = q at *
  rw [← hq]
  have e1 : ∑ k, b k * ((a k - mu) * q) = q * ∑ k, (a k - mu) * b k := by
    rw [Finset.mul_sum]; exact Finset.sum_congr rfl fun k _ => by ring
  have e2 : ∑ k, -(b k * q) = -(q * ∑ k, b k) := by
    rw [Finset.mul_sum, ← Finset.sum_neg_distrib]; exact Finset.sum_congr rfl fun k _ => by ring
  have e3 : ∀ w : ℝ, ∑ k, -(w * (2 * (a k - mu))) = 0 := fun w => by
    rw [show (fun k => -(w * (2 * (a k - mu)))) = fun k => (-(2 * w)) * (a k - mu) from funext fun k => by ring, ← Finset.mul_sum, hz, mul_zero]
  rw [e1, e2, e3]
  ring

/-- The two gradients agree on real rows. -/
theorem back_eq_chain (hz : ∀ k, ∃ r : ℝ, z k = r) (hd : ∀ k, ∃ r : ℝ, d k = r) (j : Fin 1024) : back z d j = chain z d j := by
  obtain ⟨a, ha⟩ := Classical.axiomOfChoice hz
  obtain ⟨b, hb⟩ := Classical.axiomOfChoice hd
  rw [funext ha, funext hb]
  exact back_chain_coe a b j
theorem hat_real (hz : ∀ k, ∃ r : ℝ, z k = r) (j : Fin 1024) : ∃ r : ℝ, hat z j = r := by
  obtain ⟨a, ha⟩ := Classical.axiomOfChoice hz
  rw [funext ha]
  exact hat_coe a j

end Cert.NormGrad

end
-- ==== Proof.MidKernel.lean ====
/- The norm's gradient between two sublayers (`ln_bwd`): what the kernel's three arrays hold after its run. -/
module

public import proofs.«01_k».proof.Proof.Gen.KernelMidIdeal.Value
public import proofs.«01_k».proof.Proof.Gen.RefMidIdeal.Read
public import proofs.«01_k».proof.Proof.RowSums
public import proofs.«01_k».proof.Proof.NormGrad

@[expose] public section

set_option maxRecDepth 16384

noncomputable section

open Idealize.ShloMosaic Idealize.ShloMosaic.TcCoe Idealize.SL.Sem

namespace Cert.KernelMidIdeal.Sums

open Cert.KernelMidIdeal Cert.KernelMidIdeal.Gen Cert.RowSums Cert.NormGrad

/-! ## Rows of the residual sum and of the gradient after the norm, for any number of rows -/

abbrev alpha : EReal := Ideal.ofBits .f32 1071072509#32
abbrev Rows (R : Nat) := FVec Ideal ⟨2, ![R, 1024]⟩ .f32

variable {R : Nat}

def sumRow (x y : Rows R) (gt : Rows 1) (r : Fin R) (k : Fin 1024) : EReal := alpha * x (ix2 r k) + (1 + gt (ix2 0 k)) * y (ix2 r k)
def afterRow (dzn du : Rows R) (sc : Rows 1) (r : Fin R) (k : Fin 1024) : EReal := alpha * dzn (ix2 r k) + du (ix2 r k) * (1 + sc (ix2 0 k))

/-! ## The payloads at an entry -/

section Payloads
variable (dzn du : FVec Ideal S512x1024 .f32) (sc b : FVec Ideal S1x1024 .f32) (x y : FVec Ideal S512x1024 .f32) (gt g v : FVec Ideal S1x1024 .f32) (r : Fin 512) (j : Fin 1024)

theorem pay1_zero (j) : k0_pay1 (F := Ideal) j = 0 := by pointwise [k0_pay1]
theorem pay14_at (d : FVec Ideal S512x1024 .f32) : k0_pay14 (F := Ideal) (k0_pay3 y x gt) (k0_pay4 y x gt) d g (ix2 r j)
    = back (sumRow x y gt r) (fun k => d (ix2 r k) * g (ix2 0 k)) j := by
  pointwise [k0_pay14, k0_pay3, k0_pay4, k0_pay2]
  rfl
theorem pay16_at (d : FVec Ideal S512x1024 .f32) : k0_pay16 (F := Ideal) (k0_pay3 y x gt) (k0_pay4 y x gt) d g gt (ix2 r j)
    = back (sumRow x y gt r) (fun k => d (ix2 r k) * g (ix2 0 k)) j * (1 + gt (ix2 0 j)) := by
  rw [← pay14_at]
  pointwise [k0_pay16]
theorem pay4_at : k0_pay4 (F := Ideal) y x gt (ix2 r j) = hat (sumRow x y gt r) j := by
  pointwise [k0_pay4, k0_pay3, k0_pay2]
  rfl
theorem pay7_at : k0_pay7 (F := Ideal) du (k0_pay5 dzn) sc k0_pay6 (ix2 r j) = afterRow dzn du sc r j := by
  pointwise [k0_pay7, k0_pay5, k0_pay6]
  rfl
theorem pay8_at : k0_pay8 (F := Ideal) (k0_pay4 y x gt) du g b v (ix2 0 j)
    = v (ix2 0 j) + ∑ r : Fin 512, du (ix2 r j) * (hat (sumRow x y gt r) j * g (ix2 0 j) + b (ix2 0 j)) := by
  simp only [← pay4_at]
  pointwise [k0_pay8]
theorem pay9_at : k0_pay9 (F := Ideal) du v (ix2 0 j) = v (ix2 0 j) + ∑ r : Fin 512, du (ix2 r j) := by
  pointwise [k0_pay9]
theorem pay10_at : k0_pay10 (F := Ideal) (k0_pay4 y x gt) du (k0_pay5 dzn) sc k0_pay6 v (ix2 0 j)
    = v (ix2 0 j) + ∑ r : Fin 512, afterRow dzn du sc r j * hat (sumRow x y gt r) j := by
  simp only [← pay4_at, ← pay7_at]
  pointwise [k0_pay10]
theorem pay13_at : k0_pay13 (F := Ideal) (k0_pay11 v) (k0_pay12 du (k0_pay5 dzn) sc k0_pay6) (ix2 0 j)
    = v (ix2 0 j) + ∑ r : Fin 512, afterRow dzn du sc r j := by
  simp only [← pay7_at]
  pointwise [k0_pay13, k0_pay11, k0_pay12]
theorem pay15_at (d : FVec Ideal S512x1024 .f32) : k0_pay15 (F := Ideal) y (k0_pay3 y x gt) (k0_pay4 y x gt) d g v (ix2 0 j)
    = v (ix2 0 j) + ∑ r : Fin 512, back (sumRow x y gt r) (fun k => d (ix2 r k) * g (ix2 0 k)) j * y (ix2 r j) := by
  simp only [← pay14_at]
  pointwise [k0_pay15]

end Payloads

/-- What one block adds to the sums. -/
def blockTerm (dzn du : FVec Ideal S512x1024 .f32) (sc b : FVec Ideal S1x1024 .f32) (x y : FVec Ideal S512x1024 .f32) (gt g : FVec Ideal S1x1024 .f32) :
    FVec Ideal S8x1024 .f32 := fun i =>
  if (i 0).val = 2 then ∑ r : Fin 512, back (sumRow x y gt r) (fun k => afterRow dzn du sc r k * g (ix2 0 k)) (i 1) * y (ix2 r (i 1))
  else if (i 0).val = 1 then ∑ r : Fin 512, afterRow dzn du sc r (i 1)
  else if (i 0).val = 0 then ∑ r : Fin 512, afterRow dzn du sc r (i 1) * hat (sumRow x y gt r) (i 1)
  else if (i 0).val = 4 then ∑ r : Fin 512, du (ix2 r (i 1))
  else if (i 0).val = 3 then ∑ r : Fin 512, du (ix2 r (i 1)) * (hat (sumRow x y gt r) (i 1) * g (ix2 0 (i 1)) + b (ix2 0 (i 1)))
  else 0

theorem row_eq (y : S8x1024.Idx) (r : Nat) (hr : r < 8) (h : (y 0).val = r) : (ix2 ⟨r, hr⟩ (y 1) : S8x1024.Idx) = y :=
  funext fun a => Fin.ext (by
    match a with
    | ⟨0, _⟩ => exact h.symm
    | ⟨1, _⟩ => rfl)

theorem left_B (c : Dev nD) (i : grid0.Coords) (a1) (h1) (a2) (h2) (a3) (h3) (a4) (h4) (a5) (h5) (a6) (h6) (a7) (h7) (a8) (h8) (a9) (h9) (a10) (h10) (a11) (h11)
    (hc : ¬cond0_0 i) (x0 x1 : FVec Ideal S512x1024 .f32) (x2 x3 : FVec Ideal S1x1024 .f32) (x4 x5 : FVec Ideal S512x1024 .f32)
    (x6 x7 : FVec Ideal S1x1024 .f32) (xo : FVec Ideal S8x1024 .f32) (y : S8x1024.Idx) :
    (out0_B_9 (F := Ideal) c i a1 h1 a2 h2 a3 h3 a4 h4 a5 h5 a6 h6 a7 h7 a8 h8 a9 h9 a10 h10 a11 h11 hc x0 x1 x2 x3 x4 x5 x6 x7 xo : FVec Ideal S8x1024 .f32) y
      = xo y + blockTerm x0 x1 x2 x3 x4 x5 x6 x7 y := by
  unfold out0_B_9
  frame_open
  frame_out
  erw [read_put_row, read_put_row, read_put_row, read_put_row, read_put_row, View.writes_nil, h10.read_unread, pay15_at, pay13_at, pay10_at, pay9_at, pay8_at,
    ld_row _ 2 (by decide), ld_row _ 1 (by decide), ld_row _ 0 (by decide), ld_row _ 4 (by decide), ld_row _ 3 (by decide)]
  simp only [pay7_at]
  unfold blockTerm
  split_ifs with h2 h1 h0 h4 h3
  · rw [row_eq y 2 _ h2]
  · rw [row_eq y 1 _ h1]
  · rw [row_eq y 0 _ h0]
  · rw [row_eq y 4 _ h4]
  · rw [row_eq y 3 _ h3]
  · rw [add_zero]

theorem left_A (c : Dev nD) (i : grid0.Coords) (a1) (h1) (a2) (h2) (a3) (h3) (a4) (h4) (a5) (h5) (a6) (h6) (a7) (h7) (a8) (h8) (a9) (h9) (a10) (h10) (a11) (h11)
    (hc : cond0_0 i) (x0 x1 : FVec Ideal S512x1024 .f32) (x2 x3 : FVec Ideal S1x1024 .f32) (x4 x5 : FVec Ideal S512x1024 .f32)
    (x6 x7 : FVec Ideal S1x1024 .f32) (y : S8x1024.Idx) :
    (out0_A_9 (F := Ideal) c i a1 h1 a2 h2 a3 h3 a4 h4 a5 h5 a6 h6 a7 h7 a8 h8 a9 h9 a10 h10 a11 h11 hc x0 x1 x2 x3 x4 x5 x6 x7 : FVec Ideal S8x1024 .f32) y
      = blockTerm x0 x1 x2 x3 x4 x5 x6 x7 y := by
  unfold out0_A_9
  frame_open
  simp (disch := decide) only [↓ View.readCov_skip, ↓ View.readCov_cons_toLoadRect, ↓ View.readCov_fill]
  frame_out
  erw [canon_put_row, canon_put_row, canon_put_row, canon_put_row, canon_put_row, View.canon_cons_unit_lit' _ _ _ (by decide), pay15_at, pay13_at, pay10_at, pay9_at, pay8_at]
  erw [ld_row _ 2 (by decide)]
  simp only [pay7_at, pay1_zero, zero_add]
  unfold blockTerm
  split_ifs <;> rfl

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![0, 0] ∧ win0_7.index t = ![0, 0]
    ∧ win0_8.index t = ![t.val, 0] ∧ win0_10.index t = ![t.val, 0] :=
  (by decide +kernel : ∀ t : Fin grid0.N, _)

/-! ## The three arrays after the run -/

section Arrays
variable (dzn du : Rows 8192) (sc : Rows 1) (b : FVec Ideal S1024 .f32) (x y : Rows 8192) (gt : Rows 1) (g : FVec Ideal S1024 .f32)

def dzAll (t : Fin 8192) (j : Fin 1024) : EReal := back (sumRow x y gt t) (fun k => afterRow dzn du sc t k * g (ix1 k)) j

end Arrays

theorem back_congr {z z' d d' : Fin 1024 → EReal} {j j' : Fin 1024} (hz : ∀ k, z k = z' k) (hd : ∀ k, d k = d' k) (hj : j = j') : back z d j = back z' d' j' := by
  rw [funext hz, funext hd, hj]

/-- The block's rows are the arrays' rows. -/
abbrev whole (t : Fin cfg0.N) (r : Fin 512) : Fin 8192 := ⟨t.val * 512 + r.val, by have := t.isLt; have : cfg0.N = 16 := N_0; omega⟩
theorem sum_block (c : Dev nD) (t : Fin cfg0.N) (r : Fin 512) (k : Fin 1024) : sumRow (iblk m c 4 t) (iblk m c 5 t) (iblk m c 6 t) r k
    = sumRow (m ((c : Thread nD τ).loc main_arg0)) (m ((c : Thread nD τ).loc main_arg1)) (m ((c : Thread nD τ).loc main_arg2)) (whole t r) k := by
  unfold sumRow
  blk_point [iblk, V, idx t]
theorem after_block (c : Dev nD) (t : Fin cfg0.N) (r : Fin 512) (k : Fin 1024) : afterRow (iblk m c 0 t) (iblk m c 1 t) (iblk m c 2 t) r k
    = afterRow (m ((c : Thread nD τ).loc main_arg6)) (m ((c : Thread nD τ).loc main_arg7)) (m ((c : Thread nD τ).loc main_arg5)) (whole t r) k := by
  unfold afterRow
  blk_point [iblk, V, idx t]
theorem g_block (c : Dev nD) (t : Fin cfg0.N) (k : Fin 1024) : iblk m c 7 t (ix2 0 k) = (m ((c : Thread nD τ).loc main_arg3)) (ix1 k) := by
  blk_point [iblk, V, idx t]
theorem b_block (c : Dev nD) (t : Fin cfg0.N) (k : Fin 1024) : iblk m c 3 t (ix2 0 k) = (m ((c : Thread nD τ).loc main_arg4)) (ix1 k) := by
  blk_point [iblk, V, idx t]

theorem gate_block (c : Dev nD) (t : Fin cfg0.N) (k : Fin 1024) : iblk m c 6 t (ix2 0 k) = (m ((c : Thread nD τ).loc main_arg2)) (ix2 0 k) := by
  blk_point [iblk, V, idx t]
theorem y_block (c : Dev nD) (t : Fin cfg0.N) (r : Fin 512) (k : Fin 1024) : iblk m c 5 t (ix2 r k) = (m ((c : Thread nD τ).loc main_arg1)) (ix2 (whole t r) k) := by
  blk_point [iblk, V, idx t]
theorem du_block (c : Dev nD) (t : Fin cfg0.N) (r : Fin 512) (k : Fin 1024) : iblk m c 1 t (ix2 r k) = (m ((c : Thread nD τ).loc main_arg7)) (ix2 (whole t r) k) := by
  blk_point [iblk, V, idx t]

/-- The gradient of the residual sum at an entry, over the arguments. -/
abbrev dzOf (c : Dev nD) : Fin 8192 → Fin 1024 → EReal :=
  dzAll (m ((c : Thread nD τ).loc main_arg6)) (m ((c : Thread nD τ).loc main_arg7)) (m ((c : Thread nD τ).loc main_arg5))
    (m ((c : Thread nD τ).loc main_arg0)) (m ((c : Thread nD τ).loc main_arg1)) (m ((c : Thread nD τ).loc main_arg2)) (m ((c : Thread nD τ).loc main_arg3))

theorem back_block (c : Dev nD) (t : Fin cfg0.N) (r : Fin 512) (j : Fin 1024) :
    back (sumRow (iblk m c 4 t) (iblk m c 5 t) (iblk m c 6 t) r) (fun k => afterRow (iblk m c 0 t) (iblk m c 1 t) (iblk m c 2 t) r k * iblk m c 7 t (ix2 0 k)) j
      = dzOf m c (whole t r) j :=
  back_congr (sum_block m c t r) (fun k => congrArg₂ (· * ·) (after_block m c t r k) (g_block m c t k)) rfl

theorem final_dz (c : Dev nD) : (dats m 0 c).arrAt 8 (cfgs 0).N = fun i : S8192x1024.Idx => dzOf m c (i 0) (i 1) := by
  refine (dats m 0 c).arrAt_eq_of_covers 8 _ (by decide +kernel) fun t _ y => ?_
  blk_simp
  rw [after0_8]
  have hp : (outsAt0 m c t.val t.isLt).1 = k0_pay14 (k0_pay3 (iblk m c 5 t) (iblk m c 4 t) (iblk m c 6 t)) (k0_pay4 (iblk m c 5 t) (iblk m c 4 t) (iblk m c 6 t))
      (k0_pay7 (iblk m c 1 t) (k0_pay5 (iblk m c 0 t)) (iblk m c 2 t) k0_pay6) (iblk m c 7 t) := by
    by_cases h : t.val % 16 = 0
    · rw [outsAt0_A m c t h]; frame_out
    · rw [outsAt0_B m c t h]; frame_out
  rw [hp]
  obtain ⟨r, j, rfl⟩ : ∃ (r : Fin 512) (j : Fin 1024), y = ix2 r j := ⟨y 0, y 1, eq_ix2 y⟩
  refine (pay14_at _ _ _ _ r j _).trans ?_
  simp only [pay7_at]
  refine (back_block m c t r j).trans ?_
  refine congrArg₂ (dzOf m c) (Fin.ext ?_) (Fin.ext ?_)
  · blk_simp
    rw [(idx t).2.2.2.2.2.2.2.2.1]
    rfl
  · blk_simp
    rw [(idx t).2.2.2.2.2.2.2.2.1]
    simp

theorem final_dy (c : Dev nD) : (dats m 0 c).arrAt 10 (cfgs 0).N
    = fun i : S8192x1024.Idx => dzOf m c (i 0) (i 1) * (1 + (m ((c : Thread nD τ).loc main_arg2)) (ix2 0 (i 1))) := by
  refine (dats m 0 c).arrAt_eq_of_covers 10 _ (by decide +kernel) fun t _ y => ?_
  blk_simp
  rw [after0_10]
  have hp : (outsAt0 m c t.val t.isLt).2.2 = k0_pay16 (k0_pay3 (iblk m c 5 t) (iblk m c 4 t) (iblk m c 6 t)) (k0_pay4 (iblk m c 5 t) (iblk m c 4 t) (iblk m c 6 t))
      (k0_pay7 (iblk m c 1 t) (k0_pay5 (iblk m c 0 t)) (iblk m c 2 t) k0_pay6) (iblk m c 7 t) (iblk m c 6 t) := by
    by_cases h : t.val % 16 = 0
    · rw [outsAt0_A m c t h]; frame_out
    · rw [outsAt0_B m c t h]; frame_out
  rw [hp]
  obtain ⟨r, j, rfl⟩ : ∃ (r : Fin 512) (j : Fin 1024), y = ix2 r j := ⟨y 0, y 1, eq_ix2 y⟩
  refine (pay16_at _ _ _ _ r j _).trans ?_
  simp only [pay7_at]
  refine (congrArg₂ (· * ·) (back_block m c t r j) (congrArg (1 + ·) (gate_block m c t j))).trans ?_
  refine congrArg₂ (fun u v => dzOf m c u v * (1 + (m ((c : Thread nD τ).loc main_arg2)) (ix2 0 v))) (Fin.ext ?_) (Fin.ext ?_)
  · blk_simp
    rw [(idx t).2.2.2.2.2.2.2.2.2]
    rfl
  · blk_simp
    rw [(idx t).2.2.2.2.2.2.2.2.2]
    simp

theorem step_A (c : Dev nD) (t : Fin cfg0.N) (h : t.val % 16 = 0) (j : S8x1024.Idx) :
    ((outsAt0 m c t.val t.isLt).2.1 : FVec Ideal S8x1024 .f32) j
      = blockTerm (iblk m c 0 t) (iblk m c 1 t) (iblk m c 2 t) (iblk m c 3 t) (iblk m c 4 t) (iblk m c 5 t) (iblk m c 6 t) (iblk m c 7 t) j := by
  have h1 := congrArg (fun p => p.2.1) (outsAt0_A m c t h)
  dsimp only at h1
  rw [h1]
  apply left_A

theorem step_B (c : Dev nD) (t : Fin cfg0.N) (h : ¬t.val % 16 = 0) (j : S8x1024.Idx) :
    ((outsAt0 m c t.val t.isLt).2.1 : FVec Ideal S8x1024 .f32) j
      = (outsAt0 m c (t.val - 1) (Nat.lt_of_le_of_lt (Nat.sub_le _ _) t.isLt)).2.1 j
        + blockTerm (iblk m c 0 t) (iblk m c 1 t) (iblk m c 2 t) (iblk m c 3 t) (iblk m c 4 t) (iblk m c 5 t) (iblk m c 6 t) (iblk m c 7 t) j := by
  rw [outsAt0_B m c t h]
  exact left_B ..

/-- The block of sums after the run, as a sum over the points. -/
theorem final_sums (c : Dev nD) : (dats m 0 c).arrAt 9 (cfgs 0).N
    = (fun j : S8x1024.Idx => ∑ t : Fin cfg0.N,
        blockTerm (iblk m c 0 t) (iblk m c 1 t) (iblk m c 2 t) (iblk m c 3 t) (iblk m c 4 t) (iblk m c 5 t) (iblk m c 6 t) (iblk m c 7 t) j) := by
  refine (dats m 0 c).arrAt_eq_of_after_last 9 t0_15 (by decide +kernel) _ fun j => ?_
  blk_simp
  rw [after0_9, Pipeline.eq_sum_fin_of_reset_step_apply_last (fun n h => (outsAt0 m c n h).2.1) 16 (fun _ => 0)
    (fun t j => blockTerm (iblk m c 0 t) (iblk m c 1 t) (iblk m c 2 t) (iblk m c 3 t) (iblk m c 4 t) (iblk m c 5 t) (iblk m c 6 t) (iblk m c 7 t) j) (fun t h j => (step_A m c t h j).trans (zero_add _).symm) (step_B m c)
    (le_of_eq N_0) t0_15 rfl j, zero_add]

end Cert.KernelMidIdeal.Sums

end
-- ==== Proof.MidRef.lean ====
/- The reference's gradient of the norm between two sublayers, read at an entry. -/
module

public import proofs.«01_k».proof.Proof.MidKernel

@[expose] public section

set_option maxRecDepth 16384

noncomputable section

open Idealize.ShloMosaic Idealize.SL.Sem

namespace Cert.MidRef

open Cert.RefMidIdeal Cert.RefMidIdeal.Read Cert.NormGrad Cert.KernelMidIdeal.Sums

variable (x0 x1 : (⟨S8192x1024, .f32⟩ : BufTy).Contents (Elt Ideal)) (x2 : (⟨S1x1024, .f32⟩ : BufTy).Contents (Elt Ideal))
  (x3 x4 : (⟨S1024, .f32⟩ : BufTy).Contents (Elt Ideal)) (x5 : (⟨S1x1024, .f32⟩ : BufTy).Contents (Elt Ideal))
  (x6 x7 : (⟨S8192x1024, .f32⟩ : BufTy).Contents (Elt Ideal)) (r : Fin 8192) (k j : Fin 1024)

theorem sum_at : val_main_v6 (F := Ideal) x0 x1 x2 (ix2 r k) = sumRow x0 x1 x2 r k := by
  pointwise [val_main_v6, val_main_v5, val_main_v4, val_main_v3, val_main_v2, val_main_v1, val_main_v0, val_main_cst, val_main_cst_0]
  rfl
theorem mean_at : val_main_v11 (F := Ideal) x0 x1 x2 (ix2 r 0) = Ideal.div (∑ k, sumRow x0 x1 x2 r k) len := by
  simp only [← sum_at]
  pointwise [val_main_v11, val_main_v10, val_main_v9, val_main_v8, val_main_cst_2, val_main_cst_3]
theorem centered_at : val_main_v22 (F := Ideal) x0 x1 x2 (ix2 r j) = centered (sumRow x0 x1 x2 r) j := by
  unfold centered
  rw [← sum_at, ← mean_at]
  pointwise [val_main_v22, val_main_v21]
theorem centered_at' : val_main_v13 (F := Ideal) x0 x1 x2 (ix2 r j) = centered (sumRow x0 x1 x2 r) j := by
  unfold centered
  rw [← sum_at, ← mean_at]
  pointwise [val_main_v13, val_main_v12]
theorem spread_at : val_main_v24 (F := Ideal) x0 x1 x2 (ix2 r 0) = spread (sumRow x0 x1 x2 r) := by
  unfold spread
  simp only [← centered_at']
  pointwise [val_main_v24, val_main_v23, val_main_v20, val_main_v19, val_main_v18, val_main_v17, val_main_v14, val_main_cst_5, val_main_cst_6, val_main_cst_7]
theorem scale_at : val_main_v25 (F := Ideal) x0 x1 x2 (ix2 r 0) = scale (sumRow x0 x1 x2 r) := by
  unfold scale
  rw [← spread_at]
  pointwise [val_main_v25]
theorem hat_at : val_main_v30 (F := Ideal) x0 x1 x2 (ix2 r j) = hat (sumRow x0 x1 x2 r) j := by
  unfold hat
  rw [← centered_at, ← scale_at]
  pointwise [val_main_v30, val_main_v29]
theorem after_at : val_main_v55 (F := Ideal) x5 x6 x7 (ix2 r k) = afterRow x6 x7 x5 r k := by
  refine Eq.trans ?_ (add_comm (G := EReal) _ _)
  pointwise [val_main_v55, val_main_v54, val_main_v53, val_main_v52, val_main_v51, val_main_v45, val_main_v40, val_main_v39, val_main_cst_10, val_main_cst_13]
/-- The gradient of the normalised row. -/
def cot (k : Fin 1024) : EReal := afterRow x6 x7 x5 r k * x3 (ix1 k)

theorem cot_at : val_main_v63 (F := Ideal) x3 x5 x6 x7 (ix2 r k) = cot x3 x5 x6 x7 r k := by
  unfold cot
  rw [← after_at]
  pointwise [val_main_v63, val_main_v62, val_main_v31]

theorem via_at : val_main_v76 (F := Ideal) x0 x1 x2 x3 x5 x6 x7 (ix1 r) = viaScale (sumRow x0 x1 x2 r) (cot x3 x5 x6 x7 r) := by
  unfold viaScale
  simp only [← cot_at, ← centered_at, ← spread_at, ← scale_at]
  pointwise [val_main_v76, val_main_v75, val_main_v74, val_main_v70, val_main_v67, val_main_v66, val_main_v65, val_main_v28, val_main_v27, val_main_v26, val_main_cst_8, val_main_cst_18, val_main_cst_20, val_main_cst_21]
  exact Fin.sum_univ_one (M := EReal) _
theorem chain_at : val_main_v88 (F := Ideal) x0 x1 x2 x3 x5 x6 x7 (ix2 r j) = chain (sumRow x0 x1 x2 r) (cot x3 x5 x6 x7 r) j := by
  unfold chain
  rw [← via_at]
  simp only [← cot_at, ← centered_at', ← scale_at]
  pointwise [val_main_v88, val_main_v87, val_main_v86, val_main_v85, val_main_v84, val_main_v83, val_main_v82, val_main_v81, val_main_v80, val_main_v79, val_main_v78, val_main_v77, val_main_v73, val_main_v72, val_main_v71, val_main_v69, val_main_v68, val_main_v16, val_main_v15, val_main_cst_4, val_main_cst_19, val_main_cst_22, val_main_cst_23, val_main_cst_24]
  exact congrArg (_ + ·) (Fin.sum_univ_one (M := EReal) _)

/-! ## The rows of sums -/

theorem row0_at : val_main_v64 (F := Ideal) x0 x1 x2 x5 x6 x7 (ix1 j) = ∑ r : Fin 8192, afterRow x6 x7 x5 r j * hat (sumRow x0 x1 x2 r) j := by
  simp only [← after_at, ← hat_at]
  pointwise [val_main_v64, val_main_v61, val_main_v60, val_main_v59, val_main_cst_16, val_main_cst_17]
  exact (Fin.sum_univ_one (M := EReal) _).trans (Finset.sum_congr (M := EReal) rfl fun r _ => mul_comm (G := EReal) _ _)
theorem row1_at : val_main_v58 (F := Ideal) x5 x6 x7 (ix1 j) = ∑ r : Fin 8192, afterRow x6 x7 x5 r j := by
  simp only [← after_at]
  pointwise [val_main_v58, val_main_v57, val_main_v56, val_main_cst_14, val_main_cst_15]
  exact Fin.sum_univ_one (M := EReal) _
theorem row2_at : val_main_v96 (F := Ideal) x0 x1 x2 x3 x5 x6 x7 (ix1 j) = ∑ r : Fin 8192, val_main_v88 (F := Ideal) x0 x1 x2 x3 x5 x6 x7 (ix2 r j) * x1 (ix2 r j) := by
  pointwise [val_main_v96, val_main_v93, val_main_v92, val_main_v91, val_main_cst_25]
theorem row3_at : val_main_v97 (F := Ideal) x0 x1 x2 x3 x4 x7 (ix1 j) = ∑ r : Fin 8192, x7 (ix2 r j) * (hat (sumRow x0 x1 x2 r) j * x3 (ix1 j) + x4 (ix1 j)) := by
  simp only [← hat_at]
  pointwise [val_main_v97, val_main_v50, val_main_v49, val_main_v48, val_main_v45, val_main_v36, val_main_v35, val_main_v34, val_main_v33, val_main_v32, val_main_v31, val_main_cst_12]
  exact Finset.sum_congr (M := EReal) rfl fun r _ => mul_comm (G := EReal) _ _
theorem row4_at : val_main_v98 (F := Ideal) x7 (ix1 j) = ∑ r : Fin 8192, x7 (ix2 r j) := by
  pointwise [val_main_v98, val_main_v47, val_main_v46, val_main_cst_11]

/-- Where the rows are finite, the reference's gradient is the kernel's. -/
theorem dz_at (hz : ∀ k, ∃ a : ℝ, sumRow x0 x1 x2 r k = a) (hd : ∀ k, ∃ a : ℝ, afterRow x6 x7 x5 r k * x3 (ix1 k) = a) :
    val_main_v88 (F := Ideal) x0 x1 x2 x3 x5 x6 x7 (ix2 r j) = dzAll x6 x7 x5 x0 x1 x2 x3 r j :=
  (chain_at x0 x1 x2 x3 x5 x6 x7 r j).trans (back_eq_chain _ _ hz hd j).symm
theorem dy_at : val_main_v109 (F := Ideal) x0 x1 x2 x3 x5 x6 x7 (ix2 r j) = val_main_v88 (F := Ideal) x0 x1 x2 x3 x5 x6 x7 (ix2 r j) * (1 + x2 (ix2 0 j)) := by
  refine Eq.trans ?_ (mul_comm (G := EReal) _ _)
  pointwise [val_main_v109, val_main_v90, val_main_v89, val_main_v3, val_main_v2, val_main_cst_0]

end Cert.MidRef

end
-- ==== Proof.MidClaim.lean ====
/- The value claim of the norm's gradient between two sublayers: where the arguments are finite, the kernel's three results are the reference's. -/
module

public import proofs.«01_k».proof.Defs
public import proofs.«01_k».proof.Proof.MidRef
public import proofs.«01_k».proof.Proof.RealBit
public import proofs.«01_k».proof.Proof.Gen.Pre_mid_finite
public import proofs.«01_k».proof.Proof.Gen.RefMidIdeal.Run
public import Idealize.ShloMosaic.Lib.Claim

@[expose] public section

set_option maxRecDepth 16384

noncomputable section

open Idealize.ShloMosaic Idealize.ShloMosaic.TcCoe Idealize.SL.Sem

namespace Cert.KernelMidIdeal.Sums

open Cert.KernelMidIdeal Cert.KernelMidIdeal.Gen Cert.RowSums Cert.NormGrad Cert.RealBit Cert.MidRef

/-! ## Rows of finite arrays -/

/-- Every entry is a real number. -/
def AllReal {s : Shape} (x : FVec Ideal s .f32) : Prop := ∀ i, ∃ a : ℝ, x i = (a : EReal)

theorem hat_congr {z z' : Fin 1024 → EReal} {j : Fin 1024} (hz : ∀ k, z k = z' k) : hat z j = hat z' j := by rw [funext hz]
theorem sumRow_real {R : Nat} {x y : Rows R} {gt : Rows 1} (hx : AllReal x) (hy : AllReal y) (hg : AllReal gt)
    (r : Fin R) (k : Fin 1024) : ∃ a : ℝ, sumRow x y gt r k = a :=
  real_add (real_mul real_alpha (hx _)) (real_mul (real_add real_one (hg _)) (hy _))
theorem afterRow_real {R : Nat} {dzn du : Rows R} {sc : Rows 1} (hx : AllReal dzn) (hy : AllReal du) (hg : AllReal sc)
    (r : Fin R) (k : Fin 1024) : ∃ a : ℝ, afterRow dzn du sc r k = a :=
  real_add (real_mul real_alpha (hx _)) (real_mul (hy _) (real_add real_one (hg _)))

section Terms
variable (dzn du : FVec Ideal S512x1024 .f32) (sc b : FVec Ideal S1x1024 .f32) (x y : FVec Ideal S512x1024 .f32) (gt g : FVec Ideal S1x1024 .f32) (j : Fin 1024)
theorem blockTerm_0 : blockTerm dzn du sc b x y gt g (ix2 0 j) = ∑ r : Fin 512, afterRow dzn du sc r j * hat (sumRow x y gt r) j := rfl
theorem blockTerm_1 : blockTerm dzn du sc b x y gt g (ix2 1 j) = ∑ r : Fin 512, afterRow dzn du sc r j := rfl
theorem blockTerm_2 : blockTerm dzn du sc b x y gt g (ix2 2 j) = ∑ r : Fin 512, back (sumRow x y gt r) (fun k => afterRow dzn du sc r k * g (ix2 0 k)) j * y (ix2 r j) := rfl
theorem blockTerm_3 : blockTerm dzn du sc b x y gt g (ix2 3 j) = ∑ r : Fin 512, du (ix2 r j) * (hat (sumRow x y gt r) j * g (ix2 0 j) + b (ix2 0 j)) := rfl
theorem blockTerm_4 : blockTerm dzn du sc b x y gt g (ix2 4 j) = ∑ r : Fin 512, du (ix2 r j) := rfl
theorem blockTerm_other (r : Fin 8) (h : 5 ≤ r.val) : blockTerm dzn du sc b x y gt g (ix2 r j) = 0 := by
  unfold blockTerm
  rw [if_neg, if_neg, if_neg, if_neg, if_neg] <;> (dsimp only [ix2]; intro e; simp at e; omega)
end Terms

variable (m : (ℓ : Loc nD τ sig) → Buf (Elt Ideal) ℓ)

/-- The rows the program meets at device `c` are finite. -/
structure Finite (c : Dev nD) : Prop where
  z (t : Fin 8192) (k : Fin 1024) : ∃ a : ℝ, sumRow (m ((c : Thread nD τ).loc main_arg0)) (m ((c : Thread nD τ).loc main_arg1)) (m ((c : Thread nD τ).loc main_arg2)) t k = a
  d (t : Fin 8192) (k : Fin 1024) : ∃ a : ℝ, afterRow (m ((c : Thread nD τ).loc main_arg6)) (m ((c : Thread nD τ).loc main_arg7)) (m ((c : Thread nD τ).loc main_arg5)) t k
    * (m ((c : Thread nD τ).loc main_arg3)) (ix1 k) = a

theorem finite (c : Dev nD) (h : Pre_KernelMidIdeal_mid_finite m) : Finite m c := by
  obtain ⟨h0, h1, h2, h3, h5, h6, h7⟩ := h c
  have f0 : AllReal (m ((c : Thread nD τ).loc main_arg0)) := fun i => real_of_bit (congrFun h0 i)
  have f1 : AllReal (m ((c : Thread nD τ).loc main_arg1)) := fun i => real_of_bit (congrFun h1 i)
  have f2 : AllReal (m ((c : Thread nD τ).loc main_arg2)) := fun i => real_of_bit (congrFun h2 i)
  have f3 : AllReal (m ((c : Thread nD τ).loc main_arg3)) := fun i => real_of_bit (congrFun h3 i)
  have f5 : AllReal (m ((c : Thread nD τ).loc main_arg5)) := fun i => real_of_bit (congrFun h5 i)
  have f6 : AllReal (m ((c : Thread nD τ).loc main_arg6)) := fun i => real_of_bit (congrFun h6 i)
  have f7 : AllReal (m ((c : Thread nD τ).loc main_arg7)) := fun i => real_of_bit (congrFun h7 i)
  exact ⟨sumRow_real f0 f1 f2, fun t k => real_mul (afterRow_real f6 f7 f5 t k) (f3 _)⟩

/-! ## The kernel's arrays are the reference's -/

section
variable (c : Dev nD) (F : Finite m c)
include F

theorem ref_dz : (dats m 0 c).arrAt 8 (cfgs 0).N = Cert.RefMidIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  rw [final_dz]
  funext i
  obtain ⟨r, j, rfl⟩ : ∃ (r : Fin 8192) (j : Fin 1024), i = ix2 r j := ⟨i 0, i 1, eq_ix2 i⟩
  exact (dz_at _ _ _ _ _ _ _ r j (F.z r) (F.d r)).symm
theorem ref_dy : (dats m 0 c).arrAt 10 (cfgs 0).N = Cert.RefMidIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  rw [final_dy]
  funext i
  obtain ⟨r, j, rfl⟩ : ∃ (r : Fin 8192) (j : Fin 1024), i = ix2 r j := ⟨i 0, i 1, eq_ix2 i⟩
  refine ((dy_at _ _ _ _ _ _ _ r j).trans ?_).symm
  rw [dz_at _ _ _ _ _ _ _ r j (F.z r) (F.d r)]
  rfl

/-! The rows of the block of sums. -/

omit F in
theorem first_row (i : S1x1024.Idx) (j : Fin 1024) (h : (i 1).val = j.val) : i = ix2 0 j :=
  funext fun a => Fin.ext (by
    match a with
    | ⟨0, _⟩ => have := (i 0).isLt; exact Nat.lt_one_iff.mp this
    | ⟨1, _⟩ => exact h)

omit F in
abbrev termAt (t : Fin cfg0.N) : FVec Ideal S8x1024 .f32 :=
  blockTerm (iblk m c 0 t) (iblk m c 1 t) (iblk m c 2 t) (iblk m c 3 t) (iblk m c 4 t) (iblk m c 5 t) (iblk m c 6 t) (iblk m c 7 t)
omit F in
theorem row0 (j : Fin 1024) : ∑ t : Fin cfg0.N, termAt m c t (ix2 0 j)
    = Cert.RefMidIdeal.Read.val_main_v64 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (ix1 j) := by
  refine Eq.trans ?_ (row0_at _ _ _ _ _ _ j).symm
  refine Eq.trans (Fin.sum_fin_congr fun p => blockTerm_0 _ _ _ _ _ _ _ _ j) ?_
  refine Fin.sum_mul_add_congr (M := EReal) (L := 8192) (S := cfg0.N) (n := 512) (fun s k hl => ?_) rfl
  exact congrArg₂ (· * ·) (after_block m c s k j) (hat_congr fun x => (sum_block m c s k x))
omit F in
theorem row1 (j : Fin 1024) : ∑ t : Fin cfg0.N, termAt m c t (ix2 1 j)
    = Cert.RefMidIdeal.Read.val_main_v58 (F := Ideal) (m ((c : Thread nD τ).loc main_arg5)) (m ((c : Thread nD τ).loc main_arg6)) (m ((c : Thread nD τ).loc main_arg7)) (ix1 j) := by
  refine Eq.trans ?_ (row1_at _ _ _ j).symm
  refine Eq.trans (Fin.sum_fin_congr fun p => blockTerm_1 _ _ _ _ _ _ _ _ j) ?_
  refine Fin.sum_mul_add_congr (M := EReal) (L := 8192) (S := cfg0.N) (n := 512) (fun s k hl => ?_) rfl
  exact (after_block m c s k j)
theorem row2 (j : Fin 1024) : ∑ t : Fin cfg0.N, termAt m c t (ix2 2 j)
    = Cert.RefMidIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (ix1 j) := by
  refine Eq.trans ?_ (row2_at _ _ _ _ _ _ _ j).symm
  refine Eq.trans (Fin.sum_fin_congr fun p => blockTerm_2 _ _ _ _ _ _ _ _ j) ?_
  refine Fin.sum_mul_add_congr (M := EReal) (L := 8192) (S := cfg0.N) (n := 512) (fun s k hl => ?_) rfl
  exact congrArg₂ (· * ·) ((back_block m c s k j).trans (dz_at _ _ _ _ _ _ _ _ j (F.z _) (F.d _)).symm) (y_block m c s k j)
omit F in
theorem row3 (j : Fin 1024) : ∑ t : Fin cfg0.N, termAt m c t (ix2 3 j)
    = Cert.RefMidIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (ix1 j) := by
  refine Eq.trans ?_ (row3_at _ _ _ _ _ _ j).symm
  refine Eq.trans (Fin.sum_fin_congr fun p => blockTerm_3 _ _ _ _ _ _ _ _ j) ?_
  refine Fin.sum_mul_add_congr (M := EReal) (L := 8192) (S := cfg0.N) (n := 512) (fun s k hl => ?_) rfl
  exact congrArg₂ (· * ·) (du_block m c s k j) (congrArg₂ (· + ·) (congrArg₂ (· * ·) (hat_congr fun x => (sum_block m c s k x)) (g_block m c s j)) (b_block m c s j))
omit F in
theorem row4 (j : Fin 1024) : ∑ t : Fin cfg0.N, termAt m c t (ix2 4 j)
    = Cert.RefMidIdeal.Read.val_main_v98 (F := Ideal) (m ((c : Thread nD τ).loc main_arg7)) (ix1 j) := by
  refine Eq.trans ?_ (row4_at _ j).symm
  refine Eq.trans (Fin.sum_fin_congr fun p => blockTerm_4 _ _ _ _ _ _ _ _ j) ?_
  refine Fin.sum_mul_add_congr (M := EReal) (L := 8192) (S := cfg0.N) (n := 512) (fun s k hl => ?_) rfl
  exact (du_block m c s k j)

theorem ref_sums : (dats m 0 c).arrAt 9 (cfgs 0).N = Cert.RefMidIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [final_sums]
  symm
  funext y
  unfold Cert.RefMidIdeal.Read.val_main_v108
  concat_tiles i h
  case piece0 =>
    obtain ⟨r, j, rfl⟩ : ∃ (r : Fin 8) (j : Fin 1024), y = ix2 r j := ⟨y 0, y 1, eq_ix2 y⟩
    obtain rfl : r = 0 := Fin.ext h
    rw [first_row i j h1]
    refine Eq.trans ?_ (row0 m c j).symm
    pointwise [Cert.RefMidIdeal.Read.val_main_v100]
  case piece1 =>
    obtain ⟨r, j, rfl⟩ : ∃ (r : Fin 8) (j : Fin 1024), y = ix2 r j := ⟨y 0, y 1, eq_ix2 y⟩
    obtain rfl : r = 1 := Fin.ext h
    rw [first_row i j h1]
    refine Eq.trans ?_ (row1 m c j).symm
    pointwise [Cert.RefMidIdeal.Read.val_main_v101]
  case piece2 =>
    obtain ⟨r, j, rfl⟩ : ∃ (r : Fin 8) (j : Fin 1024), y = ix2 r j := ⟨y 0, y 1, eq_ix2 y⟩
    obtain rfl : r = 2 := Fin.ext h
    rw [first_row i j h1]
    refine Eq.trans ?_ (row2 m c F j).symm
    pointwise [Cert.RefMidIdeal.Read.val_main_v102]
  case piece3 =>
    obtain ⟨r, j, rfl⟩ : ∃ (r : Fin 8) (j : Fin 1024), y = ix2 r j := ⟨y 0, y 1, eq_ix2 y⟩
    obtain rfl : r = 3 := Fin.ext h
    rw [first_row i j h1]
    refine Eq.trans ?_ (row3 m c j).symm
    pointwise [Cert.RefMidIdeal.Read.val_main_v103]
  case piece4 =>
    obtain ⟨r, j, rfl⟩ : ∃ (r : Fin 8) (j : Fin 1024), y = ix2 r j := ⟨y 0, y 1, eq_ix2 y⟩
    obtain rfl : r = 4 := Fin.ext h
    rw [first_row i j h1]
    refine Eq.trans ?_ (row4 m c j).symm
    pointwise [Cert.RefMidIdeal.Read.val_main_v104]
  all_goals
    obtain ⟨r, j, rfl⟩ : ∃ (r : Fin 8) (j : Fin 1024), y = ix2 r j := ⟨y 0, y 1, eq_ix2 y⟩
    rw [first_row i j h1]
    refine Eq.trans ?_ ((Fin.sum_fin_congr fun p => blockTerm_other _ _ _ _ _ _ _ _ j r (le_of_le_of_eq (by decide) h.symm)).trans (Finset.sum_const_zero (M := EReal))).symm
    pointwise [Cert.RefMidIdeal.Read.val_main_v105, Cert.RefMidIdeal.Read.val_main_v106, Cert.RefMidIdeal.Read.val_main_v107, Cert.RefMidIdeal.Read.val_main_v99, Cert.RefMidIdeal.Read.val_main_cst_27]

end

end Cert.KernelMidIdeal.Sums

namespace Cert.Proof

open Cert.KernelMidIdeal.Sums Cert.RefMidIdeal.Read

theorem mid_value : Cert.algebraic_KernelMidIdeal_RefMidIdeal_pre_mid_finite := by
  pair_intro
  · run_from Cert.KernelMidIdeal.Gen.run_main m g
  · have F := fun c => finite m c hpre
    have hag := hagree
    clear hagree
    run_from Cert.RefMidIdeal.Value.run m' g'
    all_goals obtain ⟨h0, h1, h2, h3, h4, h5, h6, h7⟩ := hag c
    · refine (val_main_v88_eq _ _).trans ?_
      rw [h0, h1, h2, h3, h5, h6, h7]
      exact (ref_dz m c (F c)).symm
    · refine (val_main_v108_eq _ _).trans ?_
      rw [h0, h1, h2, h3, h4, h5, h6, h7]
      exact (ref_sums m c (F c)).symm
    · refine (val_main_v109_eq _ _).trans ?_
      rw [h0, h1, h2, h3, h5, h6, h7]
      exact (ref_dy m c (F c)).symm

end Cert.Proof

end
-- ==== Proof.HeadKernel.lean ====
/- The last norm's gradient with the loss (`ln_bwd`): what the kernel's four arrays hold after its run. -/
module

public import proofs.«01_k».proof.Proof.Gen.KernelHeadIdeal.Value
public import proofs.«01_k».proof.Proof.MidClaim

@[expose] public section

set_option maxRecDepth 16384

noncomputable section

open Idealize.ShloMosaic Idealize.ShloMosaic.TcCoe Idealize.SL.Sem

namespace Cert.KernelHeadIdeal.Sums

open Cert.KernelHeadIdeal Cert.KernelHeadIdeal.Gen Cert.RowSums Cert.NormGrad
open Cert.KernelMidIdeal.Sums (alpha Rows sumRow AllReal sumRow_real hat_congr back_congr row_eq)

/-- The error of a row: the normalised row, scaled and shifted, less the target. -/
def err (z g b tgt : Fin 1024 → EReal) (k : Fin 1024) : EReal := hat z k * g k + b k - tgt k
abbrev tiny : EReal := Ideal.ofBits .f32 981467136#32
abbrev half : EReal := Ideal.ofBits .f32 1056964608#32

theorem err_congr {z z' g g' b b' tgt tgt' : Fin 1024 → EReal} {k : Fin 1024} (hz : ∀ k, z k = z' k) (hg : ∀ k, g k = g' k) (hb : ∀ k, b k = b' k)
    (ht : ∀ k, tgt k = tgt' k) : err z g b tgt k = err z' g' b' tgt' k := by rw [funext hz, funext hg, funext hb, funext ht]

/-! ## The payloads at an entry -/

section Payloads
variable (tgt : FVec Ideal S512x1024 .f32) (b : FVec Ideal S1x1024 .f32) (x y : FVec Ideal S512x1024 .f32) (gt g v : FVec Ideal S1x1024 .f32) (r : Fin 512) (j : Fin 1024)

/-- A row's error within a block. -/
abbrev errAt (r : Fin 512) (k : Fin 1024) : EReal := err (sumRow x y gt r) (fun k => g (ix2 0 k)) (fun k => b (ix2 0 k)) (fun k => tgt (ix2 r k)) k
/-- The gradient of the residual sum within a block. -/
abbrev dzAt (r : Fin 512) (k : Fin 1024) : EReal := back (sumRow x y gt r) (fun k => errAt tgt b x y gt g r k * tiny * g (ix2 0 k)) k

theorem pay4_zero (j) : k0_pay4 (F := Ideal) j = 0 := by pointwise [k0_pay4]
theorem pay5_zero (j) : k0_pay5 (F := Ideal) j = 0 := by pointwise [k0_pay5]
theorem pay8_at : k0_pay8 (F := Ideal) y x gt (ix2 r j) = hat (sumRow x y gt r) j := by
  pointwise [k0_pay8, k0_pay7, k0_pay6]
  rfl
theorem pay10_at : k0_pay10 (F := Ideal) (k0_pay9 y x gt g b) tgt (ix2 r j) = errAt tgt b x y gt g r j := by
  unfold errAt err
  rw [← pay8_at]
  pointwise [k0_pay10, k0_pay9]
theorem pay11_at : k0_pay11 (F := Ideal) (k0_pay9 y x gt g b) tgt (ix2 r j) = errAt tgt b x y gt g r j * tiny := by
  rw [← pay10_at]
  pointwise [k0_pay11]
theorem pay15_at : k0_pay15 (F := Ideal) (k0_pay9 y x gt g b) tgt g (ix2 r j) = errAt tgt b x y gt g r j * tiny * g (ix2 0 j) := by
  rw [← pay11_at]
  pointwise [k0_pay15]
theorem pay1_at : k0_pay1 (F := Ideal) (k0_pay7 y x gt) (k0_pay8 y x gt) (k0_pay15 (k0_pay9 y x gt g b) tgt g) (ix2 r j) = dzAt tgt b x y gt g r j := by
  unfold dzAt
  simp only [← pay15_at]
  pointwise [k0_pay1, k0_pay8, k0_pay7, k0_pay6]
  rfl
theorem pay2_at : k0_pay2 (F := Ideal) y (k0_pay7 y x gt) (k0_pay8 y x gt) (k0_pay15 (k0_pay9 y x gt g b) tgt g) v (ix2 0 j)
    = v (ix2 0 j) + ∑ r : Fin 512, dzAt tgt b x y gt g r j * y (ix2 r j) := by
  simp only [← pay1_at]
  pointwise [k0_pay2]
theorem pay3_at : k0_pay3 (F := Ideal) (k0_pay7 y x gt) (k0_pay8 y x gt) (k0_pay15 (k0_pay9 y x gt g b) tgt g) gt (ix2 r j)
    = dzAt tgt b x y gt g r j * (1 + gt (ix2 0 j)) := by
  rw [← pay1_at]
  pointwise [k0_pay3]
theorem pay13_at : k0_pay13 (F := Ideal) (k0_pay8 y x gt) (k0_pay9 y x gt g b) tgt v (ix2 0 j)
    = v (ix2 0 j) + ∑ r : Fin 512, errAt tgt b x y gt g r j * tiny * hat (sumRow x y gt r) j := by
  simp only [← pay11_at, ← pay8_at]
  pointwise [k0_pay13]
theorem pay14_at : k0_pay14 (F := Ideal) (k0_pay9 y x gt g b) tgt v (ix2 0 j)
    = v (ix2 0 j) + ∑ r : Fin 512, errAt tgt b x y gt g r j * tiny := by
  simp only [← pay11_at]
  pointwise [k0_pay14]
/-- What one block adds to the loss. -/
def lossTerm : EReal := half * ∑ r : Fin 512, (∑ k : Fin 1024, errAt tgt b x y gt g r k * errAt tgt b x y gt g r k) * tiny
theorem pay12_at (w : FVec Ideal S8x128 .f32) (i : Fin 8) (l : Fin 128) : k0_pay12 (F := Ideal) (k0_pay9 y x gt g b) tgt w (ix2 i l)
    = w (ix2 i l) + lossTerm tgt b x y gt g := by
  unfold lossTerm
  simp only [← pay10_at]
  pointwise [k0_pay12]

end Payloads

/-- What one block adds to the sums. -/
def blockTerm (tgt : FVec Ideal S512x1024 .f32) (b : FVec Ideal S1x1024 .f32) (x y : FVec Ideal S512x1024 .f32) (gt g : FVec Ideal S1x1024 .f32) :
    FVec Ideal S8x1024 .f32 := fun i =>
  if (i 0).val = 2 then ∑ r : Fin 512, dzAt tgt b x y gt g r (i 1) * y (ix2 r (i 1))
  else if (i 0).val = 1 then ∑ r : Fin 512, errAt tgt b x y gt g r (i 1) * tiny
  else if (i 0).val = 0 then ∑ r : Fin 512, errAt tgt b x y gt g r (i 1) * tiny * hat (sumRow x y gt r) (i 1)
  else 0

section Points
variable (c : Dev nD) (i : grid0.Coords) (a1) (h1 : Memref.IsWhole a1) (a2) (h2 : Memref.IsWhole a2) (a3) (h3 : Memref.IsWhole a3) (a4) (h4 : Memref.IsWhole a4)
  (a5) (h5 : Memref.IsWhole a5) (a6) (h6 : Memref.IsWhole a6) (a7) (h7 : Memref.IsWhole a7) (a8) (h8 : Memref.IsWhole a8) (a9) (h9 : Memref.IsWhole a9)
  (a10) (h10 : Memref.IsWhole a10)
  (x0 : FVec Ideal S512x1024 .f32) (x1 : FVec Ideal S1x1024 .f32) (x2 x3 : FVec Ideal S512x1024 .f32) (x4 x5 : FVec Ideal S1x1024 .f32)

theorem left_B (hc : ¬cond0_0 i) (xo : FVec Ideal S8x1024 .f32) (xl : FVec Ideal S8x128 .f32) (y : S8x1024.Idx) :
    (out0_B_7 (F := Ideal) c i a1 h1 a2 h2 a3 h3 a4 h4 a5 h5 a6 h6 a7 h7 a8 h8 a9 h9 a10 h10 hc x0 x1 x2 x3 x4 x5 xo xl : FVec Ideal S8x1024 .f32) y
      = xo y + blockTerm x0 x1 x2 x3 x4 x5 y := by
  unfold out0_B_7
  frame_open
  frame_out
  erw [read_put_row, read_put_row, read_put_row, View.writes_nil, h8.read_unread, pay2_at, pay14_at, pay13_at,
    ld_row _ 2 (by decide), ld_row _ 1 (by decide), ld_row _ 0 (by decide)]
  unfold blockTerm
  split_ifs with h2 h1 h0
  · rw [row_eq y 2 _ h2]
  · rw [row_eq y 1 _ h1]
  · rw [row_eq y 0 _ h0]
  · rw [add_zero]
theorem left_A (hc : cond0_0 i) (y : S8x1024.Idx) :
    (out0_A_7 (F := Ideal) c i a1 h1 a2 h2 a3 h3 a4 h4 a5 h5 a6 h6 a7 h7 a8 h8 a9 h9 a10 h10 hc x0 x1 x2 x3 x4 x5 : FVec Ideal S8x1024 .f32) y
      = blockTerm x0 x1 x2 x3 x4 x5 y := by
  unfold out0_A_7
  frame_open
  simp (disch := decide) only [↓ View.readCov_skip, ↓ View.readCov_cons_toLoadRect, ↓ View.readCov_fill]
  frame_out
  erw [canon_put_row, canon_put_row, canon_put_row, View.canon_cons_unit_lit' _ _ _ (by decide), pay2_at, pay14_at, pay13_at, ld_row _ 2 (by decide)]
  simp only [pay4_zero, zero_add]
  unfold blockTerm
  split_ifs <;> rfl
theorem loss_B (hc : ¬cond0_0 i) (xo : FVec Ideal S8x1024 .f32) (xl : FVec Ideal S8x128 .f32) (y : S8x128.Idx) :
    (out0_B_9 (F := Ideal) c i a1 h1 a2 h2 a3 h3 a4 h4 a5 h5 a6 h6 a7 h7 a8 h8 a9 h9 a10 h10 hc x0 x1 x2 x3 x4 x5 xo xl : FVec Ideal S8x128 .f32) y
      = xl y + lossTerm x0 x1 x2 x3 x4 x5 := by
  obtain ⟨r, j, rfl⟩ : ∃ (r : Fin 8) (j : Fin 128), y = ix2 r j := ⟨y 0, y 1, eq_ix2 y⟩
  unfold out0_B_9
  frame_open
  frame_out
  exact pay12_at _ _ _ _ _ _ _ _ _
theorem loss_A (hc : cond0_0 i) (y : S8x128.Idx) :
    (out0_A_9 (F := Ideal) c i a1 h1 a2 h2 a3 h3 a4 h4 a5 h5 a6 h6 a7 h7 a8 h8 a9 h9 a10 h10 hc x0 x1 x2 x3 x4 x5 : FVec Ideal S8x128 .f32) y
      = lossTerm x0 x1 x2 x3 x4 x5 := by
  obtain ⟨r, j, rfl⟩ : ∃ (r : Fin 8) (j : Fin 128), y = ix2 r j := ⟨y 0, y 1, eq_ix2 y⟩
  unfold out0_A_9
  frame_open
  simp (disch := decide) only [↓ View.readCov_skip, ↓ View.readCov_cons_toLoadRect, ↓ View.readCov_fill]
  frame_out
  refine (pay12_at _ _ _ _ _ _ _ _ _).trans ?_
  rw [pay5_zero, zero_add]

end Points

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_8.index t = ![t.val, 0] :=
  (by decide +kernel : ∀ t : Fin grid0.N, _)

/-! ## The arrays after the run -/

section Arrays
variable (x y : Rows 8192) (gt : Rows 1) (g b : FVec Ideal S1024 .f32) (tgt : Rows 8192)

def errAll (t : Fin 8192) (k : Fin 1024) : EReal := err (sumRow x y gt t) (fun k => g (ix1 k)) (fun k => b (ix1 k)) (fun k => tgt (ix2 t k)) k
def dzAll (t : Fin 8192) (j : Fin 1024) : EReal := back (sumRow x y gt t) (fun k => errAll x y gt g b tgt t k * tiny * g (ix1 k)) j

end Arrays

/-- The block's rows are the arrays' rows. -/
abbrev whole (t : Fin cfg0.N) (r : Fin 512) : Fin 8192 := ⟨t.val * 512 + r.val, by have := t.isLt; have : cfg0.N = 16 := N_0; omega⟩
/-- The error of a row over the arguments. -/
abbrev errOf (c : Dev nD) : Fin 8192 → Fin 1024 → EReal := errAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- The gradient of the residual sum at an entry, over the arguments. -/
abbrev dzOf (c : Dev nD) : Fin 8192 → Fin 1024 → EReal := dzAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

section Blocks
variable (c : Dev nD) (t : Fin cfg0.N) (r : Fin 512) (k : Fin 1024)

theorem sum_block : sumRow (iblk m c 2 t) (iblk m c 3 t) (iblk m c 4 t) r k = sumRow (m ((c : Thread nD τ).loc main_arg0)) (m ((c : Thread nD τ).loc main_arg1)) (m ((c : Thread nD τ).loc main_arg2)) (whole t r) k := by
  unfold sumRow
  blk_point [iblk, V, idx t]
theorem g_block : iblk m c 5 t (ix2 0 k) = (m ((c : Thread nD τ).loc main_arg3)) (ix1 k) := by
  blk_point [iblk, V, idx t]
theorem b_block : iblk m c 1 t (ix2 0 k) = (m ((c : Thread nD τ).loc main_arg4)) (ix1 k) := by
  blk_point [iblk, V, idx t]
theorem tgt_block : iblk m c 0 t (ix2 r k) = (m ((c : Thread nD τ).loc main_arg5)) (ix2 (whole t r) k) := by
  blk_point [iblk, V, idx t]
theorem gate_block : iblk m c 4 t (ix2 0 k) = (m ((c : Thread nD τ).loc main_arg2)) (ix2 0 k) := by
  blk_point [iblk, V, idx t]
theorem y_block : iblk m c 3 t (ix2 r k) = (m ((c : Thread nD τ).loc main_arg1)) (ix2 (whole t r) k) := by
  blk_point [iblk, V, idx t]
theorem err_block : errAt (iblk m c 0 t) (iblk m c 1 t) (iblk m c 2 t) (iblk m c 3 t) (iblk m c 4 t) (iblk m c 5 t) r k = errOf m c (whole t r) k :=
  err_congr (sum_block m c t r) (g_block m c t) (b_block m c t) (tgt_block m c t r)
theorem dz_block : dzAt (iblk m c 0 t) (iblk m c 1 t) (iblk m c 2 t) (iblk m c 3 t) (iblk m c 4 t) (iblk m c 5 t) r k = dzOf m c (whole t r) k :=
  back_congr (sum_block m c t r) (fun k => congrArg₂ (· * ·) (congrArg (· * tiny) (err_block m c t r k)) (g_block m c t k)) rfl

end Blocks

theorem final_dz (c : Dev nD) : (dats m 0 c).arrAt 6 (cfgs 0).N = fun i : S8192x1024.Idx => dzOf m c (i 0) (i 1) := by
  refine (dats m 0 c).arrAt_eq_of_covers 6 _ (by decide +kernel) fun t _ y => ?_
  blk_simp
  rw [after0_6]
  have hp : (outsAt0 m c t.val t.isLt).1 = k0_pay1 (k0_pay7 (iblk m c 3 t) (iblk m c 2 t) (iblk m c 4 t)) (k0_pay8 (iblk m c 3 t) (iblk m c 2 t) (iblk m c 4 t)) (k0_pay15 (k0_pay9 (iblk m c 3 t) (iblk m c 2 t) (iblk m c 4 t) (iblk m c 5 t) (iblk m c 1 t)) (iblk m c 0 t) (iblk m c 5 t)) := by
    by_cases h : t.val % 16 = 0
    · rw [outsAt0_A m c t h]; frame_out
    · rw [outsAt0_B m c t h]; frame_out
  rw [hp]
  obtain ⟨r, j, rfl⟩ : ∃ (r : Fin 512) (j : Fin 1024), y = ix2 r j := ⟨y 0, y 1, eq_ix2 y⟩
  refine (pay1_at _ _ _ _ _ _ r j).trans ((dz_block m c t r j).trans ?_)
  refine congrArg₂ (dzOf m c) (Fin.ext ?_) (Fin.ext ?_)
  · blk_simp
    rw [(idx t).2.2.2.2.2.2.1]
    rfl
  · blk_simp
    rw [(idx t).2.2.2.2.2.2.1]
    simp

theorem final_dy (c : Dev nD) : (dats m 0 c).arrAt 8 (cfgs 0).N
    = fun i : S8192x1024.Idx => dzOf m c (i 0) (i 1) * (1 + (m ((c : Thread nD τ).loc main_arg2)) (ix2 0 (i 1))) := by
  refine (dats m 0 c).arrAt_eq_of_covers 8 _ (by decide +kernel) fun t _ y => ?_
  blk_simp
  rw [after0_8]
  have hp : (outsAt0 m c t.val t.isLt).2.2.1 = k0_pay3 (k0_pay7 (iblk m c 3 t) (iblk m c 2 t) (iblk m c 4 t)) (k0_pay8 (iblk m c 3 t) (iblk m c 2 t) (iblk m c 4 t)) (k0_pay15 (k0_pay9 (iblk m c 3 t) (iblk m c 2 t) (iblk m c 4 t) (iblk m c 5 t) (iblk m c 1 t)) (iblk m c 0 t) (iblk m c 5 t)) (iblk m c 4 t) := by
    by_cases h : t.val % 16 = 0
    · rw [outsAt0_A m c t h]; frame_out
    · rw [outsAt0_B m c t h]; frame_out
  rw [hp]
  obtain ⟨r, j, rfl⟩ : ∃ (r : Fin 512) (j : Fin 1024), y = ix2 r j := ⟨y 0, y 1, eq_ix2 y⟩
  refine (pay3_at _ _ _ _ _ _ r j).trans ?_
  refine (congrArg₂ (· * ·) (dz_block m c t r j) (congrArg (1 + ·) (gate_block m c t j))).trans ?_
  refine congrArg₂ (fun u v => dzOf m c u v * (1 + (m ((c : Thread nD τ).loc main_arg2)) (ix2 0 v))) (Fin.ext ?_) (Fin.ext ?_)
  · blk_simp
    rw [(idx t).2.2.2.2.2.2.2]
    rfl
  · blk_simp
    rw [(idx t).2.2.2.2.2.2.2]
    simp

theorem step_A (c : Dev nD) (t : Fin cfg0.N) (h : t.val % 16 = 0) (j : S8x1024.Idx) :
    ((outsAt0 m c t.val t.isLt).2.1 : FVec Ideal S8x1024 .f32) j = blockTerm (iblk m c 0 t) (iblk m c 1 t) (iblk m c 2 t) (iblk m c 3 t) (iblk m c 4 t) (iblk m c 5 t) j := by
  have h1 := congrArg (fun p => p.2.1) (outsAt0_A m c t h)
  dsimp only at h1
  rw [h1]
  apply left_A
theorem step_B (c : Dev nD) (t : Fin cfg0.N) (h : ¬t.val % 16 = 0) (j : S8x1024.Idx) :
    ((outsAt0 m c t.val t.isLt).2.1 : FVec Ideal S8x1024 .f32) j
      = (outsAt0 m c (t.val - 1) (Nat.lt_of_le_of_lt (Nat.sub_le _ _) t.isLt)).2.1 j + blockTerm (iblk m c 0 t) (iblk m c 1 t) (iblk m c 2 t) (iblk m c 3 t) (iblk m c 4 t) (iblk m c 5 t) j := by
  rw [outsAt0_B m c t h]
  exact left_B ..
/-- The block of sums after the run, as a sum over the points. -/
theorem final_sums (c : Dev nD) : (dats m 0 c).arrAt 7 (cfgs 0).N = (fun j : S8x1024.Idx => ∑ t : Fin cfg0.N, blockTerm (iblk m c 0 t) (iblk m c 1 t) (iblk m c 2 t) (iblk m c 3 t) (iblk m c 4 t) (iblk m c 5 t) j) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => 0)
    (fun t j => blockTerm (iblk m c 0 t) (iblk m c 1 t) (iblk m c 2 t) (iblk m c 3 t) (iblk m c 4 t) (iblk m c 5 t) j) (fun t h j => (step_A m c t h j).trans (zero_add _).symm) (step_B m c)
    (le_of_eq N_0) t0_15 rfl j, zero_add]

theorem loss_step_A (c : Dev nD) (t : Fin cfg0.N) (h : t.val % 16 = 0) (j : S8x128.Idx) :
    ((outsAt0 m c t.val t.isLt).2.2.2 : FVec Ideal S8x128 .f32) j = lossTerm (iblk m c 0 t) (iblk m c 1 t) (iblk m c 2 t) (iblk m c 3 t) (iblk m c 4 t) (iblk m c 5 t) := by
  have h1 := congrArg (fun p => p.2.2.2) (outsAt0_A m c t h)
  dsimp only at h1
  rw [h1]
  apply loss_A
theorem loss_step_B (c : Dev nD) (t : Fin cfg0.N) (h : ¬t.val % 16 = 0) (j : S8x128.Idx) :
    ((outsAt0 m c t.val t.isLt).2.2.2 : FVec Ideal S8x128 .f32) j
      = (outsAt0 m c (t.val - 1) (Nat.lt_of_le_of_lt (Nat.sub_le _ _) t.isLt)).2.2.2 j + lossTerm (iblk m c 0 t) (iblk m c 1 t) (iblk m c 2 t) (iblk m c 3 t) (iblk m c 4 t) (iblk m c 5 t) := by
  have h1 := congrArg (fun p => p.2.2.2) (outsAt0_B m c t h)
  dsimp only at h1
  rw [h1]
  exact loss_B ..
/-- The loss after the run, as a sum over the points. -/
theorem final_loss (c : Dev nD) : (dats m 0 c).arrAt 9 (cfgs 0).N = (fun j : S8x128.Idx => ∑ t : Fin cfg0.N, lossTerm (iblk m c 0 t) (iblk m c 1 t) (iblk m c 2 t) (iblk m c 3 t) (iblk m c 4 t) (iblk m c 5 t)) := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => 0)
    (fun t _ => lossTerm (iblk m c 0 t) (iblk m c 1 t) (iblk m c 2 t) (iblk m c 3 t) (iblk m c 4 t) (iblk m c 5 t)) (fun t h j => (loss_step_A m c t h j).trans (zero_add _).symm) (loss_step_B m c)
    (le_of_eq N_0) t0_15 rfl j, zero_add]

end Cert.KernelHeadIdeal.Sums

end
-- ==== Proof.HeadRef.lean ====
/- The reference's gradient of the last norm with the loss, read at an entry. -/
module

public import proofs.«01_k».proof.Proof.Gen.RefHeadIdeal.Read
public import proofs.«01_k».proof.Proof.HeadKernel

@[expose] public section

set_option maxRecDepth 16384

noncomputable section

open Idealize.ShloMosaic Idealize.SL.Sem

namespace Cert.HeadRef

open Cert.RefHeadIdeal Cert.RefHeadIdeal.Read Cert.NormGrad Cert.KernelHeadIdeal.Sums Cert.RealBit
open Cert.KernelMidIdeal.Sums (sumRow AllReal)

variable (x0 x1 : (⟨S8192x1024, .f32⟩ : BufTy).Contents (Elt Ideal)) (x2 : (⟨S1x1024, .f32⟩ : BufTy).Contents (Elt Ideal))
  (x3 x4 : (⟨S1024, .f32⟩ : BufTy).Contents (Elt Ideal)) (x5 : (⟨S8192x1024, .f32⟩ : BufTy).Contents (Elt Ideal)) (r : Fin 8192) (k j : Fin 1024)

theorem sum_at : val_main_v6 (F := Ideal) x0 x1 x2 (ix2 r k) = sumRow x0 x1 x2 r k := by
  pointwise [val_main_v6, val_main_v5, val_main_v4, val_main_v3, val_main_v2, val_main_v1, val_main_v0, val_main_cst, val_main_cst_0]
  rfl
theorem mean_at : val_main_v10 (F := Ideal) x0 x1 x2 (ix2 r 0) = Ideal.div (∑ k, sumRow x0 x1 x2 r k) len := by
  simp only [← sum_at]
  pointwise [val_main_v10, val_main_v9, val_main_v8, val_main_v7, val_main_cst_1, val_main_cst_2]
theorem centered_at : val_main_v21 (F := Ideal) x0 x1 x2 (ix2 r j) = centered (sumRow x0 x1 x2 r) j := by
  unfold centered
  rw [← sum_at, ← mean_at]
  pointwise [val_main_v21, val_main_v20]
theorem centered_at' : val_main_v12 (F := Ideal) x0 x1 x2 (ix2 r j) = centered (sumRow x0 x1 x2 r) j := by
  unfold centered
  rw [← sum_at, ← mean_at]
  pointwise [val_main_v12, val_main_v11]
theorem spread_at : val_main_v23 (F := Ideal) x0 x1 x2 (ix2 r 0) = spread (sumRow x0 x1 x2 r) := by
  unfold spread
  simp only [← centered_at']
  pointwise [val_main_v23, val_main_v22, val_main_v19, val_main_v18, val_main_v17, val_main_v16, val_main_v13, val_main_cst_4, val_main_cst_5, val_main_cst_6]
theorem scale_at : val_main_v24 (F := Ideal) x0 x1 x2 (ix2 r 0) = scale (sumRow x0 x1 x2 r) := by
  unfold scale
  rw [← spread_at]
  pointwise [val_main_v24]
theorem hat_at : val_main_v29 (F := Ideal) x0 x1 x2 (ix2 r j) = hat (sumRow x0 x1 x2 r) j := by
  unfold hat
  rw [← centered_at, ← scale_at]
  pointwise [val_main_v29, val_main_v28]
theorem err_at : val_main_v36 (F := Ideal) x0 x1 x2 x3 x4 x5 (ix2 r k) = errAll x0 x1 x2 x3 x4 x5 r k := by
  unfold errAll err
  rw [← hat_at]
  pointwise [val_main_v36, val_main_v35, val_main_v34, val_main_v33, val_main_v32, val_main_v31, val_main_v30]

/-- Twice the error over twice the row's length, as one factor. -/
theorem mean_factor (e : EReal) : Ideal.div (half * 1) len * (two * e) = e * tiny := by
  have h : (half : EReal) = ((1 / 2 : ℝ) : EReal) := by simp [half, Ideal.ofBits, Ideal.ieee, -EReal.coe_mul]; norm_num
  have ht : (tiny : EReal) = ((1 / 1024 : ℝ) : EReal) := by simp [tiny, Ideal.ofBits, Ideal.ieee, -EReal.coe_mul]; norm_num
  rw [mul_one, h, mean_coe, ht, two_eq, ← mul_assoc, ← EReal.coe_mul, mul_comm]
  norm_num
theorem out_at : val_main_v50 (F := Ideal) x0 x1 x2 x3 x4 x5 (ix2 r k) = errAll x0 x1 x2 x3 x4 x5 r k * tiny := by
  rw [← mean_factor, ← err_at]
  pointwise [val_main_v50, val_main_v49, val_main_v48, val_main_v47, val_main_v46, val_main_v45, val_main_v39, val_main_v38, val_main_cst_8, val_main_cst_13, val_main_cst_14, val_main_cst_15]

/-- The gradient of the normalised row. -/
def cot (k : Fin 1024) : EReal := errAll x0 x1 x2 x3 x4 x5 r k * tiny * x3 (ix1 k)

theorem cot_at : val_main_v58 (F := Ideal) x0 x1 x2 x3 x4 x5 (ix2 r k) = cot x0 x1 x2 x3 x4 x5 r k := by
  unfold cot
  rw [← out_at]
  pointwise [val_main_v58, val_main_v57, val_main_v30]
theorem via_at : val_main_v71 (F := Ideal) x0 x1 x2 x3 x4 x5 (ix1 r) = viaScale (sumRow x0 x1 x2 r) (cot x0 x1 x2 x3 x4 x5 r) := by
  unfold viaScale
  simp only [← cot_at, ← centered_at, ← spread_at, ← scale_at]
  pointwise [val_main_v71, val_main_v70, val_main_v69, val_main_v65, val_main_v62, val_main_v61, val_main_v60, val_main_v27, val_main_v26, val_main_v25, val_main_cst_7, val_main_cst_20, val_main_cst_22, val_main_cst_23]
  exact Fin.sum_univ_one (M := EReal) _
theorem chain_at : val_main_v83 (F := Ideal) x0 x1 x2 x3 x4 x5 (ix2 r j) = chain (sumRow x0 x1 x2 r) (cot x0 x1 x2 x3 x4 x5 r) j := by
  unfold chain
  rw [← via_at]
  simp only [← cot_at, ← centered_at', ← scale_at]
  pointwise [val_main_v83, val_main_v82, val_main_v81, val_main_v80, val_main_v79, val_main_v78, val_main_v77, val_main_v76, val_main_v75, val_main_v74, val_main_v73, val_main_v72, val_main_v68, val_main_v67, val_main_v66, val_main_v64, val_main_v63, val_main_v15, val_main_v14, val_main_cst_3, val_main_cst_21, val_main_cst_24, val_main_cst_25, val_main_cst_26]
  exact congrArg (_ + ·) (Fin.sum_univ_one (M := EReal) _)

/-! ## The rows of sums, the product's gradient and the loss -/

theorem row0_at : val_main_v59 (F := Ideal) x0 x1 x2 x3 x4 x5 (ix1 j) = ∑ r : Fin 8192, errAll x0 x1 x2 x3 x4 x5 r j * tiny * hat (sumRow x0 x1 x2 r) j := by
  simp only [← out_at, ← hat_at]
  pointwise [val_main_v59, val_main_v56, val_main_v55, val_main_v54, val_main_cst_18, val_main_cst_19]
  exact (Fin.sum_univ_one (M := EReal) _).trans (Finset.sum_congr (M := EReal) rfl fun r _ => mul_comm (G := EReal) _ _)
theorem row1_at : val_main_v53 (F := Ideal) x0 x1 x2 x3 x4 x5 (ix1 j) = ∑ r : Fin 8192, errAll x0 x1 x2 x3 x4 x5 r j * tiny := by
  simp only [← out_at]
  pointwise [val_main_v53, val_main_v52, val_main_v51, val_main_cst_16, val_main_cst_17]
  exact Fin.sum_univ_one (M := EReal) _
theorem row2_at : val_main_v91 (F := Ideal) x0 x1 x2 x3 x4 x5 (ix1 j) = ∑ r : Fin 8192, val_main_v83 (F := Ideal) x0 x1 x2 x3 x4 x5 (ix2 r j) * x1 (ix2 r j) := by
  pointwise [val_main_v91, val_main_v88, val_main_v87, val_main_v86, val_main_cst_27]

/-- Where the rows are finite, the reference's gradient is the kernel's. -/
theorem dz_at (hz : ∀ k, ∃ a : ℝ, sumRow x0 x1 x2 r k = a) (hd : ∀ k, ∃ a : ℝ, errAll x0 x1 x2 x3 x4 x5 r k * tiny * x3 (ix1 k) = a) :
    val_main_v83 (F := Ideal) x0 x1 x2 x3 x4 x5 (ix2 r j) = dzAll x0 x1 x2 x3 x4 x5 r j :=
  (chain_at x0 x1 x2 x3 x4 x5 r j).trans (back_eq_chain _ _ hz hd j).symm
theorem dy_at : val_main_v102 (F := Ideal) x0 x1 x2 x3 x4 x5 (ix2 r j) = val_main_v83 (F := Ideal) x0 x1 x2 x3 x4 x5 (ix2 r j) * (1 + x2 (ix2 0 j)) := by
  refine Eq.trans ?_ (mul_comm (G := EReal) _ _)
  pointwise [val_main_v102, val_main_v85, val_main_v84, val_main_v3, val_main_v2, val_main_cst_0]
theorem loss_at (i : S8x128.Idx) : val_main_v103 (F := Ideal) x0 x1 x2 x3 x4 x5 i
    = half * ∑ r : Fin 8192, Ideal.div (∑ k : Fin 1024, errAll x0 x1 x2 x3 x4 x5 r k * errAll x0 x1 x2 x3 x4 x5 r k) len := by
  simp only [← err_at]
  pointwise [val_main_v103, val_main_v44, val_main_v43, val_main_v42, val_main_v41, val_main_v40, val_main_v37, val_main_cst_9, val_main_cst_10, val_main_cst_11, val_main_cst_12]

end Cert.HeadRef

end
-- ==== Proof.HeadClaim.lean ====
/- The value claim of the last norm's gradient with the loss: where the arguments are finite, the kernel's four results are the reference's. -/
module

public import proofs.«01_k».proof.Defs
public import proofs.«01_k».proof.Proof.HeadRef
public import proofs.«01_k».proof.Proof.Gen.Pre_head_finite
public import proofs.«01_k».proof.Proof.Gen.RefHeadIdeal.Run
public import Idealize.ShloMosaic.Lib.Claim

@[expose] public section

set_option maxRecDepth 16384

noncomputable section

open Idealize.ShloMosaic Idealize.ShloMosaic.TcCoe Idealize.SL.Sem

namespace Cert.KernelHeadIdeal.Sums

open Cert.KernelHeadIdeal Cert.KernelHeadIdeal.Gen Cert.NormGrad Cert.RealBit Cert.HeadRef Cert.RefHeadIdeal.Read
open Cert.KernelMidIdeal.Sums (Rows sumRow AllReal sumRow_real hat_congr first_row)

section Terms
variable (tgt : FVec Ideal S512x1024 .f32) (b : FVec Ideal S1x1024 .f32) (x y : FVec Ideal S512x1024 .f32) (gt g : FVec Ideal S1x1024 .f32) (j : Fin 1024)
theorem blockTerm_0 : blockTerm tgt b x y gt g (ix2 0 j) = ∑ r : Fin 512, errAt tgt b x y gt g r j * tiny * hat (sumRow x y gt r) j := rfl
theorem blockTerm_1 : blockTerm tgt b x y gt g (ix2 1 j) = ∑ r : Fin 512, errAt tgt b x y gt g r j * tiny := rfl
theorem blockTerm_2 : blockTerm tgt b x y gt g (ix2 2 j) = ∑ r : Fin 512, dzAt tgt b x y gt g r j * y (ix2 r j) := rfl
theorem blockTerm_other (r : Fin 8) (h : 3 ≤ r.val) : blockTerm tgt b x y gt g (ix2 r j) = 0 := by
  unfold blockTerm
  rw [if_neg, if_neg, if_neg] <;> (dsimp only [ix2]; intro e; simp at e; omega)
end Terms

theorem half_eq : (half : EReal) = ((1 / 2 : ℝ) : EReal) := by
  simp [half, Ideal.ofBits, Ideal.ieee, -EReal.coe_mul]; norm_num
theorem tiny_eq : (tiny : EReal) = ((1 / 1024 : ℝ) : EReal) := by
  simp [tiny, Ideal.ofBits, Ideal.ieee, -EReal.coe_mul]; norm_num

variable (m : (ℓ : Loc nD τ sig) → Buf (Elt Ideal) ℓ)

/-- The rows the program meets at device `c` are finite. -/
structure Finite (c : Dev nD) : Prop where
  z (t : Fin 8192) (k : Fin 1024) : ∃ a : ℝ, sumRow (m ((c : Thread nD τ).loc main_arg0)) (m ((c : Thread nD τ).loc main_arg1)) (m ((c : Thread nD τ).loc main_arg2)) t k = a
  e (t : Fin 8192) (k : Fin 1024) : ∃ a : ℝ, errOf m c t k = a
  d (t : Fin 8192) (k : Fin 1024) : ∃ a : ℝ, errOf m c t k * tiny * (m ((c : Thread nD τ).loc main_arg3)) (ix1 k) = a

theorem finite (c : Dev nD) (h : Pre_KernelHeadIdeal_head_finite m) : Finite m c := by
  obtain ⟨h0, h1, h2, h3, h4, h5⟩ := h c
  have f0 : AllReal (m ((c : Thread nD τ).loc main_arg0)) := fun i => real_of_bit (congrFun h0 i)
  have f1 : AllReal (m ((c : Thread nD τ).loc main_arg1)) := fun i => real_of_bit (congrFun h1 i)
  have f2 : AllReal (m ((c : Thread nD τ).loc main_arg2)) := fun i => real_of_bit (congrFun h2 i)
  have f3 : AllReal (m ((c : Thread nD τ).loc main_arg3)) := fun i => real_of_bit (congrFun h3 i)
  have f4 : AllReal (m ((c : Thread nD τ).loc main_arg4)) := fun i => real_of_bit (congrFun h4 i)
  have f5 : AllReal (m ((c : Thread nD τ).loc main_arg5)) := fun i => real_of_bit (congrFun h5 i)
  have z := sumRow_real f0 f1 f2
  have e : ∀ (t : Fin 8192) (k : Fin 1024), ∃ a : ℝ, errOf m c t k = a := fun t k => by
    obtain ⟨u, hu⟩ := real_add (real_mul (hat_real _ (z t) k) (f3 (ix1 k))) (f4 (ix1 k))
    obtain ⟨v, hv⟩ := f5 (ix2 t k)
    exact ⟨u - v, (congrArg₂ (· - ·) hu hv).trans (EReal.coe_sub u v).symm⟩
  exact ⟨z, e, fun t k => real_mul (real_mul (e t k) ⟨_, tiny_eq⟩) (f3 _)⟩

/-! ## The kernel's arrays are the reference's -/

section
variable (c : Dev nD) (F : Finite m c)
include F

theorem ref_dz : (dats m 0 c).arrAt 6 (cfgs 0).N = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final_dz]
  funext i
  obtain ⟨r, j, rfl⟩ : ∃ (r : Fin 8192) (j : Fin 1024), i = ix2 r j := ⟨i 0, i 1, eq_ix2 i⟩
  exact (dz_at _ _ _ _ _ _ r j (F.z r) (F.d r)).symm
theorem ref_dy : (dats m 0 c).arrAt 8 (cfgs 0).N = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final_dy]
  funext i
  obtain ⟨r, j, rfl⟩ : ∃ (r : Fin 8192) (j : Fin 1024), i = ix2 r j := ⟨i 0, i 1, eq_ix2 i⟩
  refine ((dy_at _ _ _ _ _ _ r j).trans ?_).symm
  rw [dz_at _ _ _ _ _ _ r j (F.z r) (F.d r)]
  rfl

/-! The loss: a sum over all rows, taken block by block. -/

omit F in
/-- Half the sum of the rows' means, with the half and the mean's factor taken inside. -/
theorem half_sum {L : Nat} (q : Fin L → EReal) (h : ∀ t, ∃ a : ℝ, q t = a) : half * ∑ t, Ideal.div (q t) len = ∑ t, half * (q t * tiny) := by
  choose a ha using h
  simp only [ha, mean_coe, half_eq, tiny_eq, ← EReal.coe_mul]
  rw [sum_coe, sum_coe, ← EReal.coe_mul, Finset.mul_sum]
omit F in
/-- The half over the sum of a block's rows. -/
theorem half_block {L : Nat} (q : Fin L → EReal) (h : ∀ t, ∃ a : ℝ, q t = a) : half * ∑ t, q t * tiny = ∑ t, half * (q t * tiny) := by
  choose a ha using h
  simp only [ha, half_eq, tiny_eq, ← EReal.coe_mul]
  rw [sum_coe, sum_coe, ← EReal.coe_mul, Finset.mul_sum]

/-- A row's sum of squared errors. -/
theorem square_real (t : Fin 8192) : ∃ a : ℝ, ∑ k, errOf m c t k * errOf m c t k = a := by
  choose a ha using F.e t
  simp only [ha, ← EReal.coe_mul]
  exact ⟨_, sum_coe _ _⟩

theorem ref_loss : (dats m 0 c).arrAt 9 (cfgs 0).N = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final_loss]
  funext i
  refine Eq.trans ?_ ((loss_at _ _ _ _ _ _ i).trans (half_sum _ (square_real m c F))).symm
  have hb : ∀ t : Fin cfg0.N, lossTerm (iblk m c 0 t) (iblk m c 1 t) (iblk m c 2 t) (iblk m c 3 t) (iblk m c 4 t) (iblk m c 5 t) = ∑ r : Fin 512, half * ((∑ k, errOf m c (whole t r) k * errOf m c (whole t r) k) * tiny) := fun t => by
    unfold lossTerm
    simp only [err_block]
    exact half_block _ fun r => square_real m c F _
  refine Eq.trans (Fin.sum_fin_congr fun t => hb t) ?_
  refine Fin.sum_mul_add_congr (M := EReal) (L := 8192) (S := cfg0.N) (n := 512) (fun s k hl => ?_) rfl
  rfl

/-! The rows of the block of sums. -/

omit F in
abbrev termAt (t : Fin cfg0.N) : FVec Ideal S8x1024 .f32 := blockTerm (iblk m c 0 t) (iblk m c 1 t) (iblk m c 2 t) (iblk m c 3 t) (iblk m c 4 t) (iblk m c 5 t)
omit F in
theorem row0 (j : Fin 1024) : ∑ t : Fin cfg0.N, termAt m c t (ix2 0 j)
    = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix1 j) := by
  refine Eq.trans ?_ (row0_at _ _ _ _ _ _ j).symm
  refine Eq.trans (Fin.sum_fin_congr fun p => blockTerm_0 _ _ _ _ _ _ j) ?_
  refine Fin.sum_mul_add_congr (M := EReal) (L := 8192) (S := cfg0.N) (n := 512) (fun s k hl => ?_) rfl
  exact congrArg₂ (· * ·) (congrArg (· * tiny) (err_block m c s k j)) (hat_congr fun x => sum_block m c s k x)
omit F in
theorem row1 (j : Fin 1024) : ∑ t : Fin cfg0.N, termAt m c t (ix2 1 j)
    = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix1 j) := by
  refine Eq.trans ?_ (row1_at _ _ _ _ _ _ j).symm
  refine Eq.trans (Fin.sum_fin_congr fun p => blockTerm_1 _ _ _ _ _ _ j) ?_
  refine Fin.sum_mul_add_congr (M := EReal) (L := 8192) (S := cfg0.N) (n := 512) (fun s k hl => ?_) rfl
  exact congrArg (· * tiny) (err_block m c s k j)
theorem row2 (j : Fin 1024) : ∑ t : Fin cfg0.N, termAt m c t (ix2 2 j)
    = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix1 j) := by
  refine Eq.trans ?_ (row2_at _ _ _ _ _ _ j).symm
  refine Eq.trans (Fin.sum_fin_congr fun p => blockTerm_2 _ _ _ _ _ _ j) ?_
  refine Fin.sum_mul_add_congr (M := EReal) (L := 8192) (S := cfg0.N) (n := 512) (fun s k hl => ?_) rfl
  exact congrArg₂ (· * ·) ((dz_block m c s k j).trans (dz_at _ _ _ _ _ _ _ j (F.z _) (F.d _)).symm) (y_block m c s k j)

theorem ref_sums : (dats m 0 c).arrAt 7 (cfgs 0).N = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final_sums]
  symm
  funext y
  unfold val_main_v101
  concat_tiles i h
  case piece0 =>
    obtain ⟨r, j, rfl⟩ : ∃ (r : Fin 8) (j : Fin 1024), y = ix2 r j := ⟨y 0, y 1, eq_ix2 y⟩
    obtain rfl : r = 0 := Fin.ext h
    rw [first_row i j h1]
    refine Eq.trans ?_ (row0 m c j).symm
    pointwise [val_main_v93]
  case piece1 =>
    obtain ⟨r, j, rfl⟩ : ∃ (r : Fin 8) (j : Fin 1024), y = ix2 r j := ⟨y 0, y 1, eq_ix2 y⟩
    obtain rfl : r = 1 := Fin.ext h
    rw [first_row i j h1]
    refine Eq.trans ?_ (row1 m c j).symm
    pointwise [val_main_v94]
  case piece2 =>
    obtain ⟨r, j, rfl⟩ : ∃ (r : Fin 8) (j : Fin 1024), y = ix2 r j := ⟨y 0, y 1, eq_ix2 y⟩
    obtain rfl : r = 2 := Fin.ext h
    rw [first_row i j h1]
    refine Eq.trans ?_ (row2 m c F j).symm
    pointwise [val_main_v95]
  all_goals
    obtain ⟨r, j, rfl⟩ : ∃ (r : Fin 8) (j : Fin 1024), y = ix2 r j := ⟨y 0, y 1, eq_ix2 y⟩
    rw [first_row i j h1]
    refine Eq.trans ?_ ((Fin.sum_fin_congr fun p => blockTerm_other _ _ _ _ _ _ j r (le_of_le_of_eq (by decide) h.symm)).trans (Finset.sum_const_zero (M := EReal))).symm
    pointwise [val_main_v96, val_main_v97, val_main_v98, val_main_v99, val_main_v100, val_main_v92, val_main_cst_29]

end

end Cert.KernelHeadIdeal.Sums

namespace Cert.Proof

open Cert.KernelHeadIdeal.Sums Cert.RefHeadIdeal.Read

theorem head_value : Cert.algebraic_KernelHeadIdeal_RefHeadIdeal_pre_head_finite := by
  pair_intro
  · run_from Cert.KernelHeadIdeal.Gen.run_main m g
  · have F := fun c => finite m c hpre
    have hag := hagree
    clear hagree
    run_from Cert.RefHeadIdeal.Value.run m' g'
    all_goals obtain ⟨h0, h1, h2, h3, h4, h5⟩ := hag c
    · refine (val_main_v83_eq _ _).trans ?_
      rw [h0, h1, h2, h3, h4, h5]
      exact (ref_dz m c (F c)).symm
    · refine (val_main_v101_eq _ _).trans ?_
      rw [h0, h1, h2, h3, h4, h5]
      exact (ref_sums m c (F c)).symm
    · refine (val_main_v102_eq _ _).trans ?_
      rw [h0, h1, h2, h3, h4, h5]
      exact (ref_dy m c (F c)).symm
    · refine (val_main_v103_eq _ _).trans ?_
      rw [h0, h1, h2, h3, h4, h5]
      exact (ref_loss m c (F c)).symm

end Cert.Proof

end
-- ==== Proof.AtfRef.lean ====
/- The plain banded attention, entry by entry, over the same whole arrays as its gradient's. -/
module

public import proofs.«01_k».proof.Proof.AttRef
public import proofs.«01_k».proof.Proof.Gen.RefAtfIdeal.Read

@[expose] public section

set_option maxRecDepth 16384

noncomputable section

open Idealize.ShloMosaic Idealize.ShloMosaic.TcCoe Cert.AttDense

namespace Cert.AttDense

/-- The attention's output, and its arrays where no cotangent is given. -/
def Att.out (A : Att) (h : Fin 16) (t : Fin 8192) (d : Fin 64) : EReal := ∑ j, A.prob h t j * A.v j (col h d)
def forward (x0 : (⟨Cert.RefAtfIdeal.S8192x3072, .bf16⟩ : BufTy).Contents (Elt Ideal)) (x1 : (⟨Cert.RefAtfIdeal.S16x257, .f32⟩ : BufTy).Contents (Elt Ideal)) : Att :=
  arrays x0 (fun _ => 0) x1
end Cert.AttDense

namespace Cert.RefAtfIdeal.Read

open Cert.RefAttIdeal.Read (chunk_number chunks_near bot_word zero_word select_bit difference)

variable (x0 : (⟨S8192x3072, .bf16⟩ : BufTy).Contents (Elt Ideal)) (x1 : (⟨S16x257, .f32⟩ : BufTy).Contents (Elt Ideal))
variable (h : Fin 16) (t j : Fin 8192) (d : Fin 64)

theorem band_bit : val_main_v34 (F := Ideal) (ix2 t j) = if j.val / 64 ≤ t.val / 64 ∧ t.val / 64 ≤ j.val / 64 + 8 then 1#1 else 0#1 := by
  pointwise [val_main_v34, val_main_v33, val_main_v32, val_main_v31, val_main_v30, val_main_v29, val_main_v28, val_main_v27, val_main_v26, val_main_v25, val_main_v13, val_main_v12, val_main_c_4, val_main_c_5, val_main_c_6, val_main_c_7]
  rw [chunk_number, chunk_number]
  exact chunks_near ⟨t.val / 64, by omega⟩ ⟨j.val / 64, by omega⟩
theorem q_at : val_main_v36 (F := Ideal) x0 (ix3 h t d) = (forward x0 x1).q t (col h d) * eighth := by
  pointwise [val_main_v36, val_main_v35, val_main_cst, val_main_v3, val_main_v2, val_main_v1, val_main_v0]
  unfold forward arrays col
  congr 3; apply Fin.ext; dsimp only; omega
theorem k_at : val_main_v7 (F := Ideal) x0 (ix3 h j d) = (forward x0 x1).k j (col h d) := by
  pointwise [val_main_v7, val_main_v6, val_main_v5, val_main_v4]
  unfold forward arrays col
  congr 2; apply Fin.ext; dsimp only; omega
theorem v_at : val_main_v11 (F := Ideal) x0 (ix3 h j d) = (forward x0 x1).v j (col h d) := by
  pointwise [val_main_v11, val_main_v10, val_main_v9, val_main_v8]
  unfold forward arrays col
  congr 2; apply Fin.ext; dsimp only; omega
theorem taken_at : val_main_v24 (F := Ideal) x1 (ix3 h t j) = x1 (ix2 h ⟨min (8191 + t.val - j.val - 8063) 256, by omega⟩) := by
  unfold val_main_v24
  refine (Cert.AttGather.gather2 (by decide) _ _ _ h t j).trans ?_
  refine congrArg x1 (congrArg (ix2 h) (Fin.ext ?_))
  refine Eq.trans ?_ (Cert.AttGather.position_at ⟨8191 + t.val - j.val, by omega⟩)
  rw [← difference]
  refine congrArg (fun w : BitVec 32 => min w.toInt.toNat 256) ?_
  pointwise [val_main_v23, val_main_v22, val_main_v21, val_main_v20, val_main_v19, val_main_v18, val_main_v17, val_main_v16, val_main_v15, val_main_v14, val_main_call0_v4, val_main_call0_v3, val_main_call0_v2, val_main_call0_v1, val_main_call0_v0, val_main_v13, val_main_v12, val_main_c, val_main_c_0, val_main_c_1, val_main_c_2, val_main_c_3]
  rfl
/-- Inside the band the tables' entry is the clipped distance's. -/
theorem bias_at (hb : band t j) : val_main_v24 (F := Ideal) x1 (ix3 h t j) = (forward x0 x1).bias h t j := by
  rw [taken_at]
  unfold band at hb
  unfold Att.bias forward arrays
  dsimp only
  split_ifs with h1 h2 h3 h4
  · refine congrArg x1 (congrArg (ix2 h) (Fin.ext ?_)); dsimp only [tileRel]; omega
  · exact absurd (show tileBand _ _ _ by unfold tileBand; dsimp only; omega) h2
  · refine congrArg x1 (congrArg (ix2 h) (Fin.ext ?_)); dsimp only [tileRel]; omega
  · exact absurd (show tileBand _ _ _ by unfold tileBand; dsimp only; omega) h4
  · refine congrArg x1 (congrArg (ix2 h) (Fin.ext ?_)); dsimp only; omega
theorem dot_at : val_main_v37 (F := Ideal) x0 (ix3 h t j) = (forward x0 x1).dot h t j := by
  pointwise [val_main_v37]
  exact Finset.sum_congr rfl fun d _ => congrArg₂ (· * ·) (q_at x0 x1 h t d) (k_at x0 x1 h j d)
theorem score_at : val_main_v39 (F := Ideal) x0 x1 (ix3 h t j) = (forward x0 x1).score h t j := by
  have e : val_main_call1_v1 (F := Ideal) (ix3 h t j) = val_main_v34 (F := Ideal) (ix2 t j) := by
    pointwise [val_main_call1_v1]
  rw [val_main_v39_apply, e, band_bit, select_bit]
  unfold Att.score
  by_cases hb : band t j
  · rw [if_pos (show _ ∧ _ from hb), if_pos hb]
    exact congrArg₂ (· + ·) (dot_at x0 x1 h t j) (bias_at x0 x1 h t j hb)
  · rw [if_neg (show ¬(_ ∧ _) from hb), if_neg hb]
    pointwise [val_main_call1_v2, val_main_call1_v0, val_main_cst_8]
    exact bot_word
theorem top_at : val_main_v42 (F := Ideal) x0 x1 (ix2 h t) = (forward x0 x1).top h t := by
  have e : val_main_v40 (F := Ideal) x0 x1 (ix2 h t) = (forward x0 x1).top h t := by
    unfold val_main_v40 val_main_cst_9 Att.top
    rw [hostReduce_maximumf_eq_multiReduction (h' := by decide) (hφ := by decide) (hacc := by decide)]
    pointwise
    rw [bot_word]
    exact congrArg (Finset.sup Finset.univ) (funext fun j => score_at x0 x1 h t j)
  rw [val_main_v42_apply, e]
  pointwise [val_main_v41, val_main_cst_10]
  rw [bot_word]
  exact bot_sup_eq _
theorem ex_at : val_main_v46 (F := Ideal) x0 x1 (ix3 h t j) = (forward x0 x1).ex h t j := by
  pointwise [val_main_v46, val_main_v45, val_main_v44, val_main_v43]
  rw [score_at, top_at]
  rfl
theorem tot_at : val_main_v47 (F := Ideal) x0 x1 (ix2 h t) = (forward x0 x1).tot h t := by
  pointwise [val_main_v47, val_main_cst_11]
  exact Finset.sum_congr rfl fun j _ => ex_at x0 x1 h t j

variable (F : (forward x0 x1).Finite)
include F

theorem p_at : val_main_v50 (F := Ideal) x0 x1 (ix3 h t j) = (forward x0 x1).prob h t j := by
  pointwise [val_main_v50, val_main_v49, val_main_v48]
  rw [ex_at, tot_at]
  exact Att.prob_div _ h F t j
theorem ref_out : val_main_v54 (F := Ideal) x0 x1 = cols (forward x0 x1).out := by
  funext i; rw [eq_ix2 i]
  pointwise [val_main_v54, val_main_v53, val_main_v52, val_main_v51]
  exact Finset.sum_congr rfl fun j _ => congrArg₂ (· * ·) (p_at x0 x1 _ _ j F) (v_at x0 x1 _ j _)
end Cert.RefAtfIdeal.Read
-- ==== Proof.AtfKernel.lean ====
/- The attention's kernel, block by block: the softmax of a window of three groups of keys is the banded softmax of the whole row. -/
module

public import proofs.«01_k».proof.Proof.AtfRef
public import proofs.«01_k».proof.Proof.AttKernel
public import proofs.«01_k».proof.Proof.Gen.KernelAtfIdeal.Frame

@[expose] public section

set_option maxRecDepth 16384

noncomputable section

open Idealize.ShloMosaic Idealize.ShloMosaic.TcCoe Idealize.SL.Sem Cert.AttDense

namespace Cert.KernelAtfIdeal.Forward

open Cert.KernelAtfIdeal Cert.KernelAtfIdeal.Gen
open Cert.KernelAttIdeal.Frame (lane head hrow hlane low_bit high_bit bit_number one_eighth key_bit biasRow select_bit half_sum lane_hlane hlane_half hlane_of hd_lane)

theorem mask_bot : (Named.named κ "mask" 4048155338#32 : Ideal .f32) = ⊥ := IdealRules.named_const.ideal_named_scalar _ _ _ _ rfl

/-- The lanes' numbers, and the number 1 on a head's lanes, 0 on the other's. -/
abbrev lanes : IVec S1x128 32 := iota .tc S1x128 32 [1] iota_S1x128_d1_w32
def on (a : Fin 2) (x : Fin 128) : EReal := if x.val / 64 = a.val then 1 else 0

section Block
variable (i : grid0.Coords) (q k0 k1 k2 v0 v1 v2 : Vec Ideal S256x128 .bf16) (R : Fin 2 → Vec Ideal S256x768 .f32)

abbrev keys : FVec Ideal S768x128 .bf16 := k0_pay5 k0 k1 k2
abbrev vals : FVec Ideal S768x128 .bf16 := k0_pay6 v0 v1 v2
/-- A head's scores against the window, and their exponentials less the row's greatest. -/
def sc (a : Fin 2) (r : Fin 256) (w : Fin 768) : EReal :=
  (∑ x : Fin 128, q (ix2 r x) * (on a x * eighth) * keys k0 k1 k2 (ix2 w x)) + R a (ix2 r w) + k0_pay7 (F := Ideal) i (ix2 0 w)
def e (a : Fin 2) (r : Fin 256) (w : Fin 768) : EReal := Ideal.exp (sc i q k0 k1 k2 R a r w - Finset.univ.sup (sc i q k0 k1 k2 R a r))
/-- A head's part of the block of the output. -/
def part (a : Fin 2) (r : Fin 256) (x : Fin 128) : EReal :=
  (∑ w, e i q k0 k1 k2 R a r w * vals v0 v1 v2 (ix2 w x)) * (on a x * Ideal.div 1 (∑ w, e i q k0 k1 k2 R a r w))

theorem first_part (r : Fin 256) (x : Fin 128) :
    k0_pay12 (keys k0 k1 k2) (vals v0 v1 v2) (k0_pay7 i) (k0_pay8 q) k0_pay9 k0_pay10 (R 0) (ix2 r x) = part i q k0 k1 k2 v0 v1 v2 R 0 r x := by
  have hb : Ideal.ofBits .f32 4286578688#32 = ⊥ := by simp [Ideal.ofBits, Ideal.ieee]
  pointwise [k0_pay12, k0_pay8, k0_pay9, k0_pay10]
  simp only [low_bit, bit_number, hb, zero_add]
  rfl
theorem second_scores (r : Fin 256) (w : Fin 768) :
    k0_pay14 (keys k0 k1 k2) (k0_pay7 i) (k0_pay8 q) lanes k0_pay11 (R 1) (ix2 r w) = sc i q k0 k1 k2 R 1 r w := by
  pointwise [k0_pay14, k0_pay13, k0_pay8, k0_pay11]
  simp only [high_bit, bit_number]
  rfl
theorem second_top (r : Fin 256) (w : Fin 768) :
    k0_pay15 (keys k0 k1 k2) (k0_pay7 i) (k0_pay8 q) lanes k0_pay11 (R 1) (ix2 r w) = Finset.univ.sup (sc i q k0 k1 k2 R 1 r) := by
  have hb : Ideal.ofBits .f32 4286578688#32 = ⊥ := by simp [Ideal.ofBits, Ideal.ieee]
  pointwise [k0_pay15]
  rw [hb]
  exact congrArg (Finset.sup Finset.univ) (funext fun w => second_scores i q k0 k1 k2 R r w)
/-- The block of the output is the two heads' parts. -/
def block : FVec Ideal S256x128 .bf16 :=
  k0_pay1 (vals v0 v1 v2) (k0_pay12 (keys k0 k1 k2) (vals v0 v1 v2) (k0_pay7 i) (k0_pay8 q) k0_pay9 k0_pay10 (R 0)) (k0_pay13 lanes k0_pay11)
    (k0_pay14 (keys k0 k1 k2) (k0_pay7 i) (k0_pay8 q) lanes k0_pay11 (R 1)) (k0_pay15 (keys k0 k1 k2) (k0_pay7 i) (k0_pay8 q) lanes k0_pay11 (R 1))
theorem block_at (r : Fin 256) (x : Fin 128) :
    block i q k0 k1 k2 v0 v1 v2 R (ix2 r x) = part i q k0 k1 k2 v0 v1 v2 R 0 r x + part i q k0 k1 k2 v0 v1 v2 R 1 r x := by
  unfold block
  pointwise [k0_pay1]
  simp only [first_part, second_scores, second_top]
  pointwise [k0_pay13, k0_pay11]
  simp only [high_bit, bit_number]
  rfl
end Block

section Window
variable {A : Att} {p : Fin 8} {g : Fin 32} {i : grid0.Coords} {q k0 k1 k2 v0 v1 v2 : Vec Ideal S256x128 .bf16} {R : Fin 2 → Vec Ideal S256x768 .f32}
/-- The blocks of group `g` of pair `p` hold what the whole arrays have there. -/
structure Holds (A : Att) (p : Fin 8) (g : Fin 32) (i : grid0.Coords) (q k0 k1 k2 v0 v1 v2 : Vec Ideal S256x128 .bf16) (R : Fin 2 → Vec Ideal S256x768 .f32) : Prop where
  i : (i 1).val = g.val
  q : ∀ r x, q (ix2 r x) = A.q (Cert.KernelAttIdeal.Frame.frame g r) (lane p x)
  k : ∀ w x (h : 512 ≤ 256 * g.val + w.val), keys k0 k1 k2 (ix2 w x) = A.k ⟨256 * g.val + w.val - 512, by omega⟩ (lane p x)
  v : ∀ w x (h : 512 ≤ 256 * g.val + w.val), vals v0 v1 v2 (ix2 w x) = A.v ⟨256 * g.val + w.val - 512, by omega⟩ (lane p x)
  rows : ∀ a r w, R a (ix2 r w) = biasRow (A.T (head p a)) (A.C (head p a)) r w
variable (H : Holds A p g i q k0 k1 k2 v0 v1 v2 R)
include H

/-- The same blocks as the gradient's kernel reads them. -/
theorem key_bias (w : Fin 768) : (k0_pay7 (F := Ideal) i (ix2 0 w) : EReal) = if 512 ≤ 256 * g.val + w.val then 0 else ⊥ := by
  pointwise [k0_pay7]
  rw [mask_bot, H.i, key_bit]
  exact select_bit _ _
theorem dot_at (a : Fin 2) (r : Fin 256) (w : Fin 768) (h : 512 ≤ 256 * g.val + w.val) :
    ∑ x : Fin 128, q (ix2 r x) * (on a x * eighth) * keys k0 k1 k2 (ix2 w x) = A.dot (head p a) (Cert.KernelAttIdeal.Frame.frame g r) ⟨256 * g.val + w.val - 512, by omega⟩ := by
  rw [half_sum _ a fun x hx => by unfold on; rw [one_eighth, if_neg hx, zero_mul]]
  unfold Att.dot
  refine Finset.sum_congr rfl fun d _ => ?_
  unfold on
  rw [one_eighth, if_pos (hlane_half a d), H.q, H.k _ _ h, lane_hlane]
theorem sc_at (a : Fin 2) (r : Fin 256) (w : Fin 768) : sc i q k0 k1 k2 R a r w = win g ⊥ (A.score (head p a) (Cert.KernelAttIdeal.Frame.frame g r)) w := by
  unfold sc
  rw [H.rows, key_bias H]
  by_cases h : 512 ≤ 256 * g.val + w.val
  · rw [dot_at H a r w h, if_pos h, add_zero]
    unfold win
    rw [dif_pos h]
    exact Cert.KernelAttIdeal.Frame.score_row A p g a r w h
  · rw [if_neg h]
    unfold win
    rw [dif_neg h]
    exact EReal.add_bot _
theorem frame_group (r : Fin 256) : (Cert.KernelAttIdeal.Frame.frame g r).val / 256 = g.val := by unfold Cert.KernelAttIdeal.Frame.frame; dsimp only; omega
theorem top_at (a : Fin 2) (r : Fin 256) : Finset.univ.sup (sc i q k0 k1 k2 R a r) = A.top (head p a) (Cert.KernelAttIdeal.Frame.frame g r) := by
  unfold Att.top
  rw [← sup_win (g := g) _ fun j hn => by unfold Att.score; exact if_neg (band_window (frame_group H r) hn)]
  exact congrArg _ (funext fun w => sc_at H a r w)
theorem e_at (a : Fin 2) (r : Fin 256) (w : Fin 768) : e i q k0 k1 k2 R a r w = win g 0 (A.ex (head p a) (Cert.KernelAttIdeal.Frame.frame g r)) w := by
  unfold e
  rw [sc_at H, top_at H]
  unfold win
  split_ifs with h
  · rfl
  · rw [EReal.bot_sub]; rfl
theorem tot_at (a : Fin 2) (r : Fin 256) : ∑ w, e i q k0 k1 k2 R a r w = A.tot (head p a) (Cert.KernelAttIdeal.Frame.frame g r) := by
  rw [Finset.sum_congr rfl fun w _ => e_at H a r w]
  exact sum_win (g := g) _ fun j hn => Att.ex_out A _ (band_window (frame_group H r) hn)
theorem weighted (a : Fin 2) (r : Fin 256) (x : Fin 128) :
    ∑ w, e i q k0 k1 k2 R a r w * vals v0 v1 v2 (ix2 w x) = ∑ j, A.ex (head p a) (Cert.KernelAttIdeal.Frame.frame g r) j * A.v j (lane p x) := by
  rw [← sum_win (g := g) (fun j => A.ex (head p a) (Cert.KernelAttIdeal.Frame.frame g r) j * A.v j (lane p x)) fun j hn => by
    rw [Att.ex_out A _ (band_window (frame_group H r) hn), zero_mul]]
  refine Finset.sum_congr rfl fun w _ => ?_
  rw [e_at H]
  unfold win
  split_ifs with h
  · rw [H.v _ _ h]
  · exact zero_mul _

/- The weights of a row scaled after the sum are the weights scaled before it: the row's sum of exponentials is a positive real number. -/
omit H in
theorem scaled (F : A.Finite) (h : Fin 16) (t : Fin 8192) (d : Fin 64) :
    (∑ j, A.ex h t j * A.v j (col h d)) * Ideal.div 1 (A.tot h t) = A.out h t d := by
  obtain ⟨l, hl, hp⟩ := Att.tot_real A h F t
  have hd : Ideal.div 1 (A.tot h t) = ((1 / l : ℝ) : EReal) := by
    rw [hl, Ideal.div_coe hp.ne', one_mul]
  unfold Att.out Att.prob
  rw [hd, mul_comm (G := EReal), Att.mul_sum_real _ _ (by positivity)]
  refine Finset.sum_congr rfl fun j _ => ?_
  rw [mul_comm (G := EReal) (A.ex h t j) ((1 / l : ℝ) : EReal), mul_assoc]
theorem block_out (F : A.Finite) (a : Fin 2) (r : Fin 256) (d : Fin 64) :
    block i q k0 k1 k2 v0 v1 v2 R (ix2 r (hlane a d)) = A.out (head p a) (Cert.KernelAttIdeal.Frame.frame g r) d := by
  have own : part i q k0 k1 k2 v0 v1 v2 R a r (hlane a d) = A.out (head p a) (Cert.KernelAttIdeal.Frame.frame g r) d := by
    unfold part on
    rw [weighted H, tot_at H, if_pos (hlane_half a d), one_mul, lane_hlane]
    exact scaled F _ _ _
  have other : ∀ b : Fin 2, a.val ≠ b.val → part i q k0 k1 k2 v0 v1 v2 R b r (hlane a d) = 0 := by
    intro b hb
    unfold part on
    rw [hlane_half, if_neg hb, zero_mul, mul_zero]
  rw [block_at]
  match a with
  | ⟨0, _⟩ => rw [other 1 Nat.zero_ne_one, add_zero]; exact own
  | ⟨1, _⟩ => rw [other 0 Nat.one_ne_zero, zero_add]; exact own
end Window

/-! ## A point's stores -/

section Points
variable (c : Dev nD) (i : grid0.Coords)
  {a1 : Memref sig .tc .vmem S256x128 .bf16} {h1 : a1.IsWhole} {a2 : Memref sig .tc .vmem S256x128 .bf16} {h2 : a2.IsWhole}
  {a3 : Memref sig .tc .vmem S256x128 .bf16} {h3 : a3.IsWhole} {a4 : Memref sig .tc .vmem S256x128 .bf16} {h4 : a4.IsWhole}
  {a5 : Memref sig .tc .vmem S256x128 .bf16} {h5 : a5.IsWhole} {a6 : Memref sig .tc .vmem S256x128 .bf16} {h6 : a6.IsWhole}
  {a7 : Memref sig .tc .vmem S256x128 .bf16} {h7 : a7.IsWhole} {a8 : Memref sig .tc .vmem S2x2x128x128 .f32} {h8 : a8.IsWhole}
  {a9 : Memref sig .tc .vmem S2x1x128 .f32} {h9 : a9.IsWhole} {a10 : Memref sig .tc .vmem S256x128 .bf16} {h10 : a10.IsWhole}
  {a11 : Memref sig .tc .vmem S512x768 .f32} {h11 : a11.IsWhole}
  (q k0 k1 k2 v0 v1 v2 : Vec Ideal S256x128 .bf16) (x7 : Vec Ideal S2x2x128x128 .f32) (x8 : Vec Ideal S2x1x128 .f32) (B : Vec Ideal S512x768 .f32)

/-- A head's rows of a pair's. -/
def rowsAt (B : Vec Ideal S512x768 .f32) (a : Fin 2) : Vec Ideal S256x768 .f32 := fun j => B (ix2 (hrow a (j 0)) (j 1))

theorem rowsAt_at (B : Vec Ideal S512x768 .f32) (a : Fin 2) (r : Fin 256) (w : Fin 768) : rowsAt B a (ix2 r w) = B (ix2 (hrow a r) w) := rfl

theorem left_rows (hc : cond0_0 i) :
    sout0_A_0 (F := Ideal) c i a1 h1 a2 h2 a3 h3 a4 h4 a5 h5 a6 h6 a7 h7 a8 h8 a9 h9 a10 h10 a11 h11 hc q k0 k1 k2 v0 v1 v2 x7 x8
      = Cert.KernelAttIdeal.Frame.rowsOf x7 x8 := by
  unfold sout0_A_0
  frame_open
  rw [View.read_writes_junk_eq_canon]
  show View.canon (Cert.KernelAttIdeal.Frame.rowStores (a8.view.read (Elt Ideal) (h8.unread x7)) (a9.view.read (Elt Ideal) (h9.unread x8))) = _
  rw [Memref.IsWhole.read_unread, Memref.IsWhole.read_unread]
theorem ld_first (B : Vec Ideal S512x768 .f32) : View.ld B (Rect.unit ![0, 0] ![256, 768] inb_S512x768_S256x768_0_0) = rowsAt B 0 := by
  funext j
  rw [View.ld_apply]
  unfold rowsAt
  congr 1; funext d; fin_cases d <;> exact Fin.ext (by simp [Rect.idx_unit_val, hrow, ix2])
theorem ld_second (B : Vec Ideal S512x768 .f32) : View.ld B (Rect.unit ![256, 0] ![256, 768] inb_S512x768_S256x768_256_0) = rowsAt B 1 := by
  funext j
  rw [View.ld_apply]
  unfold rowsAt
  congr 1; funext d; fin_cases d <;> exact Fin.ext (by simp [Rect.idx_unit_val, hrow, ix2])
theorem left_B (hc : ¬cond0_0 i) :
    out0_B_9 (F := Ideal) c i a1 h1 a2 h2 a3 h3 a4 h4 a5 h5 a6 h6 a7 h7 a8 h8 a9 h9 a10 h10 a11 h11 hc q k0 k1 k2 v0 v1 v2 x7 x8 B
      = block i q k0 k1 k2 v0 v1 v2 (rowsAt B) := by
  unfold out0_B_9
  frame_open
  frame_out
  rw [ld_first, ld_second]
  rfl
theorem left_A (hc : cond0_0 i) :
    out0_A_9 (F := Ideal) c i a1 h1 a2 h2 a3 h3 a4 h4 a5 h5 a6 h6 a7 h7 a8 h8 a9 h9 a10 h10 a11 h11 hc q k0 k1 k2 v0 v1 v2 x7 x8
      = block i q k0 k1 k2 v0 v1 v2 (rowsAt (Cert.KernelAttIdeal.Frame.rowsOf x7 x8)) := by
  unfold out0_A_9
  frame_open
  frame_out
  have e : ∀ (L : List (View.Piece (Elt Ideal) S512x768 .f32)) (R : Rect S512x768), a11.view.readCov L R.toLoadRect = View.ld (View.canon L) R := fun L R => by
    show View.ld (a11.view.read (Elt Ideal) (a11.view.writes (Elt Ideal) a11.view.junk _)) R = _
    rw [View.read_writes_junk_eq_canon]
  rw [e, e, ld_first, ld_second]
  rfl
end Points

/-! ## The points' blocks -/

variable (m : (ℓ : Loc nD τ sig) → Buf (Elt Ideal) ℓ) (c : Dev nD)

/-- The device's arrays. -/
def dense : Att := forward (m ((c : Thread nD τ).loc main_arg0)) (m ((c : Thread nD τ).loc main_arg1))
/-- The point of a pair of heads and a group of queries. -/
def pt (p : Fin 8) (g : Fin 32) : Fin cfg0.N := ⟨32 * p.val + g.val, lt_of_lt_of_eq (by omega) N_0.symm⟩
theorem point_of (t : Fin cfg0.N) : ∃ p g, t = pt p g := by
  have := lt_of_lt_of_eq t.isLt N_0
  exact ⟨⟨t.val / 32, by omega⟩, ⟨t.val % 32, by omega⟩, Fin.ext (by simp only [pt]; omega)⟩

theorem V_tiles (h : Fin 16) (n : Fin 2) (r s : Fin 128) : (V m c main_v36 : FVec Ideal S16x2x128x128 .f32) (ix4 h n r s) = (dense m c).T h n r s := by
  have e : (V m c main_v36 : FVec Ideal S16x2x128x128 .f32) = Cert.KernelAttIdeal.Frame.nearTables (m ((c : Thread nD τ).loc main_arg1)) := by
    sl_kernel_rfl
  exact (congrFun e _).trans (Cert.KernelAttIdeal.Frame.nearTables_at (m ((c : Thread nD τ).loc main_arg0)) (fun _ => 0) _ h n r s)
theorem V_far (h : Fin 16) (s : Fin 128) : (V m c main_v40 : FVec Ideal S16x1x128 .f32) (ix3 h 0 s) = m ((c : Thread nD τ).loc main_arg1) (ix2 h 256) := by
  unfold V
  simp only [hostOps0, hostOps0_1, hostOps0_2, hostOps0_3, hostOps0_4, List.flatten_cons, List.flatten_nil, List.append_nil, List.cons_append, List.nil_append]
  after_results
  pointwise

theorem coord1 : ∀ t : Fin cfg0.N, (grid0.coords t 1).val = t.val % 32 := (by decide +kernel : ∀ t : Fin grid0.N, (grid0.coords t 1).val = t.val % 32)
theorem idx : ∀ t : Fin cfg0.N, win0_0.index t = ![t.val % 32, t.val / 32] ∧ win0_1.index t = ![t.val % 32 - 2, 8 + t.val / 32]
    ∧ win0_2.index t = ![t.val % 32 - 1, 8 + t.val / 32] ∧ win0_3.index t = ![t.val % 32, 8 + t.val / 32]
    ∧ win0_4.index t = ![t.val % 32 - 2, 16 + t.val / 32] ∧ win0_5.index t = ![t.val % 32 - 1, 16 + t.val / 32] ∧ win0_6.index t = ![t.val % 32, 16 + t.val / 32]
    ∧ win0_7.index t = ![t.val / 32, 0, 0, 0] ∧ win0_8.index t = ![t.val / 32, 0, 0] ∧ win0_9.index t = ![t.val % 32, t.val / 32] :=
  (by decide +kernel : ∀ t : Fin grid0.N, _)

variable (p : Fin 8) (g : Fin 32) (r : Fin 256) (x : Fin 128) (j : Fin 8192)
theorem blk0 : iblk m c 0 (pt p g) (ix2 r x) = (dense m c).q (Cert.KernelAttIdeal.Frame.frame g r) (lane p x) := by
  blk_point [iblk, V, (idx (pt p g)).1]
  all_goals simp only [pt, lane, Cert.KernelAttIdeal.Frame.frame]; omega
theorem blk1 (h : j.val + 512 = 256 * g.val + r.val) : iblk m c 1 (pt p g) (ix2 r x) = (dense m c).k j (lane p x) := by
  blk_point [iblk, V, (idx (pt p g)).2.1]
  all_goals simp only [pt, lane]; omega
theorem blk2 (h : j.val + 256 = 256 * g.val + r.val) : iblk m c 2 (pt p g) (ix2 r x) = (dense m c).k j (lane p x) := by
  blk_point [iblk, V, (idx (pt p g)).2.2.1]
  all_goals simp only [pt, lane]; omega
theorem blk3 (h : j.val = 256 * g.val + r.val) : iblk m c 3 (pt p g) (ix2 r x) = (dense m c).k j (lane p x) := by
  blk_point [iblk, V, (idx (pt p g)).2.2.2.1]
  all_goals simp only [pt, lane]; omega
theorem blk4 (h : j.val + 512 = 256 * g.val + r.val) : iblk m c 4 (pt p g) (ix2 r x) = (dense m c).v j (lane p x) := by
  blk_point [iblk, V, (idx (pt p g)).2.2.2.2.1]
  all_goals simp only [pt, lane]; omega
theorem blk5 (h : j.val + 256 = 256 * g.val + r.val) : iblk m c 5 (pt p g) (ix2 r x) = (dense m c).v j (lane p x) := by
  blk_point [iblk, V, (idx (pt p g)).2.2.2.2.2.1]
  all_goals simp only [pt, lane]; omega
theorem blk6 (h : j.val = 256 * g.val + r.val) : iblk m c 6 (pt p g) (ix2 r x) = (dense m c).v j (lane p x) := by
  blk_point [iblk, V, (idx (pt p g)).2.2.2.2.2.2.1]
  all_goals simp only [pt, lane]; omega
theorem blk7 (a n : Fin 2) (r s : Fin 128) : iblk m c 7 (pt p g) (ix4 a n r s) = (dense m c).T (head p a) n r s := by
  refine Eq.trans ?_ (V_tiles m c _ _ _ _)
  blk_point [iblk, (idx (pt p g)).2.2.2.2.2.2.2.1]
  all_goals simp only [pt, head]; omega
theorem blk8 (a : Fin 2) (s : Fin 128) : iblk m c 8 (pt p g) (ix3 a 0 s) = (dense m c).C (head p a) s := by
  refine Eq.trans ?_ (V_far m c _ s)
  blk_point [iblk, (idx (pt p g)).2.2.2.2.2.2.2.2.1]
  all_goals simp only [pt, head]; omega

/-- The bias rows a pair's blocks give, which a point finds or writes. -/
theorem rows_from (x7 : Vec Ideal S2x2x128x128 .f32) (x8 : Vec Ideal S2x1x128 .f32) (a : Fin 2) (r : Fin 256) (w : Fin 768)
    {T : Fin 2 → Fin 128 → Fin 128 → EReal} {C : Fin 128 → EReal} (hT : ∀ n r s, x7 (ix4 a n r s) = T n r s) (hC : ∀ s, x8 (ix3 a 0 s) = C s) :
    rowsAt (Cert.KernelAttIdeal.Frame.rowsOf x7 x8) a (ix2 r w) = biasRow T C r w :=
  (rowsAt_at _ a r w).trans (Cert.KernelAttIdeal.Frame.rows_of x7 x8 a r w hT hC)
theorem kept_rows (p : Fin 8) (a : Fin 2) (r : Fin 256) (w : Fin 768) : ∀ (n : ℕ) (hn : n < 32),
    rowsAt (outsAt0 m c (pt p ⟨n, hn⟩).val (pt p ⟨n, hn⟩).isLt).2 a (ix2 r w) = biasRow ((dense m c).T (head p a)) ((dense m c).C (head p a)) r w := by
  intro n
  induction n with
  | zero =>
    intro hn
    rw [outsAt0_A m c (pt p ⟨0, hn⟩) (by simp only [pt]; omega)]
    dsimp only
    rw [left_rows]
    exact rows_from _ _ a r w (blk7 m c p ⟨0, hn⟩ a) (blk8 m c p ⟨0, hn⟩ a)
  | succ n ih =>
    intro hn
    rw [outsAt0_B m c (pt p ⟨n + 1, hn⟩) (by simp only [pt]; omega)]
    exact ih (by omega)

theorem holds (R : Fin 2 → Vec Ideal S256x768 .f32) (hR : ∀ a r w, R a (ix2 r w) = biasRow ((dense m c).T (head p a)) ((dense m c).C (head p a)) r w) :
    Holds (dense m c) p g (grid0.coords (pt p g)) (iblk m c 0 (pt p g)) (iblk m c 1 (pt p g)) (iblk m c 2 (pt p g)) (iblk m c 3 (pt p g))
      (iblk m c 4 (pt p g)) (iblk m c 5 (pt p g)) (iblk m c 6 (pt p g)) R where
  i := (coord1 _).trans (by simp only [pt]; omega)
  q := blk0 m c p g
  k w x h := by
    pointwise [k0_pay5]
    repeat' split
    · exact blk1 m c p g _ x _ (by dsimp only; omega)
    · exact blk2 m c p g _ x _ (by dsimp only; omega)
    · exact blk3 m c p g _ x _ (by dsimp only; omega)
  v w x h := by
    pointwise [k0_pay6]
    repeat' split
    · exact blk4 m c p g _ x _ (by dsimp only; omega)
    · exact blk5 m c p g _ x _ (by dsimp only; omega)
    · exact blk6 m c p g _ x _ (by dsimp only; omega)
  rows := hR

variable (F : (dense m c).Finite)
include F
theorem point_out (a : Fin 2) (d : Fin 64) :
    (outsAt0 m c (pt p g).val (pt p g).isLt).1 (ix2 r (hlane a d)) = (dense m c).out (head p a) (Cert.KernelAttIdeal.Frame.frame g r) d := by
  by_cases hg : g.val = 0
  · rw [outsAt0_A m c (pt p g) (by simp only [pt]; omega)]
    dsimp only
    rw [left_A]
    exact block_out (holds m c p g _ fun a r w => rows_from _ _ a r w (blk7 m c p g a) (blk8 m c p g a)) F a r d
  · rw [outsAt0_B m c (pt p g) (by simp only [pt]; omega)]
    dsimp only
    rw [left_B]
    refine block_out (holds m c p g _ fun a r w => ?_) F a r d
    have e := kept_rows m c p a r w (g.val - 1) (by omega)
    refine Eq.trans ?_ e
    congr 3
    simp only [pt]; omega

/-- Where a block's entry stands in the array, and the array after the run. -/
theorem final : (dats m 0 c).arrAt 9 (cfgs 0).N = cols (dense m c).out := by
  refine (dats m 0 c).arrAt_eq_of_covers 9 _ (by decide +kernel) fun t _ y => ?_
  obtain ⟨p, g, rfl⟩ := point_of t
  have emb : ∀ G : S8192x1024.Idx → EReal, G (ix2 (Cert.KernelAttIdeal.Frame.frame g (y 0)) (lane p (y 1))) = G ((win0_9.blk (pt p g)).view.emb y) := by
    intro G
    blk_point [(idx (pt p g)).2.2.2.2.2.2.2.2.2]
    all_goals simp only [pt, lane, Cert.KernelAttIdeal.Frame.frame]; omega
  refine Eq.trans ?_ (emb _)
  blk_simp
  rw [after0_9]
  obtain ⟨r, x, rfl⟩ : ∃ (r : Fin 256) (x : Fin 128), y = ix2 r x := ⟨y 0, y 1, eq_ix2 y⟩
  obtain ⟨a, d, rfl⟩ := hlane_of x
  refine (point_out m c p g r F a d).trans ?_
  show _ = (dense m c).out (hd (lane p (hlane a d))) (Cert.KernelAttIdeal.Frame.frame g r) (dm (lane p (hlane a d)))
  rw [(hd_lane p a d).1, (hd_lane p a d).2]

end Cert.KernelAtfIdeal.Forward
-- ==== Proof.AtfClaim.lean ====
/- The attention: where its queries, keys and bias table are real numbers, the kernel's output is the plain banded softmax's. -/
module

public import proofs.«01_k».proof.Defs
public import proofs.«01_k».proof.Proof.AtfKernel
public import proofs.«01_k».proof.Proof.RealBit
public import proofs.«01_k».proof.Proof.Gen.Pre_queries_finite
public import proofs.«01_k».proof.Proof.Gen.RefAtfIdeal.Run
public import Idealize.ShloMosaic.PureOps.IdealRules
public import Idealize.ShloMosaic.Lib.Claim

@[expose] public section

set_option maxRecDepth 16384

noncomputable section

open Idealize.ShloMosaic Idealize.ShloMosaic.TcCoe Idealize.SL.Sem

namespace Cert.AttDense

open Cert.RealBit

/-- The precondition, read: the arrays the softmax sees are real numbers. -/
theorem forward_finite (x0 : (⟨Cert.RefAtfIdeal.S8192x3072, .bf16⟩ : BufTy).Contents (Elt Ideal)) (x1 : (⟨Cert.RefAtfIdeal.S16x257, .f32⟩ : BufTy).Contents (Elt Ideal))
    (e1 : (Cert.Pre_queries_finite.fn (F := Ideal) x0 x1).1 = fun _ => 1#1) (e2 : (Cert.Pre_queries_finite.fn (F := Ideal) x0 x1).2 = fun _ => 1#1) :
    (forward x0 x1).Finite := by
  have hq : ∀ (t : Fin 8192) (x : Fin 2048), ∃ r : ℝ, x0 (ix2 t ⟨x.val, by omega⟩) = r := by
    intro t x
    refine real_of_bit ?_
    have := congrFun e1 (ix2 t x)
    unfold Cert.Pre_queries_finite.fn at this
    dsimp only at this
    refine Eq.trans ?_ this
    pointwise
    rfl
  have ht : ∀ i, ∃ r : ℝ, x1 i = r := fun i => real_of_bit (congrFun e2 i)
  exact
    { q := fun t x => hq t ⟨x.val, by omega⟩
      k := fun t x => hq t ⟨1024 + x.val, by omega⟩
      T := fun h n r s => by
        unfold forward arrays
        dsimp only
        split_ifs
        · exact ht _
        · exact ⟨0, rfl⟩
      C := fun h s => ht _ }
end Cert.AttDense

namespace Cert.Proof

open Cert.AttDense

/-- The name the mask's constant goes by stands for −∞. -/
theorem atf_preserves : Cert.preserves_KernelAtf_KernelAtfIdeal :=
  IdealRules.named_const.statement _ _ _ _ _ rfl

theorem atf_value : Cert.algebraic_KernelAtfIdeal_RefAtfIdeal_pre_queries_finite := by
  pair_intro
  · run_from Cert.KernelAtfIdeal.Gen.run_main m g
    all_goals sl_kernel_rfl
  · have F := fun c => forward_finite _ _ (hpre c).1 (hpre c).2
    have hag := hagree
    clear hagree
    run_from Cert.RefAtfIdeal.Value.run m' g'
    all_goals obtain ⟨h0, h1⟩ := hag c
    · refine (Cert.RefAtfIdeal.Read.val_main_v54_eq _ _).trans ?_
      rw [h0, h1]
      exact (Cert.RefAtfIdeal.Read.ref_out _ _ (F c)).trans (Cert.KernelAtfIdeal.Forward.final m c (F c)).symm

end Cert.Proof

end
-- ==== Proof.LnfClaim.lean ====
/- The norm's forward pass (`ln_fwd`): the kernel's array is the reference's. -/
module

public import proofs.«01_k».proof.Defs
public import proofs.«01_k».proof.Proof.Gen.KernelLnfIdeal.Value
public import proofs.«01_k».proof.Proof.Gen.RefLnfIdeal.Run
public import proofs.«01_k».proof.Proof.Gen.RefLnfIdeal.Read
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelLnfIdeal.Norm

open Cert.KernelLnfIdeal Cert.KernelLnfIdeal.Gen Cert.RefLnfIdeal.Read

variable (m : (ℓ : Loc nD τ sig) → Buf (Elt Ideal) ℓ)

variable (c : Dev nD)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

theorem final : (dats m 0 c).arrAt 5 (cfgs 0).N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  unfold out0_5
  frame_out
  pointwise [k0_pay1, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4,
    val_main_cst_5]
  blk_point [iblk, V, idx t]

end Cert.KernelLnfIdeal.Norm

namespace Cert.Proof

theorem lnf_value : Cert.algebraic_KernelLnfIdeal_RefLnfIdeal := by
  pair_intro
  · run_from Cert.KernelLnfIdeal.Gen.run_main m g
  · have hag := hagree
    clear hagree
    run_from Cert.RefLnfIdeal.Value.run m' g'
    all_goals obtain ⟨h0, h1, h2, h3, h4⟩ := hag c
    · refine (Cert.RefLnfIdeal.Read.val_main_v30_eq (F := Ideal) _ _ _ _ _).trans ?_
      rw [h0, h1, h2, h3, h4]
      exact (Cert.KernelLnfIdeal.Norm.final m c).symm

end Cert.Proof

end
-- ==== Proof.ModClaim.lean ====
/- The feed-forward's first product with the modulation before it (`mm_nn`): the kernel's array is the reference's. -/
module

public import proofs.«01_k».proof.Defs
public import proofs.«01_k».proof.Proof.Gen.KernelModIdeal.Value
public import proofs.«01_k».proof.Proof.Gen.RefModIdeal.Run
public import proofs.«01_k».proof.Proof.Gen.RefModIdeal.Read
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelModIdeal.Up

open Cert.KernelModIdeal Cert.KernelModIdeal.Gen Cert.RefModIdeal.Read

variable (m : (ℓ : Loc nD τ sig) → Buf (Elt Ideal) ℓ)

variable (c : Dev nD)

theorem idx : ∀ t : Fin cfg0.N, win0_0.index t = ![t.val, 0] ∧ win0_1.index t = ![0, 0, 0] ∧ win0_2.index t = ![0, 0]
    ∧ win0_3.index t = ![0, 0] ∧ win0_4.index t = ![t.val, 0] :=
  (by decide +kernel : ∀ t : Fin grid0.N, _)

theorem final : (dats m 0 c).arrAt 4 (cfgs 0).N
    = val_main_v7 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold outsAt0 out0_A_4
  frame_open
  simp (disch := decide) only [↓ View.readCov_skip, ↓ View.readCov_cons_toLoadRect, ↓ View.readCov_fill]
  frame_out
  pointwise [k0_pay1, k0_pay2, val_main_v7, val_main_v6, val_main_v5, val_main_v4, val_main_v3, val_main_v2, val_main_v1, val_main_v0, val_main_cst]
  blk_point [iblk, V, idx t]

end Cert.KernelModIdeal.Up

namespace Cert.Proof

theorem mod_value : Cert.algebraic_KernelModIdeal_RefModIdeal := by
  pair_intro
  · run_from Cert.KernelModIdeal.Gen.run_main m g
  · have hag := hagree
    clear hagree
    run_from Cert.RefModIdeal.Value.run m' g'
    all_goals obtain ⟨h0, h1, h2, h3⟩ := hag c
    · refine (Cert.RefModIdeal.Read.val_main_v7_eq (F := Ideal) _ _ _ _).trans ?_
      rw [h0, h1, h2, h3]
      exact (Cert.KernelModIdeal.Up.final m c).symm

end Cert.Proof

end
-- ==== Proof.FfdClaim.lean ====
/- The feed-forward's second product with the squared ReLU before it (`mm_nn`): the kernel's array is the reference's. -/
module

public import proofs.«01_k».proof.Defs
public import proofs.«01_k».proof.Proof.Gen.KernelFfdIdeal.Value
public import proofs.«01_k».proof.Proof.Gen.RefFfdIdeal.Run
public import proofs.«01_k».proof.Proof.Gen.RefFfdIdeal.Read
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelFfdIdeal.Down

open Cert.KernelFfdIdeal Cert.KernelFfdIdeal.Gen Cert.RefFfdIdeal.Read

variable (m : (ℓ : Loc nD τ sig) → Buf (Elt Ideal) ℓ)

variable (c : Dev nD)

/-- The value the kernel is handed: the feed-forward's first product. -/
theorem V_h : (V m c (Pipeline.arrRef spec0 0) : FVec Ideal S8192x4096 .bf16) = val_main_v6 (F := Ideal) (m ((c : Thread nD τ).loc main_arg0)) (m ((c : Thread nD τ).loc main_arg1)) (m ((c : Thread nD τ).loc main_arg2)) (m ((c : Thread nD τ).loc main_arg3)) := by
  sl_kernel_rfl

theorem idx : ∀ t : Fin cfg0.N, win0_0.index t = ![t.val, 0] ∧ win0_1.index t = ![0, 0, 0] ∧ win0_2.index t = ![t.val, 0] :=
  (by decide +kernel : ∀ t : Fin grid0.N, _)

theorem final : (dats m 0 c).arrAt 2 (cfgs 0).N
    = val_main_v9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 2 _ (by decide +kernel) fun t _ y => ?_
  blk_simp
  rw [after0_2]
  unfold outsAt0 out0_A_2
  frame_open
  simp (disch := decide) only [↓ View.readCov_skip, ↓ View.readCov_cons_toLoadRect, ↓ View.readCov_fill]
  frame_out
  pointwise [k0_pay1, k0_pay2, val_main_v9, val_main_v8, val_main_v7, val_main_call0_v0, val_main_call0_cst]
  refine Fin.sum_fin_congr fun k => ?_
  blk_point [iblk, V_h, V, idx t]

end Cert.KernelFfdIdeal.Down

namespace Cert.Proof

theorem ffd_value : Cert.algebraic_KernelFfdIdeal_RefFfdIdeal := by
  pair_intro
  · run_from Cert.KernelFfdIdeal.Gen.run_main m g
  · have hag := hagree
    clear hagree
    run_from Cert.RefFfdIdeal.Value.run m' g'
    all_goals obtain ⟨h0, h1, h2, h3, h4⟩ := hag c
    · refine (Cert.RefFfdIdeal.Read.val_main_v9_eq (F := Ideal) _ _ _ _ _).trans ?_
      rw [h0, h1, h2, h3, h4]
      exact (Cert.KernelFfdIdeal.Down.final m c).symm

end Cert.Proof

end
-- ==== Proof.WgtClaim.lean ====
/- The gradient of the feed-forward's second weight (`mm_tn` with the squared ReLU before it): the kernel's array is the reference's. -/
module

public import proofs.«01_k».proof.Defs
public import proofs.«01_k».proof.Proof.Gen.KernelWgtIdeal.Value
public import proofs.«01_k».proof.Proof.Gen.RefWgtIdeal.Run
public import proofs.«01_k».proof.Proof.Gen.RefWgtIdeal.Read
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelWgtIdeal.Grad

open Cert.KernelWgtIdeal Cert.KernelWgtIdeal.Gen Cert.RefWgtIdeal.Read

variable (m : (ℓ : Loc nD τ sig) → Buf (Elt Ideal) ℓ)

variable (c : Dev nD)

/-- The value the kernel is handed: the feed-forward's first product. -/
theorem V_h : (V m c (Pipeline.arrRef spec0 0) : FVec Ideal S8192x4096 .bf16) = val_main_v6 (F := Ideal) (m ((c : Thread nD τ).loc main_arg0)) (m ((c : Thread nD τ).loc main_arg1)) (m ((c : Thread nD τ).loc main_arg2)) (m ((c : Thread nD τ).loc main_arg3)) := by
  sl_kernel_rfl

/-- What one block adds to an element of the gradient. -/
def blockTerm (a : FVec Ideal S512x2048 .bf16) (d : FVec Ideal S512x1024 .bf16) (j : S2048x1024.Idx) : EReal :=
  ∑ k : Fin 512, max (a (ix2 k (j 0))) 0 * max (a (ix2 k (j 0))) 0 * d (ix2 k (j 1))

theorem pay1_zero (j) : k0_pay1 (F := Ideal) j = 0 := by pointwise [k0_pay1]

theorem pay2_at (a : FVec Ideal S512x2048 .bf16) (d : FVec Ideal S512x1024 .bf16)
    (o : FVec Ideal S2048x1024 .f32) (j : S2048x1024.Idx) : k0_pay2 a d o j = o j + blockTerm a d j := by
  unfold blockTerm
  pointwise [k0_pay2]

section Points
variable (i : grid0.Coords)
  {a1 : Memref sig .tc .vmem S512x2048 .bf16} {h1 : a1.IsWhole} {a2 : Memref sig .tc .vmem S512x1024 .bf16} {h2 : a2.IsWhole}
  {a3 : Memref sig .tc .vmem S1x2048x1024 .bf16} {h3 : a3.IsWhole} {a4 : Memref sig .tc .vmem S2048x1024 .f32} {h4 : a4.IsWhole}
  (x0 : FVec Ideal S512x2048 .bf16) (x1 : FVec Ideal S512x1024 .bf16)
  (o : FVec Ideal S2048x1024 .f32) (j : S2048x1024.Idx)

theorem left_A (hc : cond0_0 i) (hd : ¬cond0_1 i) :
    (sout0_A_0 (F := Ideal) c i a1 h1 a2 h2 a3 h3 a4 h4 hc hd x0 x1 : FVec Ideal S2048x1024 .f32) j
      = blockTerm x0 x1 j := by
  unfold sout0_A_0
  frame_open
  simp (disch := decide) only [↓ View.readCov_skip, ↓ View.readCov_cons_toLoadRect, ↓ View.readCov_fill]
  frame_out
  refine (pay2_at _ _ _ _).trans ?_
  rw [pay1_zero, zero_add]

theorem left_B (hc : ¬cond0_0 i) (hd : ¬cond0_1 i) :
    (sout0_B_0 (F := Ideal) c i a1 h1 a2 h2 a3 h3 a4 h4 hc hd x0 x1 o : FVec Ideal S2048x1024 .f32) j
      = o j + blockTerm x0 x1 j := by
  unfold sout0_B_0
  frame_open
  frame_out
  exact pay2_at _ _ _ _

theorem left_C (hc : ¬cond0_0 i) (hd : cond0_1 i) :
    (sout0_C_0 (F := Ideal) c i a1 h1 a2 h2 a3 h3 a4 h4 hc hd x0 x1 o : FVec Ideal S2048x1024 .f32) j
      = o j + blockTerm x0 x1 j := by
  unfold sout0_C_0
  frame_open
  simp (disch := decide) only [↓ View.readCov_skip, ↓ View.readCov_cons_toLoadRect, ↓ View.readCov_fill]
  frame_out
  exact pay2_at _ _ _ _

/-- The last point of a run stores what it has gathered. -/
theorem stored_C (hc : ¬cond0_0 i) (hd : cond0_1 i) (y : S1x2048x1024.Idx) :
    (out0_C_2 (F := Ideal) c i a1 h1 a2 h2 a3 h3 a4 h4 hc hd x0 x1 o : FVec Ideal S1x2048x1024 .bf16) y
      = o (ix2 (y 1) (y 2)) + blockTerm x0 x1 (ix2 (y 1) (y 2)) := by
  unfold out0_C_2
  frame_open
  simp (disch := decide) only [↓ View.readCov_skip, ↓ View.readCov_cons_toLoadRect, ↓ View.readCov_fill]
  frame_out
  refine Eq.trans ?_ (pay2_at _ _ _ _)
  pointwise [k0_pay3]

end Points

theorem step_A (t : Fin cfg0.N) (h : t.val % 16 = 0) (j : S2048x1024.Idx) :
    ((outsAt0 m c t.val t.isLt).2 : FVec Ideal S2048x1024 .f32) j
      = 0 + blockTerm (iblk m c 0 t) (iblk m c 1 t) j := by
  have e := congrArg Prod.snd (outsAt0_A m c t h (by omega))
  dsimp only at e
  rw [e]
  exact (left_A ..).trans (zero_add _).symm

theorem step_B (t : Fin cfg0.N) (h : ¬t.val % 16 = 0) (j : S2048x1024.Idx) :
    ((outsAt0 m c t.val t.isLt).2 : FVec Ideal S2048x1024 .f32) j
      = (outsAt0 m c (t.val - 1) (Nat.lt_of_le_of_lt (Nat.sub_le _ _) t.isLt)).2 j
        + blockTerm (iblk m c 0 t) (iblk m c 1 t) j := by
  by_cases e : t.val % 16 = 15
  · have e := congrArg Prod.snd (outsAt0_C m c t h e)
    dsimp only at e
    rw [e]
    exact left_C ..
  · have e := congrArg Prod.snd (outsAt0_B m c t h e)
    dsimp only at e
    rw [e]
    exact left_B ..

/-- What a run's last point stores is what it leaves in the accumulator. -/
theorem stored (t : Fin cfg0.N) (h : t.val % 16 = 15) (y : S1x2048x1024.Idx) :
    ((outsAt0 m c t.val t.isLt).1 : FVec Ideal S1x2048x1024 .bf16) y = (outsAt0 m c t.val t.isLt).2 (ix2 (y 1) (y 2)) := by
  have e := congrArg Prod.fst (outsAt0_C m c t (by omega) h)
  dsimp only at e
  rw [step_B m c t (by omega), e]
  exact stored_C ..

theorem idx : ∀ t : Fin cfg0.N, win0_0.index t = ![t.val % 16, t.val / 16] ∧ win0_1.index t = ![t.val % 16, 0]
    ∧ win0_2.index t = ![0, t.val / 16, 0] :=
  (by decide +kernel : ∀ t : Fin grid0.N, _)

theorem final : (dats m 0 c).arrAt 2 (cfgs 0).N
    = val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 2 _ (by decide +kernel) fun t hf y => ?_
  have h : t.val % 16 = 15 := (flush0_2 t).mp hf
  blk_simp
  rw [after0_2]
  refine (stored m c t h _).trans ?_
  rw [Pipeline.eq_sum_fin_of_reset_step_apply_of_flush (fun n h => (outsAt0 m c n h).2) 16 (fun _ => 0)
    (fun p j => blockTerm (iblk m c 0 p) (iblk m c 1 p) j) (step_A m c) (step_B m c) t h, zero_add]
  unfold blockTerm
  pointwise [val_main_v14, val_main_v13, val_main_v12, val_main_v11, val_main_v9, val_main_v8, val_main_call0_v0,
    val_main_call0_cst]
  refine Fin.sum_mul_add_congr fun s k hl => ?_
  refine (mul_comm (G := EReal) _ _).trans ?_
  have hN : 16 * (t.val / 16) + s.val < cfg0.N := Pipeline.run_point_lt_of_flush t h s
  blk_point [iblk, V_h, V, idx t, idx ⟨_, hN⟩]

end Cert.KernelWgtIdeal.Grad

namespace Cert.Proof

theorem wgt_value : Cert.algebraic_KernelWgtIdeal_RefWgtIdeal := by
  pair_intro
  · run_from Cert.KernelWgtIdeal.Gen.run_main m g
  · have hag := hagree
    clear hagree
    run_from Cert.RefWgtIdeal.Value.run m' g'
    all_goals obtain ⟨h0, h1, h2, h3, h4⟩ := hag c
    · refine (Cert.RefWgtIdeal.Read.val_main_v14_eq (F := Ideal) _ _ _ _ _).trans ?_
      rw [h0, h1, h2, h3, h4]
      exact (Cert.KernelWgtIdeal.Grad.final m c).symm

end Cert.Proof

end
-- ==== Proof.WgmClaim.lean ====
/- The gradient of the feed-forward's first weight (`mm_tn` with the modulation before it): the kernel's array is the reference's. -/
module

public import proofs.«01_k».proof.Defs
public import proofs.«01_k».proof.Proof.Gen.KernelWgmIdeal.Value
public import proofs.«01_k».proof.Proof.Gen.RefWgmIdeal.Run
public import proofs.«01_k».proof.Proof.Gen.RefWgmIdeal.Read
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelWgmIdeal.Grad

open Cert.KernelWgmIdeal Cert.KernelWgmIdeal.Gen Cert.RefWgmIdeal.Read

variable (m : (ℓ : Loc nD τ sig) → Buf (Elt Ideal) ℓ)

variable (c : Dev nD)

/-- What one block adds to an element of the gradient. -/
def blockTerm (x : FVec Ideal S512x1024 .f32) (sc sh : FVec Ideal S1x1024 .f32) (d : FVec Ideal S512x2048 .bf16) (j : S1024x2048.Idx) : EReal :=
  ∑ k : Fin 512, (x (ix2 k (j 0)) * (1 + sc (ix2 0 (j 0))) + sh (ix2 0 (j 0))) * d (ix2 k (j 1))

theorem pay1_zero (j) : k0_pay1 (F := Ideal) j = 0 := by pointwise [k0_pay1]

theorem pay2_at (x : FVec Ideal S512x1024 .f32) (sc sh : FVec Ideal S1x1024 .f32) (d : FVec Ideal S512x2048 .bf16)
    (o : FVec Ideal S1024x2048 .f32) (j : S1024x2048.Idx) : k0_pay2 x sc sh d o j = o j + blockTerm x sc sh d j := by
  unfold blockTerm
  pointwise [k0_pay2]

section Points
variable (i : grid0.Coords)
  {a1 : Memref sig .tc .vmem S512x1024 .f32} {h1 : a1.IsWhole} {a2 : Memref sig .tc .vmem S512x2048 .bf16} {h2 : a2.IsWhole}
  {a3 : Memref sig .tc .vmem S1x1024 .f32} {h3 : a3.IsWhole} {a4 : Memref sig .tc .vmem S1x1024 .f32} {h4 : a4.IsWhole}
  {a5 : Memref sig .tc .vmem S1x1024x2048 .bf16} {h5 : a5.IsWhole} {a6 : Memref sig .tc .vmem S1024x2048 .f32} {h6 : a6.IsWhole}
  (x0 : FVec Ideal S512x1024 .f32) (x1 : FVec Ideal S512x2048 .bf16) (x2 x3 : FVec Ideal S1x1024 .f32)
  (o : FVec Ideal S1024x2048 .f32) (j : S1024x2048.Idx)

theorem left_A (hc : cond0_0 i) (hd : ¬cond0_1 i) :
    (sout0_A_0 (F := Ideal) c i a1 h1 a2 h2 a3 h3 a4 h4 a5 h5 a6 h6 hc hd x0 x1 x2 x3 : FVec Ideal S1024x2048 .f32) j
      = blockTerm x0 x2 x3 x1 j := by
  unfold sout0_A_0
  frame_open
  simp (disch := decide) only [↓ View.readCov_skip, ↓ View.readCov_cons_toLoadRect, ↓ View.readCov_fill]
  frame_out
  refine (pay2_at _ _ _ _ _ _).trans ?_
  rw [pay1_zero, zero_add]

theorem left_B (hc : ¬cond0_0 i) (hd : ¬cond0_1 i) :
    (sout0_B_0 (F := Ideal) c i a1 h1 a2 h2 a3 h3 a4 h4 a5 h5 a6 h6 hc hd x0 x1 x2 x3 o : FVec Ideal S1024x2048 .f32) j
      = o j + blockTerm x0 x2 x3 x1 j := by
  unfold sout0_B_0
  frame_open
  frame_out
  exact pay2_at _ _ _ _ _ _

theorem left_C (hc : ¬cond0_0 i) (hd : cond0_1 i) :
    (sout0_C_0 (F := Ideal) c i a1 h1 a2 h2 a3 h3 a4 h4 a5 h5 a6 h6 hc hd x0 x1 x2 x3 o : FVec Ideal S1024x2048 .f32) j
      = o j + blockTerm x0 x2 x3 x1 j := by
  unfold sout0_C_0
  frame_open
  simp (disch := decide) only [↓ View.readCov_skip, ↓ View.readCov_cons_toLoadRect, ↓ View.readCov_fill]
  frame_out
  exact pay2_at _ _ _ _ _ _

/-- The last point of a run stores what it has gathered. -/
theorem stored_C (hc : ¬cond0_0 i) (hd : cond0_1 i) (y : S1x1024x2048.Idx) :
    (out0_C_4 (F := Ideal) c i a1 h1 a2 h2 a3 h3 a4 h4 a5 h5 a6 h6 hc hd x0 x1 x2 x3 o : FVec Ideal S1x1024x2048 .bf16) y
      = o (ix2 (y 1) (y 2)) + blockTerm x0 x2 x3 x1 (ix2 (y 1) (y 2)) := by
  unfold out0_C_4
  frame_open
  simp (disch := decide) only [↓ View.readCov_skip, ↓ View.readCov_cons_toLoadRect, ↓ View.readCov_fill]
  frame_out
  refine Eq.trans ?_ (pay2_at _ _ _ _ _ _)
  pointwise [k0_pay3]

end Points

theorem step_A (t : Fin cfg0.N) (h : t.val % 16 = 0) (j : S1024x2048.Idx) :
    ((outsAt0 m c t.val t.isLt).2 : FVec Ideal S1024x2048 .f32) j
      = 0 + blockTerm (iblk m c 0 t) (iblk m c 2 t) (iblk m c 3 t) (iblk m c 1 t) j := by
  have e := congrArg Prod.snd (outsAt0_A m c t h (by omega))
  dsimp only at e
  rw [e]
  exact (left_A ..).trans (zero_add _).symm

theorem step_B (t : Fin cfg0.N) (h : ¬t.val % 16 = 0) (j : S1024x2048.Idx) :
    ((outsAt0 m c t.val t.isLt).2 : FVec Ideal S1024x2048 .f32) j
      = (outsAt0 m c (t.val - 1) (Nat.lt_of_le_of_lt (Nat.sub_le _ _) t.isLt)).2 j
        + blockTerm (iblk m c 0 t) (iblk m c 2 t) (iblk m c 3 t) (iblk m c 1 t) j := by
  by_cases e : t.val % 16 = 15
  · have e := congrArg Prod.snd (outsAt0_C m c t h e)
    dsimp only at e
    rw [e]
    exact left_C ..
  · have e := congrArg Prod.snd (outsAt0_B m c t h e)
    dsimp only at e
    rw [e]
    exact left_B ..

/-- What a run's last point stores is what it leaves in the accumulator. -/
theorem stored (t : Fin cfg0.N) (h : t.val % 16 = 15) (y : S1x1024x2048.Idx) :
    ((outsAt0 m c t.val t.isLt).1 : FVec Ideal S1x1024x2048 .bf16) y = (outsAt0 m c t.val t.isLt).2 (ix2 (y 1) (y 2)) := by
  have e := congrArg Prod.fst (outsAt0_C m c t (by omega) h)
  dsimp only at e
  rw [step_B m c t (by omega), e]
  exact stored_C ..

theorem idx : ∀ t : Fin cfg0.N, win0_0.index t = ![t.val % 16, 0] ∧ win0_1.index t = ![t.val % 16, t.val / 16] ∧ win0_2.index t = ![0, 0]
    ∧ win0_3.index t = ![0, 0] ∧ win0_4.index t = ![0, 0, t.val / 16] :=
  (by decide +kernel : ∀ t : Fin grid0.N, _)

theorem final : (dats m 0 c).arrAt 4 (cfgs 0).N
    = val_main_v12 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h : t.val % 16 = 15 := (flush0_4 t).mp hf
  blk_simp
  rw [after0_4]
  refine (stored m c t h _).trans ?_
  rw [Pipeline.eq_sum_fin_of_reset_step_apply_of_flush (fun n h => (outsAt0 m c n h).2) 16 (fun _ => 0)
    (fun p j => blockTerm (iblk m c 0 p) (iblk m c 2 p) (iblk m c 3 p) (iblk m c 1 p) j) (step_A m c) (step_B m c) t h, zero_add]
  unfold blockTerm
  pointwise [val_main_v12, val_main_v11, val_main_v10, val_main_v9, val_main_v8, val_main_v5, val_main_v4, val_main_v3,
    val_main_v2, val_main_v1, val_main_v0, val_main_cst]
  refine Fin.sum_mul_add_congr fun s k hl => ?_
  refine (mul_comm (G := EReal) _ _).trans ?_
  have hN : 16 * (t.val / 16) + s.val < cfg0.N := Pipeline.run_point_lt_of_flush t h s
  blk_point [iblk, V, idx t, idx ⟨_, hN⟩]

end Cert.KernelWgmIdeal.Grad

namespace Cert.Proof

theorem wgm_value : Cert.algebraic_KernelWgmIdeal_RefWgmIdeal := by
  pair_intro
  · run_from Cert.KernelWgmIdeal.Gen.run_main m g
  · have hag := hagree
    clear hagree
    run_from Cert.RefWgmIdeal.Value.run m' g'
    all_goals obtain ⟨h0, h1, h2, h3⟩ := hag c
    · refine (Cert.RefWgmIdeal.Read.val_main_v12_eq (F := Ideal) _ _ _ _).trans ?_
      rw [h0, h1, h2, h3]
      exact (Cert.KernelWgmIdeal.Grad.final m c).symm

end Cert.Proof

end
-- ==== Proof.TilClaim.lean ====
/- The bias spread over the tables (`rel_bias_tiles`): the kernel's array is the reference's. -/
module

public import proofs.«01_k».proof.Defs
public import proofs.«01_k».proof.Proof.Gen.KernelTilIdeal.Value
public import proofs.«01_k».proof.Proof.Gen.RefTilIdeal.Run
public import proofs.«01_k».proof.Proof.Gen.RefTilIdeal.Read
public import proofs.«01_k».proof.Proof.RelWords
public import proofs.«01_k».proof.Proof.AttGather
public import Idealize.ShloMosaic.Lib.Claim
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.KernelTilIdeal.Spread

open Cert.KernelTilIdeal Cert.KernelTilIdeal.Gen Cert.RefTilIdeal.Read Cert.RelWords

/-! ## The words of the reference, the same as in the gradient's -/

section Words
variable (a : Fin 2) (b e : Fin 128)

theorem band_here : val_main_v18 (F := Ideal) (ix3 a b e) = inBand a b e := by
  pointwise [val_main_v32, val_main_v31, val_main_v30, val_main_c_11, val_main_v29, val_main_v28, val_main_c_10, val_main_v27, val_main_v26, val_main_c_9, val_main_v25, val_main_call0_v4, val_main_call0_v3, val_main_call0_v2, val_main_call0_v1, val_main_call0_v0, val_main_c_8, val_main_c_7, val_main_v24, val_main_v23, val_main_v22, val_main_v21, val_main_c_6, val_main_v20, val_main_v19, val_main_c_5, val_main_v18, val_main_v17, val_main_v16, val_main_c_4, val_main_v15, val_main_v14, val_main_c_3, val_main_v13, val_main_v12, val_main_v11, val_main_c_2, val_main_v10, val_main_v9, val_main_v8, val_main_c_1, val_main_v7, val_main_v6, val_main_c_0, val_main_v5, val_main_v4, val_main_v3, val_main_v2, val_main_c, val_main_v1, val_main_v0]
  rfl
theorem dist_here : val_main_v24 (F := Ideal) (ix3 a b e) = dist a b e := by
  pointwise [val_main_v32, val_main_v31, val_main_v30, val_main_c_11, val_main_v29, val_main_v28, val_main_c_10, val_main_v27, val_main_v26, val_main_c_9, val_main_v25, val_main_call0_v4, val_main_call0_v3, val_main_call0_v2, val_main_call0_v1, val_main_call0_v0, val_main_c_8, val_main_c_7, val_main_v24, val_main_v23, val_main_v22, val_main_v21, val_main_c_6, val_main_v20, val_main_v19, val_main_c_5, val_main_v18, val_main_v17, val_main_v16, val_main_c_4, val_main_v15, val_main_v14, val_main_c_3, val_main_v13, val_main_v12, val_main_v11, val_main_c_2, val_main_v10, val_main_v9, val_main_v8, val_main_c_1, val_main_v7, val_main_v6, val_main_c_0, val_main_v5, val_main_v4, val_main_v3, val_main_v2, val_main_c, val_main_v1, val_main_v0]
  rfl
theorem row_here : val_main_v32 (F := Ideal) (ix3 a b e) = row a b e := by
  unfold row clipped
  rw [← dist_here]
  pointwise [val_main_v32, val_main_v31, val_main_v30, val_main_c_11, val_main_v29, val_main_v28, val_main_c_10, val_main_v27, val_main_v26, val_main_c_9, val_main_v25, val_main_call0_v4, val_main_call0_v3, val_main_call0_v2, val_main_call0_v1, val_main_call0_v0, val_main_c_8, val_main_c_7, val_main_v23, val_main_v22, val_main_v21, val_main_c_6, val_main_v20, val_main_v19, val_main_c_5, val_main_v18, val_main_v17, val_main_v16, val_main_c_4, val_main_v15, val_main_v14, val_main_c_3, val_main_v13, val_main_v12, val_main_v11, val_main_c_2, val_main_v10, val_main_v9, val_main_v8, val_main_c_1, val_main_v7, val_main_v6, val_main_c_0, val_main_v5, val_main_v4, val_main_v3, val_main_v2, val_main_c, val_main_v1, val_main_v0]
  rfl
end Words

/-! ## Reading a column by its mark -/

/-- One where the word is the column's number, zero elsewhere. -/
def mark (w : BitVec 32) (col : Nat) : EReal := if w = BitVec.ofNat 32 col then 1 else 0

theorem sum_mark (f : Fin 384 → EReal) (w : BitVec 32) (hw : w.toNat < 384) : ∑ p : Fin 384, f p * mark w p.val = f ⟨w.toNat, hw⟩ := by
  rw [Finset.sum_eq_single (⟨w.toNat, hw⟩ : Fin 384) (fun p _ hp => ?_) (fun hn => absurd (Finset.mem_univ _) hn)]
  · unfold mark
    rw [if_pos (by rw [BitVec.ofNat_toNat, BitVec.setWidth_eq]), mul_one]
  · unfold mark
    have hp' : w ≠ BitVec.ofNat 32 p.val := fun q => hp (Fin.ext (by
      have q' := congrArg BitVec.toNat q
      rw [BitVec.toNat_ofNat] at q'
      have := p.isLt
      show p.val = w.toNat
      omega))
    rw [if_neg hp', mul_zero]

theorem pay1_at (r : FVec Ideal S16x384 .f32) (w : IVec S1x2048 32) (h : Fin 16) (k : Fin 2048) :
    k0_pay1 (F := Ideal) r w (ix2 h k) = ∑ p : Fin 384, r (ix2 h p) * mark (w (ix2 0 k)) p.val := by
  unfold mark
  pointwise [k0_pay1]
  refine (Finset.sum_congr (M := EReal) rfl fun p _ => congrArg (r (ix2 h p) * ·) ?_)
  rw [WordCmp.cmpi_eq_eq]
  by_cases e : w (ix2 0 k) = BitVec.ofNat 32 p.val
  · rw [if_pos e, e, decide_eq_true rfl]
    simp [FloatOps.sitofp]
  · rw [if_neg e, decide_eq_false (Ne.symm e)]
    simp [FloatOps.sitofp]

/-! ## The arrays the call is given -/

/-- The bias with the value of pairs outside the band in the columns from 257 on. -/
def padded (x : FVec Ideal S16x257 .f32) : FVec Ideal S16x384 .f32 :=
  pad S16x384 ![0, 0] ![0, 127] ![0, 0] x (constant (F := Ideal) S_ .f32 0xF149F2CA#32) pads_S16x257_S16x384_000_01270 h_S_
/-- That value. -/
def fill : EReal := Scalar.ofBits (F := Ideal) .f32 0xF149F2CA#32

theorem padded_in (x : FVec Ideal S16x257 .f32) (h : Fin 16) (p : Fin 384) (hp : p.val < 257) : padded x (ix2 h p) = x (ix2 h ⟨p.val, hp⟩) := by
  refine pad_apply_of_inside _ _ _ _ _ _ _ _ _ fun a => ?_
  match a with
  | ⟨0, _⟩ => show h.val = 0 + h.val * (0 + 1); omega
  | ⟨1, _⟩ => show p.val = 0 + p.val * (0 + 1); omega
theorem padded_out (x : FVec Ideal S16x257 .f32) (h : Fin 16) (p : Fin 384) (hp : ¬p.val < 257) : padded x (ix2 h p) = fill := by
  refine pad_apply_of_not_inside _ _ _ _ _ _ _ _ (1 : Fin 2) (fun q => hp ?_)
  have q2 : (p.val - 0) / (0 + 1) < 257 := q.2.2
  omega

/-- The words of the entries: the column of the bias an entry is read from, or 257 outside the band. -/
def words : IVec S2x128x128 32 :=
  select (val_main_v18 (F := Ideal))
    (addi (minsi (val_main_v24 (F := Ideal)) (broadcastInDim S2x128x128 ![] bcast_S_S2x128x128 (constantI S_ 32 128#32)))
      (broadcastInDim S2x128x128 ![] bcast_S_S2x128x128 (constantI S_ 32 128#32)))
    (broadcastInDim S2x128x128 ![] bcast_S_S2x128x128 (constantI S_ 32 257#32))
theorem words_at (a : Fin 2) (b e : Fin 128) : words (ix3 a b e) = column a b e := by
  unfold column
  rw [← band_here, ← dist_here]
  pointwise [words]

/-! ## The reference's entry -/

theorem toNat_of (w : BitVec 32) (hw : w.toNat < 257) : min w.toInt.toNat (257 - 1) = w.toNat := by
  rw [BitVec.toInt_eq_toNat_cond]
  split_ifs <;> omega
theorem table_at (x : FVec Ideal S16x257 .f32) (h : Fin 16) (a : Fin 2) (b e : Fin 128) :
    val_main_v36 (F := Ideal) x (ix4 h a b e) = Scalar.select (inBand a b e) (x (ix2 h ⟨min (row a b e).toInt.toNat (257 - 1), by omega⟩)) fill := by
  have g : val_main_v34 (F := Ideal) x (ix4 h a b e) = x (ix2 h ⟨min (row a b e).toInt.toNat (257 - 1), by omega⟩) := by
    refine (Cert.AttGather.gather3 (by decide) _ _ _ h a b e).trans ?_
    refine congrArg x (congrArg (ix2 h) (Fin.ext ?_))
    refine congrArg (fun w : BitVec 32 => min w.toInt.toNat (257 - 1)) ?_
    rw [← row_here]
    pointwise [val_main_v33]
  rw [← g, ← band_here]
  unfold fill
  pointwise [val_main_v36, val_main_call1_v0, val_main_call1_v1, val_main_v35, val_main_v0, val_main_cst]
/-- A word below 257 reads the bias at its column, and 257 the padding. -/
theorem read_in (x : FVec Ideal S16x257 .f32) (h : Fin 16) (w : BitVec 32) (hw : w.toNat < 257) :
    ∑ p : Fin 384, padded x (ix2 h p) * mark w p.val = x (ix2 h ⟨min w.toInt.toNat (257 - 1), by omega⟩) := by
  rw [sum_mark (fun p => padded x (ix2 h p)) w (by omega)]
  refine (padded_in x h ⟨w.toNat, by omega⟩ hw).trans ?_
  refine congrArg x (congrArg (ix2 h) (Fin.ext ?_))
  exact (toNat_of w hw).symm
theorem read_out (x : FVec Ideal S16x257 .f32) (h : Fin 16) (w : BitVec 32) (hw : w.toNat = 257) :
    ∑ p : Fin 384, padded x (ix2 h p) * mark w p.val = fill := by
  rw [sum_mark (fun p => padded x (ix2 h p)) w (by omega)]
  exact padded_out x h ⟨w.toNat, by omega⟩ (by show ¬w.toNat < 257; omega)
theorem pick (x : FVec Ideal S16x257 .f32) (h : Fin 16) (B : BitVec 1) (w r : BitVec 32)
    (hd : (B = 1#1 ∧ w = r ∧ r.toNat < 257) ∨ (B = 0#1 ∧ w = 257#32 ∧ r.toNat < 257)) :
    ∑ p : Fin 384, padded x (ix2 h p) * mark w p.val = Scalar.select B (x (ix2 h ⟨min r.toInt.toNat (257 - 1), by omega⟩)) fill := by
  rcases hd with ⟨hb, hc, hr⟩ | ⟨hb, hc, hr⟩
  · subst hb hc
    exact read_in x h _ hr
  · subst hb
    exact read_out x h w (by rw [hc]; rfl)
/-- The column marked by an entry's word holds the reference's entry. -/
theorem entry_eq (x : FVec Ideal S16x257 .f32) (h : Fin 16) (a : Fin 2) (b e : Fin 128) :
    ∑ p : Fin 384, padded x (ix2 h p) * mark (column a b e) p.val = val_main_v36 (F := Ideal) x (ix4 h a b e) := by
  rw [table_at]
  exact pick x h _ _ _ (column_row a b e)

variable (m : (ℓ : Loc nD τ sig) → Buf (Elt Ideal) ℓ)

variable (c : Dev nD)

theorem word_array : (V m c main_v30 : IVec S1x32768 32) = shapeCast S1x32768 words shapeCasts_S2x128x128_S1x32768 := by
  sl_kernel_rfl
theorem bias_array : (V m c main_v0 : FVec Ideal S16x384 .f32) = padded (m ((c : Thread nD τ).loc main_arg0)) := by
  sl_kernel_rfl

theorem idx : ∀ t : Fin cfg0.N, win0_0.index t = ![0, 0] ∧ win0_1.index t = ![0, t.val] ∧ win0_2.index t = ![0, t.val] :=
  (by decide +kernel : ∀ t : Fin grid0.N, _)

abbrev e0 (t : Fin cfg0.N) (k : Fin 2048) : Fin 2 := ⟨(t.val * 2048 + k.val) / 16384, by have := t.isLt; have : cfg0.N = 16 := N_0; omega⟩
abbrev e1 (t : Fin cfg0.N) (k : Fin 2048) : Fin 128 := ⟨(t.val * 2048 + k.val) / 128 % 128, by omega⟩
abbrev e2 (t : Fin cfg0.N) (k : Fin 2048) : Fin 128 := ⟨(t.val * 2048 + k.val) % 128, by omega⟩
abbrev flat (t : Fin cfg0.N) (k : Fin 2048) : Fin 32768 := ⟨t.val * 2048 + k.val, by have := t.isLt; have : cfg0.N = 16 := N_0; omega⟩

theorem b_block (t : Fin cfg0.N) : (iblk m c 0 t : FVec Ideal S16x384 .f32) = padded (m ((c : Thread nD τ).loc main_arg0)) := by
  funext j
  rw [← bias_array m c]
  obtain ⟨h, p, rfl⟩ : ∃ (h : Fin 16) (p : Fin 384), j = ix2 h p := ⟨j 0, j 1, eq_ix2 j⟩
  blk_point [iblk, idx t]
theorem w_block (t : Fin cfg0.N) (k : Fin 2048) : (iblk m c 1 t (ix2 0 k) : BitVec 32) = words (ix3 (e0 t k) (e1 t k) (e2 t k)) := by
  refine Eq.trans (b := (V m c main_v30 : IVec S1x32768 32) (ix2 0 (flat t k))) ?_ ?_
  · blk_point [iblk, idx t]
  · rw [word_array]
    pointwise []
theorem flat_at (x : FVec Ideal S16x257 .f32) (t : Fin cfg0.N) (h : Fin 16) (k : Fin 2048) :
    val_main_v41 (F := Ideal) x (ix2 h (flat t k)) = val_main_v36 (F := Ideal) x (ix4 h (e0 t k) (e1 t k) (e2 t k)) := by
  unfold val_main_v41
  refine shapeCast_apply _ _ _ _ ?_
  show (Cert.RefTilIdeal.S16x2x128x128.rowMajor (ix4 h (e0 t k) (e1 t k) (e2 t k))).val = (Cert.RefTilIdeal.S16x32768.rowMajor _).val
  rw [Shape.rowMajor_val_four, Shape.rowMajor_val_two]
  dsimp only [ix4, ix2]
  have h1 := Nat.div_add_mod (t.val * 2048 + k.val) 128
  have h2 := Nat.div_add_mod ((t.val * 2048 + k.val) / 128) 128
  simp
  omega

theorem final : (dats m 0 c).arrAt 2 (cfgs 0).N = val_main_v41 (F := Ideal) (m ((c : Thread nD τ).loc main_arg0)) := by
  refine (dats m 0 c).arrAt_eq_of_covers 2 _ (by decide +kernel) fun t _ y => ?_
  blk_simp
  rw [after0_2]
  unfold out0_2
  frame_out
  obtain ⟨h, k, rfl⟩ : ∃ (h : Fin 16) (k : Fin 2048), y = ix2 h k := ⟨y 0, y 1, eq_ix2 y⟩
  refine Eq.trans (pay1_at (iblk m c 0 t) (iblk m c 1 t) h k) ?_
  rw [w_block, words_at, b_block, entry_eq, ← flat_at]
  refine congrArg _ ?_
  blk_point [idx t]

end Cert.KernelTilIdeal.Spread

namespace Cert.Proof

theorem til_value : Cert.algebraic_KernelTilIdeal_RefTilIdeal := by
  pair_intro
  · run_from Cert.KernelTilIdeal.Gen.run_main m g
    all_goals exact Cert.KernelTilIdeal.Gen.V_main_arg0 m _
  · have hag := hagree
    clear hagree
    run_from Cert.RefTilIdeal.Value.run m' g'
    all_goals have h0 := hag c
    · refine (Cert.RefTilIdeal.Read.val_main_v41_eq (F := Ideal) _).trans ?_
      rw [h0]
      exact (Cert.KernelTilIdeal.Spread.final m c).symm

end Cert.Proof

end
-- ==== Proof.PrjClaim.lean ====
/- The attention's projection with the modulation before it and a bias after it (`mm_nn`): the kernel's array is the reference's. -/
module

public import proofs.«01_k».proof.Defs
public import proofs.«01_k».proof.Proof.Gen.KernelPrjIdeal.Value
public import proofs.«01_k».proof.Proof.Gen.RefPrjIdeal.Run
public import proofs.«01_k».proof.Proof.Gen.RefPrjIdeal.Read
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelPrjIdeal.Proj

open Cert.KernelPrjIdeal Cert.KernelPrjIdeal.Gen Cert.RefPrjIdeal.Read

variable (m : (ℓ : Loc nD τ sig) → Buf (Elt Ideal) ℓ)

variable (c : Dev nD)

theorem idx : ∀ t : Fin cfg0.N, win0_0.index t = ![t.val, 0] ∧ win0_1.index t = ![0, 0, 0] ∧ win0_2.index t = ![0, 0]
    ∧ win0_3.index t = ![0, 0] ∧ win0_4.index t = ![0, 0] ∧ win0_5.index t = ![t.val, 0] :=
  (by decide +kernel : ∀ t : Fin grid0.N, _)

theorem final : (dats m 0 c).arrAt 5 (cfgs 0).N
    = val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  unfold outsAt0 out0_A_5
  frame_open
  simp (disch := decide) only [↓ View.readCov_skip, ↓ View.readCov_cons_toLoadRect, ↓ View.readCov_fill]
  frame_out
  pointwise [k0_pay1, k0_pay2, val_main_v10, val_main_v9, val_main_v8, val_main_v7, val_main_v6, val_main_v5, val_main_v4, val_main_v3, val_main_v2, val_main_v1, val_main_v0, val_main_cst]
  blk_point [iblk, V, idx t]

end Cert.KernelPrjIdeal.Proj

namespace Cert.Proof

theorem prj_value : Cert.algebraic_KernelPrjIdeal_RefPrjIdeal := by
  pair_intro
  · run_from Cert.KernelPrjIdeal.Gen.run_main m g
  · have hag := hagree
    clear hagree
    run_from Cert.RefPrjIdeal.Value.run m' g'
    all_goals obtain ⟨h0, h1, h2, h3, h4⟩ := hag c
    · refine (Cert.RefPrjIdeal.Read.val_main_v10_eq (F := Ideal) _ _ _ _ _).trans ?_
      rw [h0, h1, h2, h3, h4]
      exact (Cert.KernelPrjIdeal.Proj.final m c).symm

end Cert.Proof

end
-- ==== Proof.MdsClaim.lean ====
/- The modulation from the condition (`mods_partial`): the kernel's array is the reference's. -/
module

public import proofs.«01_k».proof.Defs
public import proofs.«01_k».proof.Proof.Gen.KernelMdsIdeal.Value
public import proofs.«01_k».proof.Proof.Gen.RefMdsIdeal.Run
public import proofs.«01_k».proof.Proof.Gen.RefMdsIdeal.Read
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelMdsIdeal.Cond

open Cert.KernelMdsIdeal Cert.KernelMdsIdeal.Gen Cert.RefMdsIdeal.Read

variable (m : (ℓ : Loc nD τ sig) → Buf (Elt Ideal) ℓ)

variable (c : Dev nD)

theorem idx : ∀ t : Fin cfg0.N, win0_0.index t = ![0, 0] ∧ win0_1.index t = ![t.val, 0, 0] ∧ win0_2.index t = ![t.val, 0, 0] :=
  (by decide +kernel : ∀ t : Fin grid0.N, _)

theorem final : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  pointwise [k0_pay1, val_main_v2, val_main_v1, val_main_v0, val_main_call0_v0, val_main_call0_v1, val_main_call0_v2, val_main_call0_v3,
    val_main_call0_v4, val_main_call0_v5, val_main_call0_cst, val_main_call0_cst_0]
  refine Finset.sum_congr (M := EReal) rfl fun k _ => ?_
  refine Eq.trans (mul_comm (G := EReal) _ _) ?_
  congr 1
  · blk_point [iblk, V, idx t]
  · have h : m ((c : Thread nD τ).loc main_arg0) (ix2 (((View.whole main_v0).slice (win0_2.rect t)).emb y 1) k) = iblk m c 0 t (ix2 (y 1) k) := by
      blk_point [iblk, V, idx t]
    rw [h, ← zero_sub]

end Cert.KernelMdsIdeal.Cond

namespace Cert.Proof

theorem mds_value : Cert.algebraic_KernelMdsIdeal_RefMdsIdeal := by
  pair_intro
  · run_from Cert.KernelMdsIdeal.Gen.run_main m g
  · have hag := hagree
    clear hagree
    run_from Cert.RefMdsIdeal.Value.run m' g'
    all_goals obtain ⟨h0, h1⟩ := hag c
    · refine (Cert.RefMdsIdeal.Read.val_main_v2_eq (F := Ideal) _ _).trans ?_
      rw [h0, h1]
      exact (Cert.KernelMdsIdeal.Cond.final m c).symm

end Cert.Proof

end
-- ==== Proof.OutClaim.lean ====
/- A product of activations and a weight (`mm_nn`): the kernel's array is the reference's. -/
module

public import proofs.«01_k».proof.Defs
public import proofs.«01_k».proof.Proof.Gen.KernelOutIdeal.Value
public import proofs.«01_k».proof.Proof.Gen.RefOutIdeal.Run
public import proofs.«01_k».proof.Proof.Gen.RefOutIdeal.Read
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelOutIdeal.Prod

open Cert.KernelOutIdeal Cert.KernelOutIdeal.Gen Cert.RefOutIdeal.Read

variable (m : (ℓ : Loc nD τ sig) → Buf (Elt Ideal) ℓ)

variable (c : Dev nD)

theorem idx : ∀ t : Fin cfg0.N, win0_0.index t = ![t.val, 0] ∧ win0_1.index t = ![0, 0, 0] ∧ win0_2.index t = ![t.val, 0] :=
  (by decide +kernel : ∀ t : Fin grid0.N, _)

theorem final : (dats m 0 c).arrAt 2 (cfgs 0).N
    = val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  pointwise [k0_pay1, val_main_v1, val_main_v0]
  blk_point [iblk, V, idx t]

end Cert.KernelOutIdeal.Prod

namespace Cert.Proof

theorem out_value : Cert.algebraic_KernelOutIdeal_RefOutIdeal := by
  pair_intro
  · run_from Cert.KernelOutIdeal.Gen.run_main m g
  · have hag := hagree
    clear hagree
    run_from Cert.RefOutIdeal.Value.run m' g'
    all_goals obtain ⟨h0, h1⟩ := hag c
    · refine (Cert.RefOutIdeal.Read.val_main_v1_eq (F := Ideal) _ _).trans ?_
      rw [h0, h1]
      exact (Cert.KernelOutIdeal.Prod.final m c).symm

end Cert.Proof

end
-- ==== Proof.UpbClaim.lean ====
/- A product of a gradient and a weight's transpose (`mm_nt`): the kernel's array is the reference's. -/
module

public import proofs.«01_k».proof.Defs
public import proofs.«01_k».proof.Proof.Gen.KernelUpbIdeal.Value
public import proofs.«01_k».proof.Proof.Gen.RefUpbIdeal.Run
public import proofs.«01_k».proof.Proof.Gen.RefUpbIdeal.Read
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelUpbIdeal.Prod

open Cert.KernelUpbIdeal Cert.KernelUpbIdeal.Gen Cert.RefUpbIdeal.Read

variable (m : (ℓ : Loc nD τ sig) → Buf (Elt Ideal) ℓ)

variable (c : Dev nD)

theorem idx : ∀ t : Fin cfg0.N, win0_0.index t = ![t.val, 0] ∧ win0_1.index t = ![0, 0, 0] ∧ win0_2.index t = ![t.val, 0] :=
  (by decide +kernel : ∀ t : Fin grid0.N, _)

theorem final : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  pointwise [k0_pay1, val_main_v3, val_main_v2]
  blk_point [iblk, V, idx t]

end Cert.KernelUpbIdeal.Prod

namespace Cert.Proof

theorem upb_value : Cert.algebraic_KernelUpbIdeal_RefUpbIdeal := by
  pair_intro
  · run_from Cert.KernelUpbIdeal.Gen.run_main m g
  · have hag := hagree
    clear hagree
    run_from Cert.RefUpbIdeal.Value.run m' g'
    all_goals obtain ⟨h0, h1⟩ := hag c
    · refine (Cert.RefUpbIdeal.Read.val_main_v3_eq (F := Ideal) _ _).trans ?_
      rw [h0, h1]
      exact (Cert.KernelUpbIdeal.Prod.final m c).symm

end Cert.Proof

end
-- ==== Proof.WtpClaim.lean ====
/- A weight's gradient from activations and a gradient (`mm_tn`): the kernel's array is the reference's. -/
module

public import proofs.«01_k».proof.Defs
public import proofs.«01_k».proof.Proof.Gen.KernelWtpIdeal.Value
public import proofs.«01_k».proof.Proof.Gen.RefWtpIdeal.Run
public import proofs.«01_k».proof.Proof.Gen.RefWtpIdeal.Read
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelWtpIdeal.Grad

open Cert.KernelWtpIdeal Cert.KernelWtpIdeal.Gen Cert.RefWtpIdeal.Read

variable (m : (ℓ : Loc nD τ sig) → Buf (Elt Ideal) ℓ)

variable (c : Dev nD)

/-- What one block adds to an element of the gradient. -/
def blockTerm (a : FVec Ideal S512x1024 .bf16) (d : FVec Ideal S512x1024 .bf16) (j : S1024x1024.Idx) : EReal :=
  ∑ k : Fin 512, a (ix2 k (j 0)) * d (ix2 k (j 1))

theorem pay1_zero (j) : k0_pay1 (F := Ideal) j = 0 := by pointwise [k0_pay1]

theorem pay2_at (a : FVec Ideal S512x1024 .bf16) (d : FVec Ideal S512x1024 .bf16)
    (o : FVec Ideal S1024x1024 .f32) (j : S1024x1024.Idx) : k0_pay2 a d o j = o j + blockTerm a d j := by
  unfold blockTerm
  pointwise [k0_pay2]

section Points
variable (i : grid0.Coords)
  {a1 : Memref sig .tc .vmem S512x1024 .bf16} {h1 : a1.IsWhole} {a2 : Memref sig .tc .vmem S512x1024 .bf16} {h2 : a2.IsWhole}
  {a3 : Memref sig .tc .vmem S1x1024x1024 .bf16} {h3 : a3.IsWhole} {a4 : Memref sig .tc .vmem S1024x1024 .f32} {h4 : a4.IsWhole}
  (x0 : FVec Ideal S512x1024 .bf16) (x1 : FVec Ideal S512x1024 .bf16)
  (o : FVec Ideal S1024x1024 .f32) (j : S1024x1024.Idx)

theorem left_A (hc : cond0_0 i) (hd : ¬cond0_1 i) :
    (sout0_A_0 (F := Ideal) c i a1 h1 a2 h2 a3 h3 a4 h4 hc hd x0 x1 : FVec Ideal S1024x1024 .f32) j
      = blockTerm x0 x1 j := by
  unfold sout0_A_0
  frame_open
  simp (disch := decide) only [↓ View.readCov_skip, ↓ View.readCov_cons_toLoadRect, ↓ View.readCov_fill]
  frame_out
  refine (pay2_at _ _ _ _).trans ?_
  rw [pay1_zero, zero_add]

theorem left_B (hc : ¬cond0_0 i) (hd : ¬cond0_1 i) :
    (sout0_B_0 (F := Ideal) c i a1 h1 a2 h2 a3 h3 a4 h4 hc hd x0 x1 o : FVec Ideal S1024x1024 .f32) j
      = o j + blockTerm x0 x1 j := by
  unfold sout0_B_0
  frame_open
  frame_out
  exact pay2_at _ _ _ _

theorem left_C (hc : ¬cond0_0 i) (hd : cond0_1 i) :
    (sout0_C_0 (F := Ideal) c i a1 h1 a2 h2 a3 h3 a4 h4 hc hd x0 x1 o : FVec Ideal S1024x1024 .f32) j
      = o j + blockTerm x0 x1 j := by
  unfold sout0_C_0
  frame_open
  simp (disch := decide) only [↓ View.readCov_skip, ↓ View.readCov_cons_toLoadRect, ↓ View.readCov_fill]
  frame_out
  exact pay2_at _ _ _ _

/-- The last point of a run stores what it has gathered. -/
theorem stored_C (hc : ¬cond0_0 i) (hd : cond0_1 i) (y : S1x1024x1024.Idx) :
    (out0_C_2 (F := Ideal) c i a1 h1 a2 h2 a3 h3 a4 h4 hc hd x0 x1 o : FVec Ideal S1x1024x1024 .bf16) y
      = o (ix2 (y 1) (y 2)) + blockTerm x0 x1 (ix2 (y 1) (y 2)) := by
  unfold out0_C_2
  frame_open
  simp (disch := decide) only [↓ View.readCov_skip, ↓ View.readCov_cons_toLoadRect, ↓ View.readCov_fill]
  frame_out
  refine Eq.trans ?_ (pay2_at _ _ _ _)
  pointwise [k0_pay3]

end Points

theorem step_A (t : Fin cfg0.N) (h : t.val % 16 = 0) (j : S1024x1024.Idx) :
    ((outsAt0 m c t.val t.isLt).2 : FVec Ideal S1024x1024 .f32) j
      = 0 + blockTerm (iblk m c 0 t) (iblk m c 1 t) j := by
  have e := congrArg Prod.snd (outsAt0_A m c t h (by omega))
  dsimp only at e
  rw [e]
  exact (left_A ..).trans (zero_add _).symm

theorem step_B (t : Fin cfg0.N) (h : ¬t.val % 16 = 0) (j : S1024x1024.Idx) :
    ((outsAt0 m c t.val t.isLt).2 : FVec Ideal S1024x1024 .f32) j
      = (outsAt0 m c (t.val - 1) (Nat.lt_of_le_of_lt (Nat.sub_le _ _) t.isLt)).2 j
        + blockTerm (iblk m c 0 t) (iblk m c 1 t) j := by
  by_cases e : t.val % 16 = 15
  · have e := congrArg Prod.snd (outsAt0_C m c t h e)
    dsimp only at e
    rw [e]
    exact left_C ..
  · have e := congrArg Prod.snd (outsAt0_B m c t h e)
    dsimp only at e
    rw [e]
    exact left_B ..

/-- What a run's last point stores is what it leaves in the accumulator. -/
theorem stored (t : Fin cfg0.N) (h : t.val % 16 = 15) (y : S1x1024x1024.Idx) :
    ((outsAt0 m c t.val t.isLt).1 : FVec Ideal S1x1024x1024 .bf16) y = (outsAt0 m c t.val t.isLt).2 (ix2 (y 1) (y 2)) := by
  have e := congrArg Prod.fst (outsAt0_C m c t (by omega) h)
  dsimp only at e
  rw [step_B m c t (by omega), e]
  exact stored_C ..

theorem idx : ∀ t : Fin cfg0.N, win0_0.index t = ![t.val % 16, 0] ∧ win0_1.index t = ![t.val % 16, 0]
    ∧ win0_2.index t = ![0, 0, 0] :=
  (by decide +kernel : ∀ t : Fin grid0.N, _)

theorem final : (dats m 0 c).arrAt 2 (cfgs 0).N
    = val_main_v7 (F := Ideal) (m ((c : Thread nD τ).loc main_arg0)) (m ((c : Thread nD τ).loc main_arg1)) := by
  refine (dats m 0 c).arrAt_eq_of_covers 2 _ (by decide +kernel) fun t hf y => ?_
  have h : t.val % 16 = 15 := (flush0_2 t).mp hf
  blk_simp
  rw [after0_2]
  refine (stored m c t h _).trans ?_
  rw [Pipeline.eq_sum_fin_of_reset_step_apply_of_flush (fun n h => (outsAt0 m c n h).2) 16 (fun _ => 0)
    (fun p j => blockTerm (iblk m c 0 p) (iblk m c 1 p) j) (step_A m c) (step_B m c) t h, zero_add]
  unfold blockTerm
  pointwise [val_main_v7, val_main_v6, val_main_v5, val_main_v4, val_main_v3, val_main_v1]
  refine Fin.sum_mul_add_congr fun s k hl => ?_
  refine (mul_comm (G := EReal) _ _).trans ?_
  have hN : 16 * (t.val / 16) + s.val < cfg0.N := Pipeline.run_point_lt_of_flush t h s
  blk_point [iblk, V, idx t, idx ⟨_, hN⟩]

end Cert.KernelWtpIdeal.Grad

namespace Cert.Proof

theorem wtp_value : Cert.algebraic_KernelWtpIdeal_RefWtpIdeal := by
  pair_intro
  · run_from Cert.KernelWtpIdeal.Gen.run_main m g
  · have hag := hagree
    clear hagree
    run_from Cert.RefWtpIdeal.Value.run m' g'
    all_goals obtain ⟨h0, h1⟩ := hag c
    · refine (Cert.RefWtpIdeal.Read.val_main_v7_eq (F := Ideal) _ _).trans ?_
      rw [h0, h1]
      exact (Cert.KernelWtpIdeal.Grad.final m c).symm

end Cert.Proof

end
-- ==== Proof.AdwClaim.lean ====
/- The optimiser's step on one weight (`adamw`): the gradient passed on, the step, and both moments are the reference's. -/
module

public import proofs.«01_k».proof.Defs
public import proofs.«01_k».proof.Proof.Gen.KernelAdwIdeal.Value
public import proofs.«01_k».proof.Proof.Gen.RefAdwIdeal.Run
public import proofs.«01_k».proof.Proof.Gen.RefAdwIdeal.Read
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelAdwIdeal.Step

open Cert.KernelAdwIdeal Cert.KernelAdwIdeal.Gen Cert.RefAdwIdeal.Read

variable (m : (ℓ : Loc nD τ sig) → Buf (Elt Ideal) ℓ)

variable (c : Dev nD)

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The step on one entry of the weights, from the entries of the weight, its two moments and its gradient. -/
def stepOf (w a b g : Elt Ideal .f32) : Elt Ideal .f32 := val_main_v23 (F := Ideal) (fun _ => w) (fun _ => a) (fun _ => b) (fun _ => g) (ix3 0 0 0)
/-- The first moment's new entry. -/
def firstOf (a g : Elt Ideal .f32) : Elt Ideal .f32 := val_main_v4 (F := Ideal) (fun _ => a) (fun _ => g) (ix3 0 0 0)
/-- The second moment's new entry. -/
def secondOf (b g : Elt Ideal .f32) : Elt Ideal .f32 := val_main_v10 (F := Ideal) (fun _ => b) (fun _ => g) (ix3 0 0 0)

section Reference
variable (w a b g : FVec Ideal S4x1024x768 .f32)

theorem step_at (j : S4x1024x768.Idx) : val_main_v23 (F := Ideal) w a b g j = stepOf (w j) (a j) (b j) (g j) := by
  unfold stepOf
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
theorem first_at (j : S4x1024x768.Idx) : val_main_v4 (F := Ideal) a g j = firstOf (a j) (g j) := by
  unfold firstOf
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
theorem second_at (j : S4x1024x768.Idx) : val_main_v10 (F := Ideal) b g j = secondOf (b j) (g j) := by
  unfold secondOf
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
theorem step_flat (i : S4096x768.Idx) : val_main_v25 (F := Ideal) w a b g i
    = stepOf (val_main_v24 (F := Ideal) w i) (val_main_v24 (F := Ideal) a i) (val_main_v24 (F := Ideal) b i) (val_main_v24 (F := Ideal) g i) := by
  rw [val_main_v25_apply, step_at, val_main_v24_apply, val_main_v24_apply, val_main_v24_apply, val_main_v24_apply]
theorem first_flat (i : S4096x768.Idx) : val_main_v26 (F := Ideal) a g i
    = firstOf (val_main_v24 (F := Ideal) a i) (val_main_v24 (F := Ideal) g i) := by
  rw [val_main_v26_apply, first_at, val_main_v24_apply, val_main_v24_apply]
theorem second_flat (i : S4096x768.Idx) : val_main_v27 (F := Ideal) b g i
    = secondOf (val_main_v24 (F := Ideal) b i) (val_main_v24 (F := Ideal) g i) := by
  rw [val_main_v27_apply, second_at, val_main_v24_apply, val_main_v24_apply]
end Reference

theorem flat_w : V m c main_v0 = val_main_v24 (F := Ideal) (m ((c : Thread nD τ).loc main_arg0)) := by
  unfold V
  after_results
  rfl
theorem flat_a : V m c main_v1 = val_main_v24 (F := Ideal) (m ((c : Thread nD τ).loc main_arg1)) := by
  unfold V
  after_results
  rfl
theorem flat_b : V m c main_v2 = val_main_v24 (F := Ideal) (m ((c : Thread nD τ).loc main_arg2)) := by
  unfold V
  after_results
  rfl
theorem flat_g (a : Fin 1) (r : Fin 4096) (s : Fin 768) : V m c main_v4 (ix3 a r s) = val_main_v24 (F := Ideal) (m ((c : Thread nD τ).loc main_arg3)) (ix2 r s) := by
  have h : V m c main_v4 = broadcastInDim S1x4096x768 ![1, 2] bcast_S4096x768_S1x4096x768_1_2 (val_main_v24 (F := Ideal) (m ((c : Thread nD τ).loc main_arg3))) := by
    unfold V
    after_results
    rfl
  rw [h]
  exact broadcastInDim_apply _ bcast_S4096x768_S1x4096x768_1_2 _ _ (ix2 r s) (fun b => by fin_cases b <;> rfl)

theorem final_grad : (dats m 0 c).arrAt 4 (cfgs 0).N = val_main_v24 (F := Ideal) (m ((c : Thread nD τ).loc main_arg3)) := by
  refine (dats m 0 c).arrAt_eq_of_covers 4 _ (by decide +kernel) fun t _ y => ?_
  blk_simp
  rw [after0_4]
  unfold out0_4
  frame_out
  generalize hG : val_main_v24 (F := Ideal) (m ((c : Thread nD τ).loc main_arg3)) = G
  have hg : V m c (Pipeline.arrRef spec0 3) = fun j => G (ix2 (j 1) (j 2)) := by
    funext j
    obtain ⟨a, r, s, rfl⟩ : ∃ (a : Fin 1) (r : Fin 4096) (s : Fin 768), j = ix3 a r s := ⟨j 0, j 1, j 2, eq_ix3 j⟩
    exact (flat_g m c a r s).trans (congrFun hG _)
  pointwise [k0_pay1, k0_pay2, k0_pay3, k0_pay4]
  simp only [iblk]
  rw [hg]
  blk_point [idx t]

theorem final_step : (dats m 0 c).arrAt 5 (cfgs 0).N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  unfold out0_5
  frame_out
  rw [step_flat]
  unfold stepOf
  rw [← flat_w m c]
  rw [← flat_a m c]
  rw [← flat_b m c]
  generalize hG : val_main_v24 (F := Ideal) (m ((c : Thread nD τ).loc main_arg3)) = G
  have hg : V m c (Pipeline.arrRef spec0 3) = fun j => G (ix2 (j 1) (j 2)) := by
    funext j
    obtain ⟨a, r, s, rfl⟩ : ∃ (a : Fin 1) (r : Fin 4096) (s : Fin 768), j = ix3 a r s := ⟨j 0, j 1, j 2, eq_ix3 j⟩
    exact (flat_g m c a r s).trans (congrFun hG _)
  pointwise [k0_pay1, k0_pay2, k0_pay3, k0_pay4, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [iblk]
  rw [hg]
  have h0 : V m c (Pipeline.arrRef spec0 0) = V m c main_v0 := rfl
  rw [h0]
  generalize V m c main_v0 = B0
  have h1 : V m c (Pipeline.arrRef spec0 1) = V m c main_v1 := rfl
  rw [h1]
  generalize V m c main_v1 = B1
  have h2 : V m c (Pipeline.arrRef spec0 2) = V m c main_v2 := rfl
  rw [h2]
  generalize V m c main_v2 = B2
  blk_point [idx t]

theorem final_first : (dats m 0 c).arrAt 6 (cfgs 0).N = val_main_v26 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  unfold out0_6
  frame_out
  rw [first_flat]
  unfold firstOf
  rw [← flat_a m c]
  generalize hG : val_main_v24 (F := Ideal) (m ((c : Thread nD τ).loc main_arg3)) = G
  have hg : V m c (Pipeline.arrRef spec0 3) = fun j => G (ix2 (j 1) (j 2)) := by
    funext j
    obtain ⟨a, r, s, rfl⟩ : ∃ (a : Fin 1) (r : Fin 4096) (s : Fin 768), j = ix3 a r s := ⟨j 0, j 1, j 2, eq_ix3 j⟩
    exact (flat_g m c a r s).trans (congrFun hG _)
  pointwise [k0_pay1, k0_pay2, k0_pay3, k0_pay4, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [iblk]
  rw [hg]
  have h1 : V m c (Pipeline.arrRef spec0 1) = V m c main_v1 := rfl
  rw [h1]
  generalize V m c main_v1 = B1
  blk_point [idx t]

theorem final_second : (dats m 0 c).arrAt 7 (cfgs 0).N = val_main_v27 (F := Ideal) (m ((c : Thread nD τ).loc main_arg2)) (m ((c : Thread nD τ).loc main_arg3)) := by
  refine (dats m 0 c).arrAt_eq_of_covers 7 _ (by decide +kernel) fun t _ y => ?_
  blk_simp
  rw [after0_7]
  unfold out0_7
  frame_out
  rw [second_flat]
  unfold secondOf
  rw [← flat_b m c]
  generalize hG : val_main_v24 (F := Ideal) (m ((c : Thread nD τ).loc main_arg3)) = G
  have hg : V m c (Pipeline.arrRef spec0 3) = fun j => G (ix2 (j 1) (j 2)) := by
    funext j
    obtain ⟨a, r, s, rfl⟩ : ∃ (a : Fin 1) (r : Fin 4096) (s : Fin 768), j = ix3 a r s := ⟨j 0, j 1, j 2, eq_ix3 j⟩
    exact (flat_g m c a r s).trans (congrFun hG _)
  pointwise [k0_pay1, k0_pay2, k0_pay3, k0_pay4, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [iblk]
  rw [hg]
  have h2 : V m c (Pipeline.arrRef spec0 2) = V m c main_v2 := rfl
  rw [h2]
  generalize V m c main_v2 = B2
  blk_point [idx t]

end Cert.KernelAdwIdeal.Step

namespace Cert.Proof

theorem adw_value : Cert.algebraic_KernelAdwIdeal_RefAdwIdeal := by
  pair_intro
  · run_from Cert.KernelAdwIdeal.Gen.run_main m g
  · have hag := hagree
    clear hagree
    run_from Cert.RefAdwIdeal.Value.run m' g'
    all_goals obtain ⟨h0, h1, h2, h3⟩ := hag c
    · refine (Cert.RefAdwIdeal.Read.val_main_v24_eq (F := Ideal) _).trans ?_
      rw [h3]
      exact (Cert.KernelAdwIdeal.Step.final_grad m c).symm
    · refine (Cert.RefAdwIdeal.Read.val_main_v25_eq (F := Ideal) _ _ _ _).trans ?_
      rw [h0, h1, h2, h3]
      exact (Cert.KernelAdwIdeal.Step.final_step m c).symm
    · refine (Cert.RefAdwIdeal.Read.val_main_v26_eq (F := Ideal) _ _).trans ?_
      rw [h1, h3]
      exact (Cert.KernelAdwIdeal.Step.final_first m c).symm
    · refine (Cert.RefAdwIdeal.Read.val_main_v27_eq (F := Ideal) _ _).trans ?_
      rw [h2, h3]
      exact (Cert.KernelAdwIdeal.Step.final_second m c).symm

end Cert.Proof

end
-- ==== Proof.SumClaim.lean ====
/- The sum of the devices' packed small gradients (`sum_parts`): the kernel's array is the reference's. -/
module

public import proofs.«01_k».proof.Defs
public import proofs.«01_k».proof.Proof.Gen.KernelSumIdeal.Value
public import proofs.«01_k».proof.Proof.Gen.RefSumIdeal.Run
public import proofs.«01_k».proof.Proof.Gen.RefSumIdeal.Read
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelSumIdeal.Parts

open Cert.KernelSumIdeal Cert.KernelSumIdeal.Gen Cert.RefSumIdeal.Read

variable (m : (ℓ : Loc nD τ sig) → Buf (Elt Ideal) ℓ)

variable (c : Dev nD)

theorem idx : ∀ t : Fin cfg0.N, win0_0.index t = ![0, 0, 0] ∧ win0_1.index t = ![0, 0] :=
  (by decide +kernel : ∀ t : Fin grid0.N, _)

theorem final : (dats m 0 c).arrAt 1 (cfgs 0).N = val_main_v0 (F := Ideal) (m ((c : Thread nD τ).loc main_arg0)) := by
  refine (dats m 0 c).arrAt_eq_of_covers 1 _ (by decide +kernel) fun t _ y => ?_
  blk_simp
  rw [after0_1]
  unfold out0_1
  frame_out
  pointwise [k0_pay1, val_main_v0, val_main_cst]
  rw [Fin.sum_univ_eight]
  blk_point [iblk, V, idx t]

end Cert.KernelSumIdeal.Parts

namespace Cert.Proof

set_option maxHeartbeats 4000000 in
theorem sum_value : Cert.algebraic_KernelSumIdeal_RefSumIdeal := by
  pair_intro
  · run_from Cert.KernelSumIdeal.Gen.run_main m g
  · have hag := hagree
    clear hagree
    run_from Cert.RefSumIdeal.Value.run m' g'
    all_goals have h0 := hag c
    · refine (Cert.RefSumIdeal.Read.val_main_v0_eq (F := Ideal) _).trans ?_
      rw [h0]
      exact (Cert.KernelSumIdeal.Parts.final m c).symm

end Cert.Proof

end
-- ==== Proof.AdlClaim.lean ====
/- The optimiser's step on one layer of a stack of weights (`adamw_layer`): its layer is the reference's, the other is kept. -/
module

public import proofs.«01_k».proof.Defs
public import proofs.«01_k».proof.Proof.Gen.KernelAdlIdeal.Value
public import proofs.«01_k».proof.Proof.Gen.RefAdlIdeal.Run
public import proofs.«01_k».proof.Proof.Gen.RefAdlIdeal.Read
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelAdlIdeal.Layer

open Cert.KernelAdlIdeal Cert.KernelAdlIdeal.Gen Cert.RefAdlIdeal.Read

section Reference
variable (x0 x1 x2 x4 x5 x6 x7 : FVec Ideal S2x128x1024 .f32) (x3 : FVec Ideal S8x1x128x1024 .bf16) (r : Fin 128) (s : Fin 1024)

theorem grad_one : val_main_v37 (F := Ideal) x3 x4 (ix3 1 r s) = val_main_v2 (F := Ideal) x3 (ix2 r s) := by
  pointwise [val_main_v37, val_main_v36, val_main_v35, val_main_v34, val_main_v33]
theorem grad_zero : val_main_v37 (F := Ideal) x3 x4 (ix3 0 r s) = x4 (ix3 0 r s) := by
  pointwise [val_main_v37, val_main_v36, val_main_v35, val_main_v34, val_main_v33]
theorem step_one : val_main_v42 (F := Ideal) x0 x1 x2 x3 x5 (ix3 1 r s) = val_main_v32 (F := Ideal) x0 x1 x2 x3 (ix2 r s) := by
  pointwise [val_main_v42, val_main_v41, val_main_v40, val_main_v39, val_main_v38]
theorem step_zero : val_main_v42 (F := Ideal) x0 x1 x2 x3 x5 (ix3 0 r s) = x5 (ix3 0 r s) := by
  pointwise [val_main_v42, val_main_v41, val_main_v40, val_main_v39, val_main_v38]
theorem first_one : val_main_v47 (F := Ideal) x1 x3 x6 (ix3 1 r s) = val_main_v9 (F := Ideal) x1 x3 (ix2 r s) := by
  pointwise [val_main_v47, val_main_v46, val_main_v45, val_main_v44, val_main_v43]
theorem first_zero : val_main_v47 (F := Ideal) x1 x3 x6 (ix3 0 r s) = x6 (ix3 0 r s) := by
  pointwise [val_main_v47, val_main_v46, val_main_v45, val_main_v44, val_main_v43]
theorem second_one : val_main_v52 (F := Ideal) x2 x3 x7 (ix3 1 r s) = val_main_v17 (F := Ideal) x2 x3 (ix2 r s) := by
  pointwise [val_main_v52, val_main_v51, val_main_v50, val_main_v49, val_main_v48]
theorem second_zero : val_main_v52 (F := Ideal) x2 x3 x7 (ix3 0 r s) = x7 (ix3 0 r s) := by
  pointwise [val_main_v52, val_main_v51, val_main_v50, val_main_v49, val_main_v48]
end Reference

variable (m : (ℓ : Loc nD τ sig) → Buf (Elt Ideal) ℓ)

variable (c : Dev nD)

theorem idx : ∀ t : Fin cfg0.N, win0_0.index t = ![1, 0, 0] ∧ win0_1.index t = ![1, 0, 0] ∧ win0_2.index t = ![1, 0, 0]
    ∧ win0_3.index t = ![0, 0, 0, 0] ∧ win0_4.index t = ![1, 0, 0] ∧ win0_5.index t = ![1, 0, 0] ∧ win0_6.index t = ![1, 0, 0]
    ∧ win0_7.index t = ![1, 0, 0] :=
  (by decide +kernel : ∀ t : Fin grid0.N, _)

theorem final_grad : (dats m 0 c).arrAt 4 (cfgs 0).N = val_main_v37 (F := Ideal) (m ((c : Thread nD τ).loc main_arg3)) (m ((c : Thread nD τ).loc main_arg4)) := by
  refine (dats m 0 c).arrAt_eq_of_coversWhere_of_agree 4 _ (fun β => β (0 : Fin 3) = 1) (by decide +kernel) (fun t hf y => ?_) (fun j hj => ?_)
  · blk_simp
    rw [after0_4]
    unfold outsAt0 out0_A_4
    frame_open
    frame_out
    obtain ⟨a, r, s, rfl⟩ : ∃ (a : Fin 1) (r : Fin 128) (s : Fin 1024), y = ix3 a r s := ⟨y 0, y 1, y 2, eq_ix3 y⟩
    refine Eq.trans ?_ ((congrArg _ ?_).trans (grad_one _ _ r s)).symm
    · pointwise [k0_pay1, k0_pay2, k0_pay3, k0_pay4, k0_pay5, k0_pay6, k0_pay7, k0_pay8, k0_pay9, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
      rw [Fin.sum_univ_eight]
      blk_point [iblk, V, idx t]
    · blk_point [idx t]
  · obtain ⟨a, r, s, rfl⟩ : ∃ (a : Fin 2) (r : Fin 128) (s : Fin 1024), j = ix3 a r s := ⟨j 0, j 1, j 2, eq_ix3 j⟩
    have ha : a = 0 := by
      blk_simp [Pipeline.Window.cell_apply] at hj
      revert hj
      revert a
      decide
    subst ha
    refine Eq.trans ?_ (grad_zero _ _ r s).symm
    show V m c main_v0_0 (ix3 0 r s) = _
    unfold V
    after_results
    rfl

theorem final_step : (dats m 0 c).arrAt 5 (cfgs 0).N = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_coversWhere_of_agree 5 _ (fun β => β (0 : Fin 3) = 1) (by decide +kernel) (fun t hf y => ?_) (fun j hj => ?_)
  · blk_simp
    rw [after0_5]
    unfold outsAt0 out0_A_5
    frame_open
    frame_out
    obtain ⟨a, r, s, rfl⟩ : ∃ (a : Fin 1) (r : Fin 128) (s : Fin 1024), y = ix3 a r s := ⟨y 0, y 1, y 2, eq_ix3 y⟩
    refine Eq.trans ?_ ((congrArg _ ?_).trans (step_one _ _ _ _ _ r s)).symm
    · pointwise [k0_pay1, k0_pay2, k0_pay3, k0_pay4, k0_pay5, k0_pay6, k0_pay7, k0_pay8, k0_pay9, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
      rw [Fin.sum_univ_eight]
      blk_point [iblk, V, idx t]
    · blk_point [idx t]
  · obtain ⟨a, r, s, rfl⟩ : ∃ (a : Fin 2) (r : Fin 128) (s : Fin 1024), j = ix3 a r s := ⟨j 0, j 1, j 2, eq_ix3 j⟩
    have ha : a = 0 := by
      blk_simp [Pipeline.Window.cell_apply] at hj
      revert hj
      revert a
      decide
    subst ha
    refine Eq.trans ?_ (step_zero _ _ _ _ _ r s).symm
    show V m c main_v0_1 (ix3 0 r s) = _
    unfold V
    after_results
    rfl

theorem final_first : (dats m 0 c).arrAt 6 (cfgs 0).N = val_main_v47 (F := Ideal) (m ((c : Thread nD τ).loc main_arg1)) (m ((c : Thread nD τ).loc main_arg3)) (m ((c : Thread nD τ).loc main_arg6)) := by
  refine (dats m 0 c).arrAt_eq_of_coversWhere_of_agree 6 _ (fun β => β (0 : Fin 3) = 1) (by decide +kernel) (fun t hf y => ?_) (fun j hj => ?_)
  · blk_simp
    rw [after0_6]
    unfold outsAt0 out0_A_6
    frame_open
    frame_out
    obtain ⟨a, r, s, rfl⟩ : ∃ (a : Fin 1) (r : Fin 128) (s : Fin 1024), y = ix3 a r s := ⟨y 0, y 1, y 2, eq_ix3 y⟩
    refine Eq.trans ?_ ((congrArg _ ?_).trans (first_one _ _ _ r s)).symm
    · pointwise [k0_pay1, k0_pay2, k0_pay3, k0_pay4, k0_pay5, k0_pay6, k0_pay7, k0_pay8, k0_pay9, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
      rw [Fin.sum_univ_eight]
      blk_point [iblk, V, idx t]
    · blk_point [idx t]
  · obtain ⟨a, r, s, rfl⟩ : ∃ (a : Fin 2) (r : Fin 128) (s : Fin 1024), j = ix3 a r s := ⟨j 0, j 1, j 2, eq_ix3 j⟩
    have ha : a = 0 := by
      blk_simp [Pipeline.Window.cell_apply] at hj
      revert hj
      revert a
      decide
    subst ha
    refine Eq.trans ?_ (first_zero _ _ _ r s).symm
    show V m c main_v0_2 (ix3 0 r s) = _
    unfold V
    after_results
    rfl

theorem final_second : (dats m 0 c).arrAt 7 (cfgs 0).N = val_main_v52 (F := Ideal) (m ((c : Thread nD τ).loc main_arg2)) (m ((c : Thread nD τ).loc main_arg3)) (m ((c : Thread nD τ).loc main_arg7)) := by
  refine (dats m 0 c).arrAt_eq_of_coversWhere_of_agree 7 _ (fun β => β (0 : Fin 3) = 1) (by decide +kernel) (fun t hf y => ?_) (fun j hj => ?_)
  · blk_simp
    rw [after0_7]
    unfold outsAt0 out0_A_7
    frame_open
    frame_out
    obtain ⟨a, r, s, rfl⟩ : ∃ (a : Fin 1) (r : Fin 128) (s : Fin 1024), y = ix3 a r s := ⟨y 0, y 1, y 2, eq_ix3 y⟩
    refine Eq.trans ?_ ((congrArg _ ?_).trans (second_one _ _ _ r s)).symm
    · pointwise [k0_pay1, k0_pay2, k0_pay3, k0_pay4, k0_pay5, k0_pay6, k0_pay7, k0_pay8, k0_pay9, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
      rw [Fin.sum_univ_eight]
      blk_point [iblk, V, idx t]
    · blk_point [idx t]
  · obtain ⟨a, r, s, rfl⟩ : ∃ (a : Fin 2) (r : Fin 128) (s : Fin 1024), j = ix3 a r s := ⟨j 0, j 1, j 2, eq_ix3 j⟩
    have ha : a = 0 := by
      blk_simp [Pipeline.Window.cell_apply] at hj
      revert hj
      revert a
      decide
    subst ha
    refine Eq.trans ?_ (second_zero _ _ _ r s).symm
    show V m c main_v0_3 (ix3 0 r s) = _
    unfold V
    after_results
    rfl

end Cert.KernelAdlIdeal.Layer

namespace Cert.Proof

theorem adl_value : Cert.algebraic_KernelAdlIdeal_RefAdlIdeal := by
  pair_intro
  · run_from Cert.KernelAdlIdeal.Gen.run_main m g
  · have hag := hagree
    clear hagree
    run_from Cert.RefAdlIdeal.Value.run m' g'
    all_goals obtain ⟨h0, h1, h2, h3, h4, h5, h6, h7⟩ := hag c
    · refine (Cert.RefAdlIdeal.Read.val_main_v37_eq (F := Ideal) _ _).trans ?_
      rw [h3, h4]
      exact (Cert.KernelAdlIdeal.Layer.final_grad m c).symm
    · refine (Cert.RefAdlIdeal.Read.val_main_v42_eq (F := Ideal) _ _ _ _ _).trans ?_
      rw [h0, h1, h2, h3, h5]
      exact (Cert.KernelAdlIdeal.Layer.final_step m c).symm
    · refine (Cert.RefAdlIdeal.Read.val_main_v47_eq (F := Ideal) _ _ _).trans ?_
      rw [h1, h3, h6]
      exact (Cert.KernelAdlIdeal.Layer.final_first m c).symm
    · refine (Cert.RefAdlIdeal.Read.val_main_v52_eq (F := Ideal) _ _ _).trans ?_
      rw [h2, h3, h7]
      exact (Cert.KernelAdlIdeal.Layer.final_second m c).symm

end Cert.Proof

end
-- ==== Proof.lean ====
module

public import proofs.«01_k».proof.Defs
public import proofs.«01_k».proof.Proof.Gen.KernelFirst
public import proofs.«01_k».proof.Proof.Gen.KernelFirstIdeal
public import proofs.«01_k».proof.Proof.Gen.RefFirstIdeal
public import proofs.«01_k».proof.Proof.Gen.KernelAtt
public import proofs.«01_k».proof.Proof.Gen.KernelAttIdeal
public import proofs.«01_k».proof.Proof.Gen.RefAttIdeal
public import proofs.«01_k».proof.Proof.Gen.KernelEpi
public import proofs.«01_k».proof.Proof.Gen.KernelEpiIdeal
public import proofs.«01_k».proof.Proof.Gen.RefEpiIdeal
public import proofs.«01_k».proof.Proof.Gen.KernelAda
public import proofs.«01_k».proof.Proof.Gen.KernelAdaIdeal
public import proofs.«01_k».proof.Proof.Gen.RefAdaIdeal
public import proofs.«01_k».proof.Proof.Gen.KernelRel
public import proofs.«01_k».proof.Proof.Gen.KernelRelIdeal
public import proofs.«01_k».proof.Proof.Gen.RefRelIdeal
public import proofs.«01_k».proof.Proof.Gen.KernelHead
public import proofs.«01_k».proof.Proof.Gen.KernelHeadIdeal
public import proofs.«01_k».proof.Proof.Gen.RefHeadIdeal
public import proofs.«01_k».proof.Proof.Gen.KernelMid
public import proofs.«01_k».proof.Proof.Gen.KernelMidIdeal
public import proofs.«01_k».proof.Proof.Gen.RefMidIdeal
public import proofs.«01_k».proof.Proof.Gen.KernelAtf
public import proofs.«01_k».proof.Proof.Gen.KernelAtfIdeal
public import proofs.«01_k».proof.Proof.Gen.RefAtfIdeal
public import proofs.«01_k».proof.Proof.Gen.KernelLnf
public import proofs.«01_k».proof.Proof.Gen.KernelLnfIdeal
public import proofs.«01_k».proof.Proof.Gen.RefLnfIdeal
public import proofs.«01_k».proof.Proof.Gen.KernelMod
public import proofs.«01_k».proof.Proof.Gen.KernelModIdeal
public import proofs.«01_k».proof.Proof.Gen.RefModIdeal
public import proofs.«01_k».proof.Proof.Gen.KernelFfd
public import proofs.«01_k».proof.Proof.Gen.KernelFfdIdeal
public import proofs.«01_k».proof.Proof.Gen.RefFfdIdeal
public import proofs.«01_k».proof.Proof.Gen.KernelWgt
public import proofs.«01_k».proof.Proof.Gen.KernelWgtIdeal
public import proofs.«01_k».proof.Proof.Gen.RefWgtIdeal
public import proofs.«01_k».proof.Proof.Gen.KernelWgm
public import proofs.«01_k».proof.Proof.Gen.KernelWgmIdeal
public import proofs.«01_k».proof.Proof.Gen.RefWgmIdeal
public import proofs.«01_k».proof.Proof.Gen.KernelTil
public import proofs.«01_k».proof.Proof.Gen.KernelTilIdeal
public import proofs.«01_k».proof.Proof.Gen.RefTilIdeal
public import proofs.«01_k».proof.Proof.Gen.KernelPrj
public import proofs.«01_k».proof.Proof.Gen.KernelPrjIdeal
public import proofs.«01_k».proof.Proof.Gen.RefPrjIdeal
public import proofs.«01_k».proof.Proof.Gen.KernelMds
public import proofs.«01_k».proof.Proof.Gen.KernelMdsIdeal
public import proofs.«01_k».proof.Proof.Gen.RefMdsIdeal
public import proofs.«01_k».proof.Proof.Gen.KernelOut
public import proofs.«01_k».proof.Proof.Gen.KernelOutIdeal
public import proofs.«01_k».proof.Proof.Gen.RefOutIdeal
public import proofs.«01_k».proof.Proof.Gen.KernelUpb
public import proofs.«01_k».proof.Proof.Gen.KernelUpbIdeal
public import proofs.«01_k».proof.Proof.Gen.RefUpbIdeal
public import proofs.«01_k».proof.Proof.Gen.KernelWtp
public import proofs.«01_k».proof.Proof.Gen.KernelWtpIdeal
public import proofs.«01_k».proof.Proof.Gen.RefWtpIdeal
public import proofs.«01_k».proof.Proof.Gen.KernelAdw
public import proofs.«01_k».proof.Proof.Gen.KernelAdwIdeal
public import proofs.«01_k».proof.Proof.Gen.RefAdwIdeal
public import proofs.«01_k».proof.Proof.Gen.KernelSum
public import proofs.«01_k».proof.Proof.Gen.KernelSumIdeal
public import proofs.«01_k».proof.Proof.Gen.RefSumIdeal
public import proofs.«01_k».proof.Proof.Gen.KernelAdl
public import proofs.«01_k».proof.Proof.Gen.KernelAdlIdeal
public import proofs.«01_k».proof.Proof.Gen.RefAdlIdeal
public import proofs.«01_k».proof.Proof.Gen.Pre_scores_finite
public import proofs.«01_k».proof.Proof.Gen.Pre_head_finite
public import proofs.«01_k».proof.Proof.Gen.Pre_mid_finite
public import proofs.«01_k».proof.Proof.Gen.Pre_queries_finite
public import proofs.«01_k».proof.Proof.Gen.KernelFirst.Frame
public import proofs.«01_k».proof.Proof.FirstClaim
public import proofs.«01_k».proof.Proof.Gen.KernelFirstIdeal.Value
public import proofs.«01_k».proof.Proof.Gen.RefFirstIdeal.Run
public import proofs.«01_k».proof.Proof.AttTwin
public import proofs.«01_k».proof.Proof.AttClaim
public import proofs.«01_k».proof.Proof.Gen.RefAttIdeal.Run
public import proofs.«01_k».proof.Proof.Gen.KernelEpi.Frame
public import proofs.«01_k».proof.Proof.EpiClaim
public import proofs.«01_k».proof.Proof.Gen.KernelEpiIdeal.Value
public import proofs.«01_k».proof.Proof.Gen.RefEpiIdeal.Run
public import proofs.«01_k».proof.Proof.Gen.KernelAda.Frame
public import proofs.«01_k».proof.Proof.AdaClaim
public import proofs.«01_k».proof.Proof.Gen.KernelAdaIdeal.Value
public import proofs.«01_k».proof.Proof.Gen.RefAdaIdeal.Run
public import proofs.«01_k».proof.Proof.Gen.KernelRel.Frame
public import proofs.«01_k».proof.Proof.RelClaim
public import proofs.«01_k».proof.Proof.Gen.KernelRelIdeal.Value
public import proofs.«01_k».proof.Proof.Gen.RefRelIdeal.Run
public import proofs.«01_k».proof.Proof.Gen.KernelHead.Frame
public import proofs.«01_k».proof.Proof.HeadClaim
public import proofs.«01_k».proof.Proof.Gen.KernelHeadIdeal.Value
public import proofs.«01_k».proof.Proof.Gen.RefHeadIdeal.Run
public import proofs.«01_k».proof.Proof.Gen.KernelMid.Frame
public import proofs.«01_k».proof.Proof.MidClaim
public import proofs.«01_k».proof.Proof.Gen.KernelMidIdeal.Value
public import proofs.«01_k».proof.Proof.Gen.RefMidIdeal.Run
public import proofs.«01_k».proof.Proof.Gen.KernelAtf.Frame
public import proofs.«01_k».proof.Proof.AtfClaim
public import proofs.«01_k».proof.Proof.Gen.KernelAtfIdeal.Value
public import proofs.«01_k».proof.Proof.Gen.RefAtfIdeal.Run
public import proofs.«01_k».proof.Proof.Gen.KernelLnf.Frame
public import proofs.«01_k».proof.Proof.LnfClaim
public import proofs.«01_k».proof.Proof.Gen.KernelLnfIdeal.Value
public import proofs.«01_k».proof.Proof.Gen.RefLnfIdeal.Run
public import proofs.«01_k».proof.Proof.Gen.KernelMod.Frame
public import proofs.«01_k».proof.Proof.ModClaim
public import proofs.«01_k».proof.Proof.Gen.KernelModIdeal.Value
public import proofs.«01_k».proof.Proof.Gen.RefModIdeal.Run
public import proofs.«01_k».proof.Proof.Gen.KernelFfd.Frame
public import proofs.«01_k».proof.Proof.FfdClaim
public import proofs.«01_k».proof.Proof.Gen.KernelFfdIdeal.Value
public import proofs.«01_k».proof.Proof.Gen.RefFfdIdeal.Run
public import proofs.«01_k».proof.Proof.Gen.KernelWgt.Frame
public import proofs.«01_k».proof.Proof.WgtClaim
public import proofs.«01_k».proof.Proof.Gen.KernelWgtIdeal.Value
public import proofs.«01_k».proof.Proof.Gen.RefWgtIdeal.Run
public import proofs.«01_k».proof.Proof.Gen.KernelWgm.Frame
public import proofs.«01_k».proof.Proof.WgmClaim
public import proofs.«01_k».proof.Proof.Gen.KernelWgmIdeal.Value
public import proofs.«01_k».proof.Proof.Gen.RefWgmIdeal.Run
public import proofs.«01_k».proof.Proof.Gen.KernelTil.Frame
public import proofs.«01_k».proof.Proof.TilClaim
public import proofs.«01_k».proof.Proof.Gen.KernelTilIdeal.Value
public import proofs.«01_k».proof.Proof.Gen.RefTilIdeal.Run
public import proofs.«01_k».proof.Proof.Gen.KernelPrj.Frame
public import proofs.«01_k».proof.Proof.PrjClaim
public import proofs.«01_k».proof.Proof.Gen.KernelPrjIdeal.Value
public import proofs.«01_k».proof.Proof.Gen.RefPrjIdeal.Run
public import proofs.«01_k».proof.Proof.Gen.KernelMds.Frame
public import proofs.«01_k».proof.Proof.MdsClaim
public import proofs.«01_k».proof.Proof.Gen.KernelMdsIdeal.Value
public import proofs.«01_k».proof.Proof.Gen.RefMdsIdeal.Run
public import proofs.«01_k».proof.Proof.Gen.KernelOut.Frame
public import proofs.«01_k».proof.Proof.OutClaim
public import proofs.«01_k».proof.Proof.Gen.KernelOutIdeal.Value
public import proofs.«01_k».proof.Proof.Gen.RefOutIdeal.Run
public import proofs.«01_k».proof.Proof.Gen.KernelUpb.Frame
public import proofs.«01_k».proof.Proof.UpbClaim
public import proofs.«01_k».proof.Proof.Gen.KernelUpbIdeal.Value
public import proofs.«01_k».proof.Proof.Gen.RefUpbIdeal.Run
public import proofs.«01_k».proof.Proof.Gen.KernelWtp.Frame
public import proofs.«01_k».proof.Proof.WtpClaim
public import proofs.«01_k».proof.Proof.Gen.KernelWtpIdeal.Value
public import proofs.«01_k».proof.Proof.Gen.RefWtpIdeal.Run
public import proofs.«01_k».proof.Proof.Gen.KernelAdw.Frame
public import proofs.«01_k».proof.Proof.AdwClaim
public import proofs.«01_k».proof.Proof.Gen.KernelAdwIdeal.Value
public import proofs.«01_k».proof.Proof.Gen.RefAdwIdeal.Run
public import proofs.«01_k».proof.Proof.Gen.KernelSum.Frame
public import proofs.«01_k».proof.Proof.SumClaim
public import proofs.«01_k».proof.Proof.Gen.KernelSumIdeal.Value
public import proofs.«01_k».proof.Proof.Gen.RefSumIdeal.Run
public import proofs.«01_k».proof.Proof.Gen.KernelAdl.Frame
public import proofs.«01_k».proof.Proof.AdlClaim
public import proofs.«01_k».proof.Proof.Gen.KernelAdlIdeal.Value
public import proofs.«01_k».proof.Proof.Gen.RefAdlIdeal.Run
public import proofs.«01_k».proof.Proof.Gen.RefFirstIdeal.Read
public import proofs.«01_k».proof.Proof.Gen.RefAttIdeal.Read
public import proofs.«01_k».proof.Proof.Gen.RefEpiIdeal.Read
public import proofs.«01_k».proof.Proof.Gen.RefAdaIdeal.Read
public import proofs.«01_k».proof.Proof.Gen.RefRelIdeal.Read
public import proofs.«01_k».proof.Proof.Gen.RefHeadIdeal.Read
public import proofs.«01_k».proof.Proof.Gen.RefMidIdeal.Read
public import proofs.«01_k».proof.Proof.Gen.RefAtfIdeal.Read
public import proofs.«01_k».proof.Proof.Gen.RefLnfIdeal.Read
public import proofs.«01_k».proof.Proof.Gen.RefModIdeal.Read
public import proofs.«01_k».proof.Proof.Gen.RefFfdIdeal.Read
public import proofs.«01_k».proof.Proof.Gen.RefWgtIdeal.Read
public import proofs.«01_k».proof.Proof.Gen.RefWgmIdeal.Read
public import proofs.«01_k».proof.Proof.Gen.RefTilIdeal.Read
public import proofs.«01_k».proof.Proof.Gen.RefPrjIdeal.Read
public import proofs.«01_k».proof.Proof.Gen.RefMdsIdeal.Read
public import proofs.«01_k».proof.Proof.Gen.RefOutIdeal.Read
public import proofs.«01_k».proof.Proof.Gen.RefUpbIdeal.Read
public import proofs.«01_k».proof.Proof.Gen.RefWtpIdeal.Read
public import proofs.«01_k».proof.Proof.Gen.RefAdwIdeal.Read
public import proofs.«01_k».proof.Proof.Gen.RefSumIdeal.Read
public import proofs.«01_k».proof.Proof.Gen.RefAdlIdeal.Read
public import Idealize.ShloMosaic.Adequacy
public import Idealize.ShloMosaic.Init

@[expose] public section

noncomputable section

namespace Cert.Proof

open Idealize.ShloMosaic Idealize.SL.Sem

theorem claim : Cert.Claim :=
  ⟨Cert.KernelFirst.Gen.facts,
   Cert.KernelFirstIdeal.Gen.facts,
   Cert.RefFirstIdeal.Gen.facts,
   Cert.KernelAtt.Gen.facts,
   Cert.KernelAttIdeal.Gen.facts,
   Cert.RefAttIdeal.Gen.facts,
   Cert.KernelEpi.Gen.facts,
   Cert.KernelEpiIdeal.Gen.facts,
   Cert.RefEpiIdeal.Gen.facts,
   Cert.KernelAda.Gen.facts,
   Cert.KernelAdaIdeal.Gen.facts,
   Cert.RefAdaIdeal.Gen.facts,
   Cert.KernelRel.Gen.facts,
   Cert.KernelRelIdeal.Gen.facts,
   Cert.RefRelIdeal.Gen.facts,
   Cert.KernelHead.Gen.facts,
   Cert.KernelHeadIdeal.Gen.facts,
   Cert.RefHeadIdeal.Gen.facts,
   Cert.KernelMid.Gen.facts,
   Cert.KernelMidIdeal.Gen.facts,
   Cert.RefMidIdeal.Gen.facts,
   Cert.KernelAtf.Gen.facts,
   Cert.KernelAtfIdeal.Gen.facts,
   Cert.RefAtfIdeal.Gen.facts,
   Cert.KernelLnf.Gen.facts,
   Cert.KernelLnfIdeal.Gen.facts,
   Cert.RefLnfIdeal.Gen.facts,
   Cert.KernelMod.Gen.facts,
   Cert.KernelModIdeal.Gen.facts,
   Cert.RefModIdeal.Gen.facts,
   Cert.KernelFfd.Gen.facts,
   Cert.KernelFfdIdeal.Gen.facts,
   Cert.RefFfdIdeal.Gen.facts,
   Cert.KernelWgt.Gen.facts,
   Cert.KernelWgtIdeal.Gen.facts,
   Cert.RefWgtIdeal.Gen.facts,
   Cert.KernelWgm.Gen.facts,
   Cert.KernelWgmIdeal.Gen.facts,
   Cert.RefWgmIdeal.Gen.facts,
   Cert.KernelTil.Gen.facts,
   Cert.KernelTilIdeal.Gen.facts,
   Cert.RefTilIdeal.Gen.facts,
   Cert.KernelPrj.Gen.facts,
   Cert.KernelPrjIdeal.Gen.facts,
   Cert.RefPrjIdeal.Gen.facts,
   Cert.KernelMds.Gen.facts,
   Cert.KernelMdsIdeal.Gen.facts,
   Cert.RefMdsIdeal.Gen.facts,
   Cert.KernelOut.Gen.facts,
   Cert.KernelOutIdeal.Gen.facts,
   Cert.RefOutIdeal.Gen.facts,
   Cert.KernelUpb.Gen.facts,
   Cert.KernelUpbIdeal.Gen.facts,
   Cert.RefUpbIdeal.Gen.facts,
   Cert.KernelWtp.Gen.facts,
   Cert.KernelWtpIdeal.Gen.facts,
   Cert.RefWtpIdeal.Gen.facts,
   Cert.KernelAdw.Gen.facts,
   Cert.KernelAdwIdeal.Gen.facts,
   Cert.RefAdwIdeal.Gen.facts,
   Cert.KernelSum.Gen.facts,
   Cert.KernelSumIdeal.Gen.facts,
   Cert.RefSumIdeal.Gen.facts,
   Cert.KernelAdl.Gen.facts,
   Cert.KernelAdlIdeal.Gen.facts,
   Cert.RefAdlIdeal.Gen.facts,
   Cert.Pre_scores_finite.Gen.facts,
   Cert.Pre_head_finite.Gen.facts,
   Cert.Pre_mid_finite.Gen.facts,
   Cert.Pre_queries_finite.Gen.facts,
   fun m ρ _ => Cert.KernelFirst.Gen.frame m ρ,
   fun m ρ _ => Cert.KernelFirstIdeal.Gen.frame m ρ,
   by intro m g _; run_from Cert.RefFirstIdeal.Value.run m g; all_goals first | exact sem_eq_zero_of_no_sems (sig := Cert.RefFirstIdeal.sig) (by decide) _ | simp,
   att_frame,
   fun m ρ _ => Cert.KernelAttIdeal.Frame.frame_att m ρ,
   fun m ρ _ => Cert.KernelAttIdeal.Frame.frame_att m ρ,
   by intro m g _; run_from Cert.RefAttIdeal.Value.run m g; all_goals first | exact sem_eq_zero_of_no_sems (sig := Cert.RefAttIdeal.sig) (by decide) _ | simp,
   by intro m g _; run_from Cert.RefAttIdeal.Value.run m g; all_goals first | exact sem_eq_zero_of_no_sems (sig := Cert.RefAttIdeal.sig) (by decide) _ | simp,
   fun m ρ _ => Cert.KernelEpi.Gen.frame m ρ,
   fun m ρ _ => Cert.KernelEpiIdeal.Gen.frame m ρ,
   by intro m g _; run_from Cert.RefEpiIdeal.Value.run m g; all_goals first | exact sem_eq_zero_of_no_sems (sig := Cert.RefEpiIdeal.sig) (by decide) _ | simp,
   fun m ρ _ => Cert.KernelAda.Gen.frame m ρ,
   fun m ρ _ => Cert.KernelAdaIdeal.Gen.frame m ρ,
   by intro m g _; run_from Cert.RefAdaIdeal.Value.run m g; all_goals first | exact sem_eq_zero_of_no_sems (sig := Cert.RefAdaIdeal.sig) (by decide) _ | simp,
   fun m ρ _ => Cert.KernelRel.Gen.frame m ρ,
   fun m ρ _ => Cert.KernelRelIdeal.Gen.frame m ρ,
   by intro m g _; run_from Cert.RefRelIdeal.Value.run m g; all_goals first | exact sem_eq_zero_of_no_sems (sig := Cert.RefRelIdeal.sig) (by decide) _ | simp,
   fun m ρ _ => Cert.KernelHead.Gen.frame m ρ,
   fun m ρ _ => Cert.KernelHeadIdeal.Gen.frame m ρ,
   fun m ρ _ => Cert.KernelHeadIdeal.Gen.frame m ρ,
   by intro m g _; run_from Cert.RefHeadIdeal.Value.run m g; all_goals first | exact sem_eq_zero_of_no_sems (sig := Cert.RefHeadIdeal.sig) (by decide) _ | simp,
   by intro m g _; run_from Cert.RefHeadIdeal.Value.run m g; all_goals first | exact sem_eq_zero_of_no_sems (sig := Cert.RefHeadIdeal.sig) (by decide) _ | simp,
   fun m ρ _ => Cert.KernelMid.Gen.frame m ρ,
   fun m ρ _ => Cert.KernelMidIdeal.Gen.frame m ρ,
   fun m ρ _ => Cert.KernelMidIdeal.Gen.frame m ρ,
   by intro m g _; run_from Cert.RefMidIdeal.Value.run m g; all_goals first | exact sem_eq_zero_of_no_sems (sig := Cert.RefMidIdeal.sig) (by decide) _ | simp,
   by intro m g _; run_from Cert.RefMidIdeal.Value.run m g; all_goals first | exact sem_eq_zero_of_no_sems (sig := Cert.RefMidIdeal.sig) (by decide) _ | simp,
   fun m ρ _ => Cert.KernelAtf.Gen.frame m ρ,
   fun m ρ _ => Cert.KernelAtfIdeal.Gen.frame m ρ,
   fun m ρ _ => Cert.KernelAtfIdeal.Gen.frame m ρ,
   by intro m g _; run_from Cert.RefAtfIdeal.Value.run m g; all_goals first | exact sem_eq_zero_of_no_sems (sig := Cert.RefAtfIdeal.sig) (by decide) _ | simp,
   by intro m g _; run_from Cert.RefAtfIdeal.Value.run m g; all_goals first | exact sem_eq_zero_of_no_sems (sig := Cert.RefAtfIdeal.sig) (by decide) _ | simp,
   fun m ρ _ => Cert.KernelLnf.Gen.frame m ρ,
   fun m ρ _ => Cert.KernelLnfIdeal.Gen.frame m ρ,
   by intro m g _; run_from Cert.RefLnfIdeal.Value.run m g; all_goals first | exact sem_eq_zero_of_no_sems (sig := Cert.RefLnfIdeal.sig) (by decide) _ | simp,
   fun m ρ _ => Cert.KernelMod.Gen.frame m ρ,
   fun m ρ _ => Cert.KernelModIdeal.Gen.frame m ρ,
   by intro m g _; run_from Cert.RefModIdeal.Value.run m g; all_goals first | exact sem_eq_zero_of_no_sems (sig := Cert.RefModIdeal.sig) (by decide) _ | simp,
   fun m ρ _ => Cert.KernelFfd.Gen.frame m ρ,
   fun m ρ _ => Cert.KernelFfdIdeal.Gen.frame m ρ,
   by intro m g _; run_from Cert.RefFfdIdeal.Value.run m g; all_goals first | exact sem_eq_zero_of_no_sems (sig := Cert.RefFfdIdeal.sig) (by decide) _ | simp,
   fun m ρ _ => Cert.KernelWgt.Gen.frame m ρ,
   fun m ρ _ => Cert.KernelWgtIdeal.Gen.frame m ρ,
   by intro m g _; run_from Cert.RefWgtIdeal.Value.run m g; all_goals first | exact sem_eq_zero_of_no_sems (sig := Cert.RefWgtIdeal.sig) (by decide) _ | simp,
   fun m ρ _ => Cert.KernelWgm.Gen.frame m ρ,
   fun m ρ _ => Cert.KernelWgmIdeal.Gen.frame m ρ,
   by intro m g _; run_from Cert.RefWgmIdeal.Value.run m g; all_goals first | exact sem_eq_zero_of_no_sems (sig := Cert.RefWgmIdeal.sig) (by decide) _ | simp,
   fun m ρ _ => Cert.KernelTil.Gen.frame m ρ,
   fun m ρ _ => Cert.KernelTilIdeal.Gen.frame m ρ,
   by intro m g _; run_from Cert.RefTilIdeal.Value.run m g; all_goals first | exact sem_eq_zero_of_no_sems (sig := Cert.RefTilIdeal.sig) (by decide) _ | simp,
   fun m ρ _ => Cert.KernelPrj.Gen.frame m ρ,
   fun m ρ _ => Cert.KernelPrjIdeal.Gen.frame m ρ,
   by intro m g _; run_from Cert.RefPrjIdeal.Value.run m g; all_goals first | exact sem_eq_zero_of_no_sems (sig := Cert.RefPrjIdeal.sig) (by decide) _ | simp,
   fun m ρ _ => Cert.KernelMds.Gen.frame m ρ,
   fun m ρ _ => Cert.KernelMdsIdeal.Gen.frame m ρ,
   by intro m g _; run_from Cert.RefMdsIdeal.Value.run m g; all_goals first | exact sem_eq_zero_of_no_sems (sig := Cert.RefMdsIdeal.sig) (by decide) _ | simp,
   fun m ρ _ => Cert.KernelOut.Gen.frame m ρ,
   fun m ρ _ => Cert.KernelOutIdeal.Gen.frame m ρ,
   by intro m g _; run_from Cert.RefOutIdeal.Value.run m g; all_goals first | exact sem_eq_zero_of_no_sems (sig := Cert.RefOutIdeal.sig) (by decide) _ | simp,
   fun m ρ _ => Cert.KernelUpb.Gen.frame m ρ,
   fun m ρ _ => Cert.KernelUpbIdeal.Gen.frame m ρ,
   by intro m g _; run_from Cert.RefUpbIdeal.Value.run m g; all_goals first | exact sem_eq_zero_of_no_sems (sig := Cert.RefUpbIdeal.sig) (by decide) _ | simp,
   fun m ρ _ => Cert.KernelWtp.Gen.frame m ρ,
   fun m ρ _ => Cert.KernelWtpIdeal.Gen.frame m ρ,
   by intro m g _; run_from Cert.RefWtpIdeal.Value.run m g; all_goals first | exact sem_eq_zero_of_no_sems (sig := Cert.RefWtpIdeal.sig) (by decide) _ | simp,
   fun m ρ _ => Cert.KernelAdw.Gen.frame m ρ,
   fun m ρ _ => Cert.KernelAdwIdeal.Gen.frame m ρ,
   by intro m g _; run_from Cert.RefAdwIdeal.Value.run m g; all_goals first | exact sem_eq_zero_of_no_sems (sig := Cert.RefAdwIdeal.sig) (by decide) _ | simp,
   fun m ρ _ => Cert.KernelSum.Gen.frame m ρ,
   fun m ρ _ => Cert.KernelSumIdeal.Gen.frame m ρ,
   by intro m g _; run_from Cert.RefSumIdeal.Value.run m g; all_goals first | exact sem_eq_zero_of_no_sems (sig := Cert.RefSumIdeal.sig) (by decide) _ | simp,
   fun m ρ _ => Cert.KernelAdl.Gen.frame m ρ,
   fun m ρ _ => Cert.KernelAdlIdeal.Gen.frame m ρ,
   by intro m g _; run_from Cert.RefAdlIdeal.Value.run m g; all_goals first | exact sem_eq_zero_of_no_sems (sig := Cert.RefAdlIdeal.sig) (by decide) _ | simp,
   trivial,
   first_value,
   att_preserves,
   att_value,
   trivial,
   epi_value,
   trivial,
   ada_value,
   trivial,
   rel_value,
   trivial,
   head_value,
   trivial,
   mid_value,
   atf_preserves,
   atf_value,
   trivial,
   lnf_value,
   trivial,
   mod_value,
   trivial,
   ffd_value,
   trivial,
   wgt_value,
   trivial,
   wgm_value,
   trivial,
   til_value,
   trivial,
   prj_value,
   trivial,
   mds_value,
   trivial,
   out_value,
   trivial,
   upb_value,
   trivial,
   wtp_value,
   trivial,
   adw_value,
   trivial,
   sum_value,
   trivial,
   adl_value⟩

end Cert.Proof

end
